-- ==== Defs.lean ====
def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite [hPre_finite : Cert.Pre_finite.Facts] (m : (ℓ : Loc Cert.MidIdeal.nD Cert.MidIdeal.τ Cert.MidIdeal.sig) → Buf (Elt Ideal) ℓ) : Prop :=
  ∀ c : Dev Cert.MidIdeal.nD,
    (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2.2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2.2.2.2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite [hPre_finite : Cert.Pre_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.2.2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.2.2.2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.2.2.2.2.2.1 = (fun _ => 1#1)
    ∧ (Cert.Pre_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9))).2.2.2.2.2.2.2.2.2 = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgIdeal_bounded [hPre_bounded : Cert.Pre_bounded.Facts] (m : (ℓ : Loc Cert.HgIdeal.nD Cert.HgIdeal.τ Cert.HgIdeal.sig) → Buf (Elt Ideal) ℓ) : Prop :=
  ∀ c : Dev Cert.HgIdeal.nD,
    (Cert.Pre_bounded.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1))).1 = (fun _ => 1#1)
    ∧ (Cert.Pre_bounded.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1))).2 = (fun _ => 1#1)

def Pre_HgRefIdeal (m : (ℓ : Loc Cert.HgRefIdeal.nD Cert.HgRefIdeal.τ Cert.HgRefIdeal.sig) → Buf (Elt Ideal) ℓ) : Prop :=
  True

def Pre_HgRefIdeal_bounded [hPre_bounded : Cert.Pre_bounded.Facts] (m : (ℓ : Loc Cert.HgRefIdeal.nD Cert.HgRefIdeal.τ Cert.HgRefIdeal.sig) → Buf (Elt Ideal) ℓ) : Prop :=
  ∀ c : Dev Cert.HgRefIdeal.nD,
    (Cert.Pre_bounded.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1))).1 = (fun _ => 1#1)
    ∧ (Cert.Pre_bounded.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1))).2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Wgt (m : (ℓ : Loc Cert.Wgt.nD Cert.Wgt.τ Cert.Wgt.sig) → Buf (Elt Bits) ℓ) : Prop :=
  True

def Pre_WgtIdeal (m : (ℓ : Loc Cert.WgtIdeal.nD Cert.WgtIdeal.τ Cert.WgtIdeal.sig) → Buf (Elt Ideal) ℓ) : Prop :=
  True

def Pre_WgtRefIdeal (m : (ℓ : Loc Cert.WgtRefIdeal.nD Cert.WgtRefIdeal.τ Cert.WgtRefIdeal.sig) → Buf (Elt Ideal) ℓ) : Prop :=
  True

def Pre_Wad (m : (ℓ : Loc Cert.Wad.nD Cert.Wad.τ Cert.Wad.sig) → Buf (Elt Bits) ℓ) : Prop :=
  True

def Pre_WadIdeal (m : (ℓ : Loc Cert.WadIdeal.nD Cert.WadIdeal.τ Cert.WadIdeal.sig) → Buf (Elt Ideal) ℓ) : Prop :=
  True

def Pre_WadIdeal_reals [hPre_reals : Cert.Pre_reals.Facts] (m : (ℓ : Loc Cert.WadIdeal.nD Cert.WadIdeal.τ Cert.WadIdeal.sig) → Buf (Elt Ideal) ℓ) : Prop :=
  ∀ c : Dev Cert.WadIdeal.nD,
    (Cert.Pre_reals.fn (F := Ideal) (m ((c.tc : Thread Cert.WadIdeal.nD Cert.WadIdeal.τ).loc Cert.WadIdeal.main_arg0)) (m ((c.tc : Thread Cert.WadIdeal.nD Cert.WadIdeal.τ).loc Cert.WadIdeal.main_arg1)) (m ((c.tc : Thread Cert.WadIdeal.nD Cert.WadIdeal.τ).loc Cert.WadIdeal.main_arg2)) (m ((c.tc : Thread Cert.WadIdeal.nD Cert.WadIdeal.τ).loc Cert.WadIdeal.main_arg3)) (m ((c.tc : Thread Cert.WadIdeal.nD Cert.WadIdeal.τ).loc Cert.WadIdeal.main_arg4))).1 = (fun _ => 1#1)
    ∧ (Cert.Pre_reals.fn (F := Ideal) (m ((c.tc : Thread Cert.WadIdeal.nD Cert.WadIdeal.τ).loc Cert.WadIdeal.main_arg0)) (m ((c.tc : Thread Cert.WadIdeal.nD Cert.WadIdeal.τ).loc Cert.WadIdeal.main_arg1)) (m ((c.tc : Thread Cert.WadIdeal.nD Cert.WadIdeal.τ).loc Cert.WadIdeal.main_arg2)) (m ((c.tc : Thread Cert.WadIdeal.nD Cert.WadIdeal.τ).loc Cert.WadIdeal.main_arg3)) (m ((c.tc : Thread Cert.WadIdeal.nD Cert.WadIdeal.τ).loc Cert.WadIdeal.main_arg4))).2 = (fun _ => 1#1)

def Pre_WadRefIdeal (m : (ℓ : Loc Cert.WadRefIdeal.nD Cert.WadRefIdeal.τ Cert.WadRefIdeal.sig) → Buf (Elt Ideal) ℓ) : Prop :=
  True

def Pre_WadRefIdeal_reals [hPre_reals : Cert.Pre_reals.Facts] (m : (ℓ : Loc Cert.WadRefIdeal.nD Cert.WadRefIdeal.τ Cert.WadRefIdeal.sig) → Buf (Elt Ideal) ℓ) : Prop :=
  ∀ c : Dev Cert.WadRefIdeal.nD,
    (Cert.Pre_reals.fn (F := Ideal) (m ((c.tc : Thread Cert.WadRefIdeal.nD Cert.WadRefIdeal.τ).loc Cert.WadRefIdeal.main_arg0)) (m ((c.tc : Thread Cert.WadRefIdeal.nD Cert.WadRefIdeal.τ).loc Cert.WadRefIdeal.main_arg1)) (m ((c.tc : Thread Cert.WadRefIdeal.nD Cert.WadRefIdeal.τ).loc Cert.WadRefIdeal.main_arg2)) (m ((c.tc : Thread Cert.WadRefIdeal.nD Cert.WadRefIdeal.τ).loc Cert.WadRefIdeal.main_arg3)) (m ((c.tc : Thread Cert.WadRefIdeal.nD Cert.WadRefIdeal.τ).loc Cert.WadRefIdeal.main_arg4))).1 = (fun _ => 1#1)
    ∧ (Cert.Pre_reals.fn (F := Ideal) (m ((c.tc : Thread Cert.WadRefIdeal.nD Cert.WadRefIdeal.τ).loc Cert.WadRefIdeal.main_arg0)) (m ((c.tc : Thread Cert.WadRefIdeal.nD Cert.WadRefIdeal.τ).loc Cert.WadRefIdeal.main_arg1)) (m ((c.tc : Thread Cert.WadRefIdeal.nD Cert.WadRefIdeal.τ).loc Cert.WadRefIdeal.main_arg2)) (m ((c.tc : Thread Cert.WadRefIdeal.nD Cert.WadRefIdeal.τ).loc Cert.WadRefIdeal.main_arg3)) (m ((c.tc : Thread Cert.WadRefIdeal.nD Cert.WadRefIdeal.τ).loc Cert.WadRefIdeal.main_arg4))).2 = (fun _ => 1#1)

def Pre_Shd (m : (ℓ : Loc Cert.Shd.nD Cert.Shd.τ Cert.Shd.sig) → Buf (Elt Bits) ℓ) : Prop :=
  True

def Pre_ShdIdeal (m : (ℓ : Loc Cert.ShdIdeal.nD Cert.ShdIdeal.τ Cert.ShdIdeal.sig) → Buf (Elt Ideal) ℓ) : Prop :=
  True

def Pre_ShdRefIdeal (m : (ℓ : Loc Cert.ShdRefIdeal.nD Cert.ShdRefIdeal.τ Cert.ShdRefIdeal.sig) → Buf (Elt Ideal) ℓ) : Prop :=
  True

def Pre_RetB (m : (ℓ : Loc Cert.RetB.nD Cert.RetB.τ Cert.RetB.sig) → Buf (Elt Bits) ℓ) : Prop :=
  True

def Pre_RetBIdeal (m : (ℓ : Loc Cert.RetBIdeal.nD Cert.RetBIdeal.τ Cert.RetBIdeal.sig) → Buf (Elt Ideal) ℓ) : Prop :=
  True

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidIdeal_pre_finite [hMidIdeal : Cert.MidIdeal.Facts] [hPre_finite : Cert.Pre_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9))
      ∧ r.2.sem = fun _ => 0)

def quiescent_MidRefIdeal_pre_finite [hMidRefIdeal : Cert.MidRefIdeal.Facts] [hPre_finite : Cert.Pre_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ r.2.sem = fun _ => 0)

def quiescent_HgIdeal_pre_bounded [hHgIdeal : Cert.HgIdeal.Facts] [hPre_bounded : Cert.Pre_bounded.Facts] : Prop :=
  ∀ (m : (ℓ : Loc Cert.HgIdeal.nD Cert.HgIdeal.τ Cert.HgIdeal.sig) → Buf (Elt Ideal) ℓ) (g : Dev Cert.HgIdeal.nD → PrngReg), Pre_HgIdeal_bounded m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1))
      ∧ r.2.sem = fun _ => 0)

def quiescent_HgRefIdeal_pre_bounded [hHgRefIdeal : Cert.HgRefIdeal.Facts] [hPre_bounded : Cert.Pre_bounded.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal_bounded m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Wgt [hWgt : Cert.Wgt.Facts] : Prop :=
  ∀ (m : (ℓ : Loc Cert.Wgt.nD Cert.Wgt.τ Cert.Wgt.sig) → Buf (Elt Bits) ℓ) (g : Dev Cert.Wgt.nD → PrngReg), Pre_Wgt m →
    θ_run (Cert.Wgt.defs (F := Bits)) (onTc (τ := Cert.Wgt.τ) (Cert.Wgt.main (F := Bits))) ⟨m, fun _ => 0, g⟩ (fun r => (∀ c : Dev Cert.Wgt.nD,
      r.2.mem ((c.tc : Thread Cert.Wgt.nD Cert.Wgt.τ).loc Cert.Wgt.main_arg0) = m ((c.tc : Thread Cert.Wgt.nD Cert.Wgt.τ).loc Cert.Wgt.main_arg0)
      ∧ r.2.mem ((c.tc : Thread Cert.Wgt.nD Cert.Wgt.τ).loc Cert.Wgt.main_arg1) = m ((c.tc : Thread Cert.Wgt.nD Cert.Wgt.τ).loc Cert.Wgt.main_arg1)
      ∧ r.2.mem ((c.tc : Thread Cert.Wgt.nD Cert.Wgt.τ).loc Cert.Wgt.main_arg2) = m ((c.tc : Thread Cert.Wgt.nD Cert.Wgt.τ).loc Cert.Wgt.main_arg2)
      ∧ r.2.mem ((c.tc : Thread Cert.Wgt.nD Cert.Wgt.τ).loc Cert.Wgt.main_arg3) = m ((c.tc : Thread Cert.Wgt.nD Cert.Wgt.τ).loc Cert.Wgt.main_arg3)
      ∧ r.2.mem ((c.tc : Thread Cert.Wgt.nD Cert.Wgt.τ).loc Cert.Wgt.main_arg4) = m ((c.tc : Thread Cert.Wgt.nD Cert.Wgt.τ).loc Cert.Wgt.main_arg4)
      ∧ r.2.mem ((c.tc : Thread Cert.Wgt.nD Cert.Wgt.τ).loc Cert.Wgt.main_arg5) = m ((c.tc : Thread Cert.Wgt.nD Cert.Wgt.τ).loc Cert.Wgt.main_arg5))
      ∧ r.2.sem = fun _ => 0)

def quiescent_WgtIdeal [hWgtIdeal : Cert.WgtIdeal.Facts] : Prop :=
  ∀ (m : (ℓ : Loc Cert.WgtIdeal.nD Cert.WgtIdeal.τ Cert.WgtIdeal.sig) → Buf (Elt Ideal) ℓ) (g : Dev Cert.WgtIdeal.nD → PrngReg), Pre_WgtIdeal m →
    θ_run (Cert.WgtIdeal.defs (F := Ideal)) (onTc (τ := Cert.WgtIdeal.τ) (Cert.WgtIdeal.main (F := Ideal))) ⟨m, fun _ => 0, g⟩ (fun r => (∀ c : Dev Cert.WgtIdeal.nD,
      r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
      ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1)
      ∧ r.2.mem ((c.tc : Thread Cert.WgtIdeal.nD Cert.WgtIdeal.τ).loc Cert.WgtIdeal.main_arg2) = m ((c.tc : Thread Cert.WgtIdeal.nD Cert.WgtIdeal.τ).loc Cert.WgtIdeal.main_arg2)
      ∧ r.2.mem ((c.tc : Thread Cert.WgtIdeal.nD Cert.WgtIdeal.τ).loc Cert.WgtIdeal.main_arg3) = m ((c.tc : Thread Cert.WgtIdeal.nD Cert.WgtIdeal.τ).loc Cert.WgtIdeal.main_arg3)
      ∧ r.2.mem ((c.tc : Thread Cert.WgtIdeal.nD Cert.WgtIdeal.τ).loc Cert.WgtIdeal.main_arg4) = m ((c.tc : Thread Cert.WgtIdeal.nD Cert.WgtIdeal.τ).loc Cert.WgtIdeal.main_arg4)
      ∧ r.2.mem ((c.tc : Thread Cert.WgtIdeal.nD Cert.WgtIdeal.τ).loc Cert.WgtIdeal.main_arg5) = m ((c.tc : Thread Cert.WgtIdeal.nD Cert.WgtIdeal.τ).loc Cert.WgtIdeal.main_arg5))
      ∧ r.2.sem = fun _ => 0)

def quiescent_WgtRefIdeal [hWgtRefIdeal : Cert.WgtRefIdeal.Facts] : Prop :=
  ∀ (m : (ℓ : Loc Cert.WgtRefIdeal.nD Cert.WgtRefIdeal.τ Cert.WgtRefIdeal.sig) → Buf (Elt Ideal) ℓ) (g : Dev Cert.WgtRefIdeal.nD → PrngReg), Pre_WgtRefIdeal m →
    θ_run (Cert.WgtRefIdeal.defs (F := Ideal)) (onTc (τ := Cert.WgtRefIdeal.τ) (Cert.WgtRefIdeal.main (F := Ideal))) ⟨m, fun _ => 0, g⟩ (fun r => (∀ c : Dev Cert.WgtRefIdeal.nD,
      r.2.mem ((c.tc : Thread Cert.WgtRefIdeal.nD Cert.WgtRefIdeal.τ).loc Cert.WgtRefIdeal.main_arg0) = m ((c.tc : Thread Cert.WgtRefIdeal.nD Cert.WgtRefIdeal.τ).loc Cert.WgtRefIdeal.main_arg0)
      ∧ r.2.mem ((c.tc : Thread Cert.WgtRefIdeal.nD Cert.WgtRefIdeal.τ).loc Cert.WgtRefIdeal.main_arg1) = m ((c.tc : Thread Cert.WgtRefIdeal.nD Cert.WgtRefIdeal.τ).loc Cert.WgtRefIdeal.main_arg1)
      ∧ r.2.mem ((c.tc : Thread Cert.WgtRefIdeal.nD Cert.WgtRefIdeal.τ).loc Cert.WgtRefIdeal.main_arg2) = m ((c.tc : Thread Cert.WgtRefIdeal.nD Cert.WgtRefIdeal.τ).loc Cert.WgtRefIdeal.main_arg2)
      ∧ r.2.mem ((c.tc : Thread Cert.WgtRefIdeal.nD Cert.WgtRefIdeal.τ).loc Cert.WgtRefIdeal.main_arg3) = m ((c.tc : Thread Cert.WgtRefIdeal.nD Cert.WgtRefIdeal.τ).loc Cert.WgtRefIdeal.main_arg3)
      ∧ r.2.mem ((c.tc : Thread Cert.WgtRefIdeal.nD Cert.WgtRefIdeal.τ).loc Cert.WgtRefIdeal.main_arg4) = m ((c.tc : Thread Cert.WgtRefIdeal.nD Cert.WgtRefIdeal.τ).loc Cert.WgtRefIdeal.main_arg4)
      ∧ r.2.mem ((c.tc : Thread Cert.WgtRefIdeal.nD Cert.WgtRefIdeal.τ).loc Cert.WgtRefIdeal.main_arg5) = m ((c.tc : Thread Cert.WgtRefIdeal.nD Cert.WgtRefIdeal.τ).loc Cert.WgtRefIdeal.main_arg5))
      ∧ r.2.sem = fun _ => 0)

def quiescent_Wad [hWad : Cert.Wad.Facts] : Prop :=
  ∀ (m : (ℓ : Loc Cert.Wad.nD Cert.Wad.τ Cert.Wad.sig) → Buf (Elt Bits) ℓ) (g : Dev Cert.Wad.nD → PrngReg), Pre_Wad m →
    θ_run (Cert.Wad.defs (F := Bits)) (onTc (τ := Cert.Wad.τ) (Cert.Wad.main (F := Bits))) ⟨m, fun _ => 0, g⟩ (fun r => (∀ c : Dev Cert.Wad.nD,
      r.2.mem ((c.tc : Thread Cert.Wad.nD Cert.Wad.τ).loc Cert.Wad.main_arg0) = m ((c.tc : Thread Cert.Wad.nD Cert.Wad.τ).loc Cert.Wad.main_arg0)
      ∧ r.2.mem ((c.tc : Thread Cert.Wad.nD Cert.Wad.τ).loc Cert.Wad.main_arg1) = m ((c.tc : Thread Cert.Wad.nD Cert.Wad.τ).loc Cert.Wad.main_arg1)
      ∧ r.2.mem ((c.tc : Thread Cert.Wad.nD Cert.Wad.τ).loc Cert.Wad.main_arg2) = m ((c.tc : Thread Cert.Wad.nD Cert.Wad.τ).loc Cert.Wad.main_arg2)
      ∧ r.2.mem ((c.tc : Thread Cert.Wad.nD Cert.Wad.τ).loc Cert.Wad.main_arg3) = m ((c.tc : Thread Cert.Wad.nD Cert.Wad.τ).loc Cert.Wad.main_arg3)
      ∧ r.2.mem ((c.tc : Thread Cert.Wad.nD Cert.Wad.τ).loc Cert.Wad.main_arg4) = m ((c.tc : Thread Cert.Wad.nD Cert.Wad.τ).loc Cert.Wad.main_arg4))
      ∧ r.2.sem = fun _ => 0)

def quiescent_WadIdeal [hWadIdeal : Cert.WadIdeal.Facts] : Prop :=
  ∀ (m : (ℓ : Loc Cert.WadIdeal.nD Cert.WadIdeal.τ Cert.WadIdeal.sig) → Buf (Elt Ideal) ℓ) (g : Dev Cert.WadIdeal.nD → PrngReg), Pre_WadIdeal m →
    θ_run (Cert.WadIdeal.defs (F := Ideal)) (onTc (τ := Cert.WadIdeal.τ) (Cert.WadIdeal.main (F := Ideal))) ⟨m, fun _ => 0, g⟩ (fun r => (∀ c : Dev Cert.WadIdeal.nD,
      r.2.mem ((c.tc : Thread Cert.WadIdeal.nD Cert.WadIdeal.τ).loc Cert.WadIdeal.main_arg0) = m ((c.tc : Thread Cert.WadIdeal.nD Cert.WadIdeal.τ).loc Cert.WadIdeal.main_arg0)
      ∧ r.2.mem ((c.tc : Thread Cert.WadIdeal.nD Cert.WadIdeal.τ).loc Cert.WadIdeal.main_arg1) = m ((c.tc : Thread Cert.WadIdeal.nD Cert.WadIdeal.τ).loc Cert.WadIdeal.main_arg1)
      ∧ r.2.mem ((c.tc : Thread Cert.WadIdeal.nD Cert.WadIdeal.τ).loc Cert.WadIdeal.main_arg2) = m ((c.tc : Thread Cert.WadIdeal.nD Cert.WadIdeal.τ).loc Cert.WadIdeal.main_arg2)
      ∧ r.2.mem ((c.tc : Thread Cert.WadIdeal.nD Cert.WadIdeal.τ).loc Cert.WadIdeal.main_arg3) = m ((c.tc : Thread Cert.WadIdeal.nD Cert.WadIdeal.τ).loc Cert.WadIdeal.main_arg3)
      ∧ r.2.mem ((c.tc : Thread Cert.WadIdeal.nD Cert.WadIdeal.τ).loc Cert.WadIdeal.main_arg4) = m ((c.tc : Thread Cert.WadIdeal.nD Cert.WadIdeal.τ).loc Cert.WadIdeal.main_arg4))
      ∧ r.2.sem = fun _ => 0)

def quiescent_WadIdeal_pre_reals [hWadIdeal : Cert.WadIdeal.Facts] [hPre_reals : Cert.Pre_reals.Facts] : Prop :=
  ∀ (m : (ℓ : Loc Cert.WadIdeal.nD Cert.WadIdeal.τ Cert.WadIdeal.sig) → Buf (Elt Ideal) ℓ) (g : Dev Cert.WadIdeal.nD → PrngReg), Pre_WadIdeal_reals m →
    θ_run (Cert.WadIdeal.defs (F := Ideal)) (onTc (τ := Cert.WadIdeal.τ) (Cert.WadIdeal.main (F := Ideal))) ⟨m, fun _ => 0, g⟩ (fun r => (∀ c : Dev Cert.WadIdeal.nD,
      r.2.mem ((c.tc : Thread Cert.WadIdeal.nD Cert.WadIdeal.τ).loc Cert.WadIdeal.main_arg0) = m ((c.tc : Thread Cert.WadIdeal.nD Cert.WadIdeal.τ).loc Cert.WadIdeal.main_arg0)
      ∧ r.2.mem ((c.tc : Thread Cert.WadIdeal.nD Cert.WadIdeal.τ).loc Cert.WadIdeal.main_arg1) = m ((c.tc : Thread Cert.WadIdeal.nD Cert.WadIdeal.τ).loc Cert.WadIdeal.main_arg1)
      ∧ r.2.mem ((c.tc : Thread Cert.WadIdeal.nD Cert.WadIdeal.τ).loc Cert.WadIdeal.main_arg2) = m ((c.tc : Thread Cert.WadIdeal.nD Cert.WadIdeal.τ).loc Cert.WadIdeal.main_arg2)
      ∧ r.2.mem ((c.tc : Thread Cert.WadIdeal.nD Cert.WadIdeal.τ).loc Cert.WadIdeal.main_arg3) = m ((c.tc : Thread Cert.WadIdeal.nD Cert.WadIdeal.τ).loc Cert.WadIdeal.main_arg3)
      ∧ r.2.mem ((c.tc : Thread Cert.WadIdeal.nD Cert.WadIdeal.τ).loc Cert.WadIdeal.main_arg4) = m ((c.tc : Thread Cert.WadIdeal.nD Cert.WadIdeal.τ).loc Cert.WadIdeal.main_arg4))
      ∧ r.2.sem = fun _ => 0)

def quiescent_WadRefIdeal [hWadRefIdeal : Cert.WadRefIdeal.Facts] : Prop :=
  ∀ (m : (ℓ : Loc Cert.WadRefIdeal.nD Cert.WadRefIdeal.τ Cert.WadRefIdeal.sig) → Buf (Elt Ideal) ℓ) (g : Dev Cert.WadRefIdeal.nD → PrngReg), Pre_WadRefIdeal m →
    θ_run (Cert.WadRefIdeal.defs (F := Ideal)) (onTc (τ := Cert.WadRefIdeal.τ) (Cert.WadRefIdeal.main (F := Ideal))) ⟨m, fun _ => 0, g⟩ (fun r => (∀ c : Dev Cert.WadRefIdeal.nD,
      r.2.mem ((c.tc : Thread Cert.WadRefIdeal.nD Cert.WadRefIdeal.τ).loc Cert.WadRefIdeal.main_arg0) = m ((c.tc : Thread Cert.WadRefIdeal.nD Cert.WadRefIdeal.τ).loc Cert.WadRefIdeal.main_arg0)
      ∧ r.2.mem ((c.tc : Thread Cert.WadRefIdeal.nD Cert.WadRefIdeal.τ).loc Cert.WadRefIdeal.main_arg1) = m ((c.tc : Thread Cert.WadRefIdeal.nD Cert.WadRefIdeal.τ).loc Cert.WadRefIdeal.main_arg1)
      ∧ r.2.mem ((c.tc : Thread Cert.WadRefIdeal.nD Cert.WadRefIdeal.τ).loc Cert.WadRefIdeal.main_arg2) = m ((c.tc : Thread Cert.WadRefIdeal.nD Cert.WadRefIdeal.τ).loc Cert.WadRefIdeal.main_arg2)
      ∧ r.2.mem ((c.tc : Thread Cert.WadRefIdeal.nD Cert.WadRefIdeal.τ).loc Cert.WadRefIdeal.main_arg3) = m ((c.tc : Thread Cert.WadRefIdeal.nD Cert.WadRefIdeal.τ).loc Cert.WadRefIdeal.main_arg3)
      ∧ r.2.mem ((c.tc : Thread Cert.WadRefIdeal.nD Cert.WadRefIdeal.τ).loc Cert.WadRefIdeal.main_arg4) = m ((c.tc : Thread Cert.WadRefIdeal.nD Cert.WadRefIdeal.τ).loc Cert.WadRefIdeal.main_arg4))
      ∧ r.2.sem = fun _ => 0)

def quiescent_WadRefIdeal_pre_reals [hWadRefIdeal : Cert.WadRefIdeal.Facts] [hPre_reals : Cert.Pre_reals.Facts] : Prop :=
  ∀ (m : (ℓ : Loc Cert.WadRefIdeal.nD Cert.WadRefIdeal.τ Cert.WadRefIdeal.sig) → Buf (Elt Ideal) ℓ) (g : Dev Cert.WadRefIdeal.nD → PrngReg), Pre_WadRefIdeal_reals m →
    θ_run (Cert.WadRefIdeal.defs (F := Ideal)) (onTc (τ := Cert.WadRefIdeal.τ) (Cert.WadRefIdeal.main (F := Ideal))) ⟨m, fun _ => 0, g⟩ (fun r => (∀ c : Dev Cert.WadRefIdeal.nD,
      r.2.mem ((c.tc : Thread Cert.WadRefIdeal.nD Cert.WadRefIdeal.τ).loc Cert.WadRefIdeal.main_arg0) = m ((c.tc : Thread Cert.WadRefIdeal.nD Cert.WadRefIdeal.τ).loc Cert.WadRefIdeal.main_arg0)
      ∧ r.2.mem ((c.tc : Thread Cert.WadRefIdeal.nD Cert.WadRefIdeal.τ).loc Cert.WadRefIdeal.main_arg1) = m ((c.tc : Thread Cert.WadRefIdeal.nD Cert.WadRefIdeal.τ).loc Cert.WadRefIdeal.main_arg1)
      ∧ r.2.mem ((c.tc : Thread Cert.WadRefIdeal.nD Cert.WadRefIdeal.τ).loc Cert.WadRefIdeal.main_arg2) = m ((c.tc : Thread Cert.WadRefIdeal.nD Cert.WadRefIdeal.τ).loc Cert.WadRefIdeal.main_arg2)
      ∧ r.2.mem ((c.tc : Thread Cert.WadRefIdeal.nD Cert.WadRefIdeal.τ).loc Cert.WadRefIdeal.main_arg3) = m ((c.tc : Thread Cert.WadRefIdeal.nD Cert.WadRefIdeal.τ).loc Cert.WadRefIdeal.main_arg3)
      ∧ r.2.mem ((c.tc : Thread Cert.WadRefIdeal.nD Cert.WadRefIdeal.τ).loc Cert.WadRefIdeal.main_arg4) = m ((c.tc : Thread Cert.WadRefIdeal.nD Cert.WadRefIdeal.τ).loc Cert.WadRefIdeal.main_arg4))
      ∧ r.2.sem = fun _ => 0)

def quiescent_Shd [hShd : Cert.Shd.Facts] : Prop :=
  ∀ (m : (ℓ : Loc Cert.Shd.nD Cert.Shd.τ Cert.Shd.sig) → Buf (Elt Bits) ℓ) (g : Dev Cert.Shd.nD → PrngReg), Pre_Shd m →
    θ_run (Cert.Shd.defs (F := Bits)) (onTc (τ := Cert.Shd.τ) (Cert.Shd.main (F := Bits))) ⟨m, fun _ => 0, g⟩ (fun r => (∀ c : Dev Cert.Shd.nD,
      r.2.mem ((c.tc : Thread Cert.Shd.nD Cert.Shd.τ).loc Cert.Shd.main_arg0) = m ((c.tc : Thread Cert.Shd.nD Cert.Shd.τ).loc Cert.Shd.main_arg0)
      ∧ r.2.mem ((c.tc : Thread Cert.Shd.nD Cert.Shd.τ).loc Cert.Shd.main_arg1) = m ((c.tc : Thread Cert.Shd.nD Cert.Shd.τ).loc Cert.Shd.main_arg1)
      ∧ r.2.mem ((c.tc : Thread Cert.Shd.nD Cert.Shd.τ).loc Cert.Shd.main_arg2) = m ((c.tc : Thread Cert.Shd.nD Cert.Shd.τ).loc Cert.Shd.main_arg2)
      ∧ r.2.mem ((c.tc : Thread Cert.Shd.nD Cert.Shd.τ).loc Cert.Shd.main_arg3) = m ((c.tc : Thread Cert.Shd.nD Cert.Shd.τ).loc Cert.Shd.main_arg3))
      ∧ r.2.sem = fun _ => 0)

def quiescent_ShdIdeal [hShdIdeal : Cert.ShdIdeal.Facts] : Prop :=
  ∀ (m : (ℓ : Loc Cert.ShdIdeal.nD Cert.ShdIdeal.τ Cert.ShdIdeal.sig) → Buf (Elt Ideal) ℓ) (g : Dev Cert.ShdIdeal.nD → PrngReg), Pre_ShdIdeal m →
    θ_run (Cert.ShdIdeal.defs (F := Ideal)) (onTc (τ := Cert.ShdIdeal.τ) (Cert.ShdIdeal.main (F := Ideal))) ⟨m, fun _ => 0, g⟩ (fun r => (∀ c : Dev Cert.ShdIdeal.nD,
      r.2.mem ((c.tc : Thread Cert.ShdIdeal.nD Cert.ShdIdeal.τ).loc Cert.ShdIdeal.main_arg0) = m ((c.tc : Thread Cert.ShdIdeal.nD Cert.ShdIdeal.τ).loc Cert.ShdIdeal.main_arg0)
      ∧ r.2.mem ((c.tc : Thread Cert.ShdIdeal.nD Cert.ShdIdeal.τ).loc Cert.ShdIdeal.main_arg1) = m ((c.tc : Thread Cert.ShdIdeal.nD Cert.ShdIdeal.τ).loc Cert.ShdIdeal.main_arg1)
      ∧ r.2.mem ((c.tc : Thread Cert.ShdIdeal.nD Cert.ShdIdeal.τ).loc Cert.ShdIdeal.main_arg2) = m ((c.tc : Thread Cert.ShdIdeal.nD Cert.ShdIdeal.τ).loc Cert.ShdIdeal.main_arg2)
      ∧ r.2.mem ((c.tc : Thread Cert.ShdIdeal.nD Cert.ShdIdeal.τ).loc Cert.ShdIdeal.main_arg3) = m ((c.tc : Thread Cert.ShdIdeal.nD Cert.ShdIdeal.τ).loc Cert.ShdIdeal.main_arg3))
      ∧ r.2.sem = fun _ => 0)

def quiescent_ShdRefIdeal [hShdRefIdeal : Cert.ShdRefIdeal.Facts] : Prop :=
  ∀ (m : (ℓ : Loc Cert.ShdRefIdeal.nD Cert.ShdRefIdeal.τ Cert.ShdRefIdeal.sig) → Buf (Elt Ideal) ℓ) (g : Dev Cert.ShdRefIdeal.nD → PrngReg), Pre_ShdRefIdeal m →
    θ_run (Cert.ShdRefIdeal.defs (F := Ideal)) (onTc (τ := Cert.ShdRefIdeal.τ) (Cert.ShdRefIdeal.main (F := Ideal))) ⟨m, fun _ => 0, g⟩ (fun r => (∀ c : Dev Cert.ShdRefIdeal.nD,
      r.2.mem ((c.tc : Thread Cert.ShdRefIdeal.nD Cert.ShdRefIdeal.τ).loc Cert.ShdRefIdeal.main_arg0) = m ((c.tc : Thread Cert.ShdRefIdeal.nD Cert.ShdRefIdeal.τ).loc Cert.ShdRefIdeal.main_arg0)
      ∧ r.2.mem ((c.tc : Thread Cert.ShdRefIdeal.nD Cert.ShdRefIdeal.τ).loc Cert.ShdRefIdeal.main_arg1) = m ((c.tc : Thread Cert.ShdRefIdeal.nD Cert.ShdRefIdeal.τ).loc Cert.ShdRefIdeal.main_arg1)
      ∧ r.2.mem ((c.tc : Thread Cert.ShdRefIdeal.nD Cert.ShdRefIdeal.τ).loc Cert.ShdRefIdeal.main_arg2) = m ((c.tc : Thread Cert.ShdRefIdeal.nD Cert.ShdRefIdeal.τ).loc Cert.ShdRefIdeal.main_arg2)
      ∧ r.2.mem ((c.tc : Thread Cert.ShdRefIdeal.nD Cert.ShdRefIdeal.τ).loc Cert.ShdRefIdeal.main_arg3) = m ((c.tc : Thread Cert.ShdRefIdeal.nD Cert.ShdRefIdeal.τ).loc Cert.ShdRefIdeal.main_arg3))
      ∧ r.2.sem = fun _ => 0)

def quiescent_RetB [hRetB : Cert.RetB.Facts] : Prop :=
  ∀ (m : (ℓ : Loc Cert.RetB.nD Cert.RetB.τ Cert.RetB.sig) → Buf (Elt Bits) ℓ) (g : Dev Cert.RetB.nD → PrngReg), Pre_RetB m →
    θ_run (Cert.RetB.defs (F := Bits)) (onTc (τ := Cert.RetB.τ) (Cert.RetB.main (F := Bits))) ⟨m, fun _ => 0, g⟩ (fun r => (∀ c : Dev Cert.RetB.nD,
      r.2.mem ((c.tc : Thread Cert.RetB.nD Cert.RetB.τ).loc Cert.RetB.main_arg0) = m ((c.tc : Thread Cert.RetB.nD Cert.RetB.τ).loc Cert.RetB.main_arg0)
      ∧ r.2.mem ((c.tc : Thread Cert.RetB.nD Cert.RetB.τ).loc Cert.RetB.main_arg1) = m ((c.tc : Thread Cert.RetB.nD Cert.RetB.τ).loc Cert.RetB.main_arg1)
      ∧ r.2.mem ((c.tc : Thread Cert.RetB.nD Cert.RetB.τ).loc Cert.RetB.main_arg2) = m ((c.tc : Thread Cert.RetB.nD Cert.RetB.τ).loc Cert.RetB.main_arg2)
      ∧ r.2.mem ((c.tc : Thread Cert.RetB.nD Cert.RetB.τ).loc Cert.RetB.main_arg3) = m ((c.tc : Thread Cert.RetB.nD Cert.RetB.τ).loc Cert.RetB.main_arg3))
      ∧ r.2.sem = fun _ => 0)

def quiescent_RetBIdeal [hRetBIdeal : Cert.RetBIdeal.Facts] : Prop :=
  ∀ (m : (ℓ : Loc Cert.RetBIdeal.nD Cert.RetBIdeal.τ Cert.RetBIdeal.sig) → Buf (Elt Ideal) ℓ) (g : Dev Cert.RetBIdeal.nD → PrngReg), Pre_RetBIdeal m →
    θ_run (Cert.RetBIdeal.defs (F := Ideal)) (onTc (τ := Cert.RetBIdeal.τ) (Cert.RetBIdeal.main (F := Ideal))) ⟨m, fun _ => 0, g⟩ (fun r => (∀ c : Dev Cert.RetBIdeal.nD,
      r.2.mem ((c.tc : Thread Cert.RetBIdeal.nD Cert.RetBIdeal.τ).loc Cert.RetBIdeal.main_arg0) = m ((c.tc : Thread Cert.RetBIdeal.nD Cert.RetBIdeal.τ).loc Cert.RetBIdeal.main_arg0)
      ∧ r.2.mem ((c.tc : Thread Cert.RetBIdeal.nD Cert.RetBIdeal.τ).loc Cert.RetBIdeal.main_arg1) = m ((c.tc : Thread Cert.RetBIdeal.nD Cert.RetBIdeal.τ).loc Cert.RetBIdeal.main_arg1)
      ∧ r.2.mem ((c.tc : Thread Cert.RetBIdeal.nD Cert.RetBIdeal.τ).loc Cert.RetBIdeal.main_arg2) = m ((c.tc : Thread Cert.RetBIdeal.nD Cert.RetBIdeal.τ).loc Cert.RetBIdeal.main_arg2)
      ∧ r.2.mem ((c.tc : Thread Cert.RetBIdeal.nD Cert.RetBIdeal.τ).loc Cert.RetBIdeal.main_arg3) = m ((c.tc : Thread Cert.RetBIdeal.nD Cert.RetBIdeal.τ).loc Cert.RetBIdeal.main_arg3))
      ∧ r.2.sem = fun _ => 0)

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v11_0)) (v1 : (c : Dev Cert.InpIdeal.nD) → Buf (Elt Ideal) ((c.tc : Thread Cert.InpIdeal.nD Cert.InpIdeal.τ).loc Cert.InpIdeal.main_v11_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v11_0) = v0 c
          ∧ r.2.mem ((c.tc : Thread Cert.InpIdeal.nD Cert.InpIdeal.τ).loc Cert.InpIdeal.main_v11_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v61) = v0 c
          ∧ r.2.mem ((c.tc : Thread Cert.InpRefIdeal.nD Cert.InpRefIdeal.τ).loc Cert.InpRefIdeal.main_v63) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def preserves_Mid_MidIdeal : Prop :=
  True

def algebraic_MidIdeal_MidRefIdeal_on_mask_pre_finite [hMidIdeal : Cert.MidIdeal.Facts] [hMidRefIdeal : Cert.MidRefIdeal.Facts] [hPre_finite : Cert.Pre_finite.Facts] [hOn_mask : Cert.On_mask.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v13_0)) (v1 : (c : Dev Cert.MidIdeal.nD) → Buf (Elt Ideal) ((c.tc : Thread Cert.MidIdeal.nD Cert.MidIdeal.τ).loc Cert.MidIdeal.main_v13_1)) (v2 : (c : Dev Cert.MidIdeal.nD) → Buf (Elt Ideal) ((c.tc : Thread Cert.MidIdeal.nD Cert.MidIdeal.τ).loc Cert.MidIdeal.main_v13_2)) (v3 : (c : Dev Cert.MidIdeal.nD) → Buf (Elt Ideal) ((c.tc : Thread Cert.MidIdeal.nD Cert.MidIdeal.τ).loc Cert.MidIdeal.main_v13_3)) (v4 : (c : Dev Cert.MidIdeal.nD) → Buf (Elt Ideal) ((c.tc : Thread Cert.MidIdeal.nD Cert.MidIdeal.τ).loc Cert.MidIdeal.main_v13_4)) (v5 : (c : Dev Cert.MidIdeal.nD) → Buf (Elt Ideal) ((c.tc : Thread Cert.MidIdeal.nD Cert.MidIdeal.τ).loc Cert.MidIdeal.main_v13_5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          (∀ i : (⟨2, ![4096, 1024]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).1 i = 1#1 → r.2.mem ((c.tc : Thread Cert.MidIdeal.nD Cert.MidIdeal.τ).loc Cert.MidIdeal.main_v13_0) i = v0 c i)
          ∧ (∀ i : (⟨3, ![8, 4096, 128]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.1 i = 1#1 → r.2.mem ((c.tc : Thread Cert.MidIdeal.nD Cert.MidIdeal.τ).loc Cert.MidIdeal.main_v13_1) i = v1 c i)
          ∧ (∀ i : (⟨3, ![8, 4096, 128]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.1 i = 1#1 → r.2.mem ((c.tc : Thread Cert.MidIdeal.nD Cert.MidIdeal.τ).loc Cert.MidIdeal.main_v13_2) i = v2 c i)
          ∧ (∀ i : (⟨2, ![1024, 1024]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.1 i = 1#1 → r.2.mem ((c.tc : Thread Cert.MidIdeal.nD Cert.MidIdeal.τ).loc Cert.MidIdeal.main_v13_3) i = v3 c i)
          ∧ (∀ i : (⟨2, ![8, 1024]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.1 i = 1#1 → r.2.mem ((c.tc : Thread Cert.MidIdeal.nD Cert.MidIdeal.τ).loc Cert.MidIdeal.main_v13_4) i = v4 c i)
          ∧ (∀ i : (⟨3, ![72, 4096, 128]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2 i = 1#1 → r.2.mem ((c.tc : Thread Cert.MidIdeal.nD Cert.MidIdeal.τ).loc Cert.MidIdeal.main_v13_5) i = v5 c i)
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          (∀ i : (⟨2, ![4096, 1024]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).1 i = 1#1 → r.2.mem ((c.tc : Thread Cert.MidRefIdeal.nD Cert.MidRefIdeal.τ).loc Cert.MidRefIdeal.main_v221) i = v0 c i)
          ∧ (∀ i : (⟨3, ![8, 4096, 128]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.1 i = 1#1 → r.2.mem ((c.tc : Thread Cert.MidRefIdeal.nD Cert.MidRefIdeal.τ).loc Cert.MidRefIdeal.main_v224) i = v1 c i)
          ∧ (∀ i : (⟨3, ![8, 4096, 128]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.1 i = 1#1 → r.2.mem ((c.tc : Thread Cert.MidRefIdeal.nD Cert.MidRefIdeal.τ).loc Cert.MidRefIdeal.main_v227) i = v2 c i)
          ∧ (∀ i : (⟨2, ![1024, 1024]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.1 i = 1#1 → r.2.mem ((c.tc : Thread Cert.MidRefIdeal.nD Cert.MidRefIdeal.τ).loc Cert.MidRefIdeal.main_v130) i = v3 c i)
          ∧ (∀ i : (⟨2, ![8, 1024]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.1 i = 1#1 → r.2.mem ((c.tc : Thread Cert.MidRefIdeal.nD Cert.MidRefIdeal.τ).loc Cert.MidRefIdeal.main_v201) i = v4 c i)
          ∧ (∀ i : (⟨3, ![72, 4096, 128]⟩ : Shape).Idx, (Cert.On_mask.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))).2.2.2.2.2 i = 1#1 → r.2.mem ((c.tc : Thread Cert.MidRefIdeal.nD Cert.MidRefIdeal.τ).loc Cert.MidRefIdeal.main_v220) i = v5 c i)
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)) →
    ∃ (v0 : (c : Dev Cert.RetIdeal.nD) → Buf (Elt Ideal) ((c.tc : Thread Cert.RetIdeal.nD Cert.RetIdeal.τ).loc Cert.RetIdeal.main_v20_0)) (v1 : (c : Dev Cert.RetIdeal.nD) → Buf (Elt Ideal) ((c.tc : Thread Cert.RetIdeal.nD Cert.RetIdeal.τ).loc Cert.RetIdeal.main_v20_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v20_0) = v0 c
          ∧ r.2.mem ((c.tc : Thread Cert.RetIdeal.nD Cert.RetIdeal.τ).loc Cert.RetIdeal.main_v20_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v152) = v0 c
          ∧ r.2.mem ((c.tc : Thread Cert.RetRefIdeal.nD Cert.RetRefIdeal.τ).loc Cert.RetRefIdeal.main_v155) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0))

def preserves_Hg_HgIdeal : Prop :=
  IdealRules.named_const.Statement Cert.HgIdeal.κ "log2_e" .f32 0x3FB8AA3B#32 (((Real.log 2)⁻¹ : ℝ) : EReal)

def algebraic_HgIdeal_HgRefIdeal_pre_bounded [hHgIdeal : Cert.HgIdeal.Facts] [hHgRefIdeal : Cert.HgRefIdeal.Facts] [hPre_bounded : Cert.Pre_bounded.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal_bounded m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)) →
    ∃ (v0 : (c : Dev Cert.HgIdeal.nD) → Buf (Elt Ideal) ((c.tc : Thread Cert.HgIdeal.nD Cert.HgIdeal.τ).loc Cert.HgIdeal.main_v49_0)) (v1 : (c : Dev Cert.HgIdeal.nD) → Buf (Elt Ideal) ((c.tc : Thread Cert.HgIdeal.nD Cert.HgIdeal.τ).loc Cert.HgIdeal.main_v49_1)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v49_0) = v0 c
          ∧ r.2.mem ((c.tc : Thread Cert.HgIdeal.nD Cert.HgIdeal.τ).loc Cert.HgIdeal.main_v49_1) = v1 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v43) = v0 c
          ∧ r.2.mem ((c.tc : Thread Cert.HgRefIdeal.nD Cert.HgRefIdeal.τ).loc Cert.HgRefIdeal.main_v47) = v1 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3_0)) (v1 : (c : Dev Cert.AdaIdeal.nD) → Buf (Elt Ideal) ((c.tc : Thread Cert.AdaIdeal.nD Cert.AdaIdeal.τ).loc Cert.AdaIdeal.main_v3_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3_0) = v0 c
          ∧ r.2.mem ((c.tc : Thread Cert.AdaIdeal.nD Cert.AdaIdeal.τ).loc Cert.AdaIdeal.main_v3_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_v26) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Wgt_WgtIdeal : Prop :=
  True

def algebraic_WgtIdeal_WgtRefIdeal [hWgtIdeal : Cert.WgtIdeal.Facts] [hWgtRefIdeal : Cert.WgtRefIdeal.Facts] : Prop :=
  ∀ (m : (ℓ : Loc Cert.WgtIdeal.nD Cert.WgtIdeal.τ Cert.WgtIdeal.sig) → Buf (Elt Ideal) ℓ) (g : Dev Cert.WgtIdeal.nD → PrngReg)
    (m' : (ℓ : Loc Cert.WgtRefIdeal.nD Cert.WgtRefIdeal.τ Cert.WgtRefIdeal.sig) → Buf (Elt Ideal) ℓ) (g' : Dev Cert.WgtRefIdeal.nD → PrngReg), Pre_WgtIdeal m →
    (∀ c : Dev Cert.WgtIdeal.nD,
      m' ((c.tc : Thread Cert.WgtRefIdeal.nD Cert.WgtRefIdeal.τ).loc Cert.WgtRefIdeal.main_arg0) = m ((c.tc : Thread Cert.WgtIdeal.nD Cert.WgtIdeal.τ).loc Cert.WgtIdeal.main_arg0)
      ∧ m' ((c.tc : Thread Cert.WgtRefIdeal.nD Cert.WgtRefIdeal.τ).loc Cert.WgtRefIdeal.main_arg1) = m ((c.tc : Thread Cert.WgtIdeal.nD Cert.WgtIdeal.τ).loc Cert.WgtIdeal.main_arg1)
      ∧ m' ((c.tc : Thread Cert.WgtRefIdeal.nD Cert.WgtRefIdeal.τ).loc Cert.WgtRefIdeal.main_arg2) = m ((c.tc : Thread Cert.WgtIdeal.nD Cert.WgtIdeal.τ).loc Cert.WgtIdeal.main_arg2)
      ∧ m' ((c.tc : Thread Cert.WgtRefIdeal.nD Cert.WgtRefIdeal.τ).loc Cert.WgtRefIdeal.main_arg3) = m ((c.tc : Thread Cert.WgtIdeal.nD Cert.WgtIdeal.τ).loc Cert.WgtIdeal.main_arg3)
      ∧ m' ((c.tc : Thread Cert.WgtRefIdeal.nD Cert.WgtRefIdeal.τ).loc Cert.WgtRefIdeal.main_arg4) = m ((c.tc : Thread Cert.WgtIdeal.nD Cert.WgtIdeal.τ).loc Cert.WgtIdeal.main_arg4)
      ∧ m' ((c.tc : Thread Cert.WgtRefIdeal.nD Cert.WgtRefIdeal.τ).loc Cert.WgtRefIdeal.main_arg5) = m ((c.tc : Thread Cert.WgtIdeal.nD Cert.WgtIdeal.τ).loc Cert.WgtIdeal.main_arg5)) →
    ∃ (v0 : (c : Dev Cert.WgtIdeal.nD) → Buf (Elt Ideal) ((c.tc : Thread Cert.WgtIdeal.nD Cert.WgtIdeal.τ).loc Cert.WgtIdeal.main_v28)),
      θ_run (Cert.WgtIdeal.defs (F := Ideal)) (onTc (τ := Cert.WgtIdeal.τ) (Cert.WgtIdeal.main (F := Ideal))) ⟨m, fun _ => 0, g⟩ (fun r => ∀ c : Dev Cert.WgtIdeal.nD,
          r.2.mem ((c.tc : Thread Cert.WgtIdeal.nD Cert.WgtIdeal.τ).loc Cert.WgtIdeal.main_v28) = v0 c
          ∧ r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
          ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1)
          ∧ r.2.mem ((c.tc : Thread Cert.WgtIdeal.nD Cert.WgtIdeal.τ).loc Cert.WgtIdeal.main_arg2) = m ((c.tc : Thread Cert.WgtIdeal.nD Cert.WgtIdeal.τ).loc Cert.WgtIdeal.main_arg2)
          ∧ r.2.mem ((c.tc : Thread Cert.WgtIdeal.nD Cert.WgtIdeal.τ).loc Cert.WgtIdeal.main_arg3) = m ((c.tc : Thread Cert.WgtIdeal.nD Cert.WgtIdeal.τ).loc Cert.WgtIdeal.main_arg3)
          ∧ r.2.mem ((c.tc : Thread Cert.WgtIdeal.nD Cert.WgtIdeal.τ).loc Cert.WgtIdeal.main_arg4) = m ((c.tc : Thread Cert.WgtIdeal.nD Cert.WgtIdeal.τ).loc Cert.WgtIdeal.main_arg4)
          ∧ r.2.mem ((c.tc : Thread Cert.WgtIdeal.nD Cert.WgtIdeal.τ).loc Cert.WgtIdeal.main_arg5) = m ((c.tc : Thread Cert.WgtIdeal.nD Cert.WgtIdeal.τ).loc Cert.WgtIdeal.main_arg5))
      ∧ θ_run (Cert.WgtRefIdeal.defs (F := Ideal)) (onTc (τ := Cert.WgtRefIdeal.τ) (Cert.WgtRefIdeal.main (F := Ideal))) ⟨m', fun _ => 0, g'⟩ (fun r => ∀ c : Dev Cert.WgtRefIdeal.nD,
          r.2.mem ((c.tc : Thread Cert.WgtRefIdeal.nD Cert.WgtRefIdeal.τ).loc Cert.WgtRefIdeal.main_v26) = v0 c
          ∧ r.2.mem ((c.tc : Thread Cert.WgtRefIdeal.nD Cert.WgtRefIdeal.τ).loc Cert.WgtRefIdeal.main_arg0) = m' ((c.tc : Thread Cert.WgtRefIdeal.nD Cert.WgtRefIdeal.τ).loc Cert.WgtRefIdeal.main_arg0)
          ∧ r.2.mem ((c.tc : Thread Cert.WgtRefIdeal.nD Cert.WgtRefIdeal.τ).loc Cert.WgtRefIdeal.main_arg1) = m' ((c.tc : Thread Cert.WgtRefIdeal.nD Cert.WgtRefIdeal.τ).loc Cert.WgtRefIdeal.main_arg1)
          ∧ r.2.mem ((c.tc : Thread Cert.WgtRefIdeal.nD Cert.WgtRefIdeal.τ).loc Cert.WgtRefIdeal.main_arg2) = m' ((c.tc : Thread Cert.WgtRefIdeal.nD Cert.WgtRefIdeal.τ).loc Cert.WgtRefIdeal.main_arg2)
          ∧ r.2.mem ((c.tc : Thread Cert.WgtRefIdeal.nD Cert.WgtRefIdeal.τ).loc Cert.WgtRefIdeal.main_arg3) = m' ((c.tc : Thread Cert.WgtRefIdeal.nD Cert.WgtRefIdeal.τ).loc Cert.WgtRefIdeal.main_arg3)
          ∧ r.2.mem ((c.tc : Thread Cert.WgtRefIdeal.nD Cert.WgtRefIdeal.τ).loc Cert.WgtRefIdeal.main_arg4) = m' ((c.tc : Thread Cert.WgtRefIdeal.nD Cert.WgtRefIdeal.τ).loc Cert.WgtRefIdeal.main_arg4)
          ∧ r.2.mem ((c.tc : Thread Cert.WgtRefIdeal.nD Cert.WgtRefIdeal.τ).loc Cert.WgtRefIdeal.main_arg5) = m' ((c.tc : Thread Cert.WgtRefIdeal.nD Cert.WgtRefIdeal.τ).loc Cert.WgtRefIdeal.main_arg5))

def preserves_Wad_WadIdeal : Prop :=
  True

def algebraic_WadIdeal_WadRefIdeal_pre_reals [hWadIdeal : Cert.WadIdeal.Facts] [hWadRefIdeal : Cert.WadRefIdeal.Facts] [hPre_reals : Cert.Pre_reals.Facts] : Prop :=
  ∀ (m : (ℓ : Loc Cert.WadIdeal.nD Cert.WadIdeal.τ Cert.WadIdeal.sig) → Buf (Elt Ideal) ℓ) (g : Dev Cert.WadIdeal.nD → PrngReg)
    (m' : (ℓ : Loc Cert.WadRefIdeal.nD Cert.WadRefIdeal.τ Cert.WadRefIdeal.sig) → Buf (Elt Ideal) ℓ) (g' : Dev Cert.WadRefIdeal.nD → PrngReg), Pre_WadIdeal_reals m →
    (∀ c : Dev Cert.WadIdeal.nD,
      m' ((c.tc : Thread Cert.WadRefIdeal.nD Cert.WadRefIdeal.τ).loc Cert.WadRefIdeal.main_arg0) = m ((c.tc : Thread Cert.WadIdeal.nD Cert.WadIdeal.τ).loc Cert.WadIdeal.main_arg0)
      ∧ m' ((c.tc : Thread Cert.WadRefIdeal.nD Cert.WadRefIdeal.τ).loc Cert.WadRefIdeal.main_arg1) = m ((c.tc : Thread Cert.WadIdeal.nD Cert.WadIdeal.τ).loc Cert.WadIdeal.main_arg1)
      ∧ m' ((c.tc : Thread Cert.WadRefIdeal.nD Cert.WadRefIdeal.τ).loc Cert.WadRefIdeal.main_arg2) = m ((c.tc : Thread Cert.WadIdeal.nD Cert.WadIdeal.τ).loc Cert.WadIdeal.main_arg2)
      ∧ m' ((c.tc : Thread Cert.WadRefIdeal.nD Cert.WadRefIdeal.τ).loc Cert.WadRefIdeal.main_arg3) = m ((c.tc : Thread Cert.WadIdeal.nD Cert.WadIdeal.τ).loc Cert.WadIdeal.main_arg3)
      ∧ m' ((c.tc : Thread Cert.WadRefIdeal.nD Cert.WadRefIdeal.τ).loc Cert.WadRefIdeal.main_arg4) = m ((c.tc : Thread Cert.WadIdeal.nD Cert.WadIdeal.τ).loc Cert.WadIdeal.main_arg4)) →
    ∃ (v0 : (c : Dev Cert.WadIdeal.nD) → Buf (Elt Ideal) ((c.tc : Thread Cert.WadIdeal.nD Cert.WadIdeal.τ).loc Cert.WadIdeal.main_v14_0)) (v1 : (c : Dev Cert.WadIdeal.nD) → Buf (Elt Ideal) ((c.tc : Thread Cert.WadIdeal.nD Cert.WadIdeal.τ).loc Cert.WadIdeal.main_v14_1)) (v2 : (c : Dev Cert.WadIdeal.nD) → Buf (Elt Ideal) ((c.tc : Thread Cert.WadIdeal.nD Cert.WadIdeal.τ).loc Cert.WadIdeal.main_v14_2)) (v3 : (c : Dev Cert.WadIdeal.nD) → Buf (Elt Ideal) ((c.tc : Thread Cert.WadIdeal.nD Cert.WadIdeal.τ).loc Cert.WadIdeal.main_v14_3)),
      θ_run (Cert.WadIdeal.defs (F := Ideal)) (onTc (τ := Cert.WadIdeal.τ) (Cert.WadIdeal.main (F := Ideal))) ⟨m, fun _ => 0, g⟩ (fun r => ∀ c : Dev Cert.WadIdeal.nD,
          r.2.mem ((c.tc : Thread Cert.WadIdeal.nD Cert.WadIdeal.τ).loc Cert.WadIdeal.main_v14_0) = v0 c
          ∧ r.2.mem ((c.tc : Thread Cert.WadIdeal.nD Cert.WadIdeal.τ).loc Cert.WadIdeal.main_v14_1) = v1 c
          ∧ r.2.mem ((c.tc : Thread Cert.WadIdeal.nD Cert.WadIdeal.τ).loc Cert.WadIdeal.main_v14_2) = v2 c
          ∧ r.2.mem ((c.tc : Thread Cert.WadIdeal.nD Cert.WadIdeal.τ).loc Cert.WadIdeal.main_v14_3) = v3 c
          ∧ r.2.mem ((c.tc : Thread Cert.WadIdeal.nD Cert.WadIdeal.τ).loc Cert.WadIdeal.main_arg0) = m ((c.tc : Thread Cert.WadIdeal.nD Cert.WadIdeal.τ).loc Cert.WadIdeal.main_arg0)
          ∧ r.2.mem ((c.tc : Thread Cert.WadIdeal.nD Cert.WadIdeal.τ).loc Cert.WadIdeal.main_arg1) = m ((c.tc : Thread Cert.WadIdeal.nD Cert.WadIdeal.τ).loc Cert.WadIdeal.main_arg1)
          ∧ r.2.mem ((c.tc : Thread Cert.WadIdeal.nD Cert.WadIdeal.τ).loc Cert.WadIdeal.main_arg2) = m ((c.tc : Thread Cert.WadIdeal.nD Cert.WadIdeal.τ).loc Cert.WadIdeal.main_arg2)
          ∧ r.2.mem ((c.tc : Thread Cert.WadIdeal.nD Cert.WadIdeal.τ).loc Cert.WadIdeal.main_arg3) = m ((c.tc : Thread Cert.WadIdeal.nD Cert.WadIdeal.τ).loc Cert.WadIdeal.main_arg3)
          ∧ r.2.mem ((c.tc : Thread Cert.WadIdeal.nD Cert.WadIdeal.τ).loc Cert.WadIdeal.main_arg4) = m ((c.tc : Thread Cert.WadIdeal.nD Cert.WadIdeal.τ).loc Cert.WadIdeal.main_arg4))
      ∧ θ_run (Cert.WadRefIdeal.defs (F := Ideal)) (onTc (τ := Cert.WadRefIdeal.τ) (Cert.WadRefIdeal.main (F := Ideal))) ⟨m', fun _ => 0, g'⟩ (fun r => ∀ c : Dev Cert.WadRefIdeal.nD,
          r.2.mem ((c.tc : Thread Cert.WadRefIdeal.nD Cert.WadRefIdeal.τ).loc Cert.WadRefIdeal.main_v5) = v0 c
          ∧ r.2.mem ((c.tc : Thread Cert.WadRefIdeal.nD Cert.WadRefIdeal.τ).loc Cert.WadRefIdeal.main_v32) = v1 c
          ∧ r.2.mem ((c.tc : Thread Cert.WadRefIdeal.nD Cert.WadRefIdeal.τ).loc Cert.WadRefIdeal.main_v13) = v2 c
          ∧ r.2.mem ((c.tc : Thread Cert.WadRefIdeal.nD Cert.WadRefIdeal.τ).loc Cert.WadRefIdeal.main_v19) = v3 c
          ∧ r.2.mem ((c.tc : Thread Cert.WadRefIdeal.nD Cert.WadRefIdeal.τ).loc Cert.WadRefIdeal.main_arg0) = m' ((c.tc : Thread Cert.WadRefIdeal.nD Cert.WadRefIdeal.τ).loc Cert.WadRefIdeal.main_arg0)
          ∧ r.2.mem ((c.tc : Thread Cert.WadRefIdeal.nD Cert.WadRefIdeal.τ).loc Cert.WadRefIdeal.main_arg1) = m' ((c.tc : Thread Cert.WadRefIdeal.nD Cert.WadRefIdeal.τ).loc Cert.WadRefIdeal.main_arg1)
          ∧ r.2.mem ((c.tc : Thread Cert.WadRefIdeal.nD Cert.WadRefIdeal.τ).loc Cert.WadRefIdeal.main_arg2) = m' ((c.tc : Thread Cert.WadRefIdeal.nD Cert.WadRefIdeal.τ).loc Cert.WadRefIdeal.main_arg2)
          ∧ r.2.mem ((c.tc : Thread Cert.WadRefIdeal.nD Cert.WadRefIdeal.τ).loc Cert.WadRefIdeal.main_arg3) = m' ((c.tc : Thread Cert.WadRefIdeal.nD Cert.WadRefIdeal.τ).loc Cert.WadRefIdeal.main_arg3)
          ∧ r.2.mem ((c.tc : Thread Cert.WadRefIdeal.nD Cert.WadRefIdeal.τ).loc Cert.WadRefIdeal.main_arg4) = m' ((c.tc : Thread Cert.WadRefIdeal.nD Cert.WadRefIdeal.τ).loc Cert.WadRefIdeal.main_arg4))

def preserves_Shd_ShdIdeal : Prop :=
  True

def algebraic_ShdIdeal_ShdRefIdeal [hShdIdeal : Cert.ShdIdeal.Facts] [hShdRefIdeal : Cert.ShdRefIdeal.Facts] : Prop :=
  ∀ (m : (ℓ : Loc Cert.ShdIdeal.nD Cert.ShdIdeal.τ Cert.ShdIdeal.sig) → Buf (Elt Ideal) ℓ) (g : Dev Cert.ShdIdeal.nD → PrngReg)
    (m' : (ℓ : Loc Cert.ShdRefIdeal.nD Cert.ShdRefIdeal.τ Cert.ShdRefIdeal.sig) → Buf (Elt Ideal) ℓ) (g' : Dev Cert.ShdRefIdeal.nD → PrngReg), Pre_ShdIdeal m →
    (∀ c : Dev Cert.ShdIdeal.nD,
      m' ((c.tc : Thread Cert.ShdRefIdeal.nD Cert.ShdRefIdeal.τ).loc Cert.ShdRefIdeal.main_arg0) = m ((c.tc : Thread Cert.ShdIdeal.nD Cert.ShdIdeal.τ).loc Cert.ShdIdeal.main_arg0)
      ∧ m' ((c.tc : Thread Cert.ShdRefIdeal.nD Cert.ShdRefIdeal.τ).loc Cert.ShdRefIdeal.main_arg1) = m ((c.tc : Thread Cert.ShdIdeal.nD Cert.ShdIdeal.τ).loc Cert.ShdIdeal.main_arg1)
      ∧ m' ((c.tc : Thread Cert.ShdRefIdeal.nD Cert.ShdRefIdeal.τ).loc Cert.ShdRefIdeal.main_arg2) = m ((c.tc : Thread Cert.ShdIdeal.nD Cert.ShdIdeal.τ).loc Cert.ShdIdeal.main_arg2)
      ∧ m' ((c.tc : Thread Cert.ShdRefIdeal.nD Cert.ShdRefIdeal.τ).loc Cert.ShdRefIdeal.main_arg3) = m ((c.tc : Thread Cert.ShdIdeal.nD Cert.ShdIdeal.τ).loc Cert.ShdIdeal.main_arg3)) →
    ∃ (v0 : (c : Dev Cert.ShdIdeal.nD) → Buf (Elt Ideal) ((c.tc : Thread Cert.ShdIdeal.nD Cert.ShdIdeal.τ).loc Cert.ShdIdeal.main_v18_0)) (v1 : (c : Dev Cert.ShdIdeal.nD) → Buf (Elt Ideal) ((c.tc : Thread Cert.ShdIdeal.nD Cert.ShdIdeal.τ).loc Cert.ShdIdeal.main_v18_1)) (v2 : (c : Dev Cert.ShdIdeal.nD) → Buf (Elt Ideal) ((c.tc : Thread Cert.ShdIdeal.nD Cert.ShdIdeal.τ).loc Cert.ShdIdeal.main_v18_2)) (v3 : (c : Dev Cert.ShdIdeal.nD) → Buf (Elt Ideal) ((c.tc : Thread Cert.ShdIdeal.nD Cert.ShdIdeal.τ).loc Cert.ShdIdeal.main_v18_3)),
      θ_run (Cert.ShdIdeal.defs (F := Ideal)) (onTc (τ := Cert.ShdIdeal.τ) (Cert.ShdIdeal.main (F := Ideal))) ⟨m, fun _ => 0, g⟩ (fun r => ∀ c : Dev Cert.ShdIdeal.nD,
          r.2.mem ((c.tc : Thread Cert.ShdIdeal.nD Cert.ShdIdeal.τ).loc Cert.ShdIdeal.main_v18_0) = v0 c
          ∧ r.2.mem ((c.tc : Thread Cert.ShdIdeal.nD Cert.ShdIdeal.τ).loc Cert.ShdIdeal.main_v18_1) = v1 c
          ∧ r.2.mem ((c.tc : Thread Cert.ShdIdeal.nD Cert.ShdIdeal.τ).loc Cert.ShdIdeal.main_v18_2) = v2 c
          ∧ r.2.mem ((c.tc : Thread Cert.ShdIdeal.nD Cert.ShdIdeal.τ).loc Cert.ShdIdeal.main_v18_3) = v3 c
          ∧ r.2.mem ((c.tc : Thread Cert.ShdIdeal.nD Cert.ShdIdeal.τ).loc Cert.ShdIdeal.main_arg0) = m ((c.tc : Thread Cert.ShdIdeal.nD Cert.ShdIdeal.τ).loc Cert.ShdIdeal.main_arg0)
          ∧ r.2.mem ((c.tc : Thread Cert.ShdIdeal.nD Cert.ShdIdeal.τ).loc Cert.ShdIdeal.main_arg1) = m ((c.tc : Thread Cert.ShdIdeal.nD Cert.ShdIdeal.τ).loc Cert.ShdIdeal.main_arg1)
          ∧ r.2.mem ((c.tc : Thread Cert.ShdIdeal.nD Cert.ShdIdeal.τ).loc Cert.ShdIdeal.main_arg2) = m ((c.tc : Thread Cert.ShdIdeal.nD Cert.ShdIdeal.τ).loc Cert.ShdIdeal.main_arg2)
          ∧ r.2.mem ((c.tc : Thread Cert.ShdIdeal.nD Cert.ShdIdeal.τ).loc Cert.ShdIdeal.main_arg3) = m ((c.tc : Thread Cert.ShdIdeal.nD Cert.ShdIdeal.τ).loc Cert.ShdIdeal.main_arg3))
      ∧ θ_run (Cert.ShdRefIdeal.defs (F := Ideal)) (onTc (τ := Cert.ShdRefIdeal.τ) (Cert.ShdRefIdeal.main (F := Ideal))) ⟨m', fun _ => 0, g'⟩ (fun r => ∀ c : Dev Cert.ShdRefIdeal.nD,
          r.2.mem ((c.tc : Thread Cert.ShdRefIdeal.nD Cert.ShdRefIdeal.τ).loc Cert.ShdRefIdeal.main_v1) = v0 c
          ∧ r.2.mem ((c.tc : Thread Cert.ShdRefIdeal.nD Cert.ShdRefIdeal.τ).loc Cert.ShdRefIdeal.main_v27) = v1 c
          ∧ r.2.mem ((c.tc : Thread Cert.ShdRefIdeal.nD Cert.ShdRefIdeal.τ).loc Cert.ShdRefIdeal.main_v8) = v2 c
          ∧ r.2.mem ((c.tc : Thread Cert.ShdRefIdeal.nD Cert.ShdRefIdeal.τ).loc Cert.ShdRefIdeal.main_v14) = v3 c
          ∧ r.2.mem ((c.tc : Thread Cert.ShdRefIdeal.nD Cert.ShdRefIdeal.τ).loc Cert.ShdRefIdeal.main_arg0) = m' ((c.tc : Thread Cert.ShdRefIdeal.nD Cert.ShdRefIdeal.τ).loc Cert.ShdRefIdeal.main_arg0)
          ∧ r.2.mem ((c.tc : Thread Cert.ShdRefIdeal.nD Cert.ShdRefIdeal.τ).loc Cert.ShdRefIdeal.main_arg1) = m' ((c.tc : Thread Cert.ShdRefIdeal.nD Cert.ShdRefIdeal.τ).loc Cert.ShdRefIdeal.main_arg1)
          ∧ r.2.mem ((c.tc : Thread Cert.ShdRefIdeal.nD Cert.ShdRefIdeal.τ).loc Cert.ShdRefIdeal.main_arg2) = m' ((c.tc : Thread Cert.ShdRefIdeal.nD Cert.ShdRefIdeal.τ).loc Cert.ShdRefIdeal.main_arg2)
          ∧ r.2.mem ((c.tc : Thread Cert.ShdRefIdeal.nD Cert.ShdRefIdeal.τ).loc Cert.ShdRefIdeal.main_arg3) = m' ((c.tc : Thread Cert.ShdRefIdeal.nD Cert.ShdRefIdeal.τ).loc Cert.ShdRefIdeal.main_arg3))

def preserves_RetB_RetBIdeal : Prop :=
  True

def Claim : Prop :=
  ∃ (hInp : Cert.Inp.Facts) (hInpIdeal : Cert.InpIdeal.Facts) (hInpRefIdeal : Cert.InpRefIdeal.Facts) (hMid : Cert.Mid.Facts) (hMidIdeal : Cert.MidIdeal.Facts) (hMidRefIdeal : Cert.MidRefIdeal.Facts) (hRet : Cert.Ret.Facts) (hRetIdeal : Cert.RetIdeal.Facts) (hRetRefIdeal : Cert.RetRefIdeal.Facts) (hHg : Cert.Hg.Facts) (hHgIdeal : Cert.HgIdeal.Facts) (hHgRefIdeal : Cert.HgRefIdeal.Facts) (hAda : Cert.Ada.Facts) (hAdaIdeal : Cert.AdaIdeal.Facts) (hAdaRefIdeal : Cert.AdaRefIdeal.Facts) (hWgt : Cert.Wgt.Facts) (hWgtIdeal : Cert.WgtIdeal.Facts) (hWgtRefIdeal : Cert.WgtRefIdeal.Facts) (hWad : Cert.Wad.Facts) (hWadIdeal : Cert.WadIdeal.Facts) (hWadRefIdeal : Cert.WadRefIdeal.Facts) (hShd : Cert.Shd.Facts) (hShdIdeal : Cert.ShdIdeal.Facts) (hShdRefIdeal : Cert.ShdRefIdeal.Facts) (hRetB : Cert.RetB.Facts) (hRetBIdeal : Cert.RetBIdeal.Facts) (hPre_finite : Cert.Pre_finite.Facts) (hPre_bounded : Cert.Pre_bounded.Facts) (hPre_reals : Cert.Pre_reals.Facts) (hOn_mask : Cert.On_mask.Facts),
    quiescent_Inp (hInp := hInp)
    ∧ quiescent_InpIdeal (hInpIdeal := hInpIdeal)
    ∧ quiescent_InpRefIdeal (hInpRefIdeal := hInpRefIdeal)
    ∧ quiescent_Mid (hMid := hMid)
    ∧ quiescent_MidIdeal (hMidIdeal := hMidIdeal)
    ∧ quiescent_MidIdeal_pre_finite (hMidIdeal := hMidIdeal) (hPre_finite := hPre_finite)
    ∧ quiescent_MidRefIdeal (hMidRefIdeal := hMidRefIdeal)
    ∧ quiescent_MidRefIdeal_pre_finite (hMidRefIdeal := hMidRefIdeal) (hPre_finite := hPre_finite)
    ∧ quiescent_Ret (hRet := hRet)
    ∧ quiescent_RetIdeal (hRetIdeal := hRetIdeal)
    ∧ quiescent_RetRefIdeal (hRetRefIdeal := hRetRefIdeal)
    ∧ quiescent_Hg (hHg := hHg)
    ∧ quiescent_HgIdeal (hHgIdeal := hHgIdeal)
    ∧ quiescent_HgIdeal_pre_bounded (hHgIdeal := hHgIdeal) (hPre_bounded := hPre_bounded)
    ∧ quiescent_HgRefIdeal (hHgRefIdeal := hHgRefIdeal)
    ∧ quiescent_HgRefIdeal_pre_bounded (hHgRefIdeal := hHgRefIdeal) (hPre_bounded := hPre_bounded)
    ∧ quiescent_Ada (hAda := hAda)
    ∧ quiescent_AdaIdeal (hAdaIdeal := hAdaIdeal)
    ∧ quiescent_AdaRefIdeal (hAdaRefIdeal := hAdaRefIdeal)
    ∧ quiescent_Wgt (hWgt := hWgt)
    ∧ quiescent_WgtIdeal (hWgtIdeal := hWgtIdeal)
    ∧ quiescent_WgtRefIdeal (hWgtRefIdeal := hWgtRefIdeal)
    ∧ quiescent_Wad (hWad := hWad)
    ∧ quiescent_WadIdeal (hWadIdeal := hWadIdeal)
    ∧ quiescent_WadIdeal_pre_reals (hWadIdeal := hWadIdeal) (hPre_reals := hPre_reals)
    ∧ quiescent_WadRefIdeal (hWadRefIdeal := hWadRefIdeal)
    ∧ quiescent_WadRefIdeal_pre_reals (hWadRefIdeal := hWadRefIdeal) (hPre_reals := hPre_reals)
    ∧ quiescent_Shd (hShd := hShd)
    ∧ quiescent_ShdIdeal (hShdIdeal := hShdIdeal)
    ∧ quiescent_ShdRefIdeal (hShdRefIdeal := hShdRefIdeal)
    ∧ quiescent_RetB (hRetB := hRetB)
    ∧ quiescent_RetBIdeal (hRetBIdeal := hRetBIdeal)
    ∧ preserves_Inp_InpIdeal
    ∧ algebraic_InpIdeal_InpRefIdeal (hInpIdeal := hInpIdeal) (hInpRefIdeal := hInpRefIdeal)
    ∧ preserves_Mid_MidIdeal
    ∧ algebraic_MidIdeal_MidRefIdeal_on_mask_pre_finite (hMidIdeal := hMidIdeal) (hMidRefIdeal := hMidRefIdeal) (hPre_finite := hPre_finite) (hOn_mask := hOn_mask)
    ∧ preserves_Ret_RetIdeal
    ∧ algebraic_RetIdeal_RetRefIdeal (hRetIdeal := hRetIdeal) (hRetRefIdeal := hRetRefIdeal)
    ∧ preserves_Hg_HgIdeal
    ∧ algebraic_HgIdeal_HgRefIdeal_pre_bounded (hHgIdeal := hHgIdeal) (hHgRefIdeal := hHgRefIdeal) (hPre_bounded := hPre_bounded)
    ∧ preserves_Ada_AdaIdeal
    ∧ algebraic_AdaIdeal_AdaRefIdeal (hAdaIdeal := hAdaIdeal) (hAdaRefIdeal := hAdaRefIdeal)
    ∧ preserves_Wgt_WgtIdeal
    ∧ algebraic_WgtIdeal_WgtRefIdeal (hWgtIdeal := hWgtIdeal) (hWgtRefIdeal := hWgtRefIdeal)
    ∧ preserves_Wad_WadIdeal
    ∧ algebraic_WadIdeal_WadRefIdeal_pre_reals (hWadIdeal := hWadIdeal) (hWadRefIdeal := hWadRefIdeal) (hPre_reals := hPre_reals)
    ∧ preserves_Shd_ShdIdeal
    ∧ algebraic_ShdIdeal_ShdRefIdeal (hShdIdeal := hShdIdeal) (hShdRefIdeal := hShdRefIdeal)
    ∧ preserves_RetB_RetBIdeal
-- ==== On_mask.lean ====
abbrev S1x4096x1024 : Shape := ⟨3, ![1, 4096, 1024]⟩
abbrev S1x4096x8x128 : Shape := ⟨4, ![1, 4096, 8, 128]⟩
abbrev S1x4096x9216 : Shape := ⟨3, ![1, 4096, 9216]⟩
abbrev S1024x1024 : Shape := ⟨2, ![1024, 1024]⟩
abbrev S1x1024 : Shape := ⟨2, ![1, 1024]⟩
abbrev S1024 : Shape := ⟨1, ![1024]⟩
abbrev S72x4096x128 : Shape := ⟨3, ![72, 4096, 128]⟩
abbrev S_ : Shape := ⟨0, ![]⟩
abbrev S8x4096x128 : Shape := ⟨3, ![8, 4096, 128]⟩
abbrev S4096x1024 : Shape := ⟨2, ![4096, 1024]⟩
abbrev S8x1024 : Shape := ⟨2, ![8, 1024]⟩

class Facts : Prop where
  bcast_S_S8x4096x128 : S_.BroadcastsInDim S8x4096x128 (![] : Fin 0 → Fin S8x4096x128.rank)
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S8x1024 : S_.BroadcastsInDim S8x1024 (![] : Fin 0 → Fin S8x1024.rank)
  bcast_S_S72x4096x128 : S_.BroadcastsInDim S72x4096x128 (![] : Fin 0 → Fin S72x4096x128.rank)

variable [Facts]

def fn {F : FTy → Type} [FloatOps F] (main_arg0 : FVec F S1x4096x1024 .f32) (main_arg1 : FVec F S1x4096x1024 .f32) (main_arg2 : FVec F S1x4096x8x128 .f32) (main_arg3 : FVec F S1x4096x8x128 .f32) (main_arg4 : FVec F S1x4096x9216 .f32) (main_arg5 : FVec F S1024x1024 .f32) (main_arg6 : FVec F S1x1024 .f32) (main_arg7 : FVec F S1024 .f32) (main_arg8 : FVec F S1024 .f32) (main_arg9 : FVec F S1024 .f32) : IVec S4096x1024 1 × IVec S8x4096x128 1 × IVec S8x4096x128 1 × IVec S1024x1024 1 × IVec S8x1024 1 × IVec S72x4096x128 1 :=
  let main_v0 : IVec S72x4096x128 32 := iotaInDim S72x4096x128 32 0
  let main_c : IVec S_ 1 := constantI S_ 1 1#1
  let main_v1 : IVec S8x4096x128 1 := broadcastInDim S8x4096x128 ![] bcast_S_S8x4096x128 main_c
  let main_c_0 : IVec S_ 1 := constantI S_ 1 1#1
  let main_v2 : IVec S4096x1024 1 := broadcastInDim S4096x1024 ![] bcast_S_S4096x1024 main_c_0
  let main_c_1 : IVec S_ 1 := constantI S_ 1 1#1
  let main_v3 : IVec S1024x1024 1 := broadcastInDim S1024x1024 ![] bcast_S_S1024x1024 main_c_1
  let main_c_2 : IVec S_ 1 := constantI S_ 1 1#1
  let main_v4 : IVec S8x1024 1 := broadcastInDim S8x1024 ![] bcast_S_S8x1024 main_c_2
  let main_c_3 : IVec S_ 32 := constantI S_ 32 24#32
  let main_v5 : IVec S72x4096x128 32 := broadcastInDim S72x4096x128 ![] bcast_S_S72x4096x128 main_c_3
  let main_v6 : IVec S72x4096x128 1 := cmpi .sge main_v0 main_v5
  let main_c_4 : IVec S_ 32 := constantI S_ 32 32#32
  let main_v7 : IVec S72x4096x128 32 := broadcastInDim S72x4096x128 ![] bcast_S_S72x4096x128 main_c_4
  let main_v8 : IVec S72x4096x128 1 := cmpi .slt main_v0 main_v7
  let main_c_5 : IVec S_ 32 := constantI S_ 32 48#32
  let main_v9 : IVec S72x4096x128 32 := broadcastInDim S72x4096x128 ![] bcast_S_S72x4096x128 main_c_5
  let main_v10 : IVec S72x4096x128 1 := cmpi .sge main_v0 main_v9
  let main_v11 : IVec S72x4096x128 1 := ori main_v8 main_v10
  let main_v12 : IVec S72x4096x128 1 := andi main_v6 main_v11
  (main_v2, main_v1, main_v1, main_v3, main_v4, main_v12)
-- ==== Pre_bounded.lean ====
abbrev S1x4096x9216 : Shape := ⟨3, ![1, 4096, 9216]⟩
abbrev S1024 : Shape := ⟨1, ![1024]⟩
abbrev S_ : Shape := ⟨0, ![]⟩

class Facts : Prop where
  bcast_S_S1x4096x9216 : S_.BroadcastsInDim S1x4096x9216 (![] : Fin 0 → Fin S1x4096x9216.rank)
  bcast_S_S1024 : S_.BroadcastsInDim S1024 (![] : Fin 0 → Fin S1024.rank)

variable [Facts]

def fn {F : FTy → Type} [FloatOps F] (main_arg0 : FVec F S1x4096x9216 .f32) (main_arg1 : FVec F S1024 .f32) : IVec S1x4096x9216 1 × IVec S1024 1 :=
  let main_v0 : FVec F S1x4096x9216 .f32 := Host.absf main_arg0
  let main_cst : FVec F S_ .f32 := constant S_ .f32 0x7F800000#32
  let main_v1 : FVec F S1x4096x9216 .f32 := broadcastInDim S1x4096x9216 ![] bcast_S_S1x4096x9216 main_cst
  let main_v2 : IVec S1x4096x9216 1 := cmpf .olt main_v0 main_v1
  let main_cst_0 : FVec F S_ .f32 := constant S_ .f32 0x00000000#32
  let main_v3 : FVec F S1024 .f32 := broadcastInDim S1024 ![] bcast_S_S1024 main_cst_0
  let main_v4 : IVec S1024 1 := cmpf .oge main_arg1 main_v3
  let main_cst_1 : FVec F S_ .f32 := constant S_ .f32 0x3F800000#32
  let main_v5 : FVec F S1024 .f32 := broadcastInDim S1024 ![] bcast_S_S1024 main_cst_1
  let main_v6 : IVec S1024 1 := cmpf .ole main_arg1 main_v5
  let main_v7 : IVec S1024 1 := andi main_v4 main_v6
  (main_v2, main_v7)
-- ==== Pre_finite.lean ====
abbrev S1x4096x1024 : Shape := ⟨3, ![1, 4096, 1024]⟩
abbrev S1x4096x8x128 : Shape := ⟨4, ![1, 4096, 8, 128]⟩
abbrev S1x4096x9216 : Shape := ⟨3, ![1, 4096, 9216]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1x4096x8x128 : S_.BroadcastsInDim S1x4096x8x128 (![] : Fin 0 → Fin S1x4096x8x128.rank)
  bcast_S_S1x4096x9216 : S_.BroadcastsInDim S1x4096x9216 (![] : Fin 0 → Fin S1x4096x9216.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn_part1 {F : FTy → Type} [FloatOps F] (main_arg6 : FVec F S1x1024 .f32) (main_arg7 : FVec F S1024 .f32) (main_arg8 : FVec F S1024 .f32) (main_arg9 : FVec F S1024 .f32) (main_v2 : IVec S1x4096x1024 1) (main_v5 : IVec S1x4096x1024 1) (main_v8 : IVec S1x4096x8x128 1) (main_v11 : IVec S1x4096x8x128 1) (main_v14 : IVec S1x4096x9216 1) (main_v17 : IVec S1024x1024 1) : IVec S1x4096x1024 1 × IVec S1x4096x1024 1 × IVec S1x4096x8x128 1 × IVec S1x4096x8x128 1 × IVec S1x4096x9216 1 × IVec S1024x1024 1 × IVec S1x1024 1 × IVec S1024 1 × IVec S1024 1 × IVec S1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  (main_v2, main_v5, main_v8, main_v11, main_v14, main_v17, main_v20, main_v23, main_v26, main_v29)

def fn {F : FTy → Type} [FloatOps F] (main_arg0 : FVec F S1x4096x1024 .f32) (main_arg1 : FVec F S1x4096x1024 .f32) (main_arg2 : FVec F S1x4096x8x128 .f32) (main_arg3 : FVec F S1x4096x8x128 .f32) (main_arg4 : FVec F S1x4096x9216 .f32) (main_arg5 : FVec F S1024x1024 .f32) (main_arg6 : FVec F S1x1024 .f32) (main_arg7 : FVec F S1024 .f32) (main_arg8 : FVec F S1024 .f32) (main_arg9 : FVec F S1024 .f32) : IVec S1x4096x1024 1 × IVec S1x4096x1024 1 × IVec S1x4096x8x128 1 × IVec S1x4096x8x128 1 × IVec S1x4096x9216 1 × IVec S1024x1024 1 × IVec S1x1024 1 × IVec S1024 1 × IVec S1024 1 × IVec S1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  let main_v9 : FVec F S1x4096x8x128 .f32 := Host.absf main_arg3
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_v12 : FVec F S1x4096x9216 .f32 := Host.absf main_arg4
  let main_cst_3 : FVec F S_ .f32 := constant S_ .f32 0x7F800000#32
  let main_v13 : FVec F S1x4096x9216 .f32 := broadcastInDim S1x4096x9216 ![] bcast_S_S1x4096x9216 main_cst_3
  let main_v14 : IVec S1x4096x9216 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_arg9 main_v2 main_v5 main_v8 main_v11 main_v14 main_v17
-- ==== Pre_reals.lean ====
abbrev S8x1024 : Shape := ⟨2, ![8, 1024]⟩
abbrev S8x3072 : Shape := ⟨2, ![8, 3072]⟩
abbrev S1x1024x384 : Shape := ⟨3, ![1, 1024, 384]⟩
abbrev S_ : Shape := ⟨0, ![]⟩

class Facts : Prop where
  bcast_S_S8x1024 : S_.BroadcastsInDim S8x1024 (![] : Fin 0 → Fin S8x1024.rank)
  bcast_S_S8x3072 : S_.BroadcastsInDim S8x3072 (![] : Fin 0 → Fin S8x3072.rank)

variable [Facts]

def fn {F : FTy → Type} [FloatOps F] (main_arg0 : FVec F S8x1024 .f32) (main_arg1 : FVec F S8x3072 .f32) (main_arg2 : FVec F S1x1024x384 .f32) (main_arg3 : FVec F S1x1024x384 .f32) (main_arg4 : FVec F S1x1024x384 .f32) : IVec S8x1024 1 × IVec S8x3072 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S8x3072 .f32 := Host.absf main_arg1
  let main_cst_0 : FVec F S_ .f32 := constant S_ .f32 0x7F800000#32
  let main_v4 : FVec F S8x3072 .f32 := broadcastInDim S8x3072 ![] bcast_S_S8x3072 main_cst_0
  let main_v5 : IVec S8x3072 1 := cmpf .olt main_v3 main_v4
  (main_v2, main_v5)
-- ==== Inp.lean ====
abbrev S1x4096x1024 : Shape := ⟨3, ![1, 4096, 1024]⟩
abbrev S1x1024 : Shape := ⟨2, ![1, 1024]⟩
abbrev S1024x9216 : Shape := ⟨2, ![1024, 9216]⟩
abbrev S1x4096x9216 : Shape := ⟨3, ![1, 4096, 9216]⟩
abbrev S9216x1024 : Shape := ⟨2, ![9216, 1024]⟩
abbrev S_ : Shape := ⟨0, ![]⟩
abbrev S8x128 : Shape := ⟨2, ![8, 128]⟩
abbrev S4096x9216 : Shape := ⟨2, ![4096, 9216]⟩
abbrev S4096x72x128 : Shape := ⟨3, ![4096, 72, 128]⟩
abbrev S72x4096x128 : Shape := ⟨3, ![72, 4096, 128]⟩
abbrev S4096x1024 : Shape := ⟨2, ![4096, 1024]⟩
abbrev S8x1024 : Shape := ⟨2, ![8, 1024]⟩
abbrev S72x512x128 : Shape := ⟨3, ![72, 512, 128]⟩
abbrev S512x1024 : Shape := ⟨2, ![512, 1024]⟩
abbrev S1x512x128 : Shape := ⟨3, ![1, 512, 128]⟩
abbrev S512x128 : Shape := ⟨2, ![512, 128]⟩
abbrev S512x9216 : Shape := ⟨2, ![512, 9216]⟩
abbrev S512 : Shape := ⟨1, ![512]⟩
abbrev S512x1 : Shape := ⟨2, ![512, 1]⟩
abbrev S1024 : Shape := ⟨1, ![1024]⟩

abbrev nBuf : Space → Nat
  | .hbm => 22
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9216, .f32⟩
  | .hbm, ⟨5, _⟩ => ⟨S1x4096x1024, .f32⟩
  | .hbm, ⟨6, _⟩ => ⟨S1x4096x9216, .f32⟩
  | .hbm, ⟨7, _⟩ => ⟨S9216x1024, .f32⟩
  | .hbm, ⟨8, _⟩ => ⟨S9216x1024, .bf16⟩
  | .hbm, ⟨9, _⟩ => ⟨S_, .f32⟩
  | .hbm, ⟨10, _⟩ => ⟨S8x128, .f32⟩
  | .hbm, ⟨11, _⟩ => ⟨S4096x9216, .f32⟩
  | .hbm, ⟨12, _⟩ => ⟨S4096x72x128, .f32⟩
  | .hbm, ⟨13, _⟩ => ⟨S72x4096x128, .f32⟩
  | .hbm, ⟨14, _⟩ => ⟨S72x4096x128, .bf16⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S4096x1024, .f32⟩
  | .hbm, ⟨21, _⟩ => ⟨S8x1024, .f32⟩
  | .local _ .vmem, ⟨0, _⟩ => ⟨S72x512x128, .bf16⟩
  | .local _ .vmem, ⟨1, _⟩ => ⟨S72x512x128, .bf16⟩
  | .local _ .vmem, ⟨2, _⟩ => ⟨S8x128, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S9216x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S72x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InpRefIdeal.lean ====
abbrev S1x4096x1024 : Shape := ⟨3, ![1, 4096, 1024]⟩
abbrev S1x1024 : Shape := ⟨2, ![1, 1024]⟩
abbrev S1024x9216 : Shape := ⟨2, ![1024, 9216]⟩
abbrev S1x4096x9216 : Shape := ⟨3, ![1, 4096, 9216]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩
abbrev S4096x1024 : Shape := ⟨2, ![4096, 1024]⟩
abbrev S5x1024 : Shape := ⟨2, ![5, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9216, .f32⟩
  | .hbm, ⟨5, _⟩ => ⟨S1x4096x1024, .f32⟩
  | .hbm, ⟨6, _⟩ => ⟨S1x4096x9216, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S1x4096x9216, .f32⟩
  | .hbm, ⟨38, _⟩ => ⟨S1x4096x1024, .f32⟩
  | .hbm, ⟨39, _⟩ => ⟨S_, .f32⟩
  | .hbm, ⟨40, _⟩ => ⟨S1x1024, .f32⟩
  | .hbm, ⟨41, _⟩ => ⟨S1x1x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x4096x1024, .f32⟩
  | .hbm, ⟨46, _⟩ => ⟨S_, .f32⟩
  | .hbm, ⟨47, _⟩ => ⟨S1x1024, .f32⟩
  | .hbm, ⟨48, _⟩ => ⟨S1x1x1024, .f32⟩
  | .hbm, ⟨49, _⟩ => ⟨S1x4096x1024, .f32⟩
  | .hbm, ⟨50, _⟩ => ⟨S1x4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S1x4096x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1024, .f32⟩
  | .hbm, ⟨62, _⟩ => ⟨S1x4096x1024, .f32⟩
  | .hbm, ⟨63, _⟩ => ⟨S_, .f32⟩
  | .hbm, ⟨64, _⟩ => ⟨S1x4096, .f32⟩
  | .hbm, ⟨65, _⟩ => ⟨S1x4096x1, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1, .f32⟩
  | .hbm, ⟨70, _⟩ => ⟨S_, .f32⟩
  | .hbm, ⟨71, _⟩ => ⟨S1x4096x1, .f32⟩
  | .hbm, ⟨72, _⟩ => ⟨S1x4096x1, .f32⟩
  | .hbm, ⟨73, _⟩ => ⟨S_, .f32⟩
  | .hbm, ⟨74, _⟩ => ⟨S4096, .f32⟩
  | .hbm, ⟨75, _⟩ => ⟨S1x4096, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x1024, .f32⟩
  | .hbm, ⟨82, _⟩ => ⟨S4096x1024, .f32⟩
  | .hbm, ⟨83, _⟩ => ⟨S_, .f32⟩
  | .hbm, ⟨84, _⟩ => ⟨S5x1024, .f32⟩
  | .hbm, ⟨85, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Mid.lean ====
abbrev S1x4096x1024 : Shape := ⟨3, ![1, 4096, 1024]⟩
abbrev S1x4096x8x128 : Shape := ⟨4, ![1, 4096, 8, 128]⟩
abbrev S1x4096x9216 : Shape := ⟨3, ![1, 4096, 9216]⟩
abbrev S1024x1024 : Shape := ⟨2, ![1024, 1024]⟩
abbrev S1x1024 : Shape := ⟨2, ![1, 1024]⟩
abbrev S1024 : Shape := ⟨1, ![1024]⟩
abbrev S4096x1024 : Shape := ⟨2, ![4096, 1024]⟩
abbrev S4096x8x128 : Shape := ⟨3, ![4096, 8, 128]⟩
abbrev S8x4096x128 : Shape := ⟨3, ![8, 4096, 128]⟩
abbrev S4096x9216 : Shape := ⟨2, ![4096, 9216]⟩
abbrev S4096x72x128 : Shape := ⟨3, ![4096, 72, 128]⟩
abbrev S72x4096x128 : Shape := ⟨3, ![72, 4096, 128]⟩
abbrev S8x1024 : Shape := ⟨2, ![8, 1024]⟩
abbrev S256x1024 : Shape := ⟨2, ![256, 1024]⟩
abbrev S8x256x128 : Shape := ⟨3, ![8, 256, 128]⟩
abbrev S2x8x4x256x128 : Shape := ⟨5, ![2, 8, 4, 256, 128]⟩
abbrev S2x4x8x256x128 : Shape := ⟨5, ![2, 4, 8, 256, 128]⟩
abbrev S2x4 : Shape := ⟨2, ![2, 4]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x1x1x256x128 : Shape := ⟨5, ![1, 1, 1, 256, 128]⟩
abbrev S1x128 : Shape := ⟨2, ![1, 128]⟩
abbrev S1 : Shape := ⟨1, ![1]⟩
abbrev S1x1 : Shape := ⟨2, ![1, 1]⟩
abbrev S_ : Shape := ⟨0, ![]⟩
abbrev S1x1x8x256x128 : Shape := ⟨5, ![1, 1, 8, 256, 128]⟩
abbrev S128 : Shape := ⟨1, ![128]⟩

abbrev nBuf : Space → Nat
  | .hbm => 29
  | .vmem => 33
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x8x128, .f32⟩
  | .hbm, ⟨3, _⟩ => ⟨S1x4096x8x128, .f32⟩
  | .hbm, ⟨4, _⟩ => ⟨S1x4096x9216, .f32⟩
  | .hbm, ⟨5, _⟩ => ⟨S1024x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4096x1024, .f32⟩
  | .hbm, ⟨11, _⟩ => ⟨S4096x1024, .f32⟩
  | .hbm, ⟨12, _⟩ => ⟨S4096x8x128, .f32⟩
  | .hbm, ⟨13, _⟩ => ⟨S8x4096x128, .f32⟩
  | .hbm, ⟨14, _⟩ => ⟨S4096x8x128, .f32⟩
  | .hbm, ⟨15, _⟩ => ⟨S8x4096x128, .f32⟩
  | .hbm, ⟨16, _⟩ => ⟨S4096x9216, .f32⟩
  | .hbm, ⟨17, _⟩ => ⟨S4096x72x128, .f32⟩
  | .hbm, ⟨18, _⟩ => ⟨S72x4096x128, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S8x4096x128, .bf16⟩
  | .hbm, ⟨25, _⟩ => ⟨S8x4096x128, .bf16⟩
  | .hbm, ⟨26, _⟩ => ⟨S1024x1024, .f32⟩
  | .hbm, ⟨27, _⟩ => ⟨S8x1024, .f32⟩
  | .hbm, ⟨28, _⟩ => ⟨S72x4096x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x128, .f32⟩
  | .local _ .vmem, ⟨5, _⟩ => ⟨S8x256x128, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | .local _ .vmem, ⟨12, _⟩ => ⟨S8x256x128, .f32⟩
  | .local _ .vmem, ⟨13, _⟩ => ⟨S8x256x128, .f32⟩
  | .local _ .vmem, ⟨14, _⟩ => ⟨S8x256x128, .f32⟩
  | .local _ .vmem, ⟨15, _⟩ => ⟨S8x256x128, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S8x256x128, .bf16⟩
  | .local _ .vmem, ⟨24, _⟩ => ⟨S8x256x128, .bf16⟩
  | .local _ .vmem, ⟨25, _⟩ => ⟨S8x256x128, .bf16⟩
  | .local _ .vmem, ⟨26, _⟩ => ⟨S8x256x128, .bf16⟩
  | .local _ .vmem, ⟨27, _⟩ => ⟨S1024x1024, .f32⟩
  | .local _ .vmem, ⟨28, _⟩ => ⟨S8x1024, .f32⟩
  | .local _ .vmem, ⟨29, _⟩ => ⟨S256x1024, .bf16⟩
  | .local _ .vmem, ⟨30, _⟩ => ⟨S256x1024, .f32⟩
  | .local _ .vmem, ⟨31, _⟩ => ⟨S2x8x4x256x128, .f32⟩
  | .local _ .vmem, ⟨32, _⟩ => ⟨S2x4x8x256x128, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_cond3 (i : grid0.Coords) : BitVec 1 :=
  let arg0 : BitVec 32 := BitVec.ofNat 32 (i 0).val
  let c2_i32_680 : BitVec 32 := 2#32
  let v939 : BitVec 1 := Scalar.cmpi .sge arg0 c2_i32_680
  let v940 : BitVec 32 := Scalar.extui v939
  let c0_i32_681 : BitVec 32 := 0#32
  let v941 : BitVec 1 := Scalar.cmpi .ne v940 c0_i32_681
  v941

def k0_off1 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c0_i32_1419 : BitVec 32 := 0#32
  ![v938.toNat, 0]
def k0_off2 (i : grid0.Coords) : Fin 3 → Nat :=
  let c24_i32_1420 : BitVec 32 := 24#32
  let arg0 : BitVec 32 := BitVec.ofNat 32 (i 0).val
  let c256_i32 : BitVec 32 := 256#32
  let v0 : BitVec 32 := Scalar.muli arg0 c256_i32
  let v1 : BitVec 32 := v0
  let c0_i32_1421 : BitVec 32 := 0#32
  ![24, v1.toNat, 0]
def k0_off3 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c0_i32_1418 : BitVec 32 := 0#32
  let c0_i32_1422 : BitVec 32 := 0#32
  let c0_i32_1423 : BitVec 32 := 0#32
  let c0_i32_1424 : BitVec 32 := 0#32
  ![v938.toNat, 0, 0, 0, 0]
def k0_off4 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c1_i32_1426 : BitVec 32 := 1#32
  ![v938.toNat, 1]
def k0_off5 (i : grid0.Coords) : Fin 3 → Nat :=
  let c48_i32_1427 : BitVec 32 := 48#32
  let arg0 : BitVec 32 := BitVec.ofNat 32 (i 0).val
  let c256_i32 : BitVec 32 := 256#32
  let v0 : BitVec 32 := Scalar.muli arg0 c256_i32
  let v1 : BitVec 32 := v0
  let c0_i32_1428 : BitVec 32 := 0#32
  ![48, v1.toNat, 0]
def k0_off6 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c1_i32_1425 : BitVec 32 := 1#32
  let c0_i32_1429 : BitVec 32 := 0#32
  let c0_i32_1430 : BitVec 32 := 0#32
  let c0_i32_1431 : BitVec 32 := 0#32
  ![v938.toNat, 1, 0, 0, 0]
def k0_off7 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c2_i32_1433 : BitVec 32 := 2#32
  ![v938.toNat, 2]
def k0_off8 (i : grid0.Coords) : Fin 3 → Nat :=
  let c56_i32_1434 : BitVec 32 := 56#32
  let arg0 : BitVec 32 := BitVec.ofNat 32 (i 0).val
  let c256_i32 : BitVec 32 := 256#32
  let v0 : BitVec 32 := Scalar.muli arg0 c256_i32
  let v1 : BitVec 32 := v0
  let c0_i32_1435 : BitVec 32 := 0#32
  ![56, v1.toNat, 0]
def k0_off9 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c2_i32_1432 : BitVec 32 := 2#32
  let c0_i32_1436 : BitVec 32 := 0#32
  let c0_i32_1437 : BitVec 32 := 0#32
  let c0_i32_1438 : BitVec 32 := 0#32
  ![v938.toNat, 2, 0, 0, 0]
def k0_off10 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c3_i32_1440 : BitVec 32 := 3#32
  ![v938.toNat, 3]
def k0_off11 (i : grid0.Coords) : Fin 3 → Nat :=
  let c64_i32_1441 : BitVec 32 := 64#32
  let arg0 : BitVec 32 := BitVec.ofNat 32 (i 0).val
  let c256_i32 : BitVec 32 := 256#32
  let v0 : BitVec 32 := Scalar.muli arg0 c256_i32
  let v1 : BitVec 32 := v0
  let c0_i32_1442 : BitVec 32 := 0#32
  ![64, v1.toNat, 0]
def k0_off12 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c3_i32_1439 : BitVec 32 := 3#32
  let c0_i32_1443 : BitVec 32 := 0#32
  let c0_i32_1444 : BitVec 32 := 0#32
  let c0_i32_1445 : BitVec 32 := 0#32
  ![v938.toNat, 3, 0, 0, 0]
def k0_off13 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v966 : Index := Scalar.indexCast v938
  let c2_710 : Index := 2#32
  let c0_711 : Index := 0#32
  let c0_712 : Index := 0#32
  let c0_713 : Index := 0#32
  ![v966.toNat, 2, 0, 0, 0]
def k0_off14 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v979 : Index := Scalar.indexCast v938
  let c0_716 : Index := 0#32
  let c0_717 : Index := 0#32
  let c0_718 : Index := 0#32
  let c0_719 : Index := 0#32
  ![v979.toNat, 0, 0, 0, 0]
def k0_off15 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1025 : Index := Scalar.indexCast v938
  let c3_752 : Index := 3#32
  let c0_753 : Index := 0#32
  let c0_754 : Index := 0#32
  let c0_755 : Index := 0#32
  ![v1025.toNat, 3, 0, 0, 0]
def k0_off16 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1038 : Index := Scalar.indexCast v938
  let c1_758 : Index := 1#32
  let c0_759 : Index := 0#32
  let c0_760 : Index := 0#32
  let c0_761 : Index := 0#32
  ![v1038.toNat, 1, 0, 0, 0]
def k0_off17 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1085 : Index := Scalar.indexCast v938
  let c2_796 : Index := 2#32
  let c1_797 : Index := 1#32
  let c0_798 : Index := 0#32
  let c0_799 : Index := 0#32
  ![v1085.toNat, 2, 1, 0, 0]
def k0_off18 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1098 : Index := Scalar.indexCast v938
  let c0_802 : Index := 0#32
  let c1_803 : Index := 1#32
  let c0_804 : Index := 0#32
  let c0_805 : Index := 0#32
  ![v1098.toNat, 0, 1, 0, 0]
def k0_off19 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1144 : Index := Scalar.indexCast v938
  let c3_838 : Index := 3#32
  let c1_839 : Index := 1#32
  let c0_840 : Index := 0#32
  let c0_841 : Index := 0#32
  ![v1144.toNat, 3, 1, 0, 0]
def k0_off20 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1157 : Index := Scalar.indexCast v938
  let c1_844 : Index := 1#32
  let c1_845 : Index := 1#32
  let c0_846 : Index := 0#32
  let c0_847 : Index := 0#32
  ![v1157.toNat, 1, 1, 0, 0]
def k0_off21 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1204 : Index := Scalar.indexCast v938
  let c2_882 : Index := 2#32
  let c2_883 : Index := 2#32
  let c0_884 : Index := 0#32
  let c0_885 : Index := 0#32
  ![v1204.toNat, 2, 2, 0, 0]
def k0_off22 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1217 : Index := Scalar.indexCast v938
  let c0_888 : Index := 0#32
  let c2_889 : Index := 2#32
  let c0_890 : Index := 0#32
  let c0_891 : Index := 0#32
  ![v1217.toNat, 0, 2, 0, 0]
def k0_off23 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1263 : Index := Scalar.indexCast v938
  let c3_924 : Index := 3#32
  let c2_925 : Index := 2#32
  let c0_926 : Index := 0#32
  let c0_927 : Index := 0#32
  ![v1263.toNat, 3, 2, 0, 0]
def k0_off24 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1276 : Index := Scalar.indexCast v938
  let c1_930 : Index := 1#32
  let c2_931 : Index := 2#32
  let c0_932 : Index := 0#32
  let c0_933 : Index := 0#32
  ![v1276.toNat, 1, 2, 0, 0]
def k0_off25 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1323 : Index := Scalar.indexCast v938
  let c2_968 : Index := 2#32
  let c3_969 : Index := 3#32
  let c0_970 : Index := 0#32
  let c0_971 : Index := 0#32
  ![v1323.toNat, 2, 3, 0, 0]
def k0_off26 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1336 : Index := Scalar.indexCast v938
  let c0_974 : Index := 0#32
  let c3_975 : Index := 3#32
  let c0_976 : Index := 0#32
  let c0_977 : Index := 0#32
  ![v1336.toNat, 0, 3, 0, 0]
def k0_off27 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1382 : Index := Scalar.indexCast v938
  let c3_1010 : Index := 3#32
  let c3_1011 : Index := 3#32
  let c0_1012 : Index := 0#32
  let c0_1013 : Index := 0#32
  ![v1382.toNat, 3, 3, 0, 0]
def k0_off28 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1395 : Index := Scalar.indexCast v938
  let c1_1016 : Index := 1#32
  let c3_1017 : Index := 3#32
  let c0_1018 : Index := 0#32
  let c0_1019 : Index := 0#32
  ![v1395.toNat, 1, 3, 0, 0]
def k0_off29 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1442 : Index := Scalar.indexCast v938
  let c2_1054 : Index := 2#32
  let c4_1055 : Index := 4#32
  let c0_1056 : Index := 0#32
  let c0_1057 : Index := 0#32
  ![v1442.toNat, 2, 4, 0, 0]
def k0_off30 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1455 : Index := Scalar.indexCast v938
  let c0_1060 : Index := 0#32
  let c4_1061 : Index := 4#32
  let c0_1062 : Index := 0#32
  let c0_1063 : Index := 0#32
  ![v1455.toNat, 0, 4, 0, 0]
def k0_off31 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1501 : Index := Scalar.indexCast v938
  let c3_1096 : Index := 3#32
  let c4_1097 : Index := 4#32
  let c0_1098 : Index := 0#32
  let c0_1099 : Index := 0#32
  ![v1501.toNat, 3, 4, 0, 0]
def k0_off32 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1514 : Index := Scalar.indexCast v938
  let c1_1102 : Index := 1#32
  let c4_1103 : Index := 4#32
  let c0_1104 : Index := 0#32
  let c0_1105 : Index := 0#32
  ![v1514.toNat, 1, 4, 0, 0]
def k0_off33 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1561 : Index := Scalar.indexCast v938
  let c2_1140 : Index := 2#32
  let c5_1141 : Index := 5#32
  let c0_1142 : Index := 0#32
  let c0_1143 : Index := 0#32
  ![v1561.toNat, 2, 5, 0, 0]
def k0_off34 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1574 : Index := Scalar.indexCast v938
  let c0_1146 : Index := 0#32
  let c5_1147 : Index := 5#32
  let c0_1148 : Index := 0#32
  let c0_1149 : Index := 0#32
  ![v1574.toNat, 0, 5, 0, 0]
def k0_off35 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1620 : Index := Scalar.indexCast v938
  let c3_1182 : Index := 3#32
  let c5_1183 : Index := 5#32
  let c0_1184 : Index := 0#32
  let c0_1185 : Index := 0#32
  ![v1620.toNat, 3, 5, 0, 0]
def k0_off36 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1633 : Index := Scalar.indexCast v938
  let c1_1188 : Index := 1#32
  let c5_1189 : Index := 5#32
  let c0_1190 : Index := 0#32
  let c0_1191 : Index := 0#32
  ![v1633.toNat, 1, 5, 0, 0]
def k0_off37 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1680 : Index := Scalar.indexCast v938
  let c2_1226 : Index := 2#32
  let c6_1227 : Index := 6#32
  let c0_1228 : Index := 0#32
  let c0_1229 : Index := 0#32
  ![v1680.toNat, 2, 6, 0, 0]
def k0_off38 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1693 : Index := Scalar.indexCast v938
  let c0_1232 : Index := 0#32
  let c6_1233 : Index := 6#32
  let c0_1234 : Index := 0#32
  let c0_1235 : Index := 0#32
  ![v1693.toNat, 0, 6, 0, 0]
def k0_off39 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1739 : Index := Scalar.indexCast v938
  let c3_1268 : Index := 3#32
  let c6_1269 : Index := 6#32
  let c0_1270 : Index := 0#32
  let c0_1271 : Index := 0#32
  ![v1739.toNat, 3, 6, 0, 0]
def k0_off40 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1752 : Index := Scalar.indexCast v938
  let c1_1274 : Index := 1#32
  let c6_1275 : Index := 6#32
  let c0_1276 : Index := 0#32
  let c0_1277 : Index := 0#32
  ![v1752.toNat, 1, 6, 0, 0]
def k0_off41 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1799 : Index := Scalar.indexCast v938
  let c2_1312 : Index := 2#32
  let c7_1313 : Index := 7#32
  let c0_1314 : Index := 0#32
  let c0_1315 : Index := 0#32
  ![v1799.toNat, 2, 7, 0, 0]
def k0_off42 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1812 : Index := Scalar.indexCast v938
  let c0_1318 : Index := 0#32
  let c7_1319 : Index := 7#32
  let c0_1320 : Index := 0#32
  let c0_1321 : Index := 0#32
  ![v1812.toNat, 0, 7, 0, 0]
def k0_off43 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1858 : Index := Scalar.indexCast v938
  let c3_1354 : Index := 3#32
  let c7_1355 : Index := 7#32
  let c0_1356 : Index := 0#32
  let c0_1357 : Index := 0#32
  ![v1858.toNat, 3, 7, 0, 0]
def k0_off44 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1871 : Index := Scalar.indexCast v938
  let c1_1360 : Index := 1#32
  let c7_1361 : Index := 7#32
  let c0_1362 : Index := 0#32
  let c0_1363 : Index := 0#32
  ![v1871.toNat, 1, 7, 0, 0]
def k0_off45 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c0_i32_1395 : BitVec 32 := 0#32
  ![v938.toNat, 0]
def k0_off46 (i : grid0.Coords) : Fin 3 → Nat :=
  let c24_i32 : BitVec 32 := 24#32
  let arg0 : BitVec 32 := BitVec.ofNat 32 (i 0).val
  let c256_i32 : BitVec 32 := 256#32
  let v0 : BitVec 32 := Scalar.muli arg0 c256_i32
  let v1 : BitVec 32 := v0
  let c0_i32_1396 : BitVec 32 := 0#32
  ![24, v1.toNat, 0]
def k0_off47 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c0_i32_1394 : BitVec 32 := 0#32
  let c0_i32_1397 : BitVec 32 := 0#32
  let c0_i32_1398 : BitVec 32 := 0#32
  let c0_i32_1399 : BitVec 32 := 0#32
  ![v938.toNat, 0, 0, 0, 0]
def k0_off48 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c1_i32_1401 : BitVec 32 := 1#32
  ![v938.toNat, 1]
def k0_off49 (i : grid0.Coords) : Fin 3 → Nat :=
  let c48_i32 : BitVec 32 := 48#32
  let arg0 : BitVec 32 := BitVec.ofNat 32 (i 0).val
  let c256_i32 : BitVec 32 := 256#32
  let v0 : BitVec 32 := Scalar.muli arg0 c256_i32
  let v1 : BitVec 32 := v0
  let c0_i32_1402 : BitVec 32 := 0#32
  ![48, v1.toNat, 0]
def k0_off50 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c1_i32_1400 : BitVec 32 := 1#32
  let c0_i32_1403 : BitVec 32 := 0#32
  let c0_i32_1404 : BitVec 32 := 0#32
  let c0_i32_1405 : BitVec 32 := 0#32
  ![v938.toNat, 1, 0, 0, 0]
def k0_off51 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c2_i32_1407 : BitVec 32 := 2#32
  ![v938.toNat, 2]
def k0_off52 (i : grid0.Coords) : Fin 3 → Nat :=
  let c56_i32 : BitVec 32 := 56#32
  let arg0 : BitVec 32 := BitVec.ofNat 32 (i 0).val
  let c256_i32 : BitVec 32 := 256#32
  let v0 : BitVec 32 := Scalar.muli arg0 c256_i32
  let v1 : BitVec 32 := v0
  let c0_i32_1408 : BitVec 32 := 0#32
  ![56, v1.toNat, 0]
def k0_off53 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c2_i32_1406 : BitVec 32 := 2#32
  let c0_i32_1409 : BitVec 32 := 0#32
  let c0_i32_1410 : BitVec 32 := 0#32
  let c0_i32_1411 : BitVec 32 := 0#32
  ![v938.toNat, 2, 0, 0, 0]
def k0_off54 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c3_i32_1412 : BitVec 32 := 3#32
  ![v938.toNat, 3]
def k0_off55 (i : grid0.Coords) : Fin 3 → Nat :=
  let c64_i32 : BitVec 32 := 64#32
  let arg0 : BitVec 32 := BitVec.ofNat 32 (i 0).val
  let c256_i32 : BitVec 32 := 256#32
  let v0 : BitVec 32 := Scalar.muli arg0 c256_i32
  let v1 : BitVec 32 := v0
  let c0_i32_1413 : BitVec 32 := 0#32
  ![64, v1.toNat, 0]
def k0_off56 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c3_i32 : BitVec 32 := 3#32
  let c0_i32_1414 : BitVec 32 := 0#32
  let c0_i32_1415 : BitVec 32 := 0#32
  let c0_i32_1416 : BitVec 32 := 0#32
  ![v938.toNat, 3, 0, 0, 0]
def k0_cond5 (i : grid0.Coords) : BitVec 1 :=
  let arg0 : BitVec 32 := BitVec.ofNat 32 (i 0).val
  let c15_i32 : BitVec 32 := 15#32
  let v1947 : BitVec 1 := Scalar.cmpi .eq arg0 c15_i32
  let v1948 : BitVec 32 := Scalar.extui v1947
  let c0_i32_1417 : BitVec 32 := 0#32
  let v1949 : BitVec 1 := Scalar.cmpi .ne v1948 c0_i32_1417
  v1949

def k0_off57 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c0_i32_1419 : BitVec 32 := 0#32
  ![v938.toNat, 0]
def k0_off58 (i : grid0.Coords) : Fin 3 → Nat :=
  let c24_i32_1420 : BitVec 32 := 24#32
  let arg0 : BitVec 32 := BitVec.ofNat 32 (i 0).val
  let c256_i32 : BitVec 32 := 256#32
  let v0 : BitVec 32 := Scalar.muli arg0 c256_i32
  let v1 : BitVec 32 := v0
  let c0_i32_1421 : BitVec 32 := 0#32
  ![24, v1.toNat, 0]
def k0_off59 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c0_i32_1418 : BitVec 32 := 0#32
  let c0_i32_1422 : BitVec 32 := 0#32
  let c0_i32_1423 : BitVec 32 := 0#32
  let c0_i32_1424 : BitVec 32 := 0#32
  ![v938.toNat, 0, 0, 0, 0]
def k0_off60 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c1_i32_1426 : BitVec 32 := 1#32
  ![v938.toNat, 1]
def k0_off61 (i : grid0.Coords) : Fin 3 → Nat :=
  let c48_i32_1427 : BitVec 32 := 48#32
  let arg0 : BitVec 32 := BitVec.ofNat 32 (i 0).val
  let c256_i32 : BitVec 32 := 256#32
  let v0 : BitVec 32 := Scalar.muli arg0 c256_i32
  let v1 : BitVec 32 := v0
  let c0_i32_1428 : BitVec 32 := 0#32
  ![48, v1.toNat, 0]
def k0_off62 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c1_i32_1425 : BitVec 32 := 1#32
  let c0_i32_1429 : BitVec 32 := 0#32
  let c0_i32_1430 : BitVec 32 := 0#32
  let c0_i32_1431 : BitVec 32 := 0#32
  ![v938.toNat, 1, 0, 0, 0]
def k0_off63 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c2_i32_1433 : BitVec 32 := 2#32
  ![v938.toNat, 2]
def k0_off64 (i : grid0.Coords) : Fin 3 → Nat :=
  let c56_i32_1434 : BitVec 32 := 56#32
  let arg0 : BitVec 32 := BitVec.ofNat 32 (i 0).val
  let c256_i32 : BitVec 32 := 256#32
  let v0 : BitVec 32 := Scalar.muli arg0 c256_i32
  let v1 : BitVec 32 := v0
  let c0_i32_1435 : BitVec 32 := 0#32
  ![56, v1.toNat, 0]
def k0_off65 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c2_i32_1432 : BitVec 32 := 2#32
  let c0_i32_1436 : BitVec 32 := 0#32
  let c0_i32_1437 : BitVec 32 := 0#32
  let c0_i32_1438 : BitVec 32 := 0#32
  ![v938.toNat, 2, 0, 0, 0]
def k0_off66 (i : grid0.Coords) : Fin 2 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c3_i32_1440 : BitVec 32 := 3#32
  ![v938.toNat, 3]
def k0_off67 (i : grid0.Coords) : Fin 3 → Nat :=
  let c64_i32_1441 : BitVec 32 := 64#32
  let arg0 : BitVec 32 := BitVec.ofNat 32 (i 0).val
  let c256_i32 : BitVec 32 := 256#32
  let v0 : BitVec 32 := Scalar.muli arg0 c256_i32
  let v1 : BitVec 32 := v0
  let c0_i32_1442 : BitVec 32 := 0#32
  ![64, v1.toNat, 0]
def k0_off68 (i : grid0.Coords) : Fin 5 → Nat :=
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let c3_i32_1439 : BitVec 32 := 3#32
  let c0_i32_1443 : BitVec 32 := 0#32
  let c0_i32_1444 : BitVec 32 := 0#32
  let c0_i32_1445 : BitVec 32 := 0#32
  ![v938.toNat, 3, 0, 0, 0]
def k0_off69 (i : grid0.Coords) : Fin 2 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c0_i32_1448 : BitVec 32 := 0#32
  ![v1970.toNat, 0]
def k0_off70 (i : grid0.Coords) : Fin 5 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c0_i32_1447 : BitVec 32 := 0#32
  let c0_i32_1451 : BitVec 32 := 0#32
  let c0_i32_1452 : BitVec 32 := 0#32
  let c0_i32_1453 : BitVec 32 := 0#32
  ![v1970.toNat, 0, 0, 0, 0]
def k0_off71 (i : grid0.Coords) : Fin 2 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c1_i32_1455 : BitVec 32 := 1#32
  ![v1970.toNat, 1]
def k0_off72 (i : grid0.Coords) : Fin 5 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c1_i32_1454 : BitVec 32 := 1#32
  let c0_i32_1458 : BitVec 32 := 0#32
  let c0_i32_1459 : BitVec 32 := 0#32
  let c0_i32_1460 : BitVec 32 := 0#32
  ![v1970.toNat, 1, 0, 0, 0]
def k0_off73 (i : grid0.Coords) : Fin 2 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c2_i32_1462 : BitVec 32 := 2#32
  ![v1970.toNat, 2]
def k0_off74 (i : grid0.Coords) : Fin 5 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c2_i32_1461 : BitVec 32 := 2#32
  let c0_i32_1465 : BitVec 32 := 0#32
  let c0_i32_1466 : BitVec 32 := 0#32
  let c0_i32_1467 : BitVec 32 := 0#32
  ![v1970.toNat, 2, 0, 0, 0]
def k0_off75 (i : grid0.Coords) : Fin 2 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c3_i32_1469 : BitVec 32 := 3#32
  ![v1970.toNat, 3]
def k0_off76 (i : grid0.Coords) : Fin 5 → Nat :=
  let c1_i32_1446 : BitVec 32 := 1#32
  let arg0 : BitVec 32 := BitVec.ofNat 32 (i 0).val
  let c2_i32 : BitVec 32 := 2#32
  let c0_i32_676 : BitVec 32 := 0#32
  let v929 : BitVec 1 := Scalar.cmpi .eq c2_i32 c0_i32_676
  let c1_i32 : BitVec 32 := 1#32
  let v930 : BitVec 32 := Scalar.select v929 c1_i32 c2_i32
  let v931 : BitVec 32 := Scalar.remsi arg0 v930
  let c0_i32_678 : BitVec 32 := 0#32
  let v933 : BitVec 1 := Scalar.cmpi .slt v931 c0_i32_678
  let c0_i32_679 : BitVec 32 := 0#32
  let v934 : BitVec 1 := Scalar.cmpi .slt v930 c0_i32_679
  let v935 : BitVec 1 := Scalar.xori v933 v934
  let c0_i32_677 : BitVec 32 := 0#32
  let v932 : BitVec 1 := Scalar.cmpi .ne v931 c0_i32_677
  let v936 : BitVec 1 := Scalar.andi v935 v932
  let v937 : BitVec 32 := Scalar.addi v931 v930
  let v938 : BitVec 32 := Scalar.select v936 v937 v931
  let v1970 : BitVec 32 := Scalar.subi c1_i32_1446 v938
  let c3_i32_1468 : BitVec 32 := 3#32
  let c0_i32_1472 : BitVec 32 := 0#32
  let c0_i32_1473 : BitVec 32 := 0#32
  let c0_i32_1474 : BitVec 32 := 0#32
  ![v1970.toNat, 3, 0, 0, 0]
def k0_cond1 (i : grid0.Coords) : BitVec 1 :=
  let arg0 : BitVec 32 := BitVec.ofNat 32 (i 0).val
  let c0_i32 : BitVec 32 := 0#32
  let v923 : BitVec 1 := Scalar.cmpi .eq arg0 c0_i32
  let v924 : BitVec 32 := Scalar.extui v923
  let c0_i32_673 : BitVec 32 := 0#32
  let v925 : BitVec 1 := Scalar.cmpi .ne v924 c0_i32_673
  v925

def k0_cond2 (i : grid0.Coords) : BitVec 1 :=
  let arg0 : BitVec 32 := BitVec.ofNat 32 (i 0).val
  let c0_i32_674 : BitVec 32 := 0#32
  let v926 : BitVec 1 := Scalar.cmpi .sgt arg0 c0_i32_674
  let v927 : BitVec 32 := Scalar.extui v926
  let c0_i32_675 : BitVec 32 := 0#32
  let v928 : BitVec 1 := Scalar.cmpi .ne v927 c0_i32_675
  v928

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_6 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_7 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MidRefIdeal.lean ====
abbrev S1x4096x1024 : Shape := ⟨3, ![1, 4096, 1024]⟩
abbrev S1x4096x8x128 : Shape := ⟨4, ![1, 4096, 8, 128]⟩
abbrev S1x4096x9216 : Shape := ⟨3, ![1, 4096, 9216]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x4096x8 : Shape := ⟨3, ![1, 4096, 8]⟩
abbrev S1x4096x8x1 : Shape := ⟨4, ![1, 4096, 8, 1]⟩
abbrev S8x128 : Shape := ⟨2, ![8, 128]⟩
abbrev S1x1x8x128 : Shape := ⟨4, ![1, 1, 8, 128]⟩
abbrev S1x1x1024 : Shape := ⟨3, ![1, 1, 1024]⟩
abbrev S1x4096 : Shape := ⟨2, ![1, 4096]⟩
abbrev S1x4096x1 : Shape := ⟨3, ![1, 4096, 1]⟩
abbrev S4096 : Shape := ⟨1, ![4096]⟩
abbrev S1x8x128 : Shape := ⟨3, ![1, 8, 128]⟩
abbrev S4096x8 : Shape := ⟨2, ![4096, 8]⟩
abbrev S8x1024 : Shape := ⟨2, ![8, 1024]⟩
abbrev S24x4096x128 : Shape := ⟨3, ![24, 4096, 128]⟩
abbrev S4096x1024 : Shape := ⟨2, ![4096, 1024]⟩
abbrev S4096x8x128 : Shape := ⟨3, ![4096, 8, 128]⟩
abbrev S8x4096x128 : Shape := ⟨3, ![8, 4096, 128]⟩
abbrev S16x4096x128 : Shape := ⟨3, ![16, 4096, 128]⟩
abbrev S72x4096x128 : Shape := ⟨3, ![72, 4096, 128]⟩

abbrev nBuf : Space → Nat
  | .hbm => 314
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x8x128, .f32⟩
  | 3 => ⟨S1x4096x8x128, .f32⟩
  | 4 => ⟨S1x4096x9216, .f32⟩
  | 5 => ⟨S1024x1024, .f32⟩
  | 6 => ⟨S1x1024, .f32⟩
  | 7 => ⟨S1024, .f32⟩
  | 8 => ⟨S1024, .f32⟩
  | 9 => ⟨S1024, .f32⟩
  | 10 => ⟨S1x4096x1024, .f32⟩
  | 11 => ⟨S1x4096x1024, .f32⟩
  | 12 => ⟨S1x4096x1024, .f32⟩
  | 13 => ⟨S1x4096x1024, .f32⟩
  | 14 => ⟨S1x4096x8x128, .f32⟩
  | 15 => ⟨S_, .f32⟩
  | 16 => ⟨S1x4096x8, .f32⟩
  | 17 => ⟨S1x4096x8x1, .f32⟩
  | 18 => ⟨S_, .f32⟩
  | 19 => ⟨S1x4096x8x1, .f32⟩
  | 20 => ⟨S1x4096x8x1, .f32⟩
  | 21 => ⟨S_, .f32⟩
  | 22 => ⟨S1x4096x8x1, .f32⟩
  | 23 => ⟨S1x4096x8x1, .f32⟩
  | 24 => ⟨S1x4096x8x1, .f32⟩
  | 25 => ⟨S1x4096x8x1, .f32⟩
  | 26 => ⟨S_, .f32⟩
  | 27 => ⟨S1x4096x8x1, .f32⟩
  | 28 => ⟨S1x4096x8x1, .f32⟩
  | 29 => ⟨S1x4096x8x128, .f32⟩
  | 30 => ⟨S1x4096x8x128, .f32⟩
  | 31 => ⟨S8x128, .f32⟩
  | 32 => ⟨S1x1x8x128, .f32⟩
  | 33 => ⟨S1x4096x8x128, .f32⟩
  | 34 => ⟨S1x4096x8x128, .f32⟩
  | 35 => ⟨S1x4096x1024, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S_, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S1x4096x8x128, .f32⟩
  | 51 => ⟨S_, .f32⟩
  | 52 => ⟨S1x4096x8, .f32⟩
  | 53 => ⟨S1x4096x8x1, .f32⟩
  | 54 => ⟨S_, .f32⟩
  | 55 => ⟨S1x4096x8x1, .f32⟩
  | 56 => ⟨S1x4096x8x1, .f32⟩
  | 57 => ⟨S_, .f32⟩
  | 58 => ⟨S1x4096x8x1, .f32⟩
  | 59 => ⟨S1x4096x8x1, .f32⟩
  | 60 => ⟨S1x4096x8x1, .f32⟩
  | 61 => ⟨S1x4096x8x1, .f32⟩
  | 62 => ⟨S_, .f32⟩
  | 63 => ⟨S1x4096x8x1, .f32⟩
  | 64 => ⟨S1x4096x8x1, .f32⟩
  | 65 => ⟨S1x4096x8x128, .f32⟩
  | 66 => ⟨S1x4096x8x128, .f32⟩
  | 67 => ⟨S8x128, .f32⟩
  | 68 => ⟨S1x1x8x128, .f32⟩
  | 69 => ⟨S1x4096x8x128, .f32⟩
  | 70 => ⟨S1x4096x8x128, .f32⟩
  | 71 => ⟨S1x4096x1024, .f32⟩
  | 72 => ⟨S1x4096x1024, .f32⟩
  | 73 => ⟨S1x4096x1024, .f32⟩
  | 74 => ⟨S_, .f32⟩
  | 75 => ⟨S1x4096x1024, .f32⟩
  | 76 => ⟨S1x4096x1024, .f32⟩
  | 77 => ⟨S_, .f32⟩
  | 78 => ⟨S1x4096x1024, .f32⟩
  | 79 => ⟨S1x4096x1024, .f32⟩
  | 80 => ⟨S_, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S_, .f32⟩
  | 89 => ⟨S1x4096x1024, .f32⟩
  | 90 => ⟨S1x4096x1024, .f32⟩
  | 91 => ⟨S_, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S_, .f32⟩
  | 102 => ⟨S1x4096x1024, .f32⟩
  | 103 => ⟨S1x4096x1024, .f32⟩
  | 104 => ⟨S_, .f32⟩
  | 105 => ⟨S1x4096x1024, .f32⟩
  | 106 => ⟨S1x4096x1024, .f32⟩
  | 107 => ⟨S_, .f32⟩
  | 108 => ⟨S1x4096x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S1x4096x1024, .f32⟩
  | 114 => ⟨S1x1x1024, .f32⟩
  | 115 => ⟨S1x4096x1024, .f32⟩
  | 116 => ⟨S1x4096x1024, .f32⟩
  | 117 => ⟨S1x4096x1024, .f32⟩
  | 118 => ⟨S1x4096x1024, .f32⟩
  | 119 => ⟨S_, .f32⟩
  | 120 => ⟨S1x4096, .f32⟩
  | 121 => ⟨S1x4096x1, .f32⟩
  | 122 => ⟨S_, .f32⟩
  | 123 => ⟨S1x4096x1, .f32⟩
  | 124 => ⟨S1x4096x1, .f32⟩
  | 125 => ⟨S_, .f32⟩
  | 126 => ⟨S1x4096x1, .f32⟩
  | 127 => ⟨S1x4096x1, .f32⟩
  | _ => ⟨S1x4096x1024, .f32⟩

abbrev hbmTy0_1 (i : Nat) : BufTy := match i % 128 with
  | 0 => ⟨S1x4096x1, .f32⟩
  | 1 => ⟨S1x4096x1, .f32⟩
  | 2 => ⟨S_, .f32⟩
  | 3 => ⟨S1x4096x1, .f32⟩
  | 4 => ⟨S1x4096x1, .f32⟩
  | 5 => ⟨S1x4096x1024, .f32⟩
  | 6 => ⟨S1x4096x1024, .f32⟩
  | 7 => ⟨S1x1x1024, .f32⟩
  | 8 => ⟨S1x4096x1024, .f32⟩
  | 9 => ⟨S1x4096x1024, .f32⟩
  | 10 => ⟨S1x4096x1024, .f32⟩
  | 11 => ⟨S1x4096x1024, .f32⟩
  | 12 => ⟨S_, .f32⟩
  | 13 => ⟨S1x4096x1024, .f32⟩
  | 14 => ⟨S1x4096x1024, .f32⟩
  | 15 => ⟨S_, .f32⟩
  | 16 => ⟨S1x4096, .f32⟩
  | 17 => ⟨S_, .f32⟩
  | 18 => ⟨S1x4096, .f32⟩
  | 19 => ⟨S1x4096, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1x4096, .f32⟩
  | 28 => ⟨S_, .f32⟩
  | 29 => ⟨S1x4096, .f32⟩
  | 30 => ⟨S1x4096, .f32⟩
  | 31 => ⟨S1x4096x1024, .f32⟩
  | 32 => ⟨S1x4096x1024, .f32⟩
  | 33 => ⟨S1x4096x1024, .f32⟩
  | 34 => ⟨S_, .f32⟩
  | 35 => ⟨S1x1024, .f32⟩
  | 36 => ⟨S1x1x1024, .f32⟩
  | 37 => ⟨S1x4096x1024, .f32⟩
  | 38 => ⟨S1x4096x1024, .f32⟩
  | 39 => ⟨S_, .f32⟩
  | 40 => ⟨S1024, .f32⟩
  | 41 => ⟨S1x4096x1024, .f32⟩
  | 42 => ⟨S_, .f32⟩
  | 43 => ⟨S1x4096, .f32⟩
  | 44 => ⟨S1x4096x1, .f32⟩
  | 45 => ⟨S1x4096x1024, .f32⟩
  | 46 => ⟨S1x4096x1024, .f32⟩
  | 47 => ⟨S1x4096x1, .f32⟩
  | 48 => ⟨S_, .f32⟩
  | 49 => ⟨S1x4096x1, .f32⟩
  | 50 => ⟨S1x4096x1, .f32⟩
  | 51 => ⟨S_, .f32⟩
  | 52 => ⟨S4096, .f32⟩
  | 53 => ⟨S1x4096, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S_, .f32⟩
  | 63 => ⟨S1x1024, .f32⟩
  | 64 => ⟨S1x1x1024, .f32⟩
  | 65 => ⟨S_, .f32⟩
  | 66 => ⟨S1024, .f32⟩
  | 67 => ⟨S1x1024, .f32⟩
  | 68 => ⟨S1024x1024, .f32⟩
  | 69 => ⟨S1024x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x8x128, .f32⟩
  | 84 => ⟨S1x4096x8x128, .f32⟩
  | 85 => ⟨S_, .f32⟩
  | 86 => ⟨S1x8x128, .f32⟩
  | 87 => ⟨S1x1x8x128, .f32⟩
  | 88 => ⟨S1x4096x8x128, .f32⟩
  | 89 => ⟨S1x4096x8x128, .f32⟩
  | 90 => ⟨S_, .f32⟩
  | 91 => ⟨S8x128, .f32⟩
  | 92 => ⟨S1024, .f32⟩
  | 93 => ⟨S1x4096x8x128, .f32⟩
  | 94 => ⟨S_, .f32⟩
  | 95 => ⟨S1x4096x8, .f32⟩
  | 96 => ⟨S1x4096x8x1, .f32⟩
  | 97 => ⟨S1x4096x8x128, .f32⟩
  | 98 => ⟨S1x4096x8x128, .f32⟩
  | 99 => ⟨S1x4096x8x1, .f32⟩
  | 100 => ⟨S_, .f32⟩
  | 101 => ⟨S1x4096x8x1, .f32⟩
  | 102 => ⟨S1x4096x8x1, .f32⟩
  | 103 => ⟨S_, .f32⟩
  | 104 => ⟨S4096x8, .f32⟩
  | 105 => ⟨S1x4096x8, .f32⟩
  | 106 => ⟨S1x4096x8x128, .f32⟩
  | 107 => ⟨S1x4096x8x128, .f32⟩
  | 108 => ⟨S1x4096x8x128, .f32⟩
  | 109 => ⟨S1x4096x8x128, .f32⟩
  | 110 => ⟨S1x4096x8x128, .f32⟩
  | 111 => ⟨S1x4096x1024, .f32⟩
  | 112 => ⟨S1x4096x1024, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x4096x8x128, .f32⟩
  | 118 => ⟨S1x4096x8x128, .f32⟩
  | 119 => ⟨S_, .f32⟩
  | 120 => ⟨S1x8x128, .f32⟩
  | 121 => ⟨S1x1x8x128, .f32⟩
  | 122 => ⟨S1x4096x8x128, .f32⟩
  | 123 => ⟨S1x4096x8x128, .f32⟩
  | 124 => ⟨S_, .f32⟩
  | 125 => ⟨S8x128, .f32⟩
  | 126 => ⟨S1024, .f32⟩
  | 127 => ⟨S1x4096x8x128, .f32⟩
  | _ => ⟨S1x4096x1024, .f32⟩

abbrev hbmTy0_2 (i : Nat) : BufTy := match i % 128 with
  | 0 => ⟨S_, .f32⟩
  | 1 => ⟨S1x4096x8, .f32⟩
  | 2 => ⟨S1x4096x8x1, .f32⟩
  | 3 => ⟨S1x4096x8x128, .f32⟩
  | 4 => ⟨S1x4096x8x128, .f32⟩
  | 5 => ⟨S1x4096x8x1, .f32⟩
  | 6 => ⟨S_, .f32⟩
  | 7 => ⟨S1x4096x8x1, .f32⟩
  | 8 => ⟨S1x4096x8x1, .f32⟩
  | 9 => ⟨S_, .f32⟩
  | 10 => ⟨S4096x8, .f32⟩
  | 11 => ⟨S1x4096x8, .f32⟩
  | 12 => ⟨S1x4096x8x128, .f32⟩
  | 13 => ⟨S1x4096x8x128, .f32⟩
  | 14 => ⟨S1x4096x8x128, .f32⟩
  | 15 => ⟨S1x4096x8x128, .f32⟩
  | 16 => ⟨S1x4096x8x128, .f32⟩
  | 17 => ⟨S1024, .f32⟩
  | 18 => ⟨S1024, .f32⟩
  | 19 => ⟨S_, .f32⟩
  | 20 => ⟨S1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S8x1024, .f32⟩
  | 30 => ⟨S_, .bf16⟩
  | 31 => ⟨S24x4096x128, .bf16⟩
  | 32 => ⟨S4096x1024, .f32⟩
  | 33 => ⟨S4096x8x128, .f32⟩
  | 34 => ⟨S8x4096x128, .f32⟩
  | 35 => ⟨S8x4096x128, .bf16⟩
  | 36 => ⟨S_, .bf16⟩
  | 37 => ⟨S16x4096x128, .bf16⟩
  | 38 => ⟨S4096x1024, .f32⟩
  | 39 => ⟨S4096x8x128, .f32⟩
  | 40 => ⟨S8x4096x128, .f32⟩
  | 41 => ⟨S8x4096x128, .bf16⟩
  | 42 => ⟨S4096x1024, .f32⟩
  | 43 => ⟨S4096x8x128, .f32⟩
  | 44 => ⟨S8x4096x128, .f32⟩
  | 45 => ⟨S8x4096x128, .bf16⟩
  | 46 => ⟨S4096x1024, .f32⟩
  | 47 => ⟨S4096x8x128, .f32⟩
  | 48 => ⟨S8x4096x128, .f32⟩
  | 49 => ⟨S8x4096x128, .bf16⟩
  | 50 => ⟨S72x4096x128, .bf16⟩
  | 51 => ⟨S4096x1024, .f32⟩
  | 52 => ⟨S4096x8x128, .f32⟩
  | 53 => ⟨S8x4096x128, .f32⟩
  | 54 => ⟨S8x4096x128, .bf16⟩
  | 55 => ⟨S4096x8x128, .f32⟩
  | 56 => ⟨S8x4096x128, .f32⟩
  | 57 => ⟨S8x4096x128, .bf16⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v22_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v22_1 : Ref sig .tc := ⟨.hbm, 47, rfl⟩
abbrev main_v22_0 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_v42_2 : Ref sig .tc := ⟨.hbm, 79, rfl⟩
abbrev main_call1_cst_1 : Ref sig .tc := ⟨.hbm, 80, rfl⟩
abbrev main_call1_v6 : Ref sig .tc := ⟨.hbm, 81, rfl⟩
abbrev main_call1_v7 : Ref sig .tc := ⟨.hbm, 82, rfl⟩
abbrev main_v42_1 : Ref sig .tc := ⟨.hbm, 83, rfl⟩
abbrev main_v42_0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_7 : Ref sig .tc := ⟨.hbm, 88, rfl⟩
abbrev main_v46 : Ref sig .tc := ⟨.hbm, 89, rfl⟩
abbrev main_v47 : Ref sig .tc := ⟨.hbm, 90, rfl⟩
abbrev main_cst_8 : Ref sig .tc := ⟨.hbm, 91, rfl⟩
abbrev main_v48 : Ref sig .tc := ⟨.hbm, 92, rfl⟩
abbrev main_v49 : Ref sig .tc := ⟨.hbm, 93, rfl⟩
abbrev main_cst_9 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_13 : Ref sig .tc := ⟨.hbm, 119, rfl⟩
abbrev main_v71 : Ref sig .tc := ⟨.hbm, 120, rfl⟩
abbrev main_v72 : Ref sig .tc := ⟨.hbm, 121, rfl⟩
abbrev main_cst_14 : Ref sig .tc := ⟨.hbm, 122, rfl⟩
abbrev main_v73 : Ref sig .tc := ⟨.hbm, 123, rfl⟩
abbrev main_v74 : Ref sig .tc := ⟨.hbm, 124, rfl⟩
abbrev main_cst_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_16 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_17 : Ref sig .tc := ⟨.hbm, 140, rfl⟩
abbrev main_v88 : Ref sig .tc := ⟨.hbm, 141, rfl⟩
abbrev main_v89 : Ref sig .tc := ⟨.hbm, 142, rfl⟩
abbrev main_cst_18 : Ref sig .tc := ⟨.hbm, 143, rfl⟩
abbrev main_v90 : Ref sig .tc := ⟨.hbm, 144, rfl⟩
abbrev main_cst_19 : Ref sig .tc := ⟨.hbm, 145, rfl⟩
abbrev main_v91 : Ref sig .tc := ⟨.hbm, 146, rfl⟩
abbrev main_v92 : Ref sig .tc := ⟨.hbm, 147, rfl⟩
abbrev main_cst_20 : Ref sig .tc := ⟨.hbm, 148, rfl⟩
abbrev main_v93 : Ref sig .tc := ⟨.hbm, 149, rfl⟩
abbrev main_cst_21 : Ref sig .tc := ⟨.hbm, 150, rfl⟩
abbrev main_v94 : Ref sig .tc := ⟨.hbm, 151, rfl⟩
abbrev main_cst_22 : Ref sig .tc := ⟨.hbm, 152, rfl⟩
abbrev main_cst_23 : Ref sig .tc := ⟨.hbm, 153, rfl⟩
abbrev main_v95 : Ref sig .tc := ⟨.hbm, 154, rfl⟩
abbrev main_v96 : Ref sig .tc := ⟨.hbm, 155, rfl⟩
abbrev main_cst_24 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_25 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_26 : Ref sig .tc := ⟨.hbm, 167, rfl⟩
abbrev main_v106 : Ref sig .tc := ⟨.hbm, 168, rfl⟩
abbrev main_v107 : Ref sig .tc := ⟨.hbm, 169, rfl⟩
abbrev main_cst_27 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_28 : Ref sig .tc := ⟨.hbm, 176, rfl⟩
abbrev main_v113 : Ref sig .tc := ⟨.hbm, 177, rfl⟩
abbrev main_v114 : Ref sig .tc := ⟨.hbm, 178, rfl⟩
abbrev main_cst_29 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_30 : Ref sig .tc := ⟨.hbm, 190, rfl⟩
abbrev main_v125 : Ref sig .tc := ⟨.hbm, 191, rfl⟩
abbrev main_v126 : Ref sig .tc := ⟨.hbm, 192, rfl⟩
abbrev main_cst_31 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_call2_v0 : Ref sig .tc := ⟨.hbm, 207, rfl⟩
abbrev main_call2_v1 : Ref sig .tc := ⟨.hbm, 208, rfl⟩
abbrev main_call2_v2 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_32 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_33 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_34 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_35 : Ref sig .tc := ⟨.hbm, 228, rfl⟩
abbrev main_v155 : Ref sig .tc := ⟨.hbm, 229, rfl⟩
abbrev main_v156 : Ref sig .tc := ⟨.hbm, 230, rfl⟩
abbrev main_cst_36 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_call3_v0 : Ref sig .tc := ⟨.hbm, 241, rfl⟩
abbrev main_call3_v1 : Ref sig .tc := ⟨.hbm, 242, rfl⟩
abbrev main_call3_v2 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_cst_37 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_cst_38 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_cst_39 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_cst_40 : Ref sig .tc := ⟨.hbm, 262, rfl⟩
abbrev main_v181 : Ref sig .tc := ⟨.hbm, 263, rfl⟩
abbrev main_v182 : Ref sig .tc := ⟨.hbm, 264, rfl⟩
abbrev main_cst_41 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_cst_42 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_cst_43 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_cst_44 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩

abbrev nD : Nat := 1
abbrev τ : Topo := Topo.v7x

variable {F : FTy → Type} [FloatOps F]
-- ==== Ret.lean ====
abbrev S1x4096x9216 : Shape := ⟨3, ![1, 4096, 9216]⟩
abbrev S_ : Shape := ⟨0, ![]⟩
abbrev S31 : Shape := ⟨1, ![31]⟩
abbrev S1 : Shape := ⟨1, ![1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x9216 : Shape := ⟨2, ![4096, 9216]⟩
abbrev S4096x72x128 : Shape := ⟨3, ![4096, 72, 128]⟩
abbrev S72x4096x128 : Shape := ⟨3, ![72, 4096, 128]⟩
abbrev S8x4096x128 : Shape := ⟨3, ![8, 4096, 128]⟩
abbrev S8x32x128x128 : Shape := ⟨4, ![8, 32, 128, 128]⟩
abbrev S1x2048x128 : Shape := ⟨3, ![1, 2048, 128]⟩
abbrev S2x2048x128 : Shape := ⟨3, ![2, 2048, 128]⟩
abbrev S2048x128 : Shape := ⟨2, ![2048, 128]⟩
abbrev S2x16x128x128 : Shape := ⟨4, ![2, 16, 128, 128]⟩
abbrev S2x128x128 : Shape := ⟨3, ![2, 128, 128]⟩
abbrev S1x128 : Shape := ⟨2, ![1, 128]⟩
abbrev S128x128 : Shape := ⟨2, ![128, 128]⟩
abbrev S1x1 : Shape := ⟨2, ![1, 1]⟩
abbrev S1x128x128 : Shape := ⟨3, ![1, 128, 128]⟩
abbrev S1x1x128x128 : Shape := ⟨4, ![1, 1, 128, 128]⟩

abbrev nBuf : Space → Nat
  | .hbm => 47
  | .vmem => 15
  | .smem => 0
  | _ => 0

abbrev bufTy : (tb : Table) → Fin (tcTables nBuf tb) → BufTy
  | .hbm, ⟨0, _⟩ => ⟨S1x4096x9216, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S31, .f32⟩
  | .hbm, ⟨9, _⟩ => ⟨S_, .f32⟩
  | .hbm, ⟨10, _⟩ => ⟨S31, .f32⟩
  | .hbm, ⟨11, _⟩ => ⟨S31, .f32⟩
  | .hbm, ⟨12, _⟩ => ⟨S1, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S1, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S4096, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S4096x32, .f32⟩
  | .hbm, ⟨40, _⟩ => ⟨S4096x32, .f32⟩
  | .hbm, ⟨41, _⟩ => ⟨S4096x128, .f32⟩
  | .hbm, ⟨42, _⟩ => ⟨S4096x9216, .f32⟩
  | .hbm, ⟨43, _⟩ => ⟨S4096x72x128, .f32⟩
  | .hbm, ⟨44, _⟩ => ⟨S72x4096x128, .f32⟩
  | .hbm, ⟨45, _⟩ => ⟨S8x4096x128, .f32⟩
  | .hbm, ⟨46, _⟩ => ⟨S8x32x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2x2048x128, .f32⟩
  | .local _ .vmem, ⟨5, _⟩ => ⟨S2x2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2x2048x128, .f32⟩
  | .local _ .vmem, ⟨11, _⟩ => ⟨S2x2048x128, .f32⟩
  | .local _ .vmem, ⟨12, _⟩ => ⟨S2x16x128x128, .f32⟩
  | .local _ .vmem, ⟨13, _⟩ => ⟨S2x16x128x128, .f32⟩
  | .local _ .vmem, ⟨14, _⟩ => ⟨S2x128x128, .f32⟩
  | _, _ => ⟨S1x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20_0 : Ref sig .tc := ⟨.hbm, 45, rfl⟩
abbrev main_v20_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_mult1 : BitVec 32 :=
  let c0_i32_22 : BitVec 32 := 0#32
  let c128_i32 : BitVec 32 := 128#32
  let v89 : BitVec 32 := Scalar.muli c0_i32_22 c128_i32
  v89
def k0_off1 (c0_i32_22 : BitVec 32) : Fin 2 → Nat :=
  let c128_i32 : BitVec 32 := 128#32
  let v89 : BitVec 32 := Scalar.muli c0_i32_22 c128_i32
  let v90 : BitVec 32 := v89
  let v91 : Index := Scalar.indexCast v90
  let c0 : Index := 0#32
  ![v91.toNat, 0]
def k0_off2 (c0_i32_22 : BitVec 32) : Fin 3 → Nat :=
  let c0_24 : Index := 0#32
  let c128_i32 : BitVec 32 := 128#32
  let v89 : BitVec 32 := Scalar.muli c0_i32_22 c128_i32
  let v90 : BitVec 32 := v89
  let v97 : Index := Scalar.indexCast v90
  let c0_25 : Index := 0#32
  ![0, v97.toNat, 0]
def k0_off3 (c0_i32_22 : BitVec 32) : Fin 3 → Nat :=
  let c0_41 : Index := 0#32
  let c128_i32 : BitVec 32 := 128#32
  let v89 : BitVec 32 := Scalar.muli c0_i32_22 c128_i32
  let v90 : BitVec 32 := v89
  let v160 : Index := Scalar.indexCast v90
  let c0_42 : Index := 0#32
  ![0, v160.toNat, 0]
def k0_off4 (c0_i32_22 : BitVec 32) : Fin 3 → Nat :=
  let c1 : Index := 1#32
  let c128_i32 : BitVec 32 := 128#32
  let v89 : BitVec 32 := Scalar.muli c0_i32_22 c128_i32
  let v90 : BitVec 32 := v89
  let v228 : Index := Scalar.indexCast v90
  let c0_66 : Index := 0#32
  ![1, v228.toNat, 0]
def k0_mult2 : BitVec 32 :=
  let c1_i32_82 : BitVec 32 := 1#32
  let c128_i32_83 : BitVec 32 := 128#32
  let v263 : BitVec 32 := Scalar.muli c1_i32_82 c128_i32_83
  v263
def k0_mult3 : BitVec 32 :=
  let c2_i32_149 : BitVec 32 := 2#32
  let c128_i32_150 : BitVec 32 := 128#32
  let v437 : BitVec 32 := Scalar.muli c2_i32_149 c128_i32_150
  v437
def k0_mult4 : BitVec 32 :=
  let c3_i32 : BitVec 32 := 3#32
  let c128_i32_216 : BitVec 32 := 128#32
  let v611 : BitVec 32 := Scalar.muli c3_i32 c128_i32_216
  v611
def k0_mult5 : BitVec 32 :=
  let c4_i32 : BitVec 32 := 4#32
  let c128_i32_282 : BitVec 32 := 128#32
  let v785 : BitVec 32 := Scalar.muli c4_i32 c128_i32_282
  v785
def k0_mult6 : BitVec 32 :=
  let c5_i32 : BitVec 32 := 5#32
  let c128_i32_348 : BitVec 32 := 128#32
  let v959 : BitVec 32 := Scalar.muli c5_i32 c128_i32_348
  v959
def k0_mult7 : BitVec 32 :=
  let c6_i32 : BitVec 32 := 6#32
  let c128_i32_414 : BitVec 32 := 128#32
  let v1133 : BitVec 32 := Scalar.muli c6_i32 c128_i32_414
  v1133
def k0_mult8 : BitVec 32 :=
  let c7_i32 : BitVec 32 := 7#32
  let c128_i32_480 : BitVec 32 := 128#32
  let v1307 : BitVec 32 := Scalar.muli c7_i32 c128_i32_480
  v1307
def k0_mult9 : BitVec 32 :=
  let c8_i32 : BitVec 32 := 8#32
  let c128_i32_546 : BitVec 32 := 128#32
  let v1481 : BitVec 32 := Scalar.muli c8_i32 c128_i32_546
  v1481
def k0_mult10 : BitVec 32 :=
  let c9_i32 : BitVec 32 := 9#32
  let c128_i32_612 : BitVec 32 := 128#32
  let v1655 : BitVec 32 := Scalar.muli c9_i32 c128_i32_612
  v1655
def k0_mult11 : BitVec 32 :=
  let c10_i32 : BitVec 32 := 10#32
  let c128_i32_678 : BitVec 32 := 128#32
  let v1829 : BitVec 32 := Scalar.muli c10_i32 c128_i32_678
  v1829
def k0_mult12 : BitVec 32 :=
  let c11_i32 : BitVec 32 := 11#32
  let c128_i32_744 : BitVec 32 := 128#32
  let v2003 : BitVec 32 := Scalar.muli c11_i32 c128_i32_744
  v2003
def k0_mult13 : BitVec 32 :=
  let c12_i32 : BitVec 32 := 12#32
  let c128_i32_810 : BitVec 32 := 128#32
  let v2177 : BitVec 32 := Scalar.muli c12_i32 c128_i32_810
  v2177
def k0_mult14 : BitVec 32 :=
  let c13_i32 : BitVec 32 := 13#32
  let c128_i32_876 : BitVec 32 := 128#32
  let v2351 : BitVec 32 := Scalar.muli c13_i32 c128_i32_876
  v2351
def k0_mult15 : BitVec 32 :=
  let c14_i32 : BitVec 32 := 14#32
  let c128_i32_942 : BitVec 32 := 128#32
  let v2525 : BitVec 32 := Scalar.muli c14_i32 c128_i32_942
  v2525
def k0_mult16 : BitVec 32 :=
  let c15_i32 : BitVec 32 := 15#32
  let c128_i32_1008 : BitVec 32 := 128#32
  let v2699 : BitVec 32 := Scalar.muli c15_i32 c128_i32_1008
  v2699
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RetRefIdeal.lean ====
abbrev S1x4096x9216 : Shape := ⟨3, ![1, 4096, 9216]⟩
abbrev S4096 : Shape := ⟨1, ![4096]⟩
abbrev S1x4096x512 : Shape := ⟨3, ![1, 4096, 512]⟩
abbrev S1x4096x8x64 : Shape := ⟨4, ![1, 4096, 8, 64]⟩
abbrev S_ : Shape := ⟨0, ![]⟩
abbrev S31 : Shape := ⟨1, ![31]⟩
abbrev S1 : Shape := ⟨1, ![1]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S1x4096x1024 : Shape := ⟨3, ![1, 4096, 1024]⟩
abbrev S1x4096x8x128 : Shape := ⟨4, ![1, 4096, 8, 128]⟩
abbrev S8 : Shape := ⟨1, ![8]⟩
abbrev S1x32x128x8x64 : Shape := ⟨5, ![1, 32, 128, 8, 64]⟩
abbrev S1x8x32x128x64 : Shape := ⟨5, ![1, 8, 32, 128, 64]⟩
abbrev S1x32x128x8x128 : Shape := ⟨5, ![1, 32, 128, 8, 128]⟩
abbrev S1x8x32x128x128 : Shape := ⟨5, ![1, 8, 32, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1x128x128 : Shape := ⟨4, ![8, 1, 128, 128]⟩
abbrev S1x8x1x128x128 : Shape := ⟨5, ![1, 8, 1, 128, 128]⟩
abbrev S8x1 : Shape := ⟨2, ![8, 1]⟩
abbrev S8x128 : Shape := ⟨2, ![8, 128]⟩
abbrev S8x1x128x1 : Shape := ⟨4, ![8, 1, 128, 1]⟩
abbrev S1x8x1x128x1 : Shape := ⟨5, ![1, 8, 1, 128, 1]⟩
abbrev S1x8x32x64x128 : Shape := ⟨5, ![1, 8, 32, 64, 128]⟩
abbrev S1x8x1x1 : Shape := ⟨4, ![1, 8, 1, 1]⟩
abbrev S1x8x64x128 : Shape := ⟨4, ![1, 8, 64, 128]⟩
abbrev S32x1x8x64x128 : Shape := ⟨5, ![32, 1, 8, 64, 128]⟩
abbrev S1x1x8x64x128 : Shape := ⟨5, ![1, 1, 8, 64, 128]⟩
abbrev S8x32x64x128 : Shape := ⟨4, ![8, 32, 64, 128]⟩
abbrev S8x32x128x64 : Shape := ⟨4, ![8, 32, 128, 64]⟩
abbrev S8x32x128x128 : Shape := ⟨4, ![8, 32, 128, 128]⟩
abbrev S4096x8x128 : Shape := ⟨3, ![4096, 8, 128]⟩
abbrev S8x4096x128 : Shape := ⟨3, ![8, 4096, 128]⟩

abbrev nBuf : Space → Nat
  | .hbm => 250
  | .vmem => 0
  | .smem => 0
  | _ => 0

abbrev hbmTy0_0 (i : Nat) : BufTy := match i % 128 with
  | 0 => ⟨S1x4096x9216, .f32⟩
  | 1 => ⟨S4096, .i32⟩
  | 2 => ⟨S1x4096x512, .f32⟩
  | 3 => ⟨S1x4096x8x64, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S31, .f32⟩
  | 12 => ⟨S_, .f32⟩
  | 13 => ⟨S31, .f32⟩
  | 14 => ⟨S31, .f32⟩
  | 15 => ⟨S1, .f32⟩
  | 16 => ⟨S_, .f32⟩
  | 17 => ⟨S31, .f32⟩
  | 18 => ⟨S31, .f32⟩
  | 19 => ⟨S31, .f32⟩
  | 20 => ⟨S31, .f32⟩
  | 21 => ⟨S1, .f32⟩
  | 22 => ⟨S31, .f32⟩
  | 23 => ⟨S31, .f32⟩
  | 24 => ⟨S31, .f32⟩
  | 25 => ⟨S1, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S4096, .f32⟩
  | 34 => ⟨S4096x1, .f32⟩
  | 35 => ⟨S1x32, .f32⟩
  | 36 => ⟨S4096x32, .f32⟩
  | 37 => ⟨S4096x32, .f32⟩
  | 38 => ⟨S4096x32, .f32⟩
  | 39 => ⟨S4096x32, .f32⟩
  | 40 => ⟨S1x4096x1x32, .f32⟩
  | 41 => ⟨S4096x32, .f32⟩
  | 42 => ⟨S1x4096x1x32, .f32⟩
  | 43 => ⟨S1x4096x8x32, .f32⟩
  | 44 => ⟨S1x4096x8x32, .f32⟩
  | 45 => ⟨S1x4096x8x32, .f32⟩
  | 46 => ⟨S1x4096x8x32, .f32⟩
  | 47 => ⟨S1x4096x8x32, .f32⟩
  | 48 => ⟨S1x4096x8x32, .f32⟩
  | 49 => ⟨S1x4096x8x32, .f32⟩
  | 50 => ⟨S1x4096x8x32, .f32⟩
  | 51 => ⟨S1x4096x8x32, .f32⟩
  | 52 => ⟨S1x4096x8x32, .f32⟩
  | 53 => ⟨S1x4096x8x32, .f32⟩
  | 54 => ⟨S1x4096x8x32, .f32⟩
  | 55 => ⟨S1x4096x8x64, .f32⟩
  | 56 => ⟨S1x4096x512, .f32⟩
  | 57 => ⟨S1x4096x8x64, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S31, .f32⟩
  | 66 => ⟨S_, .f32⟩
  | 67 => ⟨S31, .f32⟩
  | 68 => ⟨S31, .f32⟩
  | 69 => ⟨S1, .f32⟩
  | 70 => ⟨S_, .f32⟩
  | 71 => ⟨S31, .f32⟩
  | 72 => ⟨S31, .f32⟩
  | 73 => ⟨S31, .f32⟩
  | 74 => ⟨S31, .f32⟩
  | 75 => ⟨S1, .f32⟩
  | 76 => ⟨S31, .f32⟩
  | 77 => ⟨S31, .f32⟩
  | 78 => ⟨S31, .f32⟩
  | 79 => ⟨S1, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S4096, .f32⟩
  | 88 => ⟨S4096x1, .f32⟩
  | 89 => ⟨S1x32, .f32⟩
  | 90 => ⟨S4096x32, .f32⟩
  | 91 => ⟨S4096x32, .f32⟩
  | 92 => ⟨S4096x32, .f32⟩
  | 93 => ⟨S4096x32, .f32⟩
  | 94 => ⟨S1x4096x1x32, .f32⟩
  | 95 => ⟨S4096x32, .f32⟩
  | 96 => ⟨S1x4096x1x32, .f32⟩
  | 97 => ⟨S1x4096x8x32, .f32⟩
  | 98 => ⟨S1x4096x8x32, .f32⟩
  | 99 => ⟨S1x4096x8x32, .f32⟩
  | 100 => ⟨S1x4096x8x32, .f32⟩
  | 101 => ⟨S1x4096x8x32, .f32⟩
  | 102 => ⟨S1x4096x8x32, .f32⟩
  | 103 => ⟨S1x4096x8x32, .f32⟩
  | 104 => ⟨S1x4096x8x32, .f32⟩
  | 105 => ⟨S1x4096x8x32, .f32⟩
  | 106 => ⟨S1x4096x8x32, .f32⟩
  | 107 => ⟨S1x4096x8x32, .f32⟩
  | 108 => ⟨S1x4096x8x32, .f32⟩
  | 109 => ⟨S1x4096x8x64, .f32⟩
  | 110 => ⟨S1x4096x1024, .f32⟩
  | 111 => ⟨S1x4096x8x128, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S_, .f32⟩
  | 125 => ⟨S1x4096x8x64, .f32⟩
  | 126 => ⟨S1x4096x8x64, .f32⟩
  | 127 => ⟨S1x32x128x8x64, .f32⟩
  | _ => ⟨S1x4096x9216, .f32⟩

abbrev hbmTy0_1 (i : Nat) : BufTy := match i % 128 with
  | 0 => ⟨S1x8x32x128x64, .f32⟩
  | 1 => ⟨S1x32x128x8x64, .f32⟩
  | 2 => ⟨S1x8x32x128x64, .f32⟩
  | 3 => ⟨S1x32x128x8x128, .f32⟩
  | 4 => ⟨S1x8x32x128x128, .f32⟩
  | 5 => ⟨S128, .f32⟩
  | 6 => ⟨S128x1, .f32⟩
  | 7 => ⟨S1x128, .f32⟩
  | 8 => ⟨S128x128, .f32⟩
  | 9 => ⟨S128x128, .f32⟩
  | 10 => ⟨S128x128, .f32⟩
  | 11 => ⟨S_, .f32⟩
  | 12 => ⟨S128x128, .f32⟩
  | 13 => ⟨S128x128, .i1⟩
  | 14 => ⟨S8x1x1, .f32⟩
  | 15 => ⟨S_, .f32⟩
  | 16 => ⟨S128x128, .f32⟩
  | 17 => ⟨S128x128, .f32⟩
  | 18 => ⟨S1x128x128, .f32⟩
  | 19 => ⟨S8x128x128, .f32⟩
  | 20 => ⟨S8x128x128, .f32⟩
  | 21 => ⟨S8x128x128, .f32⟩
  | 22 => ⟨S8x128x128, .f32⟩
  | 23 => ⟨S_, .f32⟩
  | 24 => ⟨S_, .f32⟩
  | 25 => ⟨S8x128x128, .i1⟩
  | 26 => ⟨S8x128x128, .f32⟩
  | 27 => ⟨S8x128x128, .f32⟩
  | 28 => ⟨S1x8x32x128x128, .f32⟩
  | 29 => ⟨S8x1x128x128, .f32⟩
  | 30 => ⟨S1x8x1x128x128, .f32⟩
  | 31 => ⟨S1x8x32x128x128, .f32⟩
  | 32 => ⟨S1x8x32x128x128, .f32⟩
  | 33 => ⟨S1x8x32x128x128, .f32⟩
  | 34 => ⟨S8x1, .f32⟩
  | 35 => ⟨S_, .f32⟩
  | 36 => ⟨S128, .f32⟩
  | 37 => ⟨S128, .f32⟩
  | 38 => ⟨S1x128, .f32⟩
  | 39 => ⟨S8x128, .f32⟩
  | 40 => ⟨S8x128, .f32⟩
  | 41 => ⟨S8x128, .f32⟩
  | 42 => ⟨S8x128, .f32⟩
  | 43 => ⟨S8x1x128x1, .f32⟩
  | 44 => ⟨S1x8x1x128x1, .f32⟩
  | 45 => ⟨S1x8x32x128x64, .f32⟩
  | 46 => ⟨S1x8x32x128x64, .f32⟩
  | 47 => ⟨S1x8x32x64x128, .f32⟩
  | 48 => ⟨S_, .f32⟩
  | 49 => ⟨S8, .f32⟩
  | 50 => ⟨S8, .f32⟩
  | 51 => ⟨S8, .f32⟩
  | 52 => ⟨S1x8x1x1, .f32⟩
  | 53 => ⟨S_, .f32⟩
  | 54 => ⟨S1x8x64x128, .f32⟩
  | 55 => ⟨S32x1x8x64x128, .f32⟩
  | 56 => ⟨S_, .f32⟩
  | 57 => ⟨S32x1x8x64x128, .f32⟩
  | 58 => ⟨S_, .i32⟩
  | 59 => ⟨S32x1x8x64x128, .f32⟩
  | 60 => ⟨S1x8x1x1, .f32⟩
  | 61 => ⟨S_, .i32⟩
  | 62 => ⟨S1x8x64x128, .f32⟩
  | 63 => ⟨S32x1x8x64x128, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S1x1x8x64x128, .f32⟩
  | 71 => ⟨S1x8x64x128, .f32⟩
  | 72 => ⟨S1x8x64x128, .f32⟩
  | 73 => ⟨S1x8x64x128, .f32⟩
  | 74 => ⟨S1x8x64x128, .f32⟩
  | 75 => ⟨S1x1x8x64x128, .f32⟩
  | 76 => ⟨S_, .i32⟩
  | 77 => ⟨S_, .i32⟩
  | 78 => ⟨S_, .i32⟩
  | 79 => ⟨S_, .i32⟩
  | 80 => ⟨S32x1x8x64x128, .f32⟩
  | 81 => ⟨S_, .i32⟩
  | 82 => ⟨S_, .i32⟩
  | 83 => ⟨S1x8x32x64x128, .f32⟩
  | 84 => ⟨S8x1, .f32⟩
  | 85 => ⟨S_, .f32⟩
  | 86 => ⟨S128, .f32⟩
  | 87 => ⟨S128, .f32⟩
  | 88 => ⟨S1x128, .f32⟩
  | 89 => ⟨S8x128, .f32⟩
  | 90 => ⟨S8x128, .f32⟩
  | 91 => ⟨S8x128, .f32⟩
  | 92 => ⟨S8x128, .f32⟩
  | 93 => ⟨S8x1x128x1, .f32⟩
  | 94 => ⟨S1x8x1x128x1, .f32⟩
  | 95 => ⟨S1x8x32x128x64, .f32⟩
  | 96 => ⟨S1x8x32x128x64, .f32⟩
  | 97 => ⟨S1x8x32x128x128, .f32⟩
  | 98 => ⟨S1x8x32x128x128, .f32⟩
  | 99 => ⟨S1x32x128x8x128, .f32⟩
  | 100 => ⟨S1x4096x8x128, .f32⟩
  | 101 => ⟨S8x32x64x128, .f32⟩
  | 102 => ⟨S8x32x128x64, .f32⟩
  | 103 => ⟨S8x32x128x128, .i32⟩
  | 104 => ⟨S_, .i32⟩
  | 105 => ⟨S8x32x128x128, .i32⟩
  | 106 => ⟨S8x32x128x128, .i32⟩
  | 107 => ⟨S_, .i32⟩
  | 108 => ⟨S8x32x128x128, .i32⟩
  | 109 => ⟨S8x32x128x128, .i1⟩
  | 110 => ⟨S8x32x128x128, .i32⟩
  | 111 => ⟨S_, .i32⟩
  | 112 => ⟨S8x32x128x128, .i32⟩
  | 113 => ⟨S8x32x128x128, .i1⟩
  | 114 => ⟨S4096x8x128, .f32⟩
  | 115 => ⟨S8x4096x128, .f32⟩
  | 116 => ⟨S8x32x128x128, .i1⟩
  | 117 => ⟨S8x32x128x128, .f32⟩
  | 118 => ⟨S_, .f32⟩
  | 119 => ⟨S_, .f32⟩
  | 120 => ⟨S8x32x128x128, .f32⟩
  | 121 => ⟨S8x32x128x128, .f32⟩
  | _ => ⟨S1x4096x9216, .f32⟩

abbrev hbmTy (i : Nat) : BufTy := match i / 128 with
  | 0 => hbmTy0_0 i
  | 1 => hbmTy0_1 i
  | _ => ⟨S1x4096x9216, .f32⟩

abbrev bufTy : (tb : Table) → Fin (tcTables nBuf tb) → BufTy
  | .hbm, ⟨i, _⟩ => hbmTy i
  | _, _ => ⟨S1x4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_cst_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_cst_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_cst : Ref sig .tc := ⟨.hbm, 63, rfl⟩
abbrev main_call1_v3 : Ref sig .tc := ⟨.hbm, 64, rfl⟩
abbrev main_call1_v4 : Ref sig .tc := ⟨.hbm, 65, rfl⟩
abbrev main_call1_cst_0 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_v15 : Ref sig .tc := ⟨.hbm, 78, rfl⟩
abbrev main_call1_v16 : Ref sig .tc := ⟨.hbm, 79, rfl⟩
abbrev main_v33 : Ref sig .tc := ⟨.hbm, 80, rfl⟩
abbrev main_cst_5 : Ref sig .tc := ⟨.hbm, 81, rfl⟩
abbrev main_v34 : Ref sig .tc := ⟨.hbm, 82, rfl⟩
abbrev main_v35 : Ref sig .tc := ⟨.hbm, 83, rfl⟩
abbrev main_cst_6 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_7 : Ref sig .tc := ⟨.hbm, 113, rfl⟩
abbrev main_v64 : Ref sig .tc := ⟨.hbm, 114, rfl⟩
abbrev main_v65 : Ref sig .tc := ⟨.hbm, 115, rfl⟩
abbrev main_cst_8 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_9 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_10 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_11 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_12 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_13 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_14 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_15 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_cst_16 : Ref sig .tc := ⟨.hbm, 181, rfl⟩
abbrev main_v120 : Ref sig .tc := ⟨.hbm, 182, rfl⟩
abbrev main_v121 : Ref sig .tc := ⟨.hbm, 183, rfl⟩
abbrev main_cst_17 : Ref sig .tc := ⟨.hbm, 184, rfl⟩
abbrev main_v122 : Ref sig .tc := ⟨.hbm, 185, rfl⟩
abbrev main_c : Ref sig .tc := ⟨.hbm, 186, rfl⟩
abbrev main_v123_0 : Ref sig .tc := ⟨.hbm, 187, rfl⟩
abbrev main_v123_1 : Ref sig .tc := ⟨.hbm, 188, rfl⟩
abbrev main_v123_2 : Ref sig .tc := ⟨.hbm, 189, rfl⟩
abbrev main_v123_3 : Ref sig .tc := ⟨.hbm, 190, rfl⟩
abbrev main_v123_4 : Ref sig .tc := ⟨.hbm, 191, rfl⟩
abbrev main_while0c_c_27 : Ref sig .tc := ⟨.hbm, 192, rfl⟩
abbrev main_while0c_v156 : Ref sig .tc := ⟨.hbm, 193, rfl⟩
abbrev main_while0b_call3_c : Ref sig .tc := ⟨.hbm, 194, rfl⟩
abbrev main_while0b_call3_c_0 : Ref sig .tc := ⟨.hbm, 195, rfl⟩
abbrev main_while0b_call3_c_1 : Ref sig .tc := ⟨.hbm, 196, rfl⟩
abbrev main_while0b_call3_c_2 : Ref sig .tc := ⟨.hbm, 197, rfl⟩
abbrev main_while0b_call3_v0 : Ref sig .tc := ⟨.hbm, 198, rfl⟩
abbrev main_while0b_v156 : Ref sig .tc := ⟨.hbm, 199, rfl⟩
abbrev main_while0b_v157 : Ref sig .tc := ⟨.hbm, 200, rfl⟩
abbrev main_while0b_v158 : Ref sig .tc := ⟨.hbm, 201, rfl⟩
abbrev main_while0b_v159 : Ref sig .tc := ⟨.hbm, 202, rfl⟩
abbrev main_while0b_call4_v0 : Ref sig .tc := ⟨.hbm, 203, rfl⟩
abbrev main_while0b_call4_c : Ref sig .tc := ⟨.hbm, 204, rfl⟩
abbrev main_while0b_call4_c_0 : Ref sig .tc := ⟨.hbm, 205, rfl⟩
abbrev main_while0b_call4_c_1 : Ref sig .tc := ⟨.hbm, 206, rfl⟩
abbrev main_while0b_call4_c_2 : Ref sig .tc := ⟨.hbm, 207, rfl⟩
abbrev main_while0b_v160 : Ref sig .tc := ⟨.hbm, 208, rfl⟩
abbrev main_while0b_c_27 : Ref sig .tc := ⟨.hbm, 209, rfl⟩
abbrev main_while0b_v161 : Ref sig .tc := ⟨.hbm, 210, rfl⟩
abbrev main_v124 : Ref sig .tc := ⟨.hbm, 211, rfl⟩
abbrev main_v125 : Ref sig .tc := ⟨.hbm, 212, rfl⟩
abbrev main_cst_18 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_c_19 : Ref sig .tc := ⟨.hbm, 232, rfl⟩
abbrev main_v144 : Ref sig .tc := ⟨.hbm, 233, rfl⟩
abbrev main_v145 : Ref sig .tc := ⟨.hbm, 234, rfl⟩
abbrev main_c_20 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_c_21 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_cst_22 : Ref sig .tc := ⟨.hbm, 246, rfl⟩
abbrev main_call5_v0 : Ref sig .tc := ⟨.hbm, 247, rfl⟩
abbrev main_call5_v1 : Ref sig .tc := ⟨.hbm, 248, rfl⟩
abbrev main_v155 : Ref sig .tc := ⟨.hbm, 249, rfl⟩

abbrev nD : Nat := 1
abbrev τ : Topo := Topo.v7x

variable {F : FTy → Type} [FloatOps F]

abbrev main_while0_count : Scf.Loop 32 := ⟨0#32, 32#32, 1#32⟩
-- ==== Hg.lean ====
abbrev S1x4096x9216 : Shape := ⟨3, ![1, 4096, 9216]⟩
abbrev S1024 : Shape := ⟨1, ![1024]⟩
abbrev S4096x9216 : Shape := ⟨2, ![4096, 9216]⟩
abbrev S4096x72x128 : Shape := ⟨3, ![4096, 72, 128]⟩
abbrev S72x4096x128 : Shape := ⟨3, ![72, 4096, 128]⟩
abbrev S1x1024 : Shape := ⟨2, ![1, 1024]⟩
abbrev S8x128 : Shape := ⟨2, ![8, 128]⟩
abbrev S_ : Shape := ⟨0, ![]⟩
abbrev S8x128x128 : Shape := ⟨3, ![8, 128, 128]⟩
abbrev S8x128x1 : Shape := ⟨3, ![8, 128, 1]⟩
abbrev S8x1x128 : Shape := ⟨3, ![8, 1, 128]⟩
abbrev S1x128x128 : Shape := ⟨3, ![1, 128, 128]⟩
abbrev S128x128 : Shape := ⟨2, ![128, 128]⟩
abbrev S5x128 : Shape := ⟨2, ![5, 128]⟩
abbrev S5x128x1 : Shape := ⟨3, ![5, 128, 1]⟩
abbrev S5x128x128 : Shape := ⟨3, ![5, 128, 128]⟩
abbrev S8x4096x128 : Shape := ⟨3, ![8, 4096, 128]⟩
abbrev S8x32x128x128 : Shape := ⟨4, ![8, 32, 128, 128]⟩
abbrev S2x2048x128 : Shape := ⟨3, ![2, 2048, 128]⟩
abbrev S1x256 : Shape := ⟨2, ![1, 256]⟩
abbrev S2x16x128x128 : Shape := ⟨4, ![2, 16, 128, 128]⟩
abbrev S2x128x128 : Shape := ⟨3, ![2, 128, 128]⟩
abbrev S1x128 : Shape := ⟨2, ![1, 128]⟩
abbrev S128x256 : Shape := ⟨2, ![128, 256]⟩
abbrev S128 : Shape := ⟨1, ![128]⟩
abbrev S16x128 : Shape := ⟨2, ![16, 128]⟩
abbrev S32x128 : Shape := ⟨2, ![32, 128]⟩
abbrev S64x128 : Shape := ⟨2, ![64, 128]⟩
abbrev S256x256 : Shape := ⟨2, ![256, 256]⟩
abbrev S1x1x128x128 : Shape := ⟨4, ![1, 1, 128, 128]⟩

abbrev nBuf : Space → Nat
  | .hbm => 72
  | .vmem => 19
  | .smem => 0
  | _ => 0

abbrev bufTy : (tb : Table) → Fin (tcTables nBuf tb) → BufTy
  | .hbm, ⟨0, _⟩ => ⟨S1x4096x9216, .f32⟩
  | .hbm, ⟨1, _⟩ => ⟨S1024, .f32⟩
  | .hbm, ⟨2, _⟩ => ⟨S4096x9216, .f32⟩
  | .hbm, ⟨3, _⟩ => ⟨S4096x72x128, .f32⟩
  | .hbm, ⟨4, _⟩ => ⟨S72x4096x128, .f32⟩
  | .hbm, ⟨5, _⟩ => ⟨S1x1024, .f32⟩
  | .hbm, ⟨6, _⟩ => ⟨S8x128, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S_, .i32⟩
  | .hbm, ⟨11, _⟩ => ⟨S8x128, .i32⟩
  | .hbm, ⟨12, _⟩ => ⟨S8x128, .i32⟩
  | .hbm, ⟨13, _⟩ => ⟨S_, .i32⟩
  | .hbm, ⟨14, _⟩ => ⟨S8x128, .i32⟩
  | .hbm, ⟨15, _⟩ => ⟨S8x128, .i32⟩
  | .hbm, ⟨16, _⟩ => ⟨S_, .i32⟩
  | .hbm, ⟨17, _⟩ => ⟨S8x128, .i32⟩
  | .hbm, ⟨18, _⟩ => ⟨S8x128, .i32⟩
  | .hbm, ⟨19, _⟩ => ⟨S8x128, .i32⟩
  | .hbm, ⟨20, _⟩ => ⟨S_, .i32⟩
  | .hbm, ⟨21, _⟩ => ⟨S8x128, .i32⟩
  | .hbm, ⟨22, _⟩ => ⟨S8x128, .i32⟩
  | .hbm, ⟨23, _⟩ => ⟨S8x128, .i1⟩
  | .hbm, ⟨24, _⟩ => ⟨S8x128x128, .i32⟩
  | .hbm, ⟨25, _⟩ => ⟨S8x128x128, .i32⟩
  | .hbm, ⟨26, _⟩ => ⟨S8x128x1, .i1⟩
  | .hbm, ⟨27, _⟩ => ⟨S8x128x1, .i32⟩
  | .hbm, ⟨28, _⟩ => ⟨S8x128x128, .i32⟩
  | .hbm, ⟨29, _⟩ => ⟨S8x128x128, .i1⟩
  | .hbm, ⟨30, _⟩ => ⟨S8x128x128, .i1⟩
  | .hbm, ⟨31, _⟩ => ⟨S8x128x128, .i1⟩
  | .hbm, ⟨32, _⟩ => ⟨S_, .i32⟩
  | .hbm, ⟨33, _⟩ => ⟨S8x128, .i32⟩
  | .hbm, ⟨34, _⟩ => ⟨S8x128, .i1⟩
  | .hbm, ⟨35, _⟩ => ⟨S8x128x1, .i1⟩
  | .hbm, ⟨36, _⟩ => ⟨S8x128x128, .i1⟩
  | .hbm, ⟨37, _⟩ => ⟨S8x128x1, .i32⟩
  | .hbm, ⟨38, _⟩ => ⟨S8x1x128, .i32⟩
  | .hbm, ⟨39, _⟩ => ⟨S8x128x128, .i32⟩
  | .hbm, ⟨40, _⟩ => ⟨S8x128x128, .i32⟩
  | .hbm, ⟨41, _⟩ => ⟨S8x128x128, .i1⟩
  | .hbm, ⟨42, _⟩ => ⟨S8x128x128, .i1⟩
  | .hbm, ⟨43, _⟩ => ⟨S8x128x128, .i1⟩
  | .hbm, ⟨44, _⟩ => ⟨S8x128x128, .i1⟩
  | .hbm, ⟨45, _⟩ => ⟨S1x128x128, .i32⟩
  | .hbm, ⟨46, _⟩ => ⟨S128x128, .i32⟩
  | .hbm, ⟨47, _⟩ => ⟨S1x128x128, .i32⟩
  | .hbm, ⟨48, _⟩ => ⟨S128x128, .i32⟩
  | .hbm, ⟨49, _⟩ => ⟨S128x128, .i1⟩
  | .hbm, ⟨50, _⟩ => ⟨S_, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .bf16⟩
  | .hbm, ⟨56, _⟩ => ⟨S_, .f32⟩
  | .hbm, ⟨57, _⟩ => ⟨S_, .f32⟩
  | .hbm, ⟨58, _⟩ => ⟨S8x128x128, .f32⟩
  | .hbm, ⟨59, _⟩ => ⟨S8x128x128, .f32⟩
  | .hbm, ⟨60, _⟩ => ⟨S8x128x128, .f32⟩
  | .hbm, ⟨61, _⟩ => ⟨S5x128, .i1⟩
  | .hbm, ⟨62, _⟩ => ⟨S_, .f32⟩
  | .hbm, ⟨63, _⟩ => ⟨S_, .f32⟩
  | .hbm, ⟨64, _⟩ => ⟨S5x128, .f32⟩
  | .hbm, ⟨65, _⟩ => ⟨S5x128, .f32⟩
  | .hbm, ⟨66, _⟩ => ⟨S5x128, .f32⟩
  | .hbm, ⟨67, _⟩ => ⟨S5x128x1, .f32⟩
  | .hbm, ⟨68, _⟩ => ⟨S5x128x128, .f32⟩
  | .hbm, ⟨69, _⟩ => ⟨S8x4096x128, .f32⟩
  | .hbm, ⟨70, _⟩ => ⟨S8x32x128x128, .f32⟩
  | .hbm, ⟨71, _⟩ => ⟨S8x32x128x128, .bf16⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S2x2048x128, .f32⟩
  | .local _ .vmem, ⟨5, _⟩ => ⟨S2x2048x128, .f32⟩
  | .local _ .vmem, ⟨6, _⟩ => ⟨S1x256, .f32⟩
  | .local _ .vmem, ⟨7, _⟩ => ⟨S1x256, .f32⟩
  | .local _ .vmem, ⟨8, _⟩ => ⟨S128x128, .bf16⟩
  | .local _ .vmem, ⟨9, _⟩ => ⟨S8x128x128, .f32⟩
  | .local _ .vmem, ⟨10, _⟩ => ⟨S5x128x128, .f32⟩
  | .local _ .vmem, ⟨11, _⟩ => ⟨S2x2048x128, .f32⟩
  | .local _ .vmem, ⟨12, _⟩ => ⟨S2x2048x128, .f32⟩
  | .local _ .vmem, ⟨13, _⟩ => ⟨S2x16x128x128, .f32⟩
  | .local _ .vmem, ⟨14, _⟩ => ⟨S2x16x128x128, .f32⟩
  | .local _ .vmem, ⟨15, _⟩ => ⟨S2x16x128x128, .bf16⟩
  | .local _ .vmem, ⟨16, _⟩ => ⟨S2x16x128x128, .bf16⟩
  | .local _ .vmem, ⟨17, _⟩ => ⟨S2x128x128, .f32⟩
  | .local _ .vmem, ⟨18, _⟩ => ⟨S2x128x128, .f32⟩
  | _, _ => ⟨S1x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49_0 : Ref sig .tc := ⟨.hbm, 69, rfl⟩
abbrev main_v49_1 : Ref sig .tc := ⟨.hbm, 70, rfl⟩
abbrev main_v49_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 2], ![false, false]⟩

def k0_mult1 : BitVec 32 :=
  let c0_i32_1 : BitVec 32 := 0#32
  let c128_i32 : BitVec 32 := 128#32
  let v3 : BitVec 32 := Scalar.muli c0_i32_1 c128_i32
  v3
def k0_off1 (c0_i32_1 : BitVec 32) : Fin 3 → Nat :=
  let c0_3 : Index := 0#32
  let c128_i32 : BitVec 32 := 128#32
  let v3 : BitVec 32 := Scalar.muli c0_i32_1 c128_i32
  let v4 : BitVec 32 := v3
  let v7 : Index := Scalar.indexCast v4
  let c0_4 : Index := 0#32
  ![0, v7.toNat, 0]
def k0_off2 (c0_i32_1 : BitVec 32) : Fin 3 → Nat :=
  let c1_214 : Index := 1#32
  let c128_i32 : BitVec 32 := 128#32
  let v3 : BitVec 32 := Scalar.muli c0_i32_1 c128_i32
  let v4 : BitVec 32 := v3
  let v391 : Index := Scalar.indexCast v4
  let c0_215 : Index := 0#32
  ![1, v391.toNat, 0]
def k0_mult2 : BitVec 32 :=
  let c1_i32_465 : BitVec 32 := 1#32
  let c128_i32_466 : BitVec 32 := 128#32
  let v773 : BitVec 32 := Scalar.muli c1_i32_465 c128_i32_466
  v773
def k0_mult3 : BitVec 32 :=
  let c2_i32_973 : BitVec 32 := 2#32
  let c128_i32_974 : BitVec 32 := 128#32
  let v1543 : BitVec 32 := Scalar.muli c2_i32_973 c128_i32_974
  v1543
def k0_mult4 : BitVec 32 :=
  let c3_i32_1481 : BitVec 32 := 3#32
  let c128_i32_1482 : BitVec 32 := 128#32
  let v2313 : BitVec 32 := Scalar.muli c3_i32_1481 c128_i32_1482
  v2313
def k0_mult5 : BitVec 32 :=
  let c4_i32 : BitVec 32 := 4#32
  let c128_i32_1989 : BitVec 32 := 128#32
  let v3083 : BitVec 32 := Scalar.muli c4_i32 c128_i32_1989
  v3083
def k0_mult6 : BitVec 32 :=
  let c5_i32 : BitVec 32 := 5#32
  let c128_i32_2496 : BitVec 32 := 128#32
  let v3853 : BitVec 32 := Scalar.muli c5_i32 c128_i32_2496
  v3853
def k0_mult7 : BitVec 32 :=
  let c6_i32 : BitVec 32 := 6#32
  let c128_i32_3003 : BitVec 32 := 128#32
  let v4623 : BitVec 32 := Scalar.muli c6_i32 c128_i32_3003
  v4623
def k0_mult8 : BitVec 32 :=
  let c7_i32 : BitVec 32 := 7#32
  let c128_i32_3510 : BitVec 32 := 128#32
  let v5393 : BitVec 32 := Scalar.muli c7_i32 c128_i32_3510
  v5393
def k0_mult9 : BitVec 32 :=
  let c8_i32 : BitVec 32 := 8#32
  let c128_i32_4017 : BitVec 32 := 128#32
  let v6163 : BitVec 32 := Scalar.muli c8_i32 c128_i32_4017
  v6163
def k0_mult10 : BitVec 32 :=
  let c9_i32 : BitVec 32 := 9#32
  let c128_i32_4524 : BitVec 32 := 128#32
  let v6933 : BitVec 32 := Scalar.muli c9_i32 c128_i32_4524
  v6933
def k0_mult11 : BitVec 32 :=
  let c10_i32 : BitVec 32 := 10#32
  let c128_i32_5031 : BitVec 32 := 128#32
  let v7703 : BitVec 32 := Scalar.muli c10_i32 c128_i32_5031
  v7703
def k0_mult12 : BitVec 32 :=
  let c11_i32 : BitVec 32 := 11#32
  let c128_i32_5538 : BitVec 32 := 128#32
  let v8473 : BitVec 32 := Scalar.muli c11_i32 c128_i32_5538
  v8473
def k0_mult13 : BitVec 32 :=
  let c12_i32 : BitVec 32 := 12#32
  let c128_i32_6045 : BitVec 32 := 128#32
  let v9243 : BitVec 32 := Scalar.muli c12_i32 c128_i32_6045
  v9243
def k0_mult14 : BitVec 32 :=
  let c13_i32 : BitVec 32 := 13#32
  let c128_i32_6552 : BitVec 32 := 128#32
  let v10013 : BitVec 32 := Scalar.muli c13_i32 c128_i32_6552
  v10013
def k0_mult15 : BitVec 32 :=
  let c14_i32 : BitVec 32 := 14#32
  let c128_i32_7059 : BitVec 32 := 128#32
  let v10783 : BitVec 32 := Scalar.muli c14_i32 c128_i32_7059
  v10783
def k0_mult16 : BitVec 32 :=
  let c15_i32 : BitVec 32 := 15#32
  let c128_i32_7566 : BitVec 32 := 128#32
  let v11553 : BitVec 32 := Scalar.muli c15_i32 c128_i32_7566
  v11553
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x16x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== HgIdeal.lean ====
variable {F : FTy → Type} [FloatOps F] [Named F]
def κ : String → Option EReal := fun
  | "log2_e" => some (((Real.log 2)⁻¹ : ℝ) : EReal)
  | _ => none
-- ==== HgRefIdeal.lean ====
abbrev S1x4096x9216 : Shape := ⟨3, ![1, 4096, 9216]⟩
abbrev S1024 : Shape := ⟨1, ![1024]⟩
abbrev S1x4096x1024 : Shape := ⟨3, ![1, 4096, 1024]⟩
abbrev S1x4096x8x128 : Shape := ⟨4, ![1, 4096, 8, 128]⟩
abbrev S_ : Shape := ⟨0, ![]⟩
abbrev S8x128 : Shape := ⟨2, ![8, 128]⟩
abbrev S1x1x8x128 : Shape := ⟨4, ![1, 1, 8, 128]⟩
abbrev S64x64 : Shape := ⟨2, ![64, 64]⟩
abbrev S64x64x1 : Shape := ⟨3, ![64, 64, 1]⟩
abbrev S1x8x128x128 : Shape := ⟨4, ![1, 8, 128, 128]⟩
abbrev S1x64x64x8x128 : Shape := ⟨5, ![1, 64, 64, 8, 128]⟩
abbrev S64x1x8x64x128 : Shape := ⟨5, ![64, 1, 8, 64, 128]⟩
abbrev S64x1x8x128x128 : Shape := ⟨5, ![64, 1, 8, 128, 128]⟩
abbrev S1x1x8x64x128 : Shape := ⟨5, ![1, 1, 8, 64, 128]⟩
abbrev S1x8x64x128 : Shape := ⟨4, ![1, 8, 64, 128]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S4096x8x128 : Shape := ⟨3, ![4096, 8, 128]⟩
abbrev S8x4096x128 : Shape := ⟨3, ![8, 4096, 128]⟩
abbrev S32x2x8x128x128 : Shape := ⟨5, ![32, 2, 8, 128, 128]⟩
abbrev S32x1x8x128x128 : Shape := ⟨5, ![32, 1, 8, 128, 128]⟩
abbrev S32x8x128x128 : Shape := ⟨4, ![32, 8, 128, 128]⟩
abbrev S8x32x128x128 : Shape := ⟨4, ![8, 32, 128, 128]⟩

abbrev nBuf : Space → Nat
  | .hbm => 159
  | .vmem => 0
  | .smem => 0
  | _ => 0

abbrev hbmTy0_0 (i : Nat) : BufTy := match i % 128 with
  | 0 => ⟨S1x4096x9216, .f32⟩
  | 1 => ⟨S1024, .f32⟩
  | 2 => ⟨S1x4096x1024, .f32⟩
  | 3 => ⟨S1x4096x8x128, .f32⟩
  | 4 => ⟨S1x4096x1024, .f32⟩
  | 5 => ⟨S1x4096x8x128, .f32⟩
  | 6 => ⟨S1x4096x1024, .f32⟩
  | 7 => ⟨S1x4096x8x128, .f32⟩
  | 8 => ⟨S1x4096x8x128, .f32⟩
  | 9 => ⟨S1x4096x8x128, .f32⟩
  | 10 => ⟨S_, .f32⟩
  | 11 => ⟨S1x4096x8x128, .f32⟩
  | 12 => ⟨S1x4096x8x128, .f32⟩
  | 13 => ⟨S_, .f32⟩
  | 14 => ⟨S1x4096x8x128, .f32⟩
  | 15 => ⟨S1x4096x8x128, .f32⟩
  | 16 => ⟨S1x4096x8x128, .f32⟩
  | 17 => ⟨S8x128, .f32⟩
  | 18 => ⟨S_, .f32⟩
  | 19 => ⟨S8x128, .f32⟩
  | 20 => ⟨S8x128, .f32⟩
  | 21 => ⟨S1x4096x8x128, .f32⟩
  | 22 => ⟨S1x4096x8x128, .f32⟩
  | 23 => ⟨S_, .f32⟩
  | 24 => ⟨S1x4096x8x128, .f32⟩
  | 25 => ⟨S1x4096x8x128, .f32⟩
  | 26 => ⟨S_, .f32⟩
  | 27 => ⟨S1x4096x8x128, .f32⟩
  | 28 => ⟨S1x4096x8x128, .f32⟩
  | 29 => ⟨S1x1x8x128, .f32⟩
  | 30 => ⟨S1x4096x8x128, .f32⟩
  | 31 => ⟨S1x4096x8x128, .f32⟩
  | 32 => ⟨S1x1x8x128, .f32⟩
  | 33 => ⟨S1x4096x8x128, .f32⟩
  | 34 => ⟨S1x4096x8x128, .f32⟩
  | 35 => ⟨S_, .f32⟩
  | 36 => ⟨S1x4096x8x128, .f32⟩
  | 37 => ⟨S1x4096x8x128, .f32⟩
  | 38 => ⟨S1x4096x8x128, .f32⟩
  | 39 => ⟨S_, .i1⟩
  | 40 => ⟨S64x64, .i1⟩
  | 41 => ⟨S64x64, .i32⟩
  | 42 => ⟨S_, .i32⟩
  | 43 => ⟨S64x64, .i32⟩
  | 44 => ⟨S64x64, .i32⟩
  | 45 => ⟨S64x64, .i32⟩
  | 46 => ⟨S64x64, .i1⟩
  | 47 => ⟨S_, .i1⟩
  | 48 => ⟨S64x64, .i1⟩
  | 49 => ⟨S64x64, .i1⟩
  | 50 => ⟨S64x64x1, .i1⟩
  | 51 => ⟨S_, .f32⟩
  | 52 => ⟨S1x8x128x128, .f32⟩
  | 53 => ⟨S1x64x64x8x128, .f32⟩
  | 54 => ⟨S64x1x8x64x128, .f32⟩
  | 55 => ⟨S1x64x64x8x128, .f32⟩
  | 56 => ⟨S64x1x8x64x128, .f32⟩
  | 57 => ⟨S1x64x64x8x128, .f32⟩
  | 58 => ⟨S64x1x8x64x128, .f32⟩
  | 59 => ⟨S1x64x64x8x128, .f32⟩
  | 60 => ⟨S64x1x8x64x128, .f32⟩
  | 61 => ⟨S_, .f32⟩
  | 62 => ⟨S64x1x8x64x128, .f32⟩
  | 63 => ⟨S_, .f32⟩
  | 64 => ⟨S64x1x8x128x128, .f32⟩
  | 65 => ⟨S_, .i32⟩
  | 66 => ⟨S64x1x8x64x128, .f32⟩
  | 67 => ⟨S64x1x8x64x128, .f32⟩
  | 68 => ⟨S64x1x8x64x128, .f32⟩
  | 69 => ⟨S64x1x8x64x128, .f32⟩
  | 70 => ⟨S64x64x1, .i1⟩
  | 71 => ⟨S_, .i32⟩
  | 72 => ⟨S1x8x128x128, .f32⟩
  | 73 => ⟨S64x1x8x64x128, .f32⟩
  | 74 => ⟨S64x1x8x128x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x1x8x64x128, .f32⟩
  | 82 => ⟨S1x8x64x128, .f32⟩
  | 83 => ⟨S_, .i32⟩
  | 84 => ⟨S_, .i32⟩
  | 85 => ⟨S_, .i32⟩
  | 86 => ⟨S_, .i32⟩
  | 87 => ⟨S1x1x8x64x128, .f32⟩
  | 88 => ⟨S1x8x64x128, .f32⟩
  | 89 => ⟨S_, .i32⟩
  | 90 => ⟨S_, .i32⟩
  | 91 => ⟨S_, .i32⟩
  | 92 => ⟨S_, .i32⟩
  | 93 => ⟨S1x1x8x64x128, .f32⟩
  | 94 => ⟨S1x8x64x128, .f32⟩
  | 95 => ⟨S_, .i32⟩
  | 96 => ⟨S_, .i32⟩
  | 97 => ⟨S_, .i32⟩
  | 98 => ⟨S_, .i32⟩
  | 99 => ⟨S1x1x8x64x128, .f32⟩
  | 100 => ⟨S1x8x64x128, .f32⟩
  | 101 => ⟨S_, .f32⟩
  | 102 => ⟨S_, .f32⟩
  | 103 => ⟨S1x8x64x128, .f32⟩
  | 104 => ⟨S1x8x64x128, .f32⟩
  | 105 => ⟨S1x8x64x128, .f32⟩
  | 106 => ⟨S1x8x64x128, .f32⟩
  | 107 => ⟨S1x8x64x1x128, .f32⟩
  | 108 => ⟨S1x8x1x64x128, .f32⟩
  | 109 => ⟨S1x8x64x64x128, .f32⟩
  | 110 => ⟨S1x8x64x64x128, .f32⟩
  | 111 => ⟨S1x8x64x64x128, .f32⟩
  | 112 => ⟨S_, .f32⟩
  | 113 => ⟨S_, .f32⟩
  | 114 => ⟨S1x8x64x64x128, .i1⟩
  | 115 => ⟨S1x8x64x64x128, .f32⟩
  | 116 => ⟨S1x8x64x64x128, .f32⟩
  | 117 => ⟨S1x8x64x64x128, .f32⟩
  | 118 => ⟨S1x8x64x1x128, .f32⟩
  | 119 => ⟨S1x8x64x64x128, .f32⟩
  | 120 => ⟨S1x8x64x64x128, .f32⟩
  | 121 => ⟨S1x8x64x64, .f32⟩
  | 122 => ⟨S1x8x64x64, .f32⟩
  | 123 => ⟨S1x8x64x128, .f32⟩
  | 124 => ⟨S1x8x1x128, .f32⟩
  | 125 => ⟨S1x8x128, .f32⟩
  | 126 => ⟨S1x8x128, .f32⟩
  | 127 => ⟨S1x8x128x1, .f32⟩
  | _ => ⟨S1x4096x9216, .f32⟩

abbrev hbmTy0_1 (i : Nat) : BufTy := match i % 128 with
  | 0 => ⟨S1x8x128x128, .f32⟩
  | 1 => ⟨S1x8x128x128, .f32⟩
  | 2 => ⟨S1x8x64x128, .f32⟩
  | 3 => ⟨S1x8x64x128, .f32⟩
  | 4 => ⟨S1x8x64x128, .f32⟩
  | 5 => ⟨S1x8x64x128, .f32⟩
  | 6 => ⟨S1x8x128x128, .f32⟩
  | 7 => ⟨S1x8x128x128, .f32⟩
  | 8 => ⟨S1x8x64x128, .f32⟩
  | 9 => ⟨S1x1x8x64x128, .f32⟩
  | 10 => ⟨S_, .i32⟩
  | 11 => ⟨S_, .i32⟩
  | 12 => ⟨S_, .i32⟩
  | 13 => ⟨S_, .i32⟩
  | 14 => ⟨S64x1x8x64x128, .f32⟩
  | 15 => ⟨S1x1x8x128x128, .f32⟩
  | 16 => ⟨S_, .i32⟩
  | 17 => ⟨S_, .i32⟩
  | 18 => ⟨S_, .i32⟩
  | 19 => ⟨S_, .i32⟩
  | 20 => ⟨S64x1x8x128x128, .f32⟩
  | 21 => ⟨S_, .i32⟩
  | 22 => ⟨S_, .i32⟩
  | 23 => ⟨S1x64x64x8x128, .f32⟩
  | 24 => ⟨S1x4096x8x128, .f32⟩
  | 25 => ⟨S4096x8x128, .f32⟩
  | 26 => ⟨S8x4096x128, .f32⟩
  | 27 => ⟨S32x2x8x128x128, .f32⟩
  | 28 => ⟨S32x1x8x128x128, .f32⟩
  | 29 => ⟨S32x8x128x128, .f32⟩
  | 30 => ⟨S8x32x128x128, .f32⟩
  | _ => ⟨S1x4096x9216, .f32⟩

abbrev hbmTy (i : Nat) : BufTy := match i / 128 with
  | 0 => hbmTy0_0 i
  | 1 => hbmTy0_1 i
  | _ => ⟨S1x4096x9216, .f32⟩

abbrev bufTy : (tb : Table) → Fin (tcTables nBuf tb) → BufTy
  | .hbm, ⟨i, _⟩ => hbmTy i
  | _, _ => ⟨S1x4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_c_6 : Ref sig .tc := ⟨.hbm, 65, rfl⟩
abbrev main_v39_0 : Ref sig .tc := ⟨.hbm, 66, rfl⟩
abbrev main_v39_1 : Ref sig .tc := ⟨.hbm, 67, rfl⟩
abbrev main_v39_2 : Ref sig .tc := ⟨.hbm, 68, rfl⟩
abbrev main_v39_3 : Ref sig .tc := ⟨.hbm, 69, rfl⟩
abbrev main_v39_4 : Ref sig .tc := ⟨.hbm, 70, rfl⟩
abbrev main_v39_5 : Ref sig .tc := ⟨.hbm, 71, rfl⟩
abbrev main_v39_6 : Ref sig .tc := ⟨.hbm, 72, rfl⟩
abbrev main_v39_7 : Ref sig .tc := ⟨.hbm, 73, rfl⟩
abbrev main_v39_8 : Ref sig .tc := ⟨.hbm, 74, rfl⟩
abbrev main_while0c_c_15 : Ref sig .tc := ⟨.hbm, 75, rfl⟩
abbrev main_while0c_v48 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v48 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v49 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v50 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v51 : Ref sig .tc := ⟨.hbm, 100, rfl⟩
abbrev main_while0b_call6_call0_cst : Ref sig .tc := ⟨.hbm, 101, rfl⟩
abbrev main_while0b_call6_call0_v0 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_v60 : Ref sig .tc := ⟨.hbm, 111, rfl⟩
abbrev main_while0b_cst_15 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_v61 : Ref sig .tc := ⟨.hbm, 116, rfl⟩
abbrev main_while0b_v62 : Ref sig .tc := ⟨.hbm, 117, rfl⟩
abbrev main_while0b_v63 : Ref sig .tc := ⟨.hbm, 118, rfl⟩
abbrev main_while0b_v64 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_v78 : Ref sig .tc := ⟨.hbm, 133, rfl⟩
abbrev main_while0b_v79 : Ref sig .tc := ⟨.hbm, 134, rfl⟩
abbrev main_while0b_v80 : Ref sig .tc := ⟨.hbm, 135, rfl⟩
abbrev main_while0b_v81 : Ref sig .tc := ⟨.hbm, 136, rfl⟩
abbrev main_while0b_call8_v0 : Ref sig .tc := ⟨.hbm, 137, rfl⟩
abbrev main_while0b_call8_c : Ref sig .tc := ⟨.hbm, 138, rfl⟩
abbrev main_while0b_call8_c_0 : Ref sig .tc := ⟨.hbm, 139, rfl⟩
abbrev main_while0b_call8_c_1 : Ref sig .tc := ⟨.hbm, 140, rfl⟩
abbrev main_while0b_call8_c_2 : Ref sig .tc := ⟨.hbm, 141, rfl⟩
abbrev main_while0b_v82 : Ref sig .tc := ⟨.hbm, 142, rfl⟩
abbrev main_while0b_call9_v0 : Ref sig .tc := ⟨.hbm, 143, rfl⟩
abbrev main_while0b_call9_c : Ref sig .tc := ⟨.hbm, 144, rfl⟩
abbrev main_while0b_call9_c_0 : Ref sig .tc := ⟨.hbm, 145, rfl⟩
abbrev main_while0b_call9_c_1 : Ref sig .tc := ⟨.hbm, 146, rfl⟩
abbrev main_while0b_call9_c_2 : Ref sig .tc := ⟨.hbm, 147, rfl⟩
abbrev main_while0b_v83 : Ref sig .tc := ⟨.hbm, 148, rfl⟩
abbrev main_while0b_c_16 : Ref sig .tc := ⟨.hbm, 149, rfl⟩
abbrev main_while0b_v84 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩

abbrev nD : Nat := 1
abbrev τ : Topo := Topo.v7x

variable {F : FTy → Type} [FloatOps F]

abbrev main_while0_count : Scf.Loop 32 := ⟨0#32, 64#32, 1#32⟩
-- ==== Ada.lean ====
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .bf16⟩
  | .hbm, ⟨9, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AdaRefIdeal.lean ====
abbrev S1x4096x1024 : Shape := ⟨3, ![1, 4096, 1024]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S1024x4096 : Shape := ⟨2, ![1024, 4096]⟩

abbrev nBuf : Space → Nat
  | .hbm => 35
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S1024x4096, .f32⟩
  | .hbm, ⟨34, _⟩ => ⟨S1024x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Wgt.lean ====
abbrev S1x4096x1024 : Shape := ⟨3, ![1, 4096, 1024]⟩
abbrev S1x1024 : Shape := ⟨2, ![1, 1024]⟩
abbrev S1024x9216 : Shape := ⟨2, ![1024, 9216]⟩
abbrev S1x4096x9216 : Shape := ⟨3, ![1, 4096, 9216]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S1024x4096 : Shape := ⟨2, ![1024, 4096]⟩
abbrev S4096x9216 : Shape := ⟨2, ![4096, 9216]⟩
abbrev S4096x72x128 : Shape := ⟨3, ![4096, 72, 128]⟩
abbrev S72x4096x128 : Shape := ⟨3, ![72, 4096, 128]⟩
abbrev S8x1024x1152 : Shape := ⟨3, ![8, 1024, 1152]⟩
abbrev S1024x2048 : Shape := ⟨2, ![1024, 2048]⟩
abbrev S18x2048x128 : Shape := ⟨3, ![18, 2048, 128]⟩
abbrev S2x1024x1152 : Shape := ⟨3, ![2, 1024, 1152]⟩
abbrev S1x2048x128 : Shape := ⟨3, ![1, 2048, 128]⟩
abbrev S2048x128 : Shape := ⟨2, ![2048, 128]⟩
abbrev S2048x2304 : Shape := ⟨2, ![2048, 2304]⟩
abbrev S1024x2304 : Shape := ⟨2, ![1024, 2304]⟩
abbrev S1024x1152 : Shape := ⟨2, ![1024, 1152]⟩
abbrev S1x1024x1152 : Shape := ⟨3, ![1, 1024, 1152]⟩

abbrev nBuf : Space → Nat
  | .hbm => 39
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9216, .f32⟩
  | .hbm, ⟨5, _⟩ => ⟨S1x4096x9216, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S1x4096x1024, .f32⟩
  | .hbm, ⟨31, _⟩ => ⟨S1x4096x1024, .f32⟩
  | .hbm, ⟨32, _⟩ => ⟨S4096x1024, .f32⟩
  | .hbm, ⟨33, _⟩ => ⟨S1024x4096, .f32⟩
  | .hbm, ⟨34, _⟩ => ⟨S1024x4096, .bf16⟩
  | .hbm, ⟨35, _⟩ => ⟨S4096x9216, .f32⟩
  | .hbm, ⟨36, _⟩ => ⟨S4096x72x128, .f32⟩
  | .hbm, ⟨37, _⟩ => ⟨S72x4096x128, .f32⟩
  | .hbm, ⟨38, _⟩ => ⟨S8x1024x1152, .f32⟩
  | .local _ .vmem, ⟨0, _⟩ => ⟨S1024x2048, .bf16⟩
  | .local _ .vmem, ⟨1, _⟩ => ⟨S1024x2048, .bf16⟩
  | .local _ .vmem, ⟨2, _⟩ => ⟨S18x2048x128, .f32⟩
  | .local _ .vmem, ⟨3, _⟩ => ⟨S18x2048x128, .f32⟩
  | .local _ .vmem, ⟨4, _⟩ => ⟨S2x1024x1152, .f32⟩
  | .local _ .vmem, ⟨5, _⟩ => ⟨S2x1024x1152, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let v59 : BitVec 32 := Scalar.extui v58
  let c0_i32_38 : BitVec 32 := 0#32
  let v60 : BitVec 1 := Scalar.cmpi .ne v59 c0_i32_38
  v60

def k0_cond2 (i : grid0.Coords) : BitVec 1 :=
  let arg1 : BitVec 32 := BitVec.ofNat 32 (i 1).val
  let c0_i32_39 : BitVec 32 := 0#32
  let v61 : BitVec 1 := Scalar.cmpi .sgt arg1 c0_i32_39
  let v62 : BitVec 32 := Scalar.extui v61
  let c0_i32_40 : BitVec 32 := 0#32
  let v63 : BitVec 1 := Scalar.cmpi .ne v62 c0_i32_40
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S18x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgtRefIdeal.lean ====
abbrev S1x4096x1024 : Shape := ⟨3, ![1, 4096, 1024]⟩
abbrev S1x1024 : Shape := ⟨2, ![1, 1024]⟩
abbrev S1024x9216 : Shape := ⟨2, ![1024, 9216]⟩
abbrev S1x4096x9216 : Shape := ⟨3, ![1, 4096, 9216]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S9216x1024 : Shape := ⟨2, ![9216, 1024]⟩
abbrev S1024x8x1152 : Shape := ⟨3, ![1024, 8, 1152]⟩
abbrev S8x1024x1152 : Shape := ⟨3, ![8, 1024, 1152]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9216, .f32⟩
  | .hbm, ⟨5, _⟩ => ⟨S1x4096x9216, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S1x4096x1024, .f32⟩
  | .hbm, ⟨31, _⟩ => ⟨S1x4096x1024, .f32⟩
  | .hbm, ⟨32, _⟩ => ⟨S1x4096x9216, .f32⟩
  | .hbm, ⟨33, _⟩ => ⟨S9216x1024, .f32⟩
  | .hbm, ⟨34, _⟩ => ⟨S1024x9216, .f32⟩
  | .hbm, ⟨35, _⟩ => ⟨S1024x8x1152, .f32⟩
  | .hbm, ⟨36, _⟩ => ⟨S8x1024x1152, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Wad.lean ====
abbrev S8x1024 : Shape := ⟨2, ![8, 1024]⟩
abbrev S8x3072 : Shape := ⟨2, ![8, 3072]⟩
abbrev S1x1024x384 : Shape := ⟨3, ![1, 1024, 384]⟩
abbrev S_ : Shape := ⟨0, ![]⟩
abbrev S1024x8 : Shape := ⟨2, ![1024, 8]⟩
abbrev S1024x128 : Shape := ⟨2, ![1024, 128]⟩
abbrev S128x3072 : Shape := ⟨2, ![128, 3072]⟩
abbrev S1 : Shape := ⟨1, ![1]⟩
abbrev S1024x384 : Shape := ⟨2, ![1024, 384]⟩
abbrev S128x384 : Shape := ⟨2, ![128, 384]⟩

abbrev nBuf : Space → Nat
  | .hbm => 29
  | .vmem => 9
  | .smem => 1
  | _ => 0

abbrev bufTy : (tb : Table) → Fin (tcTables nBuf tb) → BufTy
  | .hbm, ⟨0, _⟩ => ⟨S8x1024, .f32⟩
  | .hbm, ⟨1, _⟩ => ⟨S8x3072, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S_, .f32⟩
  | .hbm, ⟨20, _⟩ => ⟨S128x3072, .f32⟩
  | .hbm, ⟨21, _⟩ => ⟨S_, .i32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S1024x384, .f32⟩
  | .local _ .vmem, ⟨0, _⟩ => ⟨S1024x128, .f32⟩
  | .local _ .vmem, ⟨1, _⟩ => ⟨S128x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .smem, ⟨0, _⟩ => ⟨S1, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== WadRefIdeal.lean ====
abbrev S8x1024 : Shape := ⟨2, ![8, 1024]⟩
abbrev S8x3072 : Shape := ⟨2, ![8, 3072]⟩
abbrev S1x1024x384 : Shape := ⟨3, ![1, 1024, 384]⟩
abbrev S1024x384 : Shape := ⟨2, ![1024, 384]⟩
abbrev S_ : Shape := ⟨0, ![]⟩
abbrev S8x384 : Shape := ⟨2, ![8, 384]⟩
abbrev S384x1024 : Shape := ⟨2, ![384, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x3072, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S1024x384, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x384, .f32⟩
  | .hbm, ⟨16, _⟩ => ⟨S8x384, .f32⟩
  | .hbm, ⟨17, _⟩ => ⟨S384x1024, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | .hbm, ⟨40, _⟩ => ⟨S_, .f32⟩
  | .hbm, ⟨41, _⟩ => ⟨S1024x384, .f32⟩
  | .hbm, ⟨42, _⟩ => ⟨S1024x384, .f32⟩
  | .hbm, ⟨43, _⟩ => ⟨S1024x384, .f32⟩
  | .hbm, ⟨44, _⟩ => ⟨S_, .f32⟩
  | .hbm, ⟨45, _⟩ => ⟨S1024x384, .f32⟩
  | .hbm, ⟨46, _⟩ => ⟨S1024x384, .f32⟩
  | .hbm, ⟨47, _⟩ => ⟨S1024x384, .f32⟩
  | .hbm, ⟨48, _⟩ => ⟨S_, .f32⟩
  | .hbm, ⟨49, _⟩ => ⟨S1024x384, .f32⟩
  | .hbm, ⟨50, _⟩ => ⟨S1024x384, .f32⟩
  | .hbm, ⟨51, _⟩ => ⟨S1024x384, .f32⟩
  | .hbm, ⟨52, _⟩ => ⟨S_, .f32⟩
  | .hbm, ⟨53, _⟩ => ⟨S1024x384, .f32⟩
  | .hbm, ⟨54, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== Shd.lean ====
abbrev S8x1024x1152 : Shape := ⟨3, ![8, 1024, 1152]⟩
abbrev S1x1024x1152 : Shape := ⟨3, ![1, 1024, 1152]⟩
abbrev S4x1024x1152 : Shape := ⟨3, ![4, 1024, 1152]⟩
abbrev S1024x1152 : Shape := ⟨2, ![1024, 1152]⟩
abbrev S3x1024x1152 : Shape := ⟨3, ![3, 1024, 1152]⟩
abbrev S_ : Shape := ⟨0, ![]⟩
abbrev S1 : Shape := ⟨1, ![1]⟩
abbrev S1x256x1152 : Shape := ⟨3, ![1, 256, 1152]⟩
abbrev S256x1152 : Shape := ⟨2, ![256, 1152]⟩

abbrev nBuf : Space → Nat
  | .hbm => 26
  | .vmem => 22
  | .smem => 1
  | _ => 0

abbrev bufTy : (tb : Table) → Fin (tcTables nBuf tb) → BufTy
  | .hbm, ⟨0, _⟩ => ⟨S8x1024x1152, .f32⟩
  | .hbm, ⟨1, _⟩ => ⟨S1x1024x1152, .f32⟩
  | .hbm, ⟨2, _⟩ => ⟨S1x1024x1152, .f32⟩
  | .hbm, ⟨3, _⟩ => ⟨S1x1024x1152, .f32⟩
  | .hbm, ⟨4, _⟩ => ⟨S4x1024x1152, .f32⟩
  | .hbm, ⟨5, _⟩ => ⟨S4x1024x1152, .f32⟩
  | .hbm, ⟨6, _⟩ => ⟨S4x1024x1152, .f32⟩
  | .hbm, ⟨7, _⟩ => ⟨S4x1024x1152, .bf16⟩
  | .hbm, ⟨8, _⟩ => ⟨S1x1024x1152, .bf16⟩
  | .hbm, ⟨9, _⟩ => ⟨S1024x1152, .bf16⟩
  | .hbm, ⟨10, _⟩ => ⟨S1x1024x1152, .bf16⟩
  | .hbm, ⟨11, _⟩ => ⟨S1024x1152, .bf16⟩
  | .hbm, ⟨12, _⟩ => ⟨S1x1024x1152, .bf16⟩
  | .hbm, ⟨13, _⟩ => ⟨S1024x1152, .bf16⟩
  | .hbm, ⟨14, _⟩ => ⟨S1x1024x1152, .bf16⟩
  | .hbm, ⟨15, _⟩ => ⟨S1x1024x1152, .bf16⟩
  | .hbm, ⟨16, _⟩ => ⟨S1x1024x1152, .bf16⟩
  | .hbm, ⟨17, _⟩ => ⟨S3x1024x1152, .bf16⟩
  | .hbm, ⟨18, _⟩ => ⟨S_, .i32⟩
  | .hbm, ⟨19, _⟩ => ⟨S1024x1152, .f32⟩
  | .hbm, ⟨20, _⟩ => ⟨S1024x1152, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S1024x1152, .f32⟩
  | .hbm, ⟨25, _⟩ => ⟨S1024x1152, .f32⟩
  | .local _ .vmem, ⟨0, _⟩ => ⟨S1x256x1152, .bf16⟩
  | .local _ .vmem, ⟨1, _⟩ => ⟨S1x256x1152, .bf16⟩
  | .local _ .vmem, ⟨2, _⟩ => ⟨S1x256x1152, .bf16⟩
  | .local _ .vmem, ⟨3, _⟩ => ⟨S1x256x1152, .bf16⟩
  | .local _ .vmem, ⟨4, _⟩ => ⟨S1x256x1152, .bf16⟩
  | .local _ .vmem, ⟨5, _⟩ => ⟨S1x256x1152, .bf16⟩
  | .local _ .vmem, ⟨6, _⟩ => ⟨S1x256x1152, .bf16⟩
  | .local _ .vmem, ⟨7, _⟩ => ⟨S1x256x1152, .bf16⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | .local _ .vmem, ⟨18, _⟩ => ⟨S256x1152, .f32⟩
  | .local _ .vmem, ⟨19, _⟩ => ⟨S256x1152, .f32⟩
  | .local _ .vmem, ⟨20, _⟩ => ⟨S256x1152, .f32⟩
  | .local _ .vmem, ⟨21, _⟩ => ⟨S256x1152, .f32⟩
  | .local _ .smem, ⟨0, _⟩ => ⟨S1, .i32⟩
  | _, _ => ⟨S8x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ShdRefIdeal.lean ====
abbrev S8x1024x1152 : Shape := ⟨3, ![8, 1024, 1152]⟩
abbrev S1x1024x1152 : Shape := ⟨3, ![1, 1024, 1152]⟩
abbrev S1024x1152 : Shape := ⟨2, ![1024, 1152]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x1152, .f32⟩
  | .hbm, ⟨1, _⟩ => ⟨S1x1024x1152, .f32⟩
  | .hbm, ⟨2, _⟩ => ⟨S1x1024x1152, .f32⟩
  | .hbm, ⟨3, _⟩ => ⟨S1x1024x1152, .f32⟩
  | .hbm, ⟨4, _⟩ => ⟨S1024x1152, .f32⟩
  | .hbm, ⟨5, _⟩ => ⟨S_, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S_, .f32⟩
  | .hbm, ⟨10, _⟩ => ⟨S1024x1152, .f32⟩
  | .hbm, ⟨11, _⟩ => ⟨S1024x1152, .f32⟩
  | .hbm, ⟨12, _⟩ => ⟨S_, .f32⟩
  | .hbm, ⟨13, _⟩ => ⟨S1024x1152, .f32⟩
  | .hbm, ⟨14, _⟩ => ⟨S1024x1152, .f32⟩
  | .hbm, ⟨15, _⟩ => ⟨S1024x1152, .f32⟩
  | .hbm, ⟨16, _⟩ => ⟨S_, .f32⟩
  | .hbm, ⟨17, _⟩ => ⟨S1024x1152, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S_, .f32⟩
  | .hbm, ⟨28, _⟩ => ⟨S1024x1152, .f32⟩
  | .hbm, ⟨29, _⟩ => ⟨S1024x1152, .f32⟩
  | .hbm, ⟨30, _⟩ => ⟨S1024x1152, .f32⟩
  | .hbm, ⟨31, _⟩ => ⟨S_, .f32⟩
  | .hbm, ⟨32, _⟩ => ⟨S1024x1152, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | _, _ => ⟨S8x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== RetB.lean ====
abbrev S1x4096x9216 : Shape := ⟨3, ![1, 4096, 9216]⟩
abbrev S8x4096x128 : Shape := ⟨3, ![8, 4096, 128]⟩
abbrev S8x32x128x128 : Shape := ⟨4, ![8, 32, 128, 128]⟩
abbrev S72x4096x128 : Shape := ⟨3, ![72, 4096, 128]⟩
abbrev S_ : Shape := ⟨0, ![]⟩
abbrev S31 : Shape := ⟨1, ![31]⟩
abbrev S1 : Shape := ⟨1, ![1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x9216 : Shape := ⟨2, ![4096, 9216]⟩
abbrev S4096x72x128 : Shape := ⟨3, ![4096, 72, 128]⟩
abbrev S1x2048x128 : Shape := ⟨3, ![1, 2048, 128]⟩
abbrev S2x2048x128 : Shape := ⟨3, ![2, 2048, 128]⟩
abbrev S2048x128 : Shape := ⟨2, ![2048, 128]⟩
abbrev S2x16x128x128 : Shape := ⟨4, ![2, 16, 128, 128]⟩
abbrev S2x2x2048x128 : Shape := ⟨4, ![2, 2, 2048, 128]⟩
abbrev S2x128x128 : Shape := ⟨3, ![2, 128, 128]⟩
abbrev S2x3 : Shape := ⟨2, ![2, 3]⟩
abbrev S1x1 : Shape := ⟨2, ![1, 1]⟩
abbrev S1x2x2048x128 : Shape := ⟨4, ![1, 2, 2048, 128]⟩
abbrev S1x128 : Shape := ⟨2, ![1, 128]⟩
abbrev S128x128 : Shape := ⟨2, ![128, 128]⟩
abbrev S1x128x128 : Shape := ⟨3, ![1, 128, 128]⟩
abbrev S1x1x128x128 : Shape := ⟨4, ![1, 1, 128, 128]⟩

abbrev nBuf : Space → Nat
  | .hbm => 49
  | .vmem => 18
  | .smem => 0
  | _ => 0

abbrev bufTy : (tb : Table) → Fin (tcTables nBuf tb) → BufTy
  | .hbm, ⟨0, _⟩ => ⟨S1x4096x9216, .f32⟩
  | .hbm, ⟨1, _⟩ => ⟨S8x4096x128, .f32⟩
  | .hbm, ⟨2, _⟩ => ⟨S8x32x128x128, .f32⟩
  | .hbm, ⟨3, _⟩ => ⟨S72x4096x128, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S31, .f32⟩
  | .hbm, ⟨12, _⟩ => ⟨S_, .f32⟩
  | .hbm, ⟨13, _⟩ => ⟨S31, .f32⟩
  | .hbm, ⟨14, _⟩ => ⟨S31, .f32⟩
  | .hbm, ⟨15, _⟩ => ⟨S1, .f32⟩
  | .hbm, ⟨16, _⟩ => ⟨S_, .f32⟩
  | .hbm, ⟨17, _⟩ => ⟨S31, .f32⟩
  | .hbm, ⟨18, _⟩ => ⟨S31, .f32⟩
  | .hbm, ⟨19, _⟩ => ⟨S31, .f32⟩
  | .hbm, ⟨20, _⟩ => ⟨S31, .f32⟩
  | .hbm, ⟨21, _⟩ => ⟨S1, .f32⟩
  | .hbm, ⟨22, _⟩ => ⟨S31, .f32⟩
  | .hbm, ⟨23, _⟩ => ⟨S31, .f32⟩
  | .hbm, ⟨24, _⟩ => ⟨S31, .f32⟩
  | .hbm, ⟨25, _⟩ => ⟨S1, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x128, .f32⟩
  | .hbm, ⟨42, _⟩ => ⟨S4096x32, .f32⟩
  | .hbm, ⟨43, _⟩ => ⟨S4096x32, .f32⟩
  | .hbm, ⟨44, _⟩ => ⟨S4096x128, .f32⟩
  | .hbm, ⟨45, _⟩ => ⟨S4096x9216, .f32⟩
  | .hbm, ⟨46, _⟩ => ⟨S4096x72x128, .f32⟩
  | .hbm, ⟨47, _⟩ => ⟨S72x4096x128, .f32⟩
  | .hbm, ⟨48, _⟩ => ⟨S72x4096x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2x2048x128, .f32⟩
  | .local _ .vmem, ⟨5, _⟩ => ⟨S2x2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2x2048x128, .f32⟩
  | .local _ .vmem, ⟨11, _⟩ => ⟨S2x2048x128, .f32⟩
  | .local _ .vmem, ⟨12, _⟩ => ⟨S2x16x128x128, .f32⟩
  | .local _ .vmem, ⟨13, _⟩ => ⟨S2x16x128x128, .f32⟩
  | .local _ .vmem, ⟨14, _⟩ => ⟨S2x2048x128, .bf16⟩
  | .local _ .vmem, ⟨15, _⟩ => ⟨S2x2048x128, .bf16⟩
  | .local _ .vmem, ⟨16, _⟩ => ⟨S2x2x2048x128, .bf16⟩
  | .local _ .vmem, ⟨17, _⟩ => ⟨S2x128x128, .f32⟩
  | _, _ => ⟨S1x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_cst_1 : Ref sig .tc := ⟨.hbm, 27, rfl⟩
abbrev main_v1 : Ref sig .tc := ⟨.hbm, 28, rfl⟩
abbrev main_v2 : Ref sig .tc := ⟨.hbm, 29, rfl⟩
abbrev main_cst_2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  v3
def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v15 : BitVec 1 := Scalar.cmpi .sge v1 c2_i32_5
  let v16 : BitVec 32 := Scalar.extui v15
  let c0_i32_6 : BitVec 32 := 0#32
  let v17 : BitVec 1 := Scalar.cmpi .ne v16 c0_i32_6
  v17

def k0_off1 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1561 : BitVec 32 := 0#32
  ![v14.toNat, 0]
def k0_off2 (i : grid0.Coords) (c32_i32_1557 : BitVec 32) : Fin 3 → Nat :=
  let arg0 : BitVec 32 := BitVec.ofNat 32 (i 0).val
  let v4459 : BitVec 32 := Scalar.addi c32_i32_1557 arg0
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  let v4 : BitVec 32 := v3
  let c0_i32_1562 : BitVec 32 := 0#32
  ![v4459.toNat, v4.toNat, 0]
def k0_off3 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1563 : BitVec 32 := 0#32
  let c0_i32_1564 : BitVec 32 := 0#32
  ![v14.toNat, 0, 0]
def k0_off4 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_1565 : BitVec 32 := 1#32
  ![v14.toNat, 1]
def k0_off5 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c2_i32_1569 : BitVec 32 := 2#32
  ![v14.toNat, 2]
def k0_off6 (i : grid0.Coords) : Fin 3 → Nat :=
  let c40_i32_1560 : BitVec 32 := 40#32
  let c2_i32_1559 : BitVec 32 := 2#32
  let arg0 : BitVec 32 := BitVec.ofNat 32 (i 0).val
  let v4461 : BitVec 32 := Scalar.muli c2_i32_1559 arg0
  let v4462 : BitVec 32 := Scalar.addi c40_i32_1560 v4461
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  let v4 : BitVec 32 := v3
  let c0_i32_1570 : BitVec 32 := 0#32
  ![v4462.toNat, v4.toNat, 0]
def k0_off7 (i : grid0.Coords) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1571 : BitVec 32 := 0#32
  let c0_i32_1572 : BitVec 32 := 0#32
  let c0_i32_1573 : BitVec 32 := 0#32
  ![v14.toNat, 0, 0, 0]
def k0_mult2 : BitVec 32 :=
  let c15_i32 : BitVec 32 := 15#32
  let c0_i32_40 : BitVec 32 := 0#32
  let v131 : BitVec 32 := Scalar.subi c15_i32 c0_i32_40
  let c128_i32 : BitVec 32 := 128#32
  let v132 : BitVec 32 := Scalar.muli v131 c128_i32
  v132
def k0_off8 (c0_i32_40 : BitVec 32) : Fin 2 → Nat :=
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v134 : Index := Scalar.indexCast v133
  let c0 : Index := 0#32
  ![v134.toNat, 0]
def k0_off9 (c0_i32_40 : BitVec 32) : Fin 3 → Nat :=
  let c0_42 : Index := 0#32
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v140 : Index := Scalar.indexCast v133
  let c0_43 : Index := 0#32
  ![0, v140.toNat, 0]
def k0_off10 (c0_i32_40 : BitVec 32) : Fin 3 → Nat :=
  let c0_59 : Index := 0#32
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v203 : Index := Scalar.indexCast v133
  let c0_60 : Index := 0#32
  ![0, v203.toNat, 0]
def k0_off11 (c0_i32_40 : BitVec 32) : Fin 4 → Nat :=
  let c0_63 : Index := 0#32
  let c15_i32 : BitVec 32 := 15#32
  let v131 : BitVec 32 := Scalar.subi c15_i32 c0_i32_40
  let v209 : Index := Scalar.indexCast v131
  let c0_64 : Index := 0#32
  let c0_65 : Index := 0#32
  ![0, v209.toNat, 0, 0]
def k0_off12 (i : grid0.Coords) (c0_i32_40 : BitVec 32) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v251 : Index := Scalar.indexCast v14
  let c0_78 : Index := 0#32
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v252 : Index := Scalar.indexCast v133
  let c0_79 : Index := 0#32
  ![v251.toNat, 0, v252.toNat, 0]
def k0_off13 (c0_i32_40 : BitVec 32) : Fin 3 → Nat :=
  let c1 : Index := 1#32
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v299 : Index := Scalar.indexCast v133
  let c0_92 : Index := 0#32
  ![1, v299.toNat, 0]
def k0_off14 (c0_i32_40 : BitVec 32) : Fin 4 → Nat :=
  let c1_95 : Index := 1#32
  let c15_i32 : BitVec 32 := 15#32
  let v131 : BitVec 32 := Scalar.subi c15_i32 c0_i32_40
  let v305 : Index := Scalar.indexCast v131
  let c0_96 : Index := 0#32
  let c0_97 : Index := 0#32
  ![1, v305.toNat, 0, 0]
def k0_off15 (i : grid0.Coords) (c0_i32_40 : BitVec 32) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v347 : Index := Scalar.indexCast v14
  let c1_110 : Index := 1#32
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v348 : Index := Scalar.indexCast v133
  let c0_111 : Index := 0#32
  ![v347.toNat, 1, v348.toNat, 0]
def k0_off16 (i : grid0.Coords) (c0_i32_40 : BitVec 32) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v378 : Index := Scalar.indexCast v14
  let c15_i32 : BitVec 32 := 15#32
  let v131 : BitVec 32 := Scalar.subi c15_i32 c0_i32_40
  let c128_i32 : BitVec 32 := 128#32
  let v132 : BitVec 32 := Scalar.muli v131 c128_i32
  let v133 : BitVec 32 := v132
  let v379 : Index := Scalar.indexCast v133
  let c0_121 : Index := 0#32
  ![v378.toNat, v379.toNat, 0]
def k0_mult3 : BitVec 32 :=
  let c15_i32_128 : BitVec 32 := 15#32
  let c1_i32_127 : BitVec 32 := 1#32
  let v400 : BitVec 32 := Scalar.subi c15_i32_128 c1_i32_127
  let c128_i32_129 : BitVec 32 := 128#32
  let v401 : BitVec 32 := Scalar.muli v400 c128_i32_129
  v401
def k0_mult4 : BitVec 32 :=
  let c15_i32_223 : BitVec 32 := 15#32
  let c2_i32_222 : BitVec 32 := 2#32
  let v669 : BitVec 32 := Scalar.subi c15_i32_223 c2_i32_222
  let c128_i32_224 : BitVec 32 := 128#32
  let v670 : BitVec 32 := Scalar.muli v669 c128_i32_224
  v670
def k0_mult5 : BitVec 32 :=
  let c15_i32_317 : BitVec 32 := 15#32
  let c3_i32 : BitVec 32 := 3#32
  let v938 : BitVec 32 := Scalar.subi c15_i32_317 c3_i32
  let c128_i32_318 : BitVec 32 := 128#32
  let v939 : BitVec 32 := Scalar.muli v938 c128_i32_318
  v939
def k0_mult6 : BitVec 32 :=
  let c15_i32_411 : BitVec 32 := 15#32
  let c4_i32 : BitVec 32 := 4#32
  let v1207 : BitVec 32 := Scalar.subi c15_i32_411 c4_i32
  let c128_i32_412 : BitVec 32 := 128#32
  let v1208 : BitVec 32 := Scalar.muli v1207 c128_i32_412
  v1208
def k0_mult7 : BitVec 32 :=
  let c15_i32_505 : BitVec 32 := 15#32
  let c5_i32 : BitVec 32 := 5#32
  let v1476 : BitVec 32 := Scalar.subi c15_i32_505 c5_i32
  let c128_i32_506 : BitVec 32 := 128#32
  let v1477 : BitVec 32 := Scalar.muli v1476 c128_i32_506
  v1477
def k0_mult8 : BitVec 32 :=
  let c15_i32_599 : BitVec 32 := 15#32
  let c6_i32 : BitVec 32 := 6#32
  let v1745 : BitVec 32 := Scalar.subi c15_i32_599 c6_i32
  let c128_i32_600 : BitVec 32 := 128#32
  let v1746 : BitVec 32 := Scalar.muli v1745 c128_i32_600
  v1746
def k0_mult9 : BitVec 32 :=
  let c15_i32_693 : BitVec 32 := 15#32
  let c7_i32 : BitVec 32 := 7#32
  let v2014 : BitVec 32 := Scalar.subi c15_i32_693 c7_i32
  let c128_i32_694 : BitVec 32 := 128#32
  let v2015 : BitVec 32 := Scalar.muli v2014 c128_i32_694
  v2015
def k0_mult10 : BitVec 32 :=
  let c15_i32_787 : BitVec 32 := 15#32
  let c8_i32 : BitVec 32 := 8#32
  let v2283 : BitVec 32 := Scalar.subi c15_i32_787 c8_i32
  let c128_i32_788 : BitVec 32 := 128#32
  let v2284 : BitVec 32 := Scalar.muli v2283 c128_i32_788
  v2284
def k0_mult11 : BitVec 32 :=
  let c15_i32_881 : BitVec 32 := 15#32
  let c9_i32 : BitVec 32 := 9#32
  let v2552 : BitVec 32 := Scalar.subi c15_i32_881 c9_i32
  let c128_i32_882 : BitVec 32 := 128#32
  let v2553 : BitVec 32 := Scalar.muli v2552 c128_i32_882
  v2553
def k0_mult12 : BitVec 32 :=
  let c15_i32_975 : BitVec 32 := 15#32
  let c10_i32 : BitVec 32 := 10#32
  let v2821 : BitVec 32 := Scalar.subi c15_i32_975 c10_i32
  let c128_i32_976 : BitVec 32 := 128#32
  let v2822 : BitVec 32 := Scalar.muli v2821 c128_i32_976
  v2822
def k0_mult13 : BitVec 32 :=
  let c15_i32_1069 : BitVec 32 := 15#32
  let c11_i32 : BitVec 32 := 11#32
  let v3090 : BitVec 32 := Scalar.subi c15_i32_1069 c11_i32
  let c128_i32_1070 : BitVec 32 := 128#32
  let v3091 : BitVec 32 := Scalar.muli v3090 c128_i32_1070
  v3091
def k0_mult14 : BitVec 32 :=
  let c15_i32_1163 : BitVec 32 := 15#32
  let c12_i32 : BitVec 32 := 12#32
  let v3359 : BitVec 32 := Scalar.subi c15_i32_1163 c12_i32
  let c128_i32_1164 : BitVec 32 := 128#32
  let v3360 : BitVec 32 := Scalar.muli v3359 c128_i32_1164
  v3360
def k0_mult15 : BitVec 32 :=
  let c15_i32_1257 : BitVec 32 := 15#32
  let c13_i32 : BitVec 32 := 13#32
  let v3628 : BitVec 32 := Scalar.subi c15_i32_1257 c13_i32
  let c128_i32_1258 : BitVec 32 := 128#32
  let v3629 : BitVec 32 := Scalar.muli v3628 c128_i32_1258
  v3629
def k0_mult16 : BitVec 32 :=
  let c15_i32_1351 : BitVec 32 := 15#32
  let c14_i32 : BitVec 32 := 14#32
  let v3897 : BitVec 32 := Scalar.subi c15_i32_1351 c14_i32
  let c128_i32_1352 : BitVec 32 := 128#32
  let v3898 : BitVec 32 := Scalar.muli v3897 c128_i32_1352
  v3898
def k0_mult17 : BitVec 32 :=
  let c15_i32_1446 : BitVec 32 := 15#32
  let c15_i32_1445 : BitVec 32 := 15#32
  let v4166 : BitVec 32 := Scalar.subi c15_i32_1446 c15_i32_1445
  let c128_i32_1447 : BitVec 32 := 128#32
  let v4167 : BitVec 32 := Scalar.muli v4166 c128_i32_1447
  v4167
def k0_off17 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1542 : BitVec 32 := 0#32
  ![v14.toNat, 0]
def k0_off18 (i : grid0.Coords) (c32_i32_1540 : BitVec 32) : Fin 3 → Nat :=
  let arg0 : BitVec 32 := BitVec.ofNat 32 (i 0).val
  let v4435 : BitVec 32 := Scalar.addi c32_i32_1540 arg0
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  let v4 : BitVec 32 := v3
  let c0_i32_1543 : BitVec 32 := 0#32
  ![v4435.toNat, v4.toNat, 0]
def k0_off19 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1544 : BitVec 32 := 0#32
  let c0_i32_1545 : BitVec 32 := 0#32
  ![v14.toNat, 0, 0]
def k0_off20 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_1546 : BitVec 32 := 1#32
  ![v14.toNat, 1]
def k0_off21 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c2_i32_1550 : BitVec 32 := 2#32
  ![v14.toNat, 2]
def k0_off22 (i : grid0.Coords) : Fin 3 → Nat :=
  let c40_i32 : BitVec 32 := 40#32
  let c2_i32_1541 : BitVec 32 := 2#32
  let arg0 : BitVec 32 := BitVec.ofNat 32 (i 0).val
  let v4437 : BitVec 32 := Scalar.muli c2_i32_1541 arg0
  let v4438 : BitVec 32 := Scalar.addi c40_i32 v4437
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  let v4 : BitVec 32 := v3
  let c0_i32_1551 : BitVec 32 := 0#32
  ![v4438.toNat, v4.toNat, 0]
def k0_off23 (i : grid0.Coords) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1552 : BitVec 32 := 0#32
  let c0_i32_1553 : BitVec 32 := 0#32
  let c0_i32_1554 : BitVec 32 := 0#32
  ![v14.toNat, 0, 0, 0]
def k0_cond3 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c7_i32_1555 : BitVec 32 := 7#32
  let v4456 : BitVec 1 := Scalar.cmpi .eq v1 c7_i32_1555
  let v4457 : BitVec 32 := Scalar.extui v4456
  let c0_i32_1556 : BitVec 32 := 0#32
  let v4458 : BitVec 1 := Scalar.cmpi .ne v4457 c0_i32_1556
  v4458

def k0_off24 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1561 : BitVec 32 := 0#32
  ![v14.toNat, 0]
def k0_off25 (i : grid0.Coords) (c32_i32_1557 : BitVec 32) : Fin 3 → Nat :=
  let arg0 : BitVec 32 := BitVec.ofNat 32 (i 0).val
  let v4459 : BitVec 32 := Scalar.addi c32_i32_1557 arg0
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  let v4 : BitVec 32 := v3
  let c0_i32_1562 : BitVec 32 := 0#32
  ![v4459.toNat, v4.toNat, 0]
def k0_off26 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1563 : BitVec 32 := 0#32
  let c0_i32_1564 : BitVec 32 := 0#32
  ![v14.toNat, 0, 0]
def k0_off27 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_1565 : BitVec 32 := 1#32
  ![v14.toNat, 1]
def k0_off28 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c2_i32_1569 : BitVec 32 := 2#32
  ![v14.toNat, 2]
def k0_off29 (i : grid0.Coords) : Fin 3 → Nat :=
  let c40_i32_1560 : BitVec 32 := 40#32
  let c2_i32_1559 : BitVec 32 := 2#32
  let arg0 : BitVec 32 := BitVec.ofNat 32 (i 0).val
  let v4461 : BitVec 32 := Scalar.muli c2_i32_1559 arg0
  let v4462 : BitVec 32 := Scalar.addi c40_i32_1560 v4461
  let c1_i32 : BitVec 32 := 1#32
  let arg1 : BitVec 32 := BitVec.ofNat 32 (i 1).val
  let v2 : BitVec 32 := Scalar.subi c1_i32 arg1
  let c2048_i32 : BitVec 32 := 2048#32
  let v3 : BitVec 32 := Scalar.muli v2 c2048_i32
  let v4 : BitVec 32 := v3
  let c0_i32_1570 : BitVec 32 := 0#32
  ![v4462.toNat, v4.toNat, 0]
def k0_off30 (i : grid0.Coords) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_1571 : BitVec 32 := 0#32
  let c0_i32_1572 : BitVec 32 := 0#32
  let c0_i32_1573 : BitVec 32 := 0#32
  ![v14.toNat, 0, 0, 0]
def k0_off31 (i : grid0.Coords) : Fin 2 → Nat :=
  let c1_i32_1574 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v4480 : BitVec 32 := Scalar.subi c1_i32_1574 v14
  let c0_i32_1579 : BitVec 32 := 0#32
  ![v4480.toNat, 0]
def k0_off32 (i : grid0.Coords) : Fin 3 → Nat :=
  let c1_i32_1574 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v4480 : BitVec 32 := Scalar.subi c1_i32_1574 v14
  let c0_i32_1581 : BitVec 32 := 0#32
  let c0_i32_1582 : BitVec 32 := 0#32
  ![v4480.toNat, 0, 0]
def k0_off33 (i : grid0.Coords) : Fin 2 → Nat :=
  let c1_i32_1574 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v4480 : BitVec 32 := Scalar.subi c1_i32_1574 v14
  let c1_i32_1583 : BitVec 32 := 1#32
  ![v4480.toNat, 1]
def k0_off34 (i : grid0.Coords) : Fin 2 → Nat :=
  let c1_i32_1574 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v4480 : BitVec 32 := Scalar.subi c1_i32_1574 v14
  let c2_i32_1587 : BitVec 32 := 2#32
  ![v4480.toNat, 2]
def k0_off35 (i : grid0.Coords) : Fin 4 → Nat :=
  let c1_i32_1574 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi v1 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v4480 : BitVec 32 := Scalar.subi c1_i32_1574 v14
  let c0_i32_1589 : BitVec 32 := 0#32
  let c0_i32_1590 : BitVec 32 := 0#32
  let c0_i32_1591 : BitVec 32 := 0#32
  ![v4480.toNat, 0, 0, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c1_i32 : BitVec 32 := 1#32
  let v1 : BitVec 32 := Scalar.subi c1_i32 arg1
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c1_i32 : BitVec 32 := 1#32
  let v1 : BitVec 32 := Scalar.subi c1_i32 arg1
  let c0_i32 : BitVec 32 := 0#32
  let c0_i32_0 : BitVec 32 := 0#32
  ![v0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c1_i32 : BitVec 32 := 1#32
  let v1 : BitVec 32 := Scalar.subi c1_i32 arg1
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.InpMath.lean ====
module

public import Idealize.ShloMosaic.Lib.Pipeline.ValueKit
public import Idealize.ShloMosaic.Lib.IdealHost

@[expose] public section

/-! The arithmetic of the root mean square norm's gradient over the extended reals, at one entry.

With `v` the mean square plus the small constant, `r = 1/√v`, `q` an entry of the row and `s` the row's sum of
products, the kernel subtracts `q r r² (s / 1024)` in one term; the derivative of `1/√v` adds `q c` twice, with
`c = s (-1/2) (r / v) / 1024`. The two agree for every `v > 0`, at `⊤` too. -/

noncomputable section

namespace Cert.Hand

open Idealize.ShloMosaic

/-- The f32 pattern of 1024. -/
theorem ofBits_1024 : Ideal.ofBits .f32 1149239296#32 = ((1024 : ℝ) : EReal) := by
  simp [Ideal.ofBits, Ideal.ieee, -EReal.coe_mul]; norm_num

/-- The f32 pattern of minus one half. -/
theorem ofBits_neg_half : Ideal.ofBits .f32 3204448256#32 = ((-(1 / 2) : ℝ) : EReal) := by
  simp [Ideal.ofBits, Ideal.ieee, -EReal.coe_mul, -EReal.coe_neg]; norm_num

/-- The f32 pattern nearest one millionth is a positive real. -/
theorem ofBits_eps : ∃ e : ℝ, 0 < e ∧ Ideal.ofBits .f32 897988541#32 = (e : EReal) := by
  refine ⟨(8796093 : ℝ) / 2 ^ 43, by norm_num, ?_⟩
  simp [Ideal.ofBits, Ideal.ieee, -EReal.coe_mul]; norm_num

/-- A square is not negative. -/
theorem mul_self_nonneg' (x : EReal) : 0 ≤ x * x := by
  induction x with
  | bot => simp
  | top => simp
  | coe r => exact_mod_cast mul_self_nonneg r

/-- A mean square plus the small constant is positive. -/
theorem meanSq_pos {n : ℕ} (x : Fin n → EReal) :
    0 < Ideal.div (∑ k, x k * x k) (Ideal.ofBits .f32 1149239296#32) + Ideal.ofBits .f32 897988541#32 := by
  obtain ⟨e, he, h⟩ := ofBits_eps
  rw [h, ofBits_1024, Ideal.div_coe (by norm_num)]
  have h1 : (0 : EReal) ≤ (∑ k, x k * x k) * ((1 / 1024 : ℝ) : EReal) :=
    mul_nonneg (Finset.sum_nonneg fun k _ => mul_self_nonneg' _) (by exact_mod_cast (by norm_num : (0 : ℝ) ≤ 1 / 1024))
  calc (0 : EReal) < (e : EReal) := by exact_mod_cast he
    _ = 0 + (e : EReal) := (zero_add _).symm
    _ ≤ _ := add_le_add_left h1 _

/-- Half of a multiple, twice. -/
theorem half_twice (a : ℝ) (z : EReal) : (((-(1 / 2) * a : ℝ)) : EReal) * z + (((-(1 / 2) * a : ℝ)) : EReal) * z = -((a : EReal) * z) := by
  induction z with
  | bot =>
    rcases lt_trichotomy a 0 with h | h | h
    · rw [EReal.coe_mul_bot_of_neg h, EReal.coe_mul_bot_of_pos (by linarith)]; simp
    · subst h; simp
    · rw [EReal.coe_mul_bot_of_pos h, EReal.coe_mul_bot_of_neg (by linarith)]; simp
  | top =>
    rcases lt_trichotomy a 0 with h | h | h
    · rw [EReal.coe_mul_top_of_neg h, EReal.coe_mul_top_of_pos (by linarith)]; simp
    · subst h; simp
    · rw [EReal.coe_mul_top_of_pos h, EReal.coe_mul_top_of_neg (by linarith)]; simp
  | coe z =>
    norm_cast; ring

/-- The kernel's gradient entry is the derivative's. -/
theorem rms_entry (v q s d u : EReal) (hv : 0 < v) :
    d + Ideal.rsqrt v * u - q * Ideal.rsqrt v * (Ideal.rsqrt v * Ideal.rsqrt v) * Ideal.div s (Ideal.ofBits .f32 1149239296#32)
      = d + u * Ideal.rsqrt v + q * Ideal.div (s * (Ideal.ofBits .f32 3204448256#32 * Ideal.div (Ideal.rsqrt v) v)) (Ideal.ofBits .f32 1149239296#32)
        + Ideal.div (s * (Ideal.ofBits .f32 3204448256#32 * Ideal.div (Ideal.rsqrt v) v)) (Ideal.ofBits .f32 1149239296#32) * q := by
  rw [ofBits_1024, ofBits_neg_half, Ideal.div_coe (by norm_num), Ideal.div_coe (by norm_num)]
  induction v with
  | bot => simp at hv
  | top => simp [Ideal.div]
  | coe w =>
    have hw : 0 < w := by exact_mod_cast hv
    rw [Ideal.rsqrt_coe, if_neg (not_lt.mpr hw.le), if_neg hw.ne', Ideal.div_coe hw.ne']
    have hs : Real.sqrt w * Real.sqrt w = w := Real.mul_self_sqrt hw.le
    have hp : 0 < Real.sqrt w := Real.sqrt_pos.mpr hw
    set r : ℝ := (Real.sqrt w)⁻¹ with hr
    have hrw : 1 / w = r * r := by rw [hr, ← mul_inv, hs, one_div]
    have e1 : q * (r : EReal) * ((r : EReal) * (r : EReal)) * (s * ((1 / 1024 : ℝ) : EReal))
        = ((r * (r * r) * (1 / 1024) : ℝ) : EReal) * (q * s) := by
      rw [EReal.coe_mul, EReal.coe_mul, EReal.coe_mul]; ac_rfl
    have e2 : q * (s * (((-(1 / 2) : ℝ) : EReal) * ((r : EReal) * ((1 / w : ℝ) : EReal))) * ((1 / 1024 : ℝ) : EReal))
        = ((-(1 / 2) * (r * (r * r) * (1 / 1024)) : ℝ) : EReal) * (q * s) := by
      simp only [hrw, EReal.coe_mul]; ac_rfl
    have e3 : s * (((-(1 / 2) : ℝ) : EReal) * ((r : EReal) * ((1 / w : ℝ) : EReal))) * ((1 / 1024 : ℝ) : EReal) * q
        = ((-(1 / 2) * (r * (r * r) * (1 / 1024)) : ℝ) : EReal) * (q * s) := by
      rw [mul_comm _ q, e2]
    rw [e1, e2, e3, add_assoc, half_twice, mul_comm u, sub_eq_add_neg]

/-! ## The two results, entry by entry -/

section Spec

variable (x : FVec Ideal ⟨3, ![1, 4096, 1024]⟩ .f32) (g : FVec Ideal ⟨2, ![1, 1024]⟩ .f32) (sc : FVec Ideal ⟨2, ![1, 1024]⟩ .f32)
  (w : FVec Ideal ⟨2, ![1024, 9216]⟩ .f32) (dy : FVec Ideal ⟨3, ![1, 4096, 1024]⟩ .f32) (dp : FVec Ideal ⟨3, ![1, 4096, 9216]⟩ .f32)

/-- The projection's cotangent carried back through the weights: entry `(r, j)`. -/
def dh (r : Fin 4096) (j : Fin 1024) : EReal := ∑ k : Fin 9216, dp (ix3 0 r k) * w (ix2 j k)

/-- The mean square of a row. -/
def meanSq (r : Fin 4096) : EReal :=
  Ideal.div (∑ k : Fin 1024, x (ix3 0 r k) * x (ix3 0 r k)) (Ideal.ofBits .f32 1149239296#32) + Ideal.ofBits .f32 897988541#32

/-- The reciprocal root mean square of a row. -/
def rms (r : Fin 4096) : EReal := Ideal.rsqrt (meanSq x r)

/-- The factor a scale stands for. -/
def onePlus (j : Fin 1024) : EReal := 1 + sc (ix2 0 j)

/-- The cotangent of the layer's input. -/
def gx (r : Fin 4096) (j : Fin 1024) : EReal :=
  dy (ix3 0 r j) + rms x r * (dh w dp r j * (g (ix2 0 j) * onePlus sc j))
    - x (ix3 0 r j) * rms x r * (rms x r * rms x r)
      * Ideal.div (∑ k : Fin 1024, x (ix3 0 r k) * (dh w dp r k * (g (ix2 0 k) * onePlus sc k))) (Ideal.ofBits .f32 1149239296#32)

/-- The gradients of the norm's weight (row 0), of the scale (row 1) and of the shift (row 2). -/
def vec (a : Fin 8) (j : Fin 1024) : EReal :=
  if a.val = 2 then ∑ r : Fin 4096, dh w dp r j
  else if a.val = 1 then ∑ r : Fin 4096, dh w dp r j * (x (ix3 0 r j) * rms x r) * g (ix2 0 j)
  else if a.val = 0 then ∑ r : Fin 4096, dh w dp r j * (x (ix3 0 r j) * rms x r) * onePlus sc j
  else 0

/-- The same entry as the derivative's formula writes it. -/
theorem gx_ref (r : Fin 4096) (j : Fin 1024) :
    dy (ix3 0 r j) + dh w dp r j * onePlus sc j * g (ix2 0 j) * rms x r
      + x (ix3 0 r j) * Ideal.div ((∑ k : Fin 1024, x (ix3 0 r k) * (dh w dp r k * onePlus sc k * g (ix2 0 k)))
          * (Ideal.ofBits .f32 3204448256#32 * Ideal.div (rms x r) (meanSq x r))) (Ideal.ofBits .f32 1149239296#32)
      + Ideal.div ((∑ k : Fin 1024, x (ix3 0 r k) * (dh w dp r k * onePlus sc k * g (ix2 0 k)))
          * (Ideal.ofBits .f32 3204448256#32 * Ideal.div (rms x r) (meanSq x r))) (Ideal.ofBits .f32 1149239296#32) * x (ix3 0 r j)
      = gx x g sc w dy dp r j := by
  have hs : ∀ k, dh w dp r k * onePlus sc k * g (ix2 0 k) = dh w dp r k * (g (ix2 0 k) * onePlus sc k) := fun k => by rw [mul_assoc, mul_comm (g _)]
  simp only [hs]
  exact (rms_entry _ _ _ _ _ (meanSq_pos fun k => x (ix3 0 r k))).symm

/-- The same rows as the reference stacks them. -/
theorem vec_ref (a : Fin 8) (j : Fin 1024) :
    (if _ : a.val < 1 then ∑ r : Fin 4096, x (ix3 0 r j) * rms x r * (dh w dp r j * onePlus sc j)
      else if _ : a.val - 1 < 1 then ∑ r : Fin 4096, x (ix3 0 r j) * rms x r * g (ix2 0 j) * dh w dp r j
      else if _ : a.val - 1 - 1 < 1 then ∑ r : Fin 4096, dh w dp r j else 0) = vec x g sc w dp a j := by
  unfold vec
  by_cases h0 : a.val = 0
  · rw [dif_pos (by omega), if_neg (by omega), if_neg (by omega), if_pos h0]
    exact Fintype.sum_congr _ _ fun r => by rw [← mul_assoc, mul_comm (x (ix3 0 r j) * rms x r)]
  rw [dif_neg (by omega)]
  by_cases h1 : a.val = 1
  · rw [dif_pos (by omega), if_neg (by omega), if_pos h1]
    exact Fintype.sum_congr _ _ fun r => by rw [mul_comm _ (dh w dp r j), ← mul_assoc]
  rw [dif_neg (by omega)]
  by_cases h2 : a.val = 2
  · rw [dif_pos (by omega), if_pos h2]
  · rw [dif_neg (by omega), if_neg h2, if_neg h1, if_neg h0]

end Spec

end Cert.Hand

end
-- ==== Proof.InpBlock.lean ====
module

public import proofs.«01_k».proof.Proof.InpMath
public import proofs.«01_k».proof.Proof.Gen.InpIdeal.Value
public import Idealize.ShloMosaic.Lib.Pipeline.ValueKit
public import Idealize.ShloMosaic.Lib.Pipeline.ReadBack
public import Idealize.ShloMosaic.Lib.WritesUnit
public import Idealize.ShloMosaic.Lib.Tactic.CleanTypes

@[expose] public section

set_option maxRecDepth 16384
noncomputable section

namespace Cert.InpIdeal.Value

open Cert.InpIdeal Cert.InpIdeal.Gen Idealize.ShloMosaic Idealize.ShloMosaic.TcCoe Idealize.SL.Sem
open Idealize.ShloMosaic.Pipeline (Dat)

variable (m : (ℓ : Loc nD τ sig) → Buf (Elt Ideal) ℓ)

/-- The 72 slabs of the projection's cotangent side by side: column `j` is lane `j % 128` of slab `j / 128`. -/
def wide (x : Vec Ideal S72x512x128 .bf16) : FVec Ideal S512x9216 .bf16 := fun j =>
  x (ix3 (⟨(j 1).val / 128, by have := (j 1).isLt; simp at this; omega⟩ : Fin 72) (j 0) (⟨(j 1).val % 128, by omega⟩ : Fin 128))

theorem inb_slab (n : Fin 72) : ∀ k : Fin 3, (![n.val, 0, 0] : Fin 3 → ℕ) k + (![1, 512, 128] : Fin 3 → ℕ) k ≤ S72x512x128.size k := by
  have := n.isLt
  intro k
  match k with
  | ⟨0, _⟩ => show n.val + 1 ≤ 72; omega
  | ⟨1, _⟩ => show 0 + 512 ≤ 512; omega
  | ⟨2, _⟩ => show 0 + 128 ≤ 128; omega

theorem cast_slab (X : Vec Ideal S1x512x128 .bf16) (a : Fin 512) (b : Fin 128) :
    shapeCast S512x128 X shapeCasts_S1x512x128_S512x128 (ix2 a b) = X (ix3 0 a b) := by
  pointwise

theorem wide_eq (x : Vec Ideal S72x512x128 .bf16) (L) (h)
    (hL : L = List.ofFn fun n : Fin 72 => (⟨S512x128, shapeCast S512x128 (View.ld x (Rect.unit ![n.val, 0, 0] ![1, 512, 128] (inb_slab n))) shapeCasts_S1x512x128_S512x128⟩ : (s : Shape) × FVec Ideal s .bf16)) :
    concatenate S512x9216 1 L h = wide x := by
  subst hL
  funext j
  have h9 : (j 1).val < 9216 := (j 1).isLt
  rw [concatenate_ofFn_apply (s₁ := S512x128) 1 _ h rfl 128 rfl j ⟨(j 1).val / 128, by omega⟩ rfl
    (show S512x128.Idx from ix2 (show Fin 512 from j 0) (⟨(j 1).val % 128, by omega⟩ : Fin 128)) rfl (by
      intro b hb
      match b, hb with
      | ⟨0, _⟩, _ => rfl
      | ⟨1, _⟩, hb => exact absurd rfl hb)]
  refine (cast_slab _ _ _).trans ?_
  exact View.ld_unit_apply_of _ _ _ _ _ _ (by
    intro a
    match a with
    | ⟨0, _⟩ => simp [ix3]
    | ⟨1, _⟩ => simp [ix3]
    | ⟨2, _⟩ => simp [ix3])

/-- Where the windows' blocks lie: the first axis of the row blocks is the point's number. -/
theorem idx : ∀ t : Fin cfg0.N,
    win0_0.index t = ![0, t.val, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] :=
  (by decide +kernel : ∀ t : Fin grid0.N, _)

section Rows

variable {sig' : RefSig} {κ : Kind} {sp : Space} {e : EltTy} {Val : EltTy → Type} (v : View sig' κ sp S8x1024 e) (f : v.ty.Contents Val)
  {o : ℕ} (inb : ∀ a : Fin 2, (![o, 0] : Fin 2 → ℕ) a + (![1, 1024] : Fin 2 → ℕ) a ≤ S8x1024.size a)
  (w : S1x1024.Idx → Val e) (L : List (View.Piece Val S8x1024 e)) (a : Fin 8) (b : Fin 1024)

/-- A row just written reads what was written. -/
theorem row_hit (ha : a.val = o) :
    v.read Val (v.writes Val f (⟨Rect.unit ![o, 0] ![1, 1024] inb, w⟩ :: L)) (ix2 a b) = w (ix2 0 b) :=
  View.read_writes_cons_rows_of_mem v f (o := o) inb w L (ix2 a b) (ix2 (0 : Fin 1) b) rfl (by simp [ix2, ha]) (by simp [ix2])

/-- Another row reads what was there before. -/
theorem row_miss (ha : a.val ≠ o) :
    v.read Val (v.writes Val f (⟨Rect.unit ![o, 0] ![1, 1024] inb, w⟩ :: L)) (ix2 a b)
      = v.read Val (v.writes Val f L) (ix2 a b) :=
  View.read_writes_cons_rows_of_not_mem v f (o := o) (W := 1) inb w L (ix2 a b) rfl rfl (by simp [ix2]; omega)

/-- A load of row `o` reads that row. -/
theorem row_load [∀ e, Nonempty (Val e)] (ha : a.val = o) :
    v.readCov L (Rect.unit (s := S8x1024) ![o, 0] ![1, 1024] inb).toLoadRect (ix2 0 b)
      = v.read Val (v.writes Val v.junk L) (ix2 a b) := by
  rw [View.readCov_eq_canon', View.read_writes_junk_apply_eq_canon]
  refine congrArg (View.canon L) (funext fun k => Fin.ext ?_)
  match k with
  | ⟨0, _⟩ => simp [ix2, ha]
  | ⟨1, _⟩ => simp [ix2]

/-- After a store of the whole block every row reads what was stored. -/
theorem zero_hit (inb' : ∀ a : Fin 2, (![0, 0] : Fin 2 → ℕ) a + (![8, 1024] : Fin 2 → ℕ) a ≤ S8x1024.size a) (z : S8x1024.Idx → Val e) :
    v.read Val (v.writes Val f (⟨Rect.unit ![0, 0] ![8, 1024] inb', z⟩ :: L)) (ix2 a b) = z (ix2 a b) :=
  View.read_writes_cons_rows_of_mem v f (o := 0) inb' z L (ix2 a b) (ix2 a b) rfl (by simp) rfl

end Rows

theorem rect_whole_emb {S : Shape} (j : S.Idx) : (Rect.whole S).emb j = j := by
  funext k
  refine Fin.ext ?_
  simp [Rect.whole, Rect.emb]

/-- A load of the whole of a buffer that was written whole. -/
theorem whole_load {sig' : RefSig} {κ : Kind} {sp : Space} {e : EltTy} {Val : EltTy → Type} [∀ e, Nonempty (Val e)]
    (v : View sig' κ sp S9216x1024 e) (w : S9216x1024.Idx → Val e)
    (inb : ∀ a : Fin 2, (![0, 0] : Fin 2 → ℕ) a + (![9216, 1024] : Fin 2 → ℕ) a ≤ S9216x1024.size a) :
    v.readCov [⟨Rect.whole S9216x1024, w⟩] (Rect.unit (s := S9216x1024) ![0, 0] ![9216, 1024] inb).toLoadRect = w := by
  rw [View.readCov_eq_canon']
  funext j
  have h := View.canon_cons_emb (Rect.whole S9216x1024) w [] j
  rw [rect_whole_emb] at h
  refine Eq.trans (congrArg _ (funext fun k => Fin.ext ?_)) h
  match k with
  | ⟨0, _⟩ => simp
  | ⟨1, _⟩ => simp

theorem canon_whole {S : Shape} {e : EltTy} {Val : EltTy → Type} [∀ e, Nonempty (Val e)] (w : S.Idx → Val e) :
    View.canon [⟨Rect.whole S, w⟩] = w := by
  funext j
  have h := View.canon_cons_emb (Rect.whole S) w [] j
  rwa [rect_whole_emb] at h

/-- The weights' scratch, loaded at the first point, holds the transposed weights at every point. -/
theorem held (c : Dev nD) (n : ℕ) : ∀ hn : n < cfg0.N, (outsAt0 m c n hn).2.2 = V m c main_v1 := by
  induction n with
  | zero =>
    intro hn
    rw [outsAt0_A m c ⟨0, hn⟩ rfl rfl]
    dsimp only
    frame_out
    rw [canon_whole]
    rfl
  | succ n ih =>
    intro hn
    by_cases h : (n + 1) % 8 = 0
    · rw [outsAt0_A m c ⟨n + 1, hn⟩ h h]
      dsimp only
      frame_out
      rw [canon_whole]
      rfl
    · rw [outsAt0_B m c ⟨n + 1, hn⟩ h h]
      dsimp only
      exact ih _

/-- What the products of row `r` of block `t` sum to in column `j`: the cotangent of the block's normalised, scaled input. -/
def dhB (c : Dev nD) (t : Fin cfg0.N) (r : Fin 512) (j : Fin 1024) : EReal :=
  ∑ k : Fin 9216, wide (iblk m c 0 t) (ix2 r k) * (show FVec Ideal S9216x1024 .bf16 from V m c main_v1) (ix2 k j)

/-- The reciprocal root mean square of row `r` of block `t`. -/
def rmsB (c : Dev nD) (t : Fin cfg0.N) (r : Fin 512) : EReal :=
  Ideal.rsqrt (Ideal.div (∑ k : Fin 1024, (show FVec Ideal S512x1024 .f32 from iblk m c 2 t) (ix2 r k) * (show FVec Ideal S512x1024 .f32 from iblk m c 2 t) (ix2 r k))
    (Ideal.ofBits .f32 1149239296#32) + Ideal.ofBits .f32 897988541#32)

/-- What block `t` adds to the three rows of parameter gradients. -/
def vecB (c : Dev nD) (t : Fin cfg0.N) (a : Fin 8) (b : Fin 1024) : EReal :=
  if a.val = 2 then ∑ r : Fin 512, dhB m c t r b
  else if a.val = 1 then ∑ r : Fin 512, dhB m c t r b * ((show FVec Ideal S512x1024 .f32 from iblk m c 2 t) (ix2 r b) * rmsB m c t r) * (show FVec Ideal S1x1024 .f32 from iblk m c 4 t) (ix2 0 b)
  else if a.val = 0 then ∑ r : Fin 512, dhB m c t r b * ((show FVec Ideal S512x1024 .f32 from iblk m c 2 t) (ix2 r b) * rmsB m c t r) * (show FVec Ideal S1x1024 .f32 from iblk m c 5 t) (ix2 0 b)
  else 0

theorem k0_pay2_apply (a : Fin 8) (b : Fin 1024) : (k0_pay2 (F := Ideal)) (ix2 a b) = 0 := by
  unfold_payloads
  pointwise

theorem vec_first (c : Dev nD) (t : Fin cfg0.N) (h0 : t.val % 8 = 0) (a : Fin 8) (b : Fin 1024) :
    (outsAt0 m c t.val t.isLt).2.1 (ix2 a b) = vecB m c t a b := by
  rw [outsAt0_A m c t h0 h0]
  dsimp only
  frame_out
  rw [← View.read_writes_junk_eq_canon (ms0_7 t).view]
  by_cases h2 : a.val = 2
  · rw [row_hit _ _ _ _ _ a b h2]
    obtain rfl : a = 2 := Fin.ext h2
    unfold_payloads
    dsimp only
    rw [wide_eq (iblk m c 0 t) _ _ ?h]
    case h => rfl
    pointwise
    simp only [whole_load]
    rw [row_load (o := 2) _ _ _ 2 b rfl]
    rw [row_miss _ _ _ _ _ 2 b (o := 1) (by decide)]
    rw [row_miss _ _ _ _ _ 2 b (o := 0) (by decide)]
    rw [zero_hit]
    refine (zero_add _).trans ?_
    rfl
  rw [row_miss _ _ _ _ _ a b h2]
  by_cases h1 : a.val = 1
  · rw [row_hit _ _ _ _ _ a b h1]
    obtain rfl : a = 1 := Fin.ext h1
    unfold_payloads
    dsimp only
    rw [wide_eq (iblk m c 0 t) _ _ ?h]
    case h => rfl
    pointwise
    simp only [whole_load]
    rw [row_load (o := 1) _ _ _ 1 b rfl]
    rw [row_miss _ _ _ _ _ 1 b (o := 0) (by decide)]
    rw [zero_hit]
    refine (zero_add _).trans ?_
    rfl
  rw [row_miss _ _ _ _ _ a b h1]
  by_cases h0 : a.val = 0
  · rw [row_hit _ _ _ _ _ a b h0]
    obtain rfl : a = 0 := Fin.ext h0
    unfold_payloads
    dsimp only
    rw [wide_eq (iblk m c 0 t) _ _ ?h]
    case h => rfl
    pointwise
    simp only [whole_load]
    rw [row_load (o := 0) _ _ _ 0 b rfl]
    rw [zero_hit]
    refine (zero_add _).trans ?_
    rfl
  rw [row_miss _ _ _ _ _ a b h0]
  rw [zero_hit, k0_pay2_apply, vecB, if_neg h2, if_neg h1, if_neg h0]

theorem vec_step (c : Dev nD) (t : Fin cfg0.N) (h0 : ¬t.val % 8 = 0) (a : Fin 8) (b : Fin 1024) :
    (outsAt0 m c t.val t.isLt).2.1 (ix2 a b)
      = (outsAt0 m c (t.val - 1) (Nat.lt_of_le_of_lt (Nat.sub_le _ _) t.isLt)).2.1 (ix2 a b) + vecB m c t a b := by
  rw [outsAt0_B m c t h0 h0]
  dsimp only
  frame_out
  by_cases h2 : a.val = 2
  · rw [row_hit _ _ _ _ _ a b h2]
    obtain rfl : a = 2 := Fin.ext h2
    unfold_payloads
    dsimp only
    rw [wide_eq (iblk m c 0 t) _ _ ?h]
    case h => rfl
    pointwise
    simp only [read_unread_whole, held m c]
    rfl
  rw [row_miss _ _ _ _ _ a b h2]
  by_cases h1 : a.val = 1
  · rw [row_hit _ _ _ _ _ a b h1]
    obtain rfl : a = 1 := Fin.ext h1
    unfold_payloads
    dsimp only
    rw [wide_eq (iblk m c 0 t) _ _ ?h]
    case h => rfl
    pointwise
    simp only [read_unread_whole, held m c]
    rfl
  rw [row_miss _ _ _ _ _ a b h1]
  by_cases h0 : a.val = 0
  · rw [row_hit _ _ _ _ _ a b h0]
    obtain rfl : a = 0 := Fin.ext h0
    unfold_payloads
    dsimp only
    rw [wide_eq (iblk m c 0 t) _ _ ?h]
    case h => rfl
    pointwise
    simp only [read_unread_whole, held m c]
    rfl
  rw [row_miss _ _ _ _ _ a b h0]
  rw [View.writes_nil, vecB, if_neg h2, if_neg h1, if_neg h0, add_zero]
  simp only [Memref.IsWhole.read_unread]

/-- The cotangent of the input, at row `r` of block `t`. -/
def gxB (c : Dev nD) (t : Fin cfg0.N) (r : Fin 512) (j : Fin 1024) : EReal :=
  (show FVec Ideal S512x1024 .f32 from iblk m c 3 t) (ix2 r j)
    + rmsB m c t r * (dhB m c t r j * ((show FVec Ideal S1x1024 .f32 from iblk m c 4 t) (ix2 0 j) * (show FVec Ideal S1x1024 .f32 from iblk m c 5 t) (ix2 0 j)))
    - (show FVec Ideal S512x1024 .f32 from iblk m c 2 t) (ix2 r j) * rmsB m c t r * (rmsB m c t r * rmsB m c t r)
      * Ideal.div (∑ k : Fin 1024, (show FVec Ideal S512x1024 .f32 from iblk m c 2 t) (ix2 r k)
          * (dhB m c t r k * ((show FVec Ideal S1x1024 .f32 from iblk m c 4 t) (ix2 0 k) * (show FVec Ideal S1x1024 .f32 from iblk m c 5 t) (ix2 0 k))))
        (Ideal.ofBits .f32 1149239296#32)

theorem gx_block (c : Dev nD) (t : Fin cfg0.N) (y : S512x1024.Idx) :
    (outsAt0 m c t.val t.isLt).1 y = gxB m c t (y 0) (y 1) := by
  by_cases h0 : t.val % 8 = 0
  · rw [outsAt0_A m c t h0 h0]
    dsimp only
    frame_out
    unfold_payloads
    dsimp only
    rw [wide_eq (iblk m c 0 t) _ _ ?h]
    case h => rfl
    pointwise
    simp only [whole_load]
    rfl
  · rw [outsAt0_B m c t h0 h0]
    dsimp only
    frame_out
    unfold_payloads
    dsimp only
    rw [wide_eq (iblk m c 0 t) _ _ ?h]
    case h => rfl
    pointwise
    simp only [read_unread_whole, held m c]
    rfl

end Cert.InpIdeal.Value
end
-- ==== Proof.InpArray.lean ====
module

public import proofs.«01_k».proof.Proof.InpBlock

@[expose] public section

set_option maxRecDepth 16384
noncomputable section

namespace Cert.InpIdeal.Value

open Cert.InpIdeal Cert.InpIdeal.Gen Idealize.ShloMosaic Idealize.ShloMosaic.TcCoe Idealize.SL.Sem
open Idealize.ShloMosaic.Pipeline (Dat)

variable (m : (ℓ : Loc nD τ sig) → Buf (Elt Ideal) ℓ)

abbrev ax (c : Dev nD) : FVec Ideal S1x4096x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev aw (c : Dev nD) : FVec Ideal S1024x9216 .f32 := m ((c : Thread nD τ).loc main_arg4)
abbrev ady (c : Dev nD) : FVec Ideal S1x4096x1024 .f32 := m ((c : Thread nD τ).loc main_arg5)
abbrev adp (c : Dev nD) : FVec Ideal S1x4096x9216 .f32 := m ((c : Thread nD τ).loc main_arg6)

theorem N0 : cfg0.N = 8 := by decide +kernel

theorem row_lt (t : Fin cfg0.N) (r : Fin 512) : t.val * 512 + r.val < 4096 := by
  have := t.isLt; have := N0; omega

theorem x_blk (c : Dev nD) (t : Fin cfg0.N) (r : Fin 512) (j : Fin 1024) :
    (show FVec Ideal S512x1024 .f32 from iblk m c 2 t) (ix2 r j) = ax m c (ix3 0 ⟨t.val * 512 + r.val, row_lt t r⟩ j) := by
  obtain ⟨-, h2, -⟩ := idx t
  blk_point [iblk, V, h2]

theorem dy_blk (c : Dev nD) (t : Fin cfg0.N) (r : Fin 512) (j : Fin 1024) :
    (show FVec Ideal S512x1024 .f32 from iblk m c 3 t) (ix2 r j) = ady m c (ix3 0 ⟨t.val * 512 + r.val, row_lt t r⟩ j) := by
  obtain ⟨-, -, h3, -⟩ := idx t
  blk_point [iblk, V, h3]

theorem dp_blk (c : Dev nD) (t : Fin cfg0.N) (r : Fin 512) (k : Fin 9216) :
    wide (iblk m c 0 t) (ix2 r k) = adp m c (ix3 0 ⟨t.val * 512 + r.val, row_lt t r⟩ k) := by
  obtain ⟨h0, -⟩ := idx t
  unfold wide
  blk_point [iblk, V, h0]

theorem g_blk (c : Dev nD) (t : Fin cfg0.N) (j : Fin 1024) :
    (show FVec Ideal S1x1024 .f32 from iblk m c 4 t) (ix2 0 j) = ag m c (ix2 0 j) := by
  obtain ⟨-, -, -, h4, -⟩ := idx t
  blk_point [iblk, V, h4]

theorem sc_blk (c : Dev nD) (t : Fin cfg0.N) (j : Fin 1024) :
    (show FVec Ideal S1x1024 .f32 from iblk m c 5 t) (ix2 0 j) = Cert.Hand.onePlus (asc m c) j := by
  obtain ⟨-, -, -, -, h5, -⟩ := idx t
  have e : ((cfg0.win 5).blk t).view.emb (ix2 (0 : Fin 1) j) = ix2 (0 : Fin 1) j := by blk_ext [h5]
  show V m c main_v10 (((cfg0.win 5).blk t).view.emb (ix2 (0 : Fin 1) j)) = 1 + m ((c : Thread nD τ).loc main_arg2) (ix2 0 j)
  rw [e]
  entry_read
  pointwise

theorem w_blk (c : Dev nD) (k : Fin 9216) (j : Fin 1024) :
    (show FVec Ideal S9216x1024 .bf16 from V m c main_v1) (ix2 k j) = aw m c (ix2 j k) := by
  blk_point [V]

theorem dhB_eq (c : Dev nD) (t : Fin cfg0.N) (r : Fin 512) (j : Fin 1024) :
    dhB m c t r j = Cert.Hand.dh (aw m c) (adp m c) ⟨t.val * 512 + r.val, row_lt t r⟩ j := by
  unfold dhB Cert.Hand.dh
  exact Fintype.sum_congr _ _ fun k => by rw [dp_blk m c t r k, w_blk m c k j]

theorem rmsB_eq (c : Dev nD) (t : Fin cfg0.N) (r : Fin 512) :
    rmsB m c t r = Cert.Hand.rms (ax m c) ⟨t.val * 512 + r.val, row_lt t r⟩ := by
  unfold rmsB Cert.Hand.rms Cert.Hand.meanSq
  simp only [x_blk m c t r]

theorem gxB_eq (c : Dev nD) (t : Fin cfg0.N) (r : Fin 512) (j : Fin 1024) :
    gxB m c t r j = Cert.Hand.gx (ax m c) (ag m c) (asc m c) (aw m c) (ady m c) (adp m c) ⟨t.val * 512 + r.val, row_lt t r⟩ j := by
  unfold gxB Cert.Hand.gx
  simp only [x_blk m c t, dy_blk m c t, g_blk m c t, sc_blk m c t, dhB_eq m c t, rmsB_eq m c t]

/-- The first result array. -/
theorem gx_array (c : Dev nD) :
    (dats m 0 c).arrAt 6 cfg0.N = fun i => Cert.Hand.gx (ax m c) (ag m c) (asc m c) (aw m c) (ady m c) (adp m c) (i 0) (i 1) := by
  refine (dats m 0 c).arrAt_eq_of_covers 6 _ (by decide +kernel) fun t hf y => ?_
  blk_simp
  rw [after0_6]
  refine (gx_block m c t y).trans ((gxB_eq m c t _ _).trans ?_)
  have e : ((cfg0.win 6).blk t).view.emb y = ix2 (⟨t.val * 512 + (y 0).val, row_lt t _⟩ : Fin 4096) (show Fin 1024 from y 1) := by
    obtain ⟨-, -, -, -, -, h6, -⟩ := idx t
    blk_ext [h6]
  rw [e]
  rfl

theorem vec_sum (c : Dev nD) (a : Fin 8) (b : Fin 1024) :
    ∑ t : Fin cfg0.N, vecB m c t a b = Cert.Hand.vec (ax m c) (ag m c) (asc m c) (aw m c) (adp m c) a b := by
  have key : ∀ F : Fin 4096 → EReal, ∑ t : Fin cfg0.N, ∑ r : Fin 512, F ⟨t.val * 512 + r.val, row_lt t r⟩ = ∑ r, F r := by
    intro F
    exact Fin.sum_mul_add_congr fun t r h => rfl
  unfold vecB Cert.Hand.vec
  split_ifs
  · simp only [dhB_eq m c]; exact key fun r => Cert.Hand.dh (aw m c) (adp m c) r b
  · simp only [x_blk m c, g_blk m c, dhB_eq m c, rmsB_eq m c]
    exact key fun r => Cert.Hand.dh (aw m c) (adp m c) r b * (ax m c (ix3 0 r b) * Cert.Hand.rms (ax m c) r) * ag m c (ix2 0 b)
  · simp only [x_blk m c, sc_blk m c, dhB_eq m c, rmsB_eq m c]
    exact key fun r => Cert.Hand.dh (aw m c) (adp m c) r b * (ax m c (ix3 0 r b) * Cert.Hand.rms (ax m c) r) * Cert.Hand.onePlus (asc m c) b
  · exact Finset.sum_const_zero

/-- The second: the points' sums make the sum over all the rows. -/
theorem vec_array (c : Dev nD) :
    (dats m 0 c).arrAt 7 cfg0.N = fun i => Cert.Hand.vec (ax m c) (ag m c) (asc m c) (aw m c) (adp m c) (i 0) (i 1) := by
  refine (dats m 0 c).arrAt_eq_of_after_last 7 t0_7 (by decide +kernel) _ fun y => ?_
  blk_simp
  rw [after0_7]
  have ey : y = ix2 (show Fin 8 from y 0) (show Fin 1024 from y 1) := by funext k; match k with | ⟨0, _⟩ => rfl | ⟨1, _⟩ => rfl
  refine (congrArg _ ey).trans ?_
  refine (Pipeline.eq_sum_fin_of_reset_step_apply_last (M := EReal) (fun n h (i : Fin 8 × Fin 1024) => (outsAt0 m c n h).2.1 (ix2 i.1 i.2)) 8 (fun _ => 0)
    (fun t i => vecB m c t i.1 i.2) (fun t h i => by rw [zero_add]; exact vec_first m c t h i.1 i.2)
    (fun t h i => vec_step m c t h i.1 i.2) (le_of_eq N0) t0_7 (show (7 : ℕ) + 1 = _ from N0.symm) (show Fin 8 from y 0, show Fin 1024 from y 1)).trans ?_
  rw [zero_add]
  exact vec_sum m c _ _

end Cert.InpIdeal.Value
end
-- ==== Proof.MidRing.lean ====
/- The middle kernel's run, set up: the launch's blocks, the branch conditions over the sixteen points, and the ring of
   tiles the body copies out behind itself into the four groups of slabs of the projection's cotangent. -/
module

public import proofs.«01_k».proof.Proof.Gen.MidIdeal.Launch
public import proofs.«01_k».proof.Proof.Gen.MidIdeal.Skeleton
public import proofs.«01_k».proof.Proof.Gen.MidIdeal.Points
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option maxRecDepth 16384
noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v13_5}

/-! ## The frame claim's post from the frame run's -/

set_option maxHeartbeats 1080000 in
/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_MidIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).1 9).trans (((dats 0 c).arrAt_in 9 rfl _).trans ((hA c 9).trans (V_main_arg6 m c))),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c)⟩) h

/-! ## The body's branch conditions -/

/-- The product's sum is begun: at the first point. -/
abbrev cd1 (i : grid0.Coords) : Prop := k0_cond1 i = 1#1
theorem hcd1 : ∀ t : Fin grid0.N, cd1 (grid0.coords t) ↔ t.val = 0 := by decide +kernel
/-- The product's sum is carried on: after the first point. -/
abbrev cd2 (i : grid0.Coords) : Prop := k0_cond2 i = 1#1
theorem hcd2 : ∀ t : Fin grid0.N, cd2 (grid0.coords t) ↔ t.val ≠ 0 := by decide +kernel
/-- The copies of two points before are waited for. -/
abbrev cd3 (i : grid0.Coords) : Prop := k0_cond3 i = 1#1
theorem hcd3 : ∀ t : Fin grid0.N, cd3 (grid0.coords t) ↔ 2 ≤ t.val := by decide +kernel
/-- The row sums are cleared: at the first point. -/
abbrev cd4 (i : grid0.Coords) : Prop := (Scalar.cmpi .ne (Scalar.extui (Scalar.cmpi .eq (BitVec.ofNat 32 (i 0).val) 0#32)) 0#32) = 1#1
theorem hcd4 : ∀ t : Fin grid0.N, cd4 (grid0.coords t) ↔ t.val = 0 := by decide +kernel
/-- The last copies are waited for: at the last point. -/
abbrev cd5 (i : grid0.Coords) : Prop := k0_cond5 i = 1#1
theorem hcd5 : ∀ t : Fin grid0.N, cd5 (grid0.coords t) ↔ t.val = 15 := by decide +kernel

/-! ## The kernel body on any staging memrefs: a subtype the run finds -/

/-- One staging buffer of output window 13, through which its contents are stated (`View.read_writes_of_cover`: the
    choice does not matter). -/
abbrev VO0_13 : View sig .tc .vmem S256x1024 .f32 := (Memref.whole cc0_stg13_0 : Memref sig .tc .vmem S256x1024 .f32).view
/-- One staging buffer of output window 14, through which its contents are stated (`View.read_writes_of_cover`: the
    choice does not matter). -/
abbrev VO0_14 : View sig .tc .vmem S8x256x128 .bf16 := (Memref.whole cc0_stg14_0 : Memref sig .tc .vmem S8x256x128 .bf16).view
/-- One staging buffer of output window 15, through which its contents are stated (`View.read_writes_of_cover`: the
    choice does not matter). -/
abbrev VO0_15 : View sig .tc .vmem S8x256x128 .bf16 := (Memref.whole cc0_stg15_0 : Memref sig .tc .vmem S8x256x128 .bf16).view
/-- One staging buffer of output window 16, through which its contents are stated (`View.read_writes_of_cover`: the
    choice does not matter). -/
abbrev VO0_16 : View sig .tc .vmem S1024x1024 .f32 := (Memref.whole cc0_stg16_0 : Memref sig .tc .vmem S1024x1024 .f32).view
/-- One staging buffer of output window 17, through which its contents are stated (`View.read_writes_of_cover`: the
    choice does not matter). -/
abbrev VO0_17 : View sig .tc .vmem S8x1024 .f32 := (Memref.whole cc0_stg17_0 : Memref sig .tc .vmem S8x1024 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x256x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x256x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S256x1024 .bf16 := Memref.whole cc0_scratch0
abbrev scM0_1 : Memref sig .tc .vmem S256x1024 .f32 := Memref.whole cc0_scratch1
abbrev scM0_2 : Memref sig .tc .vmem S2x8x4x256x128 .f32 := Memref.whole cc0_scratch2
abbrev scM0_3 : Memref sig .tc .vmem S2x4x8x256x128 .bf16 := Memref.whole cc0_scratch3
/-- The results left in HBM that the body's own copies out of scratch write, whole. -/
abbrev hbM0_0 : Memref sig .tc .hbm S72x4096x128 .bf16 := Memref.whole main_v13_5
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 29, SemLoc.dma 30, SemLoc.dma 31, SemLoc.dma 32, SemLoc.dma 33, SemLoc.dma 34, SemLoc.dma 35, SemLoc.dma 36] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) := by
  rw [Pipeline.ownSems0_eq_of_list c osem0 [0, 1, 2, 3, 4, 5, 6, 7] (by decide) (by decide)]; rfl
/-- The HBM operands the body only reads (none: it writes every operand left in HBM by its own copies out), as references: unscoped, no window's array (`Pipeline.restRefs`). -/
def H0 : Finset (Ref sig .tc) := {}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed (none: `emp`). -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
/-- The written operands' points-tos at some contents each (`Pipeline.owned`), listed. -/
theorem ownedPts0_eq (c : Dev nD) :
    (Pipeline.owned R0 c : sProp 𝕄) = iprop((∃ f, hbPt0 c hbM0_0 f)) := by
  unfold Pipeline.owned; rw [BI.bigSep_eq_bigSepL_of_eq [main_v13_5] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ iprop(emp) ∗ iprop((∃ f, hbPt0 c hbM0_0 f))) := by
  rw [Pipeline.ΦDR_eq, scopedRest0_eq, ownSems00_eq, hbmPts0_eq, ownedPts0_eq]; simp only [scM0_0, scM0_1, scM0_2, scM0_3, owns_whole]; try rfl

/-! ## Write ring 0 of kernel 0: `main_v13_5` written behind through the 2 × 4 tiles of `cc0_scratch3` on the cells of `cc0_scratch4`, each copy waited 2 steps later, in 16 steps (rings.py's fit; Lib/Ring/WriteBehind.lean) -/

instance : NeZero grid0.N := ⟨by rw [N_0]; decide⟩
/-- The first slab of the group the member is copied to: one branch's gate input, the other's, and the two merge gates. -/
def slab : Fin 4 → ℕ := ![24, 48, 56, 64]
theorem slab_le : ∀ m, slab m + 8 ≤ 72 := by decide
theorem slab_ix : ∀ m, slab m = slab m / 8 * 8 := by decide
theorem inb_wtile (g : Fin 2) (m : Fin 4) : ∀ a, (![g.val, m.val, 0, 0, 0] : Fin 5 → Nat) a + S1x1x8x256x128.size a ≤ S2x4x8x256x128.size a := by
  have := g.isLt; have := m.isLt; intro a; fin_cases a <;> simp <;> omega
theorem inb_wpiece (u : Fin 16) (m : Fin 4) : ∀ a, (![slab m, 256 * u.val, 0] : Fin 3 → Nat) a + S8x256x128.size a ≤ S72x4096x128.size a := by
  have := u.isLt; have := slab_le m; intro a; fin_cases a <;> simp <;> omega
theorem inb_wcell (g : Fin 2) (m : Fin 4) : ∀ a, (![g.val, m.val] : Fin 2 → Nat) a + S1x1.size a ≤ S2x4.size a := by
  have := g.isLt; have := m.isLt; intro a; fin_cases a <;> simp <;> omega
/-- Tile (g, m) of the ring — member m of group g —, spelt as the body's copies out spell their SOURCE, at offsets in g and m (`tile_form`). -/
def wtile (g : Fin 2) (m : Fin 4) : Memref sig .tc .vmem S8x256x128 .bf16 :=
  (scM0_3.slice (Rect.unit (s := S2x4x8x256x128) ![g.val, m.val, 0, 0, 0] S1x1x8x256x128.size (inb_wtile g m)) (fun _ => rfl)).squeeze S8x256x128 squeezes_S1x1x8x256x128_S8x256x128
/-- Piece (u, m) of the result: what step u's copy of member m writes, spelt as the copies spell their DESTINATION (`piece_form`). -/
def wpiece (u : Fin 16) (m : Fin 4) : Memref sig .tc .hbm S8x256x128 .bf16 :=
  hbM0_0.slice (Rect.unit (s := S72x4096x128) ![slab m, 256 * u.val, 0] S8x256x128.size (inb_wpiece u m)) (fun _ => rfl)
/-- Cell (g, m) of `cc0_scratch4`, the one tile (g, m)'s copy is counted on, spelt as the body spells a cell; its number in the pool. -/
def wcellA (g : Fin 2) (m : Fin 4) : DmaSems sig S_ := (cc0_scratch4.slice (Rect.unit (s := S2x4) ![g.val, m.val] S1x1.size (inb_wcell g m))).squeeze S_ squeezes_S1x1_S_
abbrev wcellR (g : Fin 2) (m : Fin 4) : SemLoc sig := SemLoc.dma (wcellA g m).sem
theorem wcellR_0_0 : wcellR 0 0 = SemLoc.dma 29 := by decide
theorem wcellR_0_1 : wcellR 0 1 = SemLoc.dma 30 := by decide
theorem wcellR_0_2 : wcellR 0 2 = SemLoc.dma 31 := by decide
theorem wcellR_0_3 : wcellR 0 3 = SemLoc.dma 32 := by decide
theorem wcellR_1_0 : wcellR 1 0 = SemLoc.dma 33 := by decide
theorem wcellR_1_1 : wcellR 1 1 = SemLoc.dma 34 := by decide
theorem wcellR_1_2 : wcellR 1 2 = SemLoc.dma 35 := by decide
theorem wcellR_1_3 : wcellR 1 3 = SemLoc.dma 36 := by decide

section WRing0_0
variable (c : Dev nD)
/-- The families the write ring is stated over: tile (g, m) held at `e`; cell (g, m) at zero; piece (u, m) held at `f`; the
    FLIGHT of tile (g, m)'s copy to piece (u, m) on cell (g, m), delivering the piece and the tile — both under binders (a
    frame names no contents; the tile rides inside the flight, as a copy out lends its source). -/
abbrev wtileP (g : Fin 2) (m : Fin 4) (e : HbBuf0 (F := F) c (wtile g m)) : sProp 𝕄 := (wtile g m).view.loc (c : Thread nD τ) ↦[(wtile g m).view.set]{fullShare} e
abbrev wcellP (g : Fin 2) (m : Fin 4) : sProp 𝕄 := semVal ((c : Thread nD τ), wcellR g m) 0
abbrev wpieceP (u : Fin 16) (m : Fin 4) (f : HbBuf0 (F := F) c (wpiece u m)) : sProp 𝕄 := (wpiece u m).view.loc (c : Thread nD τ) ↦[(wpiece u m).view.set]{fullShare} f
abbrev wflightP (g : Fin 2) (m : Fin 4) (u : Fin 16) : sProp 𝕄 :=
  iprop(∃ f e, Transfers.Flight countersEmb (c : Thread nD τ) (wcellR g m) default ((wpiece u m).view.amount (wcellR g m)) iprop(wpieceP c u m f ∗ wtileP c g m e))
/-- Piece (u, m) holding `v`; the flight of tile (g, m)'s copy that delivers it so. -/
def wpieceV (u : Fin 16) (m : Fin 4) (v : Vec F S8x256x128 .bf16) : sProp 𝕄 :=
  iprop(∃ f, ⌜(wpiece u m).view.read (Elt F) f = v⌝ ∗ wpieceP c u m f)
def wflightV (g : Fin 2) (m : Fin 4) (u : Fin 16) (v : Vec F S8x256x128 .bf16) : sProp 𝕄 :=
  iprop(∃ f e, ⌜(wpiece u m).view.read (Elt F) f = v⌝ ∗ Transfers.Flight countersEmb (c : Thread nD τ) (wcellR g m) default ((wpiece u m).view.amount (wcellR g m)) iprop(wpieceP c u m f ∗ wtileP c g m e))
/-- Lib/Ring/WriteBehind.lean's ROLE families, each the conjunction over the 4 members: group g FREE (its cells at zero, its tiles at
    anything), group g IN FLIGHT with step u's copies, step u's pieces HOME (a frame's one home family: passed for the pieces
    still ahead of the ring and for those behind it alike). -/
abbrev wfree (g : Fin 2) : sProp 𝕄 := iprop((wcellP c g 0 ∗ ∃ e, wtileP c g 0 e) ∗ (wcellP c g 1 ∗ ∃ e, wtileP c g 1 e) ∗ (wcellP c g 2 ∗ ∃ e, wtileP c g 2 e) ∗ (wcellP c g 3 ∗ ∃ e, wtileP c g 3 e))
abbrev winfl (g : Fin 2) (u : Fin 16) : sProp 𝕄 := iprop(wflightP c g 0 u ∗ wflightP c g 1 u ∗ wflightP c g 2 u ∗ wflightP c g 3 u)
abbrev whome (u : Fin 16) : sProp 𝕄 := iprop((∃ f, wpieceP c u 0 f) ∗ (∃ f, wpieceP c u 1 f) ∗ (∃ f, wpieceP c u 2 f) ∗ ∃ f, wpieceP c u 3 f)
/-- The write ring before its step `k` (Lib/Ring/WriteBehind.lean `AtBΦ` at depth 2, the steps between a copy and its wait: before the last step `AtB`, past it `AtBEnd`). -/
def wringAt (k : ℕ) : sProp 𝕄 := Ring.AtBΦ 2 (wfree c) (winfl c) (whome c) (whome c) k
/-- The role families as conjunctions over the members' index set (what `groups_of_parts` and `bigSep_univ_prod` produce). -/
theorem wfree_eq (g : Fin 2) : (bigSep Finset.univ (fun m : Fin 4 => iprop(wcellP (F := F) c g m ∗ ∃ e, wtileP c g m e)) : sProp 𝕄) = wfree c g := by
  rw [BI.bigSep_eq_bigSepL_of_eq [0, 1, 2, 3] (by decide) (by decide)]; rfl
theorem whome_eq (u : Fin 16) : (bigSep Finset.univ (fun m : Fin 4 => iprop(∃ f, wpieceP (F := F) c u m f)) : sProp 𝕄) = whome c u := by
  rw [BI.bigSep_eq_bigSepL_of_eq [0, 1, 2, 3] (by decide) (by decide)]; rfl
omit [FloatOps F] in
theorem wcellP_0_0 : wcellP (F := F) c 0 0 = semVal ((c : Thread nD τ), SemLoc.dma 29) 0 := congrArg (fun x => (semVal ((c : Thread nD τ), x) 0 : sProp 𝕄)) wcellR_0_0
omit [FloatOps F] in
theorem wcellP_0_1 : wcellP (F := F) c 0 1 = semVal ((c : Thread nD τ), SemLoc.dma 30) 0 := congrArg (fun x => (semVal ((c : Thread nD τ), x) 0 : sProp 𝕄)) wcellR_0_1
omit [FloatOps F] in
theorem wcellP_0_2 : wcellP (F := F) c 0 2 = semVal ((c : Thread nD τ), SemLoc.dma 31) 0 := congrArg (fun x => (semVal ((c : Thread nD τ), x) 0 : sProp 𝕄)) wcellR_0_2
omit [FloatOps F] in
theorem wcellP_0_3 : wcellP (F := F) c 0 3 = semVal ((c : Thread nD τ), SemLoc.dma 32) 0 := congrArg (fun x => (semVal ((c : Thread nD τ), x) 0 : sProp 𝕄)) wcellR_0_3
omit [FloatOps F] in
theorem wcellP_1_0 : wcellP (F := F) c 1 0 = semVal ((c : Thread nD τ), SemLoc.dma 33) 0 := congrArg (fun x => (semVal ((c : Thread nD τ), x) 0 : sProp 𝕄)) wcellR_1_0
omit [FloatOps F] in
theorem wcellP_1_1 : wcellP (F := F) c 1 1 = semVal ((c : Thread nD τ), SemLoc.dma 34) 0 := congrArg (fun x => (semVal ((c : Thread nD τ), x) 0 : sProp 𝕄)) wcellR_1_1
omit [FloatOps F] in
theorem wcellP_1_2 : wcellP (F := F) c 1 2 = semVal ((c : Thread nD τ), SemLoc.dma 35) 0 := congrArg (fun x => (semVal ((c : Thread nD τ), x) 0 : sProp 𝕄)) wcellR_1_2
omit [FloatOps F] in
theorem wcellP_1_3 : wcellP (F := F) c 1 3 = semVal ((c : Thread nD τ), SemLoc.dma 36) 0 := congrArg (fun x => (semVal ((c : Thread nD τ), x) 0 : sProp 𝕄)) wcellR_1_3
end WRing0_0

/-! ### The tiles: boxes of one size at box offsets, pairwise disjoint by their box index (Lib/Ring/WriteBehind.lean `boxes_disjoint`: a left inverse, decided) -/

abbrev wtileOff (i : Fin 2 × Fin 4) : Fin 5 → Nat := ![i.1.val, i.2.val, 0, 0, 0]
theorem inb_wtile' (i : Fin 2 × Fin 4) : ∀ a, wtileOff i a + S1x1x8x256x128.size a ≤ S2x4x8x256x128.size a := inb_wtile i.1 i.2
abbrev wtileSet (i : Fin 2 × Fin 4) : Finset S2x4x8x256x128.Idx := (Rect.unit (s := S2x4x8x256x128) (wtileOff i) S1x1x8x256x128.size (inb_wtile' i)).set
theorem wtileSet_eq (g : Fin 2) (m : Fin 4) : (wtile g m).view.set = wtileSet (g, m) := by
  simp only [wtile, Memref.view_squeeze, View.set_reshape]; exact View.set_slice_whole _ _
/-- tile i's box index per axis (offset / extent), and the tile at a box index (its left inverse). -/
def wtileIx (i : Fin 2 × Fin 4) : Fin 5 → ℕ := ![i.1.val, i.2.val, 0, 0, 0]
def wtileUn (v : Fin 5 → ℕ) : Fin 2 × Fin 4 := (Fin.ofNat 2 (v 0), Fin.ofNat 4 (v 1))
theorem wtileUn_left : ∀ i : Fin 2 × Fin 4, wtileUn (wtileIx i) = i := by decide +kernel
theorem wtiles_disjoint (i i' : Fin 2 × Fin 4) (h : i ≠ i') : Disjoint (wtileSet i) (wtileSet i') :=
  Ring.boxes_disjoint (s := S2x4x8x256x128) S1x1x8x256x128.size wtileOff inb_wtile' wtileIx
    (fun i a => by fin_cases a <;> simp [wtileOff, wtileIx] <;> omega) wtileUn wtileUn_left i i' h

/-! ### The pieces: boxes of one size at box offsets, pairwise disjoint by their box index (Lib/Ring/WriteBehind.lean `boxes_disjoint`: a left inverse, decided) -/

abbrev wpieceOff (i : Fin 16 × Fin 4) : Fin 3 → Nat := ![slab i.2, 256 * i.1.val, 0]
theorem inb_wpiece' (i : Fin 16 × Fin 4) : ∀ a, wpieceOff i a + S8x256x128.size a ≤ S72x4096x128.size a := inb_wpiece i.1 i.2
abbrev wpieceSet (i : Fin 16 × Fin 4) : Finset S72x4096x128.Idx := (Rect.unit (s := S72x4096x128) (wpieceOff i) S8x256x128.size (inb_wpiece' i)).set
theorem wpieceSet_eq (u : Fin 16) (m : Fin 4) : (wpiece u m).view.set = wpieceSet (u, m) := by
  simp only [wpiece, Memref.view_squeeze, View.set_reshape]; exact View.set_slice_whole _ _
/-- piece i's box index per axis (offset / extent), and the piece at a box index (its left inverse). -/
def wpieceIx (i : Fin 16 × Fin 4) : Fin 3 → ℕ := ![slab i.2 / 8, i.1.val, 0]
def wpieceUn (v : Fin 3 → ℕ) : Fin 16 × Fin 4 := (Fin.ofNat 16 (v 1), if v 0 = 3 then 0 else Fin.ofNat 4 (v 0 - 5))
theorem wpieceUn_left : ∀ i : Fin 16 × Fin 4, wpieceUn (wpieceIx i) = i := by decide +kernel
theorem wpieces_disjoint (i i' : Fin 16 × Fin 4) (h : i ≠ i') : Disjoint (wpieceSet i) (wpieceSet i') :=
  Ring.boxes_disjoint (s := S72x4096x128) S8x256x128.size wpieceOff inb_wpiece' wpieceIx
    (fun i a => by have := slab_ix i.2; fin_cases a <;> simp [wpieceOff, wpieceIx] <;> omega) wpieceUn wpieceUn_left i i' h

/-! ### What the launch hands the write ring, and takes back -/

section WInOut0_0
variable (c : Dev nD)
theorem wtileP_eq (g : Fin 2) (m : Fin 4) (e) : wtileP (F := F) c g m e = (((c : Thread nD τ).loc cc0_scratch3) ↦[wtileSet (g, m)]{fullShare} e : sProp 𝕄) := by
  unfold wtileP; rw [wtileSet_eq]; rfl
theorem wpieceP_eq (u : Fin 16) (m : Fin 4) (f) : wpieceP (F := F) c u m f = (((c : Thread nD τ).loc main_v13_5) ↦[wpieceSet (u, m)]{fullShare} f : sProp 𝕄) := by
  unfold wpieceP; rw [wpieceSet_eq]; rfl
/-- The scratch's elements outside every tile, and the result's outside every piece: carried beside the ring at some contents, handed
    to no run (no statement of the body names them). -/
abbrev wtileSpare : sProp 𝕄 := iprop(∃ f : Buf (Elt F) ((c : Thread nD τ).loc cc0_scratch3), ((c : Thread nD τ).loc cc0_scratch3) ↦[Finset.univ \ Finset.univ.biUnion wtileSet]{fullShare} f)
abbrev wpieceSpare : sProp 𝕄 := iprop(∃ f : Buf (Elt F) ((c : Thread nD τ).loc main_v13_5), ((c : Thread nD τ).loc main_v13_5) ↦[Finset.univ \ Finset.univ.biUnion wpieceSet]{fullShare} f)
/-- the scratch whole at anything is its tiles at something each and the spare elements; the result likewise its pieces; and back. -/
theorem wtiles_in : iprop(∃ d, owns (c : Thread nD τ) scM0_3 fullShare d) ⊢ (iprop(bigSep Finset.univ (fun i : Fin 2 × Fin 4 => iprop(∃ e, wtileP (F := F) c i.1 i.2 e)) ∗ wtileSpare c) : sProp 𝕄) := by
  simp only [scM0_3, owns_whole]
  exact Ring.pieces_split_spare (U := Pipeline.UD sig nD τ) (ℓ := (c : Thread nD τ).loc cc0_scratch3) (q := fullShare) wtileSet wtiles_disjoint
    (fun i e => wtileP c i.1 i.2 e) (fun i e => wtileP_eq c i.1 i.2 e)
theorem wtiles_out : (iprop(bigSep Finset.univ (fun i : Fin 2 × Fin 4 => iprop(∃ e, wtileP (F := F) c i.1 i.2 e)) ∗ wtileSpare c) : sProp 𝕄) ⊢ iprop(∃ d, owns (c : Thread nD τ) scM0_3 fullShare d) := by
  simp only [scM0_3, owns_whole]
  exact Ring.pieces_join_spare (U := Pipeline.UD sig nD τ) (ℓ := (c : Thread nD τ).loc cc0_scratch3) (q := fullShare) wtileSet wtiles_disjoint
    (fun i e => wtileP c i.1 i.2 e) (fun i e => wtileP_eq c i.1 i.2 e)
theorem wpieces_in : iprop(∃ f, hbPt0 c hbM0_0 f) ⊢ (iprop(bigSep Finset.univ (fun i : Fin 16 × Fin 4 => iprop(∃ f, wpieceP (F := F) c i.1 i.2 f)) ∗ wpieceSpare c) : sProp 𝕄) := by
  unfold hbPt0
  exact Ring.pieces_split_spare (U := Pipeline.UD sig nD τ) (ℓ := (c : Thread nD τ).loc main_v13_5) (q := fullShare) wpieceSet wpieces_disjoint
    (fun i f => wpieceP c i.1 i.2 f) (fun i f => wpieceP_eq c i.1 i.2 f)
theorem wpieces_out : (iprop(bigSep Finset.univ (fun i : Fin 16 × Fin 4 => iprop(∃ f, wpieceP (F := F) c i.1 i.2 f)) ∗ wpieceSpare c) : sProp 𝕄) ⊢ iprop(∃ f, hbPt0 c hbM0_0 f) := by
  unfold hbPt0
  exact Ring.pieces_join_spare (U := Pipeline.UD sig nD τ) (ℓ := (c : Thread nD τ).loc main_v13_5) (q := fullShare) wpieceSet wpieces_disjoint
    (fun i f => wpieceP c i.1 i.2 f) (fun i f => wpieceP_eq c i.1 i.2 f)
/-- The ring's cells at zero, listed as the launch lists them, are the family over (group, member). -/
theorem wcells_eq : (bigSep Finset.univ (fun i : Fin 2 × Fin 4 => wcellP (F := F) c i.1 i.2) : sProp 𝕄) = iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) := by
  rw [BI.bigSep_eq_bigSepL_of_eq [(0, 0), (0, 1), (0, 2), (0, 3), (1, 0), (1, 1), (1, 2), (1, 3)] (by decide) (by decide)]; simp only [BI.bigSepL_cons_cons, BI.bigSepL_singleton, wcellP_0_0, wcellP_0_1, wcellP_0_2, wcellP_0_3, wcellP_1_0, wcellP_1_1, wcellP_1_2, wcellP_1_3]; rfl
/-- the two families over (group, member) regrouped by group are the groups free; the pieces over (step, member), the steps home -/
theorem wfrees_eq : iprop(bigSep Finset.univ (fun i : Fin 2 × Fin 4 => wcellP (F := F) c i.1 i.2) ∗ bigSep Finset.univ (fun i : Fin 2 × Fin 4 => iprop(∃ e, wtileP (F := F) c i.1 i.2 e))) = (bigSep Finset.univ (wfree c) : sProp 𝕄) := by
  exact (Ring.groups_of_parts (fun g m => wcellP (F := F) c g m) (fun g m => iprop(∃ e, wtileP (F := F) c g m e))).trans (BI.bigSep_congr fun g _ => wfree_eq c g)
theorem whomes_eq : (bigSep Finset.univ (fun i : Fin 16 × Fin 4 => iprop(∃ f, wpieceP (F := F) c i.1 i.2 f)) : sProp 𝕄) = bigSep Finset.univ (whome c) := by
  rw [BI.bigSep_univ_prod]; exact BI.bigSep_congr fun u _ => whome_eq c u
end WInOut0_0

/-- INTO THE WRITE RING: the launch's pieces — the scratch whole, the ring's cells at zero, the result whole at some contents — are the
    ring before step 0 (Lib `AtB_zero`: every piece home, every group free), with the spare elements beside it; -/
theorem wring_in (c : Dev nD) :
    iprop((∃ d, owns (c : Thread nD τ) scM0_3 fullShare d) ∗ (semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ (∃ f, hbPt0 (F := F) c hbM0_0 f))
      ⊢ iprop(wringAt (F := F) c 0 ∗ wtileSpare c ∗ wpieceSpare c) := by
  unfold wringAt; rw [Ring.AtBΦ_lt _ _ _ _ _ 0 (by decide), Ring.AtB_zero]; unfold Ring.AtB₀
  rw [← whomes_eq, ← wfrees_eq, wcells_eq]
  iintro ⟨HS, HQ, HD⟩
  ihave HS' := (wtiles_in (F := F) c) $$ HS
  icases HS' with ⟨HT, HTsp⟩
  ihave HD' := (wpieces_in (F := F) c) $$ HD
  icases HD' with ⟨HP, HPsp⟩
  isplitl [HP HQ HT]
  · isplitl [HP]
    · iexact HP
    isplitl [HQ]
    · iexact HQ
    iexact HT
  isplitl [HTsp]
  · iexact HTsp
  iexact HPsp
/-- OUT OF THE WRITE RING: after the last step's drain (`AtBEnd`, which for a frame is `AtB₀`: `AtBEnd_frame`) those pieces again. -/
theorem wring_out (c : Dev nD) :
    iprop(wringAt (F := F) c 16 ∗ wtileSpare c ∗ wpieceSpare c)
      ⊢ iprop((∃ d, owns (c : Thread nD τ) scM0_3 fullShare d) ∗ (semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ (∃ f, hbPt0 (F := F) c hbM0_0 f)) := by
  unfold wringAt; rw [Ring.AtBΦ_ge _ _ _ _ _ 16 (by decide), Ring.AtBEnd_frame]; unfold Ring.AtB₀
  rw [← whomes_eq, ← wfrees_eq, wcells_eq]
  iintro ⟨⟨HP, HQ, HT⟩, HTsp, HPsp⟩
  isplitl [HT HTsp]
  · iapply (wtiles_out (F := F) c)
    isplitl [HT]
    · iexact HT
    iexact HTsp
  isplitl [HQ]
  · iexact HQ
  iapply (wpieces_out (F := F) c)
  isplitl [HP]
  · iexact HP
  iexact HPsp

/-! ### Write ring 0's steps at each case's points, and its canonical names: the body's operands at point `t` are the ring's tiles, pieces and cells -/

section WCanon0_0
omit [FloatOps F]
set_option synthInstance.maxSize 4096 in
theorem wcoff_1 : ∀ t : Fin grid0.N, k0_off45 (grid0.coords t) = ![(Ring.sl 2 t.val).val, 0] := by decide +kernel
@[sl_canon] theorem wcanon_1 (t : Fin grid0.N) :
    (cc0_scratch4.slice (Rect.unit (s := S2x4) (k0_off45 (grid0.coords t)) S1x1.size (k0_off45_inb (grid0.coords t)))).squeeze S_ squeezes_S1x1_S_ = wcellA (Ring.sl 2 t.val) 0 :=
  congrArg (fun A : DmaSems sig S1x1 => A.squeeze S_ squeezes_S1x1_S_) (SemArray.slice_unit_congr _ (wcoff_1 t) _ _)
@[sl_canon] theorem wcanon_1' (t : Fin grid0.N) :
    (cc0_scratch4.slice (Rect.unit (s := S2x4) (k0_off45 (grid0.coords t)) ![1, 1] (k0_off45_inb (grid0.coords t)))).squeeze S_ squeezes_S1x1_S_ = wcellA (Ring.sl 2 t.val) 0 :=
  wcanon_1 t
set_option synthInstance.maxSize 4096 in
theorem wcoff_2 : ∀ t : Fin grid0.N, k0_off47 (grid0.coords t) = ![(Ring.sl 2 t.val).val, 0, 0, 0, 0] := by decide +kernel
@[sl_canon] theorem wcanon_2 (t : Fin grid0.N) :
    (scM0_3.slice (Rect.unit (s := S2x4x8x256x128) (k0_off47 (grid0.coords t)) S1x1x8x256x128.size (k0_off47_inb (grid0.coords t))) (fun _ => rfl)).squeeze S8x256x128 squeezes_S1x1x8x256x128_S8x256x128 = wtile (Ring.sl 2 t.val) 0 :=
  congrArg (fun M : Memref sig .tc .vmem S1x1x8x256x128 .bf16 => M.squeeze S8x256x128 squeezes_S1x1x8x256x128_S8x256x128) (Memref.slice_unit_congr _ (wcoff_2 t) _ _ (fun _ => rfl) (fun _ => rfl))
@[sl_canon] theorem wcanon_2' (t : Fin grid0.N) :
    (scM0_3.slice (Rect.unit (s := S2x4x8x256x128) (k0_off47 (grid0.coords t)) ![1, 1, 8, 256, 128] (k0_off47_inb (grid0.coords t))) (fun _ => rfl)).squeeze S8x256x128 squeezes_S1x1x8x256x128_S8x256x128 = wtile (Ring.sl 2 t.val) 0 :=
  wcanon_2 t
set_option synthInstance.maxSize 4096 in
theorem wcoff_3 : ∀ t : Fin grid0.N, k0_off46 (grid0.coords t) = ![slab 0, 256 * (Ring.bk 16 t.val).val, 0] := by decide +kernel
@[sl_canon] theorem wcanon_3 (t : Fin grid0.N) :
    hbM0_0.slice (Rect.unit (s := S72x4096x128) (k0_off46 (grid0.coords t)) S8x256x128.size (k0_off46_inb (grid0.coords t))) (fun _ => rfl) = wpiece (Ring.bk 16 t.val) 0 :=
  congrArg (fun M : Memref sig .tc .hbm S8x256x128 .bf16 => M) (Memref.slice_unit_congr _ (wcoff_3 t) _ _ (fun _ => rfl) (fun _ => rfl))
@[sl_canon] theorem wcanon_3' (t : Fin grid0.N) :
    hbM0_0.slice (Rect.unit (s := S72x4096x128) (k0_off46 (grid0.coords t)) ![8, 256, 128] (k0_off46_inb (grid0.coords t))) (fun _ => rfl) = wpiece (Ring.bk 16 t.val) 0 :=
  wcanon_3 t
set_option synthInstance.maxSize 4096 in
theorem wcoff_4 : ∀ t : Fin grid0.N, k0_off48 (grid0.coords t) = ![(Ring.sl 2 t.val).val, 1] := by decide +kernel
@[sl_canon] theorem wcanon_4 (t : Fin grid0.N) :
    (cc0_scratch4.slice (Rect.unit (s := S2x4) (k0_off48 (grid0.coords t)) S1x1.size (k0_off48_inb (grid0.coords t)))).squeeze S_ squeezes_S1x1_S_ = wcellA (Ring.sl 2 t.val) 1 :=
  congrArg (fun A : DmaSems sig S1x1 => A.squeeze S_ squeezes_S1x1_S_) (SemArray.slice_unit_congr _ (wcoff_4 t) _ _)
@[sl_canon] theorem wcanon_4' (t : Fin grid0.N) :
    (cc0_scratch4.slice (Rect.unit (s := S2x4) (k0_off48 (grid0.coords t)) ![1, 1] (k0_off48_inb (grid0.coords t)))).squeeze S_ squeezes_S1x1_S_ = wcellA (Ring.sl 2 t.val) 1 :=
  wcanon_4 t
set_option synthInstance.maxSize 4096 in
theorem wcoff_5 : ∀ t : Fin grid0.N, k0_off50 (grid0.coords t) = ![(Ring.sl 2 t.val).val, 1, 0, 0, 0] := by decide +kernel
@[sl_canon] theorem wcanon_5 (t : Fin grid0.N) :
    (scM0_3.slice (Rect.unit (s := S2x4x8x256x128) (k0_off50 (grid0.coords t)) S1x1x8x256x128.size (k0_off50_inb (grid0.coords t))) (fun _ => rfl)).squeeze S8x256x128 squeezes_S1x1x8x256x128_S8x256x128 = wtile (Ring.sl 2 t.val) 1 :=
  congrArg (fun M : Memref sig .tc .vmem S1x1x8x256x128 .bf16 => M.squeeze S8x256x128 squeezes_S1x1x8x256x128_S8x256x128) (Memref.slice_unit_congr _ (wcoff_5 t) _ _ (fun _ => rfl) (fun _ => rfl))
@[sl_canon] theorem wcanon_5' (t : Fin grid0.N) :
    (scM0_3.slice (Rect.unit (s := S2x4x8x256x128) (k0_off50 (grid0.coords t)) ![1, 1, 8, 256, 128] (k0_off50_inb (grid0.coords t))) (fun _ => rfl)).squeeze S8x256x128 squeezes_S1x1x8x256x128_S8x256x128 = wtile (Ring.sl 2 t.val) 1 :=
  wcanon_5 t
set_option synthInstance.maxSize 4096 in
theorem wcoff_6 : ∀ t : Fin grid0.N, k0_off49 (grid0.coords t) = ![slab 1, 256 * (Ring.bk 16 t.val).val, 0] := by decide +kernel
@[sl_canon] theorem wcanon_6 (t : Fin grid0.N) :
    hbM0_0.slice (Rect.unit (s := S72x4096x128) (k0_off49 (grid0.coords t)) S8x256x128.size (k0_off49_inb (grid0.coords t))) (fun _ => rfl) = wpiece (Ring.bk 16 t.val) 1 :=
  congrArg (fun M : Memref sig .tc .hbm S8x256x128 .bf16 => M) (Memref.slice_unit_congr _ (wcoff_6 t) _ _ (fun _ => rfl) (fun _ => rfl))
@[sl_canon] theorem wcanon_6' (t : Fin grid0.N) :
    hbM0_0.slice (Rect.unit (s := S72x4096x128) (k0_off49 (grid0.coords t)) ![8, 256, 128] (k0_off49_inb (grid0.coords t))) (fun _ => rfl) = wpiece (Ring.bk 16 t.val) 1 :=
  wcanon_6 t
set_option synthInstance.maxSize 4096 in
theorem wcoff_7 : ∀ t : Fin grid0.N, k0_off51 (grid0.coords t) = ![(Ring.sl 2 t.val).val, 2] := by decide +kernel
@[sl_canon] theorem wcanon_7 (t : Fin grid0.N) :
    (cc0_scratch4.slice (Rect.unit (s := S2x4) (k0_off51 (grid0.coords t)) S1x1.size (k0_off51_inb (grid0.coords t)))).squeeze S_ squeezes_S1x1_S_ = wcellA (Ring.sl 2 t.val) 2 :=
  congrArg (fun A : DmaSems sig S1x1 => A.squeeze S_ squeezes_S1x1_S_) (SemArray.slice_unit_congr _ (wcoff_7 t) _ _)
@[sl_canon] theorem wcanon_7' (t : Fin grid0.N) :
    (cc0_scratch4.slice (Rect.unit (s := S2x4) (k0_off51 (grid0.coords t)) ![1, 1] (k0_off51_inb (grid0.coords t)))).squeeze S_ squeezes_S1x1_S_ = wcellA (Ring.sl 2 t.val) 2 :=
  wcanon_7 t
set_option synthInstance.maxSize 4096 in
theorem wcoff_8 : ∀ t : Fin grid0.N, k0_off53 (grid0.coords t) = ![(Ring.sl 2 t.val).val, 2, 0, 0, 0] := by decide +kernel
@[sl_canon] theorem wcanon_8 (t : Fin grid0.N) :
    (scM0_3.slice (Rect.unit (s := S2x4x8x256x128) (k0_off53 (grid0.coords t)) S1x1x8x256x128.size (k0_off53_inb (grid0.coords t))) (fun _ => rfl)).squeeze S8x256x128 squeezes_S1x1x8x256x128_S8x256x128 = wtile (Ring.sl 2 t.val) 2 :=
  congrArg (fun M : Memref sig .tc .vmem S1x1x8x256x128 .bf16 => M.squeeze S8x256x128 squeezes_S1x1x8x256x128_S8x256x128) (Memref.slice_unit_congr _ (wcoff_8 t) _ _ (fun _ => rfl) (fun _ => rfl))
@[sl_canon] theorem wcanon_8' (t : Fin grid0.N) :
    (scM0_3.slice (Rect.unit (s := S2x4x8x256x128) (k0_off53 (grid0.coords t)) ![1, 1, 8, 256, 128] (k0_off53_inb (grid0.coords t))) (fun _ => rfl)).squeeze S8x256x128 squeezes_S1x1x8x256x128_S8x256x128 = wtile (Ring.sl 2 t.val) 2 :=
  wcanon_8 t
set_option synthInstance.maxSize 4096 in
theorem wcoff_9 : ∀ t : Fin grid0.N, k0_off52 (grid0.coords t) = ![slab 2, 256 * (Ring.bk 16 t.val).val, 0] := by decide +kernel
@[sl_canon] theorem wcanon_9 (t : Fin grid0.N) :
    hbM0_0.slice (Rect.unit (s := S72x4096x128) (k0_off52 (grid0.coords t)) S8x256x128.size (k0_off52_inb (grid0.coords t))) (fun _ => rfl) = wpiece (Ring.bk 16 t.val) 2 :=
  congrArg (fun M : Memref sig .tc .hbm S8x256x128 .bf16 => M) (Memref.slice_unit_congr _ (wcoff_9 t) _ _ (fun _ => rfl) (fun _ => rfl))
@[sl_canon] theorem wcanon_9' (t : Fin grid0.N) :
    hbM0_0.slice (Rect.unit (s := S72x4096x128) (k0_off52 (grid0.coords t)) ![8, 256, 128] (k0_off52_inb (grid0.coords t))) (fun _ => rfl) = wpiece (Ring.bk 16 t.val) 2 :=
  wcanon_9 t
set_option synthInstance.maxSize 4096 in
theorem wcoff_10 : ∀ t : Fin grid0.N, k0_off54 (grid0.coords t) = ![(Ring.sl 2 t.val).val, 3] := by decide +kernel
@[sl_canon] theorem wcanon_10 (t : Fin grid0.N) :
    (cc0_scratch4.slice (Rect.unit (s := S2x4) (k0_off54 (grid0.coords t)) S1x1.size (k0_off54_inb (grid0.coords t)))).squeeze S_ squeezes_S1x1_S_ = wcellA (Ring.sl 2 t.val) 3 :=
  congrArg (fun A : DmaSems sig S1x1 => A.squeeze S_ squeezes_S1x1_S_) (SemArray.slice_unit_congr _ (wcoff_10 t) _ _)
@[sl_canon] theorem wcanon_10' (t : Fin grid0.N) :
    (cc0_scratch4.slice (Rect.unit (s := S2x4) (k0_off54 (grid0.coords t)) ![1, 1] (k0_off54_inb (grid0.coords t)))).squeeze S_ squeezes_S1x1_S_ = wcellA (Ring.sl 2 t.val) 3 :=
  wcanon_10 t
set_option synthInstance.maxSize 4096 in
theorem wcoff_11 : ∀ t : Fin grid0.N, k0_off56 (grid0.coords t) = ![(Ring.sl 2 t.val).val, 3, 0, 0, 0] := by decide +kernel
@[sl_canon] theorem wcanon_11 (t : Fin grid0.N) :
    (scM0_3.slice (Rect.unit (s := S2x4x8x256x128) (k0_off56 (grid0.coords t)) S1x1x8x256x128.size (k0_off56_inb (grid0.coords t))) (fun _ => rfl)).squeeze S8x256x128 squeezes_S1x1x8x256x128_S8x256x128 = wtile (Ring.sl 2 t.val) 3 :=
  congrArg (fun M : Memref sig .tc .vmem S1x1x8x256x128 .bf16 => M.squeeze S8x256x128 squeezes_S1x1x8x256x128_S8x256x128) (Memref.slice_unit_congr _ (wcoff_11 t) _ _ (fun _ => rfl) (fun _ => rfl))
@[sl_canon] theorem wcanon_11' (t : Fin grid0.N) :
    (scM0_3.slice (Rect.unit (s := S2x4x8x256x128) (k0_off56 (grid0.coords t)) ![1, 1, 8, 256, 128] (k0_off56_inb (grid0.coords t))) (fun _ => rfl)).squeeze S8x256x128 squeezes_S1x1x8x256x128_S8x256x128 = wtile (Ring.sl 2 t.val) 3 :=
  wcanon_11 t
set_option synthInstance.maxSize 4096 in
theorem wcoff_12 : ∀ t : Fin grid0.N, k0_off55 (grid0.coords t) = ![slab 3, 256 * (Ring.bk 16 t.val).val, 0] := by decide +kernel
@[sl_canon] theorem wcanon_12 (t : Fin grid0.N) :
    hbM0_0.slice (Rect.unit (s := S72x4096x128) (k0_off55 (grid0.coords t)) S8x256x128.size (k0_off55_inb (grid0.coords t))) (fun _ => rfl) = wpiece (Ring.bk 16 t.val) 3 :=
  congrArg (fun M : Memref sig .tc .hbm S8x256x128 .bf16 => M) (Memref.slice_unit_congr _ (wcoff_12 t) _ _ (fun _ => rfl) (fun _ => rfl))
@[sl_canon] theorem wcanon_12' (t : Fin grid0.N) :
    hbM0_0.slice (Rect.unit (s := S72x4096x128) (k0_off55 (grid0.coords t)) ![8, 256, 128] (k0_off55_inb (grid0.coords t))) (fun _ => rfl) = wpiece (Ring.bk 16 t.val) 3 :=
  wcanon_12 t
set_option synthInstance.maxSize 4096 in
theorem wcoff_13 : ∀ t : Fin grid0.N, k0_off1 (grid0.coords t) = ![(Ring.sl 2 t.val).val, 0] := by decide +kernel
@[sl_canon] theorem wcanon_13 (t : Fin grid0.N) (h0 : cd3 (grid0.coords t)) :
    (cc0_scratch4.slice (Rect.unit (s := S2x4) (k0_off1 (grid0.coords t)) S1x1.size (k0_off1_inb (grid0.coords t) h0))).squeeze S_ squeezes_S1x1_S_ = wcellA (Ring.sl 2 t.val) 0 :=
  congrArg (fun A : DmaSems sig S1x1 => A.squeeze S_ squeezes_S1x1_S_) (SemArray.slice_unit_congr _ (wcoff_13 t) _ _)
@[sl_canon] theorem wcanon_13' (t : Fin grid0.N) (h0 : cd3 (grid0.coords t)) :
    (cc0_scratch4.slice (Rect.unit (s := S2x4) (k0_off1 (grid0.coords t)) ![1, 1] (k0_off1_inb (grid0.coords t) h0))).squeeze S_ squeezes_S1x1_S_ = wcellA (Ring.sl 2 t.val) 0 :=
  wcanon_13 t h0
set_option synthInstance.maxSize 4096 in
theorem wcoff_14 : ∀ t : Fin grid0.N, k0_off3 (grid0.coords t) = ![(Ring.sl 2 t.val).val, 0, 0, 0, 0] := by decide +kernel
@[sl_canon] theorem wcanon_14 (t : Fin grid0.N) (h0 : cd3 (grid0.coords t)) :
    (scM0_3.slice (Rect.unit (s := S2x4x8x256x128) (k0_off3 (grid0.coords t)) S1x1x8x256x128.size (k0_off3_inb (grid0.coords t) h0)) (fun _ => rfl)).squeeze S8x256x128 squeezes_S1x1x8x256x128_S8x256x128 = wtile (Ring.sl 2 t.val) 0 :=
  congrArg (fun M : Memref sig .tc .vmem S1x1x8x256x128 .bf16 => M.squeeze S8x256x128 squeezes_S1x1x8x256x128_S8x256x128) (Memref.slice_unit_congr _ (wcoff_14 t) _ _ (fun _ => rfl) (fun _ => rfl))
@[sl_canon] theorem wcanon_14' (t : Fin grid0.N) (h0 : cd3 (grid0.coords t)) :
    (scM0_3.slice (Rect.unit (s := S2x4x8x256x128) (k0_off3 (grid0.coords t)) ![1, 1, 8, 256, 128] (k0_off3_inb (grid0.coords t) h0)) (fun _ => rfl)).squeeze S8x256x128 squeezes_S1x1x8x256x128_S8x256x128 = wtile (Ring.sl 2 t.val) 0 :=
  wcanon_14 t h0
set_option synthInstance.maxSize 4096 in
theorem wcoff_15 : ∀ t : Fin grid0.N, k0_off4 (grid0.coords t) = ![(Ring.sl 2 t.val).val, 1] := by decide +kernel
@[sl_canon] theorem wcanon_15 (t : Fin grid0.N) (h0 : cd3 (grid0.coords t)) :
    (cc0_scratch4.slice (Rect.unit (s := S2x4) (k0_off4 (grid0.coords t)) S1x1.size (k0_off4_inb (grid0.coords t) h0))).squeeze S_ squeezes_S1x1_S_ = wcellA (Ring.sl 2 t.val) 1 :=
  congrArg (fun A : DmaSems sig S1x1 => A.squeeze S_ squeezes_S1x1_S_) (SemArray.slice_unit_congr _ (wcoff_15 t) _ _)
@[sl_canon] theorem wcanon_15' (t : Fin grid0.N) (h0 : cd3 (grid0.coords t)) :
    (cc0_scratch4.slice (Rect.unit (s := S2x4) (k0_off4 (grid0.coords t)) ![1, 1] (k0_off4_inb (grid0.coords t) h0))).squeeze S_ squeezes_S1x1_S_ = wcellA (Ring.sl 2 t.val) 1 :=
  wcanon_15 t h0
set_option synthInstance.maxSize 4096 in
theorem wcoff_16 : ∀ t : Fin grid0.N, k0_off6 (grid0.coords t) = ![(Ring.sl 2 t.val).val, 1, 0, 0, 0] := by decide +kernel
@[sl_canon] theorem wcanon_16 (t : Fin grid0.N) (h0 : cd3 (grid0.coords t)) :
    (scM0_3.slice (Rect.unit (s := S2x4x8x256x128) (k0_off6 (grid0.coords t)) S1x1x8x256x128.size (k0_off6_inb (grid0.coords t) h0)) (fun _ => rfl)).squeeze S8x256x128 squeezes_S1x1x8x256x128_S8x256x128 = wtile (Ring.sl 2 t.val) 1 :=
  congrArg (fun M : Memref sig .tc .vmem S1x1x8x256x128 .bf16 => M.squeeze S8x256x128 squeezes_S1x1x8x256x128_S8x256x128) (Memref.slice_unit_congr _ (wcoff_16 t) _ _ (fun _ => rfl) (fun _ => rfl))
@[sl_canon] theorem wcanon_16' (t : Fin grid0.N) (h0 : cd3 (grid0.coords t)) :
    (scM0_3.slice (Rect.unit (s := S2x4x8x256x128) (k0_off6 (grid0.coords t)) ![1, 1, 8, 256, 128] (k0_off6_inb (grid0.coords t) h0)) (fun _ => rfl)).squeeze S8x256x128 squeezes_S1x1x8x256x128_S8x256x128 = wtile (Ring.sl 2 t.val) 1 :=
  wcanon_16 t h0
set_option synthInstance.maxSize 4096 in
theorem wcoff_17 : ∀ t : Fin grid0.N, k0_off7 (grid0.coords t) = ![(Ring.sl 2 t.val).val, 2] := by decide +kernel
@[sl_canon] theorem wcanon_17 (t : Fin grid0.N) (h0 : cd3 (grid0.coords t)) :
    (cc0_scratch4.slice (Rect.unit (s := S2x4) (k0_off7 (grid0.coords t)) S1x1.size (k0_off7_inb (grid0.coords t) h0))).squeeze S_ squeezes_S1x1_S_ = wcellA (Ring.sl 2 t.val) 2 :=
  congrArg (fun A : DmaSems sig S1x1 => A.squeeze S_ squeezes_S1x1_S_) (SemArray.slice_unit_congr _ (wcoff_17 t) _ _)
@[sl_canon] theorem wcanon_17' (t : Fin grid0.N) (h0 : cd3 (grid0.coords t)) :
    (cc0_scratch4.slice (Rect.unit (s := S2x4) (k0_off7 (grid0.coords t)) ![1, 1] (k0_off7_inb (grid0.coords t) h0))).squeeze S_ squeezes_S1x1_S_ = wcellA (Ring.sl 2 t.val) 2 :=
  wcanon_17 t h0
set_option synthInstance.maxSize 4096 in
theorem wcoff_18 : ∀ t : Fin grid0.N, k0_off9 (grid0.coords t) = ![(Ring.sl 2 t.val).val, 2, 0, 0, 0] := by decide +kernel
@[sl_canon] theorem wcanon_18 (t : Fin grid0.N) (h0 : cd3 (grid0.coords t)) :
    (scM0_3.slice (Rect.unit (s := S2x4x8x256x128) (k0_off9 (grid0.coords t)) S1x1x8x256x128.size (k0_off9_inb (grid0.coords t) h0)) (fun _ => rfl)).squeeze S8x256x128 squeezes_S1x1x8x256x128_S8x256x128 = wtile (Ring.sl 2 t.val) 2 :=
  congrArg (fun M : Memref sig .tc .vmem S1x1x8x256x128 .bf16 => M.squeeze S8x256x128 squeezes_S1x1x8x256x128_S8x256x128) (Memref.slice_unit_congr _ (wcoff_18 t) _ _ (fun _ => rfl) (fun _ => rfl))
@[sl_canon] theorem wcanon_18' (t : Fin grid0.N) (h0 : cd3 (grid0.coords t)) :
    (scM0_3.slice (Rect.unit (s := S2x4x8x256x128) (k0_off9 (grid0.coords t)) ![1, 1, 8, 256, 128] (k0_off9_inb (grid0.coords t) h0)) (fun _ => rfl)).squeeze S8x256x128 squeezes_S1x1x8x256x128_S8x256x128 = wtile (Ring.sl 2 t.val) 2 :=
  wcanon_18 t h0
set_option synthInstance.maxSize 4096 in
theorem wcoff_19 : ∀ t : Fin grid0.N, k0_off10 (grid0.coords t) = ![(Ring.sl 2 t.val).val, 3] := by decide +kernel
@[sl_canon] theorem wcanon_19 (t : Fin grid0.N) (h0 : cd3 (grid0.coords t)) :
    (cc0_scratch4.slice (Rect.unit (s := S2x4) (k0_off10 (grid0.coords t)) S1x1.size (k0_off10_inb (grid0.coords t) h0))).squeeze S_ squeezes_S1x1_S_ = wcellA (Ring.sl 2 t.val) 3 :=
  congrArg (fun A : DmaSems sig S1x1 => A.squeeze S_ squeezes_S1x1_S_) (SemArray.slice_unit_congr _ (wcoff_19 t) _ _)
@[sl_canon] theorem wcanon_19' (t : Fin grid0.N) (h0 : cd3 (grid0.coords t)) :
    (cc0_scratch4.slice (Rect.unit (s := S2x4) (k0_off10 (grid0.coords t)) ![1, 1] (k0_off10_inb (grid0.coords t) h0))).squeeze S_ squeezes_S1x1_S_ = wcellA (Ring.sl 2 t.val) 3 :=
  wcanon_19 t h0
set_option synthInstance.maxSize 4096 in
theorem wcoff_20 : ∀ t : Fin grid0.N, k0_off12 (grid0.coords t) = ![(Ring.sl 2 t.val).val, 3, 0, 0, 0] := by decide +kernel
@[sl_canon] theorem wcanon_20 (t : Fin grid0.N) (h0 : cd3 (grid0.coords t)) :
    (scM0_3.slice (Rect.unit (s := S2x4x8x256x128) (k0_off12 (grid0.coords t)) S1x1x8x256x128.size (k0_off12_inb (grid0.coords t) h0)) (fun _ => rfl)).squeeze S8x256x128 squeezes_S1x1x8x256x128_S8x256x128 = wtile (Ring.sl 2 t.val) 3 :=
  congrArg (fun M : Memref sig .tc .vmem S1x1x8x256x128 .bf16 => M.squeeze S8x256x128 squeezes_S1x1x8x256x128_S8x256x128) (Memref.slice_unit_congr _ (wcoff_20 t) _ _ (fun _ => rfl) (fun _ => rfl))
@[sl_canon] theorem wcanon_20' (t : Fin grid0.N) (h0 : cd3 (grid0.coords t)) :
    (scM0_3.slice (Rect.unit (s := S2x4x8x256x128) (k0_off12 (grid0.coords t)) ![1, 1, 8, 256, 128] (k0_off12_inb (grid0.coords t) h0)) (fun _ => rfl)).squeeze S8x256x128 squeezes_S1x1x8x256x128_S8x256x128 = wtile (Ring.sl 2 t.val) 3 :=
  wcanon_20 t h0
set_option synthInstance.maxSize 4096 in
theorem wcoff_21 : ∀ t : Fin grid0.N, k0_off57 (grid0.coords t) = ![(Ring.sl 2 t.val).val, 0] := by decide +kernel
@[sl_canon] theorem wcanon_21 (t : Fin grid0.N) (h2 : cd5 (grid0.coords t)) :
    (cc0_scratch4.slice (Rect.unit (s := S2x4) (k0_off57 (grid0.coords t)) S1x1.size (k0_off57_inb (grid0.coords t) h2))).squeeze S_ squeezes_S1x1_S_ = wcellA (Ring.sl 2 t.val) 0 :=
  congrArg (fun A : DmaSems sig S1x1 => A.squeeze S_ squeezes_S1x1_S_) (SemArray.slice_unit_congr _ (wcoff_21 t) _ _)
@[sl_canon] theorem wcanon_21' (t : Fin grid0.N) (h2 : cd5 (grid0.coords t)) :
    (cc0_scratch4.slice (Rect.unit (s := S2x4) (k0_off57 (grid0.coords t)) ![1, 1] (k0_off57_inb (grid0.coords t) h2))).squeeze S_ squeezes_S1x1_S_ = wcellA (Ring.sl 2 t.val) 0 :=
  wcanon_21 t h2
set_option synthInstance.maxSize 4096 in
theorem wcoff_22 : ∀ t : Fin grid0.N, k0_off59 (grid0.coords t) = ![(Ring.sl 2 t.val).val, 0, 0, 0, 0] := by decide +kernel
@[sl_canon] theorem wcanon_22 (t : Fin grid0.N) (h2 : cd5 (grid0.coords t)) :
    (scM0_3.slice (Rect.unit (s := S2x4x8x256x128) (k0_off59 (grid0.coords t)) S1x1x8x256x128.size (k0_off59_inb (grid0.coords t) h2)) (fun _ => rfl)).squeeze S8x256x128 squeezes_S1x1x8x256x128_S8x256x128 = wtile (Ring.sl 2 t.val) 0 :=
  congrArg (fun M : Memref sig .tc .vmem S1x1x8x256x128 .bf16 => M.squeeze S8x256x128 squeezes_S1x1x8x256x128_S8x256x128) (Memref.slice_unit_congr _ (wcoff_22 t) _ _ (fun _ => rfl) (fun _ => rfl))
@[sl_canon] theorem wcanon_22' (t : Fin grid0.N) (h2 : cd5 (grid0.coords t)) :
    (scM0_3.slice (Rect.unit (s := S2x4x8x256x128) (k0_off59 (grid0.coords t)) ![1, 1, 8, 256, 128] (k0_off59_inb (grid0.coords t) h2)) (fun _ => rfl)).squeeze S8x256x128 squeezes_S1x1x8x256x128_S8x256x128 = wtile (Ring.sl 2 t.val) 0 :=
  wcanon_22 t h2
set_option synthInstance.maxSize 4096 in
theorem wcoff_23 : ∀ t : Fin grid0.N, k0_off60 (grid0.coords t) = ![(Ring.sl 2 t.val).val, 1] := by decide +kernel
@[sl_canon] theorem wcanon_23 (t : Fin grid0.N) (h2 : cd5 (grid0.coords t)) :
    (cc0_scratch4.slice (Rect.unit (s := S2x4) (k0_off60 (grid0.coords t)) S1x1.size (k0_off60_inb (grid0.coords t) h2))).squeeze S_ squeezes_S1x1_S_ = wcellA (Ring.sl 2 t.val) 1 :=
  congrArg (fun A : DmaSems sig S1x1 => A.squeeze S_ squeezes_S1x1_S_) (SemArray.slice_unit_congr _ (wcoff_23 t) _ _)
@[sl_canon] theorem wcanon_23' (t : Fin grid0.N) (h2 : cd5 (grid0.coords t)) :
    (cc0_scratch4.slice (Rect.unit (s := S2x4) (k0_off60 (grid0.coords t)) ![1, 1] (k0_off60_inb (grid0.coords t) h2))).squeeze S_ squeezes_S1x1_S_ = wcellA (Ring.sl 2 t.val) 1 :=
  wcanon_23 t h2
set_option synthInstance.maxSize 4096 in
theorem wcoff_24 : ∀ t : Fin grid0.N, k0_off62 (grid0.coords t) = ![(Ring.sl 2 t.val).val, 1, 0, 0, 0] := by decide +kernel
@[sl_canon] theorem wcanon_24 (t : Fin grid0.N) (h2 : cd5 (grid0.coords t)) :
    (scM0_3.slice (Rect.unit (s := S2x4x8x256x128) (k0_off62 (grid0.coords t)) S1x1x8x256x128.size (k0_off62_inb (grid0.coords t) h2)) (fun _ => rfl)).squeeze S8x256x128 squeezes_S1x1x8x256x128_S8x256x128 = wtile (Ring.sl 2 t.val) 1 :=
  congrArg (fun M : Memref sig .tc .vmem S1x1x8x256x128 .bf16 => M.squeeze S8x256x128 squeezes_S1x1x8x256x128_S8x256x128) (Memref.slice_unit_congr _ (wcoff_24 t) _ _ (fun _ => rfl) (fun _ => rfl))
@[sl_canon] theorem wcanon_24' (t : Fin grid0.N) (h2 : cd5 (grid0.coords t)) :
    (scM0_3.slice (Rect.unit (s := S2x4x8x256x128) (k0_off62 (grid0.coords t)) ![1, 1, 8, 256, 128] (k0_off62_inb (grid0.coords t) h2)) (fun _ => rfl)).squeeze S8x256x128 squeezes_S1x1x8x256x128_S8x256x128 = wtile (Ring.sl 2 t.val) 1 :=
  wcanon_24 t h2
set_option synthInstance.maxSize 4096 in
theorem wcoff_25 : ∀ t : Fin grid0.N, k0_off63 (grid0.coords t) = ![(Ring.sl 2 t.val).val, 2] := by decide +kernel
@[sl_canon] theorem wcanon_25 (t : Fin grid0.N) (h2 : cd5 (grid0.coords t)) :
    (cc0_scratch4.slice (Rect.unit (s := S2x4) (k0_off63 (grid0.coords t)) S1x1.size (k0_off63_inb (grid0.coords t) h2))).squeeze S_ squeezes_S1x1_S_ = wcellA (Ring.sl 2 t.val) 2 :=
  congrArg (fun A : DmaSems sig S1x1 => A.squeeze S_ squeezes_S1x1_S_) (SemArray.slice_unit_congr _ (wcoff_25 t) _ _)
@[sl_canon] theorem wcanon_25' (t : Fin grid0.N) (h2 : cd5 (grid0.coords t)) :
    (cc0_scratch4.slice (Rect.unit (s := S2x4) (k0_off63 (grid0.coords t)) ![1, 1] (k0_off63_inb (grid0.coords t) h2))).squeeze S_ squeezes_S1x1_S_ = wcellA (Ring.sl 2 t.val) 2 :=
  wcanon_25 t h2
set_option synthInstance.maxSize 4096 in
theorem wcoff_26 : ∀ t : Fin grid0.N, k0_off65 (grid0.coords t) = ![(Ring.sl 2 t.val).val, 2, 0, 0, 0] := by decide +kernel
@[sl_canon] theorem wcanon_26 (t : Fin grid0.N) (h2 : cd5 (grid0.coords t)) :
    (scM0_3.slice (Rect.unit (s := S2x4x8x256x128) (k0_off65 (grid0.coords t)) S1x1x8x256x128.size (k0_off65_inb (grid0.coords t) h2)) (fun _ => rfl)).squeeze S8x256x128 squeezes_S1x1x8x256x128_S8x256x128 = wtile (Ring.sl 2 t.val) 2 :=
  congrArg (fun M : Memref sig .tc .vmem S1x1x8x256x128 .bf16 => M.squeeze S8x256x128 squeezes_S1x1x8x256x128_S8x256x128) (Memref.slice_unit_congr _ (wcoff_26 t) _ _ (fun _ => rfl) (fun _ => rfl))
@[sl_canon] theorem wcanon_26' (t : Fin grid0.N) (h2 : cd5 (grid0.coords t)) :
    (scM0_3.slice (Rect.unit (s := S2x4x8x256x128) (k0_off65 (grid0.coords t)) ![1, 1, 8, 256, 128] (k0_off65_inb (grid0.coords t) h2)) (fun _ => rfl)).squeeze S8x256x128 squeezes_S1x1x8x256x128_S8x256x128 = wtile (Ring.sl 2 t.val) 2 :=
  wcanon_26 t h2
set_option synthInstance.maxSize 4096 in
theorem wcoff_27 : ∀ t : Fin grid0.N, k0_off66 (grid0.coords t) = ![(Ring.sl 2 t.val).val, 3] := by decide +kernel
@[sl_canon] theorem wcanon_27 (t : Fin grid0.N) (h2 : cd5 (grid0.coords t)) :
    (cc0_scratch4.slice (Rect.unit (s := S2x4) (k0_off66 (grid0.coords t)) S1x1.size (k0_off66_inb (grid0.coords t) h2))).squeeze S_ squeezes_S1x1_S_ = wcellA (Ring.sl 2 t.val) 3 :=
  congrArg (fun A : DmaSems sig S1x1 => A.squeeze S_ squeezes_S1x1_S_) (SemArray.slice_unit_congr _ (wcoff_27 t) _ _)
@[sl_canon] theorem wcanon_27' (t : Fin grid0.N) (h2 : cd5 (grid0.coords t)) :
    (cc0_scratch4.slice (Rect.unit (s := S2x4) (k0_off66 (grid0.coords t)) ![1, 1] (k0_off66_inb (grid0.coords t) h2))).squeeze S_ squeezes_S1x1_S_ = wcellA (Ring.sl 2 t.val) 3 :=
  wcanon_27 t h2
set_option synthInstance.maxSize 4096 in
theorem wcoff_28 : ∀ t : Fin grid0.N, k0_off68 (grid0.coords t) = ![(Ring.sl 2 t.val).val, 3, 0, 0, 0] := by decide +kernel
@[sl_canon] theorem wcanon_28 (t : Fin grid0.N) (h2 : cd5 (grid0.coords t)) :
    (scM0_3.slice (Rect.unit (s := S2x4x8x256x128) (k0_off68 (grid0.coords t)) S1x1x8x256x128.size (k0_off68_inb (grid0.coords t) h2)) (fun _ => rfl)).squeeze S8x256x128 squeezes_S1x1x8x256x128_S8x256x128 = wtile (Ring.sl 2 t.val) 3 :=
  congrArg (fun M : Memref sig .tc .vmem S1x1x8x256x128 .bf16 => M.squeeze S8x256x128 squeezes_S1x1x8x256x128_S8x256x128) (Memref.slice_unit_congr _ (wcoff_28 t) _ _ (fun _ => rfl) (fun _ => rfl))
@[sl_canon] theorem wcanon_28' (t : Fin grid0.N) (h2 : cd5 (grid0.coords t)) :
    (scM0_3.slice (Rect.unit (s := S2x4x8x256x128) (k0_off68 (grid0.coords t)) ![1, 1, 8, 256, 128] (k0_off68_inb (grid0.coords t) h2)) (fun _ => rfl)).squeeze S8x256x128 squeezes_S1x1x8x256x128_S8x256x128 = wtile (Ring.sl 2 t.val) 3 :=
  wcanon_28 t h2
set_option synthInstance.maxSize 4096 in
theorem wcoff_29 : ∀ t : Fin grid0.N, k0_off69 (grid0.coords t) = ![(Ring.sl 2 (t.val + 1)).val, 0] := by decide +kernel
@[sl_canon] theorem wcanon_29 (t : Fin grid0.N) (h2 : cd5 (grid0.coords t)) :
    (cc0_scratch4.slice (Rect.unit (s := S2x4) (k0_off69 (grid0.coords t)) S1x1.size (k0_off69_inb (grid0.coords t) h2))).squeeze S_ squeezes_S1x1_S_ = wcellA (Ring.sl 2 (t.val + 1)) 0 :=
  congrArg (fun A : DmaSems sig S1x1 => A.squeeze S_ squeezes_S1x1_S_) (SemArray.slice_unit_congr _ (wcoff_29 t) _ _)
@[sl_canon] theorem wcanon_29' (t : Fin grid0.N) (h2 : cd5 (grid0.coords t)) :
    (cc0_scratch4.slice (Rect.unit (s := S2x4) (k0_off69 (grid0.coords t)) ![1, 1] (k0_off69_inb (grid0.coords t) h2))).squeeze S_ squeezes_S1x1_S_ = wcellA (Ring.sl 2 (t.val + 1)) 0 :=
  wcanon_29 t h2
set_option synthInstance.maxSize 4096 in
theorem wcoff_30 : ∀ t : Fin grid0.N, k0_off70 (grid0.coords t) = ![(Ring.sl 2 (t.val + 1)).val, 0, 0, 0, 0] := by decide +kernel
@[sl_canon] theorem wcanon_30 (t : Fin grid0.N) (h2 : cd5 (grid0.coords t)) :
    (scM0_3.slice (Rect.unit (s := S2x4x8x256x128) (k0_off70 (grid0.coords t)) S1x1x8x256x128.size (k0_off70_inb (grid0.coords t) h2)) (fun _ => rfl)).squeeze S8x256x128 squeezes_S1x1x8x256x128_S8x256x128 = wtile (Ring.sl 2 (t.val + 1)) 0 :=
  congrArg (fun M : Memref sig .tc .vmem S1x1x8x256x128 .bf16 => M.squeeze S8x256x128 squeezes_S1x1x8x256x128_S8x256x128) (Memref.slice_unit_congr _ (wcoff_30 t) _ _ (fun _ => rfl) (fun _ => rfl))
@[sl_canon] theorem wcanon_30' (t : Fin grid0.N) (h2 : cd5 (grid0.coords t)) :
    (scM0_3.slice (Rect.unit (s := S2x4x8x256x128) (k0_off70 (grid0.coords t)) ![1, 1, 8, 256, 128] (k0_off70_inb (grid0.coords t) h2)) (fun _ => rfl)).squeeze S8x256x128 squeezes_S1x1x8x256x128_S8x256x128 = wtile (Ring.sl 2 (t.val + 1)) 0 :=
  wcanon_30 t h2
set_option synthInstance.maxSize 4096 in
theorem wcoff_31 : ∀ t : Fin grid0.N, k0_off71 (grid0.coords t) = ![(Ring.sl 2 (t.val + 1)).val, 1] := by decide +kernel
@[sl_canon] theorem wcanon_31 (t : Fin grid0.N) (h2 : cd5 (grid0.coords t)) :
    (cc0_scratch4.slice (Rect.unit (s := S2x4) (k0_off71 (grid0.coords t)) S1x1.size (k0_off71_inb (grid0.coords t) h2))).squeeze S_ squeezes_S1x1_S_ = wcellA (Ring.sl 2 (t.val + 1)) 1 :=
  congrArg (fun A : DmaSems sig S1x1 => A.squeeze S_ squeezes_S1x1_S_) (SemArray.slice_unit_congr _ (wcoff_31 t) _ _)
@[sl_canon] theorem wcanon_31' (t : Fin grid0.N) (h2 : cd5 (grid0.coords t)) :
    (cc0_scratch4.slice (Rect.unit (s := S2x4) (k0_off71 (grid0.coords t)) ![1, 1] (k0_off71_inb (grid0.coords t) h2))).squeeze S_ squeezes_S1x1_S_ = wcellA (Ring.sl 2 (t.val + 1)) 1 :=
  wcanon_31 t h2
set_option synthInstance.maxSize 4096 in
theorem wcoff_32 : ∀ t : Fin grid0.N, k0_off72 (grid0.coords t) = ![(Ring.sl 2 (t.val + 1)).val, 1, 0, 0, 0] := by decide +kernel
@[sl_canon] theorem wcanon_32 (t : Fin grid0.N) (h2 : cd5 (grid0.coords t)) :
    (scM0_3.slice (Rect.unit (s := S2x4x8x256x128) (k0_off72 (grid0.coords t)) S1x1x8x256x128.size (k0_off72_inb (grid0.coords t) h2)) (fun _ => rfl)).squeeze S8x256x128 squeezes_S1x1x8x256x128_S8x256x128 = wtile (Ring.sl 2 (t.val + 1)) 1 :=
  congrArg (fun M : Memref sig .tc .vmem S1x1x8x256x128 .bf16 => M.squeeze S8x256x128 squeezes_S1x1x8x256x128_S8x256x128) (Memref.slice_unit_congr _ (wcoff_32 t) _ _ (fun _ => rfl) (fun _ => rfl))
@[sl_canon] theorem wcanon_32' (t : Fin grid0.N) (h2 : cd5 (grid0.coords t)) :
    (scM0_3.slice (Rect.unit (s := S2x4x8x256x128) (k0_off72 (grid0.coords t)) ![1, 1, 8, 256, 128] (k0_off72_inb (grid0.coords t) h2)) (fun _ => rfl)).squeeze S8x256x128 squeezes_S1x1x8x256x128_S8x256x128 = wtile (Ring.sl 2 (t.val + 1)) 1 :=
  wcanon_32 t h2
set_option synthInstance.maxSize 4096 in
theorem wcoff_33 : ∀ t : Fin grid0.N, k0_off73 (grid0.coords t) = ![(Ring.sl 2 (t.val + 1)).val, 2] := by decide +kernel
@[sl_canon] theorem wcanon_33 (t : Fin grid0.N) (h2 : cd5 (grid0.coords t)) :
    (cc0_scratch4.slice (Rect.unit (s := S2x4) (k0_off73 (grid0.coords t)) S1x1.size (k0_off73_inb (grid0.coords t) h2))).squeeze S_ squeezes_S1x1_S_ = wcellA (Ring.sl 2 (t.val + 1)) 2 :=
  congrArg (fun A : DmaSems sig S1x1 => A.squeeze S_ squeezes_S1x1_S_) (SemArray.slice_unit_congr _ (wcoff_33 t) _ _)
@[sl_canon] theorem wcanon_33' (t : Fin grid0.N) (h2 : cd5 (grid0.coords t)) :
    (cc0_scratch4.slice (Rect.unit (s := S2x4) (k0_off73 (grid0.coords t)) ![1, 1] (k0_off73_inb (grid0.coords t) h2))).squeeze S_ squeezes_S1x1_S_ = wcellA (Ring.sl 2 (t.val + 1)) 2 :=
  wcanon_33 t h2
set_option synthInstance.maxSize 4096 in
theorem wcoff_34 : ∀ t : Fin grid0.N, k0_off74 (grid0.coords t) = ![(Ring.sl 2 (t.val + 1)).val, 2, 0, 0, 0] := by decide +kernel
@[sl_canon] theorem wcanon_34 (t : Fin grid0.N) (h2 : cd5 (grid0.coords t)) :
    (scM0_3.slice (Rect.unit (s := S2x4x8x256x128) (k0_off74 (grid0.coords t)) S1x1x8x256x128.size (k0_off74_inb (grid0.coords t) h2)) (fun _ => rfl)).squeeze S8x256x128 squeezes_S1x1x8x256x128_S8x256x128 = wtile (Ring.sl 2 (t.val + 1)) 2 :=
  congrArg (fun M : Memref sig .tc .vmem S1x1x8x256x128 .bf16 => M.squeeze S8x256x128 squeezes_S1x1x8x256x128_S8x256x128) (Memref.slice_unit_congr _ (wcoff_34 t) _ _ (fun _ => rfl) (fun _ => rfl))
@[sl_canon] theorem wcanon_34' (t : Fin grid0.N) (h2 : cd5 (grid0.coords t)) :
    (scM0_3.slice (Rect.unit (s := S2x4x8x256x128) (k0_off74 (grid0.coords t)) ![1, 1, 8, 256, 128] (k0_off74_inb (grid0.coords t) h2)) (fun _ => rfl)).squeeze S8x256x128 squeezes_S1x1x8x256x128_S8x256x128 = wtile (Ring.sl 2 (t.val + 1)) 2 :=
  wcanon_34 t h2
set_option synthInstance.maxSize 4096 in
theorem wcoff_35 : ∀ t : Fin grid0.N, k0_off75 (grid0.coords t) = ![(Ring.sl 2 (t.val + 1)).val, 3] := by decide +kernel
@[sl_canon] theorem wcanon_35 (t : Fin grid0.N) (h2 : cd5 (grid0.coords t)) :
    (cc0_scratch4.slice (Rect.unit (s := S2x4) (k0_off75 (grid0.coords t)) S1x1.size (k0_off75_inb (grid0.coords t) h2))).squeeze S_ squeezes_S1x1_S_ = wcellA (Ring.sl 2 (t.val + 1)) 3 :=
  congrArg (fun A : DmaSems sig S1x1 => A.squeeze S_ squeezes_S1x1_S_) (SemArray.slice_unit_congr _ (wcoff_35 t) _ _)
@[sl_canon] theorem wcanon_35' (t : Fin grid0.N) (h2 : cd5 (grid0.coords t)) :
    (cc0_scratch4.slice (Rect.unit (s := S2x4) (k0_off75 (grid0.coords t)) ![1, 1] (k0_off75_inb (grid0.coords t) h2))).squeeze S_ squeezes_S1x1_S_ = wcellA (Ring.sl 2 (t.val + 1)) 3 :=
  wcanon_35 t h2
set_option synthInstance.maxSize 4096 in
theorem wcoff_36 : ∀ t : Fin grid0.N, k0_off76 (grid0.coords t) = ![(Ring.sl 2 (t.val + 1)).val, 3, 0, 0, 0] := by decide +kernel
@[sl_canon] theorem wcanon_36 (t : Fin grid0.N) (h2 : cd5 (grid0.coords t)) :
    (scM0_3.slice (Rect.unit (s := S2x4x8x256x128) (k0_off76 (grid0.coords t)) S1x1x8x256x128.size (k0_off76_inb (grid0.coords t) h2)) (fun _ => rfl)).squeeze S8x256x128 squeezes_S1x1x8x256x128_S8x256x128 = wtile (Ring.sl 2 (t.val + 1)) 3 :=
  congrArg (fun M : Memref sig .tc .vmem S1x1x8x256x128 .bf16 => M.squeeze S8x256x128 squeezes_S1x1x8x256x128_S8x256x128) (Memref.slice_unit_congr _ (wcoff_36 t) _ _ (fun _ => rfl) (fun _ => rfl))
@[sl_canon] theorem wcanon_36' (t : Fin grid0.N) (h2 : cd5 (grid0.coords t)) :
    (scM0_3.slice (Rect.unit (s := S2x4x8x256x128) (k0_off76 (grid0.coords t)) ![1, 1, 8, 256, 128] (k0_off76_inb (grid0.coords t) h2)) (fun _ => rfl)).squeeze S8x256x128 squeezes_S1x1x8x256x128_S8x256x128 = wtile (Ring.sl 2 (t.val + 1)) 3 :=
  wcanon_36 t h2
set_option synthInstance.maxSize 4096 in
theorem wcoff_37 : ∀ t : Fin grid0.N, k0_off13 (grid0.coords t) = ![(Ring.sl 2 t.val).val, 2, 0, 0, 0] := by decide +kernel
/-- This access's box in the tile's spelling (tile (W % 2, 2), the group this step packs): the executor's symbolic geometry then sees it inside that tile. -/
instance (priority := high) wclosedOff_37 (t : Fin grid0.N) : ClosedOff (k0_off13 (grid0.coords t)) := ⟨![(Ring.sl 2 t.val).val, 2, 0, 0, 0], wcoff_37 t⟩
set_option synthInstance.maxSize 4096 in
theorem wcoff_38 : ∀ t : Fin grid0.N, k0_off14 (grid0.coords t) = ![(Ring.sl 2 t.val).val, 0, 0, 0, 0] := by decide +kernel
/-- This access's box in the tile's spelling (tile (W % 2, 0), the group this step packs): the executor's symbolic geometry then sees it inside that tile. -/
instance (priority := high) wclosedOff_38 (t : Fin grid0.N) : ClosedOff (k0_off14 (grid0.coords t)) := ⟨![(Ring.sl 2 t.val).val, 0, 0, 0, 0], wcoff_38 t⟩
set_option synthInstance.maxSize 4096 in
theorem wcoff_39 : ∀ t : Fin grid0.N, k0_off15 (grid0.coords t) = ![(Ring.sl 2 t.val).val, 3, 0, 0, 0] := by decide +kernel
/-- This access's box in the tile's spelling (tile (W % 2, 3), the group this step packs): the executor's symbolic geometry then sees it inside that tile. -/
instance (priority := high) wclosedOff_39 (t : Fin grid0.N) : ClosedOff (k0_off15 (grid0.coords t)) := ⟨![(Ring.sl 2 t.val).val, 3, 0, 0, 0], wcoff_39 t⟩
set_option synthInstance.maxSize 4096 in
theorem wcoff_40 : ∀ t : Fin grid0.N, k0_off16 (grid0.coords t) = ![(Ring.sl 2 t.val).val, 1, 0, 0, 0] := by decide +kernel
/-- This access's box in the tile's spelling (tile (W % 2, 1), the group this step packs): the executor's symbolic geometry then sees it inside that tile. -/
instance (priority := high) wclosedOff_40 (t : Fin grid0.N) : ClosedOff (k0_off16 (grid0.coords t)) := ⟨![(Ring.sl 2 t.val).val, 1, 0, 0, 0], wcoff_40 t⟩
set_option synthInstance.maxSize 4096 in
theorem wcoff_41 : ∀ t : Fin grid0.N, k0_off17 (grid0.coords t) = ![(Ring.sl 2 t.val).val, 2, 1, 0, 0] := by decide +kernel
/-- This access's box in the tile's spelling (tile (W % 2, 2), the group this step packs): the executor's symbolic geometry then sees it inside that tile. -/
instance (priority := high) wclosedOff_41 (t : Fin grid0.N) : ClosedOff (k0_off17 (grid0.coords t)) := ⟨![(Ring.sl 2 t.val).val, 2, 1, 0, 0], wcoff_41 t⟩
set_option synthInstance.maxSize 4096 in
theorem wcoff_42 : ∀ t : Fin grid0.N, k0_off18 (grid0.coords t) = ![(Ring.sl 2 t.val).val, 0, 1, 0, 0] := by decide +kernel
/-- This access's box in the tile's spelling (tile (W % 2, 0), the group this step packs): the executor's symbolic geometry then sees it inside that tile. -/
instance (priority := high) wclosedOff_42 (t : Fin grid0.N) : ClosedOff (k0_off18 (grid0.coords t)) := ⟨![(Ring.sl 2 t.val).val, 0, 1, 0, 0], wcoff_42 t⟩
set_option synthInstance.maxSize 4096 in
theorem wcoff_43 : ∀ t : Fin grid0.N, k0_off19 (grid0.coords t) = ![(Ring.sl 2 t.val).val, 3, 1, 0, 0] := by decide +kernel
/-- This access's box in the tile's spelling (tile (W % 2, 3), the group this step packs): the executor's symbolic geometry then sees it inside that tile. -/
instance (priority := high) wclosedOff_43 (t : Fin grid0.N) : ClosedOff (k0_off19 (grid0.coords t)) := ⟨![(Ring.sl 2 t.val).val, 3, 1, 0, 0], wcoff_43 t⟩
set_option synthInstance.maxSize 4096 in
theorem wcoff_44 : ∀ t : Fin grid0.N, k0_off20 (grid0.coords t) = ![(Ring.sl 2 t.val).val, 1, 1, 0, 0] := by decide +kernel
/-- This access's box in the tile's spelling (tile (W % 2, 1), the group this step packs): the executor's symbolic geometry then sees it inside that tile. -/
instance (priority := high) wclosedOff_44 (t : Fin grid0.N) : ClosedOff (k0_off20 (grid0.coords t)) := ⟨![(Ring.sl 2 t.val).val, 1, 1, 0, 0], wcoff_44 t⟩
set_option synthInstance.maxSize 4096 in
theorem wcoff_45 : ∀ t : Fin grid0.N, k0_off21 (grid0.coords t) = ![(Ring.sl 2 t.val).val, 2, 2, 0, 0] := by decide +kernel
/-- This access's box in the tile's spelling (tile (W % 2, 2), the group this step packs): the executor's symbolic geometry then sees it inside that tile. -/
instance (priority := high) wclosedOff_45 (t : Fin grid0.N) : ClosedOff (k0_off21 (grid0.coords t)) := ⟨![(Ring.sl 2 t.val).val, 2, 2, 0, 0], wcoff_45 t⟩
set_option synthInstance.maxSize 4096 in
theorem wcoff_46 : ∀ t : Fin grid0.N, k0_off22 (grid0.coords t) = ![(Ring.sl 2 t.val).val, 0, 2, 0, 0] := by decide +kernel
/-- This access's box in the tile's spelling (tile (W % 2, 0), the group this step packs): the executor's symbolic geometry then sees it inside that tile. -/
instance (priority := high) wclosedOff_46 (t : Fin grid0.N) : ClosedOff (k0_off22 (grid0.coords t)) := ⟨![(Ring.sl 2 t.val).val, 0, 2, 0, 0], wcoff_46 t⟩
set_option synthInstance.maxSize 4096 in
theorem wcoff_47 : ∀ t : Fin grid0.N, k0_off23 (grid0.coords t) = ![(Ring.sl 2 t.val).val, 3, 2, 0, 0] := by decide +kernel
/-- This access's box in the tile's spelling (tile (W % 2, 3), the group this step packs): the executor's symbolic geometry then sees it inside that tile. -/
instance (priority := high) wclosedOff_47 (t : Fin grid0.N) : ClosedOff (k0_off23 (grid0.coords t)) := ⟨![(Ring.sl 2 t.val).val, 3, 2, 0, 0], wcoff_47 t⟩
set_option synthInstance.maxSize 4096 in
theorem wcoff_48 : ∀ t : Fin grid0.N, k0_off24 (grid0.coords t) = ![(Ring.sl 2 t.val).val, 1, 2, 0, 0] := by decide +kernel
/-- This access's box in the tile's spelling (tile (W % 2, 1), the group this step packs): the executor's symbolic geometry then sees it inside that tile. -/
instance (priority := high) wclosedOff_48 (t : Fin grid0.N) : ClosedOff (k0_off24 (grid0.coords t)) := ⟨![(Ring.sl 2 t.val).val, 1, 2, 0, 0], wcoff_48 t⟩
set_option synthInstance.maxSize 4096 in
theorem wcoff_49 : ∀ t : Fin grid0.N, k0_off25 (grid0.coords t) = ![(Ring.sl 2 t.val).val, 2, 3, 0, 0] := by decide +kernel
/-- This access's box in the tile's spelling (tile (W % 2, 2), the group this step packs): the executor's symbolic geometry then sees it inside that tile. -/
instance (priority := high) wclosedOff_49 (t : Fin grid0.N) : ClosedOff (k0_off25 (grid0.coords t)) := ⟨![(Ring.sl 2 t.val).val, 2, 3, 0, 0], wcoff_49 t⟩
set_option synthInstance.maxSize 4096 in
theorem wcoff_50 : ∀ t : Fin grid0.N, k0_off26 (grid0.coords t) = ![(Ring.sl 2 t.val).val, 0, 3, 0, 0] := by decide +kernel
/-- This access's box in the tile's spelling (tile (W % 2, 0), the group this step packs): the executor's symbolic geometry then sees it inside that tile. -/
instance (priority := high) wclosedOff_50 (t : Fin grid0.N) : ClosedOff (k0_off26 (grid0.coords t)) := ⟨![(Ring.sl 2 t.val).val, 0, 3, 0, 0], wcoff_50 t⟩
set_option synthInstance.maxSize 4096 in
theorem wcoff_51 : ∀ t : Fin grid0.N, k0_off27 (grid0.coords t) = ![(Ring.sl 2 t.val).val, 3, 3, 0, 0] := by decide +kernel
/-- This access's box in the tile's spelling (tile (W % 2, 3), the group this step packs): the executor's symbolic geometry then sees it inside that tile. -/
instance (priority := high) wclosedOff_51 (t : Fin grid0.N) : ClosedOff (k0_off27 (grid0.coords t)) := ⟨![(Ring.sl 2 t.val).val, 3, 3, 0, 0], wcoff_51 t⟩
set_option synthInstance.maxSize 4096 in
theorem wcoff_52 : ∀ t : Fin grid0.N, k0_off28 (grid0.coords t) = ![(Ring.sl 2 t.val).val, 1, 3, 0, 0] := by decide +kernel
/-- This access's box in the tile's spelling (tile (W % 2, 1), the group this step packs): the executor's symbolic geometry then sees it inside that tile. -/
instance (priority := high) wclosedOff_52 (t : Fin grid0.N) : ClosedOff (k0_off28 (grid0.coords t)) := ⟨![(Ring.sl 2 t.val).val, 1, 3, 0, 0], wcoff_52 t⟩
set_option synthInstance.maxSize 4096 in
theorem wcoff_53 : ∀ t : Fin grid0.N, k0_off29 (grid0.coords t) = ![(Ring.sl 2 t.val).val, 2, 4, 0, 0] := by decide +kernel
/-- This access's box in the tile's spelling (tile (W % 2, 2), the group this step packs): the executor's symbolic geometry then sees it inside that tile. -/
instance (priority := high) wclosedOff_53 (t : Fin grid0.N) : ClosedOff (k0_off29 (grid0.coords t)) := ⟨![(Ring.sl 2 t.val).val, 2, 4, 0, 0], wcoff_53 t⟩
set_option synthInstance.maxSize 4096 in
theorem wcoff_54 : ∀ t : Fin grid0.N, k0_off30 (grid0.coords t) = ![(Ring.sl 2 t.val).val, 0, 4, 0, 0] := by decide +kernel
/-- This access's box in the tile's spelling (tile (W % 2, 0), the group this step packs): the executor's symbolic geometry then sees it inside that tile. -/
instance (priority := high) wclosedOff_54 (t : Fin grid0.N) : ClosedOff (k0_off30 (grid0.coords t)) := ⟨![(Ring.sl 2 t.val).val, 0, 4, 0, 0], wcoff_54 t⟩
set_option synthInstance.maxSize 4096 in
theorem wcoff_55 : ∀ t : Fin grid0.N, k0_off31 (grid0.coords t) = ![(Ring.sl 2 t.val).val, 3, 4, 0, 0] := by decide +kernel
/-- This access's box in the tile's spelling (tile (W % 2, 3), the group this step packs): the executor's symbolic geometry then sees it inside that tile. -/
instance (priority := high) wclosedOff_55 (t : Fin grid0.N) : ClosedOff (k0_off31 (grid0.coords t)) := ⟨![(Ring.sl 2 t.val).val, 3, 4, 0, 0], wcoff_55 t⟩
set_option synthInstance.maxSize 4096 in
theorem wcoff_56 : ∀ t : Fin grid0.N, k0_off32 (grid0.coords t) = ![(Ring.sl 2 t.val).val, 1, 4, 0, 0] := by decide +kernel
/-- This access's box in the tile's spelling (tile (W % 2, 1), the group this step packs): the executor's symbolic geometry then sees it inside that tile. -/
instance (priority := high) wclosedOff_56 (t : Fin grid0.N) : ClosedOff (k0_off32 (grid0.coords t)) := ⟨![(Ring.sl 2 t.val).val, 1, 4, 0, 0], wcoff_56 t⟩
set_option synthInstance.maxSize 4096 in
theorem wcoff_57 : ∀ t : Fin grid0.N, k0_off33 (grid0.coords t) = ![(Ring.sl 2 t.val).val, 2, 5, 0, 0] := by decide +kernel
/-- This access's box in the tile's spelling (tile (W % 2, 2), the group this step packs): the executor's symbolic geometry then sees it inside that tile. -/
instance (priority := high) wclosedOff_57 (t : Fin grid0.N) : ClosedOff (k0_off33 (grid0.coords t)) := ⟨![(Ring.sl 2 t.val).val, 2, 5, 0, 0], wcoff_57 t⟩
set_option synthInstance.maxSize 4096 in
theorem wcoff_58 : ∀ t : Fin grid0.N, k0_off34 (grid0.coords t) = ![(Ring.sl 2 t.val).val, 0, 5, 0, 0] := by decide +kernel
/-- This access's box in the tile's spelling (tile (W % 2, 0), the group this step packs): the executor's symbolic geometry then sees it inside that tile. -/
instance (priority := high) wclosedOff_58 (t : Fin grid0.N) : ClosedOff (k0_off34 (grid0.coords t)) := ⟨![(Ring.sl 2 t.val).val, 0, 5, 0, 0], wcoff_58 t⟩
set_option synthInstance.maxSize 4096 in
theorem wcoff_59 : ∀ t : Fin grid0.N, k0_off35 (grid0.coords t) = ![(Ring.sl 2 t.val).val, 3, 5, 0, 0] := by decide +kernel
/-- This access's box in the tile's spelling (tile (W % 2, 3), the group this step packs): the executor's symbolic geometry then sees it inside that tile. -/
instance (priority := high) wclosedOff_59 (t : Fin grid0.N) : ClosedOff (k0_off35 (grid0.coords t)) := ⟨![(Ring.sl 2 t.val).val, 3, 5, 0, 0], wcoff_59 t⟩
set_option synthInstance.maxSize 4096 in
theorem wcoff_60 : ∀ t : Fin grid0.N, k0_off36 (grid0.coords t) = ![(Ring.sl 2 t.val).val, 1, 5, 0, 0] := by decide +kernel
/-- This access's box in the tile's spelling (tile (W % 2, 1), the group this step packs): the executor's symbolic geometry then sees it inside that tile. -/
instance (priority := high) wclosedOff_60 (t : Fin grid0.N) : ClosedOff (k0_off36 (grid0.coords t)) := ⟨![(Ring.sl 2 t.val).val, 1, 5, 0, 0], wcoff_60 t⟩
set_option synthInstance.maxSize 4096 in
theorem wcoff_61 : ∀ t : Fin grid0.N, k0_off37 (grid0.coords t) = ![(Ring.sl 2 t.val).val, 2, 6, 0, 0] := by decide +kernel
/-- This access's box in the tile's spelling (tile (W % 2, 2), the group this step packs): the executor's symbolic geometry then sees it inside that tile. -/
instance (priority := high) wclosedOff_61 (t : Fin grid0.N) : ClosedOff (k0_off37 (grid0.coords t)) := ⟨![(Ring.sl 2 t.val).val, 2, 6, 0, 0], wcoff_61 t⟩
set_option synthInstance.maxSize 4096 in
theorem wcoff_62 : ∀ t : Fin grid0.N, k0_off38 (grid0.coords t) = ![(Ring.sl 2 t.val).val, 0, 6, 0, 0] := by decide +kernel
/-- This access's box in the tile's spelling (tile (W % 2, 0), the group this step packs): the executor's symbolic geometry then sees it inside that tile. -/
instance (priority := high) wclosedOff_62 (t : Fin grid0.N) : ClosedOff (k0_off38 (grid0.coords t)) := ⟨![(Ring.sl 2 t.val).val, 0, 6, 0, 0], wcoff_62 t⟩
set_option synthInstance.maxSize 4096 in
theorem wcoff_63 : ∀ t : Fin grid0.N, k0_off39 (grid0.coords t) = ![(Ring.sl 2 t.val).val, 3, 6, 0, 0] := by decide +kernel
/-- This access's box in the tile's spelling (tile (W % 2, 3), the group this step packs): the executor's symbolic geometry then sees it inside that tile. -/
instance (priority := high) wclosedOff_63 (t : Fin grid0.N) : ClosedOff (k0_off39 (grid0.coords t)) := ⟨![(Ring.sl 2 t.val).val, 3, 6, 0, 0], wcoff_63 t⟩
set_option synthInstance.maxSize 4096 in
theorem wcoff_64 : ∀ t : Fin grid0.N, k0_off40 (grid0.coords t) = ![(Ring.sl 2 t.val).val, 1, 6, 0, 0] := by decide +kernel
/-- This access's box in the tile's spelling (tile (W % 2, 1), the group this step packs): the executor's symbolic geometry then sees it inside that tile. -/
instance (priority := high) wclosedOff_64 (t : Fin grid0.N) : ClosedOff (k0_off40 (grid0.coords t)) := ⟨![(Ring.sl 2 t.val).val, 1, 6, 0, 0], wcoff_64 t⟩
set_option synthInstance.maxSize 4096 in
theorem wcoff_65 : ∀ t : Fin grid0.N, k0_off41 (grid0.coords t) = ![(Ring.sl 2 t.val).val, 2, 7, 0, 0] := by decide +kernel
/-- This access's box in the tile's spelling (tile (W % 2, 2), the group this step packs): the executor's symbolic geometry then sees it inside that tile. -/
instance (priority := high) wclosedOff_65 (t : Fin grid0.N) : ClosedOff (k0_off41 (grid0.coords t)) := ⟨![(Ring.sl 2 t.val).val, 2, 7, 0, 0], wcoff_65 t⟩
set_option synthInstance.maxSize 4096 in
theorem wcoff_66 : ∀ t : Fin grid0.N, k0_off42 (grid0.coords t) = ![(Ring.sl 2 t.val).val, 0, 7, 0, 0] := by decide +kernel
/-- This access's box in the tile's spelling (tile (W % 2, 0), the group this step packs): the executor's symbolic geometry then sees it inside that tile. -/
instance (priority := high) wclosedOff_66 (t : Fin grid0.N) : ClosedOff (k0_off42 (grid0.coords t)) := ⟨![(Ring.sl 2 t.val).val, 0, 7, 0, 0], wcoff_66 t⟩
set_option synthInstance.maxSize 4096 in
theorem wcoff_67 : ∀ t : Fin grid0.N, k0_off43 (grid0.coords t) = ![(Ring.sl 2 t.val).val, 3, 7, 0, 0] := by decide +kernel
/-- This access's box in the tile's spelling (tile (W % 2, 3), the group this step packs): the executor's symbolic geometry then sees it inside that tile. -/
instance (priority := high) wclosedOff_67 (t : Fin grid0.N) : ClosedOff (k0_off43 (grid0.coords t)) := ⟨![(Ring.sl 2 t.val).val, 3, 7, 0, 0], wcoff_67 t⟩
set_option synthInstance.maxSize 4096 in
theorem wcoff_68 : ∀ t : Fin grid0.N, k0_off44 (grid0.coords t) = ![(Ring.sl 2 t.val).val, 1, 7, 0, 0] := by decide +kernel
/-- This access's box in the tile's spelling (tile (W % 2, 1), the group this step packs): the executor's symbolic geometry then sees it inside that tile. -/
instance (priority := high) wclosedOff_68 (t : Fin grid0.N) : ClosedOff (k0_off44 (grid0.coords t)) := ⟨![(Ring.sl 2 t.val).val, 1, 7, 0, 0], wcoff_68 t⟩
end WCanon0_0

end Cert.MidIdeal.Hand

end
-- ==== Proof.MidRunA.lean ====
/- The body at the first point: the sums are begun, nothing is waited for. -/
module

public import proofs.«01_k».proof.Proof.MidRing

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3280000 in
/-- What the body's stores leave at the first point, found by the run: the pieces of each output's block, and each of the four
    tiles as it is copied out (as a function of what the tile's memory held). -/
noncomputable def kernelRunA (c : Dev nD) (t : Fin cfg0.N) (arg1 : Memref sig .tc .vmem S256x1024 .f32) (harg1 : arg1.IsWhole) (arg2 : Memref sig .tc .vmem S256x1024 .f32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S8x256x128 .bf16) (harg15 : arg15.IsWhole) (arg16 : Memref sig .tc .vmem S8x256x128 .bf16) (harg16 : arg16.IsWhole) (arg17 : Memref sig .tc .vmem S1024x1024 .f32) (harg17 : arg17.IsWhole) (arg18 : Memref sig .tc .vmem S8x1024 .f32) (harg18 : arg18.IsWhole) (arg20 : Memref sig .tc .vmem S256x1024 .bf16) (harg20 : arg20.IsWhole) (arg21 : Memref sig .tc .vmem S256x1024 .f32) (harg21 : arg21.IsWhole) (arg22 : Memref sig .tc .vmem S2x8x4x256x128 .f32) (harg22 : arg22.IsWhole)
    (x0 : Vec F S256x1024 .f32) (x1 : Vec F S256x1024 .f32) (x2 : Vec F S8x256x128 .f32) (x3 : Vec F S8x256x128 .f32) (x4 : Vec F S8x256x128 .f32) (x5 : Vec F S8x256x128 .f32) (x6 : Vec F S8x256x128 .f32) (x7 : Vec F S8x256x128 .f32) (x8 : Vec F S1024x1024 .bf16) (x9 : Vec F S1x1024 .f32) (x10 : Vec F S1x1024 .f32) (x11 : Vec F S1x1024 .f32) (x12 : Vec F S1x1024 .f32) :
    Σ' (L13 : List (View.Piece (Elt F) S256x1024 .f32)), Σ' (L14 : List (View.Piece (Elt F) S8x256x128 .bf16)), Σ' (L15 : List (View.Piece (Elt F) S8x256x128 .bf16)), Σ' (L16 : List (View.Piece (Elt F) S1024x1024 .f32)), Σ' (T0 : HbBuf0 (F := F) c (wtile (Ring.sl 2 t.val) 0) → Vec F S8x256x128 .bf16), Σ' (T1 : HbBuf0 (F := F) c (wtile (Ring.sl 2 t.val) 1) → Vec F S8x256x128 .bf16), Σ' (T2 : HbBuf0 (F := F) c (wtile (Ring.sl 2 t.val) 2) → Vec F S8x256x128 .bf16), Σ' (T3 : HbBuf0 (F := F) c (wtile (Ring.sl 2 t.val) 3) → Vec F S8x256x128 .bf16),
      { L17 : List (View.Piece (Elt F) S8x1024 .f32) //
      ∀ (hc1 : cd1 (grid0.coords t)) (hc2 : ¬cd2 (grid0.coords t)) (hc3 : ¬cd3 (grid0.coords t)) (hc4 : cd4 (grid0.coords t)) (hc5 : ¬cd5 (grid0.coords t)) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg20 fullShare d) ∗ (∃ d, owns (c : Thread nD τ) arg21 fullShare d) ∗ (∃ d, owns (c : Thread nD τ) arg22 fullShare d) ∗ (∃ f, wpieceP c (Ring.bk 16 t.val) 0 f) ∗ (∃ f, wpieceP c (Ring.bk 16 t.val) 1 f) ∗ (∃ f, wpieceP c (Ring.bk 16 t.val) 2 f) ∗ (∃ f, wpieceP c (Ring.bk 16 t.val) 3 f) ∗ wcellP c (Ring.sl 2 t.val) 0 ∗ (∃ e, wtileP c (Ring.sl 2 t.val) 0 e) ∗ wcellP c (Ring.sl 2 t.val) 1 ∗ (∃ e, wtileP c (Ring.sl 2 t.val) 1 e) ∗ wcellP c (Ring.sl 2 t.val) 2 ∗ (∃ e, wtileP c (Ring.sl 2 t.val) 2 e) ∗ wcellP c (Ring.sl 2 t.val) 3 ∗ (∃ e, wtileP c (Ring.sl 2 t.val) 3 e) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ d, owns (c : Thread nD τ) arg20 fullShare d) ∗ (∃ d, owns (c : Thread nD τ) arg21 fullShare d) ∗ (∃ d, owns (c : Thread nD τ) arg22 fullShare d) ∗ (∃ e, wflightV c (Ring.sl 2 t.val) 0 (Ring.bk 16 t.val) (T0 e)) ∗ (∃ e, wflightV c (Ring.sl 2 t.val) 1 (Ring.bk 16 t.val) (T1 e)) ∗ (∃ e, wflightV c (Ring.sl 2 t.val) 2 (Ring.bk 16 t.val) (T2 e)) ∗ (∃ e, wflightV c (Ring.sl 2 t.val) 3 (Ring.bk 16 t.val) (T3 e)) ∗ (∃ W', owes (c : Thread nD τ) 0 W')) -∗ K ⟨⟩))
          ⊢ wp frame (wpE (defs₀ (F := F)) Variants.none c none) Set.univ (cc0_middle (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_v13_5) (Memref.isWhole_whole _) arg20 harg20 arg21 harg21 arg22 harg22 scM0_3 (Memref.isWhole_whole _) cc0_scratch4) K } := by
  refine ⟨?_, ?_, ?_, ?_, ?_, ?_, ?_, ?_, ?_, fun hc1 hc2 hc3 hc4 hc5 W K => ?run⟩
  case run =>
    haveI : Fact (cd1 (grid0.coords t)) := ⟨hc1⟩
    haveI : Fact (¬cd2 (grid0.coords t)) := ⟨hc2⟩
    haveI : Fact (¬cd3 (grid0.coords t)) := ⟨hc3⟩
    haveI : Fact (cd4 (grid0.coords t)) := ⟨hc4⟩
    haveI : Fact (¬cd5 (grid0.coords t)) := ⟨hc5⟩
    simp only [cc0_middle_eq_skeleton]; unfold cc0_middle_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns wflightV
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%fp0, Hp0⟩, ⟨%fp1, Hp1⟩, ⟨%fp2, Hp2⟩, ⟨%fp3, Hp3⟩, Hq0, ⟨%et0, Ht0⟩, Hq1, ⟨%et1, Ht1⟩, Hq2, ⟨%et2, Ht2⟩, Hq3, ⟨%et3, Ht3⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]
    · iexists et0, _, _; isplitr; swap; · iexact Hq0
      ipureintro; exact View.read_writes_whole _ _ _
    isplitl [Hq1]
    · iexists et1, _, _; isplitr; swap; · iexact Hq1
      ipureintro; exact View.read_writes_whole _ _ _
    isplitl [Hq2]
    · iexists et2, _, _; isplitr; swap; · iexact Hq2
      ipureintro; exact View.read_writes_whole _ _ _
    isplitl [Hq3]
    · iexists et3, _, _; isplitr; swap; · iexact Hq3
      ipureintro; exact View.read_writes_whole _ _ _
    iexists _; iexact HW

end Cert.MidIdeal.Hand

end
-- ==== Proof.MidRunB.lean ====
/- The body at the second point: the sums are carried on, nothing is waited for. -/
module

public import proofs.«01_k».proof.Proof.MidRing

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3280000 in
/-- What the body's stores leave at the second point. -/
noncomputable def kernelRunB (c : Dev nD) (t : Fin cfg0.N) (arg1 : Memref sig .tc .vmem S256x1024 .f32) (harg1 : arg1.IsWhole) (arg2 : Memref sig .tc .vmem S256x1024 .f32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S8x256x128 .bf16) (harg15 : arg15.IsWhole) (arg16 : Memref sig .tc .vmem S8x256x128 .bf16) (harg16 : arg16.IsWhole) (arg17 : Memref sig .tc .vmem S1024x1024 .f32) (harg17 : arg17.IsWhole) (arg18 : Memref sig .tc .vmem S8x1024 .f32) (harg18 : arg18.IsWhole) (arg20 : Memref sig .tc .vmem S256x1024 .bf16) (harg20 : arg20.IsWhole) (arg21 : Memref sig .tc .vmem S256x1024 .f32) (harg21 : arg21.IsWhole) (arg22 : Memref sig .tc .vmem S2x8x4x256x128 .f32) (harg22 : arg22.IsWhole)
    (x0 : Vec F S256x1024 .f32) (x1 : Vec F S256x1024 .f32) (x2 : Vec F S8x256x128 .f32) (x3 : Vec F S8x256x128 .f32) (x4 : Vec F S8x256x128 .f32) (x5 : Vec F S8x256x128 .f32) (x6 : Vec F S8x256x128 .f32) (x7 : Vec F S8x256x128 .f32) (x8 : Vec F S1024x1024 .bf16) (x9 : Vec F S1x1024 .f32) (x10 : Vec F S1x1024 .f32) (x11 : Vec F S1x1024 .f32) (x12 : Vec F S1x1024 .f32) (xo16 : Vec F S1024x1024 .f32) (xo17 : Vec F S8x1024 .f32) :
    Σ' (L13 : List (View.Piece (Elt F) S256x1024 .f32)), Σ' (L14 : List (View.Piece (Elt F) S8x256x128 .bf16)), Σ' (L15 : List (View.Piece (Elt F) S8x256x128 .bf16)), Σ' (L16 : List (View.Piece (Elt F) S1024x1024 .f32)), Σ' (T0 : HbBuf0 (F := F) c (wtile (Ring.sl 2 t.val) 0) → Vec F S8x256x128 .bf16), Σ' (T1 : HbBuf0 (F := F) c (wtile (Ring.sl 2 t.val) 1) → Vec F S8x256x128 .bf16), Σ' (T2 : HbBuf0 (F := F) c (wtile (Ring.sl 2 t.val) 2) → Vec F S8x256x128 .bf16), Σ' (T3 : HbBuf0 (F := F) c (wtile (Ring.sl 2 t.val) 3) → Vec F S8x256x128 .bf16),
      { L17 : List (View.Piece (Elt F) S8x1024 .f32) //
      ∀ (hc1 : ¬cd1 (grid0.coords t)) (hc2 : cd2 (grid0.coords t)) (hc3 : ¬cd3 (grid0.coords t)) (hc4 : ¬cd4 (grid0.coords t)) (hc5 : ¬cd5 (grid0.coords t)) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ (∃ d, owns (c : Thread nD τ) arg20 fullShare d) ∗ (∃ d, owns (c : Thread nD τ) arg21 fullShare d) ∗ (∃ d, owns (c : Thread nD τ) arg22 fullShare d) ∗ (∃ f, wpieceP c (Ring.bk 16 t.val) 0 f) ∗ (∃ f, wpieceP c (Ring.bk 16 t.val) 1 f) ∗ (∃ f, wpieceP c (Ring.bk 16 t.val) 2 f) ∗ (∃ f, wpieceP c (Ring.bk 16 t.val) 3 f) ∗ wcellP c (Ring.sl 2 t.val) 0 ∗ (∃ e, wtileP c (Ring.sl 2 t.val) 0 e) ∗ wcellP c (Ring.sl 2 t.val) 1 ∗ (∃ e, wtileP c (Ring.sl 2 t.val) 1 e) ∗ wcellP c (Ring.sl 2 t.val) 2 ∗ (∃ e, wtileP c (Ring.sl 2 t.val) 2 e) ∗ wcellP c (Ring.sl 2 t.val) 3 ∗ (∃ e, wtileP c (Ring.sl 2 t.val) 3 e) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (arg18.view.loc (c : Thread nD τ) ↦[arg18.view.set]{fullShare} arg18.view.writes (Elt F) (harg18.unread xo17) L17) ∗ (∃ d, owns (c : Thread nD τ) arg20 fullShare d) ∗ (∃ d, owns (c : Thread nD τ) arg21 fullShare d) ∗ (∃ d, owns (c : Thread nD τ) arg22 fullShare d) ∗ (∃ e, wflightV c (Ring.sl 2 t.val) 0 (Ring.bk 16 t.val) (T0 e)) ∗ (∃ e, wflightV c (Ring.sl 2 t.val) 1 (Ring.bk 16 t.val) (T1 e)) ∗ (∃ e, wflightV c (Ring.sl 2 t.val) 2 (Ring.bk 16 t.val) (T2 e)) ∗ (∃ e, wflightV c (Ring.sl 2 t.val) 3 (Ring.bk 16 t.val) (T3 e)) ∗ (∃ W', owes (c : Thread nD τ) 0 W')) -∗ K ⟨⟩))
          ⊢ wp frame (wpE (defs₀ (F := F)) Variants.none c none) Set.univ (cc0_middle (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_v13_5) (Memref.isWhole_whole _) arg20 harg20 arg21 harg21 arg22 harg22 scM0_3 (Memref.isWhole_whole _) cc0_scratch4) K } := by
  refine ⟨?_, ?_, ?_, ?_, ?_, ?_, ?_, ?_, ?_, fun hc1 hc2 hc3 hc4 hc5 W K => ?run⟩
  case run =>
    haveI : Fact (¬cd1 (grid0.coords t)) := ⟨hc1⟩
    haveI : Fact (cd2 (grid0.coords t)) := ⟨hc2⟩
    haveI : Fact (¬cd3 (grid0.coords t)) := ⟨hc3⟩
    haveI : Fact (¬cd4 (grid0.coords t)) := ⟨hc4⟩
    haveI : Fact (¬cd5 (grid0.coords t)) := ⟨hc5⟩
    simp only [cc0_middle_eq_skeleton]; unfold cc0_middle_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns wflightV
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%ds0, %fs0, -, HS0⟩, ⟨%ds1, %fs1, -, HS1⟩, ⟨%ds2, %fs2, -, HS2⟩, ⟨%fp0, Hp0⟩, ⟨%fp1, Hp1⟩, ⟨%fp2, Hp2⟩, ⟨%fp3, Hp3⟩, Hq0, ⟨%et0, Ht0⟩, Hq1, ⟨%et1, Ht1⟩, Hq2, ⟨%et2, Ht2⟩, Hq3, ⟨%et3, Ht3⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hf16; obtain rfl := harg18.eq_unread hf17
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexact H16
    isplitl [H17]; · iexact H17
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]
    · iexists et0, _, _; isplitr; swap; · iexact Hq0
      ipureintro; exact View.read_writes_whole _ _ _
    isplitl [Hq1]
    · iexists et1, _, _; isplitr; swap; · iexact Hq1
      ipureintro; exact View.read_writes_whole _ _ _
    isplitl [Hq2]
    · iexists et2, _, _; isplitr; swap; · iexact Hq2
      ipureintro; exact View.read_writes_whole _ _ _
    isplitl [Hq3]
    · iexists et3, _, _; isplitr; swap; · iexact Hq3
      ipureintro; exact View.read_writes_whole _ _ _
    iexists _; iexact HW

end Cert.MidIdeal.Hand

end
-- ==== Proof.MidRunC.lean ====
/- The body at a point in the middle: the copies of two points before are waited for. -/
module

public import proofs.«01_k».proof.Proof.MidRing

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3280000 in
/-- What the body's stores leave at a middle point; the pieces copied two points before come home as they were sent. -/
noncomputable def kernelRunC (c : Dev nD) (t : Fin cfg0.N) (arg1 : Memref sig .tc .vmem S256x1024 .f32) (harg1 : arg1.IsWhole) (arg2 : Memref sig .tc .vmem S256x1024 .f32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S8x256x128 .bf16) (harg15 : arg15.IsWhole) (arg16 : Memref sig .tc .vmem S8x256x128 .bf16) (harg16 : arg16.IsWhole) (arg17 : Memref sig .tc .vmem S1024x1024 .f32) (harg17 : arg17.IsWhole) (arg18 : Memref sig .tc .vmem S8x1024 .f32) (harg18 : arg18.IsWhole) (arg20 : Memref sig .tc .vmem S256x1024 .bf16) (harg20 : arg20.IsWhole) (arg21 : Memref sig .tc .vmem S256x1024 .f32) (harg21 : arg21.IsWhole) (arg22 : Memref sig .tc .vmem S2x8x4x256x128 .f32) (harg22 : arg22.IsWhole)
    (x0 : Vec F S256x1024 .f32) (x1 : Vec F S256x1024 .f32) (x2 : Vec F S8x256x128 .f32) (x3 : Vec F S8x256x128 .f32) (x4 : Vec F S8x256x128 .f32) (x5 : Vec F S8x256x128 .f32) (x6 : Vec F S8x256x128 .f32) (x7 : Vec F S8x256x128 .f32) (x8 : Vec F S1024x1024 .bf16) (x9 : Vec F S1x1024 .f32) (x10 : Vec F S1x1024 .f32) (x11 : Vec F S1x1024 .f32) (x12 : Vec F S1x1024 .f32) (xo16 : Vec F S1024x1024 .f32) (xo17 : Vec F S8x1024 .f32) :
    Σ' (L13 : List (View.Piece (Elt F) S256x1024 .f32)), Σ' (L14 : List (View.Piece (Elt F) S8x256x128 .bf16)), Σ' (L15 : List (View.Piece (Elt F) S8x256x128 .bf16)), Σ' (L16 : List (View.Piece (Elt F) S1024x1024 .f32)), Σ' (T0 : HbBuf0 (F := F) c (wtile (Ring.sl 2 t.val) 0) → Vec F S8x256x128 .bf16), Σ' (T1 : HbBuf0 (F := F) c (wtile (Ring.sl 2 t.val) 1) → Vec F S8x256x128 .bf16), Σ' (T2 : HbBuf0 (F := F) c (wtile (Ring.sl 2 t.val) 2) → Vec F S8x256x128 .bf16), Σ' (T3 : HbBuf0 (F := F) c (wtile (Ring.sl 2 t.val) 3) → Vec F S8x256x128 .bf16),
      { L17 : List (View.Piece (Elt F) S8x1024 .f32) //
      ∀ (hc1 : ¬cd1 (grid0.coords t)) (hc2 : cd2 (grid0.coords t)) (hc3 : cd3 (grid0.coords t)) (hc4 : ¬cd4 (grid0.coords t)) (hc5 : ¬cd5 (grid0.coords t)) (o0 o1 o2 o3 : Vec F S8x256x128 .bf16) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ (∃ d, owns (c : Thread nD τ) arg20 fullShare d) ∗ (∃ d, owns (c : Thread nD τ) arg21 fullShare d) ∗ (∃ d, owns (c : Thread nD τ) arg22 fullShare d) ∗ (∃ f, wpieceP c (Ring.bk 16 t.val) 0 f) ∗ (∃ f, wpieceP c (Ring.bk 16 t.val) 1 f) ∗ (∃ f, wpieceP c (Ring.bk 16 t.val) 2 f) ∗ (∃ f, wpieceP c (Ring.bk 16 t.val) 3 f) ∗ wflightV c (Ring.sl 2 t.val) 0 (Ring.bk 16 (t.val - 2)) o0 ∗ wflightV c (Ring.sl 2 t.val) 1 (Ring.bk 16 (t.val - 2)) o1 ∗ wflightV c (Ring.sl 2 t.val) 2 (Ring.bk 16 (t.val - 2)) o2 ∗ wflightV c (Ring.sl 2 t.val) 3 (Ring.bk 16 (t.val - 2)) o3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (arg18.view.loc (c : Thread nD τ) ↦[arg18.view.set]{fullShare} arg18.view.writes (Elt F) (harg18.unread xo17) L17) ∗ (∃ d, owns (c : Thread nD τ) arg20 fullShare d) ∗ (∃ d, owns (c : Thread nD τ) arg21 fullShare d) ∗ (∃ d, owns (c : Thread nD τ) arg22 fullShare d) ∗ wpieceV c (Ring.bk 16 (t.val - 2)) 0 o0 ∗ wpieceV c (Ring.bk 16 (t.val - 2)) 1 o1 ∗ wpieceV c (Ring.bk 16 (t.val - 2)) 2 o2 ∗ wpieceV c (Ring.bk 16 (t.val - 2)) 3 o3 ∗ (∃ e, wflightV c (Ring.sl 2 t.val) 0 (Ring.bk 16 t.val) (T0 e)) ∗ (∃ e, wflightV c (Ring.sl 2 t.val) 1 (Ring.bk 16 t.val) (T1 e)) ∗ (∃ e, wflightV c (Ring.sl 2 t.val) 2 (Ring.bk 16 t.val) (T2 e)) ∗ (∃ e, wflightV c (Ring.sl 2 t.val) 3 (Ring.bk 16 t.val) (T3 e)) ∗ (∃ W', owes (c : Thread nD τ) 0 W')) -∗ K ⟨⟩))
          ⊢ wp frame (wpE (defs₀ (F := F)) Variants.none c none) Set.univ (cc0_middle (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_v13_5) (Memref.isWhole_whole _) arg20 harg20 arg21 harg21 arg22 harg22 scM0_3 (Memref.isWhole_whole _) cc0_scratch4) K } := by
  refine ⟨?_, ?_, ?_, ?_, ?_, ?_, ?_, ?_, ?_, fun hc1 hc2 hc3 hc4 hc5 o0 o1 o2 o3 W K => ?run⟩
  case run =>
    haveI : Fact (¬cd1 (grid0.coords t)) := ⟨hc1⟩
    haveI : Fact (cd2 (grid0.coords t)) := ⟨hc2⟩
    haveI : Fact (cd3 (grid0.coords t)) := ⟨hc3⟩
    haveI : Fact (¬cd4 (grid0.coords t)) := ⟨hc4⟩
    haveI : Fact (¬cd5 (grid0.coords t)) := ⟨hc5⟩
    simp only [cc0_middle_eq_skeleton]; unfold cc0_middle_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns wpieceV wflightV
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%ds0, %fs0, -, HS0⟩, ⟨%ds1, %fs1, -, HS1⟩, ⟨%ds2, %fs2, -, HS2⟩, ⟨%fp0, Hp0⟩, ⟨%fp1, Hp1⟩, ⟨%fp2, Hp2⟩, ⟨%fp3, Hp3⟩, ⟨%ff0, %fe0, %ho0, HF0⟩, ⟨%ff1, %fe1, %ho1, HF1⟩, ⟨%ff2, %fe2, %ho2, HF2⟩, ⟨%ff3, %fe3, %ho3, HF3⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hf16; obtain rfl := harg18.eq_unread hf17
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexact H16
    isplitl [H17]; · iexact H17
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HF0_dst]
    · iexists _; isplitr; · ipureintro; exact ho0
      iexact HF0_dst
    isplitl [HF1_dst]
    · iexists _; isplitr; · ipureintro; exact ho1
      iexact HF1_dst
    isplitl [HF2_dst]
    · iexists _; isplitr; · ipureintro; exact ho2
      iexact HF2_dst
    isplitl [HF3_dst]
    · iexists _; isplitr; · ipureintro; exact ho3
      iexact HF3_dst
    isplitl [HF0]
    · iexists fe0, _, _; isplitr; swap; · iexact HF0
      ipureintro; exact View.read_writes_whole _ _ _
    isplitl [HF1]
    · iexists fe1, _, _; isplitr; swap; · iexact HF1
      ipureintro; exact View.read_writes_whole _ _ _
    isplitl [HF2]
    · iexists fe2, _, _; isplitr; swap; · iexact HF2
      ipureintro; exact View.read_writes_whole _ _ _
    isplitl [HF3]
    · iexists fe3, _, _; isplitr; swap; · iexact HF3
      ipureintro; exact View.read_writes_whole _ _ _
    iexists _; iexact HW

end Cert.MidIdeal.Hand

end
-- ==== Proof.MidRunD.lean ====
/- The body at the last point: every copy still in flight is waited for. -/
module

public import proofs.«01_k».proof.Proof.MidRing

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.stepHeartbeats 1000000 in
set_option maxHeartbeats 8000000 in
/-- What the body's stores leave at the last point; every piece is home at the end. -/
noncomputable def kernelRunD (c : Dev nD) (t : Fin cfg0.N) (arg1 : Memref sig .tc .vmem S256x1024 .f32) (harg1 : arg1.IsWhole) (arg2 : Memref sig .tc .vmem S256x1024 .f32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S8x256x128 .bf16) (harg15 : arg15.IsWhole) (arg16 : Memref sig .tc .vmem S8x256x128 .bf16) (harg16 : arg16.IsWhole) (arg17 : Memref sig .tc .vmem S1024x1024 .f32) (harg17 : arg17.IsWhole) (arg18 : Memref sig .tc .vmem S8x1024 .f32) (harg18 : arg18.IsWhole) (arg20 : Memref sig .tc .vmem S256x1024 .bf16) (harg20 : arg20.IsWhole) (arg21 : Memref sig .tc .vmem S256x1024 .f32) (harg21 : arg21.IsWhole) (arg22 : Memref sig .tc .vmem S2x8x4x256x128 .f32) (harg22 : arg22.IsWhole)
    (x0 : Vec F S256x1024 .f32) (x1 : Vec F S256x1024 .f32) (x2 : Vec F S8x256x128 .f32) (x3 : Vec F S8x256x128 .f32) (x4 : Vec F S8x256x128 .f32) (x5 : Vec F S8x256x128 .f32) (x6 : Vec F S8x256x128 .f32) (x7 : Vec F S8x256x128 .f32) (x8 : Vec F S1024x1024 .bf16) (x9 : Vec F S1x1024 .f32) (x10 : Vec F S1x1024 .f32) (x11 : Vec F S1x1024 .f32) (x12 : Vec F S1x1024 .f32) (xo16 : Vec F S1024x1024 .f32) (xo17 : Vec F S8x1024 .f32) :
    Σ' (L13 : List (View.Piece (Elt F) S256x1024 .f32)), Σ' (L14 : List (View.Piece (Elt F) S8x256x128 .bf16)), Σ' (L15 : List (View.Piece (Elt F) S8x256x128 .bf16)), Σ' (L16 : List (View.Piece (Elt F) S1024x1024 .f32)), Σ' (T0 : HbBuf0 (F := F) c (wtile (Ring.sl 2 t.val) 0) → Vec F S8x256x128 .bf16), Σ' (T1 : HbBuf0 (F := F) c (wtile (Ring.sl 2 t.val) 1) → Vec F S8x256x128 .bf16), Σ' (T2 : HbBuf0 (F := F) c (wtile (Ring.sl 2 t.val) 2) → Vec F S8x256x128 .bf16), Σ' (T3 : HbBuf0 (F := F) c (wtile (Ring.sl 2 t.val) 3) → Vec F S8x256x128 .bf16),
      { L17 : List (View.Piece (Elt F) S8x1024 .f32) //
      ∀ (hc1 : ¬cd1 (grid0.coords t)) (hc2 : cd2 (grid0.coords t)) (hc3 : cd3 (grid0.coords t)) (hc4 : ¬cd4 (grid0.coords t)) (hc5 : cd5 (grid0.coords t)) (o0 o1 o2 o3 : Vec F S8x256x128 .bf16) (p0 p1 p2 p3 : Vec F S8x256x128 .bf16) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ (∃ d, owns (c : Thread nD τ) arg20 fullShare d) ∗ (∃ d, owns (c : Thread nD τ) arg21 fullShare d) ∗ (∃ d, owns (c : Thread nD τ) arg22 fullShare d) ∗ (∃ f, wpieceP c (Ring.bk 16 t.val) 0 f) ∗ (∃ f, wpieceP c (Ring.bk 16 t.val) 1 f) ∗ (∃ f, wpieceP c (Ring.bk 16 t.val) 2 f) ∗ (∃ f, wpieceP c (Ring.bk 16 t.val) 3 f) ∗ wflightV c (Ring.sl 2 t.val) 0 (Ring.bk 16 (t.val - 2)) o0 ∗ wflightV c (Ring.sl 2 t.val) 1 (Ring.bk 16 (t.val - 2)) o1 ∗ wflightV c (Ring.sl 2 t.val) 2 (Ring.bk 16 (t.val - 2)) o2 ∗ wflightV c (Ring.sl 2 t.val) 3 (Ring.bk 16 (t.val - 2)) o3 ∗ wflightV c (Ring.sl 2 (t.val + 1)) 0 (Ring.bk 16 (t.val - 1)) p0 ∗ wflightV c (Ring.sl 2 (t.val + 1)) 1 (Ring.bk 16 (t.val - 1)) p1 ∗ wflightV c (Ring.sl 2 (t.val + 1)) 2 (Ring.bk 16 (t.val - 1)) p2 ∗ wflightV c (Ring.sl 2 (t.val + 1)) 3 (Ring.bk 16 (t.val - 1)) p3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (arg18.view.loc (c : Thread nD τ) ↦[arg18.view.set]{fullShare} arg18.view.writes (Elt F) (harg18.unread xo17) L17) ∗ (∃ d, owns (c : Thread nD τ) arg20 fullShare d) ∗ (∃ d, owns (c : Thread nD τ) arg21 fullShare d) ∗ (∃ d, owns (c : Thread nD τ) arg22 fullShare d) ∗ (∃ e, wpieceV c (Ring.bk 16 t.val) 0 (T0 e)) ∗ (∃ e, wpieceV c (Ring.bk 16 t.val) 1 (T1 e)) ∗ (∃ e, wpieceV c (Ring.bk 16 t.val) 2 (T2 e)) ∗ (∃ e, wpieceV c (Ring.bk 16 t.val) 3 (T3 e)) ∗ wpieceV c (Ring.bk 16 (t.val - 2)) 0 o0 ∗ wpieceV c (Ring.bk 16 (t.val - 2)) 1 o1 ∗ wpieceV c (Ring.bk 16 (t.val - 2)) 2 o2 ∗ wpieceV c (Ring.bk 16 (t.val - 2)) 3 o3 ∗ wpieceV c (Ring.bk 16 (t.val - 1)) 0 p0 ∗ wpieceV c (Ring.bk 16 (t.val - 1)) 1 p1 ∗ wpieceV c (Ring.bk 16 (t.val - 1)) 2 p2 ∗ wpieceV c (Ring.bk 16 (t.val - 1)) 3 p3 ∗ wcellP c (Ring.sl 2 t.val) 0 ∗ (∃ e, wtileP c (Ring.sl 2 t.val) 0 e) ∗ wcellP c (Ring.sl 2 t.val) 1 ∗ (∃ e, wtileP c (Ring.sl 2 t.val) 1 e) ∗ wcellP c (Ring.sl 2 t.val) 2 ∗ (∃ e, wtileP c (Ring.sl 2 t.val) 2 e) ∗ wcellP c (Ring.sl 2 t.val) 3 ∗ (∃ e, wtileP c (Ring.sl 2 t.val) 3 e) ∗ wcellP c (Ring.sl 2 (t.val + 1)) 0 ∗ (∃ e, wtileP c (Ring.sl 2 (t.val + 1)) 0 e) ∗ wcellP c (Ring.sl 2 (t.val + 1)) 1 ∗ (∃ e, wtileP c (Ring.sl 2 (t.val + 1)) 1 e) ∗ wcellP c (Ring.sl 2 (t.val + 1)) 2 ∗ (∃ e, wtileP c (Ring.sl 2 (t.val + 1)) 2 e) ∗ wcellP c (Ring.sl 2 (t.val + 1)) 3 ∗ (∃ e, wtileP c (Ring.sl 2 (t.val + 1)) 3 e) ∗ (∃ W', owes (c : Thread nD τ) 0 W')) -∗ K ⟨⟩))
          ⊢ wp frame (wpE (defs₀ (F := F)) Variants.none c none) Set.univ (cc0_middle (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_v13_5) (Memref.isWhole_whole _) arg20 harg20 arg21 harg21 arg22 harg22 scM0_3 (Memref.isWhole_whole _) cc0_scratch4) K } := by
  refine ⟨?_, ?_, ?_, ?_, ?_, ?_, ?_, ?_, ?_, fun hc1 hc2 hc3 hc4 hc5 o0 o1 o2 o3 p0 p1 p2 p3 W K => ?run⟩
  case run =>
    haveI : Fact (¬cd1 (grid0.coords t)) := ⟨hc1⟩
    haveI : Fact (cd2 (grid0.coords t)) := ⟨hc2⟩
    haveI : Fact (cd3 (grid0.coords t)) := ⟨hc3⟩
    haveI : Fact (¬cd4 (grid0.coords t)) := ⟨hc4⟩
    haveI : Fact (cd5 (grid0.coords t)) := ⟨hc5⟩
    simp only [cc0_middle_eq_skeleton]; unfold cc0_middle_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns wpieceV wflightV
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%ds0, %fs0, -, HS0⟩, ⟨%ds1, %fs1, -, HS1⟩, ⟨%ds2, %fs2, -, HS2⟩, ⟨%fp0, Hp0⟩, ⟨%fp1, Hp1⟩, ⟨%fp2, Hp2⟩, ⟨%fp3, Hp3⟩, ⟨%ff0, %fe0, %ho0, HF0⟩, ⟨%ff1, %fe1, %ho1, HF1⟩, ⟨%ff2, %fe2, %ho2, HF2⟩, ⟨%ff3, %fe3, %ho3, HF3⟩, ⟨%if0, %ie0, %hp0, HI0⟩, ⟨%if1, %ie1, %hp1, HI1⟩, ⟨%if2, %ie2, %hp2, HI2⟩, ⟨%if3, %ie3, %hp3, HI3⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hf16; obtain rfl := harg18.eq_unread hf17
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexact H16
    isplitl [H17]; · iexact H17
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hp0]
    · iexists fe0, _; isplitr; swap; · iexact Hp0
      ipureintro; exact View.read_writes_whole _ _ _
    isplitl [Hp1]
    · iexists fe1, _; isplitr; swap; · iexact Hp1
      ipureintro; exact View.read_writes_whole _ _ _
    isplitl [Hp2]
    · iexists fe2, _; isplitr; swap; · iexact Hp2
      ipureintro; exact View.read_writes_whole _ _ _
    isplitl [Hp3]
    · iexists fe3, _; isplitr; swap; · iexact Hp3
      ipureintro; exact View.read_writes_whole _ _ _
    isplitl [HF0_dst]
    · iexists _; isplitr; · ipureintro; exact ho0
      iexact HF0_dst
    isplitl [HF1_dst]
    · iexists _; isplitr; · ipureintro; exact ho1
      iexact HF1_dst
    isplitl [HF2_dst]
    · iexists _; isplitr; · ipureintro; exact ho2
      iexact HF2_dst
    isplitl [HF3_dst]
    · iexists _; isplitr; · ipureintro; exact ho3
      iexact HF3_dst
    isplitl [HI0_dst]
    · iexists _; isplitr; · ipureintro; exact hp0
      iexact HI0_dst
    isplitl [HI1_dst]
    · iexists _; isplitr; · ipureintro; exact hp1
      iexact HI1_dst
    isplitl [HI2_dst]
    · iexists _; isplitr; · ipureintro; exact hp2
      iexact HI2_dst
    isplitl [HI3_dst]
    · iexists _; isplitr; · ipureintro; exact hp3
      iexact HI3_dst
    isplitl [HF0]; · iexact HF0
    isplitl [HF0_src]; · iexists _; iexact HF0_src
    isplitl [HF1]; · iexact HF1
    isplitl [HF1_src]; · iexists _; iexact HF1_src
    isplitl [HF2]; · iexact HF2
    isplitl [HF2_src]; · iexists _; iexact HF2_src
    isplitl [HF3]; · iexact HF3
    isplitl [HF3_src]; · iexists _; iexact HF3_src
    isplitl [HI0]; · iexact HI0
    isplitl [HI0_src]; · iexists _; iexact HI0_src
    isplitl [HI1]; · iexact HI1
    isplitl [HI1_src]; · iexists _; iexact HI1_src
    isplitl [HI2]; · iexact HI2
    isplitl [HI2_src]; · iexists _; iexact HI2_src
    isplitl [HI3]; · iexact HI3
    isplitl [HI3_src]; · iexists _; iexact HI3_src
    iexists _; iexact HW

end Cert.MidIdeal.Hand

end
-- ==== Proof.MidOuts.lean ====
/- What the body leaves at a point, named: the results' blocks, the two sums carried along the grid, and the four tiles copied out. -/
module

public import proofs.«01_k».proof.Proof.MidRunA
public import proofs.«01_k».proof.Proof.MidRunB
public import proofs.«01_k».proof.Proof.MidRunC
public import proofs.«01_k».proof.Proof.MidRunD
public import Idealize.ShloMosaic.Lib.ValueLayout
public import Idealize.ShloMosaic.Lib.Pointwise.Index

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## A tile, store by store -/

/-- An element of tile (g, k) is the scratch's element there. -/
theorem tile_read (c : Dev nD) (g : Fin 2) (k : Fin 4) (f : HbBuf0 (F := F) c (wtile g k)) (a : Fin 8) (r : Fin 256) (l : Fin 128) :
    (wtile g k).view.read (Elt F) f (ix3 a r l) = scM0_3.view.read (Elt F) f (ix5 g k a r l) := by
  have h : (wtile g k).view.read (Elt F) f (ix3 a r l) = scM0_3.view.read (Elt F) f
      ((Rect.unit (s := S2x4x8x256x128) ![g.val, k.val, 0, 0, 0] S1x1x8x256x128.size (inb_wtile g k)).emb
        (Shape.reshapeEquiv squeezes_S1x1x8x256x128_S8x256x128.numel_eq (ix3 a r l))) := rfl
  rw [h]
  congr 1
  rw [show Shape.reshapeEquiv squeezes_S1x1x8x256x128_S8x256x128.numel_eq (ix3 a r l) = ix5 (0 : Fin 1) (0 : Fin 1) a r l from ValueIdx.reshapeEquiv_ix3_11abc _ a r l]
  funext j
  apply Fin.ext
  fin_cases j <;> simp [Rect.unit, Rect.emb, ix5]

/-- After head `hh`'s store the tile holds the stored rows at that head and what it held elsewhere. -/
theorem tile_write (c : Dev nD) (g : Fin 2) (k : Fin 4) (hh : ℕ) {off : Fin 5 → ℕ} (hoff : off = ![g.val, k.val, hh, 0, 0]) (hin)
    (f : HbBuf0 (F := F) c (wtile g k)) (v : Vec F S1x1x1x256x128 .bf16) (a : Fin 8) (r : Fin 256) (l : Fin 128) :
    (wtile g k).view.read (Elt F) ((scM0_3.access (Rect.unit (s := S2x4x8x256x128) off S1x1x1x256x128.size hin)).write (Elt F) f v Finset.univ) (ix3 a r l)
      = if a.val = hh then v (ix5 0 0 0 r l) else (wtile g k).view.read (Elt F) f (ix3 a r l) := by
  subst hoff
  refine (tile_read c g k _ a r l).trans ?_
  by_cases h : a.val = hh
  · rw [if_pos h]
    have e : (ix5 g k a r l : S2x4x8x256x128.Idx) = (Rect.unit (s := S2x4x8x256x128) ![g.val, k.val, hh, 0, 0] S1x1x1x256x128.size hin).emb (ix5 0 0 0 r l) := by
      funext j
      apply Fin.ext
      fin_cases j <;> simp [Rect.unit, Rect.emb, ix5, h]
    rw [e]
    exact View.read_slice_write_emb _ _ _ (Finset.mem_univ _)
  · rw [if_neg h]
    refine Eq.trans ?_ (tile_read c g k f a r l).symm
    refine View.read_slice_write_of_not_mem _ _ _ _ fun hm => h ?_
    obtain ⟨x, -, hx⟩ := Finset.mem_map.mp hm
    have h2 := congrArg (fun y => (y (2 : Fin 5)).val) hx
    have h3 : (x (2 : Fin 5)).val = 0 := by have := (x (2 : Fin 5)).isLt; simp [Rect.unit] at this; omega
    simp [Rect.unit, Rect.emb, ix5, h3] at h2
    omega

/-- So two writings of the same head agree where what they are written over agrees elsewhere. -/
theorem tile_step (c : Dev nD) (g : Fin 2) (k : Fin 4) (hh : ℕ) {off : Fin 5 → ℕ} (hoff : off = ![g.val, k.val, hh, 0, 0]) (hin)
    (f f' : HbBuf0 (F := F) c (wtile g k)) (v : Vec F S1x1x1x256x128 .bf16) (a : Fin 8) (r : Fin 256) (l : Fin 128)
    (h : a.val ≠ hh → (wtile g k).view.read (Elt F) f (ix3 a r l) = (wtile g k).view.read (Elt F) f' (ix3 a r l)) :
    (wtile g k).view.read (Elt F) ((scM0_3.access (Rect.unit (s := S2x4x8x256x128) off S1x1x1x256x128.size hin)).write (Elt F) f v Finset.univ) (ix3 a r l)
      = (wtile g k).view.read (Elt F) ((scM0_3.access (Rect.unit (s := S2x4x8x256x128) off S1x1x1x256x128.size hin)).write (Elt F) f' v Finset.univ) (ix3 a r l) := by
  refine (tile_write c g k hh hoff hin f v a r l).trans (Eq.trans ?_ (tile_write c g k hh hoff hin f' v a r l).symm)
  by_cases e : a.val = hh
  · rw [if_pos e, if_pos e]
  · rw [if_neg e, if_neg e]; exact h e

/-! ## A point's run, at the point's blocks -/

/-- The run at point `t`'s staging buffers and blocks, the sums started; -/
abbrev runA (c : Dev nD) (t : Fin cfg0.N) := kernelRunA (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
/-- at the second point, the sums carried on from `x16` and `x17`; -/
abbrev runB (c : Dev nD) (t : Fin cfg0.N) (x16 : Vec F S1024x1024 .f32) (x17 : Vec F S8x1024 .f32) := kernelRunB (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x16 x17
/-- at a middle point; -/
abbrev runC (c : Dev nD) (t : Fin cfg0.N) (x16 : Vec F S1024x1024 .f32) (x17 : Vec F S8x1024 .f32) := kernelRunC (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x16 x17
/-- at the last. -/
abbrev runD (c : Dev nD) (t : Fin cfg0.N) (x16 : Vec F S1024x1024 .f32) (x17 : Vec F S8x1024 .f32) := kernelRunD (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x16 x17

/-! Every case stores the same blocks of the results that are not summed, and copies the same tiles; the two sums are carried on alike. -/

theorem eqB_13 (c : Dev nD) (t : Fin cfg0.N) (x16 : Vec F S1024x1024 .f32) (x17 : Vec F S8x1024 .f32) : (runB m c t x16 x17).1 = (runA m c t).1 := rfl
theorem eqB_14 (c : Dev nD) (t : Fin cfg0.N) (x16 : Vec F S1024x1024 .f32) (x17 : Vec F S8x1024 .f32) : (runB m c t x16 x17).2.1 = (runA m c t).2.1 := rfl
theorem eqB_15 (c : Dev nD) (t : Fin cfg0.N) (x16 : Vec F S1024x1024 .f32) (x17 : Vec F S8x1024 .f32) : (runB m c t x16 x17).2.2.1 = (runA m c t).2.2.1 := rfl
theorem eqB_T0 (c : Dev nD) (t : Fin cfg0.N) (x16 : Vec F S1024x1024 .f32) (x17 : Vec F S8x1024 .f32) : (runB m c t x16 x17).2.2.2.2.1 = (runA m c t).2.2.2.2.1 := rfl
theorem eqB_T1 (c : Dev nD) (t : Fin cfg0.N) (x16 : Vec F S1024x1024 .f32) (x17 : Vec F S8x1024 .f32) : (runB m c t x16 x17).2.2.2.2.2.1 = (runA m c t).2.2.2.2.2.1 := rfl
theorem eqB_T2 (c : Dev nD) (t : Fin cfg0.N) (x16 : Vec F S1024x1024 .f32) (x17 : Vec F S8x1024 .f32) : (runB m c t x16 x17).2.2.2.2.2.2.1 = (runA m c t).2.2.2.2.2.2.1 := rfl
theorem eqB_T3 (c : Dev nD) (t : Fin cfg0.N) (x16 : Vec F S1024x1024 .f32) (x17 : Vec F S8x1024 .f32) : (runB m c t x16 x17).2.2.2.2.2.2.2.1 = (runA m c t).2.2.2.2.2.2.2.1 := rfl
theorem eqC_13 (c : Dev nD) (t : Fin cfg0.N) (x16 : Vec F S1024x1024 .f32) (x17 : Vec F S8x1024 .f32) : (runC m c t x16 x17).1 = (runA m c t).1 := rfl
theorem eqC_14 (c : Dev nD) (t : Fin cfg0.N) (x16 : Vec F S1024x1024 .f32) (x17 : Vec F S8x1024 .f32) : (runC m c t x16 x17).2.1 = (runA m c t).2.1 := rfl
theorem eqC_15 (c : Dev nD) (t : Fin cfg0.N) (x16 : Vec F S1024x1024 .f32) (x17 : Vec F S8x1024 .f32) : (runC m c t x16 x17).2.2.1 = (runA m c t).2.2.1 := rfl
theorem eqC_T0 (c : Dev nD) (t : Fin cfg0.N) (x16 : Vec F S1024x1024 .f32) (x17 : Vec F S8x1024 .f32) : (runC m c t x16 x17).2.2.2.2.1 = (runA m c t).2.2.2.2.1 := rfl
theorem eqC_T1 (c : Dev nD) (t : Fin cfg0.N) (x16 : Vec F S1024x1024 .f32) (x17 : Vec F S8x1024 .f32) : (runC m c t x16 x17).2.2.2.2.2.1 = (runA m c t).2.2.2.2.2.1 := rfl
theorem eqC_T2 (c : Dev nD) (t : Fin cfg0.N) (x16 : Vec F S1024x1024 .f32) (x17 : Vec F S8x1024 .f32) : (runC m c t x16 x17).2.2.2.2.2.2.1 = (runA m c t).2.2.2.2.2.2.1 := rfl
theorem eqC_T3 (c : Dev nD) (t : Fin cfg0.N) (x16 : Vec F S1024x1024 .f32) (x17 : Vec F S8x1024 .f32) : (runC m c t x16 x17).2.2.2.2.2.2.2.1 = (runA m c t).2.2.2.2.2.2.2.1 := rfl
theorem eqD_13 (c : Dev nD) (t : Fin cfg0.N) (x16 : Vec F S1024x1024 .f32) (x17 : Vec F S8x1024 .f32) : (runD m c t x16 x17).1 = (runA m c t).1 := rfl
theorem eqD_14 (c : Dev nD) (t : Fin cfg0.N) (x16 : Vec F S1024x1024 .f32) (x17 : Vec F S8x1024 .f32) : (runD m c t x16 x17).2.1 = (runA m c t).2.1 := rfl
theorem eqD_15 (c : Dev nD) (t : Fin cfg0.N) (x16 : Vec F S1024x1024 .f32) (x17 : Vec F S8x1024 .f32) : (runD m c t x16 x17).2.2.1 = (runA m c t).2.2.1 := rfl
theorem eqD_T0 (c : Dev nD) (t : Fin cfg0.N) (x16 : Vec F S1024x1024 .f32) (x17 : Vec F S8x1024 .f32) : (runD m c t x16 x17).2.2.2.2.1 = (runA m c t).2.2.2.2.1 := rfl
theorem eqD_T1 (c : Dev nD) (t : Fin cfg0.N) (x16 : Vec F S1024x1024 .f32) (x17 : Vec F S8x1024 .f32) : (runD m c t x16 x17).2.2.2.2.2.1 = (runA m c t).2.2.2.2.2.1 := rfl
theorem eqD_T2 (c : Dev nD) (t : Fin cfg0.N) (x16 : Vec F S1024x1024 .f32) (x17 : Vec F S8x1024 .f32) : (runD m c t x16 x17).2.2.2.2.2.2.1 = (runA m c t).2.2.2.2.2.2.1 := rfl
theorem eqD_T3 (c : Dev nD) (t : Fin cfg0.N) (x16 : Vec F S1024x1024 .f32) (x17 : Vec F S8x1024 .f32) : (runD m c t x16 x17).2.2.2.2.2.2.2.1 = (runA m c t).2.2.2.2.2.2.2.1 := rfl
theorem eqC_16 (c : Dev nD) (t : Fin cfg0.N) (x16 : Vec F S1024x1024 .f32) (x17 : Vec F S8x1024 .f32) : (runC m c t x16 x17).2.2.2.1 = (runB m c t x16 x17).2.2.2.1 := rfl
theorem eqC_17 (c : Dev nD) (t : Fin cfg0.N) (x16 : Vec F S1024x1024 .f32) (x17 : Vec F S8x1024 .f32) : (runC m c t x16 x17).2.2.2.2.2.2.2.2.1 = (runB m c t x16 x17).2.2.2.2.2.2.2.2.1 := rfl
theorem eqD_16 (c : Dev nD) (t : Fin cfg0.N) (x16 : Vec F S1024x1024 .f32) (x17 : Vec F S8x1024 .f32) : (runD m c t x16 x17).2.2.2.1 = (runB m c t x16 x17).2.2.2.1 := rfl
theorem eqD_17 (c : Dev nD) (t : Fin cfg0.N) (x16 : Vec F S1024x1024 .f32) (x17 : Vec F S8x1024 .f32) : (runD m c t x16 x17).2.2.2.2.2.2.2.2.1 = (runB m c t x16 x17).2.2.2.2.2.2.2.2.1 := rfl

/-! ## The stores cover the blocks -/

theorem cover_13 (c : Dev nD) (t : Fin cfg0.N) (y : S256x1024.Idx) : ∃ pc ∈ (runA m c t).1, y ∈ pc.1.set :=
  View.cover_of_tiledL (runA m c t).1 S256x1024.size (by sl_kernel_rfl) y
theorem cover_14 (c : Dev nD) (t : Fin cfg0.N) (y : S8x256x128.Idx) : ∃ pc ∈ (runA m c t).2.1, y ∈ pc.1.set :=
  View.cover_of_tiledL (runA m c t).2.1 S1x256x128.size (by sl_kernel_rfl) y
theorem cover_15 (c : Dev nD) (t : Fin cfg0.N) (y : S8x256x128.Idx) : ∃ pc ∈ (runA m c t).2.2.1, y ∈ pc.1.set :=
  View.cover_of_tiledL (runA m c t).2.2.1 S1x256x128.size (by sl_kernel_rfl) y
theorem cover_16 (c : Dev nD) (t : Fin cfg0.N) (y : S1024x1024.Idx) : ∃ pc ∈ (runA m c t).2.2.2.1, y ∈ pc.1.set :=
  View.cover_of_tiledL (runA m c t).2.2.2.1 S1024x1024.size (by sl_kernel_rfl) y
theorem cover_17 (c : Dev nD) (t : Fin cfg0.N) (y : S8x1024.Idx) : ∃ pc ∈ (runA m c t).2.2.2.2.2.2.2.2.1, y ∈ pc.1.set :=
  View.cover_of_tiledBy (runA m c t).2.2.2.2.2.2.2.2.1 ![1, 1024] (by sl_kernel_rfl) y

/-! ## The blocks and the sums -/

/-- The block of ∂y's array, of the two head outputs' cotangents. -/
def blk13 (c : Dev nD) (t : Fin cfg0.N) : Vec F S256x1024 .f32 := (ms0_13 t).view.read (Elt F) ((ms0_13 t).view.writes (Elt F) (ms0_13 t).view.junk (runA m c t).1)
def blk14 (c : Dev nD) (t : Fin cfg0.N) : Vec F S8x256x128 .bf16 := (ms0_14 t).view.read (Elt F) ((ms0_14 t).view.writes (Elt F) (ms0_14 t).view.junk (runA m c t).2.1)
def blk15 (c : Dev nD) (t : Fin cfg0.N) : Vec F S8x256x128 .bf16 := (ms0_15 t).view.read (Elt F) ((ms0_15 t).view.writes (Elt F) (ms0_15 t).view.junk (runA m c t).2.2.1)
/-- The two sums as the first point starts them, and as a later one carries them on. -/
def start (c : Dev nD) (t : Fin cfg0.N) : Vec F S1024x1024 .f32 × Vec F S8x1024 .f32 :=
  ((ms0_16 t).view.read (Elt F) ((ms0_16 t).view.writes (Elt F) (ms0_16 t).view.junk (runA m c t).2.2.2.1),
   (ms0_17 t).view.read (Elt F) ((ms0_17 t).view.writes (Elt F) (ms0_17 t).view.junk (runA m c t).2.2.2.2.2.2.2.2.1))
def carry (c : Dev nD) (t : Fin cfg0.N) (x : Vec F S1024x1024 .f32 × Vec F S8x1024 .f32) : Vec F S1024x1024 .f32 × Vec F S8x1024 .f32 :=
  ((ms0_16 t).view.read (Elt F) ((ms0_16 t).view.writes (Elt F) ((hs0_16 t).unread x.1) (runB m c t x.1 x.2).2.2.2.1),
   (ms0_17 t).view.read (Elt F) ((ms0_17 t).view.writes (Elt F) ((hs0_17 t).unread x.2) (runB m c t x.1 x.2).2.2.2.2.2.2.2.2.1))
/-- The two sums after point `n`. -/
def sums (c : Dev nD) : (n : ℕ) → n < cfg0.N → Vec F S1024x1024 .f32 × Vec F S8x1024 .f32
  | 0, h => start m c ⟨0, h⟩
  | n + 1, h => carry m c ⟨n + 1, h⟩ (sums c n (Nat.lt_of_succ_lt h))
theorem sums_zero (c : Dev nD) (t : Fin cfg0.N) (h : t.val = 0) : sums m c t.val t.isLt = start m c t := by
  obtain ⟨n, hn⟩ := t; dsimp only at h; subst h; rfl
theorem sums_succ (c : Dev nD) (t : Fin cfg0.N) (h : t.val ≠ 0) :
    sums m c t.val t.isLt = carry m c t (sums m c (t.val - 1) (by have := t.isLt; omega)) := by
  obtain ⟨n, hn⟩ := t
  cases n with
  | zero => exact absurd rfl h
  | succ n => rfl

/-! ## The tiles -/

/-- The tiles copied out at point `t`, by member. -/
def tile0 (c : Dev nD) (t : Fin cfg0.N) : Vec F S8x256x128 .bf16 := (runA m c t).2.2.2.2.1 (wtile (Ring.sl 2 t.val) 0).view.junk
def tile1 (c : Dev nD) (t : Fin cfg0.N) : Vec F S8x256x128 .bf16 := (runA m c t).2.2.2.2.2.1 (wtile (Ring.sl 2 t.val) 1).view.junk
def tile2 (c : Dev nD) (t : Fin cfg0.N) : Vec F S8x256x128 .bf16 := (runA m c t).2.2.2.2.2.2.1 (wtile (Ring.sl 2 t.val) 2).view.junk
def tile3 (c : Dev nD) (t : Fin cfg0.N) : Vec F S8x256x128 .bf16 := (runA m c t).2.2.2.2.2.2.2.1 (wtile (Ring.sl 2 t.val) 3).view.junk
/-- Tile 0 does not depend on what the scratch held: its eight heads are all stored. -/
theorem tile0_eq (c : Dev nD) (t : Fin cfg0.N) (e : HbBuf0 (F := F) c (wtile (Ring.sl 2 t.val) 0)) : (runA m c t).2.2.2.2.1 e = tile0 m c t := by
  funext y
  rw [eq_ix3 y]
  have h8 : (y 0).val < 8 := (y 0).isLt
  unfold tile0
  dsimp only [runA, kernelRunA, kernelRunA.sl.dma439]
  unfold kernelRunA.sl.Ht0_w30 kernelRunA.sl.Ht0_w26 kernelRunA.sl.Ht0_w22 kernelRunA.sl.Ht0_w18 kernelRunA.sl.Ht0_w14 kernelRunA.sl.Ht0_w10 kernelRunA.sl.Ht0_w6 kernelRunA.sl.Ht0_w2
  exact tile_step c (Ring.sl 2 t.val) 0 7 (wcoff_66 t) _ _ _ _ _ _ _ <| fun n7 => tile_step c (Ring.sl 2 t.val) 0 6 (wcoff_62 t) _ _ _ _ _ _ _ <| fun n6 => tile_step c (Ring.sl 2 t.val) 0 5 (wcoff_58 t) _ _ _ _ _ _ _ <| fun n5 => tile_step c (Ring.sl 2 t.val) 0 4 (wcoff_54 t) _ _ _ _ _ _ _ <| fun n4 => tile_step c (Ring.sl 2 t.val) 0 3 (wcoff_50 t) _ _ _ _ _ _ _ <| fun n3 => tile_step c (Ring.sl 2 t.val) 0 2 (wcoff_46 t) _ _ _ _ _ _ _ <| fun n2 => tile_step c (Ring.sl 2 t.val) 0 1 (wcoff_42 t) _ _ _ _ _ _ _ <| fun n1 => tile_step c (Ring.sl 2 t.val) 0 0 (wcoff_38 t) _ _ _ _ _ _ _ <| fun n0 => absurd h8 (by omega)
/-- Tile 1 does not depend on what the scratch held: its eight heads are all stored. -/
theorem tile1_eq (c : Dev nD) (t : Fin cfg0.N) (e : HbBuf0 (F := F) c (wtile (Ring.sl 2 t.val) 1)) : (runA m c t).2.2.2.2.2.1 e = tile1 m c t := by
  funext y
  rw [eq_ix3 y]
  have h8 : (y 0).val < 8 := (y 0).isLt
  unfold tile1
  dsimp only [runA, kernelRunA, kernelRunA.sl.dma439_1]
  unfold kernelRunA.sl.Ht1_w32 kernelRunA.sl.Ht1_w28 kernelRunA.sl.Ht1_w24 kernelRunA.sl.Ht1_w20 kernelRunA.sl.Ht1_w16 kernelRunA.sl.Ht1_w12 kernelRunA.sl.Ht1_w8 kernelRunA.sl.Ht1_w4
  exact tile_step c (Ring.sl 2 t.val) 1 7 (wcoff_68 t) _ _ _ _ _ _ _ <| fun n7 => tile_step c (Ring.sl 2 t.val) 1 6 (wcoff_64 t) _ _ _ _ _ _ _ <| fun n6 => tile_step c (Ring.sl 2 t.val) 1 5 (wcoff_60 t) _ _ _ _ _ _ _ <| fun n5 => tile_step c (Ring.sl 2 t.val) 1 4 (wcoff_56 t) _ _ _ _ _ _ _ <| fun n4 => tile_step c (Ring.sl 2 t.val) 1 3 (wcoff_52 t) _ _ _ _ _ _ _ <| fun n3 => tile_step c (Ring.sl 2 t.val) 1 2 (wcoff_48 t) _ _ _ _ _ _ _ <| fun n2 => tile_step c (Ring.sl 2 t.val) 1 1 (wcoff_44 t) _ _ _ _ _ _ _ <| fun n1 => tile_step c (Ring.sl 2 t.val) 1 0 (wcoff_40 t) _ _ _ _ _ _ _ <| fun n0 => absurd h8 (by omega)
/-- Tile 2 does not depend on what the scratch held: its eight heads are all stored. -/
theorem tile2_eq (c : Dev nD) (t : Fin cfg0.N) (e : HbBuf0 (F := F) c (wtile (Ring.sl 2 t.val) 2)) : (runA m c t).2.2.2.2.2.2.1 e = tile2 m c t := by
  funext y
  rw [eq_ix3 y]
  have h8 : (y 0).val < 8 := (y 0).isLt
  unfold tile2
  dsimp only [runA, kernelRunA, kernelRunA.sl.dma439_2]
  unfold kernelRunA.sl.Ht2_w29 kernelRunA.sl.Ht2_w25 kernelRunA.sl.Ht2_w21 kernelRunA.sl.Ht2_w17 kernelRunA.sl.Ht2_w13 kernelRunA.sl.Ht2_w9 kernelRunA.sl.Ht2_w5 kernelRunA.sl.Ht2_w1
  exact tile_step c (Ring.sl 2 t.val) 2 7 (wcoff_65 t) _ _ _ _ _ _ _ <| fun n7 => tile_step c (Ring.sl 2 t.val) 2 6 (wcoff_61 t) _ _ _ _ _ _ _ <| fun n6 => tile_step c (Ring.sl 2 t.val) 2 5 (wcoff_57 t) _ _ _ _ _ _ _ <| fun n5 => tile_step c (Ring.sl 2 t.val) 2 4 (wcoff_53 t) _ _ _ _ _ _ _ <| fun n4 => tile_step c (Ring.sl 2 t.val) 2 3 (wcoff_49 t) _ _ _ _ _ _ _ <| fun n3 => tile_step c (Ring.sl 2 t.val) 2 2 (wcoff_45 t) _ _ _ _ _ _ _ <| fun n2 => tile_step c (Ring.sl 2 t.val) 2 1 (wcoff_41 t) _ _ _ _ _ _ _ <| fun n1 => tile_step c (Ring.sl 2 t.val) 2 0 (wcoff_37 t) _ _ _ _ _ _ _ <| fun n0 => absurd h8 (by omega)
/-- Tile 3 does not depend on what the scratch held: its eight heads are all stored. -/
theorem tile3_eq (c : Dev nD) (t : Fin cfg0.N) (e : HbBuf0 (F := F) c (wtile (Ring.sl 2 t.val) 3)) : (runA m c t).2.2.2.2.2.2.2.1 e = tile3 m c t := by
  funext y
  rw [eq_ix3 y]
  have h8 : (y 0).val < 8 := (y 0).isLt
  unfold tile3
  dsimp only [runA, kernelRunA, kernelRunA.sl.dma439_3]
  unfold kernelRunA.sl.Ht3_w31 kernelRunA.sl.Ht3_w27 kernelRunA.sl.Ht3_w23 kernelRunA.sl.Ht3_w19 kernelRunA.sl.Ht3_w15 kernelRunA.sl.Ht3_w11 kernelRunA.sl.Ht3_w7 kernelRunA.sl.Ht3_w3
  exact tile_step c (Ring.sl 2 t.val) 3 7 (wcoff_67 t) _ _ _ _ _ _ _ <| fun n7 => tile_step c (Ring.sl 2 t.val) 3 6 (wcoff_63 t) _ _ _ _ _ _ _ <| fun n6 => tile_step c (Ring.sl 2 t.val) 3 5 (wcoff_59 t) _ _ _ _ _ _ _ <| fun n5 => tile_step c (Ring.sl 2 t.val) 3 4 (wcoff_55 t) _ _ _ _ _ _ _ <| fun n4 => tile_step c (Ring.sl 2 t.val) 3 3 (wcoff_51 t) _ _ _ _ _ _ _ <| fun n3 => tile_step c (Ring.sl 2 t.val) 3 2 (wcoff_47 t) _ _ _ _ _ _ _ <| fun n2 => tile_step c (Ring.sl 2 t.val) 3 1 (wcoff_43 t) _ _ _ _ _ _ _ <| fun n1 => tile_step c (Ring.sl 2 t.val) 3 0 (wcoff_39 t) _ _ _ _ _ _ _ <| fun n0 => absurd h8 (by omega)

end Cert.MidIdeal.Hand

end
-- ==== Proof.MidRingV.lean ====
/- The write ring with its contents named: which tile each flight carries, what each piece of the result holds once it is home,
   and the result's array after the last point. -/
module

public import proofs.«01_k».proof.Proof.MidOuts
public import Idealize.ShloMosaic.Lib.Pipeline.FrameValue
public import Idealize.ShloMosaic.Lib.Claim

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The grid point of a step of the ring. -/
def ptN (u : Fin 16) : Fin cfg0.N := u.cast N_0.symm
theorem ptN_bk (t : Fin cfg0.N) : ptN (Ring.bk 16 t.val) = t :=
  Fin.ext (Nat.mod_eq_of_lt (lt_of_lt_of_eq t.isLt (show cfg0.N = 16 from N_0)))

/-- The four tiles at once. -/
def tileV (c : Dev nD) (t : Fin cfg0.N) : Fin 4 → Vec F S8x256x128 .bf16 := ![tile0 m c t, tile1 m c t, tile2 m c t, tile3 m c t]

/-- Group `g` in flight with step `u`'s tiles; step `u`'s pieces home with them. -/
abbrev winflV (c : Dev nD) (g : Fin 2) (u : Fin 16) : sProp 𝕄 :=
  iprop(wflightV c g 0 u (tile0 m c (ptN u)) ∗ wflightV c g 1 u (tile1 m c (ptN u)) ∗ wflightV c g 2 u (tile2 m c (ptN u)) ∗ wflightV c g 3 u (tile3 m c (ptN u)))
abbrev whomeV (c : Dev nD) (u : Fin 16) : sProp 𝕄 :=
  iprop(wpieceV c u 0 (tile0 m c (ptN u)) ∗ wpieceV c u 1 (tile1 m c (ptN u)) ∗ wpieceV c u 2 (tile2 m c (ptN u)) ∗ wpieceV c u 3 (tile3 m c (ptN u)))
/-- The ring before its step `k`. -/
def wringV (c : Dev nD) (k : ℕ) : sProp 𝕄 := Ring.AtBΦ 2 (wfree c) (winflV m c) (whome c) (whomeV m c) k
/-- The result's elements outside every piece: as the region finds them. -/
abbrev wrest (c : Dev nD) : sProp 𝕄 :=
  ((c : Thread nD τ).loc main_v13_5) ↦[Finset.univ \ Finset.univ.biUnion wpieceSet]{fullShare} V m c main_v13_5

theorem whomesV_eq (c : Dev nD) : (bigSep Finset.univ (fun i : Fin 16 × Fin 4 => wpieceV c i.1 i.2 (tileV m c (ptN i.1) i.2)) : sProp 𝕄) = bigSep Finset.univ (whomeV m c) := by
  rw [BI.bigSep_univ_prod]
  refine BI.bigSep_congr fun u _ => ?_
  rw [BI.bigSep_eq_bigSepL_of_eq [(0 : Fin 4), 1, 2, 3] (by decide) (by decide)]
  simp only [BI.bigSepL_cons_cons, BI.bigSepL_singleton]; rfl

/-- The copied result after the run, element by element: slabs 24 to 31, 48 to 55, 56 to 63 and 64 to 71 are the four tiles'
    heads, 256 rows to a point; the others are as the region finds them. -/
def dpbAt (c : Dev nD) (s : Fin 72) (r : Fin 4096) (l : Fin 128) : Elt F .bf16 :=
  let t : Fin cfg0.N := ptN ⟨r.val / 256, by omega⟩
  let y : S8x256x128.Idx := ix3 (⟨s.val % 8, by omega⟩ : Fin 8) (⟨r.val % 256, by omega⟩ : Fin 256) l
  if s.val / 8 = 3 then tile0 m c t y else if s.val / 8 = 6 then tile1 m c t y else if s.val / 8 = 7 then tile2 m c t y
  else if s.val / 8 = 8 then tile3 m c t y else (show S72x4096x128.Idx → Elt F .bf16 from V m c main_v13_5) (ix3 s r l)
def dpb (c : Dev nD) : Buf (Elt F) ((c : Thread nD τ).loc main_v13_5) :=
  fun (i : S72x4096x128.Idx) => dpbAt m c (i 0) (i 1) (i 2)

/-- A piece holding its tile agrees with that array; -/
theorem dpb_piece (c : Dev nD) (i : Fin 16 × Fin 4) (f : HbBuf0 (F := F) c (wpiece i.1 i.2))
    (h : (wpiece i.1 i.2).view.read (Elt F) f = tileV m c (ptN i.1) i.2) :
    ∀ j ∈ wpieceSet i, (show S72x4096x128.Idx → Elt F .bf16 from f) j = dpbAt m c (j 0) (j 1) (j 2) := by
  intro j hj
  obtain ⟨x, rfl⟩ := LoadRect.exists_idx_of_mem (Rect.unit (s := S72x4096x128) (wpieceOff i) S8x256x128.size (inb_wpiece' i)).toLoadRect hj
  obtain ⟨u, k⟩ := i
  have h0 : (x (0 : Fin 3)).val < 8 := (x (0 : Fin 3)).isLt
  have h1 : (x (1 : Fin 3)).val < 256 := (x (1 : Fin 3)).isLt
  refine (congrFun h x).trans ?_
  have e0 : ((Rect.unit (s := S72x4096x128) (wpieceOff (u, k)) S8x256x128.size (inb_wpiece' (u, k))).toLoadRect.idx x 0).val = slab k + (x (0 : Fin 3)).val := by
    rw [LoadRect.idx_apply]; simp [Rect.unit, wpieceOff]
  have e1 : ((Rect.unit (s := S72x4096x128) (wpieceOff (u, k)) S8x256x128.size (inb_wpiece' (u, k))).toLoadRect.idx x 1).val = 256 * u.val + (x (1 : Fin 3)).val := by
    rw [LoadRect.idx_apply]; simp [Rect.unit, wpieceOff]
  have e2 : (Rect.unit (s := S72x4096x128) (wpieceOff (u, k)) S8x256x128.size (inb_wpiece' (u, k))).toLoadRect.idx x 2 = (x (2 : Fin 3)) := by
    apply Fin.ext; rw [LoadRect.idx_apply]; simp [Rect.unit, wpieceOff]
  generalize (Rect.unit (s := S72x4096x128) (wpieceOff (u, k)) S8x256x128.size (inb_wpiece' (u, k))).toLoadRect.idx x = z at e0 e1 e2
  unfold dpbAt
  have ht : (⟨(z 1).val / 256, by have : (z 1).val < 4096 := (z 1).isLt; omega⟩ : Fin 16) = u := Fin.ext (by dsimp only; omega)
  have hy : (ix3 (⟨(z 0).val % 8, by omega⟩ : Fin 8) (⟨(z 1).val % 256, by omega⟩ : Fin 256) (z 2) : S8x256x128.Idx) = x := by
    rw [eq_ix3 x]
    have : slab k % 8 = 0 := by have := slab_ix k; omega
    congr 1
    · apply Fin.ext; dsimp only; omega
    · apply Fin.ext; dsimp only; omega
  dsimp only
  rw [ht, hy]
  match k, e0 with
  | 0, e0 => rw [if_pos (by simp [slab] at e0; omega)]; rfl
  | 1, e0 => rw [if_neg (by simp [slab] at e0; omega), if_pos (by simp [slab] at e0; omega)]; rfl
  | 2, e0 => rw [if_neg (by simp [slab] at e0; omega), if_neg (by simp [slab] at e0; omega), if_pos (by simp [slab] at e0; omega)]; rfl
  | 3, e0 => rw [if_neg (by simp [slab] at e0; omega), if_neg (by simp [slab] at e0; omega), if_neg (by simp [slab] at e0; omega), if_pos (by simp [slab] at e0; omega)]; rfl

/-- and outside every piece the array is what the region finds. -/
theorem dpb_rest (c : Dev nD) : ∀ j ∈ Finset.univ \ Finset.univ.biUnion wpieceSet,
    (show S72x4096x128.Idx → Elt F .bf16 from V m c main_v13_5) j = dpbAt m c (j 0) (j 1) (j 2) := by
  intro j hj
  have hn : ∀ i : Fin 16 × Fin 4, j ∉ wpieceSet i := fun i hi =>
    (Finset.mem_sdiff.mp hj).2 (Finset.mem_biUnion.mpr ⟨i, Finset.mem_univ _, hi⟩)
  have h0 : (j 0).val < 72 := (j 0).isLt
  have h1 : (j 1).val < 4096 := (j 1).isLt
  have key : ∀ k : Fin 4, (j 0).val / 8 ≠ slab k / 8 := fun k hk => hn (⟨(j 1).val / 256, by omega⟩, k) (by
    have := slab_ix k
    refine Rect.mem_set_unit.mpr ?_
    intro a
    match a with
    | 0 => exact ⟨(by show slab k ≤ (j 0).val; omega), (by show (j 0).val < slab k + 8; omega)⟩
    | 1 => exact ⟨(by show 256 * ((j 1).val / 256) ≤ (j 1).val; omega), (by show (j 1).val < 256 * ((j 1).val / 256) + 256; omega)⟩
    | 2 => exact ⟨Nat.zero_le _, (by show (j 2).val < 0 + 128; have : (j 2).val < 128 := (j 2).isLt; omega)⟩)
  have k0 := key 0; have k1 := key 1; have k2 := key 2; have k3 := key 3
  simp [slab] at k0 k1 k2 k3
  unfold dpbAt
  dsimp only
  rw [if_neg k0, if_neg k1, if_neg k2, if_neg k3]
  exact congrArg _ (eq_ix3 j)

theorem fam_mono {I : Type} {s : Finset I} {Φ Ψ : I → sProp 𝕄} (h : ∀ i ∈ s, Φ i ⊢ Ψ i) : bigSep s Φ ⊢ bigSep s Ψ := BI.bigSep_mono h

/-- Into the ring: the scratch whole, the cells at zero and the result as the region finds it; -/
theorem wringV_in (c : Dev nD) :
    iprop((∃ d, owns (c : Thread nD τ) scM0_3 fullShare d) ∗ (semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ (((c : Thread nD τ).loc main_v13_5) ↦{fullShare} V m c main_v13_5))
      ⊢ iprop(wringV m c 0 ∗ wtileSpare c ∗ wrest m c) := by
  unfold wringV; rw [Ring.AtBΦ_lt _ _ _ _ _ 0 (by decide), Ring.AtB_zero]; unfold Ring.AtB₀
  rw [← whomes_eq, ← wfrees_eq, wcells_eq]
  iintro ⟨HS, HQ, HD⟩
  ihave HS' := (wtiles_in (F := F) c) $$ HS
  icases HS' with ⟨HT, HTsp⟩
  ihave HD' := (pointsTo_split_subset (q := fullShare) (f := V m c main_v13_5) (Finset.subset_univ (Finset.univ.biUnion wpieceSet))).1 $$ HD
  icases HD' with ⟨HD1, HPsp⟩
  ihave HP := (Entails.of_eq (pointsTo_biUnion (q := fullShare) (f := V m c main_v13_5) Finset.univ wpieceSet (fun i _ i' _ h => wpieces_disjoint i i' h))) $$ HD1
  isplitl [HP HQ HT]
  · isplitl [HP]
    · iapply (fam_mono (s := Finset.univ) fun (i : Fin 16 × Fin 4) _ =>
        (show (((c : Thread nD τ).loc main_v13_5) ↦[wpieceSet i]{fullShare} V m c main_v13_5 : sProp 𝕄) ⊢ iprop(∃ f, wpieceP (F := F) c i.1 i.2 f) from by
          iintro H; iexists (V m c main_v13_5); iapply (Entails.of_eq (wpieceP_eq c i.1 i.2 (V m c main_v13_5)).symm); iexact H))
      iexact HP
    isplitl [HQ]
    · iexact HQ
    iexact HT
  isplitl [HTsp]
  · iexact HTsp
  iexact HPsp

/-- out of it: the same, and the result's array named. -/
theorem wringV_out (c : Dev nD) :
    iprop(wringV m c 16 ∗ wtileSpare c ∗ wrest m c)
      ⊢ iprop((∃ d, owns (c : Thread nD τ) scM0_3 fullShare d) ∗ (semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ (((c : Thread nD τ).loc main_v13_5) ↦{fullShare} dpb m c)) := by
  unfold wringV; rw [Ring.AtBΦ_ge _ _ _ _ _ 16 (by decide)]; unfold Ring.AtBEnd
  rw [← whomesV_eq, ← wfrees_eq, wcells_eq]
  iintro ⟨⟨HP, HQ, HT⟩, HTsp, HPsp⟩
  isplitl [HT HTsp]
  · iapply (wtiles_out (F := F) c)
    isplitl [HT]
    · iexact HT
    iexact HTsp
  isplitl [HQ]
  · iexact HQ
  iapply (pointsTo_split_subset (q := fullShare) (f := dpb m c) (Finset.subset_univ (Finset.univ.biUnion wpieceSet))).2
  isplitl [HP]
  · iapply (Entails.of_eq (pointsTo_biUnion (q := fullShare) (f := dpb m c) Finset.univ wpieceSet (fun i _ i' _ h => wpieces_disjoint i i' h)).symm)
    iapply (fam_mono (s := Finset.univ) fun (i : Fin 16 × Fin 4) _ =>
      (show wpieceV c i.1 i.2 (tileV m c (ptN i.1) i.2) ⊢ (((c : Thread nD τ).loc main_v13_5) ↦[wpieceSet i]{fullShare} dpb m c : sProp 𝕄) from by
        unfold wpieceV
        iintro ⟨%f, %hf, H⟩
        ihave H' := (Entails.of_eq (wpieceP_eq (F := F) c i.1 i.2 f)) $$ H
        iapply (Entails.of_eq (pointsTo_congr (ℓ := (c : Thread nD τ).loc main_v13_5) (q := fullShare) (dpb_piece m c i f hf)))
        iexact H'))
    iexact HP
  iapply (Entails.of_eq (pointsTo_congr (ℓ := (c : Thread nD τ).loc main_v13_5) (q := fullShare) (dpb_rest m c)))
  iexact HPsp

end Cert.MidIdeal.Hand

end
-- ==== Proof.MidFrame.lean ====
/- The frame of the middle call: what every point owns, the launch, and the arrays after the last point. -/
module

public import proofs.«01_k».proof.Proof.MidRingV

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Handing a point's stores back -/

theorem own13 (c : Dev nD) (t : Fin cfg0.N) (L : List (View.Piece (Elt F) S256x1024 .f32)) (hL : L = (runA m c t).1) :
    iprop(∃ f, (ms0_13 t).view.loc (c : Thread nD τ) ↦[(ms0_13 t).view.set]{fullShare} (ms0_13 t).view.writes (Elt F) f L)
      ⊢ (owns (c : Thread nD τ) (ms0_13 t) fullShare (blk13 m c t) : sProp 𝕄) := by
  subst hL
  unfold owns blk13
  iintro ⟨%f, H⟩
  iexists _; isplitr; swap
  · iexact H
  ipureintro; exact View.read_writes_of_cover _ _ _ _ _ (cover_13 m c t)
theorem own14 (c : Dev nD) (t : Fin cfg0.N) (L : List (View.Piece (Elt F) S8x256x128 .bf16)) (hL : L = (runA m c t).2.1) :
    iprop(∃ f, (ms0_14 t).view.loc (c : Thread nD τ) ↦[(ms0_14 t).view.set]{fullShare} (ms0_14 t).view.writes (Elt F) f L)
      ⊢ (owns (c : Thread nD τ) (ms0_14 t) fullShare (blk14 m c t) : sProp 𝕄) := by
  subst hL
  unfold owns blk14
  iintro ⟨%f, H⟩
  iexists _; isplitr; swap
  · iexact H
  ipureintro; exact View.read_writes_of_cover _ _ _ _ _ (cover_14 m c t)
theorem own15 (c : Dev nD) (t : Fin cfg0.N) (L : List (View.Piece (Elt F) S8x256x128 .bf16)) (hL : L = (runA m c t).2.2.1) :
    iprop(∃ f, (ms0_15 t).view.loc (c : Thread nD τ) ↦[(ms0_15 t).view.set]{fullShare} (ms0_15 t).view.writes (Elt F) f L)
      ⊢ (owns (c : Thread nD τ) (ms0_15 t) fullShare (blk15 m c t) : sProp 𝕄) := by
  subst hL
  unfold owns blk15
  iintro ⟨%f, H⟩
  iexists _; isplitr; swap
  · iexact H
  ipureintro; exact View.read_writes_of_cover _ _ _ _ _ (cover_15 m c t)
theorem own16_start (c : Dev nD) (t : Fin cfg0.N) :
    iprop(∃ f, (ms0_16 t).view.loc (c : Thread nD τ) ↦[(ms0_16 t).view.set]{fullShare} (ms0_16 t).view.writes (Elt F) f (runA m c t).2.2.2.1)
      ⊢ (owns (c : Thread nD τ) (ms0_16 t) fullShare (start m c t).1 : sProp 𝕄) := by
  unfold owns start
  iintro ⟨%f, H⟩
  iexists _; isplitr; swap
  · iexact H
  ipureintro; exact View.read_writes_of_cover _ _ _ _ _ (cover_16 m c t)
theorem own16_carry (c : Dev nD) (t : Fin cfg0.N) (x : Vec F S1024x1024 .f32 × Vec F S8x1024 .f32) (L : List (View.Piece (Elt F) S1024x1024 .f32))
    (hL : L = (runB m c t x.1 x.2).2.2.2.1) :
    iprop((ms0_16 t).view.loc (c : Thread nD τ) ↦[(ms0_16 t).view.set]{fullShare} (ms0_16 t).view.writes (Elt F) ((hs0_16 t).unread x.1) L)
      ⊢ (owns (c : Thread nD τ) (ms0_16 t) fullShare (carry m c t x).1 : sProp 𝕄) := by
  subst hL
  unfold owns carry
  iintro H
  iexists _; isplitr; swap
  · iexact H
  ipureintro; rfl
theorem own17_start (c : Dev nD) (t : Fin cfg0.N) :
    iprop(∃ f, (ms0_17 t).view.loc (c : Thread nD τ) ↦[(ms0_17 t).view.set]{fullShare} (ms0_17 t).view.writes (Elt F) f (runA m c t).2.2.2.2.2.2.2.2.1)
      ⊢ (owns (c : Thread nD τ) (ms0_17 t) fullShare (start m c t).2 : sProp 𝕄) := by
  unfold owns start
  iintro ⟨%f, H⟩
  iexists _; isplitr; swap
  · iexact H
  ipureintro; exact View.read_writes_of_cover _ _ _ _ _ (cover_17 m c t)
theorem own17_carry (c : Dev nD) (t : Fin cfg0.N) (x : Vec F S1024x1024 .f32 × Vec F S8x1024 .f32) (L : List (View.Piece (Elt F) S8x1024 .f32))
    (hL : L = (runB m c t x.1 x.2).2.2.2.2.2.2.2.2.1) :
    iprop((ms0_17 t).view.loc (c : Thread nD τ) ↦[(ms0_17 t).view.set]{fullShare} (ms0_17 t).view.writes (Elt F) ((hs0_17 t).unread x.2) L)
      ⊢ (owns (c : Thread nD τ) (ms0_17 t) fullShare (carry m c t x).2 : sProp 𝕄) := by
  subst hL
  unfold owns carry
  iintro H
  iexists _; isplitr; swap
  · iexact H
  ipureintro; rfl
theorem flight0 (c : Dev nD) (t : Fin cfg0.N) (T : HbBuf0 (F := F) c (wtile (Ring.sl 2 t.val) 0) → Vec F S8x256x128 .bf16) (hT : T = (runA m c t).2.2.2.2.1) :
    iprop(∃ e, wflightV c (Ring.sl 2 t.val) 0 (Ring.bk 16 t.val) (T e)) ⊢ (wflightV c (Ring.sl 2 t.val) 0 (Ring.bk 16 t.val) (tile0 m c (ptN (Ring.bk 16 t.val))) : sProp 𝕄) := by
  rw [ptN_bk]
  exact exists_elim fun e => Entails.of_eq (congrArg (wflightV c (Ring.sl 2 t.val) 0 (Ring.bk 16 t.val)) ((congrFun hT e).trans (tile0_eq m c t e)))
theorem home0 (c : Dev nD) (t : Fin cfg0.N) (T : HbBuf0 (F := F) c (wtile (Ring.sl 2 t.val) 0) → Vec F S8x256x128 .bf16) (hT : T = (runA m c t).2.2.2.2.1) :
    iprop(∃ e, wpieceV c (Ring.bk 16 t.val) 0 (T e)) ⊢ (wpieceV c (Ring.bk 16 t.val) 0 (tile0 m c (ptN (Ring.bk 16 t.val))) : sProp 𝕄) := by
  rw [ptN_bk]
  exact exists_elim fun e => Entails.of_eq (congrArg (wpieceV c (Ring.bk 16 t.val) 0) ((congrFun hT e).trans (tile0_eq m c t e)))
theorem flight1 (c : Dev nD) (t : Fin cfg0.N) (T : HbBuf0 (F := F) c (wtile (Ring.sl 2 t.val) 1) → Vec F S8x256x128 .bf16) (hT : T = (runA m c t).2.2.2.2.2.1) :
    iprop(∃ e, wflightV c (Ring.sl 2 t.val) 1 (Ring.bk 16 t.val) (T e)) ⊢ (wflightV c (Ring.sl 2 t.val) 1 (Ring.bk 16 t.val) (tile1 m c (ptN (Ring.bk 16 t.val))) : sProp 𝕄) := by
  rw [ptN_bk]
  exact exists_elim fun e => Entails.of_eq (congrArg (wflightV c (Ring.sl 2 t.val) 1 (Ring.bk 16 t.val)) ((congrFun hT e).trans (tile1_eq m c t e)))
theorem home1 (c : Dev nD) (t : Fin cfg0.N) (T : HbBuf0 (F := F) c (wtile (Ring.sl 2 t.val) 1) → Vec F S8x256x128 .bf16) (hT : T = (runA m c t).2.2.2.2.2.1) :
    iprop(∃ e, wpieceV c (Ring.bk 16 t.val) 1 (T e)) ⊢ (wpieceV c (Ring.bk 16 t.val) 1 (tile1 m c (ptN (Ring.bk 16 t.val))) : sProp 𝕄) := by
  rw [ptN_bk]
  exact exists_elim fun e => Entails.of_eq (congrArg (wpieceV c (Ring.bk 16 t.val) 1) ((congrFun hT e).trans (tile1_eq m c t e)))
theorem flight2 (c : Dev nD) (t : Fin cfg0.N) (T : HbBuf0 (F := F) c (wtile (Ring.sl 2 t.val) 2) → Vec F S8x256x128 .bf16) (hT : T = (runA m c t).2.2.2.2.2.2.1) :
    iprop(∃ e, wflightV c (Ring.sl 2 t.val) 2 (Ring.bk 16 t.val) (T e)) ⊢ (wflightV c (Ring.sl 2 t.val) 2 (Ring.bk 16 t.val) (tile2 m c (ptN (Ring.bk 16 t.val))) : sProp 𝕄) := by
  rw [ptN_bk]
  exact exists_elim fun e => Entails.of_eq (congrArg (wflightV c (Ring.sl 2 t.val) 2 (Ring.bk 16 t.val)) ((congrFun hT e).trans (tile2_eq m c t e)))
theorem home2 (c : Dev nD) (t : Fin cfg0.N) (T : HbBuf0 (F := F) c (wtile (Ring.sl 2 t.val) 2) → Vec F S8x256x128 .bf16) (hT : T = (runA m c t).2.2.2.2.2.2.1) :
    iprop(∃ e, wpieceV c (Ring.bk 16 t.val) 2 (T e)) ⊢ (wpieceV c (Ring.bk 16 t.val) 2 (tile2 m c (ptN (Ring.bk 16 t.val))) : sProp 𝕄) := by
  rw [ptN_bk]
  exact exists_elim fun e => Entails.of_eq (congrArg (wpieceV c (Ring.bk 16 t.val) 2) ((congrFun hT e).trans (tile2_eq m c t e)))
theorem flight3 (c : Dev nD) (t : Fin cfg0.N) (T : HbBuf0 (F := F) c (wtile (Ring.sl 2 t.val) 3) → Vec F S8x256x128 .bf16) (hT : T = (runA m c t).2.2.2.2.2.2.2.1) :
    iprop(∃ e, wflightV c (Ring.sl 2 t.val) 3 (Ring.bk 16 t.val) (T e)) ⊢ (wflightV c (Ring.sl 2 t.val) 3 (Ring.bk 16 t.val) (tile3 m c (ptN (Ring.bk 16 t.val))) : sProp 𝕄) := by
  rw [ptN_bk]
  exact exists_elim fun e => Entails.of_eq (congrArg (wflightV c (Ring.sl 2 t.val) 3 (Ring.bk 16 t.val)) ((congrFun hT e).trans (tile3_eq m c t e)))
theorem home3 (c : Dev nD) (t : Fin cfg0.N) (T : HbBuf0 (F := F) c (wtile (Ring.sl 2 t.val) 3) → Vec F S8x256x128 .bf16) (hT : T = (runA m c t).2.2.2.2.2.2.2.1) :
    iprop(∃ e, wpieceV c (Ring.bk 16 t.val) 3 (T e)) ⊢ (wpieceV c (Ring.bk 16 t.val) 3 (tile3 m c (ptN (Ring.bk 16 t.val))) : sProp 𝕄) := by
  rw [ptN_bk]
  exact exists_elim fun e => Entails.of_eq (congrArg (wpieceV c (Ring.bk 16 t.val) 3) ((congrFun hT e).trans (tile3_eq m c t e)))

/-! ## The pipeline's data -/

/-- What every point starts and ends with beside the windows: the scratch, the generator register, the ring. -/
def PhiR (c : Dev nD) (k : ℕ) : sProp 𝕄 := iprop((∃ d, owns (c : Thread nD τ) scM0_0 fullShare d) ∗ (∃ d, owns (c : Thread nD τ) scM0_1 fullShare d) ∗ (∃ d, owns (c : Thread nD τ) scM0_2 fullShare d) ∗ (∃ r, prngReg c r) ∗ (wringV m c k ∗ wtileSpare c ∗ wrest m c))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => blk13 m c t
    | ⟨14, _⟩ => blk14 m c t
    | ⟨15, _⟩ => blk15 m c t
    | ⟨16, _⟩ => (sums m c t.val t.isLt).1
    | ⟨17, _⟩ => (sums m c t.val t.isLt).2
    | ⟨_ + 18, h⟩ => absurd h (Nat.not_lt.2 (Nat.le_add_left _ _))
  Φ t := PhiR m c t.val
  q w := Pipeline.shareOf spec0 w
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = blk13 m c t := by dsimp only [dats]
theorem after0_14 (c : Dev nD) (t : Fin cfg0.N) : (dats m 0 c).after 14 t = blk14 m c t := by dsimp only [dats]
theorem after0_15 (c : Dev nD) (t : Fin cfg0.N) : (dats m 0 c).after 15 t = blk15 m c t := by dsimp only [dats]
theorem after0_16 (c : Dev nD) (t : Fin cfg0.N) : (dats m 0 c).after 16 t = (sums m c t.val t.isLt).1 := by dsimp only [dats]
theorem after0_17 (c : Dev nD) (t : Fin cfg0.N) : (dats m 0 c).after 17 t = (sums m c t.val t.isLt).2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem live0_16 : ∀ i : grid0.Coords, idle0 16 i = false := by decide +kernel
theorem live16 : ∀ i : cfg0.grid.Coords, cfg0.idle 16 i = false := fun i => live0_16 i
theorem before0_16 (c : Dev nD) (t : Fin cfg0.N) (h : t.val ≠ 0) (d) : (dats m 0 c).before 16 t d = (sums m c (t.val - 1) (Nat.lt_of_le_of_lt (Nat.sub_le _ _) t.isLt)).1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    live16 (fun _ _ => rfl)]
  dsimp only [dats]
theorem before0_17 (c : Dev nD) (t : Fin cfg0.N) (h : t.val ≠ 0) (d) : (dats m 0 c).before 17 t d = (sums m c (t.val - 1) (Nat.lt_of_le_of_lt (Nat.sub_le _ _) t.isLt)).2 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 8000000 in
/-- At the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hgN : grid0.N = 16 := N_0
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12]
  rw [after0_0, after0_1, after0_2, after0_3, after0_4, after0_5, after0_6, after0_7, after0_8, after0_9, after0_10, after0_11, after0_12, after0_13, after0_14, after0_15, after0_16, after0_17, PhiR_castSucc m c t, PhiR_succ m c t]
  unfold Dat.owesAt Pipeline.owesWithin
  rw [show (dats m 0 c).owed t.castSucc = 0 from rfl, show (dats m 0 c).owed t.succ = 0 from rfl]
  rw [sums_zero m c t h]
  unfold PhiR wringV
  rw [Ring.AtBΦ_lt _ _ _ _ _ t.val (by omega), Ring.AtB2_zero' _ _ _ _ _ t.val h, Ring.AtBΦ_lt _ _ _ _ _ (t.val + 1) (by omega), Ring.AtB22_next_zero' _ _ _ _ t.val h]
  iintro ⟨⟨HS0, HS1, HS2, Hg, ⟨⟨⟨⟨Hp0, Hp1, Hp2, Hp3⟩, HA⟩, ⟨⟨Hq0, Ht0⟩, ⟨Hq1, Ht1⟩, ⟨Hq2, Ht2⟩, ⟨Hq3, Ht3⟩⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runA m c t).2.2.2.2.2.2.2.2.2 ((hcd1 t).mpr h) (fun e => (hcd2 t).mp e h) (fun e => by have := (hcd3 t).mp e; omega) ((hcd4 t).mpr h) (fun e => by have := (hcd5 t).mp e; omega) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [Hp0]; · iexact Hp0
  isplitl [Hp1]; · iexact Hp1
  isplitl [Hp2]; · iexact Hp2
  isplitl [Hp3]; · iexact Hp3
  isplitl [Hq0]; · iexact Hq0
  isplitl [Ht0]; · iexact Ht0
  isplitl [Hq1]; · iexact Hq1
  isplitl [Ht1]; · iexact Ht1
  isplitl [Hq2]; · iexact Hq2
  isplitl [Ht2]; · iexact Ht2
  isplitl [Hq3]; · iexact Hq3
  isplitl [Ht3]; · iexact Ht3
  isplitl [HW]; · iexact HW
  iintro ⟨H0, H1, H2, H3, H4, H5, H6, H7, H8, H9, H10, H11, H12, H13, H14, H15, H16, H17, HS0, HS1, HS2, HN0, HN1, HN2, HN3, ⟨%W', HW'⟩⟩
  isplitl [HS0 HS1 HS2 Hg HA Hcar HN0 HN1 HN2 HN3 HTsp HPsp]
  · isplitl [HS0]; · iexact HS0
    isplitl [HS1]; · iexact HS1
    isplitl [HS2]; · iexact HS2
    isplitl [Hg]; · iexact Hg
    isplitl [HA Hcar HN0 HN1 HN2 HN3]
    · isplitl [HA]; · iexact HA
      isplitl [Hcar]; · iexact Hcar
      isplitl [HN0]; · iapply (flight0 m c t _ rfl); iexact HN0
      isplitl [HN1]; · iapply (flight1 m c t _ rfl); iexact HN1
      isplitl [HN2]; · iapply (flight2 m c t _ rfl); iexact HN2
      iapply (flight3 m c t _ rfl); iexact HN3
    isplitl [HTsp]; · iexact HTsp
    iexact HPsp
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (own13 m c t _ rfl); iexact H13
  isplitl [H14]; · iapply (own14 m c t _ rfl); iexact H14
  isplitl [H15]; · iapply (own15 m c t _ rfl); iexact H15
  isplitl [H16]; · iapply (own16_start m c t); iexact H16
  iapply (own17_start m c t); iexact H17

set_option maxHeartbeats 8000000 in
/-- At the second. -/
theorem sound_B (c : Dev nD) (t : Fin cfg0.N) (h : t.val = 1) :
    bodyPre m c t ⊢ wp frame (wpE (defs₀ (F := F)) Variants.none c none) Set.univ (bodyAt0 t) (fun _ => bodyPost m c t) := by
  have hgN : grid0.N = 16 := N_0
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12, before0_16 m c t (by omega), before0_17 m c t (by omega)]
  rw [after0_0, after0_1, after0_2, after0_3, after0_4, after0_5, after0_6, after0_7, after0_8, after0_9, after0_10, after0_11, after0_12, after0_13, after0_14, after0_15, after0_16, after0_17, PhiR_castSucc m c t, PhiR_succ m c t]
  unfold Dat.owesAt Pipeline.owesWithin
  rw [show (dats m 0 c).owed t.castSucc = 0 from rfl, show (dats m 0 c).owed t.succ = 0 from rfl]
  rw [sums_succ m c t (by omega)]
  unfold PhiR wringV
  rw [Ring.AtBΦ_lt _ _ _ _ _ t.val (by omega), Ring.AtB22_one' _ _ _ _ t.val h (by decide), Ring.AtBΦ_lt _ _ _ _ _ (t.val + 1) (by omega), Ring.AtB22_next_one' _ _ _ _ t.val h]
  iintro ⟨⟨HS0, HS1, HS2, Hg, ⟨⟨⟨⟨Hp0, Hp1, Hp2, Hp3⟩, HA⟩, ⟨⟨Hq0, Ht0⟩, ⟨Hq1, Ht1⟩, ⟨Hq2, Ht2⟩, ⟨Hq3, Ht3⟩⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runB m c t (sums m c (t.val - 1) (Nat.lt_of_le_of_lt (Nat.sub_le _ _) t.isLt)).1 (sums m c (t.val - 1) (Nat.lt_of_le_of_lt (Nat.sub_le _ _) t.isLt)).2).2.2.2.2.2.2.2.2.2 (fun e => by have := (hcd1 t).mp e; omega) ((hcd2 t).mpr (by omega)) (fun e => by have := (hcd3 t).mp e; omega) (fun e => by have := (hcd4 t).mp e; omega) (fun e => by have := (hcd5 t).mp e; omega) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [HS0]; · iexact HS0
  isplitl [HS1]; · iexact HS1
  isplitl [HS2]; · iexact HS2
  isplitl [Hp0]; · iexact Hp0
  isplitl [Hp1]; · iexact Hp1
  isplitl [Hp2]; · iexact Hp2
  isplitl [Hp3]; · iexact Hp3
  isplitl [Hq0]; · iexact Hq0
  isplitl [Ht0]; · iexact Ht0
  isplitl [Hq1]; · iexact Hq1
  isplitl [Ht1]; · iexact Ht1
  isplitl [Hq2]; · iexact Hq2
  isplitl [Ht2]; · iexact Ht2
  isplitl [Hq3]; · iexact Hq3
  isplitl [Ht3]; · iexact Ht3
  isplitl [HW]; · iexact HW
  iintro ⟨H0, H1, H2, H3, H4, H5, H6, H7, H8, H9, H10, H11, H12, H13, H14, H15, H16, H17, HS0, HS1, HS2, HN0, HN1, HN2, HN3, ⟨%W', HW'⟩⟩
  isplitl [HS0 HS1 HS2 Hg HA Hcar HN0 HN1 HN2 HN3 HTsp HPsp]
  · isplitl [HS0]; · iexact HS0
    isplitl [HS1]; · iexact HS1
    isplitl [HS2]; · iexact HS2
    isplitl [Hg]; · iexact Hg
    isplitl [HA Hcar HN0 HN1 HN2 HN3]
    · isplitl [HA]; · iexact HA
      isplitl [Hcar]; · iexact Hcar
      isplitl [HN0]; · iapply (flight0 m c t _ (eqB_T0 m c t _ _)); iexact HN0
      isplitl [HN1]; · iapply (flight1 m c t _ (eqB_T1 m c t _ _)); iexact HN1
      isplitl [HN2]; · iapply (flight2 m c t _ (eqB_T2 m c t _ _)); iexact HN2
      iapply (flight3 m c t _ (eqB_T3 m c t _ _)); iexact HN3
    isplitl [HTsp]; · iexact HTsp
    iexact HPsp
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (own13 m c t _ (eqB_13 m c t _ _)); iexact H13
  isplitl [H14]; · iapply (own14 m c t _ (eqB_14 m c t _ _)); iexact H14
  isplitl [H15]; · iapply (own15 m c t _ (eqB_15 m c t _ _)); iexact H15
  isplitl [H16]; · iapply (own16_carry m c t (sums m c (t.val - 1) (Nat.lt_of_le_of_lt (Nat.sub_le _ _) t.isLt)) _ rfl); iexact H16
  iapply (own17_carry m c t (sums m c (t.val - 1) (Nat.lt_of_le_of_lt (Nat.sub_le _ _) t.isLt)) _ rfl); iexact H17

set_option maxHeartbeats 8000000 in
/-- At a middle point. -/
theorem sound_C (c : Dev nD) (t : Fin cfg0.N) (h2 : 2 ≤ t.val) (h : t.val + 1 < 16) :
    bodyPre m c t ⊢ wp frame (wpE (defs₀ (F := F)) Variants.none c none) Set.univ (bodyAt0 t) (fun _ => bodyPost m c t) := by
  have hgN : grid0.N = 16 := N_0
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12, before0_16 m c t (by omega), before0_17 m c t (by omega)]
  rw [after0_0, after0_1, after0_2, after0_3, after0_4, after0_5, after0_6, after0_7, after0_8, after0_9, after0_10, after0_11, after0_12, after0_13, after0_14, after0_15, after0_16, after0_17, PhiR_castSucc m c t, PhiR_succ m c t]
  unfold Dat.owesAt Pipeline.owesWithin
  rw [show (dats m 0 c).owed t.castSucc = 0 from rfl, show (dats m 0 c).owed t.succ = 0 from rfl]
  rw [sums_succ m c t (by omega)]
  unfold PhiR wringV
  rw [Ring.AtBΦ_lt _ _ _ _ _ t.val hN, Ring.AtB22_here _ _ _ _ t.val h2 hN, Ring.AtBΦ_lt _ _ _ _ _ (t.val + 1) h, Ring.AtB22_next _ _ _ _ t.val h2 hN]
  iintro ⟨⟨HS0, HS1, HS2, Hg, ⟨⟨⟨⟨Hp0, Hp1, Hp2, Hp3⟩, HA⟩, HB, ⟨HF0, HF1, HF2, HF3⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runC m c t (sums m c (t.val - 1) (Nat.lt_of_le_of_lt (Nat.sub_le _ _) t.isLt)).1 (sums m c (t.val - 1) (Nat.lt_of_le_of_lt (Nat.sub_le _ _) t.isLt)).2).2.2.2.2.2.2.2.2.2 (fun e => by have := (hcd1 t).mp e; omega) ((hcd2 t).mpr (by omega)) ((hcd3 t).mpr (by omega)) (fun e => by have := (hcd4 t).mp e; omega) (fun e => by have := (hcd5 t).mp e; omega) _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [HS0]; · iexact HS0
  isplitl [HS1]; · iexact HS1
  isplitl [HS2]; · iexact HS2
  isplitl [Hp0]; · iexact Hp0
  isplitl [Hp1]; · iexact Hp1
  isplitl [Hp2]; · iexact Hp2
  isplitl [Hp3]; · iexact Hp3
  isplitl [HF0]; · iexact HF0
  isplitl [HF1]; · iexact HF1
  isplitl [HF2]; · iexact HF2
  isplitl [HF3]; · iexact HF3
  isplitl [HW]; · iexact HW
  iintro ⟨H0, H1, H2, H3, H4, H5, H6, H7, H8, H9, H10, H11, H12, H13, H14, H15, H16, H17, HS0, HS1, HS2, HO0, HO1, HO2, HO3, HN0, HN1, HN2, HN3, ⟨%W', HW'⟩⟩
  isplitl [HS0 HS1 HS2 Hg HA HB Hcar HO0 HO1 HO2 HO3 HN0 HN1 HN2 HN3 HTsp HPsp]
  · isplitl [HS0]; · iexact HS0
    isplitl [HS1]; · iexact HS1
    isplitl [HS2]; · iexact HS2
    isplitl [Hg]; · iexact Hg
    isplitl [HA HB Hcar HO0 HO1 HO2 HO3 HN0 HN1 HN2 HN3]
    · isplitl [HA]; · iexact HA
      isplitl [HB HO0 HO1 HO2 HO3]
      · isplitl [HO0 HO1 HO2 HO3]
        · isplitl [HO0]; · iexact HO0
          isplitl [HO1]; · iexact HO1
          isplitl [HO2]; · iexact HO2
          iexact HO3
        iexact HB
      isplitl [Hcar]; · iexact Hcar
      isplitl [HN0]; · iapply (flight0 m c t _ (eqC_T0 m c t _ _)); iexact HN0
      isplitl [HN1]; · iapply (flight1 m c t _ (eqC_T1 m c t _ _)); iexact HN1
      isplitl [HN2]; · iapply (flight2 m c t _ (eqC_T2 m c t _ _)); iexact HN2
      iapply (flight3 m c t _ (eqC_T3 m c t _ _)); iexact HN3
    isplitl [HTsp]; · iexact HTsp
    iexact HPsp
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (own13 m c t _ (eqC_13 m c t _ _)); iexact H13
  isplitl [H14]; · iapply (own14 m c t _ (eqC_14 m c t _ _)); iexact H14
  isplitl [H15]; · iapply (own15 m c t _ (eqC_15 m c t _ _)); iexact H15
  isplitl [H16]; · iapply (own16_carry m c t (sums m c (t.val - 1) (Nat.lt_of_le_of_lt (Nat.sub_le _ _) t.isLt)) _ (eqC_16 m c t _ _)); iexact H16
  iapply (own17_carry m c t (sums m c (t.val - 1) (Nat.lt_of_le_of_lt (Nat.sub_le _ _) t.isLt)) _ (eqC_17 m c t _ _)); iexact H17

set_option maxHeartbeats 8000000 in
/-- At the last. -/
theorem sound_D (c : Dev nD) (t : Fin cfg0.N) (h : t.val + 1 = 16) :
    bodyPre m c t ⊢ wp frame (wpE (defs₀ (F := F)) Variants.none c none) Set.univ (bodyAt0 t) (fun _ => bodyPost m c t) := by
  have hgN : grid0.N = 16 := N_0
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12, before0_16 m c t (by omega), before0_17 m c t (by omega)]
  rw [after0_0, after0_1, after0_2, after0_3, after0_4, after0_5, after0_6, after0_7, after0_8, after0_9, after0_10, after0_11, after0_12, after0_13, after0_14, after0_15, after0_16, after0_17, PhiR_castSucc m c t, PhiR_succ m c t]
  unfold Dat.owesAt Pipeline.owesWithin
  rw [show (dats m 0 c).owed t.castSucc = 0 from rfl, show (dats m 0 c).owed t.succ = 0 from rfl]
  rw [sums_succ m c t (by omega)]
  unfold PhiR wringV
  rw [Ring.AtBΦ_lt _ _ _ _ _ t.val hN, Ring.AtB22_here_last _ _ _ _ t.val (by omega) h, Ring.AtBΦ_end _ _ _ _ _ (t.val + 1) h, Ring.AtB22_drained _ _ t.val (by omega) h]
  iintro ⟨⟨HS0, HS1, HS2, Hg, ⟨⟨⟨Hp0, Hp1, Hp2, Hp3⟩, HB, ⟨HF0, HF1, HF2, HF3⟩, ⟨HI0, HI1, HI2, HI3⟩⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runD m c t (sums m c (t.val - 1) (Nat.lt_of_le_of_lt (Nat.sub_le _ _) t.isLt)).1 (sums m c (t.val - 1) (Nat.lt_of_le_of_lt (Nat.sub_le _ _) t.isLt)).2).2.2.2.2.2.2.2.2.2 (fun e => by have := (hcd1 t).mp e; omega) ((hcd2 t).mpr (by omega)) ((hcd3 t).mpr (by omega)) (fun e => by have := (hcd4 t).mp e; omega) ((hcd5 t).mpr (by omega)) _ _ _ _ _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [HS0]; · iexact HS0
  isplitl [HS1]; · iexact HS1
  isplitl [HS2]; · iexact HS2
  isplitl [Hp0]; · iexact Hp0
  isplitl [Hp1]; · iexact Hp1
  isplitl [Hp2]; · iexact Hp2
  isplitl [Hp3]; · iexact Hp3
  isplitl [HF0]; · iexact HF0
  isplitl [HF1]; · iexact HF1
  isplitl [HF2]; · iexact HF2
  isplitl [HF3]; · iexact HF3
  isplitl [HI0]; · iexact HI0
  isplitl [HI1]; · iexact HI1
  isplitl [HI2]; · iexact HI2
  isplitl [HI3]; · iexact HI3
  isplitl [HW]; · iexact HW
  iintro ⟨H0, H1, H2, H3, H4, H5, H6, H7, H8, H9, H10, H11, H12, H13, H14, H15, H16, H17, HS0, HS1, HS2, HN0, HN1, HN2, HN3, HO0, HO1, HO2, HO3, HQ0, HQ1, HQ2, HQ3, Ha0, Hb0, Ha1, Hb1, Ha2, Hb2, Ha3, Hb3, Hc0, Hd0, Hc1, Hd1, Hc2, Hd2, Hc3, Hd3, ⟨%W', HW'⟩⟩
  isplitl [HS0 HS1 HS2 Hg HB HN0 HN1 HN2 HN3 HO0 HO1 HO2 HO3 HQ0 HQ1 HQ2 HQ3 Ha0 Hb0 Ha1 Hb1 Ha2 Hb2 Ha3 Hb3 Hc0 Hd0 Hc1 Hd1 Hc2 Hd2 Hc3 Hd3 HTsp HPsp]
  · isplitl [HS0]; · iexact HS0
    isplitl [HS1]; · iexact HS1
    isplitl [HS2]; · iexact HS2
    isplitl [Hg]; · iexact Hg
    isplitl [HB HN0 HN1 HN2 HN3 HO0 HO1 HO2 HO3 HQ0 HQ1 HQ2 HQ3 Ha0 Hb0 Ha1 Hb1 Ha2 Hb2 Ha3 Hb3 Hc0 Hd0 Hc1 Hd1 Hc2 Hd2 Hc3 Hd3]
    · isplitl [HB HN0 HN1 HN2 HN3 HO0 HO1 HO2 HO3 HQ0 HQ1 HQ2 HQ3]
      · isplitl [HN0 HN1 HN2 HN3]
        · isplitl [HN0]; · iapply (home0 m c t _ (eqD_T0 m c t _ _)); iexact HN0
          isplitl [HN1]; · iapply (home1 m c t _ (eqD_T1 m c t _ _)); iexact HN1
          isplitl [HN2]; · iapply (home2 m c t _ (eqD_T2 m c t _ _)); iexact HN2
          iapply (home3 m c t _ (eqD_T3 m c t _ _)); iexact HN3
        isplitl [HO0 HO1 HO2 HO3]
        · isplitl [HO0]; · iexact HO0
          isplitl [HO1]; · iexact HO1
          isplitl [HO2]; · iexact HO2
          iexact HO3
        isplitl [HQ0 HQ1 HQ2 HQ3]
        · isplitl [HQ0]; · iexact HQ0
          isplitl [HQ1]; · iexact HQ1
          isplitl [HQ2]; · iexact HQ2
          iexact HQ3
        iexact HB
      isplitl [Ha0 Hb0 Ha1 Hb1 Ha2 Hb2 Ha3 Hb3]
      · isplitl [Ha0 Hb0]
        · isplitl [Ha0]; · iexact Ha0
          iexact Hb0
        isplitl [Ha1 Hb1]
        · isplitl [Ha1]; · iexact Ha1
          iexact Hb1
        isplitl [Ha2 Hb2]
        · isplitl [Ha2]; · iexact Ha2
          iexact Hb2
        isplitl [Ha3]; · iexact Ha3
        iexact Hb3
      isplitl [Hc0 Hd0]
      · isplitl [Hc0]; · iexact Hc0
        iexact Hd0
      isplitl [Hc1 Hd1]
      · isplitl [Hc1]; · iexact Hc1
        iexact Hd1
      isplitl [Hc2 Hd2]
      · isplitl [Hc2]; · iexact Hc2
        iexact Hd2
      isplitl [Hc3]; · iexact Hc3
      iexact Hd3
    isplitl [HTsp]; · iexact HTsp
    iexact HPsp
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (own13 m c t _ (eqD_13 m c t _ _)); iexact H13
  isplitl [H14]; · iapply (own14 m c t _ (eqD_14 m c t _ _)); iexact H14
  isplitl [H15]; · iapply (own15 m c t _ (eqD_15 m c t _ _)); iexact H15
  isplitl [H16]; · iapply (own16_carry m c t (sums m c (t.val - 1) (Nat.lt_of_le_of_lt (Nat.sub_le _ _) t.isLt)) _ (eqD_16 m c t _ _)); iexact H16
  iapply (own17_carry m c t (sums m c (t.val - 1) (Nat.lt_of_le_of_lt (Nat.sub_le _ _) t.isLt)) _ (eqD_17 m c t _ _)); iexact H17

theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val = 0
  · exact sound_A m c t h0
  by_cases h1 : t.val = 1
  · exact sound_B m c t h1
  by_cases h2 : t.val + 1 < 16
  · exact sound_C m c t (by omega) h2
  exact sound_D m c t (by omega)

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row, live16 (cfg0.grid.coords t)]
  exact triple_restated (sound_body m c t) rfl .rfl fun _ => .rfl

/-- The arrays the launch leaves: the copied result at `dpb`. -/
def G (c : Dev nD) (b : Ref sig .tc) : Buf (Elt F) ((c : Thread nD τ).loc b) :=
  if h : b = main_v13_5 then h ▸ dpb m c else V m c b
theorem G_self (c : Dev nD) : G m c main_v13_5 = dpb m c := dif_pos rfl

theorem routed_eq (c : Dev nD) (X : (b : Ref sig .tc) → Buf (Elt F) ((c : Thread nD τ).loc b)) :
    (Pipeline.routed R0 c X : sProp 𝕄) = (((c : Thread nD τ).loc main_v13_5) ↦{fullShare} X main_v13_5) :=
  Pipeline.routed_singleton main_v13_5 c X
/-- What the launch hands the kernel and takes back, part by part. -/
theorem PhiDRG0_eq (c : Dev nD) (X : (c : Dev nD) → (b : Ref sig .tc) → Buf (Elt F) ((c : Thread nD τ).loc b)) :
    (Pipeline.ΦDRG osem0 spec0 H0 R0 (V m) X c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ emp ∗ (((c : Thread nD τ).loc main_v13_5) ↦{fullShare} X c main_v13_5)) := by
  rw [Pipeline.ΦDRG_eq, scopedRest0_eq, ownSems00_eq, hbmPts0_eq, routed_eq]; simp only [scM0_0, scM0_1, scM0_2, scM0_3, owns_whole]; try rfl

theorem hin (c : Dev nD) : Pipeline.ΦDRG osem0 spec0 H0 R0 (V m) (V m) c ⊢ (dats m 0 c).Φ 0 := by
  rw [PhiDRG0_eq, show (dats m 0 c).Φ 0 = PhiR m c 0 from rfl]
  unfold PhiR
  iintro ⟨⟨HS0, HS1, HS2, HRS⟩, Hg, HQ, -, Ho⟩
  isplitl [HS0]; · iexact HS0
  isplitl [HS1]; · iexact HS1
  isplitl [HS2]; · iexact HS2
  isplitl [Hg]; · iexact Hg
  iapply (wringV_in m c)
  isplitl [HRS]; · iexact HRS
  isplitl [HQ]; · iexact HQ
  iexact Ho
theorem hout (c : Dev nD) : (dats m 0 c).Φ (Fin.last cfg0.N) ⊢ Pipeline.ΦDRG osem0 spec0 H0 R0 (V m) (G m) c := by
  rw [PhiDRG0_eq, show (dats m 0 c).Φ (Fin.last cfg0.N) = PhiR m c grid0.N from rfl, G_self]
  unfold PhiR
  rw [show grid0.N = 16 by rw [N_0]]
  iintro ⟨HS0, HS1, HS2, Hg, HR⟩
  ihave HX := (wringV_out m c) $$ HR
  icases HX with ⟨HRS, HQ, Ho⟩
  isplitl [HS0 HS1 HS2 HRS]
  · isplitl [HS0]; · iexact HS0
    isplitl [HS1]; · iexact HS1
    isplitl [HS2]; · iexact HS2
    iexact HRS
  isplitl [Hg]; · iexact Hg
  isplitl [HQ]; · iexact HQ
  isplitr; · iempintro
  iexact Ho

/-! ## The run -/

set_option backward.isDefEq.respectTransparency.types false in
/-- Every array of the pipeline ends at what the data say, the copied result at `dpb`, every semaphore at zero. -/
theorem run_arrays : θ_run defs (onTc (τ := τ) (main (F := F))) (s₀ m ρ) (fun r => (Pipeline.FramePostRG cfgs (dats m) 0 R0 (V m) (G m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := G m)
    (hin := hin m) (hout := hout m)

theorem run_main : θ_run defs (onTc (τ := τ) (main (F := F))) (s₀ m ρ) (Pipeline.FramePostR cfgs (dats m) 0 R0 (V m)) :=
  (θ_run defs _ _).mono (fun _ h => h.1.toR) (run_arrays m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_arrays m ρ))

end Cert.MidIdeal.Hand

end
-- ==== Proof.InpRef.lean ====
module

public import proofs.«01_k».proof.Proof.InpMath
public import proofs.«01_k».proof.Proof.Gen.InpRefIdeal.Run
public import Idealize.ShloMosaic.Lib.Tactic.CleanTypes

@[expose] public section

set_option maxRecDepth 16384
noncomputable section

namespace Cert.InpRefIdeal.Value

open Cert.InpRefIdeal Cert.InpRefIdeal.Gen Idealize.ShloMosaic Idealize.ShloMosaic.TcCoe Idealize.SL.Sem

variable (m : (ℓ : Loc nD τ sig) → Buf (Elt Ideal) ℓ)

/-- A sum over axes of which two have length one keeps the entry. -/
theorem sum_rows (v : FVec Ideal S1x4096x1 .f32) (z : EReal) (r : Fin 4096) :
    Ideal.hostReduceAdd reducesTo_S1x4096x1_S4096_d0_2 v z (ix1 r) = z + v (ix3 0 r 0) := by
  unfold Ideal.hostReduceAdd
  congr 1
  refine Finset.sum_eq_single_of_mem (ix3 (0 : Fin 1) r (0 : Fin 1)) ?_ ?_
  · rw [Finset.mem_filter]
    refine ⟨Finset.mem_univ _, funext fun k => Fin.ext ?_⟩
    rw [Shape.ReducesTo.drop_apply_val]
    match k with
    | ⟨0, _⟩ => rfl
  · intro i hi hne
    rw [Finset.mem_filter] at hi
    exfalso
    refine hne ?_
    have h1 := congrArg Fin.val (congrFun hi.2 0)
    rw [Shape.ReducesTo.drop_apply_val] at h1
    funext k
    match k with
    | ⟨0, _⟩ => exact Subsingleton.elim (α := Fin 1) _ _
    | ⟨1, _⟩ => exact Fin.ext h1
    | ⟨2, _⟩ => exact Subsingleton.elim (α := Fin 1) _ _

theorem sum_cols (v : FVec Ideal S1x1x1024 .f32) (z : EReal) (r : Fin 1024) :
    Ideal.hostReduceAdd reducesTo_S1x1x1024_S1024_d0_1 v z (ix1 r) = z + v (ix3 0 0 r) := by
  unfold Ideal.hostReduceAdd
  congr 1
  refine Finset.sum_eq_single_of_mem (ix3 (0 : Fin 1) (0 : Fin 1) r) ?_ ?_
  · rw [Finset.mem_filter]
    refine ⟨Finset.mem_univ _, funext fun k => Fin.ext ?_⟩
    rw [Shape.ReducesTo.drop_apply_val]
    match k with
    | ⟨0, _⟩ => rfl
  · intro i hi hne
    rw [Finset.mem_filter] at hi
    exfalso
    refine hne ?_
    have h1 := congrArg Fin.val (congrFun hi.2 0)
    rw [Shape.ReducesTo.drop_apply_val] at h1
    funext k
    match k with
    | ⟨0, _⟩ => exact Subsingleton.elim (α := Fin 1) _ _
    | ⟨1, _⟩ => exact Subsingleton.elim (α := Fin 1) _ _
    | ⟨2, _⟩ => exact Fin.ext h1

set_option maxHeartbeats 2000000 in
theorem ref_gx (c : Dev nD) (r : Fin 4096) (j : Fin 1024) :
    res_main_v61 m c (ix2 r j) = Cert.Hand.gx (m ((c : Thread nD τ).loc main_arg0)) (m ((c : Thread nD τ).loc main_arg1))
      (m ((c : Thread nD τ).loc main_arg2)) (m ((c : Thread nD τ).loc main_arg4)) (m ((c : Thread nD τ).loc main_arg5)) (m ((c : Thread nD τ).loc main_arg6)) r j := by
  unfold res_main_v61
  clean_types
  pointwise [sum_rows]
  exact Cert.Hand.gx_ref _ _ _ _ _ _ r j

abbrev ax (c : Dev nD) : FVec Ideal S1x4096x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev aw (c : Dev nD) : FVec Ideal S1024x9216 .f32 := m ((c : Thread nD τ).loc main_arg4)
abbrev ady (c : Dev nD) : FVec Ideal S1x4096x1024 .f32 := m ((c : Thread nD τ).loc main_arg5)
abbrev adp (c : Dev nD) : FVec Ideal S1x4096x9216 .f32 := m ((c : Thread nD τ).loc main_arg6)

set_option maxHeartbeats 2000000 in
/-- The reference's run with both results given entry by entry. -/
theorem run_entries (ρ : Dev nD → PrngReg) :
    θ_run defs (onTc (τ := τ) (main (F := Ideal))) ⟨m, fun _ => 0, ρ⟩ fun r => ∀ c : Dev nD,
      r.2.mem ((c.tc : Thread nD τ).loc main_v61) = (fun i => Cert.Hand.gx (ax m c) (ag m c) (asc m c) (aw m c) (ady m c) (adp m c) (i 0) (i 1))
      ∧ r.2.mem ((c.tc : Thread nD τ).loc main_v63) = (fun i => Cert.Hand.vec (ax m c) (ag m c) (asc m c) (aw m c) (adp m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans (funext fun i => ?_), (h c).2.1.trans (funext fun i => ?_), (h c).2.2⟩) (run m ρ)
  · obtain ⟨r, j, rfl⟩ : ∃ (r : Fin 4096) (j : Fin 1024), i = ix2 r j := ⟨i 0, i 1, by funext k; match k with | ⟨0, _⟩ => rfl | ⟨1, _⟩ => rfl⟩
    exact ref_gx m c r j
  · obtain ⟨a, b, rfl⟩ : ∃ (a : Fin 8) (b : Fin 1024), i = ix2 a b := ⟨i 0, i 1, by funext k; match k with | ⟨0, _⟩ => rfl | ⟨1, _⟩ => rfl⟩
    clean_types
    pointwise [sum_cols]
    exact Cert.Hand.vec_ref _ _ _ _ _ a b

end Cert.InpRefIdeal.Value
end
-- ==== Proof.MidHeads.lean ====
/- The body's passes over the eight heads and two sides, each as one family: what is stored for a head is one expression of the head's loads. -/
module

public import proofs.«01_k».proof.Proof.MidOuts

@[expose] public section

set_option maxRecDepth 16384

noncomputable section

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A head's rows lie in the rows of all heads; -/
theorem inb_head (h : Fin 8) : ∀ a : Fin 3, (![h.val, 0, 0] : Fin 3 → ℕ) a + S1x256x128.size a ≤ S8x256x128.size a
  | ⟨0, _⟩ => by have := h.isLt; show h.val + 1 ≤ 8; omega
  | ⟨1, _⟩ => by show 0 + 256 ≤ 256; omega
  | ⟨2, _⟩ => by show 0 + 128 ≤ 128; omega
/-- a head's columns in the columns of a wide row; -/
theorem inb_cols (h : Fin 8) : ∀ a : Fin 2, (![0, 128 * h.val] : Fin 2 → ℕ) a + S1x128.size a ≤ S1x1024.size a
  | ⟨0, _⟩ => by show 0 + 1 ≤ 1; omega
  | ⟨1, _⟩ => by have := h.isLt; show 128 * h.val + 128 ≤ 1024; omega
/-- and of the wide rows; -/
theorem inb_wide (h : Fin 8) : ∀ a : Fin 2, (![0, 128 * h.val] : Fin 2 → ℕ) a + S256x128.size a ≤ S256x1024.size a
  | ⟨0, _⟩ => by show 0 + 256 ≤ 256; omega
  | ⟨1, _⟩ => by have := h.isLt; show 128 * h.val + 128 ≤ 1024; omega
/-- what is kept of side `s`, head `h`, member `j`. -/
theorem inb_keep (s : Fin 2) (h : Fin 8) (j : Fin 4) : ∀ a : Fin 5, (![s.val, h.val, j.val, 0, 0] : Fin 5 → ℕ) a + S1x1x1x256x128.size a ≤ S2x8x4x256x128.size a
  | ⟨0, _⟩ => by have := s.isLt; show s.val + 1 ≤ 2; omega
  | ⟨1, _⟩ => by have := h.isLt; show h.val + 1 ≤ 8; omega
  | ⟨2, _⟩ => by have := j.isLt; show j.val + 1 ≤ 4; omega
  | ⟨3, _⟩ => by show 0 + 256 ≤ 256; omega
  | ⟨4, _⟩ => by show 0 + 128 ≤ 128; omega

/-- One of the five summed rows lies in the block of eight. -/
theorem inb_row (n : Fin 5) : ∀ a : Fin 2, (![n.val, 0] : Fin 2 → ℕ) a + S1x1024.size a ≤ S8x1024.size a
  | ⟨0, _⟩ => by have := n.isLt; show n.val + 1 ≤ 8; omega
  | ⟨1, _⟩ => by show 0 + 1024 ≤ 1024; omega

/-- What the body loads: the rows of the step's input and of the target, per side and head the attention's output and the columns of its two gates,
the projection's weight, the residual's gate and the last norm's weight, and per side and head the norm's weight. -/
structure Loads (F : FTy → Type) [FloatOps F] where
  x : Vec F S256x1024 .f32
  t : Vec F S256x1024 .f32
  o : Fin 2 → Fin 8 → Vec F S1x256x128 .f32
  z : Fin 2 → Fin 8 → Vec F S1x256x128 .f32
  q : Fin 2 → Fin 8 → Vec F S1x256x128 .f32
  w : Vec F S1024x1024 .bf16
  gate : Vec F S1x1024 .f32
  fg : Vec F S1x1024 .f32
  g : Fin 2 → Fin 8 → Vec F S1x128 .f32

section Pay

variable (B : Loads F) (v0 : View sig .tc .vmem S256x1024 .bf16) (v1 : View sig .tc .vmem S256x1024 .f32) (v2 : View sig .tc .vmem S2x8x4x256x128 .f32)
  (v8 : View sig .tc .vmem S8x1024 .f32)

/-! ## The first pass -/

/-- Kept by the first pass: the normed head, the two sigmoids, the norm's factor. -/
def keepPay (s : Fin 2) (h : Fin 8) : Fin 4 → FVec F S1x1x1x256x128 .f32
  | 0 => k0_pay7 (B.o s h)
  | 1 => k0_pay8 (k0_pay5 (B.z s h))
  | 2 => k0_pay9 (k0_pay6 (B.q s h))
  | 3 => k0_pay10 (k0_pay2 (B.o s h))
/-- The sixty-four stores of it, the last first. -/
def keepL : List (View.Piece (Elt F) S2x8x4x256x128 .f32) :=
  List.ofFn fun n : Fin 64 =>
    ⟨Rect.unit (s := S2x8x4x256x128) ![((63 - n.val) / 4) % 2, (63 - n.val) / 8, (63 - n.val) % 4, 0, 0] S1x1x1x256x128.size
        (inb_keep ⟨((63 - n.val) / 4) % 2, by omega⟩ ⟨(63 - n.val) / 8, by omega⟩ ⟨(63 - n.val) % 4, by omega⟩),
      keepPay B ⟨((63 - n.val) / 4) % 2, by omega⟩ ⟨(63 - n.val) / 8, by omega⟩ ⟨(63 - n.val) % 4, by omega⟩⟩
/-- The merged head, -/
def mixPay (h : Fin 8) : FVec F S256x128 .bf16 :=
  k0_pay23 (k0_pay11 (k0_pay3 (B.o 0 h)) (k0_pay4 (B.z 0 h)) (k0_pay5 (B.z 0 h)) (k0_pay6 (B.q 0 h)) (B.g 0 h))
    (k0_pay3 (B.o 1 h)) (k0_pay4 (B.z 1 h)) (k0_pay5 (B.z 1 h)) (k0_pay6 (B.q 1 h)) (B.g 1 h)
/-- its eight stores, -/
def mixL : List (View.Piece (Elt F) S256x1024 .bf16) :=
  List.ofFn fun n : Fin 8 => ⟨Rect.unit (s := S256x1024) ![0, 128 * (7 - n.val)] S256x128.size (inb_wide ⟨7 - n.val, by omega⟩), mixPay B ⟨7 - n.val, by omega⟩⟩
/-- and the merged rows read back. -/
def mixV : Vec F S256x1024 .bf16 := v0.readCov (mixL B) (Rect.unit (s := S256x1024) ![0, 0] S256x1024.size inb_S256x1024_S256x1024_0_0).toLoadRect

/-! ## The rows -/

/-- The projected rows, the residual's sum, its mean square, -/
def zvV : FVec F S256x1024 .f32 := k0_pay190 (mixV B v0) B.w
def yV : FVec F S256x1024 .f32 := k0_pay192 (mixV B v0) B.w B.gate B.x
def msV : FVec F S256x1 .f32 := k0_pay193 (mixV B v0) B.w B.gate B.x
/-- the loss of the block, the gradients of the last norm's output, of the sum, of the projection. -/
def lossV : FVec F S1x1 .f32 := k0_pay198 (k0_pay191 B.fg) (yV B v0) (msV B v0) k0_pay194 B.t
def doutV : FVec F S256x1024 .f32 := k0_pay199 (k0_pay191 B.fg) (yV B v0) (msV B v0) k0_pay194 B.t
def dyV : FVec F S256x1024 .f32 := k0_pay200 (k0_pay191 B.fg) (yV B v0) (msV B v0) k0_pay194 B.t
def dzV : FVec F S256x1024 .bf16 := k0_pay201 B.gate (k0_pay191 B.fg) (yV B v0) (msV B v0) k0_pay194 B.t
/-- The one store of the merged rows' gradient, and a head's columns of it read back. -/
def dmL : List (View.Piece (Elt F) S256x1024 .f32) :=
  [⟨Rect.unit (s := S256x1024) ![0, 0] S256x1024.size inb_S256x1024_S256x1024_0_0,
    k0_pay203 (k0_pay202 B.gate (k0_pay191 B.fg) (yV B v0) (msV B v0) k0_pay194 B.t B.w)⟩]
def dmH (h : Fin 8) : Vec F S256x128 .f32 := v1.readCov (dmL B v0) (Rect.unit (s := S256x1024) ![0, 128 * h.val] S256x128.size (inb_wide h)).toLoadRect
/-- What was kept, read back. -/
def kp (s : Fin 2) (h : Fin 8) (j : Fin 4) : Vec F S1x1x1x256x128 .f32 :=
  v2.readCov (keepL B) (Rect.unit (s := S2x8x4x256x128) ![s.val, h.val, j.val, 0, 0] S1x1x1x256x128.size (inb_keep s h j)).toLoadRect

/-! ## The second pass -/

/-- The gradient of the head, -/
def headPay (s : Fin 2) (h : Fin 8) : FVec F S1x256x128 .bf16 :=
  k0_pay220 (k0_pay207 (B.g s h)) (k0_pay208 (kp B v2 s h 0)) (k0_pay211 (kp B v2 s h 3)) (k0_pay213 (k0_pay206 (B.z s h)) (kp B v2 s h 1)) (k0_pay214 (dmH B v0 v1 h) (kp B v2 s h 2))
/-- of the merging gate's column, -/
def mergePay (s : Fin 2) (h : Fin 8) : FVec F S1x1x1x256x128 .bf16 :=
  k0_pay215 (dmH B v0 v1 h) (k0_pay206 (B.z s h)) (k0_pay207 (B.g s h)) (kp B v2 s h 0) (kp B v2 s h 1) (kp B v2 s h 2)
/-- of the head's own gate's column, -/
def gatePay (s : Fin 2) (h : Fin 8) : FVec F S1x1x1x256x128 .bf16 :=
  k0_pay217 (k0_pay216 (dmH B v0 v1 h) (k0_pay206 (B.z s h)) (k0_pay207 (B.g s h)) (kp B v2 s h 0) (kp B v2 s h 1) (kp B v2 s h 2))
/-- and of the norm's weight, over the block's rows. -/
def weightPay (s : Fin 2) (h : Fin 8) : FVec F S1x128 .f32 :=
  k0_pay219 (k0_pay208 (kp B v2 s h 0)) (k0_pay213 (k0_pay206 (B.z s h)) (kp B v2 s h 1)) (k0_pay214 (dmH B v0 v1 h) (kp B v2 s h 2))
/-- The eight stores of the heads' gradients. -/
def headL (s : Fin 2) : List (View.Piece (Elt F) S8x256x128 .bf16) :=
  List.ofFn fun n : Fin 8 => ⟨Rect.unit (s := S8x256x128) ![7 - n.val, 0, 0] S1x256x128.size (inb_head ⟨7 - n.val, by omega⟩), headPay B v0 v1 v2 s ⟨7 - n.val, by omega⟩⟩
/-- The weights' gradients side by side. -/
def weightCat (s : Fin 2) : FVec F S1x1024 .f32 :=
  concatenate S1x1024 1 [⟨S1x128, weightPay B v0 v1 v2 s 0⟩, ⟨S1x128, weightPay B v0 v1 v2 s 1⟩, ⟨S1x128, weightPay B v0 v1 v2 s 2⟩, ⟨S1x128, weightPay B v0 v1 v2 s 3⟩,
    ⟨S1x128, weightPay B v0 v1 v2 s 4⟩, ⟨S1x128, weightPay B v0 v1 v2 s 5⟩, ⟨S1x128, weightPay B v0 v1 v2 s 6⟩, ⟨S1x128, weightPay B v0 v1 v2 s 7⟩]
    concatenates_S1x128_S1x128_S1x128_S1x128_S1x128_S1x128_S1x128_S1x128_S1x1024_d1

/-! ## The sums over the grid -/

/-- The block's part of the projection weight's gradient. -/
def dwV : FVec F S1024x1024 .f32 := k0_pay204 (dzV B v0) (mixV B v0)
/-- The block's part of each of the five summed rows. -/
def part : Fin 5 → FVec F S1x1024 .f32
  | 0 => k0_pay451 (k0_pay196 (yV B v0) (msV B v0) k0_pay194) (doutV B v0)
  | 1 => k0_pay452 (zvV B v0) (dyV B v0)
  | 2 => k0_pay453 (lossV B v0)
  | 3 => weightCat B v0 v1 v2 0
  | 4 => weightCat B v0 v1 v2 1
/-- The stores of the five rows over the zeroed block: each adds its part to the row as it stands. -/
def rowsA : (n : ℕ) → n ≤ 5 → List (View.Piece (Elt F) S8x1024 .f32)
  | 0, _ => [⟨Rect.unit (s := S8x1024) ![0, 0] S8x1024.size inb_S8x1024_S8x1024_0_0, k0_pay454⟩]
  | n + 1, h => ⟨Rect.unit (s := S8x1024) ![n, 0] S1x1024.size (inb_row ⟨n, h⟩),
      k0_pay455 (part B v0 v1 v2 ⟨n, h⟩) (v8.readCov (rowsA n (Nat.le_of_succ_le h)) (Rect.unit (s := S8x1024) ![n, 0] S1x1024.size (inb_row ⟨n, h⟩)).toLoadRect)⟩
      :: rowsA n (Nat.le_of_succ_le h)
/-- The stores of the five rows over the block carried on, whose rows are `r`. -/
def rowsB (r : Fin 5 → Vec F S1x1024 .f32) : List (View.Piece (Elt F) S8x1024 .f32) :=
  [⟨Rect.unit (s := S8x1024) ![4, 0] S1x1024.size inb_S8x1024_S1x1024_4_0, k0_pay455 (part B v0 v1 v2 4) (r 4)⟩,
   ⟨Rect.unit (s := S8x1024) ![3, 0] S1x1024.size inb_S8x1024_S1x1024_3_0, k0_pay455 (part B v0 v1 v2 3) (r 3)⟩,
   ⟨Rect.unit (s := S8x1024) ![2, 0] S1x1024.size inb_S8x1024_S1x1024_2_0, k0_pay455 (part B v0 v1 v2 2) (r 2)⟩,
   ⟨Rect.unit (s := S8x1024) ![1, 0] S1x1024.size inb_S8x1024_S1x1024_1_0, k0_pay455 (part B v0 v1 v2 1) (r 1)⟩,
   ⟨Rect.unit (s := S8x1024) ![0, 0] S1x1024.size inb_S8x1024_S1x1024_0_0, k0_pay455 (part B v0 v1 v2 0) (r 0)⟩]

end Pay

section Run

variable (c : Dev nD) (t : Fin cfg0.N) {arg1 : Memref sig .tc .vmem S256x1024 .f32} (harg1 : arg1.IsWhole) {arg2 : Memref sig .tc .vmem S256x1024 .f32} (harg2 : arg2.IsWhole) {arg3 : Memref sig .tc .vmem S8x256x128 .f32} (harg3 : arg3.IsWhole) {arg4 : Memref sig .tc .vmem S8x256x128 .f32} (harg4 : arg4.IsWhole) {arg5 : Memref sig .tc .vmem S8x256x128 .f32} (harg5 : arg5.IsWhole) {arg6 : Memref sig .tc .vmem S8x256x128 .f32} (harg6 : arg6.IsWhole) {arg7 : Memref sig .tc .vmem S8x256x128 .f32} (harg7 : arg7.IsWhole) {arg8 : Memref sig .tc .vmem S8x256x128 .f32} (harg8 : arg8.IsWhole) {arg9 : Memref sig .tc .vmem S1024x1024 .bf16} (harg9 : arg9.IsWhole) {arg10 : Memref sig .tc .vmem S1x1024 .f32} (harg10 : arg10.IsWhole) {arg11 : Memref sig .tc .vmem S1x1024 .f32} (harg11 : arg11.IsWhole) {arg12 : Memref sig .tc .vmem S1x1024 .f32} (harg12 : arg12.IsWhole) {arg13 : Memref sig .tc .vmem S1x1024 .f32} (harg13 : arg13.IsWhole) {arg14 : Memref sig .tc .vmem S256x1024 .f32} (harg14 : arg14.IsWhole) {arg15 : Memref sig .tc .vmem S8x256x128 .bf16} (harg15 : arg15.IsWhole) {arg16 : Memref sig .tc .vmem S8x256x128 .bf16} (harg16 : arg16.IsWhole) {arg17 : Memref sig .tc .vmem S1024x1024 .f32} (harg17 : arg17.IsWhole) {arg18 : Memref sig .tc .vmem S8x1024 .f32} (harg18 : arg18.IsWhole) {arg20 : Memref sig .tc .vmem S256x1024 .bf16} (harg20 : arg20.IsWhole) {arg21 : Memref sig .tc .vmem S256x1024 .f32} (harg21 : arg21.IsWhole) {arg22 : Memref sig .tc .vmem S2x8x4x256x128 .f32} (harg22 : arg22.IsWhole)
  (x0 : Vec F S256x1024 .f32) (x1 : Vec F S256x1024 .f32) (x2 : Vec F S8x256x128 .f32) (x3 : Vec F S8x256x128 .f32) (x4 : Vec F S8x256x128 .f32) (x5 : Vec F S8x256x128 .f32) (x6 : Vec F S8x256x128 .f32) (x7 : Vec F S8x256x128 .f32) (x8 : Vec F S1024x1024 .bf16) (x9 : Vec F S1x1024 .f32) (x10 : Vec F S1x1024 .f32) (x11 : Vec F S1x1024 .f32) (x12 : Vec F S1x1024 .f32)

/-- A head's rows of a block; a head's columns of a weight; a whole block. -/
def ldH {b : Memref sig .tc .vmem S8x256x128 .f32} (hb : b.IsWhole) (x : Vec F S8x256x128 .f32) (h : Fin 8) : Vec F S1x256x128 .f32 :=
  View.readAt (Elt F) b.view (Rect.unit (s := S8x256x128) ![h.val, 0, 0] S1x256x128.size (inb_head h)).toLoadRect (hb.unread x)
def ldC {b : Memref sig .tc .vmem S1x1024 .f32} (hb : b.IsWhole) (x : Vec F S1x1024 .f32) (h : Fin 8) : Vec F S1x128 .f32 :=
  View.readAt (Elt F) b.view (Rect.unit (s := S1x1024) ![0, 128 * h.val] S1x128.size (inb_cols h)).toLoadRect (hb.unread x)
def ldR {b : Memref sig .tc .vmem S256x1024 .f32} (hb : b.IsWhole) (x : Vec F S256x1024 .f32) : Vec F S256x1024 .f32 :=
  View.readAt (Elt F) b.view (Rect.unit (s := S256x1024) ![0, 0] S256x1024.size inb_S256x1024_S256x1024_0_0).toLoadRect (hb.unread x)
def ldV {b : Memref sig .tc .vmem S1x1024 .f32} (hb : b.IsWhole) (x : Vec F S1x1024 .f32) : Vec F S1x1024 .f32 :=
  View.readAt (Elt F) b.view (Rect.unit (s := S1x1024) ![0, 0] S1x1024.size inb_S1x1024_S1x1024_0_0).toLoadRect (hb.unread x)
def ldW {b : Memref sig .tc .vmem S1024x1024 .bf16} (hb : b.IsWhole) (x : Vec F S1024x1024 .bf16) : Vec F S1024x1024 .bf16 :=
  View.readAt (Elt F) b.view (Rect.unit (s := S1024x1024) ![0, 0] S1024x1024.size inb_S1024x1024_S1024x1024_0_0).toLoadRect (hb.unread x)
def ldS {b : Memref sig .tc .vmem S1024x1024 .f32} (hb : b.IsWhole) (x : Vec F S1024x1024 .f32) : Vec F S1024x1024 .f32 :=
  View.readAt (Elt F) b.view (Rect.unit (s := S1024x1024) ![0, 0] S1024x1024.size inb_S1024x1024_S1024x1024_0_0).toLoadRect (hb.unread x)
/-- Row `n` of the block of sums. -/
def ldRow {b : Memref sig .tc .vmem S8x1024 .f32} (hb : b.IsWhole) (x : Vec F S8x1024 .f32) : Fin 5 → Vec F S1x1024 .f32
  | 0 => View.readAt (Elt F) b.view (Rect.unit (s := S8x1024) ![0, 0] S1x1024.size inb_S8x1024_S1x1024_0_0).toLoadRect (hb.unread x)
  | 1 => View.readAt (Elt F) b.view (Rect.unit (s := S8x1024) ![1, 0] S1x1024.size inb_S8x1024_S1x1024_1_0).toLoadRect (hb.unread x)
  | 2 => View.readAt (Elt F) b.view (Rect.unit (s := S8x1024) ![2, 0] S1x1024.size inb_S8x1024_S1x1024_2_0).toLoadRect (hb.unread x)
  | 3 => View.readAt (Elt F) b.view (Rect.unit (s := S8x1024) ![3, 0] S1x1024.size inb_S8x1024_S1x1024_3_0).toLoadRect (hb.unread x)
  | 4 => View.readAt (Elt F) b.view (Rect.unit (s := S8x1024) ![4, 0] S1x1024.size inb_S8x1024_S1x1024_4_0).toLoadRect (hb.unread x)

/-- The loads from the blocks. -/
def loads : Loads F where
  x := ldR harg1 x0
  t := ldR harg2 x1
  o s h := match s with | 0 => ldH harg3 x2 h | 1 => ldH harg4 x3 h
  z s h := match s with | 0 => ldH harg5 x4 h | 1 => ldH harg6 x5 h
  q s h := match s with | 0 => ldH harg7 x6 h | 1 => ldH harg8 x7 h
  w := ldW harg9 x8
  gate := ldV harg10 x9
  fg := ldV harg11 x10
  g s h := match s with | 0 => ldC harg12 x11 h | 1 => ldC harg13 x12 h

theorem runA_13 : (kernelRunA (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12).1 = [⟨Rect.unit (s := S256x1024) ![0, 0] S256x1024.size inb_S256x1024_S256x1024_0_0, dyV (loads harg1 harg2 harg3 harg4 harg5 harg6 harg7 harg8 harg9 harg10 harg11 harg12 harg13 x0 x1 x2 x3 x4 x5 x6 x7 x8 x9 x10 x11 x12) arg20.view⟩] := by sl_kernel_rfl
theorem runA_14 : (kernelRunA (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12).2.1 = headL (loads harg1 harg2 harg3 harg4 harg5 harg6 harg7 harg8 harg9 harg10 harg11 harg12 harg13 x0 x1 x2 x3 x4 x5 x6 x7 x8 x9 x10 x11 x12) arg20.view arg21.view arg22.view 0 := by sl_kernel_rfl
theorem runA_15 : (kernelRunA (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12).2.2.1 = headL (loads harg1 harg2 harg3 harg4 harg5 harg6 harg7 harg8 harg9 harg10 harg11 harg12 harg13 x0 x1 x2 x3 x4 x5 x6 x7 x8 x9 x10 x11 x12) arg20.view arg21.view arg22.view 1 := by sl_kernel_rfl
theorem runA_16 : (kernelRunA (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12).2.2.2.1 = [⟨Rect.unit (s := S1024x1024) ![0, 0] S1024x1024.size inb_S1024x1024_S1024x1024_0_0, dwV (loads harg1 harg2 harg3 harg4 harg5 harg6 harg7 harg8 harg9 harg10 harg11 harg12 harg13 x0 x1 x2 x3 x4 x5 x6 x7 x8 x9 x10 x11 x12) arg20.view⟩] := by sl_kernel_rfl
theorem runA_17 : (kernelRunA (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12).2.2.2.2.2.2.2.2.1 = rowsA (loads harg1 harg2 harg3 harg4 harg5 harg6 harg7 harg8 harg9 harg10 harg11 harg12 harg13 x0 x1 x2 x3 x4 x5 x6 x7 x8 x9 x10 x11 x12) arg20.view arg21.view arg22.view arg18.view 5 (le_refl 5) := by sl_kernel_rfl

variable (y16 : Vec F S1024x1024 .f32) (y17 : Vec F S8x1024 .f32)

theorem runB_16 : (kernelRunB (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12 y16 y17).2.2.2.1 = [⟨Rect.unit (s := S1024x1024) ![0, 0] S1024x1024.size inb_S1024x1024_S1024x1024_0_0,
    k0_pay205 (dzV (loads harg1 harg2 harg3 harg4 harg5 harg6 harg7 harg8 harg9 harg10 harg11 harg12 harg13 x0 x1 x2 x3 x4 x5 x6 x7 x8 x9 x10 x11 x12) arg20.view) (mixV (loads harg1 harg2 harg3 harg4 harg5 harg6 harg7 harg8 harg9 harg10 harg11 harg12 harg13 x0 x1 x2 x3 x4 x5 x6 x7 x8 x9 x10 x11 x12) arg20.view) (ldS harg17 y16)⟩] := by sl_kernel_rfl
theorem runB_17 : (kernelRunB (F := F) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg21 harg21 arg22 harg22 x0 x1 x2 x3 x4 x5 x6 x7 x8 x9 x10 x11 x12 y16 y17).2.2.2.2.2.2.2.2.1 = rowsB (loads harg1 harg2 harg3 harg4 harg5 harg6 harg7 harg8 harg9 harg10 harg11 harg12 harg13 x0 x1 x2 x3 x4 x5 x6 x7 x8 x9 x10 x11 x12) arg20.view arg21.view arg22.view (ldRow harg18 y17) := by sl_kernel_rfl

end Run

end Cert.MidIdeal.Hand
-- ==== Proof.MidMath.lean ====
module

public import proofs.«01_k».proof.Proof.InpMath

@[expose] public section

/-! One row of the step between the attentions' outputs and the loss, and of its gradient, over the extended reals: the two attentions' heads
normed, gated and merged, projected, added to the residual, normed, compared with the target; then back, in the order the kernel takes. -/

noncomputable section

namespace Cert.Hand.Merge

open Idealize.ShloMosaic

/-- A row's data: the residual's input and the target, per side and head the attention's output and the two gates' columns. -/
structure Row where
  x : Fin 1024 → EReal
  t : Fin 1024 → EReal
  o : Fin 2 → Fin 8 → Fin 128 → EReal
  z : Fin 2 → Fin 8 → Fin 128 → EReal
  q : Fin 2 → Fin 8 → Fin 128 → EReal

/-- What the rows share: the projection's weight, the residual's gate, the last norm's weight, the heads' norms' weights. -/
structure Par where
  w : Fin 1024 → Fin 1024 → EReal
  gate : Fin 1024 → EReal
  fg : Fin 1024 → EReal
  g : Fin 2 → Fin 8 → Fin 128 → EReal

/-- A column's head and lane, and back. -/
def hd (k : Fin 1024) : Fin 8 := ⟨k.val / 128, by omega⟩
def ln (k : Fin 1024) : Fin 128 := ⟨k.val % 128, by omega⟩
def col (h : Fin 8) (l : Fin 128) : Fin 1024 := ⟨128 * h.val + l.val, by omega⟩
theorem hd_col (h : Fin 8) (l : Fin 128) : hd (col h l) = h := Fin.ext (by simp only [hd, col]; omega)
theorem ln_col (h : Fin 8) (l : Fin 128) : ln (col h l) = l := Fin.ext (by simp only [ln, col]; omega)
theorem col_hd_ln (k : Fin 1024) : col (hd k) (ln k) = k := Fin.ext (by simp only [hd, ln, col]; omega)

/-- The logistic function. -/
def sg (v : EReal) : EReal := Ideal.div 1 (1 + Ideal.exp (0 - v))

variable (R : Row) (P : Par)

/-- The head's norm's factor, the normed head, -/
def rr (s : Fin 2) (h : Fin 8) : EReal :=
  Ideal.rsqrt (Ideal.div (∑ l, R.o s h l * R.o s h l) (Ideal.ofBits .f32 1124073472#32) + Ideal.ofBits .f32 897988541#32)
def nr (s : Fin 2) (h : Fin 8) (l : Fin 128) : EReal := R.o s h l * rr R s h
/-- weighted, gated and weighed for the merge; -/
def u (s : Fin 2) (h : Fin 8) (l : Fin 128) : EReal := sg (R.q s h l) * (nr R s h l * P.g s h l * (R.z s h l * sg (R.z s h l)))
/-- the merged row, projected, added to the residual; -/
def mix (k : Fin 1024) : EReal := u R P 0 (hd k) (ln k) + u R P 1 (hd k) (ln k)
def zv (j : Fin 1024) : EReal := ∑ k, mix R P k * P.w k j
def y (j : Fin 1024) : EReal := R.x j + P.gate j * zv R P j
/-- the mean square, the last norm, the error, the row's loss. -/
def ms : EReal := Ideal.div (∑ j, y R P j * y R P j) (Ideal.ofBits .f32 1149239296#32)
def rs : EReal := Ideal.rsqrt (ms R P + Ideal.ofBits .f32 897988541#32)
def err (j : Fin 1024) : EReal := y R P j * rs R P * P.fg j - R.t j
def loss : EReal := Ideal.div (∑ j, err R P j * err R P j) (Ideal.ofBits .f32 1149239296#32)
/-- The gradients of the last norm's output, of its input, of the projection, of the merged row, -/
def dout (j : Fin 1024) : EReal := err R P j * Ideal.ofBits .f32 981467136#32
def dy (j : Fin 1024) : EReal :=
  rs R P * (dout R P j * P.fg j)
    - y R P j * rs R P * (rs R P * rs R P) * Ideal.div (∑ i, y R P i * (dout R P i * P.fg i)) (Ideal.ofBits .f32 1149239296#32)
def dz (j : Fin 1024) : EReal := dy R P j * P.gate j
def dm (k : Fin 1024) : EReal := ∑ j, dz R P j * P.w k j
/-- of the weighted head, of the head, of the two gates' columns, and the row's part of the norm's weight's. -/
def dn (s : Fin 2) (h : Fin 8) (l : Fin 128) : EReal := dm R P (col h l) * sg (R.q s h l) * (R.z s h l * sg (R.z s h l))
def dO (s : Fin 2) (h : Fin 8) (l : Fin 128) : EReal :=
  rr R s h * (dn R P s h l * P.g s h l
    - nr R s h l * Ideal.div (∑ i, nr R s h i * (dn R P s h i * P.g s h i)) (Ideal.ofBits .f32 1124073472#32))
def dq (s : Fin 2) (h : Fin 8) (l : Fin 128) : EReal :=
  dm R P (col h l) * (nr R s h l * P.g s h l * (R.z s h l * sg (R.z s h l))) * (sg (R.q s h l) * (1 - sg (R.q s h l)))
def dzg (s : Fin 2) (h : Fin 8) (l : Fin 128) : EReal :=
  dm R P (col h l) * sg (R.q s h l) * (nr R s h l * P.g s h l) * (sg (R.z s h l) * (1 + R.z s h l * (1 - sg (R.z s h l))))
def dg (s : Fin 2) (h : Fin 8) (l : Fin 128) : EReal := dn R P s h l * nr R s h l

/-! ## The rows of the step's arrays -/

/-- Row `r` of the arrays: the gates' columns are the groups of the projection that start at 3072, 6144, 7168 and 8192. -/
def rowOf (x t : FVec Ideal ⟨3, ![1, 4096, 1024]⟩ .f32) (oA oB : FVec Ideal ⟨4, ![1, 4096, 8, 128]⟩ .f32) (p : FVec Ideal ⟨3, ![1, 4096, 9216]⟩ .f32)
    (r : Fin 4096) : Row where
  x j := x (ix3 0 r j)
  t j := t (ix3 0 r j)
  o s h l := match s with | 0 => oA (ix4 0 r h l) | 1 => oB (ix4 0 r h l)
  z s h l := match s with | 0 => p (ix3 0 r ⟨3072 + (col h l).val, by omega⟩) | 1 => p (ix3 0 r ⟨6144 + (col h l).val, by omega⟩)
  q s h l := match s with | 0 => p (ix3 0 r ⟨7168 + (col h l).val, by omega⟩) | 1 => p (ix3 0 r ⟨8192 + (col h l).val, by omega⟩)

/-- The weights. -/
def parOf (w : FVec Ideal ⟨2, ![1024, 1024]⟩ .f32) (gate : FVec Ideal ⟨2, ![1, 1024]⟩ .f32) (fg hg rg : FVec Ideal ⟨1, ![1024]⟩ .f32) : Par where
  w k j := w (ix2 k j)
  gate j := gate (ix2 0 j)
  fg j := fg (ix1 j)
  g s h l := match s with | 0 => hg (ix1 (col h l)) | 1 => rg (ix1 (col h l))

end Cert.Hand.Merge
-- ==== Proof.MidBlock.lean ====
/- What a grid point computes, entry by entry, from its loads: every block and every sum's part is the row's formula. -/
module

public import proofs.«01_k».proof.Proof.MidHeads
public import proofs.«01_k».proof.Proof.MidMath
public import Idealize.ShloMosaic.Lib.Pipeline.ValueKit
public import Idealize.ShloMosaic.Lib.Pipeline.ReadBack
public import Idealize.ShloMosaic.Lib.WritesUnit
public import Idealize.ShloMosaic.Lib.IdealHost

@[expose] public section

set_option maxRecDepth 16384

noncomputable section

namespace Cert.MidIdeal.Hand

open Cert.MidIdeal.Gen
open Idealize.ShloMosaic Idealize.ShloMosaic.TcCoe Idealize.ShloMosaic.Tactic
open Cert.Hand
open Cert.Hand.Merge (hd ln col)

variable (B : Loads Ideal) (v0 : View sig .tc .vmem S256x1024 .bf16) (v1 : View sig .tc .vmem S256x1024 .f32) (v2 : View sig .tc .vmem S2x8x4x256x128 .f32)

/-- A row of the loads, and what the rows share. -/
def row (r : Fin 256) : Merge.Row where
  x j := B.x (ix2 r j)
  t j := B.t (ix2 r j)
  o s h l := B.o s h (ix3 0 r l)
  z s h l := B.z s h (ix3 0 r l)
  q s h l := B.q s h (ix3 0 r l)
def par : Merge.Par where
  w k j := B.w (ix2 k j)
  gate j := B.gate (ix2 0 j)
  fg j := B.fg (ix2 0 j)
  g s h l := B.g s h (ix2 0 l)

/-! ## What is kept, read back -/

/-- Member `j` of what is kept. -/
def kept (R : Merge.Row) (s : Fin 2) (h : Fin 8) (l : Fin 128) : Fin 4 → EReal
  | 0 => Merge.nr R s h l
  | 1 => Merge.sg (R.z s h l)
  | 2 => Merge.sg (R.q s h l)
  | 3 => Merge.rr R s h

theorem keepPay_apply (s : Fin 2) (h : Fin 8) (j : Fin 4) (r : Fin 256) (l : Fin 128) : keepPay B s h j (ix5 0 0 0 r l) = kept (row B r) s h l j := by
  match j with
  | 0 => unfold keepPay; unfold_payloads; dsimp only; pointwise; rfl
  | 1 => unfold keepPay; unfold_payloads; dsimp only; pointwise; rfl
  | 2 => unfold keepPay; unfold_payloads; dsimp only; pointwise; rfl
  | 3 => unfold keepPay; unfold_payloads; dsimp only; pointwise; rfl

theorem kp_apply (s : Fin 2) (h : Fin 8) (j : Fin 4) (r : Fin 256) (l : Fin 128) : kp B v2 s h j (ix5 0 0 0 r l) = kept (row B r) s h l j := by
  have hs := s.isLt; have hh := h.isLt; have hj := j.isLt; have hr := r.isLt; have hl := l.isLt
  unfold kp
  rw [View.readCov_eq_canon']
  refine (congrArg (View.canon (keepL B)) (show _ = (ix5 s h j r l : S2x8x4x256x128.Idx) from ?_)).trans ?_
  · funext a
    apply Fin.ext
    fin_cases a <;> simp [ix5]
  · refine View.canon_ofFn_unit_eq_of_forall (S := S2x8x4x256x128) _ _ _ _ _ _ ?_ ?_
    · refine ⟨⟨63 - (8 * h.val + 4 * s.val + j.val), by omega⟩, fun a => ?_⟩
      fin_cases a <;> simp [ix5] <;> omega
    · intro n y hy
      have e0 := hy 0; have e1 := hy 1; have e2 := hy 2; have e3 := hy 3; have e4 := hy 4
      have y0 : (y 0).val < 1 := (y 0).isLt; have y1 : (y 1).val < 1 := (y 1).isLt; have y2 : (y 2).val < 1 := (y 2).isLt
      simp [ix5] at e0 e1 e2 e3 e4
      have es : (⟨((63 - n.val) / 4) % 2, by omega⟩ : Fin 2) = s := Fin.ext (by simp only; omega)
      have eh : (⟨(63 - n.val) / 8, by omega⟩ : Fin 8) = h := Fin.ext (by simp only; omega)
      have ej : (⟨(63 - n.val) % 4, by omega⟩ : Fin 4) = j := Fin.ext (by simp only; omega)
      rw [es, eh, ej, ← keepPay_apply]
      congr 1
      funext a
      apply Fin.ext
      fin_cases a <;> simp [ix5] <;> omega

/-! ## The merged rows -/

theorem mixPay_apply (h : Fin 8) (r : Fin 256) (l : Fin 128) : mixPay B h (ix2 r l) = Merge.u (row B r) (par B) 0 h l + Merge.u (row B r) (par B) 1 h l := by
  unfold mixPay; unfold_payloads; dsimp only; pointwise; rfl

theorem mixV_apply (r : Fin 256) (k : Fin 1024) : mixV B v0 (ix2 r k) = Merge.mix (row B r) (par B) k := by
  have hr := r.isLt; have hk := k.isLt
  unfold mixV
  rw [View.readCov_eq_canon']
  refine (congrArg (View.canon (mixL B)) (show _ = (ix2 r k : S256x1024.Idx) from ?_)).trans ?_
  · funext a
    apply Fin.ext
    fin_cases a <;> simp [ix2]
  · refine View.canon_ofFn_unit_eq_of_forall (S := S256x1024) _ _ _ _ _ _ ?_ ?_
    · refine ⟨⟨7 - k.val / 128, by omega⟩, fun a => ?_⟩
      fin_cases a <;> simp [ix2] <;> omega
    · intro n y hy
      have e0 := hy 0; have e1 := hy 1
      have y1 : (y 1).val < 128 := (y 1).isLt
      simp [ix2] at e0 e1
      have eh : (⟨7 - n.val, by omega⟩ : Fin 8) = hd k := Fin.ext (by simp only [hd]; omega)
      refine Eq.trans ?_ (mixPay_apply B (hd k) r (ln k))
      rw [← eh]
      congr 1
      funext a
      apply Fin.ext
      fin_cases a
      · simp [ix2]; omega
      · simp [ix2, ln]; omega

/-! ## The rows -/

theorem zvV_apply (r : Fin 256) (j : Fin 1024) : zvV B v0 (ix2 r j) = Merge.zv (row B r) (par B) j := by
  unfold zvV; unfold_payloads; pointwise [mixV_apply]; rfl
theorem yV_apply (r : Fin 256) (j : Fin 1024) : yV B v0 (ix2 r j) = Merge.y (row B r) (par B) j := by
  have h := zvV_apply B v0 r j
  unfold zvV at h
  unfold yV k0_pay192; pointwise [h]; rfl
theorem msV_apply (r : Fin 256) : msV B v0 (ix2 r 0) = Merge.ms (row B r) (par B) := by
  have h := yV_apply B v0 r
  unfold yV at h
  unfold msV k0_pay193; dsimp only; pointwise [h]; rfl
theorem doutV_apply (r : Fin 256) (j : Fin 1024) : doutV B v0 (ix2 r j) = Merge.dout (row B r) (par B) j := by
  unfold doutV; unfold_payloads; dsimp only; pointwise [yV_apply, msV_apply]; rfl
theorem dyV_apply (r : Fin 256) (j : Fin 1024) : dyV B v0 (ix2 r j) = Merge.dy (row B r) (par B) j := by
  unfold dyV; unfold_payloads; dsimp only; pointwise [yV_apply, msV_apply]; rfl
theorem dzV_apply (r : Fin 256) (j : Fin 1024) : dzV B v0 (ix2 r j) = Merge.dz (row B r) (par B) j := by
  unfold dzV; unfold_payloads; dsimp only; pointwise [yV_apply, msV_apply]; rfl
theorem lossV_apply : lossV B v0 (ix2 0 0) = Ideal.ofBits .f32 1056964608#32 * ∑ r, Merge.loss (row B r) (par B) := by
  unfold lossV; unfold_payloads; dsimp only; pointwise [yV_apply, msV_apply]; rfl
theorem dmH_apply (h : Fin 8) (r : Fin 256) (l : Fin 128) : dmH B v0 v1 h (ix2 r l) = Merge.dm (row B r) (par B) (col h l) := by
  have hr := r.isLt; have hh := h.isLt; have hl := l.isLt
  have e (r : Fin 256) (k : Fin 1024) : k0_pay203 (k0_pay202 B.gate (k0_pay191 B.fg) (yV B v0) (msV B v0) k0_pay194 B.t B.w) (ix2 r k) = Merge.dm (row B r) (par B) k := by
    have h := dzV_apply B v0 r
    unfold dzV at h
    unfold k0_pay203 k0_pay202; pointwise [h]; rfl
  unfold dmH
  rw [View.readCov_eq_canon']
  refine (congrArg (View.canon (dmL B v0)) (show _ = (ix2 r (col h l) : S256x1024.Idx) from ?_)).trans ?_
  · funext a
    apply Fin.ext
    fin_cases a <;> simp [ix2, col]
  · rw [← e]
    refine View.canon_apply_of_pieces (fun y => k0_pay203 (k0_pay202 B.gate (k0_pay191 B.fg) (yV B v0) (msV B v0) k0_pay194 B.t B.w) y) (dmL B v0) ?_ _ ?_
    · intro p hp x
      obtain rfl := List.mem_singleton.mp hp
      refine congrArg (k0_pay203 (k0_pay202 B.gate (k0_pay191 B.fg) (yV B v0) (msV B v0) k0_pay194 B.t B.w)) ?_
      funext a
      apply Fin.ext
      fin_cases a <;> simp
    · refine ⟨_, List.mem_singleton.mpr rfl, ?_⟩
      rw [Rect.mem_set_unit]
      intro a
      fin_cases a <;> simp [ix2, col] <;> omega

/-! ## The second pass -/

theorem headPay_apply (s : Fin 2) (h : Fin 8) (r : Fin 256) (l : Fin 128) : headPay B v0 v1 v2 s h (ix3 0 r l) = Merge.dO (row B r) (par B) s h l := by
  unfold headPay; unfold_payloads; dsimp only; pointwise [kp_apply, dmH_apply]; rfl
theorem mergePay_apply (s : Fin 2) (h : Fin 8) (r : Fin 256) (l : Fin 128) : mergePay B v0 v1 v2 s h (ix5 0 0 0 r l) = Merge.dq (row B r) (par B) s h l := by
  unfold mergePay; unfold_payloads; dsimp only; pointwise [kp_apply, dmH_apply]; rfl
theorem gatePay_apply (s : Fin 2) (h : Fin 8) (r : Fin 256) (l : Fin 128) : gatePay B v0 v1 v2 s h (ix5 0 0 0 r l) = Merge.dzg (row B r) (par B) s h l := by
  unfold gatePay; unfold_payloads; dsimp only; pointwise [kp_apply, dmH_apply]; rfl
theorem weightPay_apply (s : Fin 2) (h : Fin 8) (l : Fin 128) : weightPay B v0 v1 v2 s h (ix2 0 l) = ∑ r, Merge.dg (row B r) (par B) s h l := by
  unfold weightPay; unfold_payloads; dsimp only; pointwise [kp_apply, dmH_apply]; rfl

/-- Eight rows of 128 side by side. -/
theorem cat_apply (W : Fin 8 → FVec Ideal S1x128 .f32) (L) (hc) (hL : L = List.ofFn fun h : Fin 8 => (⟨S1x128, W h⟩ : (s : Shape) × FVec Ideal s .f32)) (k : Fin 1024) :
    concatenate S1x1024 1 L hc (ix2 0 k) = W (hd k) (ix2 0 (ln k)) := by
  subst hL
  exact concatenate_ofFn_apply (s₁ := S1x128) 1 _ hc rfl 128 rfl (ix2 0 k) (hd k) rfl (ix2 (0 : Fin 1) (ln k)) rfl (by
    intro b hb
    match b, hb with
    | ⟨0, _⟩, _ => rfl
    | ⟨1, _⟩, hb => exact absurd rfl hb)

theorem weightCat_apply (s : Fin 2) (k : Fin 1024) : weightCat B v0 v1 v2 s (ix2 0 k) = ∑ r, Merge.dg (row B r) (par B) s (hd k) (ln k) :=
  (cat_apply (weightPay B v0 v1 v2 s) _ _ rfl k).trans (weightPay_apply B v0 v1 v2 s (hd k) (ln k))

/-! ## The sums' parts -/

theorem dwV_apply (k j : Fin 1024) : dwV B v0 (ix2 k j) = ∑ r, Merge.mix (row B r) (par B) k * Merge.dz (row B r) (par B) j := by
  unfold dwV; unfold_payloads; pointwise [mixV_apply, dzV_apply]

/-- A row's part of entry `j` of summed row `n`. -/
def rowPart (R : Merge.Row) (P : Merge.Par) (j : Fin 1024) : Fin 5 → EReal
  | 0 => Merge.dout R P j * (Merge.y R P j * Merge.rs R P)
  | 1 => Merge.dy R P j * Merge.zv R P j
  | 2 => Merge.loss R P
  | 3 => Merge.dg R P 0 (hd j) (ln j)
  | 4 => Merge.dg R P 1 (hd j) (ln j)
/-- What scales the summed row: the loss is halved. -/
def rowScale : Fin 5 → EReal
  | 2 => Ideal.ofBits .f32 1056964608#32
  | _ => 1

theorem part_apply (n : Fin 5) (j : Fin 1024) : part B v0 v1 v2 n (ix2 0 j) = rowScale n * ∑ r, rowPart (row B r) (par B) j n := by
  match n with
  | 0 => unfold part; unfold_payloads; dsimp only; pointwise [yV_apply, msV_apply, doutV_apply]; exact (one_mul _).symm
  | 1 => unfold part; unfold_payloads; dsimp only; pointwise [zvV_apply, dyV_apply]; exact (one_mul _).symm
  | 2 => unfold part; unfold_payloads; dsimp only; pointwise [lossV_apply]; rfl
  | 3 => exact (weightCat_apply B v0 v1 v2 0 j).trans (one_mul _).symm
  | 4 => exact (weightCat_apply B v0 v1 v2 1 j).trans (one_mul _).symm

/-! ## The five summed rows -/

section Rows

variable (v8 : View sig .tc .vmem S8x1024 .f32) (f : v8.ty.Contents (Elt Ideal))

theorem addRow_apply (p w : FVec Ideal S1x1024 .f32) (j : Fin 1024) : k0_pay455 p w (ix2 0 j) = w (ix2 0 j) + p (ix2 0 j) := by
  unfold k0_pay455; pointwise

theorem row_hit {o : ℕ} (inb : ∀ a : Fin 2, (![o, 0] : Fin 2 → ℕ) a + S1x1024.size a ≤ S8x1024.size a) (w : S1x1024.Idx → Elt Ideal .f32)
    (L : List (View.Piece (Elt Ideal) S8x1024 .f32)) (a : Fin 8) (b : Fin 1024) (ha : a.val = o) :
    v8.read (Elt Ideal) (v8.writes (Elt Ideal) f (⟨Rect.unit ![o, 0] S1x1024.size inb, w⟩ :: L)) (ix2 a b) = w (ix2 0 b) :=
  View.read_writes_cons_rows_of_mem v8 f (o := o) inb w L (ix2 a b) (ix2 (0 : Fin 1) b) rfl (by simp [ix2, ha]) (by simp [ix2])

theorem row_miss {o : ℕ} (inb : ∀ a : Fin 2, (![o, 0] : Fin 2 → ℕ) a + S1x1024.size a ≤ S8x1024.size a) (w : S1x1024.Idx → Elt Ideal .f32)
    (L : List (View.Piece (Elt Ideal) S8x1024 .f32)) (a : Fin 8) (b : Fin 1024) (ha : a.val ≠ o) :
    v8.read (Elt Ideal) (v8.writes (Elt Ideal) f (⟨Rect.unit ![o, 0] S1x1024.size inb, w⟩ :: L)) (ix2 a b) = v8.read (Elt Ideal) (v8.writes (Elt Ideal) f L) (ix2 a b) :=
  View.read_writes_cons_rows_of_not_mem v8 f (o := o) (W := 1) inb w L (ix2 a b) rfl rfl (by simp [ix2]; omega)

theorem row_load {o : ℕ} (inb : ∀ a : Fin 2, (![o, 0] : Fin 2 → ℕ) a + S1x1024.size a ≤ S8x1024.size a)
    (L : List (View.Piece (Elt Ideal) S8x1024 .f32)) (a : Fin 8) (b : Fin 1024) (ha : a.val = o) :
    v8.readCov L (Rect.unit (s := S8x1024) ![o, 0] S1x1024.size inb).toLoadRect (ix2 0 b) = v8.read (Elt Ideal) (v8.writes (Elt Ideal) v8.junk L) (ix2 a b) := by
  rw [View.readCov_eq_canon', View.read_writes_junk_apply_eq_canon]
  refine congrArg (View.canon L) (funext fun k => Fin.ext ?_)
  match k with
  | ⟨0, _⟩ => simp [ix2, ha]
  | ⟨1, _⟩ => simp [ix2]

/-- Entry `j` of summed row `a`: the block's part, and zero in the rows that sum nothing. -/
def rowSum (a : Fin 8) (j : Fin 1024) : EReal :=
  if h : a.val < 5 then rowScale ⟨a.val, h⟩ * ∑ r, rowPart (row B r) (par B) j ⟨a.val, h⟩ else 0

theorem rowsA_read (n : ℕ) (hn : n ≤ 5) (a : Fin 8) (j : Fin 1024) :
    v8.read (Elt Ideal) (v8.writes (Elt Ideal) v8.junk (rowsA B v0 v1 v2 v8 n hn)) (ix2 a j) = if a.val < n then rowSum B a j else 0 := by
  induction n with
  | zero =>
    rw [if_neg (by omega)]
    refine (View.read_writes_cons_rows_of_mem v8 v8.junk (o := 0) _ _ _ (ix2 a j) (ix2 a j) rfl (by simp) rfl).trans ?_
    unfold k0_pay454; pointwise
  | succ n ih =>
    unfold rowsA
    by_cases ha : a.val = n
    · refine (row_hit v8 v8.junk (o := n) _ _ _ a j ha).trans ?_
      rw [addRow_apply, row_load v8 (o := n) _ _ a j ha, ih (by omega), if_neg (by omega), zero_add, if_pos (by omega), part_apply, rowSum, dif_pos (by omega)]
      simp only [ha]
    · refine (row_miss v8 v8.junk (o := n) _ _ _ a j ha).trans ?_
      rw [ih (by omega)]
      by_cases h : a.val < n
      · rw [if_pos h, if_pos (by omega)]
      · rw [if_neg h, if_neg (by omega)]

theorem rowsB_read (r : Fin 5 → Vec Ideal S1x1024 .f32) (y : Vec Ideal S8x1024 .f32) (a : Fin 8) (j : Fin 1024)
    (hf : v8.read (Elt Ideal) f = y) (hr : ∀ n : Fin 5, r n (ix2 0 j) = y (ix2 ⟨n.val, by omega⟩ j)) :
    v8.read (Elt Ideal) (v8.writes (Elt Ideal) f (rowsB B v0 v1 v2 r)) (ix2 a j) = y (ix2 a j) + rowSum B a j := by
  unfold rowsB rowSum
  by_cases h5 : a.val < 5
  · rw [dif_pos h5]
    obtain ⟨n, hn⟩ := a
    have key (k : Fin 5) (e : n = k.val) : k0_pay455 (part B v0 v1 v2 k) (r k) (ix2 0 j)
        = y (ix2 ⟨n, hn⟩ j) + rowScale ⟨n, h5⟩ * ∑ r, rowPart (row B r) (par B) j ⟨n, h5⟩ := by
      subst e
      rw [addRow_apply, hr, part_apply]
    match n, hn, h5, key with
    | 4, _, _, key => exact (row_hit v8 f (o := 4) _ _ _ _ j rfl).trans (key 4 rfl)
    | 3, _, _, key => exact (row_miss v8 f (o := 4) _ _ _ _ j (by simp)).trans <| (row_hit v8 f (o := 3) _ _ _ _ j rfl).trans (key 3 rfl)
    | 2, _, _, key => exact (row_miss v8 f (o := 4) _ _ _ _ j (by simp)).trans <| (row_miss v8 f (o := 3) _ _ _ _ j (by simp)).trans <|
        (row_hit v8 f (o := 2) _ _ _ _ j rfl).trans (key 2 rfl)
    | 1, _, _, key => exact (row_miss v8 f (o := 4) _ _ _ _ j (by simp)).trans <| (row_miss v8 f (o := 3) _ _ _ _ j (by simp)).trans <|
        (row_miss v8 f (o := 2) _ _ _ _ j (by simp)).trans <| (row_hit v8 f (o := 1) _ _ _ _ j rfl).trans (key 1 rfl)
    | 0, _, _, key => exact (row_miss v8 f (o := 4) _ _ _ _ j (by simp)).trans <| (row_miss v8 f (o := 3) _ _ _ _ j (by simp)).trans <|
        (row_miss v8 f (o := 2) _ _ _ _ j (by simp)).trans <| (row_miss v8 f (o := 1) _ _ _ _ j (by simp)).trans <|
        (row_hit v8 f (o := 0) _ _ _ _ j rfl).trans (key 0 rfl)
  · rw [dif_neg h5, add_zero]
    refine (row_miss v8 f (o := 4) _ _ _ a j (by omega)).trans <| (row_miss v8 f (o := 3) _ _ _ a j (by omega)).trans <|
      (row_miss v8 f (o := 2) _ _ _ a j (by omega)).trans <| (row_miss v8 f (o := 1) _ _ _ a j (by omega)).trans <|
      (row_miss v8 f (o := 0) _ _ _ a j (by omega)).trans ?_
    rw [← hf]; rfl

end Rows

end Cert.MidIdeal.Hand
-- ==== Proof.MidLoad.lean ====
/- What the body loads at a grid point: rows of the program's arguments. -/
module

public import proofs.«01_k».proof.Proof.MidBlock
public import proofs.«01_k».proof.Proof.MidFrame
public import Idealize.ShloMosaic.Lib.Tactic.CleanTypes
public import Idealize.ShloMosaic.Lib.WholeRead

@[expose] public section

set_option maxRecDepth 16384

noncomputable section

namespace Cert.MidIdeal.Hand

open Cert.MidIdeal.Gen
open Idealize.ShloMosaic Idealize.ShloMosaic.TcCoe Idealize.ShloMosaic.Tactic Idealize.SL.Sem
open Idealize.ShloMosaic.Pipeline (Dat)
open Cert.Hand
open Cert.Hand.Merge (hd ln col)

variable (m : (ℓ : Loc nD τ sig) → Buf (Elt Ideal) ℓ)

abbrev ax (c : Dev nD) : FVec Ideal S1x4096x1024 .f32 := m ((c : Thread nD τ).loc main_arg0)
abbrev at' (c : Dev nD) : FVec Ideal S1x4096x1024 .f32 := m ((c : Thread nD τ).loc main_arg1)
abbrev aoA (c : Dev nD) : FVec Ideal S1x4096x8x128 .f32 := m ((c : Thread nD τ).loc main_arg2)
abbrev aoB (c : Dev nD) : FVec Ideal S1x4096x8x128 .f32 := m ((c : Thread nD τ).loc main_arg3)
abbrev ap (c : Dev nD) : FVec Ideal S1x4096x9216 .f32 := m ((c : Thread nD τ).loc main_arg4)
abbrev aw (c : Dev nD) : FVec Ideal S1024x1024 .f32 := m ((c : Thread nD τ).loc main_arg5)
abbrev agate (c : Dev nD) : FVec Ideal S1x1024 .f32 := m ((c : Thread nD τ).loc main_arg6)
abbrev afg (c : Dev nD) : FVec Ideal S1024 .f32 := m ((c : Thread nD τ).loc main_arg7)
abbrev ahg (c : Dev nD) : FVec Ideal S1024 .f32 := m ((c : Thread nD τ).loc main_arg8)
abbrev arg' (c : Dev nD) : FVec Ideal S1024 .f32 := m ((c : Thread nD τ).loc main_arg9)
/-- Row `r` of the arguments, and the weights. -/
abbrev rowM (c : Dev nD) (r : Fin 4096) : Merge.Row := Merge.rowOf (ax m c) (at' m c) (aoA m c) (aoB m c) (ap m c) r
abbrev parM (c : Dev nD) : Merge.Par := Merge.parOf (aw m c) (agate m c) (afg m c) (ahg m c) (arg' m c)

theorem N0 : cfg0.N = 16 := by decide +kernel
theorem row_lt (t : Fin cfg0.N) (r : Fin 256) : t.val * 256 + r.val < 4096 := by
  have := t.isLt; have := N0; omega
abbrev rowN (t : Fin cfg0.N) (r : Fin 256) : Fin 4096 := ⟨t.val * 256 + r.val, row_lt t r⟩

/-- Where the windows' blocks lie. -/
theorem idx : ∀ t : Fin cfg0.N,
    (win0_0.index t = ![t.val, 0] ∧ win0_1.index t = ![t.val, 0] ∧ win0_2.index t = ![0, t.val, 0] ∧ win0_3.index t = ![0, t.val, 0]
      ∧ win0_4.index t = ![3, t.val, 0] ∧ win0_5.index t = ![6, t.val, 0] ∧ win0_6.index t = ![7, t.val, 0] ∧ win0_7.index t = ![8, t.val, 0])
    ∧ (win0_8.index t = ![0, 0] ∧ win0_9.index t = ![0, 0] ∧ win0_10.index t = ![0, 0] ∧ win0_11.index t = ![0, 0] ∧ win0_12.index t = ![0, 0])
    ∧ (win0_13.index t = ![t.val, 0] ∧ win0_14.index t = ![0, t.val, 0] ∧ win0_15.index t = ![0, t.val, 0] ∧ win0_16.index t = ![0, 0] ∧ win0_17.index t = ![0, 0]) :=
  (by decide +kernel : ∀ t : Fin grid0.N, _)

/-! ## The blocks the body loads -/

section Load

theorem ldH_apply {b : Memref sig .tc .vmem S8x256x128 .f32} (hb : b.IsWhole) (x : Vec Ideal S8x256x128 .f32) (h : Fin 8) (r : Fin 256) (l : Fin 128) :
    ldH hb x h (ix3 0 r l) = x (ix3 h r l) := by
  unfold ldH
  rw [hb.readAt_unread]
  refine congrArg x (funext fun a => Fin.ext ?_)
  fin_cases a <;> simp [ix3]
theorem ldC_apply {b : Memref sig .tc .vmem S1x1024 .f32} (hb : b.IsWhole) (x : Vec Ideal S1x1024 .f32) (h : Fin 8) (l : Fin 128) :
    ldC hb x h (ix2 0 l) = x (ix2 0 (col h l)) := by
  unfold ldC
  rw [hb.readAt_unread]
  refine congrArg x (funext fun a => Fin.ext ?_)
  fin_cases a <;> simp [ix2, col]
theorem ldR_eq {b : Memref sig .tc .vmem S256x1024 .f32} (hb : b.IsWhole) (x : Vec Ideal S256x1024 .f32) : ldR hb x = x := by
  funext i
  unfold ldR
  rw [hb.readAt_unread]
  refine congrArg x (funext fun a => Fin.ext ?_)
  fin_cases a <;> simp
theorem ldV_eq {b : Memref sig .tc .vmem S1x1024 .f32} (hb : b.IsWhole) (x : Vec Ideal S1x1024 .f32) : ldV hb x = x := by
  funext i
  unfold ldV
  rw [hb.readAt_unread]
  refine congrArg x (funext fun a => Fin.ext ?_)
  fin_cases a <;> simp
theorem ldW_eq {b : Memref sig .tc .vmem S1024x1024 .bf16} (hb : b.IsWhole) (x : Vec Ideal S1024x1024 .bf16) : ldW hb x = x := by
  funext i
  unfold ldW
  rw [hb.readAt_unread]
  refine congrArg x (funext fun a => Fin.ext ?_)
  fin_cases a <;> simp
theorem ldS_eq {b : Memref sig .tc .vmem S1024x1024 .f32} (hb : b.IsWhole) (x : Vec Ideal S1024x1024 .f32) : ldS hb x = x := by
  funext i
  unfold ldS
  rw [hb.readAt_unread]
  refine congrArg x (funext fun a => Fin.ext ?_)
  fin_cases a <;> simp
theorem ldRow_apply {b : Memref sig .tc .vmem S8x1024 .f32} (hb : b.IsWhole) (x : Vec Ideal S8x1024 .f32) (n : Fin 5) (j : Fin 1024) :
    ldRow hb x n (ix2 0 j) = x (ix2 ⟨n.val, by omega⟩ j) := by
  match n with
  | 0 | 1 | 2 | 3 | 4 =>
    refine (hb.readAt_unread x _ _).trans ?_
    refine congrArg x (funext fun a => Fin.ext ?_)
    fin_cases a <;> simp [ix2]

end Load

/-- The loads at point `t`. -/
def loadsAt (c : Dev nD) (t : Fin cfg0.N) : Loads Ideal := loads (hs0_0 t) (hs0_1 t) (hs0_2 t) (hs0_3 t) (hs0_4 t) (hs0_5 t) (hs0_6 t) (hs0_7 t) (hs0_8 t) (hs0_9 t) (hs0_10 t) (hs0_11 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem row_at (c : Dev nD) (t : Fin cfg0.N) (r : Fin 256) : row (loadsAt m c t) r = rowM m c (rowN t r) := by
  obtain ⟨⟨h0, h1, h2, h3, h4, h5, h6, h7⟩, -⟩ := idx t
  unfold row loadsAt loads rowM Merge.rowOf
  dsimp only
  rw [Merge.Row.mk.injEq]
  refine ⟨funext fun j => ?_, funext fun j => ?_, funext fun s => funext fun h => funext fun l => ?_, funext fun s => funext fun h => funext fun l => ?_,
    funext fun s => funext fun h => funext fun l => ?_⟩
  · simp only [ldR_eq]
    blk_point [iblk, V, h0]
  · simp only [ldR_eq]
    blk_point [iblk, V, h1]
  · match s with
    | 0 => simp only [ldH_apply]; blk_point [iblk, V, h2]
    | 1 => simp only [ldH_apply]; blk_point [iblk, V, h3]
  · match s with
    | 0 => simp only [ldH_apply]; blk_point [iblk, V, h4]; show _ = _ + (128 * h.val + l.val); omega
    | 1 => simp only [ldH_apply]; blk_point [iblk, V, h5]; show _ = _ + (128 * h.val + l.val); omega
  · match s with
    | 0 => simp only [ldH_apply]; blk_point [iblk, V, h6]; show _ = _ + (128 * h.val + l.val); omega
    | 1 => simp only [ldH_apply]; blk_point [iblk, V, h7]; show _ = _ + (128 * h.val + l.val); omega

theorem par_at (c : Dev nD) (t : Fin cfg0.N) : par (loadsAt m c t) = parM m c := by
  obtain ⟨-, ⟨h8, h9, h10, h11, h12⟩, -⟩ := idx t
  unfold par loadsAt loads parM Merge.parOf
  dsimp only
  rw [Merge.Par.mk.injEq]
  refine ⟨funext fun k => funext fun j => ?_, funext fun j => ?_, funext fun j => ?_, funext fun s => funext fun h => funext fun l => ?_⟩
  · simp only [ldW_eq]; blk_point [iblk, V, h8]
  · simp only [ldV_eq]; blk_point [iblk, V, h9]
  · simp only [ldV_eq]; blk_point [iblk, V, h10]
  · match s with
    | 0 => simp only [ldC_apply]; blk_point [iblk, V, h11]
    | 1 => simp only [ldC_apply]; blk_point [iblk, V, h12]

end Cert.MidIdeal.Hand
-- ==== Proof.MidPoint.lean ====
/- What the body leaves at a grid point, entry by entry, from the rows of the program's arguments. -/
module

public import proofs.«01_k».proof.Proof.MidLoad
public import Idealize.ShloMosaic.Lib.Pipeline.ValueKit.Tiles

@[expose] public section

set_option maxRecDepth 16384

noncomputable section

namespace Cert.MidIdeal.Hand

open Cert.MidIdeal.Gen
open Idealize.ShloMosaic Idealize.ShloMosaic.TcCoe Idealize.ShloMosaic.Tactic Idealize.SL.Sem
open Idealize.ShloMosaic.Pipeline (Dat)
open Cert.Hand
open Cert.Hand.Merge (hd ln col)

variable (m : (ℓ : Loc nD τ sig) → Buf (Elt Ideal) ℓ)

/-- One store of a whole block. -/
theorem whole_read {n k : ℕ} {b : Memref sig .tc .vmem ⟨2, ![n, k]⟩ .f32} (f : b.view.ty.Contents (Elt Ideal)) (inb) (X : Vec Ideal ⟨2, ![n, k]⟩ .f32) (i : (⟨2, ![n, k]⟩ : Shape).Idx) :
    b.view.read (Elt Ideal) (b.view.writes (Elt Ideal) f [⟨Rect.unit (s := ⟨2, ![n, k]⟩) ![0, 0] ![n, k] inb, X⟩]) i = X i :=
  View.read_writes_cons_rows_of_mem b.view f (o := 0) inb _ _ i i rfl (by simp) rfl

/-! What the run stores, in the loads' terms. -/

theorem stored_13 (c : Dev nD) (t : Fin cfg0.N) : (runA m c t).1 = [⟨Rect.unit (s := S256x1024) ![0, 0] S256x1024.size inb_S256x1024_S256x1024_0_0, dyV (loadsAt m c t) scM0_0.view⟩] := runA_13 c t (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (Memref.isWhole_whole _) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
theorem stored_14 (c : Dev nD) (t : Fin cfg0.N) : (runA m c t).2.1 = headL (loadsAt m c t) scM0_0.view scM0_1.view scM0_2.view 0 := runA_14 c t (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (Memref.isWhole_whole _) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
theorem stored_15 (c : Dev nD) (t : Fin cfg0.N) : (runA m c t).2.2.1 = headL (loadsAt m c t) scM0_0.view scM0_1.view scM0_2.view 1 := runA_15 c t (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (Memref.isWhole_whole _) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
theorem stored_16 (c : Dev nD) (t : Fin cfg0.N) : (runA m c t).2.2.2.1 = [⟨Rect.unit (s := S1024x1024) ![0, 0] S1024x1024.size inb_S1024x1024_S1024x1024_0_0, dwV (loadsAt m c t) scM0_0.view⟩] := runA_16 c t (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (Memref.isWhole_whole _) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
theorem stored_17 (c : Dev nD) (t : Fin cfg0.N) : (runA m c t).2.2.2.2.2.2.2.2.1 = rowsA (loadsAt m c t) scM0_0.view scM0_1.view scM0_2.view (ms0_17 t).view 5 (le_refl 5) := by sl_kernel_rfl
theorem carried_16 (c : Dev nD) (t : Fin cfg0.N) (y : Vec Ideal S1024x1024 .f32) (z : Vec Ideal S8x1024 .f32) : (runB m c t y z).2.2.2.1 = [⟨Rect.unit (s := S1024x1024) ![0, 0] S1024x1024.size inb_S1024x1024_S1024x1024_0_0,
    k0_pay205 (dzV (loadsAt m c t) scM0_0.view) (mixV (loadsAt m c t) scM0_0.view) (ldS (hs0_16 t) y)⟩] := runB_16 c t (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (Memref.isWhole_whole _) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y z
theorem carried_17 (c : Dev nD) (t : Fin cfg0.N) (y : Vec Ideal S1024x1024 .f32) (z : Vec Ideal S8x1024 .f32) :
    (runB m c t y z).2.2.2.2.2.2.2.2.1 = rowsB (loadsAt m c t) scM0_0.view scM0_1.view scM0_2.view (ldRow (hs0_17 t) z) := by sl_kernel_rfl

theorem blk13_apply (c : Dev nD) (t : Fin cfg0.N) (r : Fin 256) (j : Fin 1024) :
    blk13 m c t (ix2 r j) = Merge.dy (rowM m c (rowN t r)) (parM m c) j := by
  unfold blk13
  rw [stored_13]
  refine (whole_read _ _ _ _).trans ?_
  rw [dyV_apply, row_at, par_at]

theorem headL_read (c : Dev nD) (t : Fin cfg0.N) (s : Fin 2) (a : Fin 8) (r : Fin 256) (l : Fin 128) :
    View.canon (Val := Elt Ideal) (headL (loadsAt m c t) scM0_0.view scM0_1.view scM0_2.view s) (ix3 a r l) = Merge.dO (rowM m c (rowN t r)) (parM m c) s a l := by
  have ha := a.isLt
  have hr := r.isLt
  have hl := l.isLt
  unfold headL
  refine View.canon_ofFn_unit_eq_of_forall (Val := Elt Ideal) (S := S8x256x128) (e := .bf16) (fun n : Fin 8 => ![7 - n.val, 0, 0]) S1x256x128.size
    (fun n => inb_head ⟨7 - n.val, by omega⟩) (fun n => headPay (loadsAt m c t) scM0_0.view scM0_1.view scM0_2.view s ⟨7 - n.val, by omega⟩) (ix3 a r l) _ ⟨⟨7 - a.val, by omega⟩, fun k => ?_⟩ fun n x hx => ?_
  · fin_cases k <;> simp [ix3] <;> omega
  · have h0 := hx 0; have h1 := hx 1; have h2 := hx 2
    have x0 : (x 0).val < 1 := (x 0).isLt
    simp [ix3] at h0 h1 h2
    have ex : x = ix3 (0 : Fin 1) r l := by
      funext k; apply Fin.ext
      fin_cases k
      · show (x 0).val = 0; omega
      · show (x 1).val = r.val; omega
      · show (x 2).val = l.val; omega
    subst ex
    have en : (⟨7 - n.val, by omega⟩ : Fin 8) = a := Fin.ext (by simp at h0 ⊢; omega)
    rw [en, headPay_apply, row_at, par_at]

theorem blk14_apply (c : Dev nD) (t : Fin cfg0.N) (a : Fin 8) (r : Fin 256) (l : Fin 128) :
    blk14 m c t (ix3 a r l) = Merge.dO (rowM m c (rowN t r)) (parM m c) 0 a l := by
  unfold blk14
  rw [View.read_writes_junk_eq_canon]
  rw [stored_14]
  exact (headL_read m c t 0 a r l)
theorem blk15_apply (c : Dev nD) (t : Fin cfg0.N) (a : Fin 8) (r : Fin 256) (l : Fin 128) :
    blk15 m c t (ix3 a r l) = Merge.dO (rowM m c (rowN t r)) (parM m c) 1 a l := by
  unfold blk15
  rw [View.read_writes_junk_eq_canon]
  rw [stored_15]
  exact (headL_read m c t 1 a r l)

/-! ## The sums -/

/-- A point's part of entry (k, j) of the weight's gradient, and of entry (a, j) of the summed rows. -/
def dwB (c : Dev nD) (t : Fin cfg0.N) (k j : Fin 1024) : EReal :=
  ∑ r : Fin 256, Merge.mix (rowM m c (rowN t r)) (parM m c) k * Merge.dz (rowM m c (rowN t r)) (parM m c) j
def vecB (c : Dev nD) (t : Fin cfg0.N) (a : Fin 8) (j : Fin 1024) : EReal :=
  if h : a.val < 5 then rowScale ⟨a.val, h⟩ * ∑ r : Fin 256, rowPart (rowM m c (rowN t r)) (parM m c) j ⟨a.val, h⟩ else 0

theorem dwV_at (c : Dev nD) (t : Fin cfg0.N) (k j : Fin 1024) : dwV (loadsAt m c t) scM0_0.view (ix2 k j) = dwB m c t k j := by
  rw [dwV_apply]; simp only [row_at, par_at]; rfl
theorem rowSum_at (c : Dev nD) (t : Fin cfg0.N) (a : Fin 8) (j : Fin 1024) : rowSum (loadsAt m c t) a j = vecB m c t a j := by
  unfold rowSum vecB; simp only [row_at, par_at]

theorem start_1 (c : Dev nD) (t : Fin cfg0.N) (k j : Fin 1024) : (start m c t).1 (ix2 k j) = dwB m c t k j := by
  unfold start
  dsimp only
  rw [stored_16]
  exact (whole_read _ _ _ _).trans (dwV_at m c t k j)
theorem start_2 (c : Dev nD) (t : Fin cfg0.N) (a : Fin 8) (j : Fin 1024) : (start m c t).2 (ix2 a j) = vecB m c t a j := by
  unfold start
  dsimp only
  rw [stored_17]
  refine (rowsA_read (loadsAt m c t) scM0_0.view scM0_1.view scM0_2.view (ms0_17 t).view 5 (le_refl 5) a j).trans ?_
  rw [rowSum_at]
  split_ifs with h
  · rfl
  · rw [vecB, dif_neg h]
theorem carry_1 (c : Dev nD) (t : Fin cfg0.N) (x : Vec Ideal S1024x1024 .f32 × Vec Ideal S8x1024 .f32) (k j : Fin 1024) :
    (carry m c t x).1 (ix2 k j) = x.1 (ix2 k j) + dwB m c t k j := by
  unfold carry
  dsimp only
  rw [carried_16]
  refine (whole_read _ _ _ _).trans ?_
  rw [ldS_eq, ← dwV_at m c t k j]
  unfold k0_pay205 dwV
  generalize loadsAt m c t = B
  unfold_payloads
  pointwise [mixV_apply, dzV_apply]
theorem carry_2 (c : Dev nD) (t : Fin cfg0.N) (x : Vec Ideal S1024x1024 .f32 × Vec Ideal S8x1024 .f32) (a : Fin 8) (j : Fin 1024) :
    (carry m c t x).2 (ix2 a j) = x.2 (ix2 a j) + vecB m c t a j := by
  unfold carry
  dsimp only
  rw [carried_17]
  refine (rowsB_read (loadsAt m c t) scM0_0.view scM0_1.view scM0_2.view (ms0_17 t).view _ (ldRow (hs0_17 t) x.2) x.2 a j ((hs0_17 t).read_unread x.2) fun n => ldRow_apply (hs0_17 t) x.2 n j).trans ?_
  rw [rowSum_at]

/-! ## The tiles copied out -/

/-- Head `hh`'s store over a tile whose other heads are already those of the family `T`. -/
theorem tile_head (c : Dev nD) (g : Fin 2) (k : Fin 4) (hh : Fin 8) {off : Fin 5 → ℕ} (hoff : off = ![g.val, k.val, hh.val, 0, 0]) (hin)
    (f : HbBuf0 (F := Ideal) c (wtile g k)) (v : Vec Ideal S1x1x1x256x128 .bf16) (a : Fin 8) (r : Fin 256) (l : Fin 128)
    (T : Fin 8 → FVec Ideal S1x1x1x256x128 .bf16) (hv : v = T hh)
    (h : a.val ≠ hh.val → (wtile g k).view.read (Elt Ideal) f (ix3 a r l) = T a (ix5 0 0 0 r l)) :
    (wtile g k).view.read (Elt Ideal) ((scM0_3.access (Rect.unit (s := S2x4x8x256x128) off S1x1x1x256x128.size hin)).write (Elt Ideal) f v Finset.univ) (ix3 a r l)
      = T a (ix5 0 0 0 r l) := by
  refine (tile_write c g k hh.val hoff hin f v a r l).trans ?_
  by_cases e : a.val = hh.val
  · rw [if_pos e, hv, Fin.ext e]
  · rw [if_neg e]; exact h e

theorem tile0_apply (c : Dev nD) (t : Fin cfg0.N) (a : Fin 8) (r : Fin 256) (l : Fin 128) :
    tile0 m c t (ix3 a r l) = Merge.dzg (rowM m c (rowN t r)) (parM m c) 0 a l := by
  have h8 : a.val < 8 := a.isLt
  unfold tile0
  dsimp only [runA, kernelRunA, kernelRunA.sl.dma439]
  unfold kernelRunA.sl.Ht0_w30 kernelRunA.sl.Ht0_w26 kernelRunA.sl.Ht0_w22 kernelRunA.sl.Ht0_w18 kernelRunA.sl.Ht0_w14 kernelRunA.sl.Ht0_w10 kernelRunA.sl.Ht0_w6 kernelRunA.sl.Ht0_w2
  refine Eq.trans ?_ (((gatePay_apply (loadsAt m c t) scM0_0.view scM0_1.view scM0_2.view 0 a r l)).trans (by rw [row_at, par_at]))
  exact tile_head c (Ring.sl 2 t.val) 0 7 (wcoff_66 t) _ _ _ _ _ _ (gatePay (loadsAt m c t) scM0_0.view scM0_1.view scM0_2.view 0) (by sl_kernel_rfl) fun n7 =>
     tile_head c (Ring.sl 2 t.val) 0 6 (wcoff_62 t) _ _ _ _ _ _ (gatePay (loadsAt m c t) scM0_0.view scM0_1.view scM0_2.view 0) (by sl_kernel_rfl) fun n6 =>
     tile_head c (Ring.sl 2 t.val) 0 5 (wcoff_58 t) _ _ _ _ _ _ (gatePay (loadsAt m c t) scM0_0.view scM0_1.view scM0_2.view 0) (by sl_kernel_rfl) fun n5 =>
     tile_head c (Ring.sl 2 t.val) 0 4 (wcoff_54 t) _ _ _ _ _ _ (gatePay (loadsAt m c t) scM0_0.view scM0_1.view scM0_2.view 0) (by sl_kernel_rfl) fun n4 =>
     tile_head c (Ring.sl 2 t.val) 0 3 (wcoff_50 t) _ _ _ _ _ _ (gatePay (loadsAt m c t) scM0_0.view scM0_1.view scM0_2.view 0) (by sl_kernel_rfl) fun n3 =>
     tile_head c (Ring.sl 2 t.val) 0 2 (wcoff_46 t) _ _ _ _ _ _ (gatePay (loadsAt m c t) scM0_0.view scM0_1.view scM0_2.view 0) (by sl_kernel_rfl) fun n2 =>
     tile_head c (Ring.sl 2 t.val) 0 1 (wcoff_42 t) _ _ _ _ _ _ (gatePay (loadsAt m c t) scM0_0.view scM0_1.view scM0_2.view 0) (by sl_kernel_rfl) fun n1 =>
     tile_head c (Ring.sl 2 t.val) 0 0 (wcoff_38 t) _ _ _ _ _ _ (gatePay (loadsAt m c t) scM0_0.view scM0_1.view scM0_2.view 0) (by sl_kernel_rfl) fun n0 => absurd h8 (by omega)
theorem tile1_apply (c : Dev nD) (t : Fin cfg0.N) (a : Fin 8) (r : Fin 256) (l : Fin 128) :
    tile1 m c t (ix3 a r l) = Merge.dzg (rowM m c (rowN t r)) (parM m c) 1 a l := by
  have h8 : a.val < 8 := a.isLt
  unfold tile1
  dsimp only [runA, kernelRunA, kernelRunA.sl.dma439_1]
  unfold kernelRunA.sl.Ht1_w32 kernelRunA.sl.Ht1_w28 kernelRunA.sl.Ht1_w24 kernelRunA.sl.Ht1_w20 kernelRunA.sl.Ht1_w16 kernelRunA.sl.Ht1_w12 kernelRunA.sl.Ht1_w8 kernelRunA.sl.Ht1_w4
  refine Eq.trans ?_ (((gatePay_apply (loadsAt m c t) scM0_0.view scM0_1.view scM0_2.view 1 a r l)).trans (by rw [row_at, par_at]))
  exact tile_head c (Ring.sl 2 t.val) 1 7 (wcoff_68 t) _ _ _ _ _ _ (gatePay (loadsAt m c t) scM0_0.view scM0_1.view scM0_2.view 1) (by sl_kernel_rfl) fun n7 =>
     tile_head c (Ring.sl 2 t.val) 1 6 (wcoff_64 t) _ _ _ _ _ _ (gatePay (loadsAt m c t) scM0_0.view scM0_1.view scM0_2.view 1) (by sl_kernel_rfl) fun n6 =>
     tile_head c (Ring.sl 2 t.val) 1 5 (wcoff_60 t) _ _ _ _ _ _ (gatePay (loadsAt m c t) scM0_0.view scM0_1.view scM0_2.view 1) (by sl_kernel_rfl) fun n5 =>
     tile_head c (Ring.sl 2 t.val) 1 4 (wcoff_56 t) _ _ _ _ _ _ (gatePay (loadsAt m c t) scM0_0.view scM0_1.view scM0_2.view 1) (by sl_kernel_rfl) fun n4 =>
     tile_head c (Ring.sl 2 t.val) 1 3 (wcoff_52 t) _ _ _ _ _ _ (gatePay (loadsAt m c t) scM0_0.view scM0_1.view scM0_2.view 1) (by sl_kernel_rfl) fun n3 =>
     tile_head c (Ring.sl 2 t.val) 1 2 (wcoff_48 t) _ _ _ _ _ _ (gatePay (loadsAt m c t) scM0_0.view scM0_1.view scM0_2.view 1) (by sl_kernel_rfl) fun n2 =>
     tile_head c (Ring.sl 2 t.val) 1 1 (wcoff_44 t) _ _ _ _ _ _ (gatePay (loadsAt m c t) scM0_0.view scM0_1.view scM0_2.view 1) (by sl_kernel_rfl) fun n1 =>
     tile_head c (Ring.sl 2 t.val) 1 0 (wcoff_40 t) _ _ _ _ _ _ (gatePay (loadsAt m c t) scM0_0.view scM0_1.view scM0_2.view 1) (by sl_kernel_rfl) fun n0 => absurd h8 (by omega)
theorem tile2_apply (c : Dev nD) (t : Fin cfg0.N) (a : Fin 8) (r : Fin 256) (l : Fin 128) :
    tile2 m c t (ix3 a r l) = Merge.dq (rowM m c (rowN t r)) (parM m c) 0 a l := by
  have h8 : a.val < 8 := a.isLt
  unfold tile2
  dsimp only [runA, kernelRunA, kernelRunA.sl.dma439_2]
  unfold kernelRunA.sl.Ht2_w29 kernelRunA.sl.Ht2_w25 kernelRunA.sl.Ht2_w21 kernelRunA.sl.Ht2_w17 kernelRunA.sl.Ht2_w13 kernelRunA.sl.Ht2_w9 kernelRunA.sl.Ht2_w5 kernelRunA.sl.Ht2_w1
  refine Eq.trans ?_ (((mergePay_apply (loadsAt m c t) scM0_0.view scM0_1.view scM0_2.view 0 a r l)).trans (by rw [row_at, par_at]))
  exact tile_head c (Ring.sl 2 t.val) 2 7 (wcoff_65 t) _ _ _ _ _ _ (mergePay (loadsAt m c t) scM0_0.view scM0_1.view scM0_2.view 0) (by sl_kernel_rfl) fun n7 =>
     tile_head c (Ring.sl 2 t.val) 2 6 (wcoff_61 t) _ _ _ _ _ _ (mergePay (loadsAt m c t) scM0_0.view scM0_1.view scM0_2.view 0) (by sl_kernel_rfl) fun n6 =>
     tile_head c (Ring.sl 2 t.val) 2 5 (wcoff_57 t) _ _ _ _ _ _ (mergePay (loadsAt m c t) scM0_0.view scM0_1.view scM0_2.view 0) (by sl_kernel_rfl) fun n5 =>
     tile_head c (Ring.sl 2 t.val) 2 4 (wcoff_53 t) _ _ _ _ _ _ (mergePay (loadsAt m c t) scM0_0.view scM0_1.view scM0_2.view 0) (by sl_kernel_rfl) fun n4 =>
     tile_head c (Ring.sl 2 t.val) 2 3 (wcoff_49 t) _ _ _ _ _ _ (mergePay (loadsAt m c t) scM0_0.view scM0_1.view scM0_2.view 0) (by sl_kernel_rfl) fun n3 =>
     tile_head c (Ring.sl 2 t.val) 2 2 (wcoff_45 t) _ _ _ _ _ _ (mergePay (loadsAt m c t) scM0_0.view scM0_1.view scM0_2.view 0) (by sl_kernel_rfl) fun n2 =>
     tile_head c (Ring.sl 2 t.val) 2 1 (wcoff_41 t) _ _ _ _ _ _ (mergePay (loadsAt m c t) scM0_0.view scM0_1.view scM0_2.view 0) (by sl_kernel_rfl) fun n1 =>
     tile_head c (Ring.sl 2 t.val) 2 0 (wcoff_37 t) _ _ _ _ _ _ (mergePay (loadsAt m c t) scM0_0.view scM0_1.view scM0_2.view 0) (by sl_kernel_rfl) fun n0 => absurd h8 (by omega)
theorem tile3_apply (c : Dev nD) (t : Fin cfg0.N) (a : Fin 8) (r : Fin 256) (l : Fin 128) :
    tile3 m c t (ix3 a r l) = Merge.dq (rowM m c (rowN t r)) (parM m c) 1 a l := by
  have h8 : a.val < 8 := a.isLt
  unfold tile3
  dsimp only [runA, kernelRunA, kernelRunA.sl.dma439_3]
  unfold kernelRunA.sl.Ht3_w31 kernelRunA.sl.Ht3_w27 kernelRunA.sl.Ht3_w23 kernelRunA.sl.Ht3_w19 kernelRunA.sl.Ht3_w15 kernelRunA.sl.Ht3_w11 kernelRunA.sl.Ht3_w7 kernelRunA.sl.Ht3_w3
  refine Eq.trans ?_ (((mergePay_apply (loadsAt m c t) scM0_0.view scM0_1.view scM0_2.view 1 a r l)).trans (by rw [row_at, par_at]))
  exact tile_head c (Ring.sl 2 t.val) 3 7 (wcoff_67 t) _ _ _ _ _ _ (mergePay (loadsAt m c t) scM0_0.view scM0_1.view scM0_2.view 1) (by sl_kernel_rfl) fun n7 =>
     tile_head c (Ring.sl 2 t.val) 3 6 (wcoff_63 t) _ _ _ _ _ _ (mergePay (loadsAt m c t) scM0_0.view scM0_1.view scM0_2.view 1) (by sl_kernel_rfl) fun n6 =>
     tile_head c (Ring.sl 2 t.val) 3 5 (wcoff_59 t) _ _ _ _ _ _ (mergePay (loadsAt m c t) scM0_0.view scM0_1.view scM0_2.view 1) (by sl_kernel_rfl) fun n5 =>
     tile_head c (Ring.sl 2 t.val) 3 4 (wcoff_55 t) _ _ _ _ _ _ (mergePay (loadsAt m c t) scM0_0.view scM0_1.view scM0_2.view 1) (by sl_kernel_rfl) fun n4 =>
     tile_head c (Ring.sl 2 t.val) 3 3 (wcoff_51 t) _ _ _ _ _ _ (mergePay (loadsAt m c t) scM0_0.view scM0_1.view scM0_2.view 1) (by sl_kernel_rfl) fun n3 =>
     tile_head c (Ring.sl 2 t.val) 3 2 (wcoff_47 t) _ _ _ _ _ _ (mergePay (loadsAt m c t) scM0_0.view scM0_1.view scM0_2.view 1) (by sl_kernel_rfl) fun n2 =>
     tile_head c (Ring.sl 2 t.val) 3 1 (wcoff_43 t) _ _ _ _ _ _ (mergePay (loadsAt m c t) scM0_0.view scM0_1.view scM0_2.view 1) (by sl_kernel_rfl) fun n1 =>
     tile_head c (Ring.sl 2 t.val) 3 0 (wcoff_39 t) _ _ _ _ _ _ (mergePay (loadsAt m c t) scM0_0.view scM0_1.view scM0_2.view 1) (by sl_kernel_rfl) fun n0 => absurd h8 (by omega)

end Cert.MidIdeal.Hand
-- ==== Proof.MidArray.lean ====
/- What the result arrays hold at the end, entry by entry, from the rows of the program's arguments. -/
module

public import proofs.«01_k».proof.Proof.MidPoint

@[expose] public section

set_option maxRecDepth 16384

noncomputable section

namespace Cert.MidIdeal.Hand

open Cert.MidIdeal.Gen
open Idealize.ShloMosaic Idealize.ShloMosaic.TcCoe Idealize.ShloMosaic.Tactic Idealize.SL.Sem
open Idealize.ShloMosaic.Pipeline (Dat)
open Cert.Hand
open Cert.Hand.Merge (hd ln col)

variable (m : (ℓ : Loc nD τ sig) → Buf (Elt Ideal) ℓ)

theorem dy_array (c : Dev nD) : (dats m 0 c).arrAt 13 cfg0.N = fun i => Merge.dy (rowM m c (i 0)) (parM m c) (i 1) := by
  refine (dats m 0 c).arrAt_eq_of_covers 13 _ (by decide +kernel) fun t hf y => ?_
  blk_simp
  rw [after0_13]
  refine (congrArg (blk13 m c t) (show y = ix2 (show Fin 256 from y 0) (show Fin 1024 from y 1) by funext k; match k with | ⟨0, _⟩ => rfl | ⟨1, _⟩ => rfl)).trans ((blk13_apply m c t _ _).trans ?_)
  have e : ((cfg0.win 13).blk t).view.emb y = ix2 (rowN t (y 0)) (show Fin 1024 from y 1) := by
    obtain ⟨-, -, h13, -⟩ := idx t
    blk_ext [h13]
  rw [e]
  rfl

theorem doa_array (c : Dev nD) : (dats m 0 c).arrAt 14 cfg0.N = fun i => Merge.dO (rowM m c (i 1)) (parM m c) 0 (i 0) (i 2) := by
  refine (dats m 0 c).arrAt_eq_of_covers 14 _ (by decide +kernel) fun t hf y => ?_
  blk_simp
  rw [after0_14]
  refine (congrArg (blk14 m c t) (eq_ix3 (show S8x256x128.Idx from y))).trans ((blk14_apply m c t _ _ _).trans ?_)
  have e : ((cfg0.win 14).blk t).view.emb y = ix3 (show Fin 8 from y 0) (rowN t (y 1)) (show Fin 128 from y 2) := by
    obtain ⟨-, -, -, h14, -⟩ := idx t
    blk_ext [h14]
  rw [e]
  rfl

theorem dob_array (c : Dev nD) : (dats m 0 c).arrAt 15 cfg0.N = fun i => Merge.dO (rowM m c (i 1)) (parM m c) 1 (i 0) (i 2) := by
  refine (dats m 0 c).arrAt_eq_of_covers 15 _ (by decide +kernel) fun t hf y => ?_
  blk_simp
  rw [after0_15]
  refine (congrArg (blk15 m c t) (eq_ix3 (show S8x256x128.Idx from y))).trans ((blk15_apply m c t _ _ _).trans ?_)
  have e : ((cfg0.win 15).blk t).view.emb y = ix3 (show Fin 8 from y 0) (rowN t (y 1)) (show Fin 128 from y 2) := by
    obtain ⟨-, -, -, -, h15, -⟩ := idx t
    blk_ext [h15]
  rw [e]
  rfl

/-! ## The sums over the points -/

theorem sum_rows (F : Fin 4096 → EReal) : ∑ t : Fin cfg0.N, ∑ r : Fin 256, F (rowN t r) = ∑ r, F r :=
  Fin.sum_mul_add_congr fun t r h => rfl

/-- The last point. -/
def tLast : Fin cfg0.N := ⟨15, by rw [N0]; decide⟩
theorem first_of (t : Fin cfg0.N) (h : t.val % 16 = 0) : t.val = 0 := by have := t.isLt; have := N0; omega
theorem later_of (t : Fin cfg0.N) (h : ¬ t.val % 16 = 0) : t.val ≠ 0 := by omega

theorem dw_array (c : Dev nD) : (dats m 0 c).arrAt 16 cfg0.N
    = fun i => ∑ r : Fin 4096, Merge.mix (rowM m c r) (parM m c) (i 0) * Merge.dz (rowM m c r) (parM m c) (i 1) := by
  refine (dats m 0 c).arrAt_eq_of_after_last 16 tLast (by decide +kernel) _ fun y => ?_
  blk_simp
  rw [after0_16]
  have ey : y = ix2 (show Fin 1024 from y 0) (show Fin 1024 from y 1) := by funext k; match k with | ⟨0, _⟩ => rfl | ⟨1, _⟩ => rfl
  refine (congrArg _ ey).trans ?_
  refine (Pipeline.eq_sum_fin_of_reset_step_apply_last (M := EReal) (fun n h (i : Fin 1024 × Fin 1024) => (sums m c n h).1 (ix2 i.1 i.2)) 16 (fun _ => 0)
    (fun t i => dwB m c t i.1 i.2) (fun t h i => by rw [zero_add]; exact (congrFun (congrArg Prod.fst (sums_zero m c t (first_of t h))) _).trans (start_1 m c t i.1 i.2))
    (fun t h i => (congrFun (congrArg Prod.fst (sums_succ m c t (later_of t h))) _).trans (carry_1 m c t _ i.1 i.2)) (le_of_eq N0) tLast (show (15 : ℕ) + 1 = _ from N0.symm)
    (show Fin 1024 from y 0, show Fin 1024 from y 1)).trans ?_
  rw [zero_add]
  exact sum_rows fun r => Merge.mix (rowM m c r) (parM m c) (y 0) * Merge.dz (rowM m c r) (parM m c) (y 1)

theorem half_nonneg : 0 ≤ Ideal.ofBits .f32 1056964608#32 ∧ Ideal.ofBits .f32 1056964608#32 ≠ ⊤ := by
  rw [show Ideal.ofBits .f32 1056964608#32 = ((1 / 2 : ℝ) : EReal) from by simp [Ideal.ofBits, Ideal.ieee, -EReal.coe_mul]; norm_num]
  exact ⟨EReal.coe_nonneg.mpr (by norm_num), EReal.coe_ne_top _⟩

theorem scale_sum (n : Fin 5) {N : ℕ} (F : Fin N → EReal) : ∑ t, rowScale n * F t = rowScale n * ∑ t, F t := by
  have h : 0 ≤ rowScale n ∧ rowScale n ≠ ⊤ := by
    match n with
    | 2 => exact half_nonneg
    | 0 | 1 | 3 | 4 => exact ⟨zero_le_one, EReal.coe_ne_top 1⟩
  have key (s : Finset (Fin N)) : ∑ t ∈ s, rowScale n * F t = rowScale n * ∑ t ∈ s, F t := by
    induction s using Finset.cons_induction with
    | empty => simp
    | cons a s ha ih => rw [Finset.sum_cons, Finset.sum_cons, ih, EReal.left_distrib_of_nonneg_of_ne_top h.1 h.2]
  exact key _

/-- The summed rows. -/
def vecSum (c : Dev nD) (a : Fin 8) (j : Fin 1024) : EReal :=
  if h : a.val < 5 then rowScale ⟨a.val, h⟩ * ∑ r : Fin 4096, rowPart (rowM m c r) (parM m c) j ⟨a.val, h⟩ else 0

theorem vec_array (c : Dev nD) : (dats m 0 c).arrAt 17 cfg0.N = fun i => vecSum m c (i 0) (i 1) := by
  refine (dats m 0 c).arrAt_eq_of_after_last 17 tLast (by decide +kernel) _ fun y => ?_
  blk_simp
  rw [after0_17]
  have ey : y = ix2 (show Fin 8 from y 0) (show Fin 1024 from y 1) := by funext k; match k with | ⟨0, _⟩ => rfl | ⟨1, _⟩ => rfl
  refine (congrArg _ ey).trans ?_
  refine (Pipeline.eq_sum_fin_of_reset_step_apply_last (M := EReal) (fun n h (i : Fin 8 × Fin 1024) => (sums m c n h).2 (ix2 i.1 i.2)) 16 (fun _ => 0)
    (fun t i => vecB m c t i.1 i.2) (fun t h i => by rw [zero_add]; exact (congrFun (congrArg Prod.snd (sums_zero m c t (first_of t h))) _).trans (start_2 m c t i.1 i.2))
    (fun t h i => (congrFun (congrArg Prod.snd (sums_succ m c t (later_of t h))) _).trans (carry_2 m c t _ i.1 i.2)) (le_of_eq N0) tLast (show (15 : ℕ) + 1 = _ from N0.symm)
    (show Fin 8 from y 0, show Fin 1024 from y 1)).trans ?_
  rw [zero_add]
  show ∑ t : Fin cfg0.N, vecB m c t (y 0) (y 1) = vecSum m c (y 0) (y 1)
  unfold vecB vecSum
  split_ifs with h
  · rw [scale_sum, sum_rows fun r => rowPart (rowM m c r) (parM m c) (y 1) ⟨(y 0).val, h⟩]
  · exact Finset.sum_const_zero

/-! ## The copied array, at the slabs that are copied -/

abbrev inHead (s : Fin 72) : Fin 8 := ⟨s.val % 8, Nat.mod_lt _ (by decide)⟩
theorem dpb_3 (c : Dev nD) (s : Fin 72) (hs : s.val / 8 = 3) (r : Fin 4096) (l : Fin 128) :
    dpb m c (ix3 s r l) = Merge.dzg (rowM m c r) (parM m c) 0 (inHead s) l := by
  have hr : rowN (ptN ⟨r.val / 256, by omega⟩) ⟨r.val % 256, by omega⟩ = r := Fin.ext (by show r.val / 256 * 256 + r.val % 256 = r.val; omega)
  show dpbAt m c s r l = _
  unfold dpbAt
  dsimp only
  rw [if_pos hs, tile0_apply, hr]
theorem dpb_6 (c : Dev nD) (s : Fin 72) (hs : s.val / 8 = 6) (r : Fin 4096) (l : Fin 128) :
    dpb m c (ix3 s r l) = Merge.dzg (rowM m c r) (parM m c) 1 (inHead s) l := by
  have hr : rowN (ptN ⟨r.val / 256, by omega⟩) ⟨r.val % 256, by omega⟩ = r := Fin.ext (by show r.val / 256 * 256 + r.val % 256 = r.val; omega)
  show dpbAt m c s r l = _
  unfold dpbAt
  dsimp only
  rw [if_neg (by omega), if_pos hs, tile1_apply, hr]
theorem dpb_7 (c : Dev nD) (s : Fin 72) (hs : s.val / 8 = 7) (r : Fin 4096) (l : Fin 128) :
    dpb m c (ix3 s r l) = Merge.dq (rowM m c r) (parM m c) 0 (inHead s) l := by
  have hr : rowN (ptN ⟨r.val / 256, by omega⟩) ⟨r.val % 256, by omega⟩ = r := Fin.ext (by show r.val / 256 * 256 + r.val % 256 = r.val; omega)
  show dpbAt m c s r l = _
  unfold dpbAt
  dsimp only
  rw [if_neg (by omega), if_neg (by omega), if_pos hs, tile2_apply, hr]
theorem dpb_8 (c : Dev nD) (s : Fin 72) (hs : s.val / 8 = 8) (r : Fin 4096) (l : Fin 128) :
    dpb m c (ix3 s r l) = Merge.dq (rowM m c r) (parM m c) 1 (inHead s) l := by
  have hr : rowN (ptN ⟨r.val / 256, by omega⟩) ⟨r.val % 256, by omega⟩ = r := Fin.ext (by show r.val / 256 * 256 + r.val % 256 = r.val; omega)
  show dpbAt m c s r l = _
  unfold dpbAt
  dsimp only
  rw [if_neg (by omega), if_neg (by omega), if_neg (by omega), if_pos hs, tile3_apply, hr]

end Cert.MidIdeal.Hand
-- ==== Proof.MidEq.lean ====
module

public import proofs.«01_k».proof.Proof.MidMath

@[expose] public section

/-! The row's gradient as the derivative's formulas write it, against the order the kernel takes: equal over the extended reals, the gates'
columns' where the factor beside the logistic's derivative is a real number. -/

noncomputable section

namespace Cert.Hand.Merge

open Idealize.ShloMosaic

/-! ## Constants -/

/-- The f32 pattern of 128. -/
theorem ofBits_128 : Ideal.ofBits .f32 1124073472#32 = ((128 : ℝ) : EReal) := by
  simp [Ideal.ofBits, Ideal.ieee, -EReal.coe_mul]; norm_num

theorem ofBits_half : Ideal.ofBits .f32 1056964608#32 = ((1 / 2 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_inv1024 : Ideal.ofBits .f32 981467136#32 = ((1 / 1024 : ℝ) : EReal) := by
  simp [Ideal.ofBits, Ideal.ieee, -EReal.coe_mul]; norm_num

/-! ## Sums with a real factor -/

/-- A real factor that is not negative is taken out of a sum. -/
theorem sum_scaled {n : ℕ} (r : ℝ) (hr : 0 ≤ r) (f : Fin n → EReal) : (∑ i, (r : EReal) * f i) = (r : EReal) * ∑ i, f i := by
  have h : ∀ S : Finset (Fin n), (∑ i ∈ S, (r : EReal) * f i) = (r : EReal) * ∑ i ∈ S, f i := fun S => by
    induction S using Finset.induction_on with
    | empty => simp
    | insert a S ha ih =>
      rw [Finset.sum_insert ha, Finset.sum_insert ha, ih]
      exact (EReal.left_distrib_of_nonneg_of_ne_top (by exact_mod_cast hr) (EReal.coe_ne_top r) _ _).symm
  exact h _

/-! ## The norms' gradients -/

variable (R : Row) (P : Par)

/-- The derivative's common part of the last norm's input. -/
def pull : EReal :=
  Ideal.div ((∑ j, y R P j * (dout R P j * P.fg j)) * (Ideal.ofBits .f32 3204448256#32
    * Ideal.div (rs R P) (ms R P + Ideal.ofBits .f32 897988541#32))) (Ideal.ofBits .f32 1149239296#32)

theorem dy_ref (j : Fin 1024) :
    dout R P j * P.fg j * rs R P + y R P j * pull R P + pull R P * y R P j = dy R P j := by
  have h := rms_entry (ms R P + Ideal.ofBits .f32 897988541#32) (y R P j) (∑ j, y R P j * (dout R P j * P.fg j)) 0 (dout R P j * P.fg j)
    (meanSq_pos fun k => y R P k)
  rw [zero_add, zero_add] at h
  exact h.symm

/-- A head's mean square with the small constant, -/
def hms (s : Fin 2) (h : Fin 8) : EReal :=
  Ideal.div (∑ l, R.o s h l * R.o s h l) (Ideal.ofBits .f32 1124073472#32) + Ideal.ofBits .f32 897988541#32

theorem hms_pos (s : Fin 2) (h : Fin 8) : 0 < hms R s h := by
  obtain ⟨e, he, h0⟩ := ofBits_eps
  rw [hms, h0, ofBits_128, Ideal.div_coe (by norm_num)]
  have h1 : (0 : EReal) ≤ (∑ k, R.o s h k * R.o s h k) * ((1 / 128 : ℝ) : EReal) :=
    mul_nonneg (Finset.sum_nonneg fun k _ => mul_self_nonneg' _) (by exact_mod_cast (by norm_num : (0 : ℝ) ≤ 1 / 128))
  calc (0 : EReal) < (e : EReal) := by exact_mod_cast he
    _ = 0 + (e : EReal) := (zero_add _).symm
    _ ≤ _ := add_le_add_left h1 _

/-- and the derivative's common part of the head. -/
def hpull (s : Fin 2) (h : Fin 8) : EReal :=
  Ideal.div ((∑ l, R.o s h l * (dn R P s h l * P.g s h l)) * (Ideal.ofBits .f32 3204448256#32
    * Ideal.div (rr R s h) (hms R s h))) (Ideal.ofBits .f32 1124073472#32)

/-- One head's entry, with `v` the mean square, `o` the entry, `a` its weighted cotangent, `b` the head's. -/
theorem head_entry (v : EReal) (hv : 0 < v) (q a : EReal) (o b : Fin 128 → EReal) :
    a * Ideal.rsqrt v + q * Ideal.div ((∑ l, o l * b l) * (Ideal.ofBits .f32 3204448256#32 * Ideal.div (Ideal.rsqrt v) v)) (Ideal.ofBits .f32 1124073472#32)
        + Ideal.div ((∑ l, o l * b l) * (Ideal.ofBits .f32 3204448256#32 * Ideal.div (Ideal.rsqrt v) v)) (Ideal.ofBits .f32 1124073472#32) * q
      = Ideal.rsqrt v * (a - q * Ideal.rsqrt v * Ideal.div (∑ l, o l * Ideal.rsqrt v * b l) (Ideal.ofBits .f32 1124073472#32)) := by
  rw [ofBits_128, ofBits_neg_half, Ideal.div_coe (by norm_num), Ideal.div_coe (by norm_num)]
  induction v with
  | bot => simp at hv
  | top => simp [Ideal.div]
  | coe w =>
    have hw : 0 < w := by exact_mod_cast hv
    rw [Ideal.rsqrt_coe, if_neg (not_lt.mpr hw.le), if_neg hw.ne', Ideal.div_coe hw.ne']
    have hs : Real.sqrt w * Real.sqrt w = w := Real.mul_self_sqrt hw.le
    have hp : 0 < Real.sqrt w := Real.sqrt_pos.mpr hw
    set r : ℝ := (Real.sqrt w)⁻¹ with hr
    have hr0 : 0 ≤ r := (inv_pos.mpr hp).le
    have hrw : 1 / w = r * r := by rw [hr, ← mul_inv, hs, one_div]
    have e0 : (∑ l, o l * (r : EReal) * b l) = (r : EReal) * ∑ l, o l * b l := by
      rw [← sum_scaled r hr0]
      exact Fintype.sum_congr _ _ fun l => by rw [mul_comm (o l), mul_assoc]
    set s : EReal := ∑ l, o l * b l
    have e1 : (r : EReal) * (q * (r : EReal) * ((r : EReal) * s * ((1 / 128 : ℝ) : EReal)))
        = ((r * (r * r) * (1 / 128) : ℝ) : EReal) * (q * s) := by
      rw [EReal.coe_mul, EReal.coe_mul, EReal.coe_mul]; ac_rfl
    have e2 : q * (s * (((-(1 / 2) : ℝ) : EReal) * ((r : EReal) * ((1 / w : ℝ) : EReal))) * ((1 / 128 : ℝ) : EReal))
        = ((-(1 / 2) * (r * (r * r) * (1 / 128)) : ℝ) : EReal) * (q * s) := by
      simp only [hrw, EReal.coe_mul]; ac_rfl
    have e3 : s * (((-(1 / 2) : ℝ) : EReal) * ((r : EReal) * ((1 / w : ℝ) : EReal))) * ((1 / 128 : ℝ) : EReal) * q
        = ((-(1 / 2) * (r * (r * r) * (1 / 128)) : ℝ) : EReal) * (q * s) := by
      rw [mul_comm _ q, e2]
    rw [e0, e2, e3, add_assoc, half_twice, sub_eq_add_neg,
      EReal.left_distrib_of_nonneg_of_ne_top (by exact_mod_cast hr0) (EReal.coe_ne_top r), mul_neg, e1, mul_comm a]

theorem dO_ref (s : Fin 2) (h : Fin 8) (l : Fin 128) :
    dn R P s h l * P.g s h l * rr R s h + R.o s h l * hpull R P s h + hpull R P s h * R.o s h l = dO R P s h l :=
  head_entry (hms R s h) (hms_pos R s h) (R.o s h l) (dn R P s h l * P.g s h l) (fun i => R.o s h i) (fun i => dn R P s h i * P.g s h i)

/-- The weighted head's cotangent at its column. -/
theorem dn_ref (s : Fin 2) (h : Fin 8) (l : Fin 128) (k : Fin 1024) (hk : k = col h l) :
    sg (R.q s (hd k) (ln k)) * dm R P k * (R.z s (hd k) (ln k) * sg (R.z s (hd k) (ln k))) = dn R P s h l := by
  subst hk
  rw [hd_col, ln_col, mul_comm (sg _)]
  rfl

/-- The merge gate's cotangent at its column. -/
theorem dq_ref (s : Fin 2) (h : Fin 8) (l : Fin 128) (k : Fin 1024) (hk : k = col h l) :
    dm R P k * (nr R s (hd k) (ln k) * P.g s (hd k) (ln k) * (R.z s (hd k) (ln k) * sg (R.z s (hd k) (ln k))))
      * (sg (R.q s (hd k) (ln k)) * (1 - sg (R.q s (hd k) (ln k)))) = dq R P s h l := by
  subst hk
  rw [hd_col, ln_col]
  rfl

/-! ## The logistic function -/

/-- It is real everywhere, one at `⊤` and zero at `⊥`. -/
theorem sg_top : sg ⊤ = 1 := by
  unfold sg
  rw [zero_sub, EReal.neg_top]
  show Ideal.div 1 (1 + 0) = 1
  rw [add_zero, ← EReal.coe_one, Ideal.div_coe (by norm_num)]
  norm_num
theorem sg_bot : sg ⊥ = 0 := by
  unfold sg
  rw [zero_sub, EReal.neg_bot]
  show Ideal.div 1 (1 + ⊤) = 0
  have h : (1 : EReal) + ⊤ = ⊤ := EReal.add_top_of_ne_bot (EReal.coe_ne_bot 1)
  rw [h]
  simp [Ideal.div]
theorem sg_real (v : EReal) : ∃ a : ℝ, sg v = (a : EReal) := by
  induction v with
  | bot => exact ⟨0, sg_bot⟩
  | top => exact ⟨1, sg_top⟩
  | coe v =>
    refine ⟨1 / (1 + Real.exp (-v)), ?_⟩
    have h : (1 : ℝ) + Real.exp (-v) ≠ 0 := (add_pos one_pos (Real.exp_pos _)).ne'
    unfold sg
    rw [zero_sub, ← EReal.coe_neg]
    show Ideal.div 1 (1 + ((Real.exp (-v) : ℝ) : EReal)) = _
    rw [← EReal.coe_one, ← EReal.coe_add, Ideal.div_coe h, EReal.coe_one, one_mul]

theorem sg_eq (v : EReal) : Ideal.div 1 (1 + Ideal.exp (-v)) = sg v := by
  unfold sg
  rw [zero_sub]

/-- The loss's derivative: half of twice the error over the row's length. -/
theorem dout_ref (e : EReal) :
    Ideal.div (Ideal.ofBits .f32 1056964608#32) (Ideal.ofBits .f32 1149239296#32) * (Ideal.ofBits .f32 1073741824#32 * e)
      = e * Ideal.ofBits .f32 981467136#32 := by
  rw [ofBits_half, ofBits_1024, ofBits_two, ofBits_inv1024, Ideal.div_coe (by norm_num), ← mul_assoc, ← EReal.coe_mul, ← EReal.coe_mul, mul_comm]
  norm_num

/-- Where the factor `g` is real, the product rule of `z ↦ z σ(z)` may be taken out of the bracket. -/
theorem silu_entry (z : EReal) (g : ℝ) :
    (g : EReal) * sg z + z * (g : EReal) * (sg z * (1 - sg z)) = (g : EReal) * (sg z * (1 + z * (1 - sg z))) := by
  induction z with
  | bot => simp [sg_bot]
  | top =>
    have h : (1 : EReal) - 1 = 0 := EReal.sub_self (EReal.coe_ne_top 1) (EReal.coe_ne_bot 1)
    simp [sg_top, h]
  | coe z =>
    obtain ⟨a, ha⟩ := sg_real (z : EReal)
    rw [ha]
    norm_cast
    ring

/-! ## The summed rows -/

/-- The gradients of the last norm's weight (row 0), of the residual's gate (row 1) and of the heads' norms' weights (rows 3 and 4); the loss (row 2). -/
def rowSum (R : Fin 4096 → Row) (P : Par) (a : Fin 8) (j : Fin 1024) : EReal :=
  if a.val < 1 then ∑ r, y (R r) P j * rs (R r) P * dout (R r) P j
  else if a.val - 1 < 1 then ∑ r, dy (R r) P j * zv (R r) P j
  else if a.val - 1 - 1 < 1 then Ideal.ofBits .f32 1056964608#32 * ∑ r, loss (R r) P
  else if a.val - 1 - 1 - 1 < 1 then ∑ r, nr (R r) 0 (hd j) (ln j) * dn (R r) P 0 (hd j) (ln j)
  else if a.val - 1 - 1 - 1 - 1 < 1 then ∑ r, nr (R r) 1 (hd j) (ln j) * dn (R r) P 1 (hd j) (ln j)
  else 0

/-! ## Real entries stay real -/

/-- The value is a real number. -/
abbrev IsReal (v : EReal) : Prop := ∃ a : ℝ, v = (a : EReal)

theorem IsReal.add {a b : EReal} : IsReal a → IsReal b → IsReal (a + b) := by
  rintro ⟨a, rfl⟩ ⟨b, rfl⟩; exact ⟨a + b, (EReal.coe_add a b).symm⟩
theorem IsReal.sub {a b : EReal} : IsReal a → IsReal b → IsReal (a - b) := by
  rintro ⟨a, rfl⟩ ⟨b, rfl⟩; exact ⟨a - b, (EReal.coe_sub a b).symm⟩
theorem IsReal.mul {a b : EReal} : IsReal a → IsReal b → IsReal (a * b) := by
  rintro ⟨a, rfl⟩ ⟨b, rfl⟩; exact ⟨a * b, (EReal.coe_mul a b).symm⟩
theorem IsReal.sum {n : ℕ} (f : Fin n → EReal) (h : ∀ i, IsReal (f i)) : IsReal (∑ i, f i) := by
  have key : ∀ S : Finset (Fin n), IsReal (∑ i ∈ S, f i) := fun S => by
    induction S using Finset.induction_on with
    | empty => exact ⟨0, rfl⟩
    | insert a S ha ih => rw [Finset.sum_insert ha]; exact (h a).add ih
  exact key _
theorem IsReal.over {a : EReal} (c : ℝ) (hc : c ≠ 0) (h : IsReal a) : IsReal (Ideal.div a (c : EReal)) := by
  rw [Ideal.div_coe hc]
  exact h.mul ⟨_, rfl⟩
theorem IsReal.rsqrt {a : EReal} (h : IsReal a) (h0 : 0 < a) : IsReal (Ideal.rsqrt a) := by
  obtain ⟨a, rfl⟩ := h
  have h1 : 0 < a := by exact_mod_cast h0
  rw [Ideal.rsqrt_coe, if_neg (not_lt.mpr h1.le), if_neg h1.ne']
  exact ⟨_, rfl⟩
theorem eps_real : IsReal (Ideal.ofBits .f32 897988541#32) := by
  obtain ⟨e, _, h⟩ := ofBits_eps
  exact ⟨e, h⟩

/-- A row, and weights, of real numbers. -/
structure Row.Real (R : Row) : Prop where
  x j : IsReal (R.x j)
  t j : IsReal (R.t j)
  o s h l : IsReal (R.o s h l)
  z s h l : IsReal (R.z s h l)
structure Par.Real (P : Par) : Prop where
  w k j : IsReal (P.w k j)
  gate j : IsReal (P.gate j)
  fg j : IsReal (P.fg j)
  g s h l : IsReal (P.g s h l)

variable {R P}
variable (hR : R.Real) (hP : P.Real)
include hR

theorem nr_real (s : Fin 2) (h : Fin 8) (l : Fin 128) : IsReal (nr R s h l) := by
  refine (hR.o s h l).mul (IsReal.rsqrt ?_ (hms_pos R s h))
  refine IsReal.add ?_ eps_real
  rw [ofBits_128]
  exact (IsReal.sum _ fun l => (hR.o s h l).mul (hR.o s h l)).over _ (by norm_num)

include hP

theorem u_real (s : Fin 2) (h : Fin 8) (l : Fin 128) : IsReal (u R P s h l) :=
  (IsReal.mul (sg_real _) (((nr_real hR s h l).mul (hP.g s h l)).mul ((hR.z s h l).mul (sg_real _))))
theorem y_real (j : Fin 1024) : IsReal (y R P j) :=
  (hR.x j).add ((hP.gate j).mul (IsReal.sum _ fun k => ((u_real hR hP 0 _ _).add (u_real hR hP 1 _ _)).mul (hP.w k j)))
theorem rs_real : IsReal (rs R P) := by
  refine IsReal.rsqrt (IsReal.add ?_ eps_real) (meanSq_pos fun k => y R P k)
  unfold ms
  rw [ofBits_1024]
  exact (IsReal.sum _ fun j => (y_real hR hP j).mul (y_real hR hP j)).over _ (by norm_num)
theorem dout_real (j : Fin 1024) : IsReal (dout R P j) := by
  refine IsReal.mul ?_ ⟨_, ofBits_inv1024⟩
  exact ((((y_real hR hP j).mul (rs_real hR hP)).mul (hP.fg j)).sub (hR.t j))
theorem dm_real (k : Fin 1024) : IsReal (dm R P k) := by
  refine IsReal.sum _ fun j => IsReal.mul (IsReal.mul ?_ (hP.gate j)) (hP.w k j)
  have hr := rs_real hR hP
  refine (hr.mul ((dout_real hR hP j).mul (hP.fg j))).sub ((((y_real hR hP j).mul hr).mul (hr.mul hr)).mul ?_)
  rw [ofBits_1024]
  exact (IsReal.sum _ fun i => (y_real hR hP i).mul ((dout_real hR hP i).mul (hP.fg i))).over _ (by norm_num)

/-- The silu gate's cotangent, as the product rule gives it, is the kernel's where the row and the weights are real. -/
theorem dzg_ref (s : Fin 2) (h : Fin 8) (l : Fin 128) (k : Fin 1024) (hk : k = col h l) :
    nr R s (hd k) (ln k) * P.g s (hd k) (ln k) * (sg (R.q s (hd k) (ln k)) * dm R P k) * sg (R.z s (hd k) (ln k))
      + R.z s (hd k) (ln k) * (nr R s (hd k) (ln k) * P.g s (hd k) (ln k) * (sg (R.q s (hd k) (ln k)) * dm R P k))
        * (sg (R.z s (hd k) (ln k)) * (1 - sg (R.z s (hd k) (ln k)))) = dzg R P s h l := by
  subst hk
  rw [hd_col, ln_col]
  obtain ⟨g, hg⟩ : IsReal (nr R s h l * P.g s h l * (sg (R.q s h l) * dm R P (col h l))) :=
    ((nr_real hR s h l).mul (hP.g s h l)).mul (IsReal.mul (sg_real _) (dm_real hR hP _))
  rw [hg, silu_entry, ← hg]
  unfold dzg
  rw [mul_comm (sg (R.q s h l)), mul_comm (nr R s h l * P.g s h l)]

end Cert.Hand.Merge

end
-- ==== Proof.MidRef.lean ====
/- The reference's arrays, entry by entry. -/
module

public import proofs.«01_k».proof.Proof.MidEq
public import proofs.«01_k».proof.Proof.Gen.MidRefIdeal.Run
public import Idealize.ShloMosaic.Lib.Tactic.CleanTypes

@[expose] public section

set_option maxRecDepth 16384
set_option maxHeartbeats 2000000
noncomputable section

namespace Cert.MidRefIdeal.Value

open Cert.MidRefIdeal Cert.MidRefIdeal.Gen Idealize.ShloMosaic Idealize.ShloMosaic.TcCoe Idealize.SL.Sem
open Cert.Hand
open Cert.Hand.Merge (hd ln col)

variable (V : Valuation τ sig (Elt Ideal))

/-- Row `r` of the arguments, and the weights. -/
abbrev rowV (r : Fin 4096) : Merge.Row :=
  Merge.rowOf (V (Proc.devRef .tc main_arg0)) (V (Proc.devRef .tc main_arg1)) (V (Proc.devRef .tc main_arg2)) (V (Proc.devRef .tc main_arg3)) (V (Proc.devRef .tc main_arg4)) r
abbrev parV : Merge.Par :=
  Merge.parOf (V (Proc.devRef .tc main_arg5)) (V (Proc.devRef .tc main_arg6)) (V (Proc.devRef .tc main_arg7)) (V (Proc.devRef .tc main_arg8)) (V (Proc.devRef .tc main_arg9))

/-- An entry of the projection at two equal columns. -/
theorem cols (r : Fin 4096) (a b : Fin 9216) (h : a.val = b.val) :
    V (Proc.devRef .tc main_arg4) (ix3 0 r a) = V (Proc.devRef .tc main_arg4) (ix3 0 r b) := by
  rw [Fin.ext h]

/-- A sum over axes of which two have length one keeps the entry. -/
theorem sum_rows (v : FVec Ideal S1x4096x1 .f32) (z : EReal) (r : Fin 4096) :
    Ideal.hostReduceAdd reducesTo_S1x4096x1_S4096_d0_2 v z (ix1 r) = z + v (ix3 0 r 0) := by
  unfold Ideal.hostReduceAdd
  congr 1
  refine Finset.sum_eq_single_of_mem (ix3 (0 : Fin 1) r (0 : Fin 1)) ?_ ?_
  · rw [Finset.mem_filter]
    refine ⟨Finset.mem_univ _, funext fun k => Fin.ext ?_⟩
    rw [Shape.ReducesTo.drop_apply_val]
    match k with
    | ⟨0, _⟩ => rfl
  · intro i hi hne
    rw [Finset.mem_filter] at hi
    exfalso
    refine hne ?_
    have h1 := congrArg Fin.val (congrFun hi.2 0)
    rw [Shape.ReducesTo.drop_apply_val] at h1
    funext k
    match k with
    | ⟨0, _⟩ => exact Subsingleton.elim (α := Fin 1) _ _
    | ⟨1, _⟩ => exact Fin.ext h1
    | ⟨2, _⟩ => exact Subsingleton.elim (α := Fin 1) _ _

theorem sum_heads (v : FVec Ideal S1x4096x8x1 .f32) (z : EReal) (r : Fin 4096) (h : Fin 8) :
    Ideal.hostReduceAdd reducesTo_S1x4096x8x1_S4096x8_d0_3 v z (ix2 r h) = z + v (ix4 0 r h 0) := by
  unfold Ideal.hostReduceAdd
  congr 1
  refine Finset.sum_eq_single_of_mem (ix4 (0 : Fin 1) r h (0 : Fin 1)) ?_ ?_
  · rw [Finset.mem_filter]
    refine ⟨Finset.mem_univ _, funext fun k => Fin.ext ?_⟩
    rw [Shape.ReducesTo.drop_apply_val]
    match k with
    | ⟨0, _⟩ => rfl
    | ⟨1, _⟩ => rfl
  · intro i hi hne
    rw [Finset.mem_filter] at hi
    exfalso
    refine hne ?_
    have h1 := congrArg Fin.val (congrFun hi.2 0)
    have h2 := congrArg Fin.val (congrFun hi.2 1)
    rw [Shape.ReducesTo.drop_apply_val] at h1 h2
    funext k
    match k with
    | ⟨0, _⟩ => exact Subsingleton.elim (α := Fin 1) _ _
    | ⟨1, _⟩ => exact Fin.ext h1
    | ⟨2, _⟩ => exact Fin.ext h2
    | ⟨3, _⟩ => exact Subsingleton.elim (α := Fin 1) _ _

theorem v10_apply (r : Fin 4096) (h : Fin 8) : res_main_v10 V (ix4 0 r h 0) = Merge.hms (rowV V r) 0 h := by
  unfold res_main_v10
  clean_types
  pointwise []
  rfl

theorem v11_apply (r : Fin 4096) (h : Fin 8) : res_main_v11 V (ix4 0 r h 0) = Merge.rr (rowV V r) 0 h := by
  unfold res_main_v11
  clean_types
  pointwise [v10_apply]
  rfl

theorem v16_apply (r : Fin 4096) (h : Fin 8) (l : Fin 128) : res_main_v16 V (ix4 0 r h l) = Merge.nr (rowV V r) 0 h l := by
  unfold res_main_v16
  clean_types
  pointwise [v11_apply]
  rfl

theorem v18_apply (h : Fin 8) (l : Fin 128) : res_main_v18 V (ix4 0 0 h l) = (parV V).g 0 h l := by
  unfold res_main_v18
  clean_types
  pointwise []
  exact congrArg (V _) (congrArg ix1 (Fin.ext (by show h.val * 128 + l.val = 128 * h.val + l.val; omega)))

theorem v21_apply (r : Fin 4096) (k : Fin 1024) : res_main_v21 V (ix3 0 r k) = Merge.nr (rowV V r) 0 (hd k) (ln k) * (parV V).g 0 (hd k) (ln k) := by
  unfold res_main_v21
  clean_types
  pointwise [v16_apply, v18_apply]
  rfl

theorem v0_apply (r : Fin 4096) (k : Fin 1024) : res_main_v0 V (ix3 0 r k) = (rowV V r).z 0 (hd k) (ln k) := by
  unfold res_main_v0
  clean_types
  pointwise []
  exact cols V r _ _ (by simp only [col, hd, ln]; omega)

theorem v22_2_apply (r : Fin 4096) (k : Fin 1024) : res_main_v22_2 V (ix3 0 r k) = Merge.sg ((rowV V r).z 0 (hd k) (ln k)) := by
  unfold res_main_v22_2
  clean_types
  pointwise [v0_apply]
  exact Merge.sg_eq _

theorem v22_0_apply (r : Fin 4096) (k : Fin 1024) : res_main_v22_0 V (ix3 0 r k) = (rowV V r).z 0 (hd k) (ln k) * Merge.sg ((rowV V r).z 0 (hd k) (ln k)) := by
  unfold res_main_v22_0
  clean_types
  pointwise [v0_apply, v22_2_apply]

theorem v23_apply (r : Fin 4096) (k : Fin 1024) : res_main_v23 V (ix3 0 r k) = Merge.nr (rowV V r) 0 (hd k) (ln k) * (parV V).g 0 (hd k) (ln k) * ((rowV V r).z 0 (hd k) (ln k) * Merge.sg ((rowV V r).z 0 (hd k) (ln k))) := by
  unfold res_main_v23
  clean_types
  pointwise [v21_apply, v22_0_apply]

theorem v49_apply (r : Fin 4096) (k : Fin 1024) : res_main_v49 V (ix3 0 r k) = Merge.sg ((rowV V r).q 0 (hd k) (ln k)) := by
  unfold res_main_v49
  clean_types
  pointwise []
  exact (Merge.sg_eq _).trans (congrArg Merge.sg (cols V r _ _ (by simp only [col, hd, ln]; omega)))

theorem v30_apply (r : Fin 4096) (h : Fin 8) : res_main_v30 V (ix4 0 r h 0) = Merge.hms (rowV V r) 1 h := by
  unfold res_main_v30
  clean_types
  pointwise []
  rfl

theorem v31_apply (r : Fin 4096) (h : Fin 8) : res_main_v31 V (ix4 0 r h 0) = Merge.rr (rowV V r) 1 h := by
  unfold res_main_v31
  clean_types
  pointwise [v30_apply]
  rfl

theorem v36_apply (r : Fin 4096) (h : Fin 8) (l : Fin 128) : res_main_v36 V (ix4 0 r h l) = Merge.nr (rowV V r) 1 h l := by
  unfold res_main_v36
  clean_types
  pointwise [v31_apply]
  rfl

theorem v38_apply (h : Fin 8) (l : Fin 128) : res_main_v38 V (ix4 0 0 h l) = (parV V).g 1 h l := by
  unfold res_main_v38
  clean_types
  pointwise []
  exact congrArg (V _) (congrArg ix1 (Fin.ext (by show h.val * 128 + l.val = 128 * h.val + l.val; omega)))

theorem v41_apply (r : Fin 4096) (k : Fin 1024) : res_main_v41 V (ix3 0 r k) = Merge.nr (rowV V r) 1 (hd k) (ln k) * (parV V).g 1 (hd k) (ln k) := by
  unfold res_main_v41
  clean_types
  pointwise [v36_apply, v38_apply]
  rfl

theorem v1_apply (r : Fin 4096) (k : Fin 1024) : res_main_v1 V (ix3 0 r k) = (rowV V r).z 1 (hd k) (ln k) := by
  unfold res_main_v1
  clean_types
  pointwise []
  exact cols V r _ _ (by simp only [col, hd, ln]; omega)

theorem v42_2_apply (r : Fin 4096) (k : Fin 1024) : res_main_v42_2 V (ix3 0 r k) = Merge.sg ((rowV V r).z 1 (hd k) (ln k)) := by
  unfold res_main_v42_2
  clean_types
  pointwise [v1_apply]
  exact Merge.sg_eq _

theorem v42_0_apply (r : Fin 4096) (k : Fin 1024) : res_main_v42_0 V (ix3 0 r k) = (rowV V r).z 1 (hd k) (ln k) * Merge.sg ((rowV V r).z 1 (hd k) (ln k)) := by
  unfold res_main_v42_0
  clean_types
  pointwise [v1_apply, v42_2_apply]

theorem v43_apply (r : Fin 4096) (k : Fin 1024) : res_main_v43 V (ix3 0 r k) = Merge.nr (rowV V r) 1 (hd k) (ln k) * (parV V).g 1 (hd k) (ln k) * ((rowV V r).z 1 (hd k) (ln k) * Merge.sg ((rowV V r).z 1 (hd k) (ln k))) := by
  unfold res_main_v43
  clean_types
  pointwise [v41_apply, v42_0_apply]

theorem v59_apply (r : Fin 4096) (k : Fin 1024) : res_main_v59 V (ix3 0 r k) = Merge.sg ((rowV V r).q 1 (hd k) (ln k)) := by
  unfold res_main_v59
  clean_types
  pointwise []
  exact (Merge.sg_eq _).trans (congrArg Merge.sg (cols V r _ _ (by simp only [col, hd, ln]; omega)))

theorem v64_apply (r : Fin 4096) (k : Fin 1024) : res_main_v64 V (ix3 0 r k) = Merge.mix (rowV V r) (parV V) k := by
  unfold res_main_v64
  clean_types
  pointwise [v49_apply, v23_apply, v59_apply, v43_apply]
  rfl

theorem v65_apply (r : Fin 4096) (j : Fin 1024) : res_main_v65 V (ix3 0 r j) = Merge.zv (rowV V r) (parV V) j := by
  unfold res_main_v65
  clean_types
  pointwise [v64_apply]
  rfl

theorem v66_apply (j : Fin 1024) : res_main_v66 V (ix3 0 0 j) = (parV V).gate j := by
  unfold res_main_v66
  clean_types
  pointwise []
  rfl

theorem v69_apply (r : Fin 4096) (j : Fin 1024) : res_main_v69 V (ix3 0 r j) = Merge.y (rowV V r) (parV V) j := by
  unfold res_main_v69
  clean_types
  pointwise [v65_apply, v66_apply]
  rfl

theorem v76_apply (r : Fin 4096) : res_main_v76 V (ix3 0 r 0) = Merge.ms (rowV V r) (parV V) + Ideal.ofBits .f32 897988541#32 := by
  unfold res_main_v76
  clean_types
  pointwise [v69_apply]
  rfl

theorem v77_apply (r : Fin 4096) : res_main_v77 V (ix3 0 r 0) = Merge.rs (rowV V r) (parV V) := by
  unfold res_main_v77
  clean_types
  pointwise [v76_apply]
  rfl

theorem v82_apply (r : Fin 4096) (j : Fin 1024) : res_main_v82 V (ix3 0 r j) = Merge.y (rowV V r) (parV V) j * Merge.rs (rowV V r) (parV V) := by
  unfold res_main_v82
  clean_types
  pointwise [v69_apply, v77_apply]

theorem v83_apply (j : Fin 1024) : res_main_v83 V (ix3 0 0 j) = (parV V).fg j := by
  unfold res_main_v83
  clean_types
  pointwise []
  rfl

theorem v86_apply (r : Fin 4096) (j : Fin 1024) : res_main_v86 V (ix3 0 r j) = Merge.err (rowV V r) (parV V) j := by
  unfold res_main_v86
  clean_types
  pointwise [v82_apply, v83_apply]
  rfl

theorem v100_apply (r : Fin 4096) (j : Fin 1024) : res_main_v100 V (ix3 0 r j) = Merge.dout (rowV V r) (parV V) j := by
  unfold res_main_v100
  clean_types
  pointwise [v86_apply]
  exact Merge.dout_ref _

theorem v105_apply (r : Fin 4096) (j : Fin 1024) : res_main_v105 V (ix3 0 r j) = Merge.dout (rowV V r) (parV V) j * (parV V).fg j := by
  unfold res_main_v105
  clean_types
  pointwise [v100_apply, v83_apply]

theorem v117_apply (r : Fin 4096) (j : Fin 1024) : res_main_v117 V (ix3 0 r j) = Merge.pull (rowV V r) (parV V) := by
  unfold res_main_v117
  clean_types
  pointwise [v69_apply, v105_apply, v76_apply, v77_apply, sum_rows]
  rfl

theorem v121_apply (r : Fin 4096) (j : Fin 1024) : res_main_v121 V (ix3 0 r j) = Merge.dy (rowV V r) (parV V) j := by
  unfold res_main_v121
  clean_types
  pointwise [v105_apply, v77_apply, v69_apply, v117_apply]
  exact (Merge.dy_ref _ _ _)

theorem v123_apply (r : Fin 4096) (j : Fin 1024) : res_main_v123 V (ix3 0 r j) = Merge.dz (rowV V r) (parV V) j := by
  unfold res_main_v123
  clean_types
  pointwise [v66_apply, v121_apply]
  exact mul_comm _ _

theorem v131_apply (r : Fin 4096) (k : Fin 1024) : res_main_v131 V (ix3 0 r k) = Merge.dm (rowV V r) (parV V) k := by
  unfold res_main_v131
  clean_types
  pointwise [v123_apply]
  rfl

theorem v135_apply (r : Fin 4096) (k : Fin 1024) : res_main_v135 V (ix3 0 r k) = Merge.sg ((rowV V r).q 0 (hd k) (ln k)) * Merge.dm (rowV V r) (parV V) k := by
  unfold res_main_v135
  clean_types
  pointwise [v49_apply, v131_apply]

theorem v164_apply (r : Fin 4096) (k : Fin 1024) : res_main_v164 V (ix3 0 r k) = Merge.nr (rowV V r) 0 (hd k) (ln k) * (parV V).g 0 (hd k) (ln k) * (Merge.sg ((rowV V r).q 0 (hd k) (ln k)) * Merge.dm (rowV V r) (parV V) k) := by
  unfold res_main_v164
  clean_types
  pointwise [v21_apply, v135_apply]

theorem v167_apply (r : Fin 4096) (h : Fin 8) (l : Fin 128) : res_main_v167 V (ix4 0 r h l) = Merge.dn (rowV V r) (parV V) 0 h l := by
  unfold res_main_v167
  clean_types
  pointwise [v135_apply, v22_0_apply]
  exact Merge.dn_ref _ _ _ _ _ _ (Fin.ext (by show h.val * 128 + l.val = 128 * h.val + l.val; omega))

theorem v172_apply (r : Fin 4096) (h : Fin 8) (l : Fin 128) : res_main_v172 V (ix4 0 r h l) = Merge.dn (rowV V r) (parV V) 0 h l * (parV V).g 0 h l := by
  unfold res_main_v172
  clean_types
  pointwise [v167_apply, v18_apply]

theorem v185_apply (r : Fin 4096) (h : Fin 8) (l : Fin 128) : res_main_v185 V (ix4 0 r h l) = Merge.hpull (rowV V r) (parV V) 0 h := by
  unfold res_main_v185
  clean_types
  pointwise [v172_apply, v10_apply, v11_apply, sum_heads]
  rfl

theorem v132_apply (r : Fin 4096) (k : Fin 1024) : res_main_v132 V (ix3 0 r k) = Merge.sg ((rowV V r).q 1 (hd k) (ln k)) * Merge.dm (rowV V r) (parV V) k := by
  unfold res_main_v132
  clean_types
  pointwise [v59_apply, v131_apply]

theorem v138_apply (r : Fin 4096) (k : Fin 1024) : res_main_v138 V (ix3 0 r k) = Merge.nr (rowV V r) 1 (hd k) (ln k) * (parV V).g 1 (hd k) (ln k) * (Merge.sg ((rowV V r).q 1 (hd k) (ln k)) * Merge.dm (rowV V r) (parV V) k) := by
  unfold res_main_v138
  clean_types
  pointwise [v41_apply, v132_apply]

theorem v141_apply (r : Fin 4096) (h : Fin 8) (l : Fin 128) : res_main_v141 V (ix4 0 r h l) = Merge.dn (rowV V r) (parV V) 1 h l := by
  unfold res_main_v141
  clean_types
  pointwise [v132_apply, v42_0_apply]
  exact Merge.dn_ref _ _ _ _ _ _ (Fin.ext (by show h.val * 128 + l.val = 128 * h.val + l.val; omega))

theorem v146_apply (r : Fin 4096) (h : Fin 8) (l : Fin 128) : res_main_v146 V (ix4 0 r h l) = Merge.dn (rowV V r) (parV V) 1 h l * (parV V).g 1 h l := by
  unfold res_main_v146
  clean_types
  pointwise [v141_apply, v38_apply]

theorem v159_apply (r : Fin 4096) (h : Fin 8) (l : Fin 128) : res_main_v159 V (ix4 0 r h l) = Merge.hpull (rowV V r) (parV V) 1 h := by
  unfold res_main_v159
  clean_types
  pointwise [v146_apply, v30_apply, v31_apply, sum_heads]
  rfl

end Cert.MidRefIdeal.Value
end
-- ==== Proof.MidRes.lean ====
/- The reference's six results, entry by entry. -/
module

public import proofs.«01_k».proof.Proof.MidRef

@[expose] public section

set_option maxRecDepth 16384
set_option maxHeartbeats 4000000
noncomputable section

namespace Cert.MidRefIdeal.Value

open Cert.MidRefIdeal Cert.MidRefIdeal.Gen Idealize.ShloMosaic Idealize.ShloMosaic.TcCoe Idealize.SL.Sem
open Cert.Hand
open Cert.Hand.Merge (hd ln col)

theorem sum_cols (v : FVec Ideal S1x1x1024 .f32) (z : EReal) (j : Fin 1024) :
    Ideal.hostReduceAdd reducesTo_S1x1x1024_S1024_d0_1 v z (ix1 j) = z + v (ix3 0 0 j) := by
  unfold Ideal.hostReduceAdd
  congr 1
  refine Finset.sum_eq_single_of_mem (ix3 (0 : Fin 1) (0 : Fin 1) j) ?_ ?_
  · rw [Finset.mem_filter]
    refine ⟨Finset.mem_univ _, funext fun k => Fin.ext ?_⟩
    rw [Shape.ReducesTo.drop_apply_val]
    match k with
    | ⟨0, _⟩ => rfl
  · intro i hi hne
    rw [Finset.mem_filter] at hi
    exfalso
    refine hne ?_
    have h1 := congrArg Fin.val (congrFun hi.2 0)
    rw [Shape.ReducesTo.drop_apply_val] at h1
    funext k
    match k with
    | ⟨0, _⟩ => exact Subsingleton.elim (α := Fin 1) _ _
    | ⟨1, _⟩ => exact Subsingleton.elim (α := Fin 1) _ _
    | ⟨2, _⟩ => exact Fin.ext h1

theorem sum_lanes (v : FVec Ideal S1x1x8x128 .f32) (z : EReal) (h : Fin 8) (l : Fin 128) :
    Ideal.hostReduceAdd reducesTo_S1x1x8x128_S8x128_d0_1 v z (ix2 h l) = z + v (ix4 0 0 h l) := by
  unfold Ideal.hostReduceAdd
  congr 1
  refine Finset.sum_eq_single_of_mem (ix4 (0 : Fin 1) (0 : Fin 1) h l) ?_ ?_
  · rw [Finset.mem_filter]
    refine ⟨Finset.mem_univ _, funext fun k => Fin.ext ?_⟩
    rw [Shape.ReducesTo.drop_apply_val]
    match k with
    | ⟨0, _⟩ => rfl
    | ⟨1, _⟩ => rfl
  · intro i hi hne
    rw [Finset.mem_filter] at hi
    exfalso
    refine hne ?_
    have h1 := congrArg Fin.val (congrFun hi.2 0)
    have h2 := congrArg Fin.val (congrFun hi.2 1)
    rw [Shape.ReducesTo.drop_apply_val] at h1 h2
    funext k
    match k with
    | ⟨0, _⟩ => exact Subsingleton.elim (α := Fin 1) _ _
    | ⟨1, _⟩ => exact Subsingleton.elim (α := Fin 1) _ _
    | ⟨2, _⟩ => exact Fin.ext h1
    | ⟨3, _⟩ => exact Fin.ext h2

variable (V : Valuation τ sig (Elt Ideal))

abbrev resDy : FVec Ideal S4096x1024 .f32 := shapeCast _ (res_main_v121 V) shapeCasts_S1x4096x1024_S4096x1024
abbrev resDoA : FVec Ideal S8x4096x128 .bf16 := truncf .bf16 (transpose S8x4096x128 [1, 0, 2] (shapeCast _ (addf (addf (mulf (res_main_v172 V) (broadcastInDim S1x4096x8x128 ![0, 1, 2, 3] bcast_S1x4096x8x1_S1x4096x8x128_0_1_2_3 (res_main_v11 V))) (mulf (V (Proc.devRef .tc main_arg2)) (res_main_v185 V))) (mulf (res_main_v185 V) (V (Proc.devRef .tc main_arg2)))) shapeCasts_S1x4096x8x128_S4096x8x128) transposes_S4096x8x128_S8x4096x128_1_0_2) bitsLt_bf16_f32
abbrev resDoB : FVec Ideal S8x4096x128 .bf16 := truncf .bf16 (transpose S8x4096x128 [1, 0, 2] (shapeCast _ (addf (addf (mulf (res_main_v146 V) (broadcastInDim S1x4096x8x128 ![0, 1, 2, 3] bcast_S1x4096x8x1_S1x4096x8x128_0_1_2_3 (res_main_v31 V))) (mulf (V (Proc.devRef .tc main_arg3)) (res_main_v159 V))) (mulf (res_main_v159 V) (V (Proc.devRef .tc main_arg3)))) shapeCasts_S1x4096x8x128_S4096x8x128) transposes_S4096x8x128_S8x4096x128_1_0_2) bitsLt_bf16_f32
abbrev resDw : FVec Ideal S1024x1024 .f32 := transpose S1024x1024 [1, 0] (Host.dotGeneral (φ₁ := .f32) (φ₂ := .f32) dot_S1x4096x1024_S1x4096x1024_S1024x1024_01_01_2_2_n_n none (res_main_v123 V) (res_main_v64 V)) transposes_S1024x1024_S1024x1024_1_0

theorem dy_apply (r : Fin 4096) (j : Fin 1024) : resDy V (ix2 r j) = Merge.dy (rowV V r) (parV V) j := by
  unfold resDy
  pointwise [v121_apply]
theorem doA_apply (h : Fin 8) (r : Fin 4096) (l : Fin 128) : resDoA V (ix3 h r l) = Merge.dO (rowV V r) (parV V) 0 h l := by
  unfold resDoA
  clean_types
  pointwise [v172_apply, v11_apply, v185_apply]
  exact Merge.dO_ref _ _ 0 h l
theorem doB_apply (h : Fin 8) (r : Fin 4096) (l : Fin 128) : resDoB V (ix3 h r l) = Merge.dO (rowV V r) (parV V) 1 h l := by
  unfold resDoB
  clean_types
  pointwise [v146_apply, v31_apply, v159_apply]
  exact Merge.dO_ref _ _ 1 h l
theorem dw_apply (k j : Fin 1024) : resDw V (ix2 k j) = ∑ r : Fin 4096, Merge.mix (rowV V r) (parV V) k * Merge.dz (rowV V r) (parV V) j := by
  unfold resDw
  clean_types
  pointwise []
  rw [Fin.sum_univ_one]
  exact Fintype.sum_congr _ _ fun r => by rw [v123_apply, v64_apply, mul_comm]

abbrev vec0 : FVec Ideal S1x1024 .f32 := broadcastInDim S1x1024 ![1] bcast_S1024_S1x1024_1 (Host.reduceAdd (shapeCast _ (Host.reduceAdd (mulf (res_main_v82 V) (res_main_v100 V)) (constant S_ .f32 0x00000000#32) reducesTo_S1x4096x1024_S1x1024_d1 h_S_) shapeCasts_S1x1024_S1x1x1024) (constant S_ .f32 0x00000000#32) reducesTo_S1x1x1024_S1024_d0_1 h_S_)
abbrev vec1 : FVec Ideal S1x1024 .f32 := broadcastInDim S1x1024 ![1] bcast_S1024_S1x1024_1 (shapeCast _ (broadcastInDim S1x1024 ![1] bcast_S1024_S1x1024_1 (Host.reduceAdd (shapeCast _ (Host.reduceAdd (mulf (res_main_v121 V) (res_main_v65 V)) (constant S_ .f32 0x00000000#32) reducesTo_S1x4096x1024_S1x1024_d1 h_S_) shapeCasts_S1x1024_S1x1x1024) (constant S_ .f32 0x00000000#32) reducesTo_S1x1x1024_S1024_d0_1 h_S_)) shapeCasts_S1x1024_S1024)
abbrev vec2 : FVec Ideal S1x1024 .f32 := broadcastInDim S1x1024 ![1] bcast_S1024_S1x1024_1 (broadcastInDim S1024 ![] bcast_S_S1024 (mulf (constant S_ .f32 0x3F000000#32) (Host.reduceAdd (Host.divf (Host.reduceAdd (mulf (res_main_v86 V) (res_main_v86 V)) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_)))
abbrev vec3 : FVec Ideal S1x1024 .f32 := broadcastInDim S1x1024 ![1] bcast_S1024_S1x1024_1 (shapeCast _ (Host.reduceAdd (shapeCast _ (Host.reduceAdd (mulf (res_main_v16 V) (res_main_v167 V)) (constant S_ .f32 0x00000000#32) reducesTo_S1x4096x8x128_S1x8x128_d1 h_S_) shapeCasts_S1x8x128_S1x1x8x128) (constant S_ .f32 0x00000000#32) reducesTo_S1x1x8x128_S8x128_d0_1 h_S_) shapeCasts_S8x128_S1024)
abbrev vec4 : FVec Ideal S1x1024 .f32 := broadcastInDim S1x1024 ![1] bcast_S1024_S1x1024_1 (shapeCast _ (Host.reduceAdd (shapeCast _ (Host.reduceAdd (mulf (res_main_v36 V) (res_main_v141 V)) (constant S_ .f32 0x00000000#32) reducesTo_S1x4096x8x128_S1x8x128_d1 h_S_) shapeCasts_S1x8x128_S1x1x8x128) (constant S_ .f32 0x00000000#32) reducesTo_S1x1x8x128_S8x128_d0_1 h_S_) shapeCasts_S8x128_S1024)
abbrev vec5 : FVec Ideal S1x1024 .f32 := broadcastInDim S1x1024 ![1] bcast_S1024_S1x1024_1 (res_main_v192 V)
abbrev resVec : FVec Ideal S8x1024 .f32 := concatenate S8x1024 0 [⟨S1x1024, vec0 V⟩, ⟨S1x1024, vec1 V⟩, ⟨S1x1024, vec2 V⟩, ⟨S1x1024, vec3 V⟩, ⟨S1x1024, vec4 V⟩, ⟨S1x1024, vec5 V⟩, ⟨S1x1024, vec5 V⟩, ⟨S1x1024, vec5 V⟩] concatenates_S1x1024_S1x1024_S1x1024_S1x1024_S1x1024_S1x1024_S1x1024_S1x1024_S8x1024_d0

theorem vec_apply (a : Fin 8) (j : Fin 1024) : resVec V (ix2 a j) = Merge.rowSum (rowV V) (parV V) a j := by
  unfold resVec
  dsimp only [vec5, res_main_v192]
  clean_types
  pointwise [sum_cols, sum_lanes, v82_apply, v100_apply, v121_apply, v65_apply, v86_apply, v16_apply, v167_apply, v36_apply, v141_apply]
  unfold Merge.rowSum
  simp only [dite_eq_ite, Fin.sum_univ_one, ite_self]
  rfl

abbrev slabs (v : FVec Ideal S1x4096x1024 .f32) : FVec Ideal S8x4096x128 .bf16 :=
  truncf .bf16 (transpose S8x4096x128 [1, 0, 2] (shapeCast _ (shapeCast _ v shapeCasts_S1x4096x1024_S4096x1024) shapeCasts_S4096x1024_S4096x8x128) transposes_S4096x8x128_S8x4096x128_1_0_2) bitsLt_bf16_f32
theorem slabs_apply (v : FVec Ideal S1x4096x1024 .f32) (h : Fin 8) (r : Fin 4096) (l : Fin 128) : slabs v (ix3 h r l) = v (ix3 0 r ⟨h.val * 128 + l.val, by omega⟩) := by
  unfold slabs
  pointwise []

abbrev resDpb : FVec Ideal S72x4096x128 .bf16 := concatenate S72x4096x128 0 [⟨S24x4096x128, (broadcastInDim S24x4096x128 ![] bcast_S_S24x4096x128 (constant S_ .bf16 0x0000#16) : FVec Ideal S24x4096x128 .bf16)⟩,
  ⟨S8x4096x128, slabs (addf (mulf (res_main_v164 V) (res_main_v22_2 V)) (mulf (mulf (res_main_v0 V) (res_main_v164 V)) (mulf (res_main_v22_2 V) (subf (broadcastInDim S1x4096x1024 ![] bcast_S_S1x4096x1024 (constant S_ .f32 0x3F800000#32)) (res_main_v22_2 V)))))⟩,
  ⟨S16x4096x128, (broadcastInDim S16x4096x128 ![] bcast_S_S16x4096x128 (constant S_ .bf16 0x0000#16) : FVec Ideal S16x4096x128 .bf16)⟩,
  ⟨S8x4096x128, slabs (addf (mulf (res_main_v138 V) (res_main_v42_2 V)) (mulf (mulf (res_main_v1 V) (res_main_v138 V)) (mulf (res_main_v42_2 V) (subf (broadcastInDim S1x4096x1024 ![] bcast_S_S1x4096x1024 (constant S_ .f32 0x3F800000#32)) (res_main_v42_2 V)))))⟩,
  ⟨S8x4096x128, slabs (mulf (mulf (res_main_v131 V) (res_main_v23 V)) (mulf (res_main_v49 V) (subf (broadcastInDim S1x4096x1024 ![] bcast_S_S1x4096x1024 (constant S_ .f32 0x3F800000#32)) (res_main_v49 V))))⟩,
  ⟨S8x4096x128, slabs (mulf (mulf (res_main_v131 V) (res_main_v43 V)) (mulf (res_main_v59 V) (subf (broadcastInDim S1x4096x1024 ![] bcast_S_S1x4096x1024 (constant S_ .f32 0x3F800000#32)) (res_main_v59 V))))⟩]
  concatenates_S24x4096x128_S8x4096x128_S16x4096x128_S8x4096x128_S8x4096x128_S8x4096x128_S72x4096x128_d0

abbrev inHead (s : Fin 72) : Fin 8 := ⟨s.val % 8, Nat.mod_lt _ (by decide)⟩

theorem dpb_3 (s : Fin 72) (hs : s.val / 8 = 3) (r : Fin 4096) (l : Fin 128) (hR : (rowV V r).Real) (hP : (parV V).Real) :
    resDpb V (ix3 s r l) = Merge.dzg (rowV V r) (parV V) 0 (inHead s) l := by
  have h1 : ¬ s.val < 24 := by omega
  have h2 : s.val - 24 < 8 := by omega
  unfold resDpb
  clean_types
  pointwise [slabs_apply, v164_apply, v22_2_apply, v0_apply]
  simp only [h1, h2, dif_pos, dif_neg, not_false_eq_true]
  exact Merge.dzg_ref hR hP 0 (inHead s) l _ (Fin.ext (by show (s.val - 24) * 128 + l.val = 128 * (s.val % 8) + l.val; omega))
theorem dpb_6 (s : Fin 72) (hs : s.val / 8 = 6) (r : Fin 4096) (l : Fin 128) (hR : (rowV V r).Real) (hP : (parV V).Real) :
    resDpb V (ix3 s r l) = Merge.dzg (rowV V r) (parV V) 1 (inHead s) l := by
  have h1 : ¬ s.val < 24 := by omega
  have h2 : ¬ s.val - 24 < 8 := by omega
  have h3 : ¬ s.val - 24 - 8 < 16 := by omega
  have h4 : s.val - 24 - 8 - 16 < 8 := by omega
  unfold resDpb
  clean_types
  pointwise [slabs_apply, v138_apply, v42_2_apply, v1_apply]
  simp only [h1, h2, h3, h4, dif_pos, dif_neg, not_false_eq_true]
  exact Merge.dzg_ref hR hP 1 (inHead s) l _ (Fin.ext (by show (s.val - 24 - 8 - 16) * 128 + l.val = 128 * (s.val % 8) + l.val; omega))
theorem dpb_7 (s : Fin 72) (hs : s.val / 8 = 7) (r : Fin 4096) (l : Fin 128) :
    resDpb V (ix3 s r l) = Merge.dq (rowV V r) (parV V) 0 (inHead s) l := by
  have h1 : ¬ s.val < 24 := by omega
  have h2 : ¬ s.val - 24 < 8 := by omega
  have h3 : ¬ s.val - 24 - 8 < 16 := by omega
  have h4 : ¬ s.val - 24 - 8 - 16 < 8 := by omega
  have h5 : s.val - 24 - 8 - 16 - 8 < 8 := by omega
  unfold resDpb
  clean_types
  pointwise [slabs_apply, v131_apply, v23_apply, v49_apply]
  simp only [h1, h2, h3, h4, h5, dif_pos, dif_neg, not_false_eq_true]
  exact Merge.dq_ref _ _ 0 (inHead s) l _ (Fin.ext (by show (s.val - 24 - 8 - 16 - 8) * 128 + l.val = 128 * (s.val % 8) + l.val; omega))
theorem dpb_8 (s : Fin 72) (hs : s.val / 8 = 8) (r : Fin 4096) (l : Fin 128) :
    resDpb V (ix3 s r l) = Merge.dq (rowV V r) (parV V) 1 (inHead s) l := by
  have h1 : ¬ s.val < 24 := by omega
  have h2 : ¬ s.val - 24 < 8 := by omega
  have h3 : ¬ s.val - 24 - 8 < 16 := by omega
  have h4 : ¬ s.val - 24 - 8 - 16 < 8 := by omega
  have h5 : ¬ s.val - 24 - 8 - 16 - 8 < 8 := by omega
  unfold resDpb
  clean_types
  pointwise [slabs_apply, v131_apply, v43_apply, v59_apply]
  simp only [h1, h2, h3, h4, h5, dif_pos, dif_neg, not_false_eq_true]
  exact Merge.dq_ref _ _ 1 (inHead s) l _ (Fin.ext (by show (s.val - 24 - 8 - 16 - 8 - 8) * 128 + l.val = 128 * (s.val % 8) + l.val; omega))

end Cert.MidRefIdeal.Value
end
-- ==== Proof.MidPair.lean ====
/- The two programs of the middle call: their results, and the equation between them. -/
module

public import proofs.«01_k».proof.Defs
public import proofs.«01_k».proof.Proof.MidArray
public import proofs.«01_k».proof.Proof.MidRes

@[expose] public section

set_option maxRecDepth 16384
noncomputable section

namespace Cert.MidPair

open Idealize.ShloMosaic Idealize.SL.Sem
open Cert.Hand
open Idealize.ShloMosaic.StableHlo (launchContents)

/-- The precondition's side conditions. -/
theorem preFacts : Cert.Pre_finite.Facts := by
  constructor <;> decide
theorem onFacts : Cert.On_mask.Facts := by
  constructor <;> decide

theorem real_of_lt (x : EReal) (h : Ideal.cmp .olt (max x (-x)) ⊤ = 1#1) : Merge.IsReal x := by
  induction x with
  | coe a => exact ⟨a, rfl⟩
  | top => exfalso; revert h; simp [Ideal.cmp]
  | bot => exfalso; revert h; simp [Ideal.cmp]

/-- The predicate's comparison at an entry: a magnitude below `⊤` is a real number's. -/
theorem real_of_abs {S : Shape} (h : (⟨0, ![]⟩ : Shape).BroadcastsInDim S (![] : Fin 0 → Fin S.rank)) (v : FVec Ideal S .f32)
    (e : cmpf .olt (Host.absf v) (broadcastInDim S ![] h (constant (F := Ideal) (⟨0, ![]⟩ : Shape) .f32 0x7F800000#32)) = fun _ => 1#1) (i : S.Idx) :
    Merge.IsReal (v i) := by
  have h2 : Ideal.cmp .olt (max (v i) (-(v i))) (Ideal.ofBits .f32 0x7F800000#32) = 1#1 := congrFun e i
  have h3 : Ideal.ofBits .f32 0x7F800000#32 = ⊤ := by simp [Ideal.ofBits, Ideal.ieee]
  rw [h3] at h2
  exact real_of_lt _ h2

attribute [local instance] preFacts onFacts

section

variable (m : (ℓ : Loc Cert.MidIdeal.nD Cert.MidIdeal.τ Cert.MidIdeal.sig) → Buf (Elt Ideal) ℓ)

/-- Under the precondition every row and the weights are real. -/
theorem row_real (h : Cert.Pre_MidIdeal_finite m) (c : Dev Cert.MidIdeal.nD) (r : Fin 4096) : (Cert.MidIdeal.Hand.rowM m c r).Real := by
  obtain ⟨h0, h1, h2, h3, h4, -⟩ := h c
  refine ⟨fun j => real_of_abs _ _ h0 _, fun j => real_of_abs _ _ h1 _, fun s h l => ?_, fun s h l => ?_⟩
  · match s with
    | 0 => exact real_of_abs _ _ h2 _
    | 1 => exact real_of_abs _ _ h3 _
  · match s with
    | 0 => exact real_of_abs _ _ h4 _
    | 1 => exact real_of_abs _ _ h4 _
theorem par_real (h : Cert.Pre_MidIdeal_finite m) (c : Dev Cert.MidIdeal.nD) : (Cert.MidIdeal.Hand.parM m c).Real := by
  obtain ⟨-, -, -, -, -, h5, h6, h7, h8, h9⟩ := h c
  refine ⟨fun k j => real_of_abs _ _ h5 _, fun j => real_of_abs _ _ h6 _, fun j => real_of_abs _ _ h7 _, fun s h l => ?_⟩
  match s with
  | 0 => exact real_of_abs _ _ h8 _
  | 1 => exact real_of_abs _ _ h9 _

end

/-- Where the last result's mask is set: the slabs of the four gates' columns. -/
theorem slab_word : ∀ s : Fin 72, IntOp.cmpi .sge (BitVec.ofNat 32 s.val) 24#32 &&& (IntOp.cmpi .slt (BitVec.ofNat 32 s.val) 32#32 ||| IntOp.cmpi .sge (BitVec.ofNat 32 s.val) 48#32) = 1#1 →
    s.val / 8 = 3 ∨ s.val / 8 = 6 ∨ s.val / 8 = 7 ∨ s.val / 8 = 8 := by decide
theorem on_slab {F : FTy → Type} [FloatOps F] (a0 a1 : FVec F Cert.On_mask.S1x4096x1024 .f32) (a2 a3 : FVec F Cert.On_mask.S1x4096x8x128 .f32) (a4 : FVec F Cert.On_mask.S1x4096x9216 .f32)
    (a5 : FVec F Cert.On_mask.S1024x1024 .f32) (a6 : FVec F Cert.On_mask.S1x1024 .f32) (a7 a8 a9 : FVec F Cert.On_mask.S1024 .f32) (i : Cert.On_mask.S72x4096x128.Idx)
    (h : (Cert.On_mask.fn a0 a1 a2 a3 a4 a5 a6 a7 a8 a9).2.2.2.2.2 i = 1#1) :
    (i 0).val / 8 = 3 ∨ (i 0).val / 8 = 6 ∨ (i 0).val / 8 = 7 ∨ (i 0).val / 8 = 8 :=
  slab_word (i 0) h

/-- The last result, where the mask is set. -/
theorem slabs (V : Valuation Cert.MidRefIdeal.τ Cert.MidRefIdeal.sig (Elt Ideal)) (m : (ℓ : Loc Cert.MidIdeal.nD Cert.MidIdeal.τ Cert.MidIdeal.sig) → Buf (Elt Ideal) ℓ) (c : Dev Cert.MidIdeal.nD)
    (hrow : ∀ r, Cert.MidRefIdeal.Value.rowV V r = Cert.MidIdeal.Hand.rowM m c r) (hpar : Cert.MidRefIdeal.Value.parV V = Cert.MidIdeal.Hand.parM m c)
    (hR : ∀ r, (Cert.MidIdeal.Hand.rowM m c r).Real) (hP : (Cert.MidIdeal.Hand.parM m c).Real) (s : Fin 72) (r : Fin 4096) (l : Fin 128)
    (hs : s.val / 8 = 3 ∨ s.val / 8 = 6 ∨ s.val / 8 = 7 ∨ s.val / 8 = 8) :
    Cert.MidRefIdeal.Value.resDpb V (ix3 s r l) = Cert.MidIdeal.Hand.dpb m c (ix3 s r l) := by
  rcases hs with hs | hs | hs | hs
  · rw [Cert.MidRefIdeal.Value.dpb_3 V s hs r l (hrow r ▸ hR r) (hpar ▸ hP), Cert.MidIdeal.Hand.dpb_3 m c s hs, hrow, hpar]
  · rw [Cert.MidRefIdeal.Value.dpb_6 V s hs r l (hrow r ▸ hR r) (hpar ▸ hP), Cert.MidIdeal.Hand.dpb_6 m c s hs, hrow, hpar]
  · rw [Cert.MidRefIdeal.Value.dpb_7 V s hs r l, Cert.MidIdeal.Hand.dpb_7 m c s hs, hrow, hpar]
  · rw [Cert.MidRefIdeal.Value.dpb_8 V s hs r l, Cert.MidIdeal.Hand.dpb_8 m c s hs, hrow, hpar]

/-- The summed rows. -/
theorem sums (m : (ℓ : Loc Cert.MidIdeal.nD Cert.MidIdeal.τ Cert.MidIdeal.sig) → Buf (Elt Ideal) ℓ) (c : Dev Cert.MidIdeal.nD) (a : Fin 8) (j : Fin 1024) :
    Merge.rowSum (Cert.MidIdeal.Hand.rowM m c) (Cert.MidIdeal.Hand.parM m c) a j = Cert.MidIdeal.Hand.vecSum m c a j := by
  have e : ∀ f g : Fin 4096 → EReal, (∑ r, f r * g r) = 1 * ∑ r, g r * f r := fun f g =>
    (Fintype.sum_congr _ _ fun r => mul_comm (f r) (g r)).trans (one_mul _).symm
  unfold Merge.rowSum Cert.MidIdeal.Hand.vecSum
  match a with
  | 0 => exact e _ _
  | 1 => exact (one_mul (M := EReal) _).symm
  | 2 => rfl
  | 3 => exact e (fun r => Merge.nr (Cert.MidIdeal.Hand.rowM m c r) 0 (Merge.hd j) (Merge.ln j)) fun r => Merge.dn (Cert.MidIdeal.Hand.rowM m c r) (Cert.MidIdeal.Hand.parM m c) 0 (Merge.hd j) (Merge.ln j)
  | 4 => exact e (fun r => Merge.nr (Cert.MidIdeal.Hand.rowM m c r) 1 (Merge.hd j) (Merge.ln j)) fun r => Merge.dn (Cert.MidIdeal.Hand.rowM m c r) (Cert.MidIdeal.Hand.parM m c) 1 (Merge.hd j) (Merge.ln j)
  | 5 => rfl
  | 6 => rfl
  | 7 => rfl

/-- The middle call's six results are the reference's. -/
theorem middle : Cert.algebraic_MidIdeal_MidRefIdeal_on_mask_pre_finite := by
  intro m g m' g' hpre hagree
  have hrow : ∀ c r, Cert.MidRefIdeal.Value.rowV (launchContents m' c) r = Cert.MidIdeal.Hand.rowM m c r := fun c r => by
    obtain ⟨e0, e1, e2, e3, e4, -⟩ := hagree c
    show Merge.rowOf (m' ((c.tc : Thread Cert.MidRefIdeal.nD Cert.MidRefIdeal.τ).loc Cert.MidRefIdeal.main_arg0)) (m' ((c.tc : Thread Cert.MidRefIdeal.nD Cert.MidRefIdeal.τ).loc Cert.MidRefIdeal.main_arg1)) (m' ((c.tc : Thread Cert.MidRefIdeal.nD Cert.MidRefIdeal.τ).loc Cert.MidRefIdeal.main_arg2)) (m' ((c.tc : Thread Cert.MidRefIdeal.nD Cert.MidRefIdeal.τ).loc Cert.MidRefIdeal.main_arg3)) (m' ((c.tc : Thread Cert.MidRefIdeal.nD Cert.MidRefIdeal.τ).loc Cert.MidRefIdeal.main_arg4)) r = _
    rw [e0, e1, e2, e3, e4]
  have hpar : ∀ c, Cert.MidRefIdeal.Value.parV (launchContents m' c) = Cert.MidIdeal.Hand.parM m c := fun c => by
    obtain ⟨-, -, -, -, -, e5, e6, e7, e8, e9⟩ := hagree c
    show Merge.parOf (m' ((c.tc : Thread Cert.MidRefIdeal.nD Cert.MidRefIdeal.τ).loc Cert.MidRefIdeal.main_arg5)) (m' ((c.tc : Thread Cert.MidRefIdeal.nD Cert.MidRefIdeal.τ).loc Cert.MidRefIdeal.main_arg6)) (m' ((c.tc : Thread Cert.MidRefIdeal.nD Cert.MidRefIdeal.τ).loc Cert.MidRefIdeal.main_arg7)) (m' ((c.tc : Thread Cert.MidRefIdeal.nD Cert.MidRefIdeal.τ).loc Cert.MidRefIdeal.main_arg8)) (m' ((c.tc : Thread Cert.MidRefIdeal.nD Cert.MidRefIdeal.τ).loc Cert.MidRefIdeal.main_arg9)) = _
    rw [e5, e6, e7, e8, e9]
  refine ⟨fun c => (Cert.MidIdeal.Hand.dats m 0 c).arrAt 13 Cert.MidIdeal.cfg0.N, fun c => (Cert.MidIdeal.Hand.dats m 0 c).arrAt 14 Cert.MidIdeal.cfg0.N,
    fun c => (Cert.MidIdeal.Hand.dats m 0 c).arrAt 15 Cert.MidIdeal.cfg0.N, fun c => (Cert.MidIdeal.Hand.dats m 0 c).arrAt 16 Cert.MidIdeal.cfg0.N,
    fun c => (Cert.MidIdeal.Hand.dats m 0 c).arrAt 17 Cert.MidIdeal.cfg0.N, fun c => Cert.MidIdeal.Hand.dpb m c, ?_, ?_⟩
  · refine (θ_run _ _ _).mono (fun r h c => ?_) (θ_run_and (Cert.MidIdeal.Hand.run_arrays m g) (Cert.MidIdeal.Hand.unchanged m g))
    refine ⟨fun i _ => congrFun ((h.1.1.toR c).1 13) i, fun i _ => congrFun ((h.1.1.toR c).1 14) i, fun i _ => congrFun ((h.1.1.toR c).1 15) i,
      fun i _ => congrFun ((h.1.1.toR c).1 16) i, fun i _ => congrFun ((h.1.1.toR c).1 17) i, fun i _ => congrFun ((h.1.1.2 c _ (by decide)).trans (Cert.MidIdeal.Hand.G_self m c)) i, h.2 c⟩
  · refine (θ_run _ _ _).mono (fun r h c => ?_) (Cert.MidRefIdeal.Value.run m' g')
    obtain ⟨h0, h1, h2, h3, h4, h5, hk⟩ := h c
    refine ⟨fun i _ => ?_, fun i _ => ?_, fun i _ => ?_, fun i _ => ?_, fun i _ => ?_, fun i hi => ?_, hk⟩
    · refine (congrFun h0 i).trans ?_
      refine (congrArg (Cert.MidRefIdeal.Value.resDy (launchContents m' c)) (eq_ix2 (show (⟨2, ![4096, 1024]⟩ : Shape).Idx from i))).trans ?_
      refine ((Cert.MidRefIdeal.Value.dy_apply _ _ _).trans ?_).trans (congrFun (Cert.MidIdeal.Hand.dy_array m c) i).symm
      exact congrArg₂ (fun R P => Merge.dy R P (i 1)) (hrow c _) (hpar c)
    · refine (congrFun h1 i).trans ?_
      refine (congrArg (Cert.MidRefIdeal.Value.resDoA (launchContents m' c)) (eq_ix3 (show (⟨3, ![8, 4096, 128]⟩ : Shape).Idx from i))).trans ?_
      refine ((Cert.MidRefIdeal.Value.doA_apply _ _ _ _).trans ?_).trans (congrFun (Cert.MidIdeal.Hand.doa_array m c) i).symm
      exact congrArg₂ (fun R P => Merge.dO R P 0 (i 0) (i 2)) (hrow c _) (hpar c)
    · refine (congrFun h2 i).trans ?_
      refine (congrArg (Cert.MidRefIdeal.Value.resDoB (launchContents m' c)) (eq_ix3 (show (⟨3, ![8, 4096, 128]⟩ : Shape).Idx from i))).trans ?_
      refine ((Cert.MidRefIdeal.Value.doB_apply _ _ _ _).trans ?_).trans (congrFun (Cert.MidIdeal.Hand.dob_array m c) i).symm
      exact congrArg₂ (fun R P => Merge.dO R P 1 (i 0) (i 2)) (hrow c _) (hpar c)
    · refine (congrFun h3 i).trans ?_
      refine (congrArg (Cert.MidRefIdeal.Value.resDw (launchContents m' c)) (eq_ix2 (show (⟨2, ![1024, 1024]⟩ : Shape).Idx from i))).trans ?_
      refine ((Cert.MidRefIdeal.Value.dw_apply _ _ _).trans ?_).trans (congrFun (Cert.MidIdeal.Hand.dw_array m c) i).symm
      exact Fintype.sum_congr _ _ fun r => congrArg₂ (fun R P => Merge.mix R P (i 0) * Merge.dz R P (i 1)) (hrow c r) (hpar c)
    · refine (congrFun h4 i).trans ?_
      refine (congrArg (Cert.MidRefIdeal.Value.resVec (launchContents m' c)) (eq_ix2 (show (⟨2, ![8, 1024]⟩ : Shape).Idx from i))).trans ?_
      refine ((Cert.MidRefIdeal.Value.vec_apply _ _ _).trans ?_).trans (congrFun (Cert.MidIdeal.Hand.vec_array m c) i).symm
      exact (congrArg₂ (fun R P => Merge.rowSum R P (i 0) (i 1)) (funext (hrow c)) (hpar c)).trans (sums m c (i 0) (i 1))
    · have hs := on_slab _ _ _ _ _ _ _ _ _ _ i hi
      refine (congrFun h5 i).trans ?_
      have e := eq_ix3 (show (⟨3, ![72, 4096, 128]⟩ : Shape).Idx from i)
      exact (congrArg (Cert.MidRefIdeal.Value.resDpb (launchContents m' c)) e).trans ((slabs _ m c (hrow c) (hpar c) (row_real m hpre c) (par_real m hpre c) _ _ _ hs).trans
        (congrArg (Cert.MidIdeal.Hand.dpb m c) e).symm)

end Cert.MidPair
end
-- ==== Proof.RetBlock.lean ====
module

public import proofs.«01_k».proof.Proof.InpMath
public import proofs.«01_k».proof.Proof.Gen.RetIdeal.Value
public import Idealize.ShloMosaic.Lib.Pipeline.ValueKit
public import Idealize.ShloMosaic.Lib.Pipeline.ReadBack
public import Idealize.ShloMosaic.Lib.WritesUnit
public import Idealize.ShloMosaic.Lib.Tactic.CleanTypes

@[expose] public section

set_option maxRecDepth 16384
noncomputable section

namespace Cert.RetIdeal.Value

open Cert.RetIdeal Cert.RetIdeal.Gen Idealize.ShloMosaic Idealize.ShloMosaic.TcCoe Idealize.SL.Sem
open Idealize.ShloMosaic.Pipeline (Dat)

variable {F : FTy → Type} [FloatOps F]

/-! One chunk of 128 positions for one head of a pair, as the kernel computes it.  Lanes `64 * hd ..` of a block belong to head `hd` of the pair. -/

/-- The log of head `2 * p + hd`'s decay, on all lanes. -/
def lgk (p hd : BitVec 32) : FVec F S1x128 .f32 :=
  log (subf (broadcast S1x128 (Scalar.ofBits .f32 0x3F800000#32)) (exp (mulf (subf (broadcast S1x128 (Scalar.ofBits .f32 0x00000000#32)) (addf (broadcast S1x128 (Scalar.ofBits .f32 0x40A00000#32))
    (sitofp .f32 (broadcast S1x128 (Scalar.addi (Scalar.muli 2#32 p) hd))))) (broadcast S1x128 (Scalar.ofBits .f32 0x3F317218#32)))))

/-- Row minus column. -/
def relk : FVec F S128x128 .f32 := sitofp .f32 (subi (iota .tc S128x128 32 [0] iota_S128x128_d0_w32) (iota .tc S128x128 32 [1] iota_S128x128_d1_w32))

/-- The row's number. -/
def rowk : FVec F S128x128 .f32 := sitofp .f32 (iota .tc S128x128 32 [0] iota_S128x128_d0_w32)

/-- The causal decay between the positions of a chunk. -/
def dmk (lg : FVec F S1x128 .f32) : FVec F S128x128 .f32 :=
  select (cmpf .oge (relk (F := F)) (broadcast S128x128 (Scalar.ofBits .f32 0x00000000#32)))
    (exp (mulf (broadcastTo S128x128 (extractStridedSlice S1x1 ![0, 0] lg slices_S1x128_o0_0_S1x1) broadcasts_S1x1_S128x128) (maximumf (relk (F := F)) (broadcast S128x128 (Scalar.ofBits .f32 0x00000000#32)))))
    (broadcast S128x128 (Scalar.ofBits .f32 0x00000000#32))

/-- The decay from a position to its chunk's end. -/
def zek (lg : FVec F S1x128 .f32) : FVec F S128x128 .f32 :=
  exp (mulf (broadcastTo S128x128 lg broadcasts_S1x128_S128x128) (subf (broadcast S128x128 (Scalar.ofBits .f32 0x42FE0000#32)) rowk))

/-- The decay from the chunk's beginning to a position. -/
def xik (lg : FVec F S1x128 .f32) : FVec F S128x128 .f32 :=
  exp (mulf (broadcastTo S128x128 lg broadcasts_S1x128_S128x128) (addf rowk (broadcast S128x128 (Scalar.ofBits .f32 0x3F800000#32))))

/-- The decay of a whole chunk. -/
def cdk (lg : FVec F S1x128 .f32) : FVec F S1x128 .f32 := exp (mulf lg (broadcast S1x128 (Scalar.ofBits .f32 0x43000000#32)))

/-- Each head's two halves exchanged. -/
def swpk (x : FVec F S128x128 .f32) : FVec F S128x128 .f32 :=
  select (cmpi .slt (andi (iota .tc S128x128 32 [1] iota_S128x128_d1_w32) (broadcast S128x128 63#32)) (broadcast S128x128 32#32))
    (dynamicRotate 1 96#32 none x rotates_S128x128_d1) (dynamicRotate 1 32#32 none x rotates_S128x128_d1)

/-- A chunk's rows with the rotary embedding. -/
def rotk (cs sn : Vec F S128x128 .f32) (q : Vec F S1x128x128 .f32) : FVec F S128x128 .f32 :=
  addf (mulf (shapeCast S128x128 q shapeCasts_S1x128x128_S128x128) (shapeCast S128x128 cs shapeCasts_S128x128_S128x128))
    (mulf (swpk (shapeCast S128x128 q shapeCasts_S1x128x128_S128x128)) (shapeCast S128x128 sn shapeCasts_S128x128_S128x128))

/-- The keys are scaled besides. -/
def keyk (cs sn : Vec F S128x128 .f32) (q : Vec F S1x128x128 .f32) : FVec F S128x128 .f32 :=
  mulf (rotk cs sn q) (broadcast S128x128 (Scalar.ofBits .f32 0x3E000000#32))

/-- The number of a lane's head: the lane divided by 64. -/
def hdk : IVec S1x128 32 :=
  have l : IVec S1x128 32 := iota .tc S1x128 32 [1] iota_S1x128_d1_w32
  select (andi (cmpi .ne (subi (extui 32 (cmpi .sgt l (broadcast S1x128 0#32)) natLt_1_32) (extui 32 (cmpi .slt l (broadcast S1x128 0#32)) natLt_1_32))
      (broadcast S1x128 (Scalar.subi (Scalar.extui (Scalar.cmpi .sgt 64#32 0#32)) (Scalar.extui (Scalar.cmpi .slt 64#32 0#32)))))
      (cmpi .ne (remsi l (broadcast S1x128 64#32)) (broadcast S1x128 0#32)))
    (subi (divsi l (broadcast S1x128 64#32)) (broadcast S1x128 1#32)) (divsi l (broadcast S1x128 64#32))

/-- One on the lanes of head `hd`, zero on the others. -/
def lmk (hd : BitVec 32) : FVec F S1x128 .f32 := sitofp .f32 (extui 32 (cmpi .eq hdk (broadcast S1x128 hd)) natLt_1_32)

/-- A block with the other head's lanes cleared. -/
def mskk (hd : BitVec 32) (x : FVec F S128x128 .f32) : FVec F S128x128 .f32 := mulf x (broadcastTo S128x128 (lmk hd) broadcasts_S1x128_S128x128)

/-- The state after a chunk. -/
def nxtk (lg : FVec F S1x128 .f32) (hd : BitVec 32) (k : FVec F S128x128 .f32) (v st : Vec F S1x128x128 .f32) : FVec F S1x128x128 .f32 :=
  shapeCast S1x128x128 (addf (mulf (shapeCast S128x128 st shapeCasts_S1x128x128_S128x128) (broadcastTo S128x128 (cdk lg) broadcasts_S1x128_S128x128))
    (matmul dot_S128x128_S128x128_S128x128_0_0_1_1_n_n none (truncf .bf16 (shapeCast S128x128 v shapeCasts_S1x128x128_S128x128) bitsLt_bf16_f32)
      (truncf .bf16 (mulf (mskk hd k) (zek lg)) bitsLt_bf16_f32) (constant S128x128 .f32 0x00000000#32))) shapeCasts_S128x128_S1x128x128

/-- The chunk's output: within the chunk by the causal product, from before it by the state. -/
def outk (lg : FVec F S1x128 .f32) (hd : BitVec 32) (q k : FVec F S128x128 .f32) (v st : Vec F S1x128x128 .f32) : FVec F S1x128x128 .f32 :=
  shapeCast S1x128x128 (addf
    (matmul dot_S128x128_S128x128_S128x128_1_0_0_1_n_n none
      (truncf .bf16 (mulf (matmul dot_S128x128_S128x128_S128x128_1_1_0_0_n_n none (truncf .bf16 (mskk hd q) bitsLt_bf16_f32) (truncf .bf16 (mskk hd k) bitsLt_bf16_f32)
        (constant S128x128 .f32 0x00000000#32)) (dmk lg)) bitsLt_bf16_f32)
      (truncf .bf16 (shapeCast S128x128 v shapeCasts_S1x128x128_S128x128) bitsLt_bf16_f32) (constant S128x128 .f32 0x00000000#32))
    (matmul dot_S128x128_S128x128_S128x128_1_1_0_0_n_n none (truncf .bf16 (mulf (mskk hd q) (xik lg)) bitsLt_bf16_f32)
      (truncf .bf16 (shapeCast S128x128 st shapeCasts_S1x128x128_S128x128) bitsLt_bf16_f32) (constant S128x128 .f32 0x00000000#32))) shapeCasts_S128x128_S1x128x128

/-- The state before the chunk, as it is saved. -/
def savk (st : Vec F S1x128x128 .f32) : FVec F S1x1x128x128 .f32 :=
  shapeCast S1x1x128x128 (shapeCast S128x128 st shapeCasts_S1x128x128_S128x128) shapeCasts_S128x128_S1x1x128x128

/-! The stores of a body in turn: step `s` is head `s % 2` of chunk `s / 2`. -/

theorem inb_st (s : ℕ) : ∀ k : Fin 3, (![s % 2, 0, 0] : Fin 3 → ℕ) k + S1x128x128.size k ≤ S2x128x128.size k := by
  intro k
  match k with
  | ⟨0, _⟩ => show s % 2 + 1 ≤ 2; omega
  | ⟨1, _⟩ => show 0 + 128 ≤ 128; omega
  | ⟨2, _⟩ => show 0 + 128 ≤ 128; omega

theorem inb_row (s : ℕ) : ∀ k : Fin 3, (![s % 2, 128 * (s / 2 % 16), 0] : Fin 3 → ℕ) k + S1x128x128.size k ≤ S2x2048x128.size k := by
  intro k
  match k with
  | ⟨0, _⟩ => show s % 2 + 1 ≤ 2; omega
  | ⟨1, _⟩ => show 128 * (s / 2 % 16) + 128 ≤ 2048; omega
  | ⟨2, _⟩ => show 0 + 128 ≤ 128; omega

theorem inb_sav (s : ℕ) : ∀ k : Fin 4, (![s % 2, s / 2 % 16, 0, 0] : Fin 4 → ℕ) k + S1x1x128x128.size k ≤ S2x16x128x128.size k := by
  intro k
  match k with
  | ⟨0, _⟩ => show s % 2 + 1 ≤ 2; omega
  | ⟨1, _⟩ => show s / 2 % 16 + 1 ≤ 16; omega
  | ⟨2, _⟩ => show 0 + 128 ≤ 128; omega
  | ⟨3, _⟩ => show 0 + 128 ≤ 128; omega

theorem inb_in (s : ℕ) : ∀ k : Fin 3, (![0, 128 * (s / 2 % 16), 0] : Fin 3 → ℕ) k + S1x128x128.size k ≤ S1x2048x128.size k := by
  intro k
  match k with
  | ⟨0, _⟩ => show 0 + 1 ≤ 1; omega
  | ⟨1, _⟩ => show 128 * (s / 2 % 16) + 128 ≤ 2048; omega
  | ⟨2, _⟩ => show 0 + 128 ≤ 128; omega

theorem inb_tab (s : ℕ) : ∀ k : Fin 2, (![128 * (s / 2 % 16), 0] : Fin 2 → ℕ) k + S128x128.size k ≤ S2048x128.size k := by
  intro k
  match k with
  | ⟨0, _⟩ => show 128 * (s / 2 % 16) + 128 ≤ 2048; omega
  | ⟨1, _⟩ => show 0 + 128 ≤ 128; omega

abbrev stR (s : ℕ) : Rect S2x128x128 := Rect.unit ![s % 2, 0, 0] S1x128x128.size (inb_st s)
abbrev rowR (s : ℕ) : Rect S2x2048x128 := Rect.unit ![s % 2, 128 * (s / 2 % 16), 0] S1x128x128.size (inb_row s)
abbrev savR (s : ℕ) : Rect S2x16x128x128 := Rect.unit ![s % 2, s / 2 % 16, 0, 0] S1x1x128x128.size (inb_sav s)
abbrev inR (s : ℕ) : Rect S1x2048x128 := Rect.unit ![0, 128 * (s / 2 % 16), 0] S1x128x128.size (inb_in s)
abbrev tabR (s : ℕ) : Rect S2048x128 := Rect.unit ![128 * (s / 2 % 16), 0] S128x128.size (inb_tab s)

/-- The states stored by the first `s` steps, over those stored before; `rd` reads the head's state. -/
def LS (rd : ℕ → List (View.Piece (Elt F) S2x128x128 .f32) → Vec F S1x128x128 .f32) (nx : ℕ → Vec F S1x128x128 .f32 → Vec F S1x128x128 .f32)
    (L0 : List (View.Piece (Elt F) S2x128x128 .f32)) : ℕ → List (View.Piece (Elt F) S2x128x128 .f32)
  | 0 => L0
  | s + 1 => ⟨stR s, nx s (rd s (LS rd nx L0 s))⟩ :: LS rd nx L0 s

/-- The output rows stored by the first `s` steps. -/
def LO (p : ℕ → Vec F S1x128x128 .f32) : ℕ → List (View.Piece (Elt F) S2x2048x128 .f32)
  | 0 => []
  | s + 1 => ⟨rowR s, p s⟩ :: LO p s

/-- The states saved by the first `s` steps. -/
def LR (p : ℕ → Vec F S1x1x128x128 .f32) : ℕ → List (View.Piece (Elt F) S2x16x128x128 .f32)
  | 0 => []
  | s + 1 => ⟨savR s, p s⟩ :: LR p s

section
variable (c : Dev nD) (i : grid0.Coords)
  (arg2 : Memref sig .tc .vmem S1x2048x128 .f32) (harg2 : arg2.IsWhole) (arg3 : Memref sig .tc .vmem S1x2048x128 .f32) (harg3 : arg3.IsWhole) (arg4 : Memref sig .tc .vmem S2x2048x128 .f32) (harg4 : arg4.IsWhole)
  (arg5 : Memref sig .tc .vmem S2048x128 .f32) (harg5 : arg5.IsWhole) (arg6 : Memref sig .tc .vmem S2048x128 .f32) (harg6 : arg6.IsWhole) (arg7 : Memref sig .tc .vmem S2x2048x128 .f32) (harg7 : arg7.IsWhole)
  (arg8 : Memref sig .tc .vmem S2x16x128x128 .f32) (harg8 : arg8.IsWhole) (arg9 : Memref sig .tc .vmem S2x128x128 .f32) (harg9 : arg9.IsWhole)
  (x0 : Vec F S1x2048x128 .f32) (x1 : Vec F S1x2048x128 .f32) (x2 : Vec F S2x2048x128 .f32) (x3 : Vec F S2048x128 .f32) (x4 : Vec F S2048x128 .f32) (xs0 : Vec F S2x128x128 .f32)

/-- The log decay of step `s`'s head. -/
def lgs (s : ℕ) : FVec F S1x128 .f32 := lgk (BitVec.ofNat 32 (i 0).val) (BitVec.ofNat 32 (s % 2))

/-- Step `s`'s keys. -/
def ks (s : ℕ) : FVec F S128x128 .f32 :=
  keyk (View.readAt (Elt F) arg5.view (tabR s).toLoadRect (harg5.unread x3)) (View.readAt (Elt F) arg6.view (tabR s).toLoadRect (harg6.unread x4))
    (View.readAt (Elt F) arg3.view (inR s).toLoadRect (harg3.unread x1))

/-- Step `s`'s queries. -/
def qs (s : ℕ) : FVec F S128x128 .f32 :=
  rotk (View.readAt (Elt F) arg5.view (tabR s).toLoadRect (harg5.unread x3)) (View.readAt (Elt F) arg6.view (tabR s).toLoadRect (harg6.unread x4))
    (View.readAt (Elt F) arg2.view (inR s).toLoadRect (harg2.unread x0))

/-- Step `s`'s values. -/
def vs (s : ℕ) : Vec F S1x128x128 .f32 := View.readAt (Elt F) arg4.view (rowR s).toLoadRect (harg4.unread x2)

/-- The state step `s` leaves. -/
def nxs (s : ℕ) (st : Vec F S1x128x128 .f32) : Vec F S1x128x128 .f32 :=
  nxtk (lgs i s) (BitVec.ofNat 32 (s % 2)) (ks arg3 harg3 arg5 harg5 arg6 harg6 x1 x3 x4 s) (vs arg4 harg4 x2 s) st

/-- The rows step `s` stores. -/
def outs (s : ℕ) (st : Vec F S1x128x128 .f32) : Vec F S1x128x128 .f32 :=
  outk (lgs i s) (BitVec.ofNat 32 (s % 2)) (qs arg2 harg2 arg5 harg5 arg6 harg6 x0 x3 x4 s) (ks arg3 harg3 arg5 harg5 arg6 harg6 x1 x3 x4 s) (vs arg4 harg4 x2 s) st

/-- A state read back from the stores before it. -/
def rdA (s : ℕ) (L : List (View.Piece (Elt F) S2x128x128 .f32)) : Vec F S1x128x128 .f32 := arg9.view.readCov L (stR s).toLoadRect

/-- The first chunk reads what the block before left. -/
def rdB (s : ℕ) (L : List (View.Piece (Elt F) S2x128x128 .f32)) : Vec F S1x128x128 .f32 :=
  match s with
  | 0 => View.readAt (Elt F) arg9.view (stR 0).toLoadRect (harg9.unread xs0)
  | 1 => View.readAt (Elt F) arg9.view (stR 1).toLoadRect (harg9.unread xs0)
  | s + 2 => arg9.view.readCov L (stR (s + 2)).toLoadRect

def zeroR : Rect S2x128x128 := Rect.unit ![0, 0, 0] S2x128x128.size inb_S2x128x128_S2x128x128_0_0_0

/-- The state lists of a block that starts from zero … -/
def LSA : ℕ → List (View.Piece (Elt F) S2x128x128 .f32) :=
  LS (rdA arg9) (nxs i arg3 harg3 arg4 harg4 arg5 harg5 arg6 harg6 x1 x2 x3 x4) [⟨zeroR, k0_pay5⟩]

/-- … and of one that goes on. -/
def LSB : ℕ → List (View.Piece (Elt F) S2x128x128 .f32) :=
  LS (rdB arg9 harg9 xs0) (nxs i arg3 harg3 arg4 harg4 arg5 harg5 arg6 harg6 x1 x2 x3 x4) []

theorem statesA (hc0 : cond0_0 i) :
    (kernelRun0_A c i arg2 harg2 arg3 harg3 arg4 harg4 arg5 harg5 arg6 harg6 arg7 harg7 arg8 harg8 arg9 harg9 hc0 x0 x1 x2 x3 x4).2.2.1
      = LSA i arg3 harg3 arg4 harg4 arg5 harg5 arg6 harg6 arg9 x1 x2 x3 x4 32 := by
  sl_kernel_rfl

theorem rowsA (hc0 : cond0_0 i) :
    (kernelRun0_A c i arg2 harg2 arg3 harg3 arg4 harg4 arg5 harg5 arg6 harg6 arg7 harg7 arg8 harg8 arg9 harg9 hc0 x0 x1 x2 x3 x4).1
      = LO (fun s => outs i arg2 harg2 arg3 harg3 arg4 harg4 arg5 harg5 arg6 harg6 x0 x1 x2 x3 x4 s (rdA arg9 s (LSA i arg3 harg3 arg4 harg4 arg5 harg5 arg6 harg6 arg9 x1 x2 x3 x4 s))) 32 := by
  sl_kernel_rfl

theorem savedA (hc0 : cond0_0 i) :
    (kernelRun0_A c i arg2 harg2 arg3 harg3 arg4 harg4 arg5 harg5 arg6 harg6 arg7 harg7 arg8 harg8 arg9 harg9 hc0 x0 x1 x2 x3 x4).2.1
      = LR (fun s => savk (rdA arg9 s (LSA i arg3 harg3 arg4 harg4 arg5 harg5 arg6 harg6 arg9 x1 x2 x3 x4 s))) 32 := by
  sl_kernel_rfl

theorem statesB (hc0 : ¬cond0_0 i) :
    (kernelRun0_B c i arg2 harg2 arg3 harg3 arg4 harg4 arg5 harg5 arg6 harg6 arg7 harg7 arg8 harg8 arg9 harg9 hc0 x0 x1 x2 x3 x4 xs0).2.2.1
      = LSB i arg3 harg3 arg4 harg4 arg5 harg5 arg6 harg6 arg9 harg9 x1 x2 x3 x4 xs0 32 := by
  sl_kernel_rfl

theorem rowsB (hc0 : ¬cond0_0 i) :
    (kernelRun0_B c i arg2 harg2 arg3 harg3 arg4 harg4 arg5 harg5 arg6 harg6 arg7 harg7 arg8 harg8 arg9 harg9 hc0 x0 x1 x2 x3 x4 xs0).1
      = LO (fun s => outs i arg2 harg2 arg3 harg3 arg4 harg4 arg5 harg5 arg6 harg6 x0 x1 x2 x3 x4 s (rdB arg9 harg9 xs0 s (LSB i arg3 harg3 arg4 harg4 arg5 harg5 arg6 harg6 arg9 harg9 x1 x2 x3 x4 xs0 s))) 32 := by
  sl_kernel_rfl

theorem savedB (hc0 : ¬cond0_0 i) :
    (kernelRun0_B c i arg2 harg2 arg3 harg3 arg4 harg4 arg5 harg5 arg6 harg6 arg7 harg7 arg8 harg8 arg9 harg9 hc0 x0 x1 x2 x3 x4 xs0).2.1
      = LR (fun s => savk (rdB arg9 harg9 xs0 s (LSB i arg3 harg3 arg4 harg4 arg5 harg5 arg6 harg6 arg9 harg9 x1 x2 x3 x4 xs0 s))) 32 := by
  sl_kernel_rfl

end

end Cert.RetIdeal.Value
-- ==== Proof.RetMath.lean ====
module

public import proofs.«01_k».proof.Proof.InpMath
public import Idealize.ShloMosaic.Lib.Tactic.CleanTypes

@[expose] public section

set_option maxRecDepth 16384
noncomputable section

/-! Chunked retention of one head as sequences over the extended reals, and the same with two heads side by side in the lanes of a block. -/

namespace Cert.Hand.Ret

open Idealize.ShloMosaic

/-- An integer as a float's value. -/
abbrev nat (n : ℕ) : EReal := FloatOps.sitofp (F := Ideal) .f32 (BitVec.ofNat 32 n)

/-- The log decay of head `h`. -/
def lgv (h : ℕ) : EReal := Ideal.log (1 - Ideal.exp ((0 - (Ideal.ofBits .f32 1084227584#32 + nat h)) * Ideal.ofBits .f32 1060205080#32))
/-- The causal decay between positions `i` and `j` of a chunk, the decay to the chunk's end, from its beginning, over all of it. -/
def dmv (lg : EReal) (i j : ℕ) : EReal := if 0 ≤ nat i - nat j then Ideal.exp (lg * max (nat i - nat j) 0) else 0
def zev (lg : EReal) (j : ℕ) : EReal := Ideal.exp (lg * (Ideal.ofBits .f32 1123942400#32 - nat j))
def xiv (lg : EReal) (i : ℕ) : EReal := Ideal.exp (lg * (nat i + 1))
def cdv (lg : EReal) : EReal := Ideal.exp (lg * Ideal.ofBits .f32 1124073472#32)

/-- The state before chunk `n`. -/
def state (k v : ℕ → ℕ → EReal) (lg : EReal) : ℕ → ℕ → ℕ → EReal
  | 0 => fun _ _ => 0
  | n + 1 => fun d e => cdv lg * state k v lg n d e + ∑ j : Fin 128, (k (128 * n + j.val) d * zev lg j.val) * v (128 * n + j.val) e

/-- The output at position `i` of chunk `n`. -/
def out (q k v : ℕ → ℕ → EReal) (lg : EReal) (n i e : ℕ) : EReal :=
  (∑ j : Fin 128, ((∑ d : Fin 64, q (128 * n + i) d.val * k (128 * n + j.val) d.val) * dmv lg i j.val) * v (128 * n + j.val) e)
    + ∑ d : Fin 64, (q (128 * n + i) d.val * xiv lg i) * state k v lg n d.val e

/-! ## Two heads in the lanes of a block -/

/-- One on the lanes of head `hd`. -/
def lmv (hd l : ℕ) : EReal := if l / 64 = hd then 1 else 0

/-- A head's state with the lanes of the other head zero, transposed. -/
def stL (k : ℕ → ℕ → ℕ → EReal) (v : ℕ → ℕ → EReal) (lg : EReal) (hd n e l : ℕ) : EReal :=
  if l / 64 = hd then state (k hd) v lg n (l % 64) e else 0

theorem sum_half (f : ℕ → EReal) (hd : ℕ) (hh : hd < 2) :
    ∑ l : Fin 128, (if l.val / 64 = hd then f (l.val % 64) else 0) = ∑ d : Fin 64, f d.val := by
  rw [← (finProdFinEquiv : Fin 2 × Fin 64 ≃ Fin (2 * 64)).sum_comp, Fintype.sum_prod_type, Fin.sum_univ_two]
  have h (a : Fin 2) (d : Fin 64) : (finProdFinEquiv (a, d) : Fin (2 * 64)).val / 64 = a.val ∧ (finProdFinEquiv (a, d) : Fin (2 * 64)).val % 64 = d.val := by
    have := d.isLt
    simp only [finProdFinEquiv_apply_val]
    omega
  simp only [h]
  obtain rfl | rfl : hd = 0 ∨ hd = 1 := by omega
  · simp
  · simp

variable (q k : ℕ → ℕ → ℕ → EReal) (v : ℕ → ℕ → EReal) (lg : EReal) (hd : ℕ)

theorem stL_zero (e l : ℕ) : stL k v lg hd 0 e l = 0 := by
  unfold stL state
  simp

theorem stL_succ (n e l : ℕ) :
    stL k v lg hd n e l * cdv lg + ∑ j : Fin 128, v (128 * n + j.val) e * (k (l / 64) (128 * n + j.val) (l % 64) * lmv hd l * zev lg j.val)
      = stL k v lg hd (n + 1) e l := by
  unfold stL lmv
  by_cases h : l / 64 = hd
  · simp only [h, if_true, mul_one, state]
    refine congrArg₂ (· + ·) (mul_comm _ _) (Finset.sum_congr rfl fun j _ => mul_comm _ _)
  · simp [h]

theorem outL (hh : hd < 2) (n i e : ℕ) :
    (∑ j : Fin 128, ((∑ l : Fin 128, q (l.val / 64) (128 * n + i) (l.val % 64) * lmv hd l.val * (k (l.val / 64) (128 * n + j.val) (l.val % 64) * lmv hd l.val)) * dmv lg i j.val) * v (128 * n + j.val) e)
      + ∑ l : Fin 128, (q (l.val / 64) (128 * n + i) (l.val % 64) * lmv hd l.val * xiv lg i) * stL k v lg hd n e l.val
      = out (q hd) (k hd) v lg n i e := by
  unfold out
  refine congrArg₂ (· + ·) (Finset.sum_congr rfl fun j _ => ?_) ?_
  · refine congrArg (fun z => z * dmv lg i j.val * v (128 * n + j.val) e) ?_
    rw [← sum_half (fun d => q hd (128 * n + i) d * k hd (128 * n + j.val) d) hd hh]
    refine Finset.sum_congr rfl fun l _ => ?_
    unfold lmv
    by_cases h : l.val / 64 = hd
    · simp [h]
    · simp [h]
  · rw [← sum_half (fun d => (q hd (128 * n + i) d * xiv lg i) * state (k hd) v lg n d e) hd hh]
    refine Finset.sum_congr rfl fun l _ => ?_
    unfold lmv stL
    by_cases h : l.val / 64 = hd
    · simp [h]
    · simp [h]

/-! ## The projection's columns, and the rotary embedding -/

/-- An evenly spaced row from 0 to 1. -/
def lin (k : ℕ) : EReal :=
  if k < 31 then 0 * (1 - Ideal.div (nat k) (Ideal.ofBits .f32 1106771968#32)) + 1 * Ideal.div (nat k) (Ideal.ofBits .f32 1106771968#32) else 1

/-- The angle of position `t` and frequency `k`. -/
def ang (t k : ℕ) : EReal := nat t * Ideal.div 1 (Ideal.pow (Ideal.ofBits .f32 1176256512#32) (lin k))

/-- A head's rows rotated: its first half by cosine minus sine, its second by sine plus cosine. -/
def rot (x : ℕ → ℕ → EReal) (t d : ℕ) : EReal :=
  if d < 32 then x t d * Ideal.cos (ang t d) - x t (32 + d) * Ideal.sin (ang t d)
  else x t (d - 32) * Ideal.sin (ang t (d - 32)) + x t (32 + (d - 32)) * Ideal.cos (ang t (d - 32))

/-- The projection as a function of two numbers. -/
def pj (X : (⟨3, ![1, 4096, 9216]⟩ : Shape).Idx → EReal) (t c : ℕ) : EReal :=
  if h : t < 4096 ∧ c < 9216 then X (ix3 (0 : Fin 1) (⟨t, h.1⟩ : Fin 4096) (⟨c, h.2⟩ : Fin 9216)) else 0

variable (X : (⟨3, ![1, 4096, 9216]⟩ : Shape).Idx → EReal)

/-- Head `h`'s queries, keys and values. -/
def qv (h : ℕ) : ℕ → ℕ → EReal := rot fun t d => pj X t (4096 + 64 * h + d)
def kv (h : ℕ) (t d : ℕ) : EReal := rot (fun t d => pj X t (4608 + 64 * h + d)) t d * Ideal.ofBits .f32 1040187392#32
def vv (h : ℕ) (t e : ℕ) : EReal := pj X t (5120 + 128 * h + e)

end Cert.Hand.Ret
-- ==== Proof.RetChunk.lean ====
module

public import proofs.«01_k».proof.Proof.RetBlock
public import proofs.«01_k».proof.Proof.RetMath
public import Idealize.ShloMosaic.Lib.WholeRead

@[expose] public section

set_option maxRecDepth 16384
noncomputable section

/-! A chunk's computations entry by entry. -/

namespace Cert.RetIdeal.Value

open Cert.RetIdeal Cert.RetIdeal.Gen Idealize.ShloMosaic Idealize.ShloMosaic.TcCoe Idealize.SL.Sem
open Cert.Hand Cert.Hand.Ret

theorem toInt_small (n : ℕ) (h : n < 2147483648) : (BitVec.ofNat 32 n).toInt = n := by
  rw [BitVec.toInt_eq_toNat_of_lt (by simp only [BitVec.toNat_ofNat]; omega), BitVec.toNat_ofNat]
  omega

theorem nat_eq (n : ℕ) (h : n < 2147483648) : nat n = ((n : ℝ) : EReal) := by
  show (((BitVec.ofNat 32 n).toInt : ℝ) : EReal) = _
  rw [toInt_small n h]; simp

theorem rel_eq (i j : Fin 128) : FloatOps.sitofp (F := Ideal) .f32 (IntOp.subi (BitVec.ofNat 32 i.val) (BitVec.ofNat 32 j.val)) = nat i.val - nat j.val := by
  rw [nat_eq i.val (by omega), nat_eq j.val (by omega), ← EReal.coe_sub]
  show (((IntOp.subi (BitVec.ofNat 32 i.val) (BitVec.ofNat 32 j.val)).toInt : ℝ) : EReal) = _
  rw [(by decide +kernel : ∀ i j : Fin 128, (IntOp.subi (BitVec.ofNat 32 i.val) (BitVec.ofNat 32 j.val)).toInt = (i.val : ℤ) - (j.val : ℤ)) i j]
  simp

theorem head_eq : ∀ (p : Fin 4) (hd : Fin 2), Scalar.addi (Scalar.muli 2#32 (BitVec.ofNat 32 p.val)) (BitVec.ofNat 32 hd.val) = BitVec.ofNat 32 (2 * p.val + hd.val) := by
  decide +kernel

theorem lgk_at (p : Fin 4) (hd : Fin 2) (l : Fin 128) : (lgk (BitVec.ofNat 32 p.val) (BitVec.ofNat 32 hd.val) : FVec Ideal S1x128 .f32) (ix2 0 l) = lgv (2 * p.val + hd.val) := by
  unfold lgk lgv
  pointwise
  rw [head_eq]

variable (lg : FVec Ideal S1x128 .f32) (g : EReal) (hg : ∀ l : Fin 128, lg (ix2 0 l) = g)

include hg

theorem dmk_at (i j : Fin 128) : dmk lg (ix2 i j) = dmv g i.val j.val := by
  unfold dmk relk dmv
  pointwise
  rw [rel_eq, hg]
theorem zek_at (i j : Fin 128) : zek lg (ix2 i j) = zev g i.val := by
  unfold zek rowk zev
  pointwise
  rw [hg]
theorem xik_at (i j : Fin 128) : xik lg (ix2 i j) = xiv g i.val := by
  unfold xik rowk xiv
  pointwise
  rw [hg]
theorem cdk_at (l : Fin 128) : cdk lg (ix2 0 l) = cdv g := by
  unfold cdk cdv
  pointwise
  rw [hg]

omit hg

theorem lane_eq : ∀ (l : Fin 128) (hd : Fin 2),
    BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 l.val) 64#32) 0#32))
            (IntOp.subi (IntOp.divsi ArithUnit.vector (BitVec.ofNat 32 l.val) 64#32) 1#32)
            (IntOp.divsi ArithUnit.vector (BitVec.ofNat 32 l.val) 64#32))
          (BitVec.ofNat 32 hd.val)) = BitVec.ofNat 32 (if l.val / 64 = hd.val then 1 else 0) := by
  decide +kernel

theorem lmk_at (hd : Fin 2) (l : Fin 128) : (lmk (BitVec.ofNat 32 hd.val) : FVec Ideal S1x128 .f32) (ix2 0 l) = lmv hd.val l.val := by
  unfold lmk hdk lmv
  pointwise
  rw [lane_eq]
  split
  · exact (nat_eq 1 (by omega)).trans (by simp)
  · exact (nat_eq 0 (by omega)).trans (by simp)

theorem half_eq : ∀ j : Fin 128, IntOp.cmpi CmpIPredicate.slt (IntOp.andi (BitVec.ofNat 32 j.val) 63#32) 32#32 = if j.val % 64 < 32 then 1#1 else 0#1 := by
  decide +kernel

/-- Rows whose tables hold the cosines and the signed sines are rotated head by head. -/
theorem rotk_at (cs sn : Vec Ideal S128x128 .f32) (q : Vec Ideal S1x128x128 .f32) (x : ℕ → ℕ → ℕ → EReal) (t0 : ℕ)
    (hc : ∀ i l : Fin 128, cs (ix2 i l) = Ideal.cos (ang (t0 + i.val) (l.val % 32)))
    (hs : ∀ i l : Fin 128, sn (ix2 i l) = if l.val % 64 < 32 then -Ideal.sin (ang (t0 + i.val) (l.val % 32)) else Ideal.sin (ang (t0 + i.val) (l.val % 32)))
    (hq : ∀ i l : Fin 128, q (ix3 0 i l) = x (l.val / 64) (t0 + i.val) (l.val % 64)) (i l : Fin 128) :
    rotk cs sn q (ix2 i l) = rot (x (l.val / 64)) (t0 + i.val) (l.val % 64) := by
  unfold rotk swpk rot
  pointwise
  simp only [half_eq, hc, hs, hq]
  have hl := l.isLt
  by_cases h : l.val % 64 < 32
  · have e1 : (l.val + 128 - 96) % 128 / 64 = l.val / 64 := by omega
    have e2 : (l.val + 128 - 96) % 128 % 64 = 32 + l.val % 64 := by omega
    have e3 : l.val % 32 = l.val % 64 := by omega
    simp only [h, if_true, e1, e2, e3, Scalar.select, mul_neg]
    exact (sub_eq_add_neg _ _).symm
  · have e1 : (l.val + 128 - 32) % 128 / 64 = l.val / 64 := by omega
    have e2 : (l.val + 128 - 32) % 128 % 64 = l.val % 64 - 32 := by omega
    have e3 : l.val % 32 = l.val % 64 - 32 := by omega
    have e4 : 32 + (l.val % 64 - 32) = l.val % 64 := by omega
    simp only [h, if_false, e1, e2, e3, e4, Scalar.select]
    exact add_comm _ _

theorem keyk_at (cs sn : Vec Ideal S128x128 .f32) (q : Vec Ideal S1x128x128 .f32) (i l : Fin 128) :
    keyk cs sn q (ix2 i l) = rotk cs sn q (ix2 i l) * Ideal.ofBits .f32 1040187392#32 := by
  unfold keyk
  pointwise

theorem nxtk_at (hd : BitVec 32) (k : FVec Ideal S128x128 .f32) (v st : Vec Ideal S1x128x128 .f32) (e l : Fin 128) :
    nxtk lg hd k v st (ix3 0 e l) = st (ix3 0 e l) * cdk lg (ix2 0 l) + ∑ x : Fin 128, v (ix3 0 x e) * (k (ix2 x l) * (lmk hd : FVec Ideal S1x128 .f32) (ix2 0 l) * zek lg (ix2 x l)) := by
  unfold nxtk mskk
  pointwise

theorem outk_at (hd : BitVec 32) (q k : FVec Ideal S128x128 .f32) (v st : Vec Ideal S1x128x128 .f32) (i e : Fin 128) :
    outk lg hd q k v st (ix3 0 i e) =
      ∑ x : Fin 128, (∑ y : Fin 128, q (ix2 i y) * (lmk hd : FVec Ideal S1x128 .f32) (ix2 0 y) * (k (ix2 x y) * (lmk hd : FVec Ideal S1x128 .f32) (ix2 0 y))) * dmk lg (ix2 i x) * v (ix3 0 x e)
        + ∑ x : Fin 128, q (ix2 i x) * (lmk hd : FVec Ideal S1x128 .f32) (ix2 0 x) * xik lg (ix2 i x) * st (ix3 0 e x) := by
  unfold outk mskk
  pointwise

theorem savk_at (st : Vec Ideal S1x128x128 .f32) (e l : Fin 128) : savk st (ix4 0 0 e l) = st (ix3 0 e l) := by
  unfold savk
  pointwise

/-! ## The loads of a step -/

theorem ld_in {b : Memref sig .tc .vmem S1x2048x128 .f32} (hb : b.IsWhole) (x : Vec Ideal S1x2048x128 .f32) (s : ℕ) (i l : Fin 128) :
    View.readAt (Elt Ideal) b.view (inR s).toLoadRect (hb.unread x) (ix3 0 i l) = x (ix3 0 (⟨128 * (s / 2 % 16) + i.val, by omega⟩ : Fin 2048) l) := by
  rw [hb.readAt_unread]
  refine congrArg x (funext fun a => Fin.ext ?_)
  fin_cases a <;> simp [ix3]
theorem ld_tab {b : Memref sig .tc .vmem S2048x128 .f32} (hb : b.IsWhole) (x : Vec Ideal S2048x128 .f32) (s : ℕ) (i l : Fin 128) :
    View.readAt (Elt Ideal) b.view (tabR s).toLoadRect (hb.unread x) (ix2 i l) = x (ix2 (⟨128 * (s / 2 % 16) + i.val, by omega⟩ : Fin 2048) l) := by
  rw [hb.readAt_unread]
  refine congrArg x (funext fun a => Fin.ext ?_)
  fin_cases a <;> simp [ix2]
theorem ld_row {b : Memref sig .tc .vmem S2x2048x128 .f32} (hb : b.IsWhole) (x : Vec Ideal S2x2048x128 .f32) (s : ℕ) (i l : Fin 128) :
    View.readAt (Elt Ideal) b.view (rowR s).toLoadRect (hb.unread x) (ix3 0 i l) = x (ix3 (⟨s % 2, by omega⟩ : Fin 2) (⟨128 * (s / 2 % 16) + i.val, by omega⟩ : Fin 2048) l) := by
  rw [hb.readAt_unread]
  refine congrArg x (funext fun a => Fin.ext ?_)
  fin_cases a <;> simp [ix3]
theorem ld_st {b : Memref sig .tc .vmem S2x128x128 .f32} (hb : b.IsWhole) (x : Vec Ideal S2x128x128 .f32) (s : ℕ) (i l : Fin 128) :
    View.readAt (Elt Ideal) b.view (stR s).toLoadRect (hb.unread x) (ix3 0 i l) = x (ix3 (⟨s % 2, by omega⟩ : Fin 2) i l) := by
  rw [hb.readAt_unread]
  refine congrArg x (funext fun a => Fin.ext ?_)
  fin_cases a <;> simp [ix3]

end Cert.RetIdeal.Value
-- ==== Proof.RetLists.lean ====
module

public import proofs.«01_k».proof.Proof.RetChunk
public import Idealize.ShloMosaic.Lib.Writes

@[expose] public section

set_option maxRecDepth 16384
noncomputable section

/-! What a body's stores leave: the lists of `RetBlock` read back. -/

namespace Cert.RetIdeal.Value

open Cert.RetIdeal Cert.RetIdeal.Gen Idealize.ShloMosaic Idealize.ShloMosaic.TcCoe Idealize.SL.Sem
open Cert.Hand

variable {sig' : RefSig} {κ : Kind} {sp : Space}

theorem stR_emb (s : ℕ) (e l : Fin 128) : (stR s).emb (ix3 0 e l : S1x128x128.Idx) = (ix3 (⟨s % 2, by omega⟩ : Fin 2) e l : S2x128x128.Idx) :=
  Rect.emb_eq_of_coords _ _ _ fun a => by fin_cases a <;> simp [ix3]

theorem stR_not_mem (s : ℕ) (e l : Fin 128) : (ix3 (⟨s % 2, by omega⟩ : Fin 2) e l : S2x128x128.Idx) ∉ (stR (s + 1)).set :=
  Rect.not_mem_set_of_axis _ _ 0 ((s + 1) % 2) 1 rfl rfl rfl (by simp only [ix3]; show s % 2 < (s + 1) % 2 ∨ (s + 1) % 2 + 1 ≤ s % 2; omega)

/-- A head's state is read back past the other head's store. -/
theorem rd_skip (v : View sig' κ sp S2x128x128 .f32) (s : ℕ) (x y : Vec Ideal S1x128x128 .f32) (L : List (View.Piece (Elt Ideal) S2x128x128 .f32)) :
    v.readCov (⟨stR (s + 1), y⟩ :: ⟨stR s, x⟩ :: L) (stR (s + 2)).toLoadRect = x := by
  rw [View.readCov_eq_canon']
  funext j
  obtain ⟨e, l, rfl⟩ : ∃ e l : Fin 128, j = ix3 0 e l := ⟨j 1, j 2, funext fun a => by
    fin_cases a
    · exact Subsingleton.elim (α := Fin 1) _ _
    · rfl
    · rfl⟩
  have h := stR_emb (s + 2) e l
  have h' : (ix3 (⟨(s + 2) % 2, by omega⟩ : Fin 2) e l : S2x128x128.Idx) = (stR s).emb (ix3 0 e l : S1x128x128.Idx) := by
    rw [stR_emb]; simp only [Nat.add_mod_right]
  refine (congrArg _ (h.trans h')).trans ((View.canon_cons_of_not_mem _ _ ?_).trans (View.canon_cons_emb (stR s) x L _))
  rw [stR_emb]
  exact stR_not_mem s e l

section
variable (nx : ℕ → Vec Ideal S1x128x128 .f32 → Vec Ideal S1x128x128 .f32) (L0 : List (View.Piece (Elt Ideal) S2x128x128 .f32))
  (rd : ℕ → List (View.Piece (Elt Ideal) S2x128x128 .f32) → Vec Ideal S1x128x128 .f32)

/-- The two states left at the end. -/
theorem read_LS (v : View sig' κ sp S2x128x128 .f32) (f : v.ty.Contents (Elt Ideal)) (s : ℕ) (hs : s % 2 = 0) (a : Fin 2) (e l : Fin 128) :
    v.read (Elt Ideal) (v.writes (Elt Ideal) f (LS rd nx L0 (s + 2))) (ix3 a e l)
      = nx (s + a.val) (rd (s + a.val) (LS rd nx L0 (s + a.val))) (ix3 0 e l) := by
  show v.read (Elt Ideal) (v.writes (Elt Ideal) f (⟨stR (s + 1), nx (s + 1) (rd (s + 1) (LS rd nx L0 (s + 1)))⟩
    :: ⟨stR s, nx s (rd s (LS rd nx L0 s))⟩ :: LS rd nx L0 s)) (ix3 a e l) = _
  have h1 := stR_not_mem s e l
  have h2 := stR_emb s e l
  have h3 := stR_emb (s + 1) e l
  match a with
  | 0 =>
    rw [show (ix3 (0 : Fin 2) e l : S2x128x128.Idx) = ix3 (⟨s % 2, by omega⟩ : Fin 2) e l from by simp only [hs]; rfl]
    change _ = nx (s + 0) (rd (s + 0) (LS rd nx L0 (s + 0))) (ix3 0 e l)
    rw [Nat.add_zero]
    generalize rd (s + 1) (LS rd nx L0 (s + 1)) = y1
    generalize rd s (LS rd nx L0 s) = y0
    generalize LS rd nx L0 s = L
    exact (View.read_writes_cons_miss v f (⟨stR (s + 1), nx (s + 1) y1⟩ : View.Piece (Elt Ideal) S2x128x128 .f32) (⟨stR s, nx s y0⟩ :: L) _ h1).trans (View.read_writes_cons_hit v f (stR s) (nx s y0) L (ix3 0 e l) _ h2)
  | 1 =>
    rw [show (ix3 (1 : Fin 2) e l : S2x128x128.Idx) = ix3 (⟨(s + 1) % 2, by omega⟩ : Fin 2) e l from by simp only [show (s + 1) % 2 = 1 by omega]; rfl]
    change _ = nx (s + 1) (rd (s + 1) (LS rd nx L0 (s + 1))) (ix3 0 e l)
    generalize rd (s + 1) (LS rd nx L0 (s + 1)) = y1
    exact View.read_writes_cons_hit v f (stR (s + 1)) _ _ (ix3 0 e l) _ h3

end

/-- The rows left by the first `s` steps. -/
theorem read_LO (v : View sig' κ sp S2x2048x128 .f32) (f : v.ty.Contents (Elt Ideal)) (p : ℕ → Vec Ideal S1x128x128 .f32) (a : Fin 2) (n : Fin 16) (r e : Fin 128)
    (s : ℕ) (hs : s ≤ 32) (h : 2 * n.val + a.val < s) :
    v.read (Elt Ideal) (v.writes (Elt Ideal) f (LO p s)) (ix3 a (⟨128 * n.val + r.val, by omega⟩ : Fin 2048) e) = p (2 * n.val + a.val) (ix3 0 r e) := by
  induction s with
  | zero => omega
  | succ s ih =>
    by_cases hq : 2 * n.val + a.val = s
    · subst hq
      refine View.read_writes_cons_hit v f (rowR (2 * n.val + a.val)) _ _ (ix3 0 r e) _ (Rect.emb_eq_of_coords _ _ _ fun b => ?_)
      have h1 : (2 * n.val + a.val) % 2 = a.val := by omega
      have h2 : (2 * n.val + a.val) / 2 % 16 = n.val := by omega
      fin_cases b <;> simp [ix3, h1, h2]
    · refine Eq.trans ?_ (ih (by omega) (by omega))
      by_cases hm : s % 2 = a.val
      · exact View.read_writes_cons_miss_of_axis v f _ _ _ (1 : Fin 3) (128 * (s / 2 % 16)) 128 rfl rfl rfl (by
          show 128 * n.val + r.val < 128 * (s / 2 % 16) ∨ 128 * (s / 2 % 16) + 128 ≤ 128 * n.val + r.val
          omega)
      · exact View.read_writes_cons_miss_of_axis v f _ _ _ (0 : Fin 3) (s % 2) 1 rfl rfl rfl (by
          show a.val < s % 2 ∨ s % 2 + 1 ≤ a.val
          omega)

/-- The states saved by the first `s` steps. -/
theorem read_LR (v : View sig' κ sp S2x16x128x128 .f32) (f : v.ty.Contents (Elt Ideal)) (p : ℕ → Vec Ideal S1x1x128x128 .f32) (a : Fin 2) (n : Fin 16) (r e : Fin 128)
    (s : ℕ) (hs : s ≤ 32) (h : 2 * n.val + a.val < s) :
    v.read (Elt Ideal) (v.writes (Elt Ideal) f (LR p s)) (ix4 a n r e) = p (2 * n.val + a.val) (ix4 0 0 r e) := by
  induction s with
  | zero => omega
  | succ s ih =>
    by_cases hq : 2 * n.val + a.val = s
    · subst hq
      refine View.read_writes_cons_hit v f (savR (2 * n.val + a.val)) _ _ (ix4 0 0 r e) _ (Rect.emb_eq_of_coords _ _ _ fun b => ?_)
      have h1 : (2 * n.val + a.val) % 2 = a.val := by omega
      have h2 : (2 * n.val + a.val) / 2 % 16 = n.val := by omega
      fin_cases b <;> simp [ix4, h1, h2]
    · refine Eq.trans ?_ (ih (by omega) (by omega))
      by_cases hm : s % 2 = a.val
      · exact View.read_writes_cons_miss_of_axis v f _ _ _ (1 : Fin 4) (s / 2 % 16) 1 rfl rfl rfl (by
          show n.val < s / 2 % 16 ∨ s / 2 % 16 + 1 ≤ n.val
          omega)
      · exact View.read_writes_cons_miss_of_axis v f _ _ _ (0 : Fin 4) (s % 2) 1 rfl rfl rfl (by
          show a.val < s % 2 ∨ s % 2 + 1 ≤ a.val
          omega)

/-- The first states of a block that starts from zero. -/
theorem rdA_zero (b : Memref sig .tc .vmem S2x128x128 .f32) (nx : ℕ → Vec Ideal S1x128x128 .f32 → Vec Ideal S1x128x128 .f32) (s : ℕ) (hs : s < 2) (e l : Fin 128) :
    rdA b s (LS (rdA b) nx [⟨zeroR, k0_pay5 (F := Ideal)⟩] s) (ix3 0 e l) = (0 : EReal) := by
  have hz (a : Fin 2) : View.canon (Val := Elt Ideal) [(⟨zeroR, k0_pay5 (F := Ideal)⟩ : View.Piece (Elt Ideal) S2x128x128 .f32)] (ix3 a e l) = (0 : EReal) := by
    have h := View.canon_cons_emb (Val := Elt Ideal) (e := .f32) zeroR (k0_pay5 (F := Ideal)) [] (ix3 a e l)
    rw [show zeroR.emb (ix3 a e l : S2x128x128.Idx) = ix3 a e l from Rect.emb_eq_of_coords _ _ _ fun x => by fin_cases x <;> simp [ix3, zeroR]] at h
    refine h.trans ?_
    unfold k0_pay5
    pointwise
  unfold rdA
  rw [View.readCov_eq_canon']
  obtain rfl | rfl : s = 0 ∨ s = 1 := by omega
  · exact (congrArg _ (stR_emb 0 e l)).trans (hz 0)
  · refine (congrArg _ (stR_emb 1 e l)).trans ((View.canon_cons_of_not_mem _ _ ?_).trans (hz 1))
    exact Rect.not_mem_set_of_axis _ _ 0 0 1 rfl rfl rfl (by right; show 0 + 1 ≤ 1; omega)

/-- A later state is what the same head's step before left. -/
theorem rdA_next (b : Memref sig .tc .vmem S2x128x128 .f32) (nx : ℕ → Vec Ideal S1x128x128 .f32 → Vec Ideal S1x128x128 .f32) (L0) (s : ℕ) :
    rdA b (s + 2) (LS (rdA b) nx L0 (s + 2)) = nx s (rdA b s (LS (rdA b) nx L0 s)) := rd_skip b.view s _ _ _
theorem rdB_next (b : Memref sig .tc .vmem S2x128x128 .f32) (hb : b.IsWhole) (xs : Vec Ideal S2x128x128 .f32) (nx : ℕ → Vec Ideal S1x128x128 .f32 → Vec Ideal S1x128x128 .f32) (L0) (s : ℕ) :
    rdB b hb xs (s + 2) (LS (rdB b hb xs) nx L0 (s + 2)) = nx s (rdB b hb xs s (LS (rdB b hb xs) nx L0 s)) := rd_skip b.view s _ _ _
theorem rdB_zero (b : Memref sig .tc .vmem S2x128x128 .f32) (hb : b.IsWhole) (xs : Vec Ideal S2x128x128 .f32) (L) (s : ℕ) (hs : s < 2) (e l : Fin 128) :
    rdB b hb xs s L (ix3 0 e l) = xs (ix3 (⟨s, hs⟩ : Fin 2) e l) := by
  obtain rfl | rfl : s = 0 ∨ s = 1 := by omega
  · exact ld_st hb xs 0 e l
  · exact ld_st hb xs 1 e l

end Cert.RetIdeal.Value
-- ==== Proof.RetTab.lean ====
module

public import proofs.«01_k».proof.Proof.RetLists
public import Idealize.ShloMosaic.Lib.StableHlo.RunRead
public import Idealize.ShloMosaic.Lib.StableHlo.ReadAt
public import Idealize.ShloMosaic.Lib.Tactic.CleanTypes

@[expose] public section

set_option maxRecDepth 16384
noncomputable section

/-! The tables and slabs the host prepares for the kernel. -/

namespace Cert.RetIdeal.Value

open Cert.RetIdeal Cert.RetIdeal.Gen Idealize.ShloMosaic Idealize.ShloMosaic.TcCoe Idealize.SL.Sem Idealize.ShloMosaic.StableHlo
open Cert.Hand Cert.Hand.Ret

variable (W : Valuation τ sig (Elt Ideal))

/-- The exponents of the frequencies. -/
theorem lin_at (j : S32.Idx) : after hostOps0_1 (after hostOps0 W) (Proc.devRef .tc main_v0) j = lin (j 0).val := by
  unfold lin
  after_reads_at
  split
  · after_reads_at
    simp only [id]
    pointwise
  · after_reads_at
    simp only [id]
    pointwise

/-- The cosines, four times side by side. -/
theorem v13_at (j : S4096x128.Idx) (hW : ∀ k : Fin 32, W (Proc.devRef .tc main_v0) (ix1 k) = lin k.val) :
    after hostOps0_2 W (Proc.devRef .tc main_v13) j = Ideal.cos (ang (j 0).val ((j 1).val % 32)) := by
  have hj : (j 1).val < 128 := (j 1).isLt
  unfold ang
  after_reads_at
  split
  · after_reads_at
    rw [hW]
    simp only [show (j 1).val % 32 = (j 1).val by omega]
  split
  · after_reads_at
    rw [hW]
    simp only [show (j 1).val % 32 = (j 1).val - 32 by omega]
  split
  · after_reads_at
    rw [hW]
    simp only [show (j 1).val % 32 = (j 1).val - 32 - 32 by omega]
  · after_reads_at
    rw [hW]
    simp only [show (j 1).val % 32 = (j 1).val - 32 - 32 - 32 by omega]

/-- The sines, the first half of each head negated. -/
theorem v16_at (j : S4096x128.Idx) (hW : ∀ k : Fin 32, W (Proc.devRef .tc main_v0) (ix1 k) = lin k.val) :
    after hostOps0_2 W (Proc.devRef .tc main_v16) j
      = if (j 1).val % 64 < 32 then -Ideal.sin (ang (j 0).val ((j 1).val % 32)) else Ideal.sin (ang (j 0).val ((j 1).val % 32)) := by
  have hj : (j 1).val < 128 := (j 1).isLt
  unfold ang
  after_reads_at
  split
  · after_reads_at
    rw [hW]
    simp only [show (j 1).val % 32 = (j 1).val by omega, show (j 1).val % 64 < 32 by omega, if_true]
  split
  · after_reads_at
    rw [hW]
    simp only [show (j 1).val % 32 = (j 1).val - 32 by omega, show ¬(j 1).val % 64 < 32 by omega, if_false]
  split
  · after_reads_at
    rw [hW]
    simp only [show (j 1).val % 32 = (j 1).val - 32 - 32 by omega, show (j 1).val % 64 < 32 by omega, if_true]
  · after_reads_at
    rw [hW]
    simp only [show (j 1).val % 32 = (j 1).val - 32 - 32 - 32 by omega, show ¬(j 1).val % 64 < 32 by omega, if_false]

/-- The projection's columns in slabs of 128. -/
theorem v19_at (j : S72x4096x128.Idx) :
    after hostOps0_2 W (Proc.devRef .tc main_v19) j = W (Proc.devRef .tc main_arg0) (ix3 0 (j 1) (⟨(j 0).val * 128 + (j 2).val, by have := (j 0).isLt; have := (j 2).isLt; simp at *; omega⟩ : Fin 9216)) := by
  after_reads_at

theorem arg0_at (j : S1x4096x9216.Idx) : after hostOps0_1 (after hostOps0 W) (Proc.devRef .tc main_arg0) j = W (Proc.devRef .tc main_arg0) j := by
  after_reads_at

end Cert.RetIdeal.Value
-- ==== Proof.RetLoad.lean ====
module

public import proofs.«01_k».proof.Proof.RetTab
public import Idealize.ShloMosaic.Lib.StableHlo.RunLoop

@[expose] public section

set_option maxRecDepth 16384
noncomputable section

/-! What a grid point's blocks hold: point `t` works on head pair `t / 2` and half `t % 2` of the sequence. -/

namespace Cert.RetIdeal.Value

open Cert.RetIdeal Cert.RetIdeal.Gen Idealize.ShloMosaic Idealize.ShloMosaic.TcCoe Idealize.SL.Sem Idealize.ShloMosaic.StableHlo
open Idealize.ShloMosaic.Pipeline (Dat)
open Cert.Hand Cert.Hand.Ret

variable (m : (ℓ : Loc nD τ sig) → Buf (Elt Ideal) ℓ) (c : Dev nD)

abbrev ax : FVec Ideal S1x4096x9216 .f32 := m ((c : Thread nD τ).loc main_arg0)

theorem N0 : cfg0.N = 8 := by decide +kernel

theorem t_lt (t : Fin cfg0.N) : t.val < 8 := lt_of_lt_of_eq t.isLt N0

/-- Where the windows' blocks lie. -/
theorem idx : ∀ t : Fin cfg0.N,
    win0_0.index t = ![32 + t.val / 2, t.val % 2, 0] ∧ win0_1.index t = ![36 + t.val / 2, t.val % 2, 0] ∧ win0_2.index t = ![20 + t.val / 2, t.val % 2, 0]
    ∧ win0_3.index t = ![t.val % 2, 0] ∧ win0_4.index t = ![t.val % 2, 0] :=
  (by decide +kernel : ∀ t : Fin grid0.N, _)

theorem coord : ∀ t : Fin cfg0.N, ((grid0.coords t) 0).val = t.val / 2 :=
  (by decide +kernel : ∀ t : Fin grid0.N, _)

theorem pj_eq (X : FVec Ideal S1x4096x9216 .f32) (t : Fin 4096) (k : Fin 9216) : pj X t.val k.val = X (ix3 0 t k) := by
  unfold pj
  rw [dif_pos ⟨t.isLt, k.isLt⟩]

/-- The region is entered after the three lists of host operations. -/
theorem V_eq (b : Ref sig .tc) : V m c b = after hostOps0_2 (after hostOps0_1 (after hostOps0 fun b => m (c, b))) (Proc.devRef .tc b) :=
  congrFun (afterL_eq_after_flatten [hostOps0, hostOps0_1, hostOps0_2] _).symm _

theorem slab_at (s : Fin 72) (r : Fin 4096) (l : Fin 128) :
    V m c main_v19 (ix3 s r l) = pj (ax m c) r.val (128 * s.val + l.val) := by
  rw [V_eq, v19_at]
  refine (arg0_at _ _).trans ?_
  rw [pj_eq (ax m c) r (⟨128 * s.val + l.val, by omega⟩ : Fin 9216)]
  refine congrArg (ax m c) (congrArg (ix3 0 r) (Fin.ext ?_))
  show s.val * 128 + l.val = _
  exact congrArg (· + l.val) (Nat.mul_comm _ _)

variable (t : Fin cfg0.N) (r : Fin 2048) (l : Fin 128)

theorem q_blk : (show FVec Ideal S1x2048x128 .f32 from iblk m c 0 t) (ix3 0 r l) = pj (ax m c) (2048 * (t.val % 2) + r.val) (4096 + 128 * (t.val / 2) + l.val) := by
  have ht := t_lt t
  obtain ⟨h, -⟩ := idx t
  have e : ((cfg0.win 0).blk t).view.emb (ix3 (0 : Fin 1) r l) = ix3 (⟨32 + t.val / 2, by omega⟩ : Fin 72) (⟨2048 * (t.val % 2) + r.val, by omega⟩ : Fin 4096) l := by blk_ext [h]
  refine (congrArg (V m c main_v19) e).trans ((slab_at m c _ _ _).trans (congrArg (pj _ _) ?_))
  show 128 * (32 + t.val / 2) + l.val = _
  omega

theorem k_blk : (show FVec Ideal S1x2048x128 .f32 from iblk m c 1 t) (ix3 0 r l) = pj (ax m c) (2048 * (t.val % 2) + r.val) (4608 + 128 * (t.val / 2) + l.val) := by
  have ht := t_lt t
  obtain ⟨-, h, -⟩ := idx t
  have e : ((cfg0.win 1).blk t).view.emb (ix3 (0 : Fin 1) r l) = ix3 (⟨36 + t.val / 2, by omega⟩ : Fin 72) (⟨2048 * (t.val % 2) + r.val, by omega⟩ : Fin 4096) l := by blk_ext [h]
  refine (congrArg (V m c main_v19) e).trans ((slab_at m c _ _ _).trans (congrArg (pj _ _) ?_))
  show 128 * (36 + t.val / 2) + l.val = _
  omega

theorem v_blk (a : Fin 2) : (show FVec Ideal S2x2048x128 .f32 from iblk m c 2 t) (ix3 a r l) = pj (ax m c) (2048 * (t.val % 2) + r.val) (5120 + 128 * (2 * (t.val / 2) + a.val) + l.val) := by
  have ht := t_lt t
  obtain ⟨-, -, h, -⟩ := idx t
  have e : ((cfg0.win 2).blk t).view.emb (ix3 a r l) = ix3 (⟨2 * (20 + t.val / 2) + a.val, by omega⟩ : Fin 72) (⟨2048 * (t.val % 2) + r.val, by omega⟩ : Fin 4096) l := by blk_ext [h]
  refine (congrArg (V m c main_v19) e).trans ((slab_at m c _ _ _).trans (congrArg (pj _ _) ?_))
  show 128 * (2 * (20 + t.val / 2) + a.val) + l.val = _
  omega

theorem lin_row (k : Fin 32) : after hostOps0_1 (after hostOps0 fun b => m (c, b)) (Proc.devRef .tc main_v0) (ix1 k) = lin k.val := lin_at _ _

theorem cos_blk : (show FVec Ideal S2048x128 .f32 from iblk m c 3 t) (ix2 r l) = Ideal.cos (ang (2048 * (t.val % 2) + r.val) (l.val % 32)) := by
  have ht := t_lt t
  obtain ⟨-, -, -, h, -⟩ := idx t
  have e : ((cfg0.win 3).blk t).view.emb (ix2 r l) = ix2 (⟨2048 * (t.val % 2) + r.val, by omega⟩ : Fin 4096) l := by blk_ext [h]
  exact (congrArg (V m c main_v13) e).trans ((congrFun (V_eq m c main_v13) _).trans (v13_at _ _ (lin_row m c)))

theorem sin_blk : (show FVec Ideal S2048x128 .f32 from iblk m c 4 t) (ix2 r l)
    = if l.val % 64 < 32 then -Ideal.sin (ang (2048 * (t.val % 2) + r.val) (l.val % 32)) else Ideal.sin (ang (2048 * (t.val % 2) + r.val) (l.val % 32)) := by
  have ht := t_lt t
  obtain ⟨-, -, -, -, h⟩ := idx t
  have e : ((cfg0.win 4).blk t).view.emb (ix2 r l) = ix2 (⟨2048 * (t.val % 2) + r.val, by omega⟩ : Fin 4096) l := by blk_ext [h]
  exact (congrArg (V m c main_v16) e).trans ((congrFun (V_eq m c main_v16) _).trans (v16_at _ _ (lin_row m c)))

end Cert.RetIdeal.Value
-- ==== Proof.RetPoint.lean ====
module

public import proofs.«01_k».proof.Proof.RetLoad

@[expose] public section

set_option maxRecDepth 16384
noncomputable section

/-! What a grid point leaves: the chunks' states and outputs of its two heads. -/

namespace Cert.RetIdeal.Value

open Cert.RetIdeal Cert.RetIdeal.Gen Idealize.ShloMosaic Idealize.ShloMosaic.TcCoe Idealize.SL.Sem
open Idealize.ShloMosaic.Pipeline (Dat)
open Cert.Hand Cert.Hand.Ret

variable (m : (ℓ : Loc nD τ sig) → Buf (Elt Ideal) ℓ) (c : Dev nD) (t : Fin cfg0.N)

/-- Head `a` of the point's pair. -/
abbrev hN (t a : ℕ) : ℕ := 2 * (t / 2) + a

/-- A state word holds head `a`'s state before chunk `N`. -/
def Holds (a N : ℕ) (st : Vec Ideal S1x128x128 .f32) : Prop :=
  ∀ e l : Fin 128, st (ix3 0 e l) = stL (fun b => kv (ax m c) (hN t.val b)) (vv (ax m c) (hN t.val a)) (lgv (hN t.val a)) a N e.val l.val

abbrev qsT := qs (F := Ideal) (ms0_0 t) (hs0_0 t) (ms0_3 t) (hs0_3 t) (ms0_4 t) (hs0_4 t) (iblk m c 0 t) (iblk m c 3 t) (iblk m c 4 t)
abbrev ksT := ks (F := Ideal) (ms0_1 t) (hs0_1 t) (ms0_3 t) (hs0_3 t) (ms0_4 t) (hs0_4 t) (iblk m c 1 t) (iblk m c 3 t) (iblk m c 4 t)
abbrev vsT := vs (F := Ideal) (ms0_2 t) (hs0_2 t) (iblk m c 2 t)
abbrev nxT := nxs (F := Ideal) (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)
abbrev outT := outs (F := Ideal) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)

variable (n : Fin 16) (a : Fin 2)

/-- The step of head `a` in chunk `n`, and the chunk's number in the sequence. -/
abbrev stp : ℕ := 2 * n.val + a.val
abbrev chN : ℕ := 16 * (t.val % 2) + n.val

theorem stp_div : stp n a / 2 % 16 = n.val := by unfold stp; omega
theorem stp_mod : stp n a % 2 = a.val := by unfold stp; omega

theorem lgT_at (l : Fin 128) : lgs (F := Ideal) (grid0.coords t) (stp n a) (ix2 0 l) = lgv (hN t.val a.val) := by
  have ht := t_lt t
  unfold lgs
  rw [stp_mod, coord]
  exact lgk_at (⟨t.val / 2, by omega⟩ : Fin 4) a l

theorem csT_at (i l : Fin 128) :
    View.readAt (Elt Ideal) (ms0_3 t).view (tabR (stp n a)).toLoadRect ((hs0_3 t).unread (iblk m c 3 t)) (ix2 i l) = Ideal.cos (ang (128 * chN t n + i.val) (l.val % 32)) := by
  refine (ld_tab (hs0_3 t) _ _ i l).trans ((cos_blk m c t _ l).trans ?_)
  simp only [stp_div]
  rw [show 2048 * (t.val % 2) + (128 * n.val + i.val) = 128 * chN t n + i.val by unfold chN; omega]

theorem snT_at (i l : Fin 128) :
    View.readAt (Elt Ideal) (ms0_4 t).view (tabR (stp n a)).toLoadRect ((hs0_4 t).unread (iblk m c 4 t)) (ix2 i l)
      = if l.val % 64 < 32 then -Ideal.sin (ang (128 * chN t n + i.val) (l.val % 32)) else Ideal.sin (ang (128 * chN t n + i.val) (l.val % 32)) := by
  refine (ld_tab (hs0_4 t) _ _ i l).trans ((sin_blk m c t _ l).trans ?_)
  simp only [stp_div]
  rw [show 2048 * (t.val % 2) + (128 * n.val + i.val) = 128 * chN t n + i.val by unfold chN; omega]

theorem qsT_at (i l : Fin 128) : qsT m c t (stp n a) (ix2 i l) = qv (ax m c) (hN t.val (l.val / 64)) (128 * chN t n + i.val) (l.val % 64) := by
  refine rotk_at _ _ _ (fun b s d => pj (ax m c) s (4096 + 64 * hN t.val b + d)) (128 * chN t n) (csT_at m c t n a) (snT_at m c t n a) (fun i l => ?_) i l
  refine (ld_in (hs0_0 t) _ _ i l).trans ((q_blk m c t _ l).trans ?_)
  simp only [stp_div]
  rw [show 2048 * (t.val % 2) + (128 * n.val + i.val) = 128 * chN t n + i.val by unfold chN; omega]
  exact congrArg _ (by unfold hN; omega)

theorem ksT_at (i l : Fin 128) : ksT m c t (stp n a) (ix2 i l) = kv (ax m c) (hN t.val (l.val / 64)) (128 * chN t n + i.val) (l.val % 64) := by
  refine (keyk_at _ _ _ i l).trans (congrArg (· * _) ?_)
  refine rotk_at _ _ _ (fun b s d => pj (ax m c) s (4608 + 64 * hN t.val b + d)) (128 * chN t n) (csT_at m c t n a) (snT_at m c t n a) (fun i l => ?_) i l
  refine (ld_in (hs0_1 t) _ _ i l).trans ((k_blk m c t _ l).trans ?_)
  simp only [stp_div]
  rw [show 2048 * (t.val % 2) + (128 * n.val + i.val) = 128 * chN t n + i.val by unfold chN; omega]
  exact congrArg _ (by unfold hN; omega)

theorem vsT_at (i e : Fin 128) : vsT m c t (stp n a) (ix3 0 i e) = vv (ax m c) (hN t.val a.val) (128 * chN t n + i.val) e.val := by
  refine (ld_row (hs0_2 t) _ _ i e).trans ((v_blk m c t _ e _).trans ?_)
  simp only [stp_div, stp_mod]
  rw [show 2048 * (t.val % 2) + (128 * n.val + i.val) = 128 * chN t n + i.val by unfold chN; omega]
  rfl

/-- A step takes the state to the next chunk's. -/
theorem nxT_holds (st : Vec Ideal S1x128x128 .f32) (h : Holds m c t a.val (chN t n) st) :
    Holds m c t a.val (chN t n + 1) (nxT m c t (stp n a) st) := by
  intro e l
  refine (nxtk_at _ _ _ _ _ e l).trans ?_
  rw [h, cdk_at _ _ (lgT_at t n a), ← stL_succ, stp_mod]
  refine congrArg (_ + ·) (Finset.sum_congr rfl fun j _ => ?_)
  rw [zek_at _ _ (lgT_at t n a), lmk_at]
  exact congrArg₂ (· * ·) (vsT_at m c t n a j e) (congrArg (· * _ * _) (ksT_at m c t n a j l))

/-- A step's rows are the output of its chunk. -/
theorem outT_at (st : Vec Ideal S1x128x128 .f32) (h : Holds m c t a.val (chN t n) st) (i e : Fin 128) :
    outT m c t (stp n a) st (ix3 0 i e)
      = out (qv (ax m c) (hN t.val a.val)) (kv (ax m c) (hN t.val a.val)) (vv (ax m c) (hN t.val a.val)) (lgv (hN t.val a.val)) (chN t n) i.val e.val := by
  refine (outk_at _ _ _ _ _ _ i e).trans ?_
  rw [← outL (fun b => qv (ax m c) (hN t.val b)) (fun b => kv (ax m c) (hN t.val b)) _ _ _ a.isLt, stp_mod]
  simp only [dmk_at _ _ (lgT_at t n a), xik_at _ _ (lgT_at t n a), lmk_at, h _ _]
  refine congrArg₂ (· + ·) (Finset.sum_congr rfl fun j _ => ?_) (Finset.sum_congr rfl fun j _ => ?_)
  · refine congrArg₂ (· * ·) (congrArg (· * _) (Finset.sum_congr rfl fun l _ => ?_)) (vsT_at m c t n a j e)
    exact congrArg₂ (· * ·) (congrArg (· * _) (qsT_at m c t n a i l)) (congrArg (· * _) (ksT_at m c t n a j l))
  · exact congrArg (· * _ * _ * _) (qsT_at m c t n a i j)

end Cert.RetIdeal.Value
-- ==== Proof.RetArray.lean ====
module

public import proofs.«01_k».proof.Proof.RetPoint

@[expose] public section

set_option maxRecDepth 16384
noncomputable section

/-! The two arrays the kernel leaves. -/

namespace Cert.RetIdeal.Value

open Cert.RetIdeal Cert.RetIdeal.Gen Idealize.ShloMosaic Idealize.ShloMosaic.TcCoe Idealize.SL.Sem
open Idealize.ShloMosaic.Pipeline (Dat)
open Cert.Hand Cert.Hand.Ret

variable (m : (ℓ : Loc nD τ sig) → Buf (Elt Ideal) ℓ) (c : Dev nD) (t : Fin cfg0.N)

/-- The states stored at a point that starts from zero, and at one that goes on from `xs`. -/
abbrev lsA := LSA (F := Ideal) (grid0.coords t) (ms0_1 t) (hs0_1 t) (ms0_2 t) (hs0_2 t) (ms0_3 t) (hs0_3 t) (ms0_4 t) (hs0_4 t) scM0_0 (iblk m c 1 t) (iblk m c 2 t) (iblk m c 3 t) (iblk m c 4 t)
abbrev lsB (xs : Vec Ideal S2x128x128 .f32) := LSB (F := Ideal) (grid0.coords t) (ms0_1 t) (hs0_1 t) (ms0_2 t) (hs0_2 t) (ms0_3 t) (hs0_3 t) (ms0_4 t) (hs0_4 t) scM0_0 (Memref.isWhole_whole _) (iblk m c 1 t) (iblk m c 2 t) (iblk m c 3 t) (iblk m c 4 t) xs

theorem holdsA (h0 : t.val % 2 = 0) (a : Fin 2) : ∀ (n : ℕ) (hn : n < 16),
    Holds m c t a.val (chN t ⟨n, hn⟩) (rdA scM0_0 (stp ⟨n, hn⟩ a) (lsA m c t (stp ⟨n, hn⟩ a)))
  | 0, hn => fun e l => by
    refine (rdA_zero scM0_0 (nxT m c t) _ (show stp ⟨0, hn⟩ a < 2 by show 2 * 0 + a.val < 2; omega) e l).trans ?_
    rw [show chN t ⟨0, hn⟩ = 0 by show 16 * (t.val % 2) + 0 = 0; omega]
    exact (stL_zero _ _ _ _ _ _).symm
  | n + 1, hn => by
    have ih := nxT_holds m c t ⟨n, by omega⟩ a _ (holdsA h0 a n (by omega))
    rw [show stp ⟨n + 1, hn⟩ a = stp (⟨n, by omega⟩ : Fin 16) a + 2 by show 2 * (n + 1) + a.val = 2 * n + a.val + 2; omega]
    exact (congrArg (Holds m c t a.val (chN t ⟨n + 1, hn⟩)) (rdA_next scM0_0 (nxT m c t) _ _)).mpr ih

theorem holdsB (xs : Vec Ideal S2x128x128 .f32) (h0 : ¬t.val % 2 = 0) (a : Fin 2)
    (hx : ∀ e l : Fin 128, xs (ix3 a e l) = stL (fun b => kv (ax m c) (hN t.val b)) (vv (ax m c) (hN t.val a)) (lgv (hN t.val a)) a 16 e.val l.val) :
    ∀ (n : ℕ) (hn : n < 16), Holds m c t a.val (chN t ⟨n, hn⟩) (rdB scM0_0 (Memref.isWhole_whole _) xs (stp ⟨n, hn⟩ a) (lsB m c t xs (stp ⟨n, hn⟩ a)))
  | 0, hn => fun e l => by
    have hs : stp ⟨0, hn⟩ a < 2 := by show 2 * 0 + a.val < 2; omega
    refine (rdB_zero scM0_0 (Memref.isWhole_whole _) xs _ _ hs e l).trans ?_
    rw [show chN t ⟨0, hn⟩ = 16 by show 16 * (t.val % 2) + 0 = 16; omega]
    rw [show (⟨stp ⟨0, hn⟩ a, hs⟩ : Fin 2) = a from Fin.ext (show 2 * 0 + a.val = a.val by omega)]
    exact hx e l
  | n + 1, hn => by
    have ih := nxT_holds m c t ⟨n, by omega⟩ a _ (holdsB xs h0 a hx n (by omega))
    rw [show stp ⟨n + 1, hn⟩ a = stp (⟨n, by omega⟩ : Fin 16) a + 2 by show 2 * (n + 1) + a.val = 2 * n + a.val + 2; omega]
    exact (congrArg (Holds m c t a.val (chN t ⟨n + 1, hn⟩)) (rdB_next scM0_0 (Memref.isWhole_whole _) xs (nxT m c t) _ _)).mpr ih

/-- The first half of the sequence leaves the states before chunk 16. -/
theorem scratch_at (h0 : t.val % 2 = 0) (a : Fin 2) (e l : Fin 128) :
    (outsAt0 m c t.val t.isLt).2.2 (ix3 a e l)
      = stL (fun b => kv (ax m c) (hN t.val b)) (vv (ax m c) (hN t.val a)) (lgv (hN t.val a)) a 16 e.val l.val := by
  rw [outsAt0_A m c t h0]
  dsimp only
  unfold sout0_A_0
  rw [statesA]
  refine (read_LS (nxT m c t) _ (rdA scM0_0) VS0_0 _ 30 rfl a e l).trans ?_
  have h := nxT_holds m c t 15 a _ (holdsA m c t h0 a 15 (by omega)) e l
  rw [show chN t 15 + 1 = 16 by show 16 * (t.val % 2) + 15 + 1 = 16; omega] at h
  exact h

/-- What a point writes: the rows of its chunks' outputs … -/
theorem rows_at (a : Fin 2) (n : Fin 16) (r e : Fin 128) :
    (outsAt0 m c t.val t.isLt).1 (ix3 a (⟨128 * n.val + r.val, by omega⟩ : Fin 2048) e)
      = out (qv (ax m c) (hN t.val a.val)) (kv (ax m c) (hN t.val a.val)) (vv (ax m c) (hN t.val a.val)) (lgv (hN t.val a.val)) (chN t n) r.val e.val := by
  by_cases h0 : t.val % 2 = 0
  · rw [outsAt0_A m c t h0]
    dsimp only
    unfold out0_A_5
    rw [rowsA]
    exact (read_LO VO0_5 _ _ a n r e 32 le_rfl (by omega)).trans (outT_at m c t n a _ (holdsA m c t h0 a n.val n.isLt) r e)
  · have ht := t_lt t
    have hx := scratch_at m c ⟨t.val - 1, Nat.lt_of_le_of_lt (Nat.sub_le _ _) t.isLt⟩ (show (t.val - 1) % 2 = 0 by omega) a
    simp only [hN, show (t.val - 1) / 2 = t.val / 2 by omega] at hx
    rw [outsAt0_B m c t h0]
    dsimp only
    unfold out0_B_5
    rw [rowsB]
    exact (read_LO VO0_5 _ _ a n r e 32 le_rfl (by omega)).trans (outT_at m c t n a _ (holdsB m c t _ h0 a hx n.val n.isLt) r e)

/-- … and the states before them. -/
theorem saved_at (a : Fin 2) (n : Fin 16) (e l : Fin 128) :
    (outsAt0 m c t.val t.isLt).2.1 (ix4 a n e l)
      = stL (fun b => kv (ax m c) (hN t.val b)) (vv (ax m c) (hN t.val a)) (lgv (hN t.val a)) a (chN t n) e.val l.val := by
  by_cases h0 : t.val % 2 = 0
  · rw [outsAt0_A m c t h0]
    dsimp only
    unfold out0_A_6
    rw [savedA]
    exact (read_LR VO0_6 _ _ a n e l 32 le_rfl (by omega)).trans ((savk_at _ e l).trans (holdsA m c t h0 a n.val n.isLt e l))
  · have ht := t_lt t
    have hx := scratch_at m c ⟨t.val - 1, Nat.lt_of_le_of_lt (Nat.sub_le _ _) t.isLt⟩ (show (t.val - 1) % 2 = 0 by omega) a
    simp only [hN, show (t.val - 1) / 2 = t.val / 2 by omega] at hx
    rw [outsAt0_B m c t h0]
    dsimp only
    unfold out0_B_6
    rw [savedB]
    exact (read_LR VO0_6 _ _ a n e l 32 le_rfl (by omega)).trans ((savk_at _ e l).trans (holdsB m c t _ h0 a hx n.val n.isLt e l))

/-- The output array. -/
theorem G5_at (h : Fin 8) (s : Fin 4096) (e : Fin 128) :
    G5 m c (ix3 h s e) = out (qv (ax m c) h) (kv (ax m c) h) (vv (ax m c) h) (lgv h) (s.val / 128) (s.val % 128) e.val := by
  have hp : pt5Of (ix3 h s e : S8x4096x128.Idx) = 2 * (h.val / 2) + s.val / 2048 := by
    show 2 * (h.val / 2 - 0) + 1 * (s.val / 2048 - 0) + 1 * (e.val / 128 - 0) = _
    omega
  have hb : 2 * (h.val / 2) + s.val / 2048 < cfg0.N := by rw [N0]; omega
  unfold G5
  rw [dif_pos (by rw [hp]; exact hb), fold0_congr m c _ _ _ (by omega) hp, ← outsAt0_sweep m c _ hb]
  rw [show loc5Of (ix3 h s e : S8x4096x128.Idx) = (ix3 (⟨h.val % 2, by omega⟩ : Fin 2) (⟨128 * (s.val % 2048 / 128) + s.val % 128, by omega⟩ : Fin 2048) e : S2x2048x128.Idx) from
    funext fun x => Fin.ext (by
      match x with
      | ⟨0, _⟩ => rfl
      | ⟨1, _⟩ => show s.val % 2048 = 128 * (s.val % 2048 / 128) + s.val % 128; omega
      | ⟨2, _⟩ => exact Nat.mod_eq_of_lt e.isLt)]
  have h' := rows_at m c ⟨_, hb⟩ (⟨h.val % 2, by omega⟩ : Fin 2) (⟨s.val % 2048 / 128, by omega⟩ : Fin 16) (⟨s.val % 128, by omega⟩ : Fin 128) e
  simp only [hN, chN, show 2 * ((2 * (h.val / 2) + s.val / 2048) / 2) + h.val % 2 = h.val by omega,
    show 16 * ((2 * (h.val / 2) + s.val / 2048) % 2) + s.val % 2048 / 128 = s.val / 128 by omega] at h'
  exact h'

/-- The array of states: head `h`'s in the lanes of its half, zero in the others. -/
theorem G6_at (h : Fin 8) (n : Fin 32) (e l : Fin 128) :
    G6 m c (ix4 h n e l) = stL (fun _ => kv (ax m c) h) (vv (ax m c) h) (lgv h) (h.val % 2) n.val e.val l.val := by
  have hp : pt6Of (ix4 h n e l : S8x32x128x128.Idx) = 2 * (h.val / 2) + n.val / 16 := by
    show 2 * (h.val / 2 - 0) + 1 * (n.val / 16 - 0) + 1 * (e.val / 128 - 0) + 1 * (l.val / 128 - 0) = _
    omega
  have hb : 2 * (h.val / 2) + n.val / 16 < cfg0.N := by rw [N0]; omega
  unfold G6
  rw [dif_pos (by rw [hp]; exact hb), fold0_congr m c _ _ _ (by omega) hp, ← outsAt0_sweep m c _ hb]
  rw [show loc6Of (ix4 h n e l : S8x32x128x128.Idx) = (ix4 (⟨h.val % 2, by omega⟩ : Fin 2) (⟨n.val % 16, by omega⟩ : Fin 16) e l : S2x16x128x128.Idx) from
    funext fun x => Fin.ext (by
      match x with
      | ⟨0, _⟩ => rfl
      | ⟨1, _⟩ => rfl
      | ⟨2, _⟩ => exact Nat.mod_eq_of_lt e.isLt
      | ⟨3, _⟩ => exact Nat.mod_eq_of_lt l.isLt)]
  have h' := saved_at m c ⟨_, hb⟩ (⟨h.val % 2, by omega⟩ : Fin 2) (⟨n.val % 16, by omega⟩ : Fin 16) e l
  simp only [hN, chN, show 2 * ((2 * (h.val / 2) + n.val / 16) / 2) + h.val % 2 = h.val by omega,
    show 16 * ((2 * (h.val / 2) + n.val / 16) % 2) + n.val % 16 = n.val by omega] at h'
  refine h'.trans ?_
  unfold stL
  by_cases hl : l.val / 64 = h.val % 2
  · simp only [hl, if_true, show 2 * ((2 * (h.val / 2) + n.val / 16) / 2) + h.val % 2 = h.val by omega]
  · simp only [hl, if_false]

end Cert.RetIdeal.Value
-- ==== Proof.RetRefTab.lean ====
module

public import proofs.«01_k».proof.Proof.RetChunk
public import proofs.«01_k».proof.Proof.Gen.RetRefIdeal.Run
public import Idealize.ShloMosaic.Lib.StableHlo.RunRead
public import Idealize.ShloMosaic.Lib.StableHlo.ReadAt
public import Idealize.ShloMosaic.Lib.Tactic.CleanTypes

@[expose] public section

set_option maxRecDepth 16384
noncomputable section

/-! What the reference computes before its loop, stretch by stretch. -/

namespace Cert.RetRefIdeal.Value

open Cert.RetRefIdeal Cert.RetRefIdeal.Gen Idealize.ShloMosaic Idealize.ShloMosaic.TcCoe Idealize.SL.Sem Idealize.ShloMosaic.StableHlo
open Cert.Hand Cert.Hand.Ret

variable (W : Valuation τ sig (Elt Ideal)) (X : S1x4096x9216.Idx → EReal)

/-- Row `i` of chunk `n` in the sequence. -/
abbrev row (n : Fin 32) (i : Fin 128) : Fin 4096 := ⟨n.val * 128 + i.val, by omega⟩

theorem lin3_at (j : S32.Idx) : after hostOps0_1 (after hostOps0 W) (Proc.devRef .tc main_v3) j = lin (j 0).val := by
  unfold lin
  after_reads_at
  split
  · after_reads_at
    simp only [id]
    pointwise
  · after_reads_at
    simp only [id]
    pointwise

theorem lin33_at (j : S32.Idx) : after hostOps0_3 (after hostOps0_2 W) (Proc.devRef .tc main_v33) j = lin (j 0).val := by
  unfold lin
  after_reads_at
  split
  · after_reads_at
    simp only [id]
    pointwise
  · after_reads_at
    simp only [id]
    pointwise

theorem pj_at (X : S1x4096x9216.Idx → EReal) (t : Fin 4096) (c : Fin 9216) : X (ix3 0 t c) = pj X t.val c.val := by
  unfold pj
  rw [dif_pos ⟨t.isLt, c.isLt⟩]

theorem v2_at (hX : ∀ t c, W (Proc.devRef .tc main_arg0) (ix3 0 t c) = X (ix3 0 t c)) (t : Fin 4096) (h : Fin 8) (d : Fin 64) :
    after hostOps0 W (Proc.devRef .tc main_v2) (ix4 0 t h d) = pj X t.val (4096 + 64 * h.val + d.val) := by
  after_reads_at
  exact (hX _ _).trans ((pj_at X _ _).trans (congrArg (pj X _) (by show 4096 + (h.val * 64 + d.val) = _; omega)))

theorem v0_at (t : Fin 4096) : after hostOps0 W (Proc.devRef .tc main_v0) (ix1 t) = BitVec.ofNat 32 t.val := by
  after_reads_at

/-- The queries rotated. -/
theorem v30_at (h0 : ∀ t : Fin 4096, W (Proc.devRef .tc main_v0) (ix1 t) = BitVec.ofNat 32 t.val)
    (h3 : ∀ k : Fin 32, W (Proc.devRef .tc main_v3) (ix1 k) = lin k.val)
    (h2 : ∀ (t : Fin 4096) (h : Fin 8) (d : Fin 64), W (Proc.devRef .tc main_v2) (ix4 0 t h d) = pj X t.val (4096 + 64 * h.val + d.val))
    (t : Fin 4096) (h : Fin 8) (d : Fin 64) :
    after hostOps0_2 W (Proc.devRef .tc main_v30) (ix4 0 t h d) = qv X h.val t.val d.val := by
  unfold qv rot ang
  after_reads_at
  split
  · simp only [h0, h2, h3]
  · simp only [h0, h2, h3]

theorem v32_at (hX : ∀ t c, W (Proc.devRef .tc main_arg0) (ix3 0 t c) = X (ix3 0 t c)) (t : Fin 4096) (h : Fin 8) (d : Fin 64) :
    after hostOps0_2 W (Proc.devRef .tc main_v32) (ix4 0 t h d) = pj X t.val (4608 + 64 * h.val + d.val) := by
  after_reads_at
  exact (hX _ _).trans ((pj_at X _ _).trans (congrArg (pj X _) (by show 4608 + (h.val * 64 + d.val) = _; omega)))

/-- The keys rotated and scaled, in chunks. -/
theorem v77_at (h0 : ∀ t : Fin 4096, W (Proc.devRef .tc main_v0) (ix1 t) = BitVec.ofNat 32 t.val)
    (h3 : ∀ k : Fin 32, W (Proc.devRef .tc main_v33) (ix1 k) = lin k.val)
    (h2 : ∀ (t : Fin 4096) (h : Fin 8) (d : Fin 64), W (Proc.devRef .tc main_v32) (ix4 0 t h d) = pj X t.val (4608 + 64 * h.val + d.val))
    (h : Fin 8) (n : Fin 32) (i : Fin 128) (d : Fin 64) :
    after hostOps0_4 W (Proc.devRef .tc main_v77) (ix5 0 h n i d) = kv X h.val (128 * n.val + i.val) d.val := by
  rw [mul_comm 128 n.val]
  unfold kv rot ang
  after_reads_at
  split
  · after_reads_at
    simp only [h0, h2, h3]
  · after_reads_at
    simp only [h0, h2, h3]

theorem v75_at (h30 : ∀ (t : Fin 4096) (h : Fin 8) (d : Fin 64), W (Proc.devRef .tc main_v30) (ix4 0 t h d) = qv X h.val t.val d.val)
    (h : Fin 8) (n : Fin 32) (i : Fin 128) (d : Fin 64) :
    after hostOps0_4 W (Proc.devRef .tc main_v75) (ix5 0 h n i d) = qv X h.val (128 * n.val + i.val) d.val := by
  rw [mul_comm 128 n.val]
  after_reads_at
  exact h30 _ _ _

theorem v79_at (hX : ∀ t c, W (Proc.devRef .tc main_arg0) (ix3 0 t c) = X (ix3 0 t c)) (h : Fin 8) (n : Fin 32) (i e : Fin 128) :
    after hostOps0_4 W (Proc.devRef .tc main_v79) (ix5 0 h n i e) = vv X h.val (128 * n.val + i.val) e.val := by
  rw [mul_comm 128 n.val]
  unfold vv
  after_reads_at
  exact (hX _ _).trans ((pj_at X _ _).trans (congrArg (pj X _) (by show 5120 + (h.val * 128 + e.val) = _; omega)))

theorem v80_at (i : Fin 128) : after hostOps0_4 W (Proc.devRef .tc main_v80) (ix1 i) = nat i.val := by
  after_reads_at

theorem five (x : EReal) : Ideal.ofBits .f32 3231711232#32 - x = 0 - (Ideal.ofBits .f32 1084227584#32 + x) := by
  have h5 : Ideal.ofBits .f32 1084227584#32 = ((5 : ℝ) : EReal) := by
    simp [Ideal.ofBits, Ideal.ieee, -EReal.coe_mul]; norm_num
  have hn : Ideal.ofBits .f32 3231711232#32 = ((-5 : ℝ) : EReal) := by
    simp [Ideal.ofBits, Ideal.ieee, -EReal.coe_mul, -EReal.coe_neg]; norm_num
  rw [h5, hn]
  induction x with
  | bot => simp
  | top => simp
  | coe r =>
    rw [← EReal.coe_sub, ← EReal.coe_add, ← EReal.coe_zero, ← EReal.coe_sub]
    congr 1
    ring

/-- The log decay. -/
theorem v71_at (h : Fin 8) : after hostOps0_4 W (Proc.devRef .tc main_v71) (ix1 h) = lgv h.val := by
  unfold lgv
  after_reads_at
  rw [five, mul_comm (Ideal.ofBits .f32 1060205080#32)]

/-- The decays between the positions of a chunk. -/
theorem v95_at (h : Fin 8) (i j : Fin 128) :
    after hostOps0_4 W (Proc.devRef .tc main_v95) (ix3 h i j) = Ideal.exp (lgv h.val * max (nat i.val - nat j.val) 0) := by
  unfold lgv
  after_reads_at
  rw [five, mul_comm (Ideal.ofBits .f32 1060205080#32)]

theorem v96_at (h : Fin 8) (i j : Fin 128) :
    after hostOps0_5 (after hostOps0_4 W) (Proc.devRef .tc main_v96) (ix3 h i j) = dmv (lgv h.val) i.val j.val := by
  have h95 := v95_at W h i j
  have h87 : after hostOps0_4 W (Proc.devRef .tc main_v87) (ix2 i j) = FloatOps.cmpf (F := Ideal) (φ := .f32) .oge (nat i.val - nat j.val) 0 := by
    after_reads_at
  have hc : after hostOps0_4 W (Proc.devRef .tc main_cst_13) ix0 = (0 : EReal) := by
    after_reads_at
  generalize after hostOps0_4 W = W' at h95 h87 hc ⊢
  after_reads_at
  simp only [id]
  rw [h95, h87, hc]
  unfold dmv
  pointwise

section Chunks

variable (h75 : ∀ (h : Fin 8) (n : Fin 32) (i : Fin 128) (d : Fin 64), W (Proc.devRef .tc main_v75) (ix5 0 h n i d) = qv X h.val (128 * n.val + i.val) d.val)
  (h77 : ∀ (h : Fin 8) (n : Fin 32) (i : Fin 128) (d : Fin 64), W (Proc.devRef .tc main_v77) (ix5 0 h n i d) = kv X h.val (128 * n.val + i.val) d.val)
  (h79 : ∀ (h : Fin 8) (n : Fin 32) (i e : Fin 128), W (Proc.devRef .tc main_v79) (ix5 0 h n i e) = vv X h.val (128 * n.val + i.val) e.val)
  (h96 : ∀ (h : Fin 8) (i j : Fin 128), W (Proc.devRef .tc main_v96) (ix3 h i j) = dmv (lgv h.val) i.val j.val)
  (h71 : ∀ h : Fin 8, W (Proc.devRef .tc main_v71) (ix1 h) = lgv h.val)
  (h80 : ∀ i : Fin 128, W (Proc.devRef .tc main_v80) (ix1 i) = nat i.val)

include h75 h77 h79 h96 in
/-- What the chunk itself contributes to the output. -/
theorem v102_at (h : Fin 8) (n : Fin 32) (i e : Fin 128) :
    after hostOps0_6 W (Proc.devRef .tc main_v102) (ix5 0 h n i e)
      = ∑ j : Fin 128, ((∑ d : Fin 64, qv X h.val (128 * n.val + i.val) d.val * kv X h.val (128 * n.val + j.val) d.val) * dmv (lgv h.val) i.val j.val) * vv X h.val (128 * n.val + j.val) e.val := by
  after_reads_at
  simp only [h75, h77, h79, h96]

include h77 h79 h71 h80 in
/-- What the chunk adds to the state. -/
theorem add_at (n : Fin 32) (h : Fin 8) (d : Fin 64) (e : Fin 128) :
    after hostOps0_6 W (Proc.devRef .tc main_v123_0) (ix5 n 0 h d e)
      = ∑ j : Fin 128, (kv X h.val (128 * n.val + j.val) d.val * zev (lgv h.val) j.val) * vv X h.val (128 * n.val + j.val) e.val := by
  unfold zev
  after_reads_at
  simp only [id]
  pointwise
  simp only [h77, h79, h71, h80]

include h71 in
theorem decay_at (h : Fin 8) : after hostOps0_6 W (Proc.devRef .tc main_v123_1) (ix4 0 h 0 0) = cdv (lgv h.val) := by
  unfold cdv
  after_reads_at
  simp only [id]
  pointwise
  simp only [h71]

theorem start_at (j : S1x8x64x128.Idx) : after hostOps0_6 W (Proc.devRef .tc main_v123_3) j = (0 : EReal) := by
  after_reads_at
  simp only [id]
  pointwise

end Chunks

end Cert.RetRefIdeal.Value
-- ==== Proof.RetRefLoop.lean ====
module

public import proofs.«01_k».proof.Proof.RetRefTab
public import Idealize.ShloMosaic.Lib.StableHlo.RunLoop
public import Idealize.ShloMosaic.Lib.WordCmp

@[expose] public section

set_option maxRecDepth 16384
noncomputable section

/-! What the reference's buffers hold when its loop begins, before every trip, and when the program ends. -/

namespace Cert.RetRefIdeal.Value

open Cert.RetRefIdeal Cert.RetRefIdeal.Gen Idealize.ShloMosaic Idealize.ShloMosaic.TcCoe Idealize.SL.Sem Idealize.ShloMosaic.StableHlo
open Cert.Hand Cert.Hand.Ret

variable (m : (ℓ : Loc nD τ sig) → Buf (Elt Ideal) ℓ) (c : Dev nD)

/-- The argument. -/
abbrev rX : S1x4096x9216.Idx → EReal := fun j => m ((c.tc : Thread nD τ).loc main_arg0) j

/-- The buffers after each stretch before the loop. -/
abbrev w0 : Valuation τ sig (Elt Ideal) := fun b => m (c, b)
abbrev w1 := after hostOps0 (w0 m c)
abbrev w2 := after hostOps0_1 (w1 m c)
abbrev w3 := after hostOps0_2 (w2 m c)
abbrev w4 := after hostOps0_3 (w3 m c)
abbrev w5 := after hostOps0_4 (w4 m c)
abbrev w6 := after hostOps0_5 (w5 m c)
abbrev w7 := after hostOps0_6 (w6 m c)

theorem entry_eq : entryContents preI m c = w7 m c := rfl

variable (W : Valuation τ sig (Elt Ideal))

theorem keep1 (r : Ref sig .tc) (h : r ∉ hostOps0_1_W) : after hostOps0_1 W (Proc.devRef .tc r) = W (Proc.devRef .tc r) := after_of_writes_sub _ W hostOps0_1_writes h
theorem keep0 (r : Ref sig .tc) (h : r ∉ hostOps0_W) : after hostOps0 W (Proc.devRef .tc r) = W (Proc.devRef .tc r) := after_of_writes_sub _ W hostOps0_writes h
theorem keep2 (r : Ref sig .tc) (h : r ∉ hostOps0_2_W) : after hostOps0_2 W (Proc.devRef .tc r) = W (Proc.devRef .tc r) := after_of_writes_sub _ W hostOps0_2_writes h
theorem keep3 (r : Ref sig .tc) (h : r ∉ hostOps0_3_W) : after hostOps0_3 W (Proc.devRef .tc r) = W (Proc.devRef .tc r) := after_of_writes_sub _ W hostOps0_3_writes h
theorem keep5 (r : Ref sig .tc) (h : r ∉ hostOps0_5_W) : after hostOps0_5 W (Proc.devRef .tc r) = W (Proc.devRef .tc r) := after_of_writes_sub _ W hostOps0_5_writes h
theorem keep6 (r : Ref sig .tc) (h : r ∉ hostOps0_6_W) : after hostOps0_6 W (Proc.devRef .tc r) = W (Proc.devRef .tc r) := after_of_writes_sub _ W hostOps0_6_writes h

theorem w2_arg0 (t : Fin 4096) (k : Fin 9216) : w2 m c (Proc.devRef .tc main_arg0) (ix3 0 t k) = rX m c (ix3 0 t k) := by
  unfold w2 w1
  rw [keep1 _ main_arg0 (by decide +kernel), keep0 _ main_arg0 (by decide +kernel)]

theorem w4_arg0 (t : Fin 4096) (k : Fin 9216) : w4 m c (Proc.devRef .tc main_arg0) (ix3 0 t k) = rX m c (ix3 0 t k) := by
  unfold w4 w3
  rw [keep3 _ main_arg0 (by decide +kernel), keep2 _ main_arg0 (by decide +kernel), w2_arg0]

theorem w2_v0 (t : Fin 4096) : w2 m c (Proc.devRef .tc main_v0) (ix1 t) = BitVec.ofNat 32 t.val := by
  unfold w2 w1
  rw [keep1 _ main_v0 (by decide +kernel), v0_at]

theorem w4_v0 (t : Fin 4096) : w4 m c (Proc.devRef .tc main_v0) (ix1 t) = BitVec.ofNat 32 t.val := by
  unfold w4 w3
  rw [keep3 _ main_v0 (by decide +kernel), keep2 _ main_v0 (by decide +kernel), w2_v0]

theorem w2_v2 (t : Fin 4096) (h : Fin 8) (d : Fin 64) : w2 m c (Proc.devRef .tc main_v2) (ix4 0 t h d) = pj (rX m c) t.val (4096 + 64 * h.val + d.val) := by
  unfold w2 w1
  rw [keep1 _ main_v2 (by decide +kernel)]
  exact v2_at (w0 m c) (rX m c) (fun _ _ => rfl) t h d

theorem w4_v30 (t : Fin 4096) (h : Fin 8) (d : Fin 64) : w4 m c (Proc.devRef .tc main_v30) (ix4 0 t h d) = qv (rX m c) h.val t.val d.val := by
  unfold w4 w3
  rw [keep3 _ main_v30 (by decide +kernel)]
  exact v30_at (w2 m c) (rX m c) (w2_v0 m c) (fun k => lin3_at (w0 m c) (ix1 k)) (w2_v2 m c) t h d

theorem w4_v32 (t : Fin 4096) (h : Fin 8) (d : Fin 64) : w4 m c (Proc.devRef .tc main_v32) (ix4 0 t h d) = pj (rX m c) t.val (4608 + 64 * h.val + d.val) := by
  unfold w4 w3
  rw [keep3 _ main_v32 (by decide +kernel)]
  exact v32_at (w2 m c) (rX m c) (w2_arg0 m c) t h d

theorem w6_v75 (h : Fin 8) (n : Fin 32) (i : Fin 128) (d : Fin 64) : w6 m c (Proc.devRef .tc main_v75) (ix5 0 h n i d) = qv (rX m c) h.val (128 * n.val + i.val) d.val := by
  unfold w6 w5
  rw [keep5 _ main_v75 (by decide +kernel)]
  exact v75_at (w4 m c) (rX m c) (w4_v30 m c) h n i d

theorem w6_v77 (h : Fin 8) (n : Fin 32) (i : Fin 128) (d : Fin 64) : w6 m c (Proc.devRef .tc main_v77) (ix5 0 h n i d) = kv (rX m c) h.val (128 * n.val + i.val) d.val := by
  unfold w6 w5
  rw [keep5 _ main_v77 (by decide +kernel)]
  exact v77_at (w4 m c) (rX m c) (w4_v0 m c) (fun k => lin33_at (w2 m c) (ix1 k)) (w4_v32 m c) h n i d

theorem w6_v79 (h : Fin 8) (n : Fin 32) (i e : Fin 128) : w6 m c (Proc.devRef .tc main_v79) (ix5 0 h n i e) = vv (rX m c) h.val (128 * n.val + i.val) e.val := by
  unfold w6 w5
  rw [keep5 _ main_v79 (by decide +kernel)]
  exact v79_at (w4 m c) (rX m c) (w4_arg0 m c) h n i e

theorem w6_v71 (h : Fin 8) : w6 m c (Proc.devRef .tc main_v71) (ix1 h) = lgv h.val := by
  unfold w6 w5
  rw [keep5 _ main_v71 (by decide +kernel), v71_at]

theorem w6_v80 (i : Fin 128) : w6 m c (Proc.devRef .tc main_v80) (ix1 i) = nat i.val := by
  unfold w6 w5
  rw [keep5 _ main_v80 (by decide +kernel), v80_at]

/-! ## The loop -/

/-- Before trip `k`: the state before chunk `k`, and the states before the chunks gone by. -/
structure At (k : ℕ) (V : Valuation τ sig (Elt Ideal)) : Prop where
  add : ∀ (n : Fin 32) (h : Fin 8) (d : Fin 64) (e : Fin 128), V (Proc.devRef .tc main_v123_0) (ix5 n 0 h d e)
    = ∑ j : Fin 128, (kv (rX m c) h.val (128 * n.val + j.val) d.val * zev (lgv h.val) j.val) * vv (rX m c) h.val (128 * n.val + j.val) e.val
  decay : ∀ h : Fin 8, V (Proc.devRef .tc main_v123_1) (ix4 0 h 0 0) = cdv (lgv h.val)
  ctr : V (Proc.devRef .tc main_v123_2) = fun _ => BitVec.ofNat 32 k
  now : ∀ (h : Fin 8) (d : Fin 64) (e : Fin 128), V (Proc.devRef .tc main_v123_3) (ix4 0 h d e) = state (kv (rX m c) h.val) (vv (rX m c) h.val) (lgv h.val) k d.val e.val
  past : ∀ (n : Fin 32) (h : Fin 8) (d : Fin 64) (e : Fin 128), n.val < k →
    V (Proc.devRef .tc main_v123_4) (ix5 n 0 h d e) = state (kv (rX m c) h.val) (vv (rX m c) h.val) (lgv h.val) n.val d.val e.val

theorem at_zero : At m c 0 (w7 m c) where
  add n h d e := add_at (w6 m c) (rX m c) (w6_v77 m c) (w6_v79 m c) (w6_v71 m c) (w6_v80 m c) n h d e
  decay h := decay_at (w6 m c) (w6_v71 m c) h
  ctr := ctr_entry m c
  now h d e := (start_at (w6 m c) _).trans rfl
  past n h d e hn := absurd hn (Nat.not_lt_zero _)

theorem toInt_small (k : ℕ) (hk : k < 32) : (BitVec.ofNat 32 k).toInt = (k : Int) := by
  rw [BitVec.toInt_eq_toNat_of_lt (by rw [BitVec.toNat_ofNat]; omega), BitVec.toNat_ofNat]
  omega

/-- The starts of the loop's indexing at trip `k`. -/
theorem starts (k : ℕ) (hk : k < 32) (i : (⟨S_, .i32⟩ : BufTy).Contents (Elt Ideal)) (hi : i = fun _ => BitVec.ofNat 32 k) (a : Fin 5) :
    BitVec.toInt ((![i, constantI S_ 32 0#32, constantI S_ 32 0#32, constantI S_ 32 0#32, constantI S_ 32 0#32] : Fin 5 → (⟨S_, .i32⟩ : BufTy).Contents (Elt Ideal)) a (Shape.Idx.first h_S_))
      = ((![k, 0, 0, 0, 0] : Fin 5 → ℕ) a : Int) := by
  subst hi
  fin_cases a
  · exact toInt_small k hk
  · rfl
  · rfl
  · rfl
  · rfl

theorem slice_at (k : ℕ) (hk : k < 32) (x : S32x1x8x64x128.Idx → EReal) (st : Fin 5 → Int) (hs : ∀ a, st a = ((![k, 0, 0, 0, 0] : Fin 5 → ℕ) a : Int))
    (hf : S32x1x8x64x128.Slices (fun _ => 0) S1x1x8x64x128) (h : Fin 8) (d : Fin 64) (e : Fin 128) :
    Host.dynamicSlice S1x1x8x64x128 x st hf (ix5 0 0 h d e) = x (ix5 (⟨k, hk⟩ : Fin 32) 0 h d e) := by
  have ho : S32x1x8x64x128.Slices (![k, 0, 0, 0, 0] : Fin 5 → ℕ) S1x1x8x64x128 := ⟨rfl, fun a => by
    fin_cases a
    · show k + 1 ≤ 32
      omega
    all_goals exact le_of_eq rfl⟩
  rw [WordCmp.dynamicSlice_eq_extract S1x1x8x64x128 x st hf _ ho hs]
  refine congrArg x (funext fun a => Fin.ext ?_)
  fin_cases a
  · exact Nat.add_zero k
  · rfl
  · exact Nat.zero_add _
  · exact Nat.zero_add _
  · exact Nat.zero_add _

theorem update_at (k : ℕ) (hk : k < 32) (x : S32x1x8x64x128.Idx → EReal) (u : S1x1x8x64x128.Idx → EReal) (st : Fin 5 → Int) (hs : ∀ a, st a = ((![k, 0, 0, 0, 0] : Fin 5 → ℕ) a : Int))
    (hf : S32x1x8x64x128.Slices (fun _ => 0) S1x1x8x64x128) (n : Fin 32) (h : Fin 8) (d : Fin 64) (e : Fin 128) :
    Host.dynamicUpdateSlice x u st hf (ix5 n 0 h d e) = if n.val = k then u (ix5 0 0 h d e) else x (ix5 n 0 h d e) := by
  have ho : S32x1x8x64x128.Slices (![k, 0, 0, 0, 0] : Fin 5 → ℕ) S1x1x8x64x128 := ⟨rfl, fun a => by
    fin_cases a
    · show k + 1 ≤ 32
      omega
    all_goals exact le_of_eq rfl⟩
  rw [WordCmp.dynamicUpdateSlice_eq_update x u st hf _ ho hs]
  unfold updateSlice
  by_cases hn : n.val = k
  · rw [if_pos hn, dif_pos]
    · refine congrArg u (funext fun a => Fin.ext ?_)
      fin_cases a
      · show n.val - k = 0
        omega
      all_goals rfl
    · intro a
      fin_cases a
      · show k ≤ n.val ∧ n.val < k + 1
        omega
      · exact ⟨Nat.zero_le _, Nat.zero_lt_one⟩
      · exact ⟨Nat.zero_le _, by show h.val < 0 + 8; omega⟩
      · exact ⟨Nat.zero_le _, by show d.val < 0 + 64; omega⟩
      · exact ⟨Nat.zero_le _, by show e.val < 0 + 128; omega⟩
  · rw [if_neg hn, dif_neg]
    intro hall
    have h0 : k ≤ n.val ∧ n.val < k + 1 := hall (0 : Fin 5)
    omega

theorem at_succ (k : ℕ) (hk : k < 32) (V : Valuation τ sig (Elt Ideal)) (h : At m c k V) : At m c (k + 1) (STEP V) where
  add n hd d e := by rw [STEP_main_v123_0]; exact h.add n hd d e
  decay hd := by rw [STEP_main_v123_1]; exact h.decay hd
  ctr := by
    rw [STEP_main_v123_2]
    unfold step_main_v123_2
    rw [h.ctr]
    funext _
    show BitVec.ofNat 32 k + 1#32 = BitVec.ofNat 32 (k + 1)
    rw [BitVec.ofNat_add]
  now hd d e := by
    rw [STEP_main_v123_3]
    unfold step_main_v123_3
    have hD := slice_at k hk (V (Proc.devRef .tc main_v123_0)) _ (starts k hk _ h.ctr) sliceFits_S32x1x8x64x128_S1x1x8x64x128 hd d e
    simp only [id]
    generalize Host.dynamicSlice S1x1x8x64x128 (V (Proc.devRef .tc main_v123_0)) _ _ = D at hD ⊢
    pointwise
    rw [h.decay, h.now, hD, h.add ⟨k, hk⟩]
    rfl
  past n hd d e hn := by
    rw [STEP_main_v123_4]
    unfold step_main_v123_4
    simp only [id]
    refine (update_at k hk (V (Proc.devRef .tc main_v123_4)) _ _ (starts k hk _ h.ctr) updateFits_S32x1x8x64x128_S1x1x8x64x128 n hd d e).trans ?_
    by_cases hnk : n.val = k
    · rw [if_pos hnk, hnk]
      pointwise
      exact h.now hd d e
    · rw [if_neg hnk]
      exact h.past n hd d e (by omega)

theorem at_iter : ∀ k, k ≤ 32 → At m c k (STEP^[k] (w7 m c))
  | 0, _ => at_zero m c
  | k + 1, hk => by
    rw [Function.iterate_succ_apply']
    exact at_succ m c k (by omega) _ (at_iter k (by omega))

/-! ## The end -/

/-- The loop's buffers when it ends. -/
abbrev wL := after condOps (atK m 32 c)

theorem wL_carried (r : Ref sig .tc) (h : r ∈ carriedRefs) : wL m c (Proc.devRef .tc r) = (STEP^[32] (w7 m c)) (Proc.devRef .tc r) :=
  (cond_keeps _ r h).trans (atK_agree m c 32 r h)

/-- A buffer the loop does not write is as before it. -/
theorem wL_keep (r : Ref sig .tc) (hc : r ∉ condOps_W) (h0 : r ∉ while0Ops0_W) (h1 : r ∉ while0Ops0_1_W) (h2 : r ∉ while0Ops0_2_W) (h3 : r ∉ while0Ops0_3_W) :
    wL m c (Proc.devRef .tc r) = w7 m c (Proc.devRef .tc r) := by
  have hk : ∀ k, atK m k c (Proc.devRef .tc r) = w7 m c (Proc.devRef .tc r) := by
    intro k
    induction k with
    | zero => rfl
    | succ k ih =>
      rw [show atK m (k + 1) c = afterL bodyI (after condOps (atK m k c)) from rfl]
      simp only [afterL_cons, afterL_nil]
      rw [after_of_writes_sub _ _ while0Ops0_3_writes h3, after_of_writes_sub _ _ while0Ops0_2_writes h2, after_of_writes_sub _ _ while0Ops0_1_writes h1,
        after_of_writes_sub _ _ while0Ops0_writes h0, after_of_writes_sub _ _ condOps_writes hc, ih]
  exact (after_of_writes_sub _ _ condOps_writes hc).trans (hk 32)

theorem wL_v71 (h : Fin 8) : wL m c (Proc.devRef .tc main_v71) (ix1 h) = lgv h.val := by
  rw [wL_keep m c main_v71 (by decide +kernel) (by decide +kernel) (by decide +kernel) (by decide +kernel) (by decide +kernel)]
  unfold w7
  rw [keep6 _ main_v71 (by decide +kernel), w6_v71]

theorem wL_v80 (i : Fin 128) : wL m c (Proc.devRef .tc main_v80) (ix1 i) = nat i.val := by
  rw [wL_keep m c main_v80 (by decide +kernel) (by decide +kernel) (by decide +kernel) (by decide +kernel) (by decide +kernel)]
  unfold w7
  rw [keep6 _ main_v80 (by decide +kernel), w6_v80]

theorem wL_v75 (h : Fin 8) (n : Fin 32) (i : Fin 128) (d : Fin 64) : wL m c (Proc.devRef .tc main_v75) (ix5 0 h n i d) = qv (rX m c) h.val (128 * n.val + i.val) d.val := by
  rw [wL_keep m c main_v75 (by decide +kernel) (by decide +kernel) (by decide +kernel) (by decide +kernel) (by decide +kernel)]
  unfold w7
  rw [keep6 _ main_v75 (by decide +kernel), w6_v75]

theorem w6_v96 (h : Fin 8) (i j : Fin 128) : w6 m c (Proc.devRef .tc main_v96) (ix3 h i j) = dmv (lgv h.val) i.val j.val := v96_at (w4 m c) h i j

theorem wL_v102 (h : Fin 8) (n : Fin 32) (i e : Fin 128) : wL m c (Proc.devRef .tc main_v102) (ix5 0 h n i e)
    = ∑ j : Fin 128, ((∑ d : Fin 64, qv (rX m c) h.val (128 * n.val + i.val) d.val * kv (rX m c) h.val (128 * n.val + j.val) d.val) * dmv (lgv h.val) i.val j.val) * vv (rX m c) h.val (128 * n.val + j.val) e.val := by
  rw [wL_keep m c main_v102 (by decide +kernel) (by decide +kernel) (by decide +kernel) (by decide +kernel) (by decide +kernel)]
  exact v102_at (w6 m c) (rX m c) (w6_v75 m c) (w6_v77 m c) (w6_v79 m c) (w6_v96 m c) h n i e

theorem wL_states (n : Fin 32) (h : Fin 8) (d : Fin 64) (e : Fin 128) : wL m c (Proc.devRef .tc main_v123_4) (ix5 n 0 h d e)
    = state (kv (rX m c) h.val) (vv (rX m c) h.val) (lgv h.val) n.val d.val e.val := by
  rw [wL_carried m c main_v123_4 (by decide)]
  exact (at_iter m c 32 le_rfl).past n h d e n.isLt

set_option maxRecDepth 100000 in
/-- Odd heads own the upper half of the lanes. -/
theorem own_half : ∀ (h : Fin 8) (l : Fin 128),
    IntOp.cmpi .eq (IntOp.cmpi .eq (IntOp.andi (BitVec.ofNat 32 h.val) 1#32) 1#32) (IntOp.cmpi .sge (BitVec.ofNat 32 l.val) 64#32)
      = if l.val / 64 = h.val % 2 then 1#1 else 0#1 := by
  decide +kernel

section Post

variable (X : S1x4096x9216.Idx → EReal)
  (h71 : ∀ h : Fin 8, W (Proc.devRef .tc main_v71) (ix1 h) = lgv h.val)
  (h80 : ∀ i : Fin 128, W (Proc.devRef .tc main_v80) (ix1 i) = nat i.val)
  (h75 : ∀ (h : Fin 8) (n : Fin 32) (i : Fin 128) (d : Fin 64), W (Proc.devRef .tc main_v75) (ix5 0 h n i d) = qv X h.val (128 * n.val + i.val) d.val)
  (h102 : ∀ (h : Fin 8) (n : Fin 32) (i e : Fin 128), W (Proc.devRef .tc main_v102) (ix5 0 h n i e)
    = ∑ j : Fin 128, ((∑ d : Fin 64, qv X h.val (128 * n.val + i.val) d.val * kv X h.val (128 * n.val + j.val) d.val) * dmv (lgv h.val) i.val j.val) * vv X h.val (128 * n.val + j.val) e.val)
  (hS : ∀ (n : Fin 32) (h : Fin 8) (d : Fin 64) (e : Fin 128), W (Proc.devRef .tc main_v123_4) (ix5 n 0 h d e) = state (kv X h.val) (vv X h.val) (lgv h.val) n.val d.val e.val)

include h71 h80 h75 h102 hS in
theorem v152_at (h : Fin 8) (t : Fin 4096) (e : Fin 128) :
    after hostOps0_8 (after hostOps0_7 W) (Proc.devRef .tc main_v152) (ix3 h t e)
      = out (qv X h.val) (kv X h.val) (vv X h.val) (lgv h.val) (t.val / 128) (t.val % 128) e.val := by
  unfold out xiv
  after_reads_at
  simp only [h71, h80, h75, h102, hS]

include hS in
theorem v155_at (h : Fin 8) (n : Fin 32) (e l : Fin 128) :
    after hostOps0_8 (after hostOps0_7 W) (Proc.devRef .tc main_v155) (ix4 h n e l)
      = stL (fun _ => kv X h.val) (vv X h.val) (lgv h.val) (h.val % 2) n.val e.val l.val := by
  unfold stL
  after_reads_at
  rw [own_half h l]
  by_cases hl : l.val / 64 = h.val % 2
  · rw [if_pos hl, if_pos hl]
    refine (if_pos rfl).trans ?_
    split
    · after_reads_at
      rw [hS]
      simp only [show l.val % 64 = l.val by omega]
    · after_reads_at
      rw [hS]
      simp only [show l.val % 64 = l.val - 64 by omega]
  · rw [if_neg hl, if_neg hl]
    refine (if_neg (by decide)).trans ?_
    simp only [id]
    pointwise

end Post

theorem out_at (h : Fin 8) (t : Fin 4096) (e : Fin 128) : finalContents condOps preI bodyI postI 32 m c (Proc.devRef .tc main_v152) (ix3 h t e)
    = out (qv (rX m c) h.val) (kv (rX m c) h.val) (vv (rX m c) h.val) (lgv h.val) (t.val / 128) (t.val % 128) e.val :=
  v152_at (wL m c) (rX m c) (wL_v71 m c) (wL_v80 m c) (wL_v75 m c) (wL_v102 m c) (wL_states m c) h t e

theorem states_at (h : Fin 8) (n : Fin 32) (e l : Fin 128) : finalContents condOps preI bodyI postI 32 m c (Proc.devRef .tc main_v155) (ix4 h n e l)
    = stL (fun _ => kv (rX m c) h.val) (vv (rX m c) h.val) (lgv h.val) (h.val % 2) n.val e.val l.val :=
  v155_at (wL m c) (rX m c) (wL_states m c) h n e l

theorem keep78 (j : S1x4096x9216.Idx) : after hostOps0_8 (after hostOps0_7 W) (Proc.devRef .tc main_arg0) j = W (Proc.devRef .tc main_arg0) j := by
  after_reads_at
theorem keep4 (r : Ref sig .tc) (h : r ∉ hostOps0_4_W) : after hostOps0_4 W (Proc.devRef .tc r) = W (Proc.devRef .tc r) := after_of_writes_sub _ W hostOps0_4_writes h

/-- The argument is kept. -/
theorem arg0_end : finalContents condOps preI bodyI postI 32 m c (Proc.devRef .tc main_arg0) = m ((c.tc : Thread nD τ).loc main_arg0) := by
  refine (funext fun j => keep78 (wL m c) j : _ = wL m c (Proc.devRef .tc main_arg0)).trans ?_
  refine (wL_keep m c main_arg0 (by decide +kernel) (by decide +kernel) (by decide +kernel) (by decide +kernel) (by decide +kernel)).trans ?_
  unfold w7 w6 w5 w4 w3 w2 w1
  rw [keep6 _ main_arg0 (by decide +kernel), keep5 _ main_arg0 (by decide +kernel), keep4 _ main_arg0 (by decide +kernel), keep3 _ main_arg0 (by decide +kernel),
    keep2 _ main_arg0 (by decide +kernel), keep1 _ main_arg0 (by decide +kernel), keep0 _ main_arg0 (by decide +kernel)]

end Cert.RetRefIdeal.Value
-- ==== Proof.RetPair.lean ====
module

public import proofs.«01_k».proof.Proof.RetArray
public import proofs.«01_k».proof.Proof.RetRefLoop
public import proofs.«01_k».proof.Defs

@[expose] public section

noncomputable section

/-! The retention's forward call against its reference. -/

namespace Cert.RetPair

open Idealize.ShloMosaic Idealize.SL.Sem Idealize.ShloMosaic.StableHlo
open Cert.Hand.Ret

/-- The reference's results and its argument, on every device. -/
theorem run_ref (m : (ℓ : Loc Cert.RetRefIdeal.nD Cert.RetRefIdeal.τ Cert.RetRefIdeal.sig) → Buf (Elt Ideal) ℓ) (g : Dev Cert.RetRefIdeal.nD → PrngReg) :
    θ_run (Cert.RetRefIdeal.defs (F := Ideal)) (onTc (τ := Cert.RetRefIdeal.τ) (Cert.RetRefIdeal.main (F := Ideal))) ⟨m, fun _ => 0, g⟩ (fun r => ∀ c : Dev Cert.RetRefIdeal.nD,
      (∀ (h : Fin 8) (t : Fin 4096) (e : Fin 128), r.2.mem ((c.tc : Thread Cert.RetRefIdeal.nD Cert.RetRefIdeal.τ).loc Cert.RetRefIdeal.main_v152) (ix3 h t e)
        = out (qv (Cert.RetRefIdeal.Value.rX m c) h.val) (kv (Cert.RetRefIdeal.Value.rX m c) h.val) (vv (Cert.RetRefIdeal.Value.rX m c) h.val) (lgv h.val) (t.val / 128) (t.val % 128) e.val)
      ∧ (∀ (h : Fin 8) (n : Fin 32) (e l : Fin 128), r.2.mem ((c.tc : Thread Cert.RetRefIdeal.nD Cert.RetRefIdeal.τ).loc Cert.RetRefIdeal.main_v155) (ix4 h n e l)
        = stL (fun _ => kv (Cert.RetRefIdeal.Value.rX m c) h.val) (vv (Cert.RetRefIdeal.Value.rX m c) h.val) (lgv h.val) (h.val % 2) n.val e.val l.val)
      ∧ r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)) := by
  refine (θ_run _ _ _).mono (fun r h c => ⟨fun a t e => ?_, fun a n e l => ?_, ?_⟩) (Cert.RetRefIdeal.Value.run_fold m g)
  · exact (congrFun (h c Cert.RetRefIdeal.main_v152 rfl) _).trans (Cert.RetRefIdeal.Value.out_at m c a t e)
  · exact (congrFun (h c Cert.RetRefIdeal.main_v155 rfl) _).trans (Cert.RetRefIdeal.Value.states_at m c a n e l)
  · exact (h c Cert.RetRefIdeal.main_arg0 rfl).trans (Cert.RetRefIdeal.Value.arg0_end m c)

/-- The reference's frame: no operation writes the argument, and the program declares no semaphore. -/
theorem frame_ref : Cert.quiescent_RetRefIdeal := by
  intro m ρ _
  exact (θ_run Cert.RetRefIdeal.defs _ _).mono
    (fun r h => ⟨fun c => (h c).2.2, sem_eq_zero_of_no_sems (by decide) r.2⟩) (run_ref m ρ)

/-- The retention's output and the states its backward pass is given are the reference's. -/
theorem retention : Cert.algebraic_RetIdeal_RetRefIdeal := by
  intro m g m' g' _ hagree
  have hX : ∀ c, Cert.RetRefIdeal.Value.rX m' c = Cert.RetIdeal.Value.ax m c := fun c => hagree c
  refine ⟨fun c => Cert.RetIdeal.Value.G5 m c, fun c => Cert.RetIdeal.Value.G6 m c, Cert.RetIdeal.Value.run m g, ?_⟩
  refine (θ_run _ _ _).mono (fun r h c => ?_) (run_ref m' g')
  obtain ⟨h0, h1, hk⟩ := h c
  refine ⟨funext fun i => ?_, funext fun i => ?_, hk⟩
  · rw [eq_ix3 (show (⟨3, ![8, 4096, 128]⟩ : Shape).Idx from i)]
    refine (h0 _ _ _).trans ?_
    rw [hX c]
    exact (Cert.RetIdeal.Value.G5_at m c _ _ _).symm
  · rw [eq_ix4 (show (⟨4, ![8, 32, 128, 128]⟩ : Shape).Idx from i)]
    refine (h1 _ _ _ _).trans ?_
    rw [hX c]
    exact (Cert.RetIdeal.Value.G6_at m c _ _ _ _).symm

end Cert.RetPair
end
-- ==== Proof.HgMath.lean ====
module

public import Mathlib.Analysis.SpecialFunctions.Log.Basic
public import Mathlib.Algebra.BigOperators.Fin
public import proofs.«01_k».proof.Proof.InpMath

@[expose] public section

noncomputable section

/-! The gated recurrence over the reals: its closed form, and what a chunk of it computes. -/

namespace Cert.Hand.Hg

open Finset

variable (q k v lf : ℕ → ℕ → ℝ)

/-- The logs of the gates before position `t`, summed. -/
def cum (t d : ℕ) : ℝ := ∑ u ∈ range t, lf u d

/-- The state before position `T`. -/
def state (T d e : ℕ) : ℝ := ∑ s ∈ range T, k s d * Real.exp (cum lf T d - cum lf (s + 1) d) * v s e

/-- What position `t` takes from position `s`. -/
def score (t s : ℕ) : ℝ := ∑ d : Fin 128, q t d.val * k s d.val * Real.exp (cum lf (t + 1) d.val - cum lf (s + 1) d.val)

/-- The output at position `t`. -/
def outp (t e : ℕ) : ℝ := ∑ s ∈ range (t + 1), score q k lf t s * v s e

theorem cum_add (T i d : ℕ) : cum lf (T + i) d - cum lf T d = ∑ j ∈ range i, lf (T + j) d := by
  unfold cum; rw [sum_range_add, add_sub_cancel_left]

/-- The state after a chunk of `C` positions. -/
theorem state_chunk (T C d e : ℕ) : state k v lf (T + C) d e
    = Real.exp (cum lf (T + C) d - cum lf T d) * state k v lf T d e
      + ∑ j ∈ range C, k (T + j) d * Real.exp (cum lf (T + C) d - cum lf (T + j + 1) d) * v (T + j) e := by
  unfold state
  rw [sum_range_add, mul_sum]
  refine congrArg₂ (· + ·) (sum_congr rfl fun s _ => ?_) rfl
  rw [show cum lf (T + C) d - cum lf (s + 1) d = (cum lf (T + C) d - cum lf T d) + (cum lf T d - cum lf (s + 1) d) by ring, Real.exp_add]
  ring

/-- The output within a chunk of `C` positions. -/
theorem outp_chunk (T C i e : ℕ) (hi : i < C) : outp q k v lf (T + i) e
    = ∑ d : Fin 128, q (T + i) d.val * Real.exp (cum lf (T + i + 1) d.val - cum lf T d.val) * state k v lf T d.val e
      + ∑ j ∈ range C, (if j ≤ i then score q k lf (T + i) (T + j) else 0) * v (T + j) e := by
  unfold outp
  rw [add_assoc T i 1, sum_range_add]
  refine congrArg₂ (· + ·) ?_ ?_
  · unfold state score
    simp only [mul_sum, sum_mul]
    rw [sum_comm]
    refine sum_congr rfl fun d _ => sum_congr rfl fun s _ => ?_
    rw [show cum lf (T + i + 1) d.val - cum lf (s + 1) d.val = (cum lf (T + i + 1) d.val - cum lf T d.val) + (cum lf T d.val - cum lf (s + 1) d.val) by ring, Real.exp_add]
    ring_nf
  · obtain ⟨r, rfl⟩ : ∃ r, C = (i + 1) + r := ⟨C - (i + 1), by omega⟩
    rw [sum_range_add _ (i + 1) r]
    have h : ∀ j ∈ range r, (if (i + 1) + j ≤ i then score q k lf (T + i) (T + ((i + 1) + j)) else 0) * v (T + ((i + 1) + j)) e = 0 := by
      intro j _
      rw [if_neg (by omega), zero_mul]
    rw [sum_eq_zero h, add_zero]
    refine sum_congr rfl fun j hj => ?_
    rw [if_pos (by have := mem_range.mp hj; omega)]

/-! The levels: at level `l` a block of `2 ^ l` positions is cut in two halves after its position `mid`. -/

/-- The last position of the first half of `t`'s block. -/
def mid (l t : ℕ) : ℕ := t / 2 ^ l * 2 ^ l + 2 ^ (l - 1) - 1

/-- Level `l` covers the pairs of a block with `t` in its second and `s` in its first half; level 0 the diagonal. -/
def cov (l t s : ℕ) : Bool := if l = 0 then t == s else t / 2 ^ l == s / 2 ^ l && mid l t < t && s ≤ mid l t

/-- A position's distance from the cut, in summed logs. -/
def dist (b : ℕ → ℝ) (l t : ℕ) : ℝ := if mid l t < t then b t - b (mid l t) else b (mid l t) - b t

/-- Every pair is covered once. -/
theorem cov_sum : ∀ t s : Fin 128, (∑ l : Fin 8, (if cov l.val t.val s.val then (1 : ℕ) else 0)) = if s.val ≤ t.val then 1 else 0 := by
  decide +kernel

theorem cov_dist (b : ℕ → ℝ) (l t s : ℕ) (hl : l ≠ 0) (h : cov l t s = true) : dist b l t + dist b l s = b t - b s := by
  simp only [cov, hl, if_false, Bool.and_eq_true, beq_iff_eq, decide_eq_true_eq] at h
  have hm : mid l s = mid l t := by unfold mid; rw [h.1.1]
  unfold dist
  rw [if_pos h.1.2, hm, if_neg (by omega)]
  ring

/-- The scores level by level are the scores. -/
theorem levels (qt ks : ℕ → ℝ) (b : ℕ → ℕ → ℝ) (t s : Fin 128) :
    ∑ l : Fin 8, (if cov l.val t.val s.val then (1 : ℝ) else 0)
        * ∑ d : Fin 128, (if l.val = 0 then qt d.val else qt d.val * Real.exp (dist (fun x => b x d.val) l.val t.val))
            * (if l.val = 0 then ks d.val else ks d.val * Real.exp (dist (fun x => b x d.val) l.val s.val))
      = if s.val ≤ t.val then ∑ d : Fin 128, qt d.val * ks d.val * Real.exp (b t.val d.val - b s.val d.val) else 0 := by
  have h1 : ∀ l : Fin 8, (if cov l.val t.val s.val then (1 : ℝ) else 0)
        * ∑ d : Fin 128, (if l.val = 0 then qt d.val else qt d.val * Real.exp (dist (fun x => b x d.val) l.val t.val))
            * (if l.val = 0 then ks d.val else ks d.val * Real.exp (dist (fun x => b x d.val) l.val s.val))
      = (((if cov l.val t.val s.val then (1 : ℕ) else 0) : ℕ) : ℝ) * ∑ d : Fin 128, qt d.val * ks d.val * Real.exp (b t.val d.val - b s.val d.val) := by
    intro l
    by_cases hc : cov l.val t.val s.val = true
    · simp only [hc, if_true, Nat.cast_one, one_mul]
      refine sum_congr rfl fun d _ => ?_
      by_cases hl : l.val = 0
      · have : t = s := by
          simp only [cov, hl, if_true, beq_iff_eq] at hc
          exact Fin.ext hc
        subst this
        simp [hl]
      · simp only [hl, if_false]
        rw [← cov_dist (fun x => b x d.val) l.val t.val s.val hl hc, Real.exp_add]
        ring
    · simp [hc]
  rw [sum_congr rfl fun l _ => h1 l, ← sum_mul, ← Nat.cast_sum, cov_sum]
  split <;> simp

end Cert.Hand.Hg
end
-- ==== Proof.HgOps.lean ====
module

public import proofs.«01_k».proof.Proof.HgMath
public import proofs.«01_k».proof.Proof.Gen.HgIdeal.Skeleton
public import Idealize.ShloMosaic.Lib.Pipeline.ValueKit
public import Idealize.ShloMosaic.Lib.Pipeline.ReadBack
public import Idealize.ShloMosaic.Lib.WritesUnit
public import Idealize.ShloMosaic.Lib.Exec.Geometry
public import Idealize.ShloMosaic.Lib.Tactic.CleanTypes

@[expose] public section

set_option maxRecDepth 16384
noncomputable section

namespace Cert.HgIdeal.Value

open Cert.HgIdeal Cert.HgIdeal.Gen Idealize.ShloMosaic Idealize.ShloMosaic.TcCoe Idealize.SL.Sem
open Idealize.ShloMosaic.Pipeline (Dat)

variable {F : FTy → Type} [FloatOps F] [Named F]

/-! One chunk of 128 positions for one head of a pair, as the kernel computes it. -/

/-- The logistic function. -/
def sigk (x : FVec F S128x128 .f32) : FVec F S128x128 .f32 :=
  divf (broadcast S128x128 (Scalar.ofBits .f32 0x3F800000#32)) (addf (broadcast S128x128 (Scalar.ofBits .f32 0x3F800000#32)) (exp (subf (broadcast S128x128 (Scalar.ofBits .f32 0x00000000#32)) x)))

/-- The queries. -/
def qk (x : Vec F S1x128x128 .f32) : FVec F S128x128 .f32 :=
  mulf (shapeCast S128x128 x shapeCasts_S1x128x128_S128x128) (sigk (shapeCast S128x128 x shapeCasts_S1x128x128_S128x128))

/-- The gate: between its lower bound and one. -/
def fk (lb : Vec F S1x128 .f32) (x : Vec F S1x128x128 .f32) : FVec F S128x128 .f32 :=
  addf (broadcastTo S128x128 (shapeCast S1x128 lb shapeCasts_S1x128_S1x128) broadcasts_S1x128_S128x128)
    (mulf (broadcastTo S128x128 (subf (broadcast S1x128 (Scalar.ofBits .f32 0x3F800000#32)) (shapeCast S1x128 lb shapeCasts_S1x128_S1x128)) broadcasts_S1x128_S128x128)
      (sigk (shapeCast S128x128 x shapeCasts_S1x128x128_S128x128)))

/-- The keys: what the gate lets decay. -/
def kk (f : FVec F S128x128 .f32) : FVec F S128x128 .f32 := subf (broadcast S128x128 (Scalar.ofBits .f32 0x3F800000#32)) f

/-- The gate's logarithm to base two. -/
def lgk (f : FVec F S128x128 .f32) : FVec F S128x128 .f32 := mulf (log f) (broadcast S128x128 (Named.named Cert.HgIdeal.κ "log2_e" 0x3FB8AA3B#32))

/-- Its running sums over the chunk: a product with a triangle of ones, the factor split in two. -/
def bk (tri : Vec F S128x128 .bf16) (lg : FVec F S128x128 .f32) : FVec F S128x128 .f32 :=
  have mm : FVec F S128x256 .f32 := matmul dot_S128x128_S128x256_S128x256_1_0_0_1_n_n none (shapeCast S128x128 tri shapeCasts_S128x128_S128x128)
    (concatenate S128x256 1 [⟨S128x128, truncf .bf16 lg bitsLt_bf16_f32⟩, ⟨S128x128, truncf .bf16 (subf lg (extf .f32 (truncf .bf16 lg bitsLt_bf16_f32) bitsLt_bf16_f32)) bitsLt_bf16_f32⟩]
      concatenates_S128x128_S128x128_S128x256_d1) (constant S128x256 .f32 0x00000000#32)
  addf (extractStridedSlice S128x128 ![0, 0] mm slices_S128x256_o0_0_S128x128) (extractStridedSlice S128x128 ![0, 128] mm slices_S128x256_o0_128_S128x128)

/-- The sum over the chunk. -/
def bck (lg : FVec F S128x128 .f32) : FVec F S1x128 .f32 :=
  shapeCast S1x128 (multiReduction .add [0] S128 lg 0x00000000#32 reduces_S128x128_S128 (.inl rfl) rfl) shapeCasts_S128_S1x128

/-- A row's number. -/
def rowk : IVec S128x128 32 := iota .tc S128x128 32 [0] iota_S128x128_d0_w32

/-- Level 1's exponents: two positions a block. -/
def e1k (lg : FVec F S128x128 .f32) : FVec F S128x128 .f32 :=
  select (cmpi .eq (andi rowk (broadcast S128x128 1#32)) (broadcast S128x128 1#32)) lg (broadcast S128x128 (Scalar.ofBits .f32 0x00000000#32))

/-- Level 2's: four. -/
def e2k (lg : FVec F S128x128 .f32) : FVec F S128x128 .f32 :=
  have r : IVec S128x128 32 := andi rowk (broadcast S128x128 3#32)
  select (cmpi .eq r (broadcast S128x128 0#32)) (dynamicRotate 0 127#32 none lg rotates_S128x128_d0)
    (select (cmpi .eq r (broadcast S128x128 1#32)) (broadcast S128x128 (Scalar.ofBits .f32 0x00000000#32))
      (select (cmpi .eq r (broadcast S128x128 2#32)) lg (addf lg (dynamicRotate 0 1#32 none lg rotates_S128x128_d0))))

/-- The row at the middle of a row's block, for blocks of 8 positions … -/
def ref3k (r : ℕ → Vec F S1x128 .f32) : FVec F S128x128 .f32 :=
  have p : ℕ → FVec F S8x128 .f32 := fun m => broadcastTo S8x128 (shapeCast S1x128 (r m) shapeCasts_S1x128_S1x128) broadcasts_S1x128_S8x128
  concatenate S128x128 0 [⟨S8x128, p 3⟩, ⟨S8x128, p 11⟩, ⟨S8x128, p 19⟩, ⟨S8x128, p 27⟩, ⟨S8x128, p 35⟩, ⟨S8x128, p 43⟩, ⟨S8x128, p 51⟩, ⟨S8x128, p 59⟩, ⟨S8x128, p 67⟩, ⟨S8x128, p 75⟩, ⟨S8x128, p 83⟩, ⟨S8x128, p 91⟩, ⟨S8x128, p 99⟩, ⟨S8x128, p 107⟩, ⟨S8x128, p 115⟩, ⟨S8x128, p 123⟩] concatenates_S8x128_S8x128_S8x128_S8x128_S8x128_S8x128_S8x128_S8x128_S8x128_S8x128_S8x128_S8x128_S8x128_S8x128_S8x128_S8x128_S128x128_d0

/-- … of 16 … -/
def ref4k (r : ℕ → Vec F S1x128 .f32) : FVec F S128x128 .f32 :=
  have p : ℕ → FVec F S16x128 .f32 := fun m => broadcastTo S16x128 (shapeCast S1x128 (r m) shapeCasts_S1x128_S1x128) broadcasts_S1x128_S16x128
  concatenate S128x128 0 [⟨S16x128, p 7⟩, ⟨S16x128, p 23⟩, ⟨S16x128, p 39⟩, ⟨S16x128, p 55⟩, ⟨S16x128, p 71⟩, ⟨S16x128, p 87⟩, ⟨S16x128, p 103⟩, ⟨S16x128, p 119⟩] concatenates_S16x128_S16x128_S16x128_S16x128_S16x128_S16x128_S16x128_S16x128_S128x128_d0

/-- … of 32 … -/
def ref5k (r : ℕ → Vec F S1x128 .f32) : FVec F S128x128 .f32 :=
  have p : ℕ → FVec F S32x128 .f32 := fun m => broadcastTo S32x128 (shapeCast S1x128 (r m) shapeCasts_S1x128_S1x128) broadcasts_S1x128_S32x128
  concatenate S128x128 0 [⟨S32x128, p 15⟩, ⟨S32x128, p 47⟩, ⟨S32x128, p 79⟩, ⟨S32x128, p 111⟩] concatenates_S32x128_S32x128_S32x128_S32x128_S128x128_d0

/-- … of 64 … -/
def ref6k (r : ℕ → Vec F S1x128 .f32) : FVec F S128x128 .f32 :=
  have p : ℕ → FVec F S64x128 .f32 := fun m => broadcastTo S64x128 (shapeCast S1x128 (r m) shapeCasts_S1x128_S1x128) broadcasts_S1x128_S64x128
  concatenate S128x128 0 [⟨S64x128, p 31⟩, ⟨S64x128, p 95⟩] concatenates_S64x128_S64x128_S128x128_d0

/-- … and of 128. -/
def ref7k (r : ℕ → Vec F S1x128 .f32) : FVec F S128x128 .f32 := broadcastTo S128x128 (shapeCast S1x128 (r 63) shapeCasts_S1x128_S1x128) broadcasts_S1x128_S128x128

/-- A level's exponents from the middle rows. -/
def ek (b ref : FVec F S128x128 .f32) (sgn : Vec F S1x128x128 .f32) : FVec F S128x128 .f32 := mulf (subf b ref) (shapeCast S128x128 sgn shapeCasts_S1x128x128_S128x128)

/-- A factor scaled by a level's powers of two. -/
def sck (x e : FVec F S128x128 .f32) : FVec F S128x128 .bf16 := mulf (truncf .bf16 x bitsLt_bf16_f32) (truncf .bf16 (exp2 e) bitsLt_bf16_f32)

/-- Two levels' scores by one product, each kept where its level counts. -/
def pairk (qa qb ka kb : FVec F S128x128 .bf16) (la lb : Vec F S1x128x128 .f32) : FVec F S128x128 .f32 :=
  have z : FVec F S128x128 .bf16 := broadcast S128x128 (Scalar.ofBits .bf16 0x0000#16)
  have mm : FVec F S128x256 .f32 := matmul dot_S128x256_S256x256_S128x256_1_1_0_0_n_n none
    (concatenate S128x256 1 [⟨S128x128, qa⟩, ⟨S128x128, qb⟩] concatenates_S128x128_S128x128_S128x256_d1)
    (concatenate S256x256 0 [⟨S128x256, concatenate S128x256 1 [⟨S128x128, ka⟩, ⟨S128x128, z⟩] concatenates_S128x128_S128x128_S128x256_d1⟩,
      ⟨S128x256, concatenate S128x256 1 [⟨S128x128, z⟩, ⟨S128x128, kb⟩] concatenates_S128x128_S128x128_S128x256_d1⟩] concatenates_S128x256_S128x256_S256x256_d0)
    (constant S128x256 .f32 0x00000000#32)
  addf (mulf (shapeCast S128x128 la shapeCasts_S1x128x128_S128x128) (extractStridedSlice S128x128 ![0, 0] mm slices_S128x256_o0_0_S128x128))
    (mulf (shapeCast S128x128 lb shapeCasts_S1x128x128_S128x128) (extractStridedSlice S128x128 ![0, 128] mm slices_S128x256_o0_128_S128x128))

/-- The chunk's scores, all eight levels. -/
def scorek (q k lg b : FVec F S128x128 .f32) (r : ℕ → Vec F S1x128 .f32) (lvl sgn : ℕ → Vec F S1x128x128 .f32) : FVec F S128x128 .bf16 :=
  truncf .bf16 (addf (addf (addf
    (pairk (truncf .bf16 q bitsLt_bf16_f32) (sck q (e1k lg)) (truncf .bf16 k bitsLt_bf16_f32) (sck k (e1k lg)) (lvl 0) (lvl 1))
    (pairk (sck q (e2k lg)) (sck q (ek b (ref3k r) (sgn 0))) (sck k (e2k lg)) (sck k (ek b (ref3k r) (sgn 0))) (lvl 2) (lvl 3)))
    (pairk (sck q (ek b (ref4k r) (sgn 1))) (sck q (ek b (ref5k r) (sgn 2))) (sck k (ek b (ref4k r) (sgn 1))) (sck k (ek b (ref5k r) (sgn 2))) (lvl 4) (lvl 5)))
    (pairk (sck q (ek b (ref6k r) (sgn 3))) (sck q (ek b (ref7k r) (sgn 4))) (sck k (ek b (ref6k r) (sgn 3))) (sck k (ek b (ref7k r) (sgn 4))) (lvl 6) (lvl 7))) bitsLt_bf16_f32

/-- The chunk's output: from before it by the state, within it by the scores. -/
def outk (q b : FVec F S128x128 .f32) (sc : FVec F S128x128 .bf16) (v st : Vec F S1x128x128 .f32) : FVec F S1x128x128 .f32 :=
  shapeCast S1x128x128 (addf
    (matmul dot_S128x128_S128x128_S128x128_1_1_0_0_n_n none (truncf .bf16 (mulf q (exp2 b)) bitsLt_bf16_f32) (truncf .bf16 (shapeCast S128x128 st shapeCasts_S1x128x128_S128x128) bitsLt_bf16_f32)
      (constant S128x128 .f32 0x00000000#32))
    (matmul dot_S128x128_S128x128_S128x128_1_0_0_1_n_n none sc (truncf .bf16 (shapeCast S128x128 v shapeCasts_S1x128x128_S128x128) bitsLt_bf16_f32)
      (constant S128x128 .f32 0x00000000#32))) shapeCasts_S128x128_S1x128x128

/-- The state after a chunk. -/
def nxtk (k b : FVec F S128x128 .f32) (bc : FVec F S1x128 .f32) (v st : Vec F S1x128x128 .f32) : FVec F S1x128x128 .f32 :=
  shapeCast S1x128x128 (addf (mulf (shapeCast S128x128 st shapeCasts_S1x128x128_S128x128) (broadcastTo S128x128 (exp2 bc) broadcasts_S1x128_S128x128))
    (matmul dot_S128x128_S128x128_S128x128_0_0_1_1_n_n none (truncf .bf16 (shapeCast S128x128 v shapeCasts_S1x128x128_S128x128) bitsLt_bf16_f32)
      (truncf .bf16 (mulf k (exp2 (subf (broadcastTo S128x128 bc broadcasts_S1x128_S128x128) b))) bitsLt_bf16_f32) (constant S128x128 .f32 0x00000000#32))) shapeCasts_S128x128_S1x128x128

/-- The state before the chunk, as it is saved. -/
def savk (st : Vec F S1x128x128 .f32) : FVec F S1x1x128x128 .f32 :=
  shapeCast S1x1x128x128 (shapeCast S128x128 st shapeCasts_S1x128x128_S128x128) shapeCasts_S128x128_S1x1x128x128

end Cert.HgIdeal.Value
end
-- ==== Proof.HgReal.lean ====
module

public import proofs.«01_k».proof.Proof.HgMath
public import Mathlib.Analysis.SpecialFunctions.Pow.Real

@[expose] public section

set_option maxRecDepth 16384
noncomputable section

/-! The recurrence's operands on finite arguments, and the extended reals that are real. -/

namespace Cert.Hand.Hg

open Idealize.ShloMosaic Finset

/-- The logistic function. -/
def sgm (x : ℝ) : ℝ := 1 / (1 + Real.exp (-x))

theorem sgm_pos (x : ℝ) : 0 < sgm x := by unfold sgm; positivity

/-- To base two. -/
def L2 : ℝ := (Real.log 2)⁻¹

theorem coe_sgm (x : ℝ) : Ideal.div 1 (1 + Ideal.exp (0 - (x : EReal))) = ((sgm x : ℝ) : EReal) := by
  rw [← EReal.coe_zero, ← EReal.coe_sub, Ideal.exp_coe, ← EReal.coe_one, ← EReal.coe_add, Ideal.div_coe (by positivity), zero_sub, ← EReal.coe_mul, one_mul]
  rfl

theorem coe_log (x : ℝ) (h : 0 < x) : Ideal.log (x : EReal) = ((Real.log x : ℝ) : EReal) := by
  rw [Ideal.log_coe, if_neg (not_le.mpr h)]

theorem exp2_L2 (y : ℝ) : Ideal.exp2 ((L2 * y : ℝ) : EReal) = ((Real.exp y : ℝ) : EReal) := by
  rw [Ideal.exp2_coe]
  congr 1
  show (2 : ℝ) ^ (L2 * y) = _
  rw [Real.rpow_def_of_pos (by norm_num)]
  congr 1
  unfold L2
  rw [← mul_assoc, mul_inv_cancel₀ (Real.log_pos (by norm_num)).ne', one_mul]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product with the triangle of ones is a running sum. -/
theorem sum_tri (f : ℕ → ℝ) (i : Fin 128) : ∑ j : Fin 128, (if j.val ≤ i.val then (1 : ℝ) else 0) * f j.val = ∑ j ∈ range (i.val + 1), f j := by
  rw [Fin.sum_univ_eq_sum_range (fun j => (if j ≤ i.val then (1 : ℝ) else 0) * f j) 128]
  have hi := i.isLt
  rw [← Finset.sum_subset (s₁ := range (i.val + 1)) (fun x hx => by simp only [Finset.mem_range] at *; omega) (fun x _ hx => by
    simp only [Finset.mem_range] at hx
    rw [if_neg (by omega), zero_mul])]
  refine Finset.sum_congr rfl fun x hx => ?_
  simp only [Finset.mem_range] at hx
  rw [if_pos (by omega), one_mul]

/-! The operands: columns of the projection, 128 a head. -/

variable (X : (⟨3, ![1, 4096, 9216]⟩ : Shape).Idx → EReal) (B : (⟨1, ![1024]⟩ : Shape).Idx → EReal)

def pr (t c : ℕ) : ℝ := if h : t < 4096 ∧ c < 9216 then (X (ix3 0 (⟨t, h.1⟩ : Fin 4096) (⟨c, h.2⟩ : Fin 9216))).toReal else 0
def br (c : ℕ) : ℝ := if h : c < 1024 then (B (ix1 (⟨c, h⟩ : Fin 1024))).toReal else 0

def qR (h t d : ℕ) : ℝ := pr X t (128 * h + d) * sgm (pr X t (128 * h + d))
def fR (h t d : ℕ) : ℝ := br B (128 * h + d) + (1 - br B (128 * h + d)) * sgm (pr X t (1024 + 128 * h + d))
def kR (h t d : ℕ) : ℝ := 1 - fR X B h t d
def lR (h t d : ℕ) : ℝ := Real.log (fR X B h t d)
def vR (h t e : ℕ) : ℝ := pr X t (2048 + 128 * h + e)

/-- The output and the states. -/
def outR (h t e : ℕ) : ℝ := outp (qR X h) (kR X B h) (vR X h) (lR X B h) t e
def steR (h T d e : ℕ) : ℝ := state (kR X B h) (vR X h) (lR X B h) T d e

/-- The arguments: a finite projection, lower bounds between zero and one. -/
structure Fin' : Prop where
  hx : ∀ i, ∃ r : ℝ, X i = (r : EReal)
  hb : ∀ i, ∃ r : ℝ, B i = (r : EReal) ∧ 0 ≤ r ∧ r ≤ 1

variable (H : Fin' X B)
include H

theorem pr_eq (t : Fin 4096) (c : Fin 9216) : X (ix3 0 t c) = ((pr X t.val c.val : ℝ) : EReal) := by
  obtain ⟨r, hr⟩ := H.hx (ix3 0 t c)
  unfold pr
  rw [dif_pos ⟨t.isLt, c.isLt⟩]
  show X (ix3 0 t c) = ((X (ix3 0 t c)).toReal : ℝ)
  rw [hr]
  rfl

theorem br_eq (c : Fin 1024) : B (ix1 c) = ((br B c.val : ℝ) : EReal) := by
  obtain ⟨r, hr, -⟩ := H.hb (ix1 c)
  unfold br
  rw [dif_pos c.isLt]
  show B (ix1 c) = ((B (ix1 c)).toReal : ℝ)
  rw [hr]
  rfl

theorem br_mem (c : ℕ) : 0 ≤ br B c ∧ br B c ≤ 1 := by
  by_cases h : c < 1024
  · obtain ⟨r, hr, h0, h1⟩ := H.hb (ix1 ⟨c, h⟩)
    have := br_eq X B H ⟨c, h⟩
    rw [hr] at this
    rw [← EReal.coe_eq_coe_iff.mp this]
    exact ⟨h0, h1⟩
  · unfold br; rw [dif_neg h]; norm_num

theorem fR_pos (h t d : ℕ) : 0 < fR X B h t d := by
  obtain ⟨h0, h1⟩ := br_mem X B H (128 * h + d)
  have hs := sgm_pos (pr X t (1024 + 128 * h + d))
  unfold fR
  rcases h0.eq_or_lt with e | l
  · rw [← e]; linarith
  · have := mul_nonneg (sub_nonneg.mpr h1) hs.le
    linarith

end Cert.Hand.Hg
end
-- ==== Proof.HgChunk.lean ====
module

public import proofs.«01_k».proof.Proof.HgOps
public import proofs.«01_k».proof.Proof.HgReal
public import Idealize.ShloMosaic.Lib.WholeRead
public import Idealize.ShloMosaic.Lib.WordCmp
public import Idealize.ShloMosaic.Lib.Pipeline.ValueKit
public import Idealize.ShloMosaic.PureOps.IdealRules

@[expose] public section

set_option maxRecDepth 16384
noncomputable section

/-! A chunk's computations entry by entry, on operands that are real. -/

namespace Cert.HgIdeal.Value

open Cert.HgIdeal Cert.HgIdeal.Gen Idealize.ShloMosaic Idealize.ShloMosaic.TcCoe Idealize.SL.Sem
open Cert.Hand Cert.Hand.Hg Finset

/-! ## Entries -/

theorem sigk_at (x : FVec Ideal S128x128 .f32) (r : ℝ) (i l : Fin 128) (h : x (ix2 i l) = (r : EReal)) :
    sigk x (ix2 i l) = ((sgm r : ℝ) : EReal) := by
  unfold sigk
  pointwise
  rw [h, coe_sgm]

theorem qk_at (x : Vec Ideal S1x128x128 .f32) (r : ℝ) (i l : Fin 128) (h : x (ix3 0 i l) = (r : EReal)) :
    qk x (ix2 i l) = ((r * sgm r : ℝ) : EReal) := by
  unfold qk
  pointwise
  rw [h, sigk_at _ r i l (by pointwise; exact h), EReal.coe_mul]

theorem fk_at (lb : Vec Ideal S1x128 .f32) (x : Vec Ideal S1x128x128 .f32) (b r : ℝ) (i l : Fin 128) (hb : lb (ix2 0 l) = (b : EReal)) (h : x (ix3 0 i l) = (r : EReal)) :
    fk lb x (ix2 i l) = ((b + (1 - b) * sgm r : ℝ) : EReal) := by
  unfold fk
  pointwise
  rw [hb, sigk_at _ r i l (by pointwise; exact h), ← EReal.coe_one, ← EReal.coe_sub, ← EReal.coe_mul, ← EReal.coe_add]

theorem kk_at (f : FVec Ideal S128x128 .f32) (r : ℝ) (i l : Fin 128) (h : f (ix2 i l) = (r : EReal)) : kk f (ix2 i l) = ((1 - r : ℝ) : EReal) := by
  unfold kk
  pointwise
  rw [h, ← EReal.coe_one, ← EReal.coe_sub]

theorem log2e_eq : Named.named (F := Ideal) (φ := .f32) κ "log2_e" 0x3FB8AA3B#32 = ((L2 : ℝ) : EReal) :=
  IdealRules.named_const.ideal_named_scalar _ _ _ _ rfl

theorem lgk_at (f : FVec Ideal S128x128 .f32) (r : ℝ) (hr : 0 < r) (i l : Fin 128) (h : f (ix2 i l) = (r : EReal)) :
    lgk f (ix2 i l) = ((L2 * Real.log r : ℝ) : EReal) := by
  unfold lgk
  pointwise
  rw [h, log2e_eq, coe_log r hr, ← EReal.coe_mul, mul_comm]

theorem sck_at (x e : FVec Ideal S128x128 .f32) (r y : ℝ) (i l : Fin 128) (h : x (ix2 i l) = (r : EReal)) (he : e (ix2 i l) = ((L2 * y : ℝ) : EReal)) :
    sck x e (ix2 i l) = ((r * Real.exp y : ℝ) : EReal) := by
  unfold sck
  pointwise
  rw [h, he, EReal.coe_mul]
  exact congrArg _ (exp2_L2 y)

theorem pairk_at (qa qb ka kb : FVec Ideal S128x128 .bf16) (la lb : Vec Ideal S1x128x128 .f32) (i j : Fin 128) :
    pairk qa qb ka kb la lb (ix2 i j) = la (ix3 0 i j) * ∑ x : Fin 128, qa (ix2 i x) * ka (ix2 j x) + lb (ix3 0 i j) * ∑ x : Fin 128, qb (ix2 i x) * kb (ix2 j x) := by
  unfold pairk
  pointwise
  simp only [mul_zero, Finset.sum_const_zero, add_zero, zero_add]

theorem savk_at (st : Vec Ideal S1x128x128 .f32) (e l : Fin 128) : savk st (ix4 0 0 e l) = st (ix3 0 e l) := by
  unfold savk
  pointwise

/-! ## The levels' middle rows -/

theorem mid_div (l t : ℕ) : mid l t = t / 2 ^ l * 2 ^ l + 2 ^ (l - 1) - 1 := rfl

theorem ref3k_at (r : ℕ → Vec Ideal S1x128 .f32) (i l : Fin 128) : ref3k r (ix2 i l) = r (mid 3 i.val) (ix2 0 l) := by
  unfold ref3k
  pointwise
  have hi := i.isLt
  have e : mid 3 i.val = i.val / 8 * 8 + 3 := by unfold mid; omega
  rw [e]
  generalize hn : i.val / 8 = n
  have hn' : n < 16 := by omega
  interval_cases n <;> (repeat (first | rw [dif_pos (by omega)] | rw [dif_neg (by omega)])) <;> rfl

theorem ref4k_at (r : ℕ → Vec Ideal S1x128 .f32) (i l : Fin 128) : ref4k r (ix2 i l) = r (mid 4 i.val) (ix2 0 l) := by
  unfold ref4k
  pointwise
  have hi := i.isLt
  have e : mid 4 i.val = i.val / 16 * 16 + 7 := by unfold mid; omega
  rw [e]
  generalize hn : i.val / 16 = n
  have hn' : n < 8 := by omega
  interval_cases n <;> (repeat (first | rw [dif_pos (by omega)] | rw [dif_neg (by omega)])) <;> rfl

theorem ref5k_at (r : ℕ → Vec Ideal S1x128 .f32) (i l : Fin 128) : ref5k r (ix2 i l) = r (mid 5 i.val) (ix2 0 l) := by
  unfold ref5k
  pointwise
  have hi := i.isLt
  have e : mid 5 i.val = i.val / 32 * 32 + 15 := by unfold mid; omega
  rw [e]
  generalize hn : i.val / 32 = n
  have hn' : n < 4 := by omega
  interval_cases n <;> (repeat (first | rw [dif_pos (by omega)] | rw [dif_neg (by omega)])) <;> rfl

theorem ref6k_at (r : ℕ → Vec Ideal S1x128 .f32) (i l : Fin 128) : ref6k r (ix2 i l) = r (mid 6 i.val) (ix2 0 l) := by
  unfold ref6k
  pointwise
  have hi := i.isLt
  have e : mid 6 i.val = i.val / 64 * 64 + 31 := by unfold mid; omega
  rw [e]
  generalize hn : i.val / 64 = n
  have hn' : n < 2 := by omega
  interval_cases n <;> (repeat (first | rw [dif_pos (by omega)] | rw [dif_neg (by omega)])) <;> rfl

theorem ref7k_at (r : ℕ → Vec Ideal S1x128 .f32) (i l : Fin 128) : ref7k r (ix2 i l) = r (mid 7 i.val) (ix2 0 l) := by
  unfold ref7k
  pointwise
  have hi := i.isLt
  have e : mid 7 i.val = 63 := by unfold mid; omega
  rw [e]

/-! ## A chunk from position `T` -/

section
variable (q k v lf : ℕ → ℕ → ℝ) (T : ℕ)

/-- The running sums within the chunk. -/
def bR (t d : ℕ) : ℝ := cum lf (T + t + 1) d - cum lf T d

theorem bR_eq (t d : ℕ) : bR lf T t d = ∑ j ∈ range (t + 1), lf (T + j) d := by
  unfold bR
  rw [add_assoc, cum_add]

theorem bR_sub (t d : ℕ) : bR lf T (t + 1) d - bR lf T t d = lf (T + (t + 1)) d := by
  rw [bR_eq, bR_eq, Finset.sum_range_succ]
  ring

variable (Q K LG Bv : FVec Ideal S128x128 .f32) (tri : Vec Ideal S128x128 .bf16) (V S : Vec Ideal S1x128x128 .f32) (lvl sgn : ℕ → Vec Ideal S1x128x128 .f32) (r : ℕ → Vec Ideal S1x128 .f32)

/-- What the operands hold. -/
structure Ops : Prop where
  hQ : ∀ i l : Fin 128, Q (ix2 i l) = ((q (T + i.val) l.val : ℝ) : EReal)
  hK : ∀ i l : Fin 128, K (ix2 i l) = ((k (T + i.val) l.val : ℝ) : EReal)
  hL : ∀ i l : Fin 128, LG (ix2 i l) = ((L2 * lf (T + i.val) l.val : ℝ) : EReal)

/-- What the tables hold. -/
structure Tabs : Prop where
  ht : ∀ i j : Fin 128, tri (ix2 i j) = (((if j.val ≤ i.val then 1 else 0 : ℝ)) : EReal)
  hv : ∀ l < 8, ∀ i j : Fin 128, lvl l (ix3 0 i j) = (((if cov l i.val j.val then 1 else 0 : ℝ)) : EReal)
  hs : ∀ l < 5, ∀ i j : Fin 128, sgn l (ix3 0 i j) = (((if mid (l + 3) i.val < i.val then 1 else -1 : ℝ)) : EReal)

theorem bk_at (hL : ∀ i l : Fin 128, LG (ix2 i l) = ((L2 * lf (T + i.val) l.val : ℝ) : EReal))
    (ht : ∀ i j : Fin 128, tri (ix2 i j) = (((if j.val ≤ i.val then 1 else 0 : ℝ)) : EReal)) (i l : Fin 128) :
    bk tri LG (ix2 i l) = ((L2 * bR lf T i.val l.val : ℝ) : EReal) := by
  unfold bk
  pointwise
  simp only [ht, hL, ← EReal.coe_sub, sub_self, ← EReal.coe_mul, mul_zero, coe_sum, Finset.sum_const_zero, EReal.coe_zero, add_zero]
  rw [EReal.coe_eq_coe_iff, sum_tri (fun j => L2 * lf (T + j) l.val), bR_eq, Finset.mul_sum]

theorem bck_at (hL : ∀ i l : Fin 128, LG (ix2 i l) = ((L2 * lf (T + i.val) l.val : ℝ) : EReal)) (l : Fin 128) :
    bck LG (ix2 0 l) = ((L2 * (cum lf (T + 128) l.val - cum lf T l.val) : ℝ) : EReal) := by
  unfold bck
  pointwise
  simp only [hL, coe_sum]
  rw [EReal.coe_eq_coe_iff, cum_add, Finset.mul_sum, Fin.sum_univ_eq_sum_range (fun j => L2 * lf (T + j) l.val) 128]

theorem bit1 : ∀ i : Fin 128, IntOp.cmpi CmpIPredicate.eq (IntOp.andi (BitVec.ofNat 32 i.val) 1#32) 1#32 = if i.val % 2 = 1 then 1#1 else 0#1 := by
  decide +kernel

theorem bit2 : ∀ (c : Fin 3) (i : Fin 128), IntOp.cmpi CmpIPredicate.eq (IntOp.andi (BitVec.ofNat 32 i.val) 3#32) (BitVec.ofNat 32 c.val) = if i.val % 4 = c.val then 1#1 else 0#1 := by
  decide +kernel

theorem e1k_at (hL : ∀ i l : Fin 128, LG (ix2 i l) = ((L2 * lf (T + i.val) l.val : ℝ) : EReal)) (i l : Fin 128) :
    e1k LG (ix2 i l) = ((L2 * dist (fun t => bR lf T t l.val) 1 i.val : ℝ) : EReal) := by
  unfold e1k rowk
  pointwise
  rw [bit1, hL]
  by_cases h : i.val % 2 = 1
  · obtain ⟨m, hm⟩ : ∃ m, i.val = m + 1 := ⟨i.val - 1, by omega⟩
    have e : mid 1 i.val = m := by unfold mid; omega
    rw [if_pos h]
    unfold Hg.dist
    rw [if_pos (by omega), e, hm, bR_sub]
    rfl
  · have e : mid 1 i.val = i.val := by unfold mid; omega
    rw [if_neg h]
    unfold Hg.dist
    rw [if_neg (by omega), e, sub_self, mul_zero]
    rfl

theorem e2k_at (hL : ∀ i l : Fin 128, LG (ix2 i l) = ((L2 * lf (T + i.val) l.val : ℝ) : EReal)) (i l : Fin 128) :
    e2k LG (ix2 i l) = ((L2 * dist (fun t => bR lf T t l.val) 2 i.val : ℝ) : EReal) := by
  unfold e2k rowk
  pointwise
  have h0 := bit2 0 i
  have h1 := bit2 1 i
  have h2 := bit2 2 i
  have hi := i.isLt
  simp only [Fin.val_zero, Fin.val_one, Fin.val_two] at h0 h1 h2
  rw [h0, h1, h2, hL, hL, hL]
  dsimp only
  rcases (by omega : i.val % 4 = 0 ∨ i.val % 4 = 1 ∨ i.val % 4 = 2 ∨ i.val % 4 = 3) with h | h | h | h
  · have e : mid 2 i.val = i.val + 1 := by unfold mid; omega
    have e' : (i.val + 128 - 127) % 128 = i.val + 1 := by omega
    have d : Hg.dist (fun t => bR lf T t l.val) 2 i.val = lf (T + (i.val + 1)) l.val := by
      unfold Hg.dist
      rw [e, if_neg (by omega), bR_sub]
    rw [if_pos h, d, e']
    rfl
  · have e : mid 2 i.val = i.val := by unfold mid; omega
    have d : Hg.dist (fun t => bR lf T t l.val) 2 i.val = 0 := by
      unfold Hg.dist
      rw [e, if_neg (by omega), sub_self]
    rw [if_neg (by omega), if_pos h, d, mul_zero]
    rfl
  · obtain ⟨m, hm⟩ : ∃ m, i.val = m + 1 := ⟨i.val - 1, by omega⟩
    have e : mid 2 i.val = m := by unfold mid; omega
    have d : Hg.dist (fun t => bR lf T t l.val) 2 i.val = lf (T + i.val) l.val := by
      unfold Hg.dist
      rw [e, if_pos (by omega), hm, bR_sub]
    rw [if_neg (by omega), if_neg (by omega), if_pos h, d]
    rfl
  · obtain ⟨m, hm⟩ : ∃ m, i.val = m + 1 + 1 := ⟨i.val - 2, by omega⟩
    have e : mid 2 i.val = m := by unfold mid; omega
    have e' : (i.val + 128 - 1) % 128 = m + 1 := by omega
    have d : Hg.dist (fun t => bR lf T t l.val) 2 i.val = lf (T + i.val) l.val + lf (T + (m + 1)) l.val := by
      unfold Hg.dist
      rw [e, if_pos (by omega), hm, ← bR_sub lf T m, ← bR_sub lf T (m + 1)]
      ring
    rw [if_neg (by omega), if_neg (by omega), if_neg (by omega), d, e', mul_add, EReal.coe_add]
    rfl

variable (hB : ∀ i l : Fin 128, Bv (ix2 i l) = ((L2 * bR lf T i.val l.val : ℝ) : EReal))
  (hr : ∀ m : Fin 128, ∀ l : Fin 128, r m.val (ix2 0 l) = ((L2 * bR lf T m.val l.val : ℝ) : EReal))

include hB hr in
/-- A level's exponents, its middle rows and its signs given. -/
theorem ek_at (w : ℕ) (hw : 1 ≤ w) (hw' : w ≤ 7) (ref : FVec Ideal S128x128 .f32) (sg : Vec Ideal S1x128x128 .f32) (i l : Fin 128)
    (href : ref (ix2 i l) = r (mid w i.val) (ix2 0 l)) (hsg : sg (ix3 0 i l) = (((if mid w i.val < i.val then 1 else -1 : ℝ)) : EReal)) :
    ek Bv ref sg (ix2 i l) = ((L2 * dist (fun t => bR lf T t l.val) w i.val : ℝ) : EReal) := by
  unfold ek
  pointwise
  have hm : mid w i.val < 128 := by
    have := i.isLt
    unfold mid
    interval_cases w <;> omega
  rw [href, hB, hr ⟨_, hm⟩, hsg, ← EReal.coe_sub, ← EReal.coe_mul, EReal.coe_eq_coe_iff]
  unfold Hg.dist
  split <;> ring

/-- A level's part of the scores. -/
def lev (w : ℕ) (i j : Fin 128) : ℝ :=
  (if cov w i.val j.val then (1:ℝ) else 0) * ∑ d : Fin 128, (if w = 0 then q (T + i.val) d.val else q (T + i.val) d.val * Real.exp (dist (fun x => bR lf T x d.val) w i.val))
    * (if w = 0 then k (T + j.val) d.val else k (T + j.val) d.val * Real.exp (dist (fun x => bR lf T x d.val) w j.val))

theorem lev_sum (i j : Fin 128) : ∑ l : Fin 8, lev q k lf T l.val i j = if j.val ≤ i.val then score q k lf (T + i.val) (T + j.val) else 0 := by
  have h := levels (fun d => q (T + i.val) d) (fun d => k (T + j.val) d) (fun t d => bR lf T t d) i j
  refine Eq.trans ?_ (h.trans ?_)
  · rfl
  · by_cases hij : j.val ≤ i.val
    · rw [if_pos hij, if_pos hij]
      unfold score bR
      refine Finset.sum_congr rfl fun d _ => ?_
      congr 2
      ring
    · rw [if_neg hij, if_neg hij]

/-- What a level's scaled factors hold. -/
def Sc (x : ℕ → ℕ → ℝ) (w : ℕ) (X : FVec Ideal S128x128 .bf16) : Prop :=
  ∀ i l : Fin 128, X (ix2 i l) = (((if w = 0 then x (T + i.val) l.val else x (T + i.val) l.val * Real.exp (dist (fun t => bR lf T t l.val) w i.val)) : ℝ) : EReal)

theorem pair_lev (a b : ℕ) (qa qb ka kb : FVec Ideal S128x128 .bf16) (la lb : Vec Ideal S1x128x128 .f32)
    (h1 : Sc lf T q a qa) (h2 : Sc lf T q b qb) (h3 : Sc lf T k a ka) (h4 : Sc lf T k b kb)
    (h5 : ∀ i j : Fin 128, la (ix3 0 i j) = (((if cov a i.val j.val then 1 else 0 : ℝ)) : EReal))
    (h6 : ∀ i j : Fin 128, lb (ix3 0 i j) = (((if cov b i.val j.val then 1 else 0 : ℝ)) : EReal)) (i j : Fin 128) :
    pairk qa qb ka kb la lb (ix2 i j) = ((lev q k lf T a i j + lev q k lf T b i j : ℝ) : EReal) := by
  rw [pairk_at, h5, h6]
  simp only [h1 i, h2 i, h3 j, h4 j, ← EReal.coe_mul, coe_sum, ← EReal.coe_add]
  rfl

variable (hO : Ops q k lf T Q K LG) (hT : Tabs tri lvl sgn)
include hO hT hB hr

theorem scorek_at (i j : Fin 128) :
    scorek Q K LG Bv r lvl sgn (ix2 i j) = (((if j.val ≤ i.val then score q k lf (T + i.val) (T + j.val) else 0 : ℝ)) : EReal) := by
  have h0 (x : ℕ → ℕ → ℝ) (X : FVec Ideal S128x128 .f32) (h : ∀ i l : Fin 128, X (ix2 i l) = ((x (T + i.val) l.val : ℝ) : EReal)) :
      Sc lf T x 0 (truncf .bf16 X bitsLt_bf16_f32) := fun i l => by rw [if_pos rfl]; exact h i l
  have hs (w : ℕ) (hw : w ≠ 0) (x : ℕ → ℕ → ℝ) (X e : FVec Ideal S128x128 .f32) (h : ∀ i l : Fin 128, X (ix2 i l) = ((x (T + i.val) l.val : ℝ) : EReal))
      (he : ∀ i l : Fin 128, e (ix2 i l) = ((L2 * dist (fun t => bR lf T t l.val) w i.val : ℝ) : EReal)) : Sc lf T x w (sck X e) := fun i l => by
    rw [if_neg hw]; exact sck_at X e _ _ i l (h i l) (he i l)
  have g1 := e1k_at lf T LG hO.hL
  have g2 := e2k_at lf T LG hO.hL
  have g3 := fun i l => ek_at lf T Bv r hB hr 3 (by omega) (by omega) (ref3k r) (sgn 0) i l (ref3k_at r i l) (hT.hs 0 (by omega) i l)
  have g4 := fun i l => ek_at lf T Bv r hB hr 4 (by omega) (by omega) (ref4k r) (sgn 1) i l (ref4k_at r i l) (hT.hs 1 (by omega) i l)
  have g5 := fun i l => ek_at lf T Bv r hB hr 5 (by omega) (by omega) (ref5k r) (sgn 2) i l (ref5k_at r i l) (hT.hs 2 (by omega) i l)
  have g6 := fun i l => ek_at lf T Bv r hB hr 6 (by omega) (by omega) (ref6k r) (sgn 3) i l (ref6k_at r i l) (hT.hs 3 (by omega) i l)
  have g7 := fun i l => ek_at lf T Bv r hB hr 7 (by omega) (by omega) (ref7k r) (sgn 4) i l (ref7k_at r i l) (hT.hs 4 (by omega) i l)
  have p0 := pair_lev q k lf T 0 1 _ _ _ _ (lvl 0) (lvl 1) (h0 q Q hO.hQ) (hs 1 (by omega) q Q _ hO.hQ g1) (h0 k K hO.hK) (hs 1 (by omega) k K _ hO.hK g1) (hT.hv 0 (by omega)) (hT.hv 1 (by omega)) i j
  have p1 := pair_lev q k lf T 2 3 _ _ _ _ (lvl 2) (lvl 3) (hs 2 (by omega) q Q _ hO.hQ g2) (hs 3 (by omega) q Q _ hO.hQ g3) (hs 2 (by omega) k K _ hO.hK g2) (hs 3 (by omega) k K _ hO.hK g3) (hT.hv 2 (by omega)) (hT.hv 3 (by omega)) i j
  have p2 := pair_lev q k lf T 4 5 _ _ _ _ (lvl 4) (lvl 5) (hs 4 (by omega) q Q _ hO.hQ g4) (hs 5 (by omega) q Q _ hO.hQ g5) (hs 4 (by omega) k K _ hO.hK g4) (hs 5 (by omega) k K _ hO.hK g5) (hT.hv 4 (by omega)) (hT.hv 5 (by omega)) i j
  have p3 := pair_lev q k lf T 6 7 _ _ _ _ (lvl 6) (lvl 7) (hs 6 (by omega) q Q _ hO.hQ g6) (hs 7 (by omega) q Q _ hO.hQ g7) (hs 6 (by omega) k K _ hO.hK g6) (hs 7 (by omega) k K _ hO.hK g7) (hT.hv 6 (by omega)) (hT.hv 7 (by omega)) i j
  rw [← lev_sum]
  unfold scorek
  pointwise
  rw [p0, p1, p2, p3]
  simp only [← EReal.coe_add, Fin.sum_univ_eight]
  rw [EReal.coe_eq_coe_iff]
  show _ = lev q k lf T 0 i j + lev q k lf T 1 i j + lev q k lf T 2 i j + lev q k lf T 3 i j + lev q k lf T 4 i j + lev q k lf T 5 i j + lev q k lf T 6 i j + lev q k lf T 7 i j
  ring

omit hO hT hr

variable (hQ : ∀ i l : Fin 128, Q (ix2 i l) = ((q (T + i.val) l.val : ℝ) : EReal)) (hK : ∀ i l : Fin 128, K (ix2 i l) = ((k (T + i.val) l.val : ℝ) : EReal))
  (hV : ∀ i l : Fin 128, V (ix3 0 i l) = ((v (T + i.val) l.val : ℝ) : EReal)) (hS : ∀ e l : Fin 128, S (ix3 0 e l) = ((state k v lf T l.val e.val : ℝ) : EReal))

include hV hS hQ in
theorem outk_at (sc : FVec Ideal S128x128 .bf16) (hsc : ∀ i j : Fin 128, sc (ix2 i j) = (((if j.val ≤ i.val then score q k lf (T + i.val) (T + j.val) else 0 : ℝ)) : EReal)) (i e : Fin 128) :
    outk Q Bv sc V S (ix3 0 i e) = ((outp q k v lf (T + i.val) e.val : ℝ) : EReal) := by
  unfold outk
  pointwise
  have hx (x : Fin 128) : FloatOps.exp2 (F := Ideal) (φ := .f32) (Bv (ix2 i x)) = ((Real.exp (bR lf T i.val x.val) : ℝ) : EReal) := by rw [hB]; exact exp2_L2 _
  simp only [hQ, hS, hV, hsc, hx, ← EReal.coe_mul, coe_sum, ← EReal.coe_add]
  rw [EReal.coe_eq_coe_iff, outp_chunk q k v lf T 128 i.val e.val i.isLt,
    Fin.sum_univ_eq_sum_range (fun x => (if x ≤ i.val then score q k lf (T + i.val) (T + x) else 0) * v (T + x) e.val) 128]
  rfl

include hK hV hS in
theorem nxtk_at (bc : FVec Ideal S1x128 .f32) (hbc : ∀ l : Fin 128, bc (ix2 0 l) = ((L2 * (cum lf (T + 128) l.val - cum lf T l.val) : ℝ) : EReal)) (e l : Fin 128) :
    nxtk K Bv bc V S (ix3 0 e l) = ((state k v lf (T + 128) l.val e.val : ℝ) : EReal) := by
  unfold nxtk
  pointwise
  have h1 : FloatOps.exp2 (F := Ideal) (φ := .f32) (bc (ix2 0 l)) = ((Real.exp (cum lf (T + 128) l.val - cum lf T l.val) : ℝ) : EReal) := by rw [hbc]; exact exp2_L2 _
  have h2 (x : Fin 128) : FloatOps.exp2 (F := Ideal) (φ := .f32) (bc (ix2 0 l) - Bv (ix2 x l)) = ((Real.exp (cum lf (T + 128) l.val - cum lf (T + x.val + 1) l.val) : ℝ) : EReal) := by
    rw [hbc, hB, ← EReal.coe_sub, ← mul_sub]
    refine (exp2_L2 _).trans ?_
    unfold bR
    rw [sub_sub_sub_cancel_right]
  simp only [hS, hV, hK, h1, h2, ← EReal.coe_mul, coe_sum, ← EReal.coe_add]
  rw [EReal.coe_eq_coe_iff, state_chunk k v lf T 128 l.val e.val,
    ← Fin.sum_univ_eq_sum_range (fun x => k (T + x) l.val * Real.exp (cum lf (T + 128) l.val - cum lf (T + x + 1) l.val) * v (T + x) e.val) 128, mul_comm]
  congr 1
  refine Finset.sum_congr rfl fun x _ => ?_
  ring

end

end Cert.HgIdeal.Value
end
-- ==== Proof.HgBlock.lean ====
module

public import proofs.«01_k».proof.Proof.HgOps
public import proofs.«01_k».proof.Proof.Gen.HgIdeal.Value
public import Idealize.ShloMosaic.Lib.Pipeline.ValueKit
public import Idealize.ShloMosaic.Lib.Pipeline.ReadBack
public import Idealize.ShloMosaic.Lib.WritesUnit
public import Idealize.ShloMosaic.Lib.Exec.Geometry
public import Idealize.ShloMosaic.Lib.Tactic.CleanTypes

@[expose] public section

set_option maxRecDepth 16384
noncomputable section

namespace Cert.HgIdeal.Value

open Cert.HgIdeal Cert.HgIdeal.Gen Idealize.ShloMosaic Idealize.ShloMosaic.TcCoe Idealize.SL.Sem
open Idealize.ShloMosaic.Pipeline (Dat)

variable {F : FTy → Type} [FloatOps F] [Named F]

/-! The stores of a body in turn: step `s` is head `s % 2` of chunk `s / 2`. -/

theorem inb_st (s : ℕ) : ∀ k : Fin 3, (![s % 2, 0, 0] : Fin 3 → ℕ) k + S1x128x128.size k ≤ S2x128x128.size k := by
  intro k
  match k with
  | ⟨0, _⟩ => show s % 2 + 1 ≤ 2; omega
  | ⟨1, _⟩ => show 0 + 128 ≤ 128; omega
  | ⟨2, _⟩ => show 0 + 128 ≤ 128; omega

theorem inb_row (s : ℕ) : ∀ k : Fin 3, (![s % 2, 128 * (s / 2 % 16), 0] : Fin 3 → ℕ) k + S1x128x128.size k ≤ S2x2048x128.size k := by
  intro k
  match k with
  | ⟨0, _⟩ => show s % 2 + 1 ≤ 2; omega
  | ⟨1, _⟩ => show 128 * (s / 2 % 16) + 128 ≤ 2048; omega
  | ⟨2, _⟩ => show 0 + 128 ≤ 128; omega

theorem inb_sav (s : ℕ) : ∀ k : Fin 4, (![s % 2, s / 2 % 16, 0, 0] : Fin 4 → ℕ) k + S1x1x128x128.size k ≤ S2x16x128x128.size k := by
  intro k
  match k with
  | ⟨0, _⟩ => show s % 2 + 1 ≤ 2; omega
  | ⟨1, _⟩ => show s / 2 % 16 + 1 ≤ 16; omega
  | ⟨2, _⟩ => show 0 + 128 ≤ 128; omega
  | ⟨3, _⟩ => show 0 + 128 ≤ 128; omega

theorem inb_lb (s : ℕ) : ∀ k : Fin 2, (![0, 128 * (s % 2)] : Fin 2 → ℕ) k + S1x128.size k ≤ S1x256.size k := by
  intro k
  match k with
  | ⟨0, _⟩ => show 0 + 1 ≤ 1; omega
  | ⟨1, _⟩ => show 128 * (s % 2) + 128 ≤ 256; omega

theorem inb_lvl (l : ℕ) : ∀ k : Fin 3, (![l % 8, 0, 0] : Fin 3 → ℕ) k + S1x128x128.size k ≤ S8x128x128.size k := by
  intro k
  match k with
  | ⟨0, _⟩ => show l % 8 + 1 ≤ 8; omega
  | ⟨1, _⟩ => show 0 + 128 ≤ 128; omega
  | ⟨2, _⟩ => show 0 + 128 ≤ 128; omega

theorem inb_sgn (l : ℕ) : ∀ k : Fin 3, (![l % 5, 0, 0] : Fin 3 → ℕ) k + S1x128x128.size k ≤ S5x128x128.size k := by
  intro k
  match k with
  | ⟨0, _⟩ => show l % 5 + 1 ≤ 5; omega
  | ⟨1, _⟩ => show 0 + 128 ≤ 128; omega
  | ⟨2, _⟩ => show 0 + 128 ≤ 128; omega

theorem inb_mid (m : ℕ) : ∀ k : Fin 2, (![m % 128, 0] : Fin 2 → ℕ) k + S1x128.size k ≤ S128x128.size k := by
  intro k
  match k with
  | ⟨0, _⟩ => show m % 128 + 1 ≤ 128; omega
  | ⟨1, _⟩ => show 0 + 128 ≤ 128; omega

abbrev stR (s : ℕ) : Rect S2x128x128 := Rect.unit ![s % 2, 0, 0] S1x128x128.size (inb_st s)
abbrev rowR (s : ℕ) : Rect S2x2048x128 := Rect.unit ![s % 2, 128 * (s / 2 % 16), 0] S1x128x128.size (inb_row s)
abbrev savR (s : ℕ) : Rect S2x16x128x128 := Rect.unit ![s % 2, s / 2 % 16, 0, 0] S1x1x128x128.size (inb_sav s)
abbrev lbR (s : ℕ) : Rect S1x256 := Rect.unit ![0, 128 * (s % 2)] S1x128.size (inb_lb s)
abbrev lvlR (l : ℕ) : Rect S8x128x128 := Rect.unit ![l % 8, 0, 0] S1x128x128.size (inb_lvl l)
abbrev sgnR (l : ℕ) : Rect S5x128x128 := Rect.unit ![l % 5, 0, 0] S1x128x128.size (inb_sgn l)
abbrev triR : Rect S128x128 := Rect.unit ![0, 0] S128x128.size inb_S128x128_S128x128_0_0
abbrev midL (m : ℕ) : LoadRect S128x128 := (Rect.unit (s := S128x128) ![m % 128, 0] S1x128.size (inb_mid m)).toLoadRect
/-- Row `m` of a head's plane. -/
abbrev midP (m : ℕ) : LoadRect S1x128x128 := LoadRect.consLift (d := ![128, 128]) (midL m) ![1, 128, 128] rfl (by decide)
abbrev midR (s m : ℕ) : LoadRect S2x128x128 := (stR s).withinL (midP m) (fun _ => rfl)

/-- The states stored by the first `s` steps, over those stored before; `rd` reads the head's state. -/
def LS (rd : ℕ → List (View.Piece (Elt F) S2x128x128 .f32) → Vec F S1x128x128 .f32) (nx : ℕ → Vec F S1x128x128 .f32 → Vec F S1x128x128 .f32)
    (L0 : List (View.Piece (Elt F) S2x128x128 .f32)) : ℕ → List (View.Piece (Elt F) S2x128x128 .f32)
  | 0 => L0
  | s + 1 => ⟨stR s, nx s (rd s (LS rd nx L0 s))⟩ :: LS rd nx L0 s

/-- The running sums stored by the first `s` steps. -/
def LB (p : ℕ → Vec F S1x128x128 .f32) : ℕ → List (View.Piece (Elt F) S2x128x128 .f32)
  | 0 => []
  | s + 1 => ⟨stR s, p s⟩ :: LB p s

/-- The output rows stored by the first `s` steps. -/
def LO (p : ℕ → Vec F S1x128x128 .f32) : ℕ → List (View.Piece (Elt F) S2x2048x128 .f32)
  | 0 => []
  | s + 1 => ⟨rowR s, p s⟩ :: LO p s

/-- The states saved by the first `s` steps. -/
def LR (p : ℕ → Vec F S1x1x128x128 .f32) : ℕ → List (View.Piece (Elt F) S2x16x128x128 .f32)
  | 0 => []
  | s + 1 => ⟨savR s, p s⟩ :: LR p s

section
variable (c : Dev nD) (i : grid0.Coords)
  (arg2 : Memref sig .tc .vmem S2x2048x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S1x256 .f32) (harg5 : arg5.IsWhole)
  (arg6 : Memref sig .tc .vmem S128x128 .bf16) (harg6 : arg6.IsWhole)
  (arg7 : Memref sig .tc .vmem S8x128x128 .f32) (harg7 : arg7.IsWhole)
  (arg8 : Memref sig .tc .vmem S5x128x128 .f32) (harg8 : arg8.IsWhole)
  (arg9 : Memref sig .tc .vmem S2x2048x128 .f32) (harg9 : arg9.IsWhole)
  (arg10 : Memref sig .tc .vmem S2x16x128x128 .f32) (harg10 : arg10.IsWhole)
  (arg11 : Memref sig .tc .vmem S2x16x128x128 .bf16) (harg11 : arg11.IsWhole)
  (arg12 : Memref sig .tc .vmem S2x128x128 .f32) (harg12 : arg12.IsWhole)
  (arg13 : Memref sig .tc .vmem S2x128x128 .f32) (harg13 : arg13.IsWhole)
  (x0 : Vec F S2x2048x128 .f32) (x1 : Vec F S2x2048x128 .f32) (x2 : Vec F S2x2048x128 .f32) (x3 : Vec F S1x256 .f32) (x4 : Vec F S128x128 .bf16) (x5 : Vec F S8x128x128 .f32) (x6 : Vec F S5x128x128 .f32)
  (xs0 : Vec F S2x128x128 .f32)

/-- Step `s`'s queries, … -/
def qs (s : ℕ) : FVec F S128x128 .f32 := qk (View.readAt (Elt F) arg2.view (rowR s).toLoadRect (harg2.unread x0))

/-- … gate, … -/
def fs (s : ℕ) : FVec F S128x128 .f32 := fk (View.readAt (Elt F) arg5.view (lbR s).toLoadRect (harg5.unread x3)) (View.readAt (Elt F) arg3.view (rowR s).toLoadRect (harg3.unread x1))

/-- … values … -/
def vs (s : ℕ) : Vec F S1x128x128 .f32 := View.readAt (Elt F) arg4.view (rowR s).toLoadRect (harg4.unread x2)

/-- … and running sums of the gate's logarithms. -/
def bs (s : ℕ) : FVec F S128x128 .f32 := bk (View.readAt (Elt F) arg6.view triR.toLoadRect (harg6.unread x4)) (lgk (fs arg3 harg3 arg5 harg5 x1 x3 s))

/-- The running sums as they are kept. -/
def LBs : ℕ → List (View.Piece (Elt F) S2x128x128 .f32) :=
  LB fun s => shapeCast S1x128x128 (bs arg3 harg3 arg5 harg5 arg6 harg6 x1 x3 x4 s) shapeCasts_S128x128_S1x128x128

/-- Row `m` of step `s`'s running sums, read back. -/
def rs (s m : ℕ) : Vec F S1x128 .f32 :=
  LoadRect.valAlong ((midL m).numel_consLift (d := ![128, 128]) ![1, 128, 128] rfl (by decide)) (arg13.view.readCov (LBs arg3 harg3 arg5 harg5 arg6 harg6 x1 x3 x4 (s + 1)) (midR s m))

def lvls (l : ℕ) : Vec F S1x128x128 .f32 := View.readAt (Elt F) arg7.view (lvlR l).toLoadRect (harg7.unread x5)
def sgns (l : ℕ) : Vec F S1x128x128 .f32 := View.readAt (Elt F) arg8.view (sgnR l).toLoadRect (harg8.unread x6)

/-- Step `s`'s scores. -/
def scs (s : ℕ) : FVec F S128x128 .bf16 :=
  scorek (qs arg2 harg2 x0 s) (kk (fs arg3 harg3 arg5 harg5 x1 x3 s)) (lgk (fs arg3 harg3 arg5 harg5 x1 x3 s)) (bs arg3 harg3 arg5 harg5 arg6 harg6 x1 x3 x4 s)
    (rs arg3 harg3 arg5 harg5 arg6 harg6 arg13 x1 x3 x4 s) (lvls arg7 harg7 x5) (sgns arg8 harg8 x6)

/-- The state step `s` leaves. -/
def nxs (s : ℕ) (st : Vec F S1x128x128 .f32) : Vec F S1x128x128 .f32 :=
  nxtk (kk (fs arg3 harg3 arg5 harg5 x1 x3 s)) (bs arg3 harg3 arg5 harg5 arg6 harg6 x1 x3 x4 s) (bck (lgk (fs arg3 harg3 arg5 harg5 x1 x3 s))) (vs arg4 harg4 x2 s) st

/-- The rows step `s` stores. -/
def outs (s : ℕ) (st : Vec F S1x128x128 .f32) : Vec F S1x128x128 .f32 :=
  outk (qs arg2 harg2 x0 s) (bs arg3 harg3 arg5 harg5 arg6 harg6 x1 x3 x4 s) (scs arg2 harg2 arg3 harg3 arg5 harg5 arg6 harg6 arg7 harg7 arg8 harg8 arg13 x0 x1 x3 x4 x5 x6 s) (vs arg4 harg4 x2 s) st

/-- A state read back from the stores before it. -/
def rdA (s : ℕ) (L : List (View.Piece (Elt F) S2x128x128 .f32)) : Vec F S1x128x128 .f32 := arg12.view.readCov L (stR s).toLoadRect

/-- The first chunk reads what the block before left. -/
def rdB (s : ℕ) (L : List (View.Piece (Elt F) S2x128x128 .f32)) : Vec F S1x128x128 .f32 :=
  match s with
  | 0 => View.readAt (Elt F) arg12.view (stR 0).toLoadRect (harg12.unread xs0)
  | 1 => View.readAt (Elt F) arg12.view (stR 1).toLoadRect (harg12.unread xs0)
  | s + 2 => arg12.view.readCov L (stR (s + 2)).toLoadRect

def zeroR : Rect S2x128x128 := Rect.unit ![0, 0, 0] S2x128x128.size inb_S2x128x128_S2x128x128_0_0_0

/-- What a block that starts from zero stores first. -/
def zerok : Vec F S2x128x128 .f32 := shapeCast S2x128x128 (broadcast S2x128x128 (Scalar.ofBits .f32 0x00000000#32)) shapeCasts_S2x128x128_S2x128x128

/-- The state lists of a block that starts from zero … -/
def LSA : ℕ → List (View.Piece (Elt F) S2x128x128 .f32) :=
  LS (rdA arg12) (nxs arg3 harg3 arg4 harg4 arg5 harg5 arg6 harg6 x1 x2 x3 x4) [⟨zeroR, zerok⟩]

/-- … and of one that goes on. -/
def LSB : ℕ → List (View.Piece (Elt F) S2x128x128 .f32) :=
  LS (rdB arg12 harg12 xs0) (nxs arg3 harg3 arg4 harg4 arg5 harg5 arg6 harg6 x1 x2 x3 x4) []

theorem statesA (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1
      = LSA arg3 harg3 arg4 harg4 arg5 harg5 arg6 harg6 arg12 x1 x2 x3 x4 32 := by
  sl_kernel_rfl

theorem rowsA (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1
      = LO (fun s => outs arg2 harg2 arg3 harg3 arg4 harg4 arg5 harg5 arg6 harg6 arg7 harg7 arg8 harg8 arg13 x0 x1 x2 x3 x4 x5 x6 s (rdA arg12 s (LSA arg3 harg3 arg4 harg4 arg5 harg5 arg6 harg6 arg12 x1 x2 x3 x4 s))) 32 := by
  sl_kernel_rfl

theorem savedA (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1
      = LR (fun s => savk (rdA arg12 s (LSA arg3 harg3 arg4 harg4 arg5 harg5 arg6 harg6 arg12 x1 x2 x3 x4 s))) 32 := by
  sl_kernel_rfl

theorem statesB (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1
      = LSB arg3 harg3 arg4 harg4 arg5 harg5 arg6 harg6 arg12 harg12 x1 x2 x3 x4 xs0 32 := by
  sl_kernel_rfl

theorem rowsB (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1
      = LO (fun s => outs arg2 harg2 arg3 harg3 arg4 harg4 arg5 harg5 arg6 harg6 arg7 harg7 arg8 harg8 arg13 x0 x1 x2 x3 x4 x5 x6 s (rdB arg12 harg12 xs0 s (LSB arg3 harg3 arg4 harg4 arg5 harg5 arg6 harg6 arg12 harg12 x1 x2 x3 x4 xs0 s))) 32 := by
  sl_kernel_rfl

theorem savedB (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1
      = LR (fun s => savk (rdB arg12 harg12 xs0 s (LSB arg3 harg3 arg4 harg4 arg5 harg5 arg6 harg6 arg12 harg12 x1 x2 x3 x4 xs0 s))) 32 := by
  sl_kernel_rfl

end

end Cert.HgIdeal.Value
-- ==== Proof.HgLists.lean ====
module

public import proofs.«01_k».proof.Proof.HgChunk
public import proofs.«01_k».proof.Proof.HgBlock
public import Idealize.ShloMosaic.Lib.Writes

@[expose] public section

set_option maxRecDepth 16384
noncomputable section

/-! What a body's stores leave: the lists of `HgBlock` read back. -/

namespace Cert.HgIdeal.Value

open Cert.HgIdeal Cert.HgIdeal.Gen Idealize.ShloMosaic Idealize.ShloMosaic.TcCoe Idealize.SL.Sem
open Cert.Hand

/-! ## The loads of a step -/

theorem ld_row {b : Memref sig .tc .vmem S2x2048x128 .f32} (hb : b.IsWhole) (x : Vec Ideal S2x2048x128 .f32) (s : ℕ) (i l : Fin 128) :
    View.readAt (Elt Ideal) b.view (rowR s).toLoadRect (hb.unread x) (ix3 0 i l) = x (ix3 (⟨s % 2, by omega⟩ : Fin 2) (⟨128 * (s / 2 % 16) + i.val, by omega⟩ : Fin 2048) l) := by
  rw [hb.readAt_unread]
  refine congrArg x (funext fun a => Fin.ext ?_)
  fin_cases a <;> simp [ix3]
theorem ld_lb {b : Memref sig .tc .vmem S1x256 .f32} (hb : b.IsWhole) (x : Vec Ideal S1x256 .f32) (s : ℕ) (l : Fin 128) :
    View.readAt (Elt Ideal) b.view (lbR s).toLoadRect (hb.unread x) (ix2 0 l) = x (ix2 0 (⟨128 * (s % 2) + l.val, by omega⟩ : Fin 256)) := by
  rw [hb.readAt_unread]
  refine congrArg x (funext fun a => Fin.ext ?_)
  fin_cases a <;> simp [ix2]
theorem ld_tri {b : Memref sig .tc .vmem S128x128 .bf16} (hb : b.IsWhole) (x : Vec Ideal S128x128 .bf16) (i l : Fin 128) :
    View.readAt (Elt Ideal) b.view triR.toLoadRect (hb.unread x) (ix2 i l) = x (ix2 i l) := by
  rw [hb.readAt_unread]
  refine congrArg x (funext fun a => Fin.ext ?_)
  fin_cases a <;> simp [ix2]
theorem ld_lvl {b : Memref sig .tc .vmem S8x128x128 .f32} (hb : b.IsWhole) (x : Vec Ideal S8x128x128 .f32) (w : Fin 8) (i l : Fin 128) :
    View.readAt (Elt Ideal) b.view (lvlR w.val).toLoadRect (hb.unread x) (ix3 0 i l) = x (ix3 w i l) := by
  rw [hb.readAt_unread]
  refine congrArg x (funext fun a => Fin.ext ?_)
  fin_cases a <;> simp [ix3, Nat.mod_eq_of_lt w.isLt]
theorem ld_sgn {b : Memref sig .tc .vmem S5x128x128 .f32} (hb : b.IsWhole) (x : Vec Ideal S5x128x128 .f32) (w : Fin 5) (i l : Fin 128) :
    View.readAt (Elt Ideal) b.view (sgnR w.val).toLoadRect (hb.unread x) (ix3 0 i l) = x (ix3 w i l) := by
  rw [hb.readAt_unread]
  refine congrArg x (funext fun a => Fin.ext ?_)
  fin_cases a <;> simp [ix3, Nat.mod_eq_of_lt w.isLt]
theorem ld_st {b : Memref sig .tc .vmem S2x128x128 .f32} (hb : b.IsWhole) (x : Vec Ideal S2x128x128 .f32) (s : ℕ) (i l : Fin 128) :
    View.readAt (Elt Ideal) b.view (stR s).toLoadRect (hb.unread x) (ix3 0 i l) = x (ix3 (⟨s % 2, by omega⟩ : Fin 2) i l) := by
  rw [hb.readAt_unread]
  refine congrArg x (funext fun a => Fin.ext ?_)
  fin_cases a <;> simp [ix3]

theorem midR_idx (s : ℕ) (m l : Fin 128) :
    (midR s m.val).idx (Shape.reshapeEquiv ((midL m.val).numel_consLift (d := ![128, 128]) ![1, 128, 128] rfl (by decide)) (ix2 0 l)) = (stR s).emb (ix3 0 m l : S1x128x128.Idx) := by
  rw [Rect.idx_withinL]
  congr 1
  refine (LoadRect.liftsTo_consLift (d := ![128, 128]) (midL m.val) ![1, 128, 128] rfl (by decide) (ix2 0 l)).symm.trans ?_
  have h : (midL m.val).idx (ix2 0 l) = (ix2 m l : S128x128.Idx) := by
    funext a
    apply Fin.ext
    fin_cases a <;> simp [ix2, LoadRect.idx_apply, Nat.mod_eq_of_lt m.isLt]
  rw [h]
  refine (Shape.reshapeEquiv_cons_one (d := ![128, 128]) _ _).trans ?_
  funext a
  fin_cases a <;> rfl

/-- A row of the running sums just stored. -/
theorem rs_at (arg3 : Memref sig .tc .vmem S2x2048x128 .f32) (harg3 : arg3.IsWhole) (arg5 : Memref sig .tc .vmem S1x256 .f32) (harg5 : arg5.IsWhole)
    (arg6 : Memref sig .tc .vmem S128x128 .bf16) (harg6 : arg6.IsWhole) (arg13 : Memref sig .tc .vmem S2x128x128 .f32)
    (x1 : Vec Ideal S2x2048x128 .f32) (x3 : Vec Ideal S1x256 .f32) (x4 : Vec Ideal S128x128 .bf16) (s : ℕ) (m l : Fin 128) :
    rs arg3 harg3 arg5 harg5 arg6 harg6 arg13 x1 x3 x4 s m.val (ix2 0 l) = bs arg3 harg3 arg5 harg5 arg6 harg6 x1 x3 x4 s (ix2 m l) := by
  unfold rs LBs
  rw [View.readCov_eq_canon']
  refine (congrArg _ (midR_idx s m l)).trans ((View.canon_cons_emb (stR s) _ _ _).trans ?_)
  pointwise

/-! ## The stores read back -/

variable {sig' : RefSig} {κ : Kind} {sp : Space}

theorem stR_emb (s : ℕ) (e l : Fin 128) : (stR s).emb (ix3 0 e l : S1x128x128.Idx) = (ix3 (⟨s % 2, by omega⟩ : Fin 2) e l : S2x128x128.Idx) :=
  Rect.emb_eq_of_coords _ _ _ fun a => by fin_cases a <;> simp [ix3]

theorem stR_not_mem (s : ℕ) (e l : Fin 128) : (ix3 (⟨s % 2, by omega⟩ : Fin 2) e l : S2x128x128.Idx) ∉ (stR (s + 1)).set :=
  Rect.not_mem_set_of_axis _ _ 0 ((s + 1) % 2) 1 rfl rfl rfl (by simp only [ix3]; show s % 2 < (s + 1) % 2 ∨ (s + 1) % 2 + 1 ≤ s % 2; omega)

/-- A head's state is read back past the other head's store. -/
theorem rd_skip (v : View sig' κ sp S2x128x128 .f32) (s : ℕ) (x y : Vec Ideal S1x128x128 .f32) (L : List (View.Piece (Elt Ideal) S2x128x128 .f32)) :
    v.readCov (⟨stR (s + 1), y⟩ :: ⟨stR s, x⟩ :: L) (stR (s + 2)).toLoadRect = x := by
  rw [View.readCov_eq_canon']
  funext j
  obtain ⟨e, l, rfl⟩ : ∃ e l : Fin 128, j = ix3 0 e l := ⟨j 1, j 2, funext fun a => by
    fin_cases a
    · exact Subsingleton.elim (α := Fin 1) _ _
    · rfl
    · rfl⟩
  have h := stR_emb (s + 2) e l
  have h' : (ix3 (⟨(s + 2) % 2, by omega⟩ : Fin 2) e l : S2x128x128.Idx) = (stR s).emb (ix3 0 e l : S1x128x128.Idx) := by
    rw [stR_emb]; simp only [Nat.add_mod_right]
  refine (congrArg _ (h.trans h')).trans ((View.canon_cons_of_not_mem _ _ ?_).trans (View.canon_cons_emb (stR s) x L _))
  rw [stR_emb]
  exact stR_not_mem s e l

section
variable (nx : ℕ → Vec Ideal S1x128x128 .f32 → Vec Ideal S1x128x128 .f32) (L0 : List (View.Piece (Elt Ideal) S2x128x128 .f32))
  (rd : ℕ → List (View.Piece (Elt Ideal) S2x128x128 .f32) → Vec Ideal S1x128x128 .f32)

/-- The two states left at the end. -/
theorem read_LS (v : View sig' κ sp S2x128x128 .f32) (f : v.ty.Contents (Elt Ideal)) (s : ℕ) (hs : s % 2 = 0) (a : Fin 2) (e l : Fin 128) :
    v.read (Elt Ideal) (v.writes (Elt Ideal) f (LS rd nx L0 (s + 2))) (ix3 a e l)
      = nx (s + a.val) (rd (s + a.val) (LS rd nx L0 (s + a.val))) (ix3 0 e l) := by
  show v.read (Elt Ideal) (v.writes (Elt Ideal) f (⟨stR (s + 1), nx (s + 1) (rd (s + 1) (LS rd nx L0 (s + 1)))⟩
    :: ⟨stR s, nx s (rd s (LS rd nx L0 s))⟩ :: LS rd nx L0 s)) (ix3 a e l) = _
  have h1 := stR_not_mem s e l
  have h2 := stR_emb s e l
  have h3 := stR_emb (s + 1) e l
  match a with
  | 0 =>
    rw [show (ix3 (0 : Fin 2) e l : S2x128x128.Idx) = ix3 (⟨s % 2, by omega⟩ : Fin 2) e l from by simp only [hs]; rfl]
    change _ = nx (s + 0) (rd (s + 0) (LS rd nx L0 (s + 0))) (ix3 0 e l)
    rw [Nat.add_zero]
    generalize rd (s + 1) (LS rd nx L0 (s + 1)) = y1
    generalize rd s (LS rd nx L0 s) = y0
    generalize LS rd nx L0 s = L
    exact (View.read_writes_cons_miss v f (⟨stR (s + 1), nx (s + 1) y1⟩ : View.Piece (Elt Ideal) S2x128x128 .f32) (⟨stR s, nx s y0⟩ :: L) _ h1).trans (View.read_writes_cons_hit v f (stR s) (nx s y0) L (ix3 0 e l) _ h2)
  | 1 =>
    rw [show (ix3 (1 : Fin 2) e l : S2x128x128.Idx) = ix3 (⟨(s + 1) % 2, by omega⟩ : Fin 2) e l from by simp only [show (s + 1) % 2 = 1 by omega]; rfl]
    change _ = nx (s + 1) (rd (s + 1) (LS rd nx L0 (s + 1))) (ix3 0 e l)
    generalize rd (s + 1) (LS rd nx L0 (s + 1)) = y1
    exact View.read_writes_cons_hit v f (stR (s + 1)) _ _ (ix3 0 e l) _ h3

end

/-- The rows left by the first `s` steps. -/
theorem read_LO (v : View sig' κ sp S2x2048x128 .f32) (f : v.ty.Contents (Elt Ideal)) (p : ℕ → Vec Ideal S1x128x128 .f32) (a : Fin 2) (n : Fin 16) (r e : Fin 128)
    (s : ℕ) (hs : s ≤ 32) (h : 2 * n.val + a.val < s) :
    v.read (Elt Ideal) (v.writes (Elt Ideal) f (LO p s)) (ix3 a (⟨128 * n.val + r.val, by omega⟩ : Fin 2048) e) = p (2 * n.val + a.val) (ix3 0 r e) := by
  induction s with
  | zero => omega
  | succ s ih =>
    by_cases hq : 2 * n.val + a.val = s
    · subst hq
      refine View.read_writes_cons_hit v f (rowR (2 * n.val + a.val)) _ _ (ix3 0 r e) _ (Rect.emb_eq_of_coords _ _ _ fun b => ?_)
      have h1 : (2 * n.val + a.val) % 2 = a.val := by omega
      have h2 : (2 * n.val + a.val) / 2 % 16 = n.val := by omega
      fin_cases b <;> simp [ix3, h1, h2]
    · refine Eq.trans ?_ (ih (by omega) (by omega))
      by_cases hm : s % 2 = a.val
      · exact View.read_writes_cons_miss_of_axis v f _ _ _ (1 : Fin 3) (128 * (s / 2 % 16)) 128 rfl rfl rfl (by
          show 128 * n.val + r.val < 128 * (s / 2 % 16) ∨ 128 * (s / 2 % 16) + 128 ≤ 128 * n.val + r.val
          omega)
      · exact View.read_writes_cons_miss_of_axis v f _ _ _ (0 : Fin 3) (s % 2) 1 rfl rfl rfl (by
          show a.val < s % 2 ∨ s % 2 + 1 ≤ a.val
          omega)

/-- The states saved by the first `s` steps. -/
theorem read_LR (v : View sig' κ sp S2x16x128x128 .f32) (f : v.ty.Contents (Elt Ideal)) (p : ℕ → Vec Ideal S1x1x128x128 .f32) (a : Fin 2) (n : Fin 16) (r e : Fin 128)
    (s : ℕ) (hs : s ≤ 32) (h : 2 * n.val + a.val < s) :
    v.read (Elt Ideal) (v.writes (Elt Ideal) f (LR p s)) (ix4 a n r e) = p (2 * n.val + a.val) (ix4 0 0 r e) := by
  induction s with
  | zero => omega
  | succ s ih =>
    by_cases hq : 2 * n.val + a.val = s
    · subst hq
      refine View.read_writes_cons_hit v f (savR (2 * n.val + a.val)) _ _ (ix4 0 0 r e) _ (Rect.emb_eq_of_coords _ _ _ fun b => ?_)
      have h1 : (2 * n.val + a.val) % 2 = a.val := by omega
      have h2 : (2 * n.val + a.val) / 2 % 16 = n.val := by omega
      fin_cases b <;> simp [ix4, h1, h2]
    · refine Eq.trans ?_ (ih (by omega) (by omega))
      by_cases hm : s % 2 = a.val
      · exact View.read_writes_cons_miss_of_axis v f _ _ _ (1 : Fin 4) (s / 2 % 16) 1 rfl rfl rfl (by
          show n.val < s / 2 % 16 ∨ s / 2 % 16 + 1 ≤ n.val
          omega)
      · exact View.read_writes_cons_miss_of_axis v f _ _ _ (0 : Fin 4) (s % 2) 1 rfl rfl rfl (by
          show a.val < s % 2 ∨ s % 2 + 1 ≤ a.val
          omega)

/-- The first states of a block that starts from zero. -/
theorem rdA_zero (b : Memref sig .tc .vmem S2x128x128 .f32) (nx : ℕ → Vec Ideal S1x128x128 .f32 → Vec Ideal S1x128x128 .f32) (s : ℕ) (hs : s < 2) (e l : Fin 128) :
    rdA b s (LS (rdA b) nx [⟨zeroR, zerok (F := Ideal)⟩] s) (ix3 0 e l) = (0 : EReal) := by
  have hz (a : Fin 2) : View.canon (Val := Elt Ideal) [(⟨zeroR, zerok (F := Ideal)⟩ : View.Piece (Elt Ideal) S2x128x128 .f32)] (ix3 a e l) = (0 : EReal) := by
    have h := View.canon_cons_emb (Val := Elt Ideal) (e := .f32) zeroR (zerok (F := Ideal)) [] (ix3 a e l)
    rw [show zeroR.emb (ix3 a e l : S2x128x128.Idx) = ix3 a e l from Rect.emb_eq_of_coords _ _ _ fun x => by fin_cases x <;> simp [ix3, zeroR]] at h
    refine h.trans ?_
    unfold zerok
    pointwise
  unfold rdA
  rw [View.readCov_eq_canon']
  obtain rfl | rfl : s = 0 ∨ s = 1 := by omega
  · exact (congrArg _ (stR_emb 0 e l)).trans (hz 0)
  · refine (congrArg _ (stR_emb 1 e l)).trans ((View.canon_cons_of_not_mem _ _ ?_).trans (hz 1))
    exact Rect.not_mem_set_of_axis _ _ 0 0 1 rfl rfl rfl (by right; show 0 + 1 ≤ 1; omega)

/-- A later state is what the same head's step before left. -/
theorem rdA_next (b : Memref sig .tc .vmem S2x128x128 .f32) (nx : ℕ → Vec Ideal S1x128x128 .f32 → Vec Ideal S1x128x128 .f32) (L0) (s : ℕ) :
    rdA b (s + 2) (LS (rdA b) nx L0 (s + 2)) = nx s (rdA b s (LS (rdA b) nx L0 s)) := rd_skip b.view s _ _ _
theorem rdB_next (b : Memref sig .tc .vmem S2x128x128 .f32) (hb : b.IsWhole) (xs : Vec Ideal S2x128x128 .f32) (nx : ℕ → Vec Ideal S1x128x128 .f32 → Vec Ideal S1x128x128 .f32) (L0) (s : ℕ) :
    rdB b hb xs (s + 2) (LS (rdB b hb xs) nx L0 (s + 2)) = nx s (rdB b hb xs s (LS (rdB b hb xs) nx L0 s)) := rd_skip b.view s _ _ _
theorem rdB_zero (b : Memref sig .tc .vmem S2x128x128 .f32) (hb : b.IsWhole) (xs : Vec Ideal S2x128x128 .f32) (L) (s : ℕ) (hs : s < 2) (e l : Fin 128) :
    rdB b hb xs s L (ix3 0 e l) = xs (ix3 (⟨s, hs⟩ : Fin 2) e l) := by
  obtain rfl | rfl : s = 0 ∨ s = 1 := by omega
  · exact ld_st hb xs 0 e l
  · exact ld_st hb xs 1 e l

end Cert.HgIdeal.Value
-- ==== Proof.HgTab.lean ====
module

public import proofs.«01_k».proof.Proof.HgLists
public import Idealize.ShloMosaic.Lib.StableHlo.RunRead
public import Idealize.ShloMosaic.Lib.StableHlo.ReadAt
public import Idealize.ShloMosaic.Lib.Tactic.CleanTypes

@[expose] public section

set_option maxRecDepth 16384
noncomputable section

/-! The tables and slabs the host prepares for the kernel. -/

namespace Cert.HgIdeal.Value

open Cert.HgIdeal Cert.HgIdeal.Gen Idealize.ShloMosaic Idealize.ShloMosaic.TcCoe Idealize.SL.Sem Idealize.ShloMosaic.StableHlo
open Cert.Hand Cert.Hand.Hg

variable (W : Valuation τ sig (Elt Ideal))

/-- The buffers after all of the host's operations. -/
abbrev hostW : Valuation τ sig (Elt Ideal) :=
  after hostOps0_8 (after hostOps0_7 (after hostOps0_6 (after hostOps0_5 (after hostOps0_4 (after hostOps0_3 (after hostOps0_2 (after hostOps0_1 (after hostOps0 W))))))))

/-- The projection's columns in slabs of 128. -/
theorem v2_at (s : Fin 72) (r : Fin 4096) (l : Fin 128) :
    hostW W (Proc.devRef .tc main_v2) (ix3 s r l) = W (Proc.devRef .tc main_arg0) (ix3 0 r (⟨s.val * 128 + l.val, by omega⟩ : Fin 9216)) := by
  after_reads_at

theorem v3_at (k : Fin 1024) :
    hostW W (Proc.devRef .tc main_v3) (ix2 0 k) = W (Proc.devRef .tc main_arg1) (ix1 k) := by
  after_reads_at

/-! The tables' words. -/

theorem shr_eq : ∀ (i : Fin 128) (w : Fin 8), IntOp.shrui ArithUnit.host (BitVec.ofNat 32 i.val) (BitVec.ofNat 32 w.val) = BitVec.ofNat 32 (i.val / 2 ^ w.val) := by
  decide +kernel

theorem mid_eq : ∀ (i : Fin 128) (w : Fin 8),
    IntOp.subi (IntOp.addi (IntOp.shli ArithUnit.host (IntOp.shrui ArithUnit.host (BitVec.ofNat 32 i.val) (BitVec.ofNat 32 w.val)) (BitVec.ofNat 32 w.val))
      (IntOp.maxsi (IntOp.shrui ArithUnit.host (IntOp.shli ArithUnit.host (1#32) (BitVec.ofNat 32 w.val)) 1#32) 1#32)) 1#32 = BitVec.ofNat 32 (mid w.val i.val) := by
  decide +kernel

theorem mid_lt : ∀ (i : Fin 128) (w : Fin 8), mid w.val i.val < 128 := by
  decide +kernel

theorem sel_eq (p : Bool) (a b : EReal) : Scalar.select (BitVec.ofBool p) a b = if p then a else b := by
  cases p <;> rfl

theorem neg_one_eq : Ideal.ofBits FTy.f32 3212836864#32 = ((-1 : ℝ) : EReal) := by
  simp [Ideal.ofBits, Ideal.ieee, -EReal.coe_mul, -EReal.coe_neg]; norm_num

/-- The triangle of ones. -/
theorem v43_at (i j : Fin 128) :
    hostW W (Proc.devRef .tc main_v43) (ix2 i j) = (((if j.val ≤ i.val then 1 else 0 : ℝ)) : EReal) := by
  after_reads_at
  rw [WordCmp.cmpi_sle_ofNat (by omega) (by omega), sel_eq]
  by_cases h : j.val ≤ i.val <;> simp [h]

theorem and_bool (p q : Bool) : IntOp.andi (BitVec.ofBool p) (BitVec.ofBool q) = BitVec.ofBool (p && q) := by
  cases p <;> cases q <;> rfl

/-- Where a level counts. -/
theorem v44_at (w : Fin 8) (i j : Fin 128) :
    hostW W (Proc.devRef .tc main_v44) (ix3 w i j) = (((if cov w.val i.val j.val then 1 else 0 : ℝ)) : EReal) := by
  have hd (x : Fin 128) : x.val / 2 ^ w.val < 2 ^ 32 := lt_of_le_of_lt (Nat.div_le_self _ _) (by omega)
  have hm := mid_lt i w
  after_reads_at
  rw [mid_eq, shr_eq, shr_eq, WordCmp.cmpi_sle_ofNat (by omega) (by omega), WordCmp.cmpi_sgt_ofNat (by omega) (by omega), WordCmp.cmpi_eq_ofNat (hd i) (hd j),
    WordCmp.cmpi_eq_ofNat (a := i.val) (b := j.val) (by omega) (by omega), WordCmp.cmpi_eq_ofNat (a := w.val) (b := 0) (by omega) (by omega)]
  unfold cov
  by_cases hw : w.val = 0
  · simp only [hw, decide_true, if_true]
    rw [show ∀ a b : BitVec 1, Scalar.select (BitVec.ofBool true) a b = a from fun _ _ => rfl, sel_eq]
    by_cases h : i.val = j.val <;> simp [h]
  · simp only [hw, decide_false, if_false, and_bool]
    rw [show ∀ a b : BitVec 1, Scalar.select (BitVec.ofBool false) a b = b from fun _ _ => rfl, sel_eq]
    by_cases h : i.val / 2 ^ w.val = j.val / 2 ^ w.val <;> by_cases h1 : mid w.val i.val < i.val <;> by_cases h2 : j.val ≤ mid w.val i.val <;> simp [h, h1, h2]

/-- On which side of its block's middle row a row lies. -/
theorem v48_at (w : Fin 5) (i j : Fin 128) :
    hostW W (Proc.devRef .tc main_v48) (ix3 w i j) = (((if mid (w.val + 3) i.val < i.val then 1 else -1 : ℝ)) : EReal) := by
  have hm := mid_lt i (⟨3 + w.val, by omega⟩ : Fin 8)
  have he := mid_eq i (⟨3 + w.val, by omega⟩ : Fin 8)
  dsimp only at hm he
  after_reads_at
  rw [he, WordCmp.cmpi_sgt_ofNat (by omega) (by omega), sel_eq, neg_one_eq, add_comm w.val 3]
  by_cases h : mid (3 + w.val) i.val < i.val <;> simp [h]

end Cert.HgIdeal.Value
end
-- ==== Proof.HgLoad.lean ====
module

public import proofs.«01_k».proof.Proof.HgTab
public import Idealize.ShloMosaic.Lib.StableHlo.RunLoop

@[expose] public section

set_option maxRecDepth 16384
noncomputable section

/-! What a grid point's blocks hold: point `t` works on head pair `t / 2` and half `t % 2` of the sequence. -/

namespace Cert.HgIdeal.Value

open Cert.HgIdeal Cert.HgIdeal.Gen Idealize.ShloMosaic Idealize.ShloMosaic.TcCoe Idealize.SL.Sem Idealize.ShloMosaic.StableHlo
open Idealize.ShloMosaic.Pipeline (Dat)
open Cert.Hand Cert.Hand.Hg

variable (m : (ℓ : Loc nD τ sig) → Buf (Elt Ideal) ℓ) (c : Dev nD)

abbrev ax : FVec Ideal S1x4096x9216 .f32 := m ((c : Thread nD τ).loc main_arg0)
abbrev ab : FVec Ideal S1024 .f32 := m ((c : Thread nD τ).loc main_arg1)

theorem N0 : cfg0.N = 8 := by decide +kernel

theorem t_lt (t : Fin cfg0.N) : t.val < 8 := lt_of_lt_of_eq t.isLt N0

/-- Where the windows' blocks lie. -/
theorem idx : ∀ t : Fin cfg0.N,
    win0_0.index t = ![t.val / 2, t.val % 2, 0] ∧ win0_1.index t = ![4 + t.val / 2, t.val % 2, 0] ∧ win0_2.index t = ![8 + t.val / 2, t.val % 2, 0]
    ∧ win0_3.index t = ![0, t.val / 2] ∧ win0_4.index t = ![0, 0] ∧ win0_5.index t = ![0, 0, 0] ∧ win0_6.index t = ![0, 0, 0] :=
  (by decide +kernel : ∀ t : Fin grid0.N, _)

/-- The region is entered after the lists of host operations. -/
theorem V_eq (b : Ref sig .tc) : V m c b = hostW (fun b => m (c, b)) (Proc.devRef .tc b) :=
  congrFun (afterL_eq_after_flatten [hostOps0, hostOps0_1, hostOps0_2, hostOps0_3, hostOps0_4, hostOps0_5, hostOps0_6, hostOps0_7, hostOps0_8] _).symm _

variable (H : Fin' (ax m c) (ab m c)) (t : Fin cfg0.N) (a : Fin 2) (r : Fin 2048) (l i j : Fin 128)

include H

theorem slab_at (s : Fin 72) (r : Fin 4096) (l : Fin 128) :
    V m c main_v2 (ix3 s r l) = ((pr (ax m c) r.val (128 * s.val + l.val) : ℝ) : EReal) := by
  rw [V_eq, v2_at]
  refine (pr_eq (ax m c) (ab m c) H r (⟨s.val * 128 + l.val, by omega⟩ : Fin 9216)).trans ?_
  dsimp only
  rw [mul_comm]

theorem q_blk : (show FVec Ideal S2x2048x128 .f32 from iblk m c 0 t) (ix3 a r l) = ((pr (ax m c) (2048 * (t.val % 2) + r.val) (128 * (2 * (t.val / 2) + a.val) + l.val) : ℝ) : EReal) := by
  have ht := t_lt t
  obtain ⟨h, -⟩ := idx t
  have e : ((cfg0.win 0).blk t).view.emb (ix3 a r l) = ix3 (⟨2 * (t.val / 2) + a.val, by omega⟩ : Fin 72) (⟨2048 * (t.val % 2) + r.val, by omega⟩ : Fin 4096) l := by blk_ext [h]
  exact (congrArg (V m c main_v2) e).trans (slab_at m c H _ _ _)

theorem f_blk : (show FVec Ideal S2x2048x128 .f32 from iblk m c 1 t) (ix3 a r l) = ((pr (ax m c) (2048 * (t.val % 2) + r.val) (1024 + 128 * (2 * (t.val / 2) + a.val) + l.val) : ℝ) : EReal) := by
  have ht := t_lt t
  obtain ⟨-, h, -⟩ := idx t
  have e : ((cfg0.win 1).blk t).view.emb (ix3 a r l) = ix3 (⟨2 * (4 + t.val / 2) + a.val, by omega⟩ : Fin 72) (⟨2048 * (t.val % 2) + r.val, by omega⟩ : Fin 4096) l := by blk_ext [h]
  refine (congrArg (V m c main_v2) e).trans ((slab_at m c H _ _ _).trans ?_)
  rw [show 128 * (2 * (4 + t.val / 2) + a.val) + l.val = 1024 + 128 * (2 * (t.val / 2) + a.val) + l.val by omega]

theorem v_blk : (show FVec Ideal S2x2048x128 .f32 from iblk m c 2 t) (ix3 a r l) = ((pr (ax m c) (2048 * (t.val % 2) + r.val) (2048 + 128 * (2 * (t.val / 2) + a.val) + l.val) : ℝ) : EReal) := by
  have ht := t_lt t
  obtain ⟨-, -, h, -⟩ := idx t
  have e : ((cfg0.win 2).blk t).view.emb (ix3 a r l) = ix3 (⟨2 * (8 + t.val / 2) + a.val, by omega⟩ : Fin 72) (⟨2048 * (t.val % 2) + r.val, by omega⟩ : Fin 4096) l := by blk_ext [h]
  refine (congrArg (V m c main_v2) e).trans ((slab_at m c H _ _ _).trans ?_)
  rw [show 128 * (2 * (8 + t.val / 2) + a.val) + l.val = 2048 + 128 * (2 * (t.val / 2) + a.val) + l.val by omega]

theorem b_blk (k : Fin 256) : (show FVec Ideal S1x256 .f32 from iblk m c 3 t) (ix2 0 k) = ((br (ab m c) (256 * (t.val / 2) + k.val) : ℝ) : EReal) := by
  have ht := t_lt t
  obtain ⟨-, -, -, h, -⟩ := idx t
  have e : ((cfg0.win 3).blk t).view.emb (ix2 (0 : Fin 1) k) = ix2 (0 : Fin 1) (⟨256 * (t.val / 2) + k.val, by omega⟩ : Fin 1024) := by blk_ext [h]
  refine (congrArg (V m c main_v3) e).trans ?_
  rw [V_eq, v3_at]
  exact br_eq (ax m c) (ab m c) H _

omit H

theorem tri_blk : (show FVec Ideal S128x128 .bf16 from iblk m c 4 t) (ix2 i j) = (((if j.val ≤ i.val then 1 else 0 : ℝ)) : EReal) := by
  obtain ⟨-, -, -, -, h, -⟩ := idx t
  have e : ((cfg0.win 4).blk t).view.emb (ix2 i j) = ix2 i j := by blk_ext [h]
  exact (congrArg (V m c main_v43) e).trans ((congrFun (V_eq m c main_v43) _).trans (v43_at _ i j))

theorem lvl_blk (w : Fin 8) : (show FVec Ideal S8x128x128 .f32 from iblk m c 5 t) (ix3 w i j) = (((if cov w.val i.val j.val then 1 else 0 : ℝ)) : EReal) := by
  obtain ⟨-, -, -, -, -, h, -⟩ := idx t
  have e : ((cfg0.win 5).blk t).view.emb (ix3 w i j) = ix3 w i j := by blk_ext [h]
  exact (congrArg (V m c main_v44) e).trans ((congrFun (V_eq m c main_v44) _).trans (v44_at _ w i j))

theorem sgn_blk (w : Fin 5) : (show FVec Ideal S5x128x128 .f32 from iblk m c 6 t) (ix3 w i j) = (((if mid (w.val + 3) i.val < i.val then 1 else -1 : ℝ)) : EReal) := by
  obtain ⟨-, -, -, -, -, -, h⟩ := idx t
  have e : ((cfg0.win 6).blk t).view.emb (ix3 w i j) = ix3 w i j := by blk_ext [h]
  exact (congrArg (V m c main_v48) e).trans ((congrFun (V_eq m c main_v48) _).trans (v48_at _ w i j))

end Cert.HgIdeal.Value
end
-- ==== Proof.HgPoint.lean ====
module

public import proofs.«01_k».proof.Proof.HgLoad

@[expose] public section

set_option maxRecDepth 16384
noncomputable section

/-! What a grid point leaves: the chunks' states and outputs of its two heads. -/

namespace Cert.HgIdeal.Value

open Cert.HgIdeal Cert.HgIdeal.Gen Idealize.ShloMosaic Idealize.ShloMosaic.TcCoe Idealize.SL.Sem
open Idealize.ShloMosaic.Pipeline (Dat)
open Cert.Hand Cert.Hand.Hg

variable (m : (ℓ : Loc nD τ sig) → Buf (Elt Ideal) ℓ) (c : Dev nD) (t : Fin cfg0.N)

/-- Head `a` of the point's pair. -/
abbrev hN (t a : ℕ) : ℕ := 2 * (t / 2) + a

/-- A state word holds head `a`'s state before chunk `N`. -/
def Holds (a N : ℕ) (st : Vec Ideal S1x128x128 .f32) : Prop :=
  ∀ e l : Fin 128, st (ix3 0 e l) = ((steR (ax m c) (ab m c) (hN t.val a) (128 * N) l.val e.val : ℝ) : EReal)

abbrev qsT := qs (F := Ideal) (ms0_0 t) (hs0_0 t) (iblk m c 0 t)
abbrev fsT := fs (F := Ideal) (ms0_1 t) (hs0_1 t) (ms0_3 t) (hs0_3 t) (iblk m c 1 t) (iblk m c 3 t)
abbrev vsT := vs (F := Ideal) (ms0_2 t) (hs0_2 t) (iblk m c 2 t)
abbrev bsT := bs (F := Ideal) (ms0_1 t) (hs0_1 t) (ms0_3 t) (hs0_3 t) (ms0_4 t) (hs0_4 t) (iblk m c 1 t) (iblk m c 3 t) (iblk m c 4 t)
abbrev rsT := rs (F := Ideal) (ms0_1 t) (hs0_1 t) (ms0_3 t) (hs0_3 t) (ms0_4 t) (hs0_4 t) scM0_1 (iblk m c 1 t) (iblk m c 3 t) (iblk m c 4 t)
abbrev nxT := nxs (F := Ideal) (ms0_1 t) (hs0_1 t) (ms0_2 t) (hs0_2 t) (ms0_3 t) (hs0_3 t) (ms0_4 t) (hs0_4 t) (iblk m c 1 t) (iblk m c 2 t) (iblk m c 3 t) (iblk m c 4 t)
abbrev outT := outs (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_1
  (iblk m c 0 t) (iblk m c 1 t) (iblk m c 2 t) (iblk m c 3 t) (iblk m c 4 t) (iblk m c 5 t) (iblk m c 6 t)

variable (n : Fin 16) (a : Fin 2)

/-- The step of head `a` in chunk `n`, and the chunk's number in the sequence. -/
abbrev stp : ℕ := 2 * n.val + a.val
abbrev chN : ℕ := 16 * (t.val % 2) + n.val

theorem stp_div : stp n a / 2 % 16 = n.val := by unfold stp; omega
theorem stp_mod : stp n a % 2 = a.val := by unfold stp; omega

theorem pos_eq (i : ℕ) : 2048 * (t.val % 2) + (128 * n.val + i) = 128 * chN t n + i := by unfold chN; omega

/-- The tables. -/
theorem tabsT : Tabs (View.readAt (Elt Ideal) (ms0_4 t).view triR.toLoadRect ((hs0_4 t).unread (iblk m c 4 t)))
    (lvls (F := Ideal) (ms0_5 t) (hs0_5 t) (iblk m c 5 t)) (sgns (F := Ideal) (ms0_6 t) (hs0_6 t) (iblk m c 6 t)) where
  ht i j := (ld_tri (hs0_4 t) _ i j).trans (tri_blk m c t i j)
  hv w hw i j := (ld_lvl (hs0_5 t) _ (⟨w, hw⟩ : Fin 8) i j).trans (lvl_blk m c t i j _)
  hs w hw i j := (ld_sgn (hs0_6 t) _ (⟨w, hw⟩ : Fin 5) i j).trans (sgn_blk m c t i j _)

variable (H : Fin' (ax m c) (ab m c))
include H

theorem qsT_at (i l : Fin 128) : qsT m c t (stp n a) (ix2 i l) = ((qR (ax m c) (hN t.val a.val) (128 * chN t n + i.val) l.val : ℝ) : EReal) := by
  refine qk_at _ _ i l ((ld_row (hs0_0 t) _ _ i l).trans ((q_blk m c H t _ _ l).trans ?_))
  simp only [stp_div, stp_mod, pos_eq]

theorem fsT_at (i l : Fin 128) : fsT m c t (stp n a) (ix2 i l) = ((fR (ax m c) (ab m c) (hN t.val a.val) (128 * chN t n + i.val) l.val : ℝ) : EReal) := by
  refine fk_at _ _ _ _ i l ((ld_lb (hs0_3 t) _ _ l).trans ((b_blk m c H t _).trans ?_)) ((ld_row (hs0_1 t) _ _ i l).trans ((f_blk m c H t _ _ l).trans ?_))
  · simp only [stp_mod]
    rw [show 256 * (t.val / 2) + (128 * a.val + l.val) = 128 * hN t.val a.val + l.val by unfold hN; omega]
  · simp only [stp_div, stp_mod, pos_eq]

theorem vsT_at (i e : Fin 128) : vsT m c t (stp n a) (ix3 0 i e) = ((vR (ax m c) (hN t.val a.val) (128 * chN t n + i.val) e.val : ℝ) : EReal) := by
  refine (ld_row (hs0_2 t) _ _ i e).trans ((v_blk m c H t _ _ e).trans ?_)
  simp only [stp_div, stp_mod, pos_eq]
  rfl

theorem lgT_at (i l : Fin 128) : lgk (fsT m c t (stp n a)) (ix2 i l) = ((L2 * lR (ax m c) (ab m c) (hN t.val a.val) (128 * chN t n + i.val) l.val : ℝ) : EReal) :=
  lgk_at _ _ (fR_pos (ax m c) (ab m c) H _ _ _) i l (fsT_at m c t n a H i l)

theorem kkT_at (i l : Fin 128) : kk (fsT m c t (stp n a)) (ix2 i l) = ((kR (ax m c) (ab m c) (hN t.val a.val) (128 * chN t n + i.val) l.val : ℝ) : EReal) :=
  kk_at _ _ i l (fsT_at m c t n a H i l)

theorem bsT_at (i l : Fin 128) : bsT m c t (stp n a) (ix2 i l) = ((L2 * bR (lR (ax m c) (ab m c) (hN t.val a.val)) (128 * chN t n) i.val l.val : ℝ) : EReal) :=
  bk_at _ _ _ _ (lgT_at m c t n a H) (tabsT m c t).ht i l

theorem rsT_at (i l : Fin 128) : rsT m c t (stp n a) i.val (ix2 0 l) = ((L2 * bR (lR (ax m c) (ab m c) (hN t.val a.val)) (128 * chN t n) i.val l.val : ℝ) : EReal) :=
  (rs_at _ _ _ _ _ _ _ _ _ _ _ i l).trans (bsT_at m c t n a H i l)

/-- A step takes the state to the next chunk's. -/
theorem nxT_holds (st : Vec Ideal S1x128x128 .f32) (h : Holds m c t a.val (chN t n) st) :
    Holds m c t a.val (chN t n + 1) (nxT m c t (stp n a) st) := fun e l =>
  nxtk_at _ _ (lR (ax m c) (ab m c) (hN t.val a.val)) (128 * chN t n) _ _ _ _ (bsT_at m c t n a H) (kkT_at m c t n a H) (vsT_at m c t n a H) h _
    (bck_at _ _ _ (lgT_at m c t n a H)) e l

/-- A step's rows are the output of its chunk. -/
theorem outT_at (st : Vec Ideal S1x128x128 .f32) (h : Holds m c t a.val (chN t n) st) (i e : Fin 128) :
    outT m c t (stp n a) st (ix3 0 i e) = ((outR (ax m c) (ab m c) (hN t.val a.val) (128 * chN t n + i.val) e.val : ℝ) : EReal) :=
  outk_at _ _ _ (lR (ax m c) (ab m c) (hN t.val a.val)) (128 * chN t n) _ _ _ _ (bsT_at m c t n a H) (qsT_at m c t n a H) (vsT_at m c t n a H) h _
    (scorek_at _ _ _ _ _ _ _ _ _ _ _ _ (bsT_at m c t n a H) (rsT_at m c t n a H) ⟨qsT_at m c t n a H, kkT_at m c t n a H, lgT_at m c t n a H⟩ (tabsT m c t)) i e

end Cert.HgIdeal.Value
end
-- ==== Proof.HgArray.lean ====
module

public import proofs.«01_k».proof.Proof.HgPoint

@[expose] public section

set_option maxRecDepth 16384
noncomputable section

/-! The two arrays the kernel leaves. -/

namespace Cert.HgIdeal.Value

open Cert.HgIdeal Cert.HgIdeal.Gen Idealize.ShloMosaic Idealize.ShloMosaic.TcCoe Idealize.SL.Sem
open Idealize.ShloMosaic.Pipeline (Dat)
open Cert.Hand Cert.Hand.Hg

variable (m : (ℓ : Loc nD τ sig) → Buf (Elt Ideal) ℓ) (c : Dev nD) (t : Fin cfg0.N)

/-- A head's state before a chunk, as an array's entry. -/
abbrev stE (h N e l : ℕ) : EReal := ((steR (ax m c) (ab m c) h (128 * N) l e : ℝ) : EReal)

theorem steR_zero (X : FVec Ideal S1x4096x9216 .f32) (B : FVec Ideal S1024 .f32) (h d e : ℕ) : ((steR X B h (128 * 0) d e : ℝ) : EReal) = 0 := by
  unfold steR state
  simp

/-- The states stored at a point that starts from zero, and at one that goes on from `xs`. -/
abbrev lsA := LSA (F := Ideal) (ms0_1 t) (hs0_1 t) (ms0_2 t) (hs0_2 t) (ms0_3 t) (hs0_3 t) (ms0_4 t) (hs0_4 t) scM0_0 (iblk m c 1 t) (iblk m c 2 t) (iblk m c 3 t) (iblk m c 4 t)
abbrev lsB (xs : Vec Ideal S2x128x128 .f32) := LSB (F := Ideal) (ms0_1 t) (hs0_1 t) (ms0_2 t) (hs0_2 t) (ms0_3 t) (hs0_3 t) (ms0_4 t) (hs0_4 t) scM0_0 (Memref.isWhole_whole _) (iblk m c 1 t) (iblk m c 2 t) (iblk m c 3 t) (iblk m c 4 t) xs

variable (H : Fin' (ax m c) (ab m c))

include H in
theorem holdsA (h0 : t.val % 2 = 0) (a : Fin 2) : ∀ (n : ℕ) (hn : n < 16),
    Holds m c t a.val (chN t ⟨n, hn⟩) (rdA scM0_0 (stp ⟨n, hn⟩ a) (lsA m c t (stp ⟨n, hn⟩ a)))
  | 0, hn => fun e l => by
    refine (rdA_zero scM0_0 (nxT m c t) _ (show stp ⟨0, hn⟩ a < 2 by show 2 * 0 + a.val < 2; omega) e l).trans ?_
    rw [show chN t ⟨0, hn⟩ = 0 by show 16 * (t.val % 2) + 0 = 0; omega]
    exact (steR_zero _ _ _ _ _).symm
  | n + 1, hn => by
    have ih := nxT_holds m c t ⟨n, by omega⟩ a H _ (holdsA h0 a n (by omega))
    rw [show stp ⟨n + 1, hn⟩ a = stp (⟨n, by omega⟩ : Fin 16) a + 2 by show 2 * (n + 1) + a.val = 2 * n + a.val + 2; omega]
    exact (congrArg (Holds m c t a.val (chN t ⟨n + 1, hn⟩)) (rdA_next scM0_0 (nxT m c t) _ _)).mpr ih

include H in
theorem holdsB (xs : Vec Ideal S2x128x128 .f32) (h0 : ¬t.val % 2 = 0) (a : Fin 2)
    (hx : ∀ e l : Fin 128, xs (ix3 a e l) = stE m c (hN t.val a.val) 16 e.val l.val) :
    ∀ (n : ℕ) (hn : n < 16), Holds m c t a.val (chN t ⟨n, hn⟩) (rdB scM0_0 (Memref.isWhole_whole _) xs (stp ⟨n, hn⟩ a) (lsB m c t xs (stp ⟨n, hn⟩ a)))
  | 0, hn => fun e l => by
    have hs : stp ⟨0, hn⟩ a < 2 := by show 2 * 0 + a.val < 2; omega
    refine (rdB_zero scM0_0 (Memref.isWhole_whole _) xs _ _ hs e l).trans ?_
    rw [show chN t ⟨0, hn⟩ = 16 by show 16 * (t.val % 2) + 0 = 16; omega]
    rw [show (⟨stp ⟨0, hn⟩ a, hs⟩ : Fin 2) = a from Fin.ext (show 2 * 0 + a.val = a.val by omega)]
    exact hx e l
  | n + 1, hn => by
    have ih := nxT_holds m c t ⟨n, by omega⟩ a H _ (holdsB xs h0 a hx n (by omega))
    rw [show stp ⟨n + 1, hn⟩ a = stp (⟨n, by omega⟩ : Fin 16) a + 2 by show 2 * (n + 1) + a.val = 2 * n + a.val + 2; omega]
    exact (congrArg (Holds m c t a.val (chN t ⟨n + 1, hn⟩)) (rdB_next scM0_0 (Memref.isWhole_whole _) xs (nxT m c t) _ _)).mpr ih

include H in
/-- The first half of the sequence leaves the states before chunk 16. -/
theorem scratch_at (h0 : t.val % 2 = 0) (a : Fin 2) (e l : Fin 128) :
    (outsAt0 m c t.val t.isLt).2.2.2 (ix3 a e l)
      = stE m c (hN t.val a.val) 16 e.val l.val := by
  rw [outsAt0_A m c t h0]
  dsimp only
  unfold sout0_A_0
  rw [statesA]
  refine (read_LS (nxT m c t) _ (rdA scM0_0) VS0_0 _ 30 rfl a e l).trans ?_
  have h := nxT_holds m c t 15 a H _ (holdsA m c t H h0 a 15 (by omega)) e l
  rw [show chN t 15 + 1 = 16 by show 16 * (t.val % 2) + 15 + 1 = 16; omega] at h
  exact h

include H in
/-- What a point writes: the rows of its chunks' outputs … -/
theorem rows_at (a : Fin 2) (n : Fin 16) (r e : Fin 128) :
    (outsAt0 m c t.val t.isLt).1 (ix3 a (⟨128 * n.val + r.val, by omega⟩ : Fin 2048) e)
      = ((outR (ax m c) (ab m c) (hN t.val a.val) (128 * chN t n + r.val) e.val : ℝ) : EReal) := by
  by_cases h0 : t.val % 2 = 0
  · rw [outsAt0_A m c t h0]
    dsimp only
    unfold out0_A_7
    rw [rowsA]
    exact (read_LO VO0_7 _ _ a n r e 32 le_rfl (by omega)).trans (outT_at m c t n a H _ (holdsA m c t H h0 a n.val n.isLt) r e)
  · have ht := t_lt t
    have hx := scratch_at m c (H := H) ⟨t.val - 1, Nat.lt_of_le_of_lt (Nat.sub_le _ _) t.isLt⟩ (show (t.val - 1) % 2 = 0 by omega) a
    simp only [hN, show (t.val - 1) / 2 = t.val / 2 by omega] at hx
    rw [outsAt0_B m c t h0]
    dsimp only
    unfold out0_B_7
    rw [rowsB]
    exact (read_LO VO0_7 _ _ a n r e 32 le_rfl (by omega)).trans (outT_at m c t n a H _ (holdsB m c t H _ h0 a hx n.val n.isLt) r e)

include H in
/-- … and the states before them. -/
theorem saved_at (a : Fin 2) (n : Fin 16) (e l : Fin 128) :
    (outsAt0 m c t.val t.isLt).2.1 (ix4 a n e l)
      = stE m c (hN t.val a.val) (chN t n) e.val l.val := by
  by_cases h0 : t.val % 2 = 0
  · rw [outsAt0_A m c t h0]
    dsimp only
    unfold out0_A_8
    rw [savedA]
    exact (read_LR VO0_8 _ _ a n e l 32 le_rfl (by omega)).trans ((savk_at _ e l).trans (holdsA m c t H h0 a n.val n.isLt e l))
  · have ht := t_lt t
    have hx := scratch_at m c (H := H) ⟨t.val - 1, Nat.lt_of_le_of_lt (Nat.sub_le _ _) t.isLt⟩ (show (t.val - 1) % 2 = 0 by omega) a
    simp only [hN, show (t.val - 1) / 2 = t.val / 2 by omega] at hx
    rw [outsAt0_B m c t h0]
    dsimp only
    unfold out0_B_8
    rw [savedB]
    exact (read_LR VO0_8 _ _ a n e l 32 le_rfl (by omega)).trans ((savk_at _ e l).trans (holdsB m c t H _ h0 a hx n.val n.isLt e l))

include H in
/-- The output array. -/
theorem G7_at (h : Fin 8) (s : Fin 4096) (e : Fin 128) :
    G7 m c (ix3 h s e) = ((outR (ax m c) (ab m c) h.val s.val e.val : ℝ) : EReal) := by
  have hp : pt7Of (ix3 h s e : S8x4096x128.Idx) = 2 * (h.val / 2) + s.val / 2048 := by
    show 2 * (h.val / 2 - 0) + 1 * (s.val / 2048 - 0) + 1 * (e.val / 128 - 0) = _
    omega
  have hb : 2 * (h.val / 2) + s.val / 2048 < cfg0.N := by rw [N0]; omega
  unfold G7
  rw [dif_pos (by rw [hp]; exact hb), fold0_congr m c _ _ _ (by omega) hp, ← outsAt0_sweep m c _ hb]
  rw [show loc7Of (ix3 h s e : S8x4096x128.Idx) = (ix3 (⟨h.val % 2, by omega⟩ : Fin 2) (⟨128 * (s.val % 2048 / 128) + s.val % 128, by omega⟩ : Fin 2048) e : S2x2048x128.Idx) from
    funext fun x => Fin.ext (by
      match x with
      | ⟨0, _⟩ => rfl
      | ⟨1, _⟩ => show s.val % 2048 = 128 * (s.val % 2048 / 128) + s.val % 128; omega
      | ⟨2, _⟩ => exact Nat.mod_eq_of_lt e.isLt)]
  have h' := rows_at m c (H := H) ⟨_, hb⟩ (⟨h.val % 2, by omega⟩ : Fin 2) (⟨s.val % 2048 / 128, by omega⟩ : Fin 16) (⟨s.val % 128, by omega⟩ : Fin 128) e
  simp only [hN, chN, show 2 * ((2 * (h.val / 2) + s.val / 2048) / 2) + h.val % 2 = h.val by omega,
    show 128 * (16 * ((2 * (h.val / 2) + s.val / 2048) % 2) + s.val % 2048 / 128) + s.val % 128 = s.val by omega] at h'
  exact h'

include H in
/-- The array of states: value by row, key by lane. -/
theorem G8_at (h : Fin 8) (n : Fin 32) (e l : Fin 128) :
    G8 m c (ix4 h n e l) = stE m c h.val n.val e.val l.val := by
  have hp : pt8Of (ix4 h n e l : S8x32x128x128.Idx) = 2 * (h.val / 2) + n.val / 16 := by
    show 2 * (h.val / 2 - 0) + 1 * (n.val / 16 - 0) + 1 * (e.val / 128 - 0) + 1 * (l.val / 128 - 0) = _
    omega
  have hb : 2 * (h.val / 2) + n.val / 16 < cfg0.N := by rw [N0]; omega
  unfold G8
  rw [dif_pos (by rw [hp]; exact hb), fold0_congr m c _ _ _ (by omega) hp, ← outsAt0_sweep m c _ hb]
  rw [show loc8Of (ix4 h n e l : S8x32x128x128.Idx) = (ix4 (⟨h.val % 2, by omega⟩ : Fin 2) (⟨n.val % 16, by omega⟩ : Fin 16) e l : S2x16x128x128.Idx) from
    funext fun x => Fin.ext (by
      match x with
      | ⟨0, _⟩ => rfl
      | ⟨1, _⟩ => rfl
      | ⟨2, _⟩ => exact Nat.mod_eq_of_lt e.isLt
      | ⟨3, _⟩ => exact Nat.mod_eq_of_lt l.isLt)]
  have h' := saved_at m c (H := H) ⟨_, hb⟩ (⟨h.val % 2, by omega⟩ : Fin 2) (⟨n.val % 16, by omega⟩ : Fin 16) e l
  simp only [hN, chN, show 2 * ((2 * (h.val / 2) + n.val / 16) / 2) + h.val % 2 = h.val by omega,
    show 16 * ((2 * (h.val / 2) + n.val / 16) % 2) + n.val % 16 = n.val by omega] at h'
  exact h'

end Cert.HgIdeal.Value
end
-- ==== Proof.HgRefTab.lean ====
module

public import proofs.«01_k».proof.Proof.HgReal
public import proofs.«01_k».proof.Proof.Gen.HgRefIdeal.Run
public import Idealize.ShloMosaic.Lib.StableHlo.RunRead
public import Idealize.ShloMosaic.Lib.StableHlo.ReadAt
public import Idealize.ShloMosaic.Lib.Tactic.CleanTypes

@[expose] public section

set_option maxRecDepth 16384
noncomputable section

/-! What the reference computes before its loop, and its running sums. -/

namespace Cert.HgRefIdeal.Value

open Cert.HgRefIdeal Cert.HgRefIdeal.Gen Idealize.ShloMosaic Idealize.ShloMosaic.TcCoe Idealize.SL.Sem Idealize.ShloMosaic.StableHlo
open Cert.Hand Cert.Hand.Hg

variable (W : Valuation τ sig (Elt Ideal)) (X : S1x4096x9216.Idx → EReal) (B : S1024.Idx → EReal) (H : Fin' X B)

section Pre

theorem neg_sgm (x : ℝ) : Ideal.div 1 (1 + Ideal.exp (-(x : EReal))) = ((sgm x : ℝ) : EReal) := by
  rw [← coe_sgm, zero_sub]

theorem tri_word : ∀ i j : Fin 64, Scalar.select (IntOp.cmpi .sge (IntOp.addi (BitVec.ofNat 32 i.val) 0#32) (BitVec.ofNat 32 j.val)) 1#1 0#1 = if j.val ≤ i.val then 1#1 else 0#1 := by
  decide +kernel

theorem v1_at (hX : ∀ t k, W (Proc.devRef .tc main_arg0) (ix3 0 t k) = X (ix3 0 t k)) (H : Fin' X B) (t : Fin 4096) (h : Fin 8) (d : Fin 128) :
    after hostOps0 W (Proc.devRef .tc main_v1) (ix4 0 t h d) = ((pr X t.val (128 * h.val + d.val) : ℝ) : EReal) := by
  after_reads_at
  exact (hX _ _).trans ((pr_eq X B H _ _).trans (by simp only [mul_comm 128 h.val]))

theorem v3_at (hX : ∀ t k, W (Proc.devRef .tc main_arg0) (ix3 0 t k) = X (ix3 0 t k)) (H : Fin' X B) (t : Fin 4096) (h : Fin 8) (d : Fin 128) :
    after hostOps0 W (Proc.devRef .tc main_v3) (ix4 0 t h d) = ((pr X t.val (1024 + 128 * h.val + d.val) : ℝ) : EReal) := by
  after_reads_at
  exact (hX _ _).trans ((pr_eq X B H _ _).trans (by simp only [mul_comm 128 h.val]; congr 2; omega))

theorem v5_at (hX : ∀ t k, W (Proc.devRef .tc main_arg0) (ix3 0 t k) = X (ix3 0 t k)) (H : Fin' X B) (t : Fin 4096) (h : Fin 8) (d : Fin 128) :
    after hostOps0 W (Proc.devRef .tc main_v5) (ix4 0 t h d) = ((vR X h.val t.val d.val : ℝ) : EReal) := by
  unfold vR
  after_reads_at
  exact (hX _ _).trans ((pr_eq X B H _ _).trans (by simp only [mul_comm 128 h.val]; congr 2; omega))

/-- The queries, through their gate. -/
theorem v6_at (h1 : ∀ (t : Fin 4096) (h : Fin 8) (d : Fin 128), W (Proc.devRef .tc main_v1) (ix4 0 t h d) = ((pr X t.val (128 * h.val + d.val) : ℝ) : EReal))
    (t : Fin 4096) (h : Fin 8) (d : Fin 128) :
    after hostOps0_1 W (Proc.devRef .tc main_v6) (ix4 0 t h d) = ((qR X h.val t.val d.val : ℝ) : EReal) := by
  after_reads_at
  rw [h1, neg_sgm, ← EReal.coe_mul]
  rfl

theorem v21_at (hB : ∀ k, W (Proc.devRef .tc main_arg1) (ix1 k) = B (ix1 k)) (H : Fin' X B)
    (h3 : ∀ (t : Fin 4096) (h : Fin 8) (d : Fin 128), W (Proc.devRef .tc main_v3) (ix4 0 t h d) = ((pr X t.val (1024 + 128 * h.val + d.val) : ℝ) : EReal))
    (t : Fin 4096) (h : Fin 8) (d : Fin 128) :
    after hostOps0_2 W (Proc.devRef .tc main_v21) (ix4 0 t h d) = ((fR X B h.val t.val d.val : ℝ) : EReal) := by
  unfold fR
  rw [show 128 * h.val + d.val = h.val * 128 + d.val by omega]
  after_reads_at
  rw [hB, br_eq X B H, h3, neg_sgm, ← EReal.coe_one, ← EReal.coe_sub, ← EReal.coe_mul, ← EReal.coe_add]

theorem v24_at (hB : ∀ k, W (Proc.devRef .tc main_arg1) (ix1 k) = B (ix1 k)) (H : Fin' X B)
    (h3 : ∀ (t : Fin 4096) (h : Fin 8) (d : Fin 128), W (Proc.devRef .tc main_v3) (ix4 0 t h d) = ((pr X t.val (1024 + 128 * h.val + d.val) : ℝ) : EReal))
    (t : Fin 4096) (h : Fin 8) (d : Fin 128) :
    after hostOps0_2 W (Proc.devRef .tc main_v24) (ix4 0 t h d) = ((lR X B h.val t.val d.val : ℝ) : EReal) := by
  have e : after hostOps0_2 W (Proc.devRef .tc main_v24) (ix4 0 t h d) = Ideal.log (after hostOps0_2 W (Proc.devRef .tc main_v21) (ix4 0 t h d)) := by
    after_reads_at
  rw [e, v21_at W X B hB H h3, coe_log _ (fR_pos X B H _ _ _)]
  rfl

theorem v23_at (hB : ∀ k, W (Proc.devRef .tc main_arg1) (ix1 k) = B (ix1 k)) (H : Fin' X B)
    (h3 : ∀ (t : Fin 4096) (h : Fin 8) (d : Fin 128), W (Proc.devRef .tc main_v3) (ix4 0 t h d) = ((pr X t.val (1024 + 128 * h.val + d.val) : ℝ) : EReal))
    (t : Fin 4096) (h : Fin 8) (d : Fin 128) :
    after hostOps0_2 W (Proc.devRef .tc main_v23) (ix4 0 t h d) = ((kR X B h.val t.val d.val : ℝ) : EReal) := by
  have e : after hostOps0_2 W (Proc.devRef .tc main_v23) (ix4 0 t h d) = (1 : EReal) - (show EReal from after hostOps0_2 W (Proc.devRef .tc main_v21) (ix4 0 t h d)) := by
    after_reads_at
  rw [e, v21_at W X B hB H h3, ← EReal.coe_one, ← EReal.coe_sub]
  rfl

/-- The lower triangle. -/
theorem v27_at (i j : Fin 64) :
    after hostOps0_4 (after hostOps0_3 (after hostOps0_2 W)) (Proc.devRef .tc main_v39_4) (ix3 i j 0) = if j.val ≤ i.val then 1#1 else 0#1 := by
  after_reads_at
  simp only [id]
  pointwise
  exact tri_word i j

theorem q_at (h6 : ∀ (t : Fin 4096) (h : Fin 8) (d : Fin 128), W (Proc.devRef .tc main_v6) (ix4 0 t h d) = ((qR X h.val t.val d.val : ℝ) : EReal))
    (n : Fin 64) (h : Fin 8) (i : Fin 64) (d : Fin 128) :
    after hostOps0_4 W (Proc.devRef .tc main_v39_0) (ix5 n 0 h i d) = ((qR X h.val (64 * n.val + i.val) d.val : ℝ) : EReal) := by
  rw [mul_comm 64 n.val]
  after_reads_at
  simp only [id]
  pointwise
  exact h6 _ _ _

theorem k_at (h23 : ∀ (t : Fin 4096) (h : Fin 8) (d : Fin 128), W (Proc.devRef .tc main_v23) (ix4 0 t h d) = ((kR X B h.val t.val d.val : ℝ) : EReal))
    (n : Fin 64) (h : Fin 8) (i : Fin 64) (d : Fin 128) :
    after hostOps0_4 W (Proc.devRef .tc main_v39_1) (ix5 n 0 h i d) = ((kR X B h.val (64 * n.val + i.val) d.val : ℝ) : EReal) := by
  rw [mul_comm 64 n.val]
  after_reads_at
  simp only [id]
  pointwise
  exact h23 _ _ _

theorem l_at (h24 : ∀ (t : Fin 4096) (h : Fin 8) (d : Fin 128), W (Proc.devRef .tc main_v24) (ix4 0 t h d) = ((lR X B h.val t.val d.val : ℝ) : EReal))
    (n : Fin 64) (h : Fin 8) (i : Fin 64) (d : Fin 128) :
    after hostOps0_4 W (Proc.devRef .tc main_v39_2) (ix5 n 0 h i d) = ((lR X B h.val (64 * n.val + i.val) d.val : ℝ) : EReal) := by
  rw [mul_comm 64 n.val]
  after_reads_at
  simp only [id]
  pointwise
  exact h24 _ _ _

theorem vv_at (h5 : ∀ (t : Fin 4096) (h : Fin 8) (d : Fin 128), W (Proc.devRef .tc main_v5) (ix4 0 t h d) = ((vR X h.val t.val d.val : ℝ) : EReal))
    (n : Fin 64) (h : Fin 8) (i : Fin 64) (d : Fin 128) :
    after hostOps0_4 W (Proc.devRef .tc main_v39_3) (ix5 n 0 h i d) = ((vR X h.val (64 * n.val + i.val) d.val : ℝ) : EReal) := by
  rw [mul_comm 64 n.val]
  after_reads_at
  simp only [id]
  pointwise
  exact h5 _ _ _

theorem start_at (j : S1x8x128x128.Idx) : after hostOps0_4 W (Proc.devRef .tc main_v39_6) j = (0 : EReal) := by
  after_reads_at
  simp only [id]
  pointwise

end Pre

/-! ## The running sums -/

theorem foldl_add {ι : Type} (g : ι → EReal) (l : List ι) (v : EReal) : l.foldl (fun r a => r + g a) v = v + (l.map g).sum := by
  induction l generalizing v with
  | nil => simp
  | cons a l ih => rw [List.foldl_cons, ih, List.map_cons, List.sum_cons, add_assoc]

theorem sum_win (f : ℕ → EReal) (i : Fin 64) : (∑ n : Fin 64, if 63 ≤ i.val + n.val then f (i.val + n.val - 63) else 0) = ∑ j ∈ Finset.range (i.val + 1), f j := by
  have hi := i.isLt
  rw [Fin.sum_univ_eq_sum_range (fun n => if 63 ≤ i.val + n then f (i.val + n - 63) else 0) 64,
    show Finset.range 64 = Finset.range ((63 - i.val) + (i.val + 1)) from congrArg _ (by omega), Finset.sum_range_add]
  rw [Finset.sum_eq_zero (fun n hn => if_neg (by rw [Finset.mem_range] at hn; omega)), zero_add]
  refine Finset.sum_congr rfl fun j _ => ?_
  rw [if_pos (by omega)]
  exact congrArg f (by omega)

theorem win_coord : ∀ n : Fin (⟨4, ![1, 1, 64, 1]⟩ : Shape).numel, ((⟨4, ![1, 1, 64, 1]⟩ : Shape).rowMajor.symm n 2).val = n.val := by
  decide +kernel

/-- The sum down a chunk. -/
theorem cumsum_at (x : FVec Ideal S1x8x64x128 .f32) (init : FVec Ideal S_ .f32) (hinit : ∀ j, init j = (0 : EReal))
    (hw : S1x8x64x128.ReduceWindows (![1, 1, 64, 1] : Fin 4 → ℕ) ![1, 1, 1, 1] ![0, 0, 63, 0] ![0, 0, 0, 0] S1x8x64x128) (hu : 0 < S_.numel)
    (h : Fin 8) (d : Fin 128) (f : ℕ → EReal) (hx : ∀ i : Fin 64, x (ix4 0 h i d) = f i.val) (i : Fin 64) :
    Host.reduceWindowAdd ![1, 1, 64, 1] ![1, 1, 1, 1] ![0, 0, 63, 0] ![0, 0, 0, 0] x init hw hu (ix4 0 h i d) = ∑ j ∈ Finset.range (i.val + 1), f j := by
  unfold Host.reduceWindowAdd
  rw [hinit, Ideal.hostReduceWindowAdd_def]
  unfold Ideal.hostReduceWindowAdd Host.reduceWindow
  refine (foldl_add _ _ _).trans ?_
  rw [zero_add, ← Fin.sum_univ_def, ← sum_win f i]
  refine Finset.sum_congr rfl fun n _ => ?_
  have w2 := win_coord n
  have w0 := ((⟨4, ![1, 1, 64, 1]⟩ : Shape).rowMajor.symm n 0).isLt
  have w1 := ((⟨4, ![1, 1, 64, 1]⟩ : Shape).rowMajor.symm n 1).isLt
  have w3 := ((⟨4, ![1, 1, 64, 1]⟩ : Shape).rowMajor.symm n 3).isLt
  have hn : n.val < 64 := n.isLt
  have hi := i.isLt
  by_cases hc : 63 ≤ i.val + n.val
  · rw [if_pos hc, dif_pos]
    · refine (congrArg x (funext fun a => Fin.ext ?_)).trans (hx ⟨i.val + n.val - 63, by omega⟩)
      fin_cases a
      · show 0 * 1 + ((⟨4, ![1, 1, 64, 1]⟩ : Shape).rowMajor.symm n 0).val - 0 = 0
        change ((⟨4, ![1, 1, 64, 1]⟩ : Shape).rowMajor.symm n 0).val < 1 at w0
        omega
      · show h.val * 1 + ((⟨4, ![1, 1, 64, 1]⟩ : Shape).rowMajor.symm n 1).val - 0 = h.val
        change ((⟨4, ![1, 1, 64, 1]⟩ : Shape).rowMajor.symm n 1).val < 1 at w1
        omega
      · show i.val * 1 + ((⟨4, ![1, 1, 64, 1]⟩ : Shape).rowMajor.symm n 2).val - 63 = i.val + n.val - 63
        rw [w2, mul_one]
      · show d.val * 1 + ((⟨4, ![1, 1, 64, 1]⟩ : Shape).rowMajor.symm n 3).val - 0 = d.val
        change ((⟨4, ![1, 1, 64, 1]⟩ : Shape).rowMajor.symm n 3).val < 1 at w3
        omega
    · intro a
      fin_cases a
      · show 0 ≤ 0 * 1 + ((⟨4, ![1, 1, 64, 1]⟩ : Shape).rowMajor.symm n 0).val ∧ 0 * 1 + ((⟨4, ![1, 1, 64, 1]⟩ : Shape).rowMajor.symm n 0).val - 0 < 1
        change ((⟨4, ![1, 1, 64, 1]⟩ : Shape).rowMajor.symm n 0).val < 1 at w0
        omega
      · show 0 ≤ h.val * 1 + ((⟨4, ![1, 1, 64, 1]⟩ : Shape).rowMajor.symm n 1).val ∧ h.val * 1 + ((⟨4, ![1, 1, 64, 1]⟩ : Shape).rowMajor.symm n 1).val - 0 < 8
        change ((⟨4, ![1, 1, 64, 1]⟩ : Shape).rowMajor.symm n 1).val < 1 at w1
        omega
      · show 63 ≤ i.val * 1 + ((⟨4, ![1, 1, 64, 1]⟩ : Shape).rowMajor.symm n 2).val ∧ i.val * 1 + ((⟨4, ![1, 1, 64, 1]⟩ : Shape).rowMajor.symm n 2).val - 63 < 64
        rw [w2]
        omega
      · show 0 ≤ d.val * 1 + ((⟨4, ![1, 1, 64, 1]⟩ : Shape).rowMajor.symm n 3).val ∧ d.val * 1 + ((⟨4, ![1, 1, 64, 1]⟩ : Shape).rowMajor.symm n 3).val - 0 < 128
        change ((⟨4, ![1, 1, 64, 1]⟩ : Shape).rowMajor.symm n 3).val < 1 at w3
        omega
  · rw [if_neg hc, dif_neg]
    intro hall
    have h2 : 63 ≤ i.val * 1 + ((⟨4, ![1, 1, 64, 1]⟩ : Shape).rowMajor.symm n 2).val ∧ _ := hall (2 : Fin 4)
    rw [w2] at h2
    omega

end Cert.HgRefIdeal.Value
end
-- ==== Proof.HgRefLoop.lean ====
module

public import proofs.«01_k».proof.Proof.HgRefTab
public import Idealize.ShloMosaic.Lib.StableHlo.RunLoop
public import Idealize.ShloMosaic.Lib.WordCmp

@[expose] public section

set_option maxRecDepth 16384
noncomputable section

/-! What the reference's buffers hold when its loop begins, before every trip, and when the program ends. -/

namespace Cert.HgRefIdeal.Value

open Cert.HgRefIdeal Cert.HgRefIdeal.Gen Idealize.ShloMosaic Idealize.ShloMosaic.TcCoe Idealize.SL.Sem Idealize.ShloMosaic.StableHlo
open Cert.Hand Cert.Hand.Hg

variable (m : (ℓ : Loc nD τ sig) → Buf (Elt Ideal) ℓ) (c : Dev nD)

/-- The arguments. -/
abbrev rX : S1x4096x9216.Idx → EReal := fun j => m ((c.tc : Thread nD τ).loc main_arg0) j
abbrev rB : S1024.Idx → EReal := fun j => m ((c.tc : Thread nD τ).loc main_arg1) j

/-- The buffers after each stretch before the loop. -/
abbrev w0 : Valuation τ sig (Elt Ideal) := fun b => m (c, b)
abbrev w1 := after hostOps0 (w0 m c)
abbrev w2 := after hostOps0_1 (w1 m c)
abbrev w3 := after hostOps0_2 (w2 m c)
abbrev w4 := after hostOps0_3 (w3 m c)
abbrev w5 := after hostOps0_4 (w4 m c)

theorem entry_eq : entryContents preI m c = w5 m c := rfl

variable (W : Valuation τ sig (Elt Ideal))

theorem keep0 (r : Ref sig .tc) (h : r ∉ hostOps0_W) : after hostOps0 W (Proc.devRef .tc r) = W (Proc.devRef .tc r) := after_of_writes_sub _ W hostOps0_writes h
theorem keep1 (r : Ref sig .tc) (h : r ∉ hostOps0_1_W) : after hostOps0_1 W (Proc.devRef .tc r) = W (Proc.devRef .tc r) := after_of_writes_sub _ W hostOps0_1_writes h
theorem keep2 (r : Ref sig .tc) (h : r ∉ hostOps0_2_W) : after hostOps0_2 W (Proc.devRef .tc r) = W (Proc.devRef .tc r) := after_of_writes_sub _ W hostOps0_2_writes h
theorem keep3 (r : Ref sig .tc) (h : r ∉ hostOps0_3_W) : after hostOps0_3 W (Proc.devRef .tc r) = W (Proc.devRef .tc r) := after_of_writes_sub _ W hostOps0_3_writes h
theorem keep4 (r : Ref sig .tc) (h : r ∉ hostOps0_4_W) : after hostOps0_4 W (Proc.devRef .tc r) = W (Proc.devRef .tc r) := after_of_writes_sub _ W hostOps0_4_writes h

section Finite

variable (H : Fin' (rX m c) (rB m c))
include H

theorem w4_v6 (t : Fin 4096) (h : Fin 8) (d : Fin 128) : w4 m c (Proc.devRef .tc main_v6) (ix4 0 t h d) = ((qR (rX m c) h.val t.val d.val : ℝ) : EReal) := by
  unfold w4 w3
  rw [keep3 _ main_v6 (by decide +kernel), keep2 _ main_v6 (by decide +kernel)]
  exact v6_at (w1 m c) (rX m c) (v1_at (w0 m c) (rX m c) (rB m c) (fun _ _ => rfl) H) t h d

theorem w4_v5 (t : Fin 4096) (h : Fin 8) (d : Fin 128) : w4 m c (Proc.devRef .tc main_v5) (ix4 0 t h d) = ((vR (rX m c) h.val t.val d.val : ℝ) : EReal) := by
  unfold w4 w3 w2
  rw [keep3 _ main_v5 (by decide +kernel), keep2 _ main_v5 (by decide +kernel), keep1 _ main_v5 (by decide +kernel)]
  exact v5_at (w0 m c) (rX m c) (rB m c) (fun _ _ => rfl) H t h d

theorem w2_v3 (t : Fin 4096) (h : Fin 8) (d : Fin 128) : w2 m c (Proc.devRef .tc main_v3) (ix4 0 t h d) = ((pr (rX m c) t.val (1024 + 128 * h.val + d.val) : ℝ) : EReal) := by
  unfold w2
  rw [keep1 _ main_v3 (by decide +kernel)]
  exact v3_at (w0 m c) (rX m c) (rB m c) (fun _ _ => rfl) H t h d

omit H in
theorem w2_arg1 (k : Fin 1024) : w2 m c (Proc.devRef .tc main_arg1) (ix1 k) = rB m c (ix1 k) := by
  unfold w2 w1
  rw [keep1 _ main_arg1 (by decide +kernel), keep0 _ main_arg1 (by decide +kernel)]

theorem w4_v23 (t : Fin 4096) (h : Fin 8) (d : Fin 128) : w4 m c (Proc.devRef .tc main_v23) (ix4 0 t h d) = ((kR (rX m c) (rB m c) h.val t.val d.val : ℝ) : EReal) := by
  unfold w4
  rw [keep3 _ main_v23 (by decide +kernel)]
  exact v23_at (w2 m c) (rX m c) (rB m c) (w2_arg1 m c) H (w2_v3 m c H) t h d

theorem w4_v24 (t : Fin 4096) (h : Fin 8) (d : Fin 128) : w4 m c (Proc.devRef .tc main_v24) (ix4 0 t h d) = ((lR (rX m c) (rB m c) h.val t.val d.val : ℝ) : EReal) := by
  unfold w4
  rw [keep3 _ main_v24 (by decide +kernel)]
  exact v24_at (w2 m c) (rX m c) (rB m c) (w2_arg1 m c) H (w2_v3 m c H) t h d

end Finite

/-! ## The loop -/

/-- Before trip `k`: the state before chunk `k`, and the outputs of the chunks gone by with the states before them. -/
structure At (k : ℕ) (V : Valuation τ sig (Elt Ideal)) : Prop where
  atq : ∀ (n : Fin 64) (h : Fin 8) (i : Fin 64) (d : Fin 128), V (Proc.devRef .tc main_v39_0) (ix5 n 0 h i d) = ((qR (rX m c) h.val (64 * n.val + i.val) d.val : ℝ) : EReal)
  atk : ∀ (n : Fin 64) (h : Fin 8) (i : Fin 64) (d : Fin 128), V (Proc.devRef .tc main_v39_1) (ix5 n 0 h i d) = ((kR (rX m c) (rB m c) h.val (64 * n.val + i.val) d.val : ℝ) : EReal)
  atl : ∀ (n : Fin 64) (h : Fin 8) (i : Fin 64) (d : Fin 128), V (Proc.devRef .tc main_v39_2) (ix5 n 0 h i d) = ((lR (rX m c) (rB m c) h.val (64 * n.val + i.val) d.val : ℝ) : EReal)
  atv : ∀ (n : Fin 64) (h : Fin 8) (i : Fin 64) (d : Fin 128), V (Proc.devRef .tc main_v39_3) (ix5 n 0 h i d) = ((vR (rX m c) h.val (64 * n.val + i.val) d.val : ℝ) : EReal)
  tri : ∀ i j : Fin 64, V (Proc.devRef .tc main_v39_4) (ix3 i j 0) = if j.val ≤ i.val then 1#1 else 0#1
  ctr : V (Proc.devRef .tc main_v39_5) = fun _ => BitVec.ofNat 32 k
  now : ∀ (h : Fin 8) (d e : Fin 128), V (Proc.devRef .tc main_v39_6) (ix4 0 h d e) = ((steR (rX m c) (rB m c) h.val (64 * k) d.val e.val : ℝ) : EReal)
  outs : ∀ (n : Fin 64) (h : Fin 8) (i : Fin 64) (e : Fin 128), n.val < k →
    V (Proc.devRef .tc main_v39_7) (ix5 n 0 h i e) = ((outR (rX m c) (rB m c) h.val (64 * n.val + i.val) e.val : ℝ) : EReal)
  past : ∀ (n : Fin 64) (h : Fin 8) (d e : Fin 128), n.val < k →
    V (Proc.devRef .tc main_v39_8) (ix5 n 0 h d e) = ((steR (rX m c) (rB m c) h.val (64 * n.val) d.val e.val : ℝ) : EReal)

theorem at_zero (H : Fin' (rX m c) (rB m c)) : At m c 0 (w5 m c) where
  atq n h i d := q_at (w4 m c) (rX m c) (w4_v6 m c H) n h i d
  atk n h i d := k_at (w4 m c) (rX m c) (rB m c) (w4_v23 m c H) n h i d
  atl n h i d := l_at (w4 m c) (rX m c) (rB m c) (w4_v24 m c H) n h i d
  atv n h i d := vv_at (w4 m c) (rX m c) (w4_v5 m c H) n h i d
  tri i j := v27_at (w2 m c) i j
  ctr := ctr_entry m c
  now h d e := (start_at (w4 m c) _).trans (by unfold steR state; simp)
  outs n h i e hn := absurd hn (Nat.not_lt_zero _)
  past n h d e hn := absurd hn (Nat.not_lt_zero _)

theorem toInt_small (k : ℕ) (hk : k < 64) : (BitVec.ofNat 32 k).toInt = (k : Int) := by
  rw [BitVec.toInt_eq_toNat_of_lt (by rw [BitVec.toNat_ofNat]; omega), BitVec.toNat_ofNat]
  omega

/-- The starts of the loop's indexing at trip `k`. -/
theorem starts (k : ℕ) (hk : k < 64) (i : (⟨S_, .i32⟩ : BufTy).Contents (Elt Ideal)) (hi : i = fun _ => BitVec.ofNat 32 k) (a : Fin 5) :
    BitVec.toInt ((![i, constantI S_ 32 0#32, constantI S_ 32 0#32, constantI S_ 32 0#32, constantI S_ 32 0#32] : Fin 5 → (⟨S_, .i32⟩ : BufTy).Contents (Elt Ideal)) a (Shape.Idx.first h_S_))
      = ((![k, 0, 0, 0, 0] : Fin 5 → ℕ) a : Int) := by
  subst hi
  fin_cases a
  · exact toInt_small k hk
  · rfl
  · rfl
  · rfl
  · rfl

theorem slice_at (k : ℕ) (hk : k < 64) (x : S64x1x8x64x128.Idx → EReal) (st : Fin 5 → Int) (hs : ∀ a, st a = ((![k, 0, 0, 0, 0] : Fin 5 → ℕ) a : Int))
    (hf : S64x1x8x64x128.Slices (fun _ => 0) S1x1x8x64x128) (h : Fin 8) (d : Fin 64) (e : Fin 128) :
    Host.dynamicSlice S1x1x8x64x128 x st hf (ix5 0 0 h d e) = x (ix5 (⟨k, hk⟩ : Fin 64) 0 h d e) := by
  have ho : S64x1x8x64x128.Slices (![k, 0, 0, 0, 0] : Fin 5 → ℕ) S1x1x8x64x128 := ⟨rfl, fun a => by
    fin_cases a
    · show k + 1 ≤ 64
      omega
    all_goals exact le_of_eq rfl⟩
  rw [WordCmp.dynamicSlice_eq_extract S1x1x8x64x128 x st hf _ ho hs]
  refine congrArg x (funext fun a => Fin.ext ?_)
  fin_cases a
  · exact Nat.add_zero k
  · rfl
  · exact Nat.zero_add _
  · exact Nat.zero_add _
  · exact Nat.zero_add _

theorem update_at (k : ℕ) (hk : k < 64) (x : S64x1x8x64x128.Idx → EReal) (u : S1x1x8x64x128.Idx → EReal) (st : Fin 5 → Int) (hs : ∀ a, st a = ((![k, 0, 0, 0, 0] : Fin 5 → ℕ) a : Int))
    (hf : S64x1x8x64x128.Slices (fun _ => 0) S1x1x8x64x128) (n : Fin 64) (h : Fin 8) (d : Fin 64) (e : Fin 128) :
    Host.dynamicUpdateSlice x u st hf (ix5 n 0 h d e) = if n.val = k then u (ix5 0 0 h d e) else x (ix5 n 0 h d e) := by
  have ho : S64x1x8x64x128.Slices (![k, 0, 0, 0, 0] : Fin 5 → ℕ) S1x1x8x64x128 := ⟨rfl, fun a => by
    fin_cases a
    · show k + 1 ≤ 64
      omega
    all_goals exact le_of_eq rfl⟩
  rw [WordCmp.dynamicUpdateSlice_eq_update x u st hf _ ho hs]
  unfold updateSlice
  by_cases hn : n.val = k
  · rw [if_pos hn, dif_pos]
    · refine congrArg u (funext fun a => Fin.ext ?_)
      fin_cases a
      · show n.val - k = 0
        omega
      all_goals rfl
    · intro a
      fin_cases a
      · show k ≤ n.val ∧ n.val < k + 1
        omega
      · exact ⟨Nat.zero_le _, Nat.zero_lt_one⟩
      · exact ⟨Nat.zero_le _, by show h.val < 0 + 8; omega⟩
      · exact ⟨Nat.zero_le _, by show d.val < 0 + 64; omega⟩
      · exact ⟨Nat.zero_le _, by show e.val < 0 + 128; omega⟩
  · rw [if_neg hn, dif_neg]
    intro hall
    have h0 : k ≤ n.val ∧ n.val < k + 1 := hall (0 : Fin 5)
    omega

theorem update_state_at (k : ℕ) (hk : k < 64) (x : S64x1x8x128x128.Idx → EReal) (u : S1x1x8x128x128.Idx → EReal) (st : Fin 5 → Int) (hs : ∀ a, st a = ((![k, 0, 0, 0, 0] : Fin 5 → ℕ) a : Int))
    (hf : S64x1x8x128x128.Slices (fun _ => 0) S1x1x8x128x128) (n : Fin 64) (h : Fin 8) (d : Fin 128) (e : Fin 128) :
    Host.dynamicUpdateSlice x u st hf (ix5 n 0 h d e) = if n.val = k then u (ix5 0 0 h d e) else x (ix5 n 0 h d e) := by
  have ho : S64x1x8x128x128.Slices (![k, 0, 0, 0, 0] : Fin 5 → ℕ) S1x1x8x128x128 := ⟨rfl, fun a => by
    fin_cases a
    · show k + 1 ≤ 64
      omega
    all_goals exact le_of_eq rfl⟩
  rw [WordCmp.dynamicUpdateSlice_eq_update x u st hf _ ho hs]
  unfold updateSlice
  by_cases hn : n.val = k
  · rw [if_pos hn, dif_pos]
    · refine congrArg u (funext fun a => Fin.ext ?_)
      fin_cases a
      · show n.val - k = 0
        omega
      all_goals rfl
    · intro a
      fin_cases a
      · show k ≤ n.val ∧ n.val < k + 1
        omega
      · exact ⟨Nat.zero_le _, Nat.zero_lt_one⟩
      · exact ⟨Nat.zero_le _, by show h.val < 0 + 8; omega⟩
      · exact ⟨Nat.zero_le _, by show d.val < 0 + 128; omega⟩
      · exact ⟨Nat.zero_le _, by show e.val < 0 + 128; omega⟩
  · rw [if_neg hn, dif_neg]
    intro hall
    have h0 : k ≤ n.val ∧ n.val < k + 1 := hall (0 : Fin 5)
    omega

/-! ### One trip -/

/-- What a trip writes to the outputs, of its chunk and the state before it. -/
def outTerm (Q K U L : FVec Ideal S1x8x64x128 .f32) (S : FVec Ideal S1x8x128x128 .f32) (M : IVec S64x64x1 1) : FVec Ideal S1x8x64x128 .f32 :=
  addf (Host.dotGeneral dot_S1x8x64x128_S1x8x128x128_S1x8x64x128_3_2_2_3_01_01 none (mulf Q (Host.exp L)) S) (Host.dotGeneral dot_S1x8x64x64_S1x8x64x128_S1x8x64x128_3_2_2_3_01_01 none (transpose S1x8x64x64 [0, 1, 3, 2] (Host.dotGeneral dot_S1x8x64x128_S1x8x64x64x128_S1x8x64x64_3_4_n_2_012_013 none K (mulf (broadcastInDim S1x8x64x64x128 ![0, 1, 2, 3, 4] bcast_S1x8x64x1x128_S1x8x64x64x128_0_1_2_3_4 (broadcastInDim S1x8x64x1x128 ![0, 1, 2, 4] bcast_S1x8x64x128_S1x8x64x1x128_0_1_2_4 Q)) (Host.exp (select (broadcastInDim S1x8x64x64x128 ![2, 3, 4] bcast_S64x64x1_S1x8x64x64x128_2_3_4 M) (subf (broadcastInDim S1x8x64x64x128 ![0, 1, 2, 3, 4] bcast_S1x8x64x1x128_S1x8x64x64x128_0_1_2_3_4 (broadcastInDim S1x8x64x1x128 ![0, 1, 2, 4] bcast_S1x8x64x128_S1x8x64x1x128_0_1_2_4 L)) (broadcastInDim S1x8x64x64x128 ![0, 1, 2, 3, 4] bcast_S1x8x1x64x128_S1x8x64x64x128_0_1_2_3_4 (broadcastInDim S1x8x1x64x128 ![0, 1, 3, 4] bcast_S1x8x64x128_S1x8x1x64x128_0_1_3_4 L))) (broadcastInDim S1x8x64x64x128 ![] bcast_S_S1x8x64x64x128 (id (constant S_ .f32 0xFF800000#32))))))) transposes_S1x8x64x64_S1x8x64x64_0_1_3_2) U)

/-- A masked exponential. -/
theorem exp_mask (i j : ℕ) (y : ℝ) :
    Ideal.exp (Scalar.select (if j ≤ i then 1#1 else 0#1) (y : EReal) ((id (constant S_ .f32 4286578688#32) : FVec Ideal S_ .f32) ix0)) = (((if j ≤ i then Real.exp y else 0) : ℝ) : EReal) := by
  have hb : (id (constant S_ .f32 4286578688#32) : FVec Ideal S_ .f32) ix0 = (⊥ : EReal) := by
    show Ideal.ofBits .f32 4286578688#32 = ⊥
    simp [Ideal.ofBits, Ideal.ieee]
  rw [hb]
  by_cases h : j ≤ i
  · rw [if_pos h, if_pos h]; exact Ideal.exp_coe y
  · rw [if_neg h, if_neg h]; exact Ideal.exp_bot

section Trip

variable (k : ℕ) (hk : k < 64) (V : Valuation τ sig (Elt Ideal)) (a : At m c k V)

include hk a

theorem cq (h : Fin 8) (i : Fin 64) (d : Fin 128) : res_main_while0b_v48 V (ix4 0 h i d) = ((qR (rX m c) h.val (64 * k + i.val) d.val : ℝ) : EReal) := by
  unfold res_main_while0b_v48
  have hD := slice_at k hk (V (Proc.devRef .tc main_v39_0)) _ (starts k hk _ a.ctr) sliceFits_S64x1x8x64x128_S1x1x8x64x128 h i d
  generalize Host.dynamicSlice S1x1x8x64x128 (V (Proc.devRef .tc main_v39_0)) _ _ = D at hD ⊢
  pointwise
  rw [hD, a.atq]

theorem ck (h : Fin 8) (i : Fin 64) (d : Fin 128) : res_main_while0b_v49 V (ix4 0 h i d) = ((kR (rX m c) (rB m c) h.val (64 * k + i.val) d.val : ℝ) : EReal) := by
  unfold res_main_while0b_v49
  have hD := slice_at k hk (V (Proc.devRef .tc main_v39_1)) _ (starts k hk _ a.ctr) sliceFits_S64x1x8x64x128_S1x1x8x64x128 h i d
  generalize Host.dynamicSlice S1x1x8x64x128 (V (Proc.devRef .tc main_v39_1)) _ _ = D at hD ⊢
  pointwise
  rw [hD, a.atk]

theorem cv (h : Fin 8) (i : Fin 64) (d : Fin 128) : res_main_while0b_v51 V (ix4 0 h i d) = ((vR (rX m c) h.val (64 * k + i.val) d.val : ℝ) : EReal) := by
  unfold res_main_while0b_v51
  have hD := slice_at k hk (V (Proc.devRef .tc main_v39_3)) _ (starts k hk _ a.ctr) sliceFits_S64x1x8x64x128_S1x1x8x64x128 h i d
  generalize Host.dynamicSlice S1x1x8x64x128 (V (Proc.devRef .tc main_v39_3)) _ _ = D at hD ⊢
  pointwise
  rw [hD, a.atv]

/-- The logs of the gates from the chunk's start to position `i`, summed. -/
theorem cb (h : Fin 8) (i : Fin 64) (d : Fin 128) : res_main_while0b_v52 V (ix4 0 h i d)
    = ((cum (lR (rX m c) (rB m c) h.val) (64 * k + i.val + 1) d.val - cum (lR (rX m c) (rB m c) h.val) (64 * k) d.val : ℝ) : EReal) := by
  unfold res_main_while0b_v52
  have hD := fun i => slice_at k hk (V (Proc.devRef .tc main_v39_2)) _ (starts k hk _ a.ctr) sliceFits_S64x1x8x64x128_S1x1x8x64x128 h i d
  generalize Host.dynamicSlice S1x1x8x64x128 (V (Proc.devRef .tc main_v39_2)) _ _ = D at hD ⊢
  refine (cumsum_at _ _ (fun j => by pointwise) _ _ h d (fun j => ((lR (rX m c) (rB m c) h.val (64 * k + j) d.val : ℝ) : EReal)) (fun j => ?_) i).trans ?_
  · pointwise
    rw [hD, a.atl]
  · rw [coe_sum, add_assoc, cum_add]

theorem next_state (h : Fin 8) (d e : Fin 128) : step_main_v39_6 V (ix4 0 h d e) = ((steR (rX m c) (rB m c) h.val (64 * (k + 1)) d.val e.val : ℝ) : EReal) := by
  unfold step_main_v39_6 res_main_while0b_v69
  have hK := ck m c k hk V a
  have hV := cv m c k hk V a
  have hB := cb m c k hk V a
  have hS := a.now
  generalize res_main_while0b_v49 V = K at hK ⊢
  generalize res_main_while0b_v51 V = U at hV ⊢
  generalize res_main_while0b_v52 V = L at hB ⊢
  generalize V (Proc.devRef .tc main_v39_6) = S at hS ⊢
  simp only [id]
  pointwise
  simp only [hK, hV, hB, hS, Ideal.exp_coe, ← EReal.coe_sub, ← EReal.coe_mul, coe_sum, ← EReal.coe_add]
  refine congrArg _ ?_
  unfold steR
  rw [mul_add, mul_one, state_chunk, ← Fin.sum_univ_eq_sum_range (fun j => kR (rX m c) (rB m c) h.val (64 * k + j) d.val
    * Real.exp (cum (lR (rX m c) (rB m c) h.val) (64 * k + 64) d.val - cum (lR (rX m c) (rB m c) h.val) (64 * k + j + 1) d.val) * vR (rX m c) h.val (64 * k + j) e.val) 64]
  refine congrArg₂ (· + ·) rfl (Finset.sum_congr rfl fun j _ => ?_)
  rw [sub_sub_sub_cancel_right]
  rfl

theorem next_out (h : Fin 8) (i : Fin 64) (e : Fin 128) :
    outTerm (res_main_while0b_v48 V) (res_main_while0b_v49 V) (res_main_while0b_v51 V) (res_main_while0b_v52 V) (V (Proc.devRef .tc main_v39_6)) (V (Proc.devRef .tc main_v39_4)) (ix4 0 h i e)
      = ((outR (rX m c) (rB m c) h.val (64 * k + i.val) e.val : ℝ) : EReal) := by
  have hQ := cq m c k hk V a
  have hK := ck m c k hk V a
  have hV := cv m c k hk V a
  have hB := cb m c k hk V a
  have hS := a.now
  have hT := a.tri
  generalize res_main_while0b_v48 V = Q at hQ ⊢
  generalize res_main_while0b_v49 V = K at hK ⊢
  generalize res_main_while0b_v51 V = U at hV ⊢
  generalize res_main_while0b_v52 V = L at hB ⊢
  generalize V (Proc.devRef .tc main_v39_6) = S at hS ⊢
  generalize V (Proc.devRef .tc main_v39_4) = M at hT ⊢
  unfold outTerm
  pointwise
  simp only [hQ, hK, hV, hB, hS, hT, ← EReal.coe_sub, exp_mask, Ideal.exp_coe, ← EReal.coe_mul, coe_sum, ← EReal.coe_add]
  refine congrArg _ ?_
  unfold outR
  rw [outp_chunk _ _ _ _ (64 * k) 64 i.val e.val i.isLt, ← Fin.sum_univ_eq_sum_range (fun j => (if j ≤ i.val then score (qR (rX m c) h.val) (kR (rX m c) (rB m c) h.val) (lR (rX m c) (rB m c) h.val) (64 * k + i.val) (64 * k + j) else 0)
    * vR (rX m c) h.val (64 * k + j) e.val) 64]
  refine congrArg₂ (· + ·) rfl (Finset.sum_congr rfl fun j _ => congrArg (· * vR (rX m c) h.val (64 * k + j.val) e.val) ?_)
  by_cases hj : j.val ≤ i.val
  · rw [if_pos hj]
    unfold score
    refine Finset.sum_congr rfl fun d _ => ?_
    rw [if_pos hj, sub_sub_sub_cancel_right]
    ring
  · rw [if_neg hj]
    refine Finset.sum_eq_zero fun d _ => ?_
    rw [if_neg hj, mul_zero, mul_zero]

end Trip

theorem at_succ (k : ℕ) (hk : k < 64) (V : Valuation τ sig (Elt Ideal)) (a : At m c k V) : At m c (k + 1) (STEP V) where
  atq n h i d := by rw [STEP_main_v39_0]; exact a.atq n h i d
  atk n h i d := by rw [STEP_main_v39_1]; exact a.atk n h i d
  atl n h i d := by rw [STEP_main_v39_2]; exact a.atl n h i d
  atv n h i d := by rw [STEP_main_v39_3]; exact a.atv n h i d
  tri i j := by rw [STEP_main_v39_4]; exact a.tri i j
  ctr := by
    rw [STEP_main_v39_5]
    unfold step_main_v39_5
    rw [a.ctr]
    funext _
    show BitVec.ofNat 32 k + 1#32 = BitVec.ofNat 32 (k + 1)
    rw [BitVec.ofNat_add]
  now h d e := by
    rw [STEP_main_v39_6]
    exact next_state m c k hk V a h d e
  outs n h i e hn := by
    rw [STEP_main_v39_7]
    unfold step_main_v39_7
    refine (update_at k hk (V (Proc.devRef .tc main_v39_7)) _ _ (starts k hk _ a.ctr) updateFits_S64x1x8x64x128_S1x1x8x64x128 n h i e).trans ?_
    by_cases hnk : n.val = k
    · rw [if_pos hnk, hnk]
      have ho := next_out m c k hk V a h i e
      change broadcastInDim S1x1x8x64x128 ![1, 2, 3, 4] bcast_S1x8x64x128_S1x1x8x64x128_1_2_3_4
        (outTerm (res_main_while0b_v48 V) (res_main_while0b_v49 V) (res_main_while0b_v51 V) (res_main_while0b_v52 V) (V (Proc.devRef .tc main_v39_6)) (V (Proc.devRef .tc main_v39_4))) (ix5 0 0 h i e) = _
      generalize outTerm _ _ _ _ _ _ = O at ho ⊢
      pointwise
      exact ho
    · rw [if_neg hnk]
      exact a.outs n h i e (by omega)
  past n h d e hn := by
    rw [STEP_main_v39_8]
    unfold step_main_v39_8
    simp only [id]
    refine (update_state_at k hk (V (Proc.devRef .tc main_v39_8)) _ _ (starts k hk _ a.ctr) updateFits_S64x1x8x128x128_S1x1x8x128x128 n h d e).trans ?_
    by_cases hnk : n.val = k
    · rw [if_pos hnk, hnk]
      pointwise
      exact a.now h d e
    · rw [if_neg hnk]
      exact a.past n h d e (by omega)

theorem at_iter (H : Fin' (rX m c) (rB m c)) : ∀ k, k ≤ 64 → At m c k (STEP^[k] (w5 m c))
  | 0, _ => at_zero m c H
  | k + 1, hk => by
    rw [Function.iterate_succ_apply']
    exact at_succ m c k (by omega) _ (at_iter H k (by omega))

/-! ## The end -/

/-- The loop's buffers when it ends. -/
abbrev wL := after condOps (atK m 64 c)

theorem wL_carried (r : Ref sig .tc) (h : r ∈ carriedRefs) : wL m c (Proc.devRef .tc r) = (STEP^[64] (w5 m c)) (Proc.devRef .tc r) :=
  (cond_keeps _ r h).trans (atK_agree m c 64 r h)

theorem wL_outs (H : Fin' (rX m c) (rB m c)) (n : Fin 64) (h : Fin 8) (i : Fin 64) (e : Fin 128) : wL m c (Proc.devRef .tc main_v39_7) (ix5 n 0 h i e)
    = ((outR (rX m c) (rB m c) h.val (64 * n.val + i.val) e.val : ℝ) : EReal) := by
  rw [wL_carried m c main_v39_7 (by decide)]
  exact (at_iter m c H 64 le_rfl).outs n h i e n.isLt

theorem wL_states (H : Fin' (rX m c) (rB m c)) (n : Fin 64) (h : Fin 8) (d e : Fin 128) : wL m c (Proc.devRef .tc main_v39_8) (ix5 n 0 h d e)
    = ((steR (rX m c) (rB m c) h.val (64 * n.val) d.val e.val : ℝ) : EReal) := by
  rw [wL_carried m c main_v39_8 (by decide)]
  exact (at_iter m c H 64 le_rfl).past n h d e n.isLt

theorem v43_at (X : S1x4096x9216.Idx → EReal) (B : S1024.Idx → EReal)
    (hO : ∀ (n : Fin 64) (h : Fin 8) (i : Fin 64) (e : Fin 128), W (Proc.devRef .tc main_v39_7) (ix5 n 0 h i e) = ((outR X B h.val (64 * n.val + i.val) e.val : ℝ) : EReal))
    (h : Fin 8) (t : Fin 4096) (e : Fin 128) :
    after hostOps0_5 W (Proc.devRef .tc main_v43) (ix3 h t e) = ((outR X B h.val t.val e.val : ℝ) : EReal) := by
  after_reads_at
  rw [hO]
  simp only [Nat.div_add_mod]

theorem v47_at (X : S1x4096x9216.Idx → EReal) (B : S1024.Idx → EReal)
    (hS : ∀ (n : Fin 64) (h : Fin 8) (d e : Fin 128), W (Proc.devRef .tc main_v39_8) (ix5 n 0 h d e) = ((steR X B h.val (64 * n.val) d.val e.val : ℝ) : EReal))
    (h : Fin 8) (n : Fin 32) (e l : Fin 128) :
    after hostOps0_5 W (Proc.devRef .tc main_v47) (ix4 h n e l) = ((steR X B h.val (128 * n.val) l.val e.val : ℝ) : EReal) := by
  after_reads_at
  rw [hS]
  simp only [show 64 * (n.val * 2) = 128 * n.val by omega]

theorem out_at (H : Fin' (rX m c) (rB m c)) (h : Fin 8) (t : Fin 4096) (e : Fin 128) : finalContents condOps preI bodyI postI 64 m c (Proc.devRef .tc main_v43) (ix3 h t e)
    = ((outR (rX m c) (rB m c) h.val t.val e.val : ℝ) : EReal) :=
  v43_at (wL m c) (rX m c) (rB m c) (wL_outs m c H) h t e

theorem states_at (H : Fin' (rX m c) (rB m c)) (h : Fin 8) (n : Fin 32) (e l : Fin 128) : finalContents condOps preI bodyI postI 64 m c (Proc.devRef .tc main_v47) (ix4 h n e l)
    = ((steR (rX m c) (rB m c) h.val (128 * n.val) l.val e.val : ℝ) : EReal) :=
  v47_at (wL m c) (rX m c) (rB m c) (wL_states m c H) h n e l

end Cert.HgRefIdeal.Value
end
-- ==== Proof.HgPair.lean ====
module

public import proofs.«01_k».proof.Proof.HgArray
public import proofs.«01_k».proof.Proof.HgRefLoop
public import proofs.«01_k».proof.Defs

@[expose] public section

set_option maxRecDepth 16384
noncomputable section

/-! The gated recurrence's forward call against its reference. -/

namespace Cert.HgPair

open Idealize.ShloMosaic Idealize.SL.Sem Idealize.ShloMosaic.StableHlo
open Cert.Hand.Hg

/-- The precondition's side conditions. -/
theorem preFacts : Cert.Pre_bounded.Facts := by
  constructor <;> decide

attribute [local instance] preFacts

theorem real_of_lt (x : EReal) (h : Ideal.cmp .olt (max x (-x)) ⊤ = 1#1) : ∃ r : ℝ, x = (r : EReal) := by
  induction x with
  | coe a => exact ⟨a, rfl⟩
  | top => exfalso; revert h; simp [Ideal.cmp]
  | bot => exfalso; revert h; simp [Ideal.cmp]

theorem unit_of_cmp (x : EReal) (h : IntOp.andi (Ideal.cmp .oge x 0) (Ideal.cmp .ole x 1) = 1#1) : ∃ r : ℝ, x = (r : EReal) ∧ 0 ≤ r ∧ r ≤ 1 := by
  induction x with
  | coe a =>
    refine ⟨a, rfl, ?_, ?_⟩
    · by_contra hn
      revert h
      rw [show Ideal.cmp .oge (a : EReal) 0 = 0#1 by simp [Ideal.cmp, hn]]
      simp [IntOp.andi]
    · by_contra hn
      revert h
      rw [show Ideal.cmp .ole (a : EReal) 1 = 0#1 by
        have : ¬ ((a : EReal) ≤ 1) := fun h => hn (by exact_mod_cast h)
        simp [Ideal.cmp, this]]
      simp [IntOp.andi]
  | top =>
    exfalso
    revert h
    rw [show Ideal.cmp .ole (⊤ : EReal) 1 = 0#1 by
      have : ¬ ((⊤ : EReal) ≤ 1) := not_le.2 (EReal.coe_lt_top 1)
      simp only [Ideal.cmp, this, decide_false, BitVec.ofBool]
      rfl]
    simp [IntOp.andi]
  | bot => exfalso; revert h; simp [Ideal.cmp, IntOp.andi]

/-- Under the precondition the projection is real and the lower bounds lie between zero and one. -/
theorem finite (m : (ℓ : Loc Cert.HgIdeal.nD Cert.HgIdeal.τ Cert.HgIdeal.sig) → Buf (Elt Ideal) ℓ) (h : Cert.Pre_HgIdeal_bounded m) (c : Dev Cert.HgIdeal.nD) :
    Fin' (Cert.HgIdeal.Value.ax m c) (Cert.HgIdeal.Value.ab m c) := by
  obtain ⟨h0, h1⟩ := h c
  refine ⟨fun i => ?_, fun i => ?_⟩
  · have h2 : Ideal.cmp .olt (max (Cert.HgIdeal.Value.ax m c i) (-(Cert.HgIdeal.Value.ax m c i))) (Ideal.ofBits .f32 0x7F800000#32) = 1#1 := congrFun h0 i
    have h3 : Ideal.ofBits .f32 0x7F800000#32 = ⊤ := by simp [Ideal.ofBits, Ideal.ieee]
    rw [h3] at h2
    exact real_of_lt _ h2
  · have h2 : IntOp.andi (Ideal.cmp .oge (Cert.HgIdeal.Value.ab m c i) (Ideal.ofBits .f32 0x00000000#32)) (Ideal.cmp .ole (Cert.HgIdeal.Value.ab m c i) (Ideal.ofBits .f32 0x3F800000#32)) = 1#1 := congrFun h1 i
    have h3 : Ideal.ofBits .f32 0x00000000#32 = 0 := by simp [Ideal.ofBits, Ideal.ieee]
    have h4 : Ideal.ofBits .f32 0x3F800000#32 = 1 := by
      simp [Ideal.ofBits, Ideal.ieee]
      rw [← EReal.coe_mul]
      norm_num
    rw [h3, h4] at h2
    exact unit_of_cmp _ h2

/-- The reference's frame: no operation writes an argument, and the program declares no semaphore. -/
theorem frame_ref : Cert.quiescent_HgRefIdeal := by
  intro m ρ _
  exact (θ_run Cert.HgRefIdeal.defs _ _).mono
    (fun r h => ⟨fun c => (h c).2.2, sem_eq_zero_of_no_sems (by decide) r.2⟩) (Cert.HgRefIdeal.Value.run m ρ)

/-- The reference's results, on every device where the arguments are bounded. -/
theorem run_ref (m : (ℓ : Loc Cert.HgRefIdeal.nD Cert.HgRefIdeal.τ Cert.HgRefIdeal.sig) → Buf (Elt Ideal) ℓ) (g : Dev Cert.HgRefIdeal.nD → PrngReg)
    (H : ∀ c, Fin' (Cert.HgRefIdeal.Value.rX m c) (Cert.HgRefIdeal.Value.rB m c)) :
    θ_run (Cert.HgRefIdeal.defs (F := Ideal)) (onTc (τ := Cert.HgRefIdeal.τ) (Cert.HgRefIdeal.main (F := Ideal))) ⟨m, fun _ => 0, g⟩ (fun r => ∀ c : Dev Cert.HgRefIdeal.nD,
      (∀ (h : Fin 8) (t : Fin 4096) (e : Fin 128), r.2.mem ((c.tc : Thread Cert.HgRefIdeal.nD Cert.HgRefIdeal.τ).loc Cert.HgRefIdeal.main_v43) (ix3 h t e)
        = ((outR (Cert.HgRefIdeal.Value.rX m c) (Cert.HgRefIdeal.Value.rB m c) h.val t.val e.val : ℝ) : EReal))
      ∧ (∀ (h : Fin 8) (n : Fin 32) (e l : Fin 128), r.2.mem ((c.tc : Thread Cert.HgRefIdeal.nD Cert.HgRefIdeal.τ).loc Cert.HgRefIdeal.main_v47) (ix4 h n e l)
        = ((steR (Cert.HgRefIdeal.Value.rX m c) (Cert.HgRefIdeal.Value.rB m c) h.val (128 * n.val) l.val e.val : ℝ) : EReal))) :=
  (θ_run _ _ _).mono (fun r h c => ⟨fun a t e => (congrFun (h c Cert.HgRefIdeal.main_v43 rfl) _).trans (Cert.HgRefIdeal.Value.out_at m c (H c) a t e),
    fun a n e l => (congrFun (h c Cert.HgRefIdeal.main_v47 rfl) _).trans (Cert.HgRefIdeal.Value.states_at m c (H c) a n e l)⟩) (Cert.HgRefIdeal.Value.run_fold m g)

/-- The recurrence's output and the states its backward pass is given are the reference's. -/
theorem hgrn : Cert.algebraic_HgIdeal_HgRefIdeal_pre_bounded := by
  intro m g m' g' hpre hagree
  have H := finite m hpre
  have hX : ∀ c, Cert.HgRefIdeal.Value.rX m' c = Cert.HgIdeal.Value.ax m c := fun c => (hagree c).1
  have hB : ∀ c, Cert.HgRefIdeal.Value.rB m' c = Cert.HgIdeal.Value.ab m c := fun c => (hagree c).2
  refine ⟨fun c => Cert.HgIdeal.Value.G7 m c, fun c => Cert.HgIdeal.Value.G8 m c,
    (θ_run _ _ _).mono (fun r h c => ⟨(h c).1, (h c).2.1, (h c).2.2.2⟩) (Cert.HgIdeal.Value.run m g), ?_⟩
  refine (θ_run _ _ _).mono (fun r h c => ?_) (θ_run_and (run_ref m' g' fun c => by rw [hX, hB]; exact H c) (Cert.HgRefIdeal.Value.run m' g'))
  obtain ⟨h0, h1⟩ := h.1 c
  refine ⟨funext fun i => ?_, funext fun i => ?_, (h.2 c).2.2⟩
  · rw [eq_ix3 (show (⟨3, ![8, 4096, 128]⟩ : Shape).Idx from i)]
    refine (h0 _ _ _).trans ?_
    rw [hX c, hB c]
    exact (Cert.HgIdeal.Value.G7_at m c (H := H c) _ _ _).symm
  · rw [eq_ix4 (show (⟨4, ![8, 32, 128, 128]⟩ : Shape).Idx from i)]
    refine (h1 _ _ _ _).trans ?_
    rw [hX c, hB c]
    exact (Cert.HgIdeal.Value.G8_at m c (H := H c) _ _ _ _).symm

end Cert.HgPair
end
-- ==== Proof.AdaPair.lean ====
module

public import proofs.«01_k».proof.Proof.InpMath
public import proofs.«01_k».proof.Proof.Gen.AdaIdeal.Value
public import proofs.«01_k».proof.Proof.Gen.AdaRefIdeal.Run
public import Idealize.ShloMosaic.Lib.Pipeline.ValueKit
public import Idealize.ShloMosaic.Lib.Tactic.CleanTypes
public import proofs.«01_k».proof.Defs

@[expose] public section

set_option maxRecDepth 16384
noncomputable section

/-! The layer's adaptive norm, forward, against its reference. -/

namespace Cert.Hand

open Idealize.ShloMosaic

/-- The normed row, scaled and shifted: entry `(r, j)`. -/
def adaln (x : FVec Ideal ⟨3, ![1, 4096, 1024]⟩ .f32) (g sc sh : FVec Ideal ⟨2, ![1, 1024]⟩ .f32) (r : Fin 4096) (j : Fin 1024) : EReal :=
  x (ix3 0 r j) * rms x r * g (ix2 0 j) * onePlus sc j + sh (ix2 0 j)

end Cert.Hand

namespace Cert.AdaIdeal.Value

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ)

abbrev ax (c : Dev nD) : FVec Ideal S1x4096x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev ash (c : Dev nD) : FVec Ideal S1x1024 .f32 := m ((c : Thread nD τ).loc main_arg3)

/-- Where the windows' blocks lie. -/
theorem idx : ∀ t : Fin cfg0.N,
    win0_0.index t = ![t.val, 0] ∧ win0_1.index t = ![0, 0] ∧ win0_2.index t = ![0, 0] ∧ win0_3.index t = ![0, 0]
    ∧ win0_4.index t = ![t.val, 0] ∧ win0_5.index t = ![0, t.val] :=
  (by decide +kernel : ∀ t : Fin grid0.N, _)

theorem N0 : cfg0.N = 4 := by decide +kernel

theorem row_lt (t : Fin cfg0.N) (r : Fin 1024) : t.val * 1024 + r.val < 4096 := by
  have := t.isLt; have := N0; omega

theorem x_blk (c : Dev nD) (t : Fin cfg0.N) (r : Fin 1024) (j : Fin 1024) :
    (show FVec Ideal S1024x1024 .f32 from iblk m c 0 t) (ix2 r j) = ax m c (ix3 0 ⟨t.val * 1024 + r.val, row_lt t r⟩ j) := by
  obtain ⟨h, -⟩ := idx t
  blk_point [iblk, V, h]

theorem g_blk (c : Dev nD) (t : Fin cfg0.N) (j : Fin 1024) :
    (show FVec Ideal S1x1024 .f32 from iblk m c 1 t) (ix2 0 j) = ag m c (ix2 0 j) := by
  obtain ⟨-, h, -⟩ := idx t
  blk_point [iblk, V, h]

theorem sc_blk (c : Dev nD) (t : Fin cfg0.N) (j : Fin 1024) :
    (show FVec Ideal S1x1024 .f32 from iblk m c 2 t) (ix2 0 j) = Cert.Hand.onePlus (asc m c) j := by
  obtain ⟨-, -, h, -⟩ := idx t
  have e : ((cfg0.win 2).blk t).view.emb (ix2 (0 : Fin 1) j) = ix2 (0 : Fin 1) j := by blk_ext [h]
  show V m c main_v2 (((cfg0.win 2).blk t).view.emb (ix2 (0 : Fin 1) j)) = 1 + m ((c : Thread nD τ).loc main_arg2) (ix2 0 j)
  rw [e]
  entry_read
  pointwise

theorem sh_blk (c : Dev nD) (t : Fin cfg0.N) (j : Fin 1024) :
    (show FVec Ideal S1x1024 .f32 from iblk m c 3 t) (ix2 0 j) = ash m c (ix2 0 j) := by
  obtain ⟨-, -, -, h, -⟩ := idx t
  blk_point [iblk, V, h]

/-- What a point computes at row `r`, column `j` of its block. -/
theorem pay1_at (c : Dev nD) (t : Fin cfg0.N) (r j : Fin 1024) :
    k0_pay1 (F := Ideal) (iblk m c 0 t) (iblk m c 1 t) (iblk m c 2 t) (iblk m c 3 t) (ix2 r j)
      = Cert.Hand.adaln (ax m c) (ag m c) (asc m c) (ash m c) ⟨t.val * 1024 + r.val, row_lt t r⟩ j := by
  unfold k0_pay1
  dsimp only
  pointwise
  unfold Cert.Hand.adaln Cert.Hand.rms Cert.Hand.meanSq
  simp only [← x_blk m c t, ← g_blk m c t, ← sc_blk m c t, ← sh_blk m c t]

/-- The first result: the rows. -/
theorem h_array (c : Dev nD) :
    (dats m 0 c).arrAt 4 cfg0.N = fun i => Cert.Hand.adaln (ax m c) (ag m c) (asc m c) (ash m c) (i 0) (i 1) := by
  refine (dats m 0 c).arrAt_eq_of_covers 4 _ (by decide +kernel) fun t hf y => ?_
  blk_simp
  rw [after0_4]
  have e : ((cfg0.win 4).blk t).view.emb y = ix2 (⟨t.val * 1024 + (y 0).val, row_lt t _⟩ : Fin 4096) (show Fin 1024 from y 1) := by
    obtain ⟨-, -, -, -, h, -⟩ := idx t
    blk_ext [h]
  rw [e]
  refine Eq.trans ?_ (pay1_at m c t (y 0) (y 1))
  frame_out
  unfold k0_pay2
  pointwise

/-- The second result: their transpose. -/
theorem ht_array (c : Dev nD) :
    (dats m 0 c).arrAt 5 cfg0.N = fun i => Cert.Hand.adaln (ax m c) (ag m c) (asc m c) (ash m c) (i 1) (i 0) := by
  refine (dats m 0 c).arrAt_eq_of_covers 5 _ (by decide +kernel) fun t hf y => ?_
  blk_simp
  rw [after0_5]
  have e : ((cfg0.win 5).blk t).view.emb y = ix2 (show Fin 1024 from y 0) (⟨t.val * 1024 + (y 1).val, row_lt t _⟩ : Fin 4096) := by
    obtain ⟨-, -, -, -, -, h⟩ := idx t
    blk_ext [h]
  rw [e]
  refine Eq.trans ?_ (pay1_at m c t (y 1) (y 0))
  frame_out
  unfold k0_pay3
  pointwise

end Cert.AdaIdeal.Value

namespace Cert.AdaRefIdeal.Value

open Cert.AdaRefIdeal Cert.AdaRefIdeal.Gen Idealize.ShloMosaic Idealize.ShloMosaic.TcCoe Idealize.SL.Sem

variable (m : (ℓ : Loc nD τ sig) → Buf (Elt Ideal) ℓ)

abbrev ax (c : Dev nD) : FVec Ideal S1x4096x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev ash (c : Dev nD) : FVec Ideal S1x1024 .f32 := m ((c : Thread nD τ).loc main_arg3)

set_option maxHeartbeats 2000000 in
/-- The reference's run with both results given entry by entry. -/
theorem run_entries (ρ : Dev nD → PrngReg) :
    θ_run defs (onTc (τ := τ) (main (F := Ideal))) ⟨m, fun _ => 0, ρ⟩ fun r => ∀ c : Dev nD,
      r.2.mem ((c.tc : Thread nD τ).loc main_v23) = (fun i => Cert.Hand.adaln (ax m c) (ag m c) (asc m c) (ash m c) (i 0) (i 1))
      ∧ r.2.mem ((c.tc : Thread nD τ).loc main_v26) = (fun i => Cert.Hand.adaln (ax m c) (ag m c) (asc m c) (ash m c) (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2.1.trans (funext fun i => ?_), (h c).2.2⟩) (run m ρ)
  · obtain ⟨a, b, rfl⟩ : ∃ (a : Fin 4096) (b : Fin 1024), i = ix2 a b := ⟨i 0, i 1, by funext k; match k with | ⟨0, _⟩ => rfl | ⟨1, _⟩ => rfl⟩
    clean_types
    pointwise
    rfl
  · obtain ⟨a, b, rfl⟩ : ∃ (a : Fin 1024) (b : Fin 4096), i = ix2 a b := ⟨i 0, i 1, by funext k; match k with | ⟨0, _⟩ => rfl | ⟨1, _⟩ => rfl⟩
    clean_types
    pointwise
    rfl

end Cert.AdaRefIdeal.Value

namespace Cert.AdaPair

open Idealize.ShloMosaic Idealize.SL.Sem

/-- The reference's frame: no operation writes an argument, and the program declares no semaphore. -/
theorem frame_ref : Cert.quiescent_AdaRefIdeal := by
  intro m ρ _
  exact (θ_run Cert.AdaRefIdeal.defs _ _).mono
    (fun r h => ⟨fun c => (h c).2.2, sem_eq_zero_of_no_sems (by decide) r.2⟩) (Cert.AdaRefIdeal.Value.run m ρ)

/-- The normed rows and their transpose are the reference's. -/
theorem adaln : Cert.algebraic_AdaIdeal_AdaRefIdeal := by
  pair_intro
  · run_from Cert.AdaIdeal.Value.run_blocks m g
  · refine (θ_run _ _ _).mono (fun r h c => ?_) (Cert.AdaRefIdeal.Value.run_entries m' g')
    obtain ⟨e0, e1, e2, e3⟩ := hagree c
    refine ⟨(h c).1.trans ?_, (h c).2.1.trans ?_, (h c).2.2⟩
    · refine Eq.trans ?_ (Cert.AdaIdeal.Value.h_array m c).symm
      unfold Cert.AdaRefIdeal.Value.ax Cert.AdaRefIdeal.Value.ag Cert.AdaRefIdeal.Value.asc Cert.AdaRefIdeal.Value.ash
      rw [e0, e1, e2, e3]
      rfl
    · refine Eq.trans ?_ (Cert.AdaIdeal.Value.ht_array m c).symm
      unfold Cert.AdaRefIdeal.Value.ax Cert.AdaRefIdeal.Value.ag Cert.AdaRefIdeal.Value.asc Cert.AdaRefIdeal.Value.ash
      rw [e0, e1, e2, e3]
      rfl

end Cert.AdaPair
end
-- ==== Proof.WgtPair.lean ====
module

public import proofs.«01_k».proof.Proof.AdaPair
public import proofs.«01_k».proof.Proof.Gen.WgtIdeal.Value
public import proofs.«01_k».proof.Proof.Gen.WgtRefIdeal.Run
public import Idealize.ShloMosaic.Lib.Pipeline.ValueKit
public import Idealize.ShloMosaic.Lib.Pipeline.ReadBack
public import Idealize.ShloMosaic.Lib.WritesUnit
public import Idealize.ShloMosaic.Lib.Tactic.CleanTypes
public import proofs.«01_k».proof.Defs

@[expose] public section

set_option maxRecDepth 16384
noncomputable section

/-! The gradient of the input projection's weights, one device's part, against its reference. -/

namespace Cert.Hand

open Idealize.ShloMosaic

/-- Column `b` of shard `s` of the wide arrays. -/
def shardCol (s : Fin 8) (b : Fin 1152) : Fin 9216 := ⟨s.val * 1152 + b.val, by omega⟩

/-- The weights' gradient at shard `s`, row `j`, column `b`: the normed rows against the projection's cotangent. -/
def wgt (x : FVec Ideal ⟨3, ![1, 4096, 1024]⟩ .f32) (g sc sh : FVec Ideal ⟨2, ![1, 1024]⟩ .f32) (dp : FVec Ideal ⟨3, ![1, 4096, 9216]⟩ .f32)
    (s : Fin 8) (j : Fin 1024) (b : Fin 1152) : EReal :=
  ∑ r : Fin 4096, adaln x g sc sh r j * dp (ix3 0 r (shardCol s b))

end Cert.Hand

namespace Cert.WgtIdeal.Value

open Cert.WgtIdeal Cert.WgtIdeal.Gen Idealize.ShloMosaic Idealize.ShloMosaic.TcCoe Idealize.SL.Sem
open Idealize.ShloMosaic.Pipeline (Dat)

variable (m : (ℓ : Loc nD τ sig) → Buf (Elt Ideal) ℓ)

abbrev ax (c : Dev nD) : FVec Ideal S1x4096x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev ash (c : Dev nD) : FVec Ideal S1x1024 .f32 := m ((c : Thread nD τ).loc main_arg3)
abbrev adp (c : Dev nD) : FVec Ideal S1x4096x9216 .f32 := m ((c : Thread nD τ).loc main_arg5)

/-- Where the windows' blocks lie. -/
theorem idx : ∀ t : Fin cfg0.N,
    win0_0.index t = ![0, t.val % 2] ∧ win0_1.index t = ![t.val / 2, t.val % 2, 0] ∧ win0_2.index t = ![t.val / 2, 0, 0] :=
  (by decide +kernel : ∀ t : Fin grid0.N, _)

theorem N0 : cfg0.N = 8 := by decide +kernel

theorem row_lt (t : Fin cfg0.N) (r : Fin 2048) : t.val % 2 * 2048 + r.val < 4096 := by omega

theorem col_lt (t : Fin cfg0.N) (q : Fin 2304) : t.val / 2 * 2304 + q.val < 9216 := by
  have := t.isLt; have := N0; omega

/-- The 18 slabs of a block side by side: column `j` is lane `j % 128` of slab `j / 128`. -/
def wide (x : Vec Ideal S18x2048x128 .f32) : FVec Ideal S2048x2304 .bf16 := fun j =>
  x (ix3 (⟨(j 1).val / 128, by have := (j 1).isLt; simp at this; omega⟩ : Fin 18) (j 0) (⟨(j 1).val % 128, by omega⟩ : Fin 128))

theorem inb_slab (n : Fin 18) : ∀ k : Fin 3, (![n.val, 0, 0] : Fin 3 → ℕ) k + (![1, 2048, 128] : Fin 3 → ℕ) k ≤ S18x2048x128.size k := by
  have := n.isLt
  intro k
  match k with
  | ⟨0, _⟩ => show n.val + 1 ≤ 18; omega
  | ⟨1, _⟩ => show 0 + 2048 ≤ 2048; omega
  | ⟨2, _⟩ => show 0 + 128 ≤ 128; omega

theorem cast_slab (X : Vec Ideal S1x2048x128 .f32) (a : Fin 2048) (b : Fin 128) :
    truncf .bf16 (shapeCast S2048x128 X shapeCasts_S1x2048x128_S2048x128 : FVec Ideal S2048x128 .f32) bitsLt_bf16_f32 (ix2 a b) = X (ix3 0 a b) := by
  pointwise

theorem wide_eq (x : Vec Ideal S18x2048x128 .f32) (L) (h)
    (hL : L = List.ofFn fun n : Fin 18 => (⟨S2048x128, truncf .bf16 (shapeCast S2048x128 (View.ld x (Rect.unit ![n.val, 0, 0] ![1, 2048, 128] (inb_slab n))) shapeCasts_S1x2048x128_S2048x128 : FVec Ideal S2048x128 .f32) bitsLt_bf16_f32⟩ : (s : Shape) × FVec Ideal s .bf16)) :
    concatenate S2048x2304 1 L h = wide x := by
  subst hL
  funext j
  have h9 : (j 1).val < 2304 := (j 1).isLt
  rw [concatenate_ofFn_apply (s₁ := S2048x128) 1 _ h rfl 128 rfl j ⟨(j 1).val / 128, by omega⟩ rfl
    (show S2048x128.Idx from ix2 (show Fin 2048 from j 0) (⟨(j 1).val % 128, by omega⟩ : Fin 128)) rfl (by
      intro b hb
      match b, hb with
      | ⟨0, _⟩, _ => rfl
      | ⟨1, _⟩, hb => exact absurd rfl hb)]
  refine (cast_slab _ _ _).trans ?_
  exact View.ld_unit_apply_of _ _ _ _ _ _ (by
    intro a
    match a with
    | ⟨0, _⟩ => simp [ix3]
    | ⟨1, _⟩ => simp [ix3]
    | ⟨2, _⟩ => simp [ix3])

/-- What point `t` multiplies out, at row `a`, column `q` of its block. -/
def partB (c : Dev nD) (t : Fin cfg0.N) (a : Fin 1024) (q : Fin 2304) : EReal :=
  ∑ r : Fin 2048, (show FVec Ideal S1024x2048 .bf16 from iblk m c 0 t) (ix2 a r) * wide (iblk m c 1 t) (ix2 r q)

section Shards

variable {sig' : RefSig} {κ : Kind} {sp : Space} {e : EltTy} {Val : EltTy → Type} (v : View sig' κ sp S2x1024x1152 e) (f : v.ty.Contents Val)
  {o : ℕ} (inb : ∀ a : Fin 3, (![o, 0, 0] : Fin 3 → ℕ) a + (![1, 1024, 1152] : Fin 3 → ℕ) a ≤ S2x1024x1152.size a)
  (w : S1x1024x1152.Idx → Val e) (L : List (View.Piece Val S2x1024x1152 e)) (s : Fin 2) (a : Fin 1024) (b : Fin 1152)

/-- A shard just written reads what was written. -/
theorem shard_hit (hs : s.val = o) :
    v.read Val (v.writes Val f (⟨Rect.unit ![o, 0, 0] ![1, 1024, 1152] inb, w⟩ :: L)) (ix3 s a b) = w (ix3 0 a b) :=
  View.read_writes_cons_unit_of_mem v f inb w L (ix3 s a b) (ix3 (0 : Fin 1) a b) rfl (by
    intro k
    match k with
    | ⟨0, _⟩ => simp [ix3, hs]
    | ⟨1, _⟩ => simp [ix3]
    | ⟨2, _⟩ => simp [ix3])

/-- The other shard reads what was there before. -/
theorem shard_miss (hs : s.val ≠ o) :
    v.read Val (v.writes Val f (⟨Rect.unit ![o, 0, 0] ![1, 1024, 1152] inb, w⟩ :: L)) (ix3 s a b)
      = v.read Val (v.writes Val f L) (ix3 s a b) :=
  View.read_writes_cons_unit_of_not_mem v f inb w L (ix3 s a b) rfl (0 : Fin 3) (by simp [ix3]; omega)

end Shards

/-- Column `b` of shard `s` of a point's two. -/
def col (s : Fin 2) (b : Fin 1152) : Fin 2304 := ⟨s.val * 1152 + b.val, by omega⟩

theorem first (c : Dev nD) (t : Fin cfg0.N) (h0 : t.val % 2 = 0) (s : Fin 2) (a : Fin 1024) (b : Fin 1152) :
    (outsAt0 m c t.val t.isLt) (ix3 s a b) = partB m c t a (col s b) := by
  rw [outsAt0_A m c t h0 (by omega)]
  frame_out
  rw [← View.read_writes_junk_eq_canon (ms0_2 t).view]
  by_cases hs : s.val = 1
  · rw [shard_hit _ _ _ _ _ s a b hs]
    obtain rfl : s = 1 := Fin.ext hs
    unfold_payloads
    dsimp only
    rw [wide_eq (iblk m c 1 t) _ _ ?h]
    case h => rfl
    pointwise
    unfold partB
    exact Fintype.sum_congr _ _ fun r => congrArg _ (congrArg _ (congrArg (ix2 r) (Fin.ext (by simp [col]))))
  · rw [shard_miss _ _ _ _ _ s a b hs]
    have hs0 : s.val = 0 := by omega
    rw [shard_hit _ _ _ _ _ s a b hs0]
    obtain rfl : s = 0 := Fin.ext hs0
    unfold_payloads
    dsimp only
    rw [wide_eq (iblk m c 1 t) _ _ ?h]
    case h => rfl
    pointwise
    unfold partB
    exact Fintype.sum_congr _ _ fun r => congrArg _ (congrArg _ (congrArg (ix2 r) (Fin.ext (by simp [col]))))

theorem step (c : Dev nD) (t : Fin cfg0.N) (h0 : ¬t.val % 2 = 0) (s : Fin 2) (a : Fin 1024) (b : Fin 1152) :
    (outsAt0 m c t.val t.isLt) (ix3 s a b)
      = (outsAt0 m c (t.val - 1) (Nat.lt_of_le_of_lt (Nat.sub_le _ _) t.isLt)) (ix3 s a b) + partB m c t a (col s b) := by
  rw [outsAt0_B m c t h0 (by omega)]
  frame_out
  rw [← View.read_writes_junk_eq_canon (ms0_2 t).view]
  by_cases hs : s.val = 1
  · rw [shard_hit _ _ _ _ _ s a b hs]
    obtain rfl : s = 1 := Fin.ext hs
    unfold_payloads
    dsimp only
    rw [wide_eq (iblk m c 1 t) _ _ ?h]
    case h => rfl
    pointwise
    unfold partB
    exact congrArg _ (Fintype.sum_congr _ _ fun r => congrArg _ (congrArg _ (congrArg (ix2 r) (Fin.ext (by simp [col])))))
  · rw [shard_miss _ _ _ _ _ s a b hs]
    have hs0 : s.val = 0 := by omega
    rw [shard_hit _ _ _ _ _ s a b hs0]
    obtain rfl : s = 0 := Fin.ext hs0
    unfold_payloads
    dsimp only
    rw [wide_eq (iblk m c 1 t) _ _ ?h]
    case h => rfl
    pointwise
    unfold partB
    exact congrArg _ (Fintype.sum_congr _ _ fun r => congrArg _ (congrArg _ (congrArg (ix2 r) (Fin.ext (by simp [col])))))

theorem h_blk (c : Dev nD) (t : Fin cfg0.N) (a : Fin 1024) (r : Fin 2048) :
    (show FVec Ideal S1024x2048 .bf16 from iblk m c 0 t) (ix2 a r)
      = Cert.Hand.adaln (ax m c) (ag m c) (asc m c) (ash m c) ⟨t.val % 2 * 2048 + r.val, row_lt t r⟩ a := by
  obtain ⟨h, -⟩ := idx t
  have e : ((cfg0.win 0).blk t).view.emb (ix2 a r) = ix2 a (⟨t.val % 2 * 2048 + r.val, row_lt t r⟩ : Fin 4096) := by blk_ext [h]
  show V m c main_v24 (((cfg0.win 0).blk t).view.emb (ix2 a r)) = _
  rw [e]
  entry_read
  clean_types
  pointwise
  rfl

theorem dp_blk (c : Dev nD) (t : Fin cfg0.N) (r : Fin 2048) (q : Fin 2304) :
    wide (iblk m c 1 t) (ix2 r q) = adp m c (ix3 0 ⟨t.val % 2 * 2048 + r.val, row_lt t r⟩ ⟨t.val / 2 * 2304 + q.val, col_lt t q⟩) := by
  obtain ⟨-, h, -⟩ := idx t
  unfold wide
  blk_point [iblk, V, h]

/-- Shard `s` of point `t`'s pair of shards. -/
def shard (t : Fin cfg0.N) (s : Fin 2) : Fin 8 := ⟨t.val / 2 * 2 + s.val, by have := t.isLt; have := N0; omega⟩

theorem part_eq (c : Dev nD) (t : Fin cfg0.N) (a : Fin 1024) (s : Fin 2) (b : Fin 1152) :
    partB m c t a (col s b) = ∑ r : Fin 2048, Cert.Hand.adaln (ax m c) (ag m c) (asc m c) (ash m c) ⟨t.val % 2 * 2048 + r.val, row_lt t r⟩ a
      * adp m c (ix3 0 ⟨t.val % 2 * 2048 + r.val, row_lt t r⟩ (Cert.Hand.shardCol (shard t s) b)) := by
  unfold partB
  refine Fintype.sum_congr _ _ fun r => ?_
  rw [h_blk m c t a r, dp_blk m c t r (col s b)]
  refine congrArg _ (congrArg _ (congrArg (ix3 0 _) (Fin.ext ?_)))
  simp only [col, shard, Cert.Hand.shardCol]
  omega

/-- The two halves of the rows, which a point and the one before take, are all the rows. -/
theorem halves (t : Fin cfg0.N) (tp : t.val - 1 < cfg0.N) (h1 : t.val % 2 = 1) (f : Fin 4096 → EReal) :
    ∑ r : Fin 2048, f ⟨(t.val - 1) % 2 * 2048 + r.val, row_lt ⟨t.val - 1, tp⟩ r⟩ + ∑ r : Fin 2048, f ⟨t.val % 2 * 2048 + r.val, row_lt t r⟩ = ∑ r, f r := by
  have key : ∑ k : Fin 2, ∑ r : Fin 2048, f ⟨k.val * 2048 + r.val, by omega⟩ = ∑ r, f r := Fin.sum_mul_add_congr fun k r h => rfl
  rw [← key, Fin.sum_univ_two]
  refine congrArg₂ _ (Fintype.sum_congr _ _ fun r => congrArg f (Fin.ext ?_)) (Fintype.sum_congr _ _ fun r => congrArg f (Fin.ext ?_))
  · show (t.val - 1) % 2 * 2048 + r.val = 0 * 2048 + r.val
    omega
  · show t.val % 2 * 2048 + r.val = 1 * 2048 + r.val
    omega

/-- The result: the two points of a pair of shards make the sum over all the rows. -/
theorem w_array (c : Dev nD) :
    (dats m 0 c).arrAt 2 cfg0.N = fun i => Cert.Hand.wgt (ax m c) (ag m c) (asc m c) (ash m c) (adp m c) (i 0) (i 1) (i 2) := by
  refine (dats m 0 c).arrAt_eq_of_covers 2 _ (by decide +kernel) fun t hf y => ?_
  have h1 : t.val % 2 = 1 := (flush0_2 t).mp hf
  blk_simp
  rw [after0_2]
  have e : ((cfg0.win 2).blk t).view.emb y = ix3 (shard t (show Fin 2 from y 0)) (show Fin 1024 from y 1) (show Fin 1152 from y 2) := by
    obtain ⟨-, -, h⟩ := idx t
    blk_ext [h, shard]
  rw [e]
  have ey : y = ix3 (show Fin 2 from y 0) (show Fin 1024 from y 1) (show Fin 1152 from y 2) := by
    funext k; match k with | ⟨0, _⟩ => rfl | ⟨1, _⟩ => rfl | ⟨2, _⟩ => rfl
  refine (congrArg (outsAt0 m c t.val t.isLt) ey).trans ?_
  generalize (show Fin 2 from y 0) = s, (show Fin 1024 from y 1) = a, (show Fin 1152 from y 2) = b
  have tp : t.val - 1 < cfg0.N := Nat.lt_of_le_of_lt (Nat.sub_le _ _) t.isLt
  rw [step m c t (by omega) s a b, first m c ⟨t.val - 1, tp⟩ (show (t.val - 1) % 2 = 0 by omega) s a b, part_eq, part_eq]
  have es : shard ⟨t.val - 1, tp⟩ s = shard t s := Fin.ext (show (t.val - 1) / 2 * 2 + s.val = t.val / 2 * 2 + s.val by omega)
  rw [es]
  show _ = ∑ r : Fin 4096, Cert.Hand.adaln (ax m c) (ag m c) (asc m c) (ash m c) r a * adp m c (ix3 0 r (Cert.Hand.shardCol (shard t s) b))
  exact halves t tp h1 fun r => Cert.Hand.adaln (ax m c) (ag m c) (asc m c) (ash m c) r a * adp m c (ix3 0 r (Cert.Hand.shardCol (shard t s) b))

end Cert.WgtIdeal.Value

namespace Cert.WgtRefIdeal.Value

open Cert.WgtRefIdeal Cert.WgtRefIdeal.Gen Idealize.ShloMosaic Idealize.ShloMosaic.TcCoe Idealize.SL.Sem

variable (m : (ℓ : Loc nD τ sig) → Buf (Elt Ideal) ℓ)

abbrev ax (c : Dev nD) : FVec Ideal S1x4096x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev ash (c : Dev nD) : FVec Ideal S1x1024 .f32 := m ((c : Thread nD τ).loc main_arg3)
abbrev adp (c : Dev nD) : FVec Ideal S1x4096x9216 .f32 := m ((c : Thread nD τ).loc main_arg5)

set_option maxHeartbeats 2000000 in
/-- The reference's run with its result given entry by entry. -/
theorem run_entries (ρ : Dev nD → PrngReg) :
    θ_run defs (onTc (τ := τ) (main (F := Ideal))) ⟨m, fun _ => 0, ρ⟩ fun r => ∀ c : Dev nD,
      r.2.mem ((c.tc : Thread nD τ).loc main_v26) = (fun i => Cert.Hand.wgt (ax m c) (ag m c) (asc m c) (ash m c) (adp m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun i => ?_), (h c).2⟩) (run m ρ)
  obtain ⟨s, a, b, rfl⟩ : ∃ (s : Fin 8) (a : Fin 1024) (b : Fin 1152), i = ix3 s a b :=
    ⟨i 0, i 1, i 2, by funext k; match k with | ⟨0, _⟩ => rfl | ⟨1, _⟩ => rfl | ⟨2, _⟩ => rfl⟩
  clean_types
  pointwise
  rw [Fin.sum_univ_one]
  exact Fintype.sum_congr _ _ fun r => mul_comm _ _

end Cert.WgtRefIdeal.Value

namespace Cert.WgtPair

open Idealize.ShloMosaic Idealize.SL.Sem

/-- The reference's frame: no operation writes an argument, and the program declares no semaphore. -/
theorem frame_ref : Cert.quiescent_WgtRefIdeal := by
  intro m ρ _
  exact (θ_run Cert.WgtRefIdeal.defs _ _).mono
    (fun r h => ⟨fun c => (h c).2, sem_eq_zero_of_no_sems (by decide) r.2⟩) (Cert.WgtRefIdeal.Value.run m ρ)

/-- The weights' gradient is the reference's. -/
theorem weight : Cert.algebraic_WgtIdeal_WgtRefIdeal := by
  pair_intro
  · run_from Cert.WgtIdeal.Value.run_blocks m g
  · refine (θ_run _ _ _).mono (fun r h c => ?_) (Cert.WgtRefIdeal.Value.run_entries m' g')
    obtain ⟨e0, e1, e2, e3, e4, e5⟩ := hagree c
    refine ⟨(h c).1.trans ?_, (h c).2⟩
    refine Eq.trans ?_ (Cert.WgtIdeal.Value.w_array m c).symm
    unfold Cert.WgtRefIdeal.Value.ax Cert.WgtRefIdeal.Value.ag Cert.WgtRefIdeal.Value.asc Cert.WgtRefIdeal.Value.ash Cert.WgtRefIdeal.Value.adp
    rw [e0, e1, e2, e3, e5]
    rfl

end Cert.WgtPair
end
-- ==== Proof.Adam.lean ====
module

public import Idealize.ShloMosaic.PureOps.Ideal

@[expose] public section

noncomputable section

/-! AdamW's update of one weight, from its gradient and the two moments, on the extended reals. -/

namespace Cert.Hand

open Idealize.ShloMosaic

/-- The first moment's new value: nine tenths of the old one and a tenth of the gradient. -/
def newM (m g : EReal) : EReal := Ideal.ofBits .f32 0x3F666666#32 * m + Ideal.ofBits .f32 0x3DCCCCCD#32 * g

/-- The second moment's new value. -/
def newV (v g : EReal) : EReal := Ideal.ofBits .f32 0x3F7FBE77#32 * v + Ideal.ofBits .f32 0x3A83126F#32 * (g * g)

/-- The weight's step: the moments with their bias taken out, their quotient, the decay, and the rate. -/
def delta (w g m v : EReal) : EReal :=
  Ideal.ofBits .f32 0xBA83126F#32 * (Ideal.div (Ideal.div (newM m g) (Ideal.ofBits .f32 0x3F26BD02#32))
    (Ideal.sqrt (Ideal.div (newV v g) (Ideal.ofBits .f32 0x3C231ACC#32)) + Ideal.ofBits .f32 0x322BCC77#32)
    + Ideal.ofBits .f32 0x3C23D70A#32 * w)

end Cert.Hand
end
-- ==== Proof.WadPair.lean ====
module

public import proofs.«01_k».proof.Proof.InpMath
public import proofs.«01_k».proof.Proof.HgPair
public import proofs.«01_k».proof.Proof.Adam
public import proofs.«01_k».proof.Proof.Gen.WadIdeal.Frame
public import proofs.«01_k».proof.Proof.Gen.Wad.Frame
public import proofs.«01_k».proof.Proof.Gen.WadRefIdeal.Run
public import Idealize.ShloMosaic.Lib.Pipeline.ValueKit
public import Idealize.ShloMosaic.Lib.Tactic.CleanTypes

@[expose] public section

set_option maxRecDepth 16384
noncomputable section

/-! The modulation's weight: its gradient over the devices and its update, against the reference. -/

namespace Cert.Hand

open Idealize.ShloMosaic

/-- `silu` of an entry of the conditioning. -/
def silu (c : FVec Ideal ⟨2, ![8, 1024]⟩ .f32) (e : Fin 8) (a : Fin 1024) : EReal :=
  c (ix2 e a) * Ideal.div 1 (1 + Ideal.exp (-(c (ix2 e a))))

/-- The gradient of the device's columns of the modulation's weight: the devices' outer products, summed. -/
def gAda (c : FVec Ideal ⟨2, ![8, 1024]⟩ .f32) (d : FVec Ideal ⟨2, ![8, 3072]⟩ .f32) (a : Fin 1024) (b : Fin 384) : EReal :=
  ∑ e : Fin 8, d (ix2 e ⟨1920 + b.val, by omega⟩) * silu c e a

/-- It is real where its argument is. -/
theorem silu_real (c : FVec Ideal ⟨2, ![8, 1024]⟩ .f32) (h : ∀ i, ∃ r : ℝ, c i = (r : EReal)) (e : Fin 8) (a : Fin 1024) :
    ∃ r : ℝ, silu c e a = (r : EReal) := by
  obtain ⟨r, hr⟩ := h (ix2 e a)
  refine ⟨r * Hg.sgm r, ?_⟩
  unfold silu
  rw [hr, ← zero_sub, Hg.coe_sgm, ← EReal.coe_mul]

/-- A real number less itself is zero. -/
theorem sub_self_real (x : EReal) (h : ∃ r : ℝ, x = (r : EReal)) : x - x = 0 := by
  obtain ⟨r, rfl⟩ := h
  rw [← EReal.coe_sub, sub_self, EReal.coe_zero]

/-- A sum whose terms past the eighth are zero. -/
theorem sum_pad (f : Fin 8 → EReal) : ∑ k : Fin 128, (if h : k.val < 8 then f ⟨k.val, h⟩ else 0) = ∑ e : Fin 8, f e := by
  rw [show (∑ k : Fin 128, (if h : k.val < 8 then f ⟨k.val, h⟩ else 0)) = ∑ k : Fin (8 + 120), (if h : k.val < 8 then f ⟨k.val, h⟩ else 0) from rfl,
    Fin.sum_univ_add]
  rw [Finset.sum_eq_zero (s := Finset.univ (α := Fin 120)) fun k _ => dif_neg (by simp), add_zero]
  exact Finset.sum_congr rfl fun e _ => dif_pos e.isLt

end Cert.Hand

namespace Cert.Wad.Value

open Cert.Wad Cert.Wad.Gen Idealize.ShloMosaic Idealize.ShloMosaic.TcCoe Idealize.SL.Sem

variable {F : FTy → Type} [FloatOps F]
variable (m : (ℓ : Loc nD τ sig) → Buf (Elt F) ℓ)

/-- The prefetched word is the device's number. -/
theorem word (c : Dev nD) : V m c main_v10 = fun _ => (5 : BitVec 32) := by
  funext i
  entry_read
  rfl

/-- So the second window's block is the device's columns. -/
theorem index1 (i : grid0.Coords) : cc0_transform_1 inb_S1_S1_0 numel1_S1 (tbl m) i = ![0, 5] := by
  have h : (tbl m).at 0 (Rect.unit (s := S1) ![0] S1.size inb_S1_S1_0) numel1_S1 = (5 : BitVec 32) := congrFun (word m 0) _
  unfold cc0_transform_1
  dsimp only
  rw [h]
  rfl

/-- And it lies inside the array. -/
theorem ok : Ok m := by
  intro i
  have h : ∀ a, (cc0_transform_1 inb_S1_S1_0 numel1_S1 (tbl m) i a + 1) * S128x384.size a ≤ S128x3072.size a := by
    rw [index1 m i]
    decide
  exact ⟨h, Or.inl rfl⟩

end Cert.Wad.Value

namespace Cert.WadIdeal.Value

open Cert.WadIdeal Cert.WadIdeal.Gen Idealize.ShloMosaic Idealize.ShloMosaic.TcCoe Idealize.SL.Sem

variable {F : FTy → Type} [FloatOps F]
variable (m : (ℓ : Loc nD τ sig) → Buf (Elt F) ℓ)

/-- The prefetched word is the device's number. -/
theorem word (c : Dev nD) : V m c main_v10 = fun _ => (5 : BitVec 32) := by
  funext i
  entry_read
  rfl

/-- So the second window's block is the device's columns. -/
theorem index1 (i : grid0.Coords) : cc0_transform_1 inb_S1_S1_0 numel1_S1 (tbl m) i = ![0, 5] := by
  have h : (tbl m).at 0 (Rect.unit (s := S1) ![0] S1.size inb_S1_S1_0) numel1_S1 = (5 : BitVec 32) := congrFun (word m 0) _
  unfold cc0_transform_1
  dsimp only
  rw [h]
  rfl

/-- And it lies inside the array. -/
theorem ok : Ok m := by
  intro i
  have h : ∀ a, (cc0_transform_1 inb_S1_S1_0 numel1_S1 (tbl m) i a + 1) * S128x384.size a ≤ S128x3072.size a := by
    rw [index1 m i]
    decide
  exact ⟨h, Or.inl rfl⟩

section Ideal

variable (m : (ℓ : Loc nD τ sig) → Buf (Elt Ideal) ℓ)

abbrev ac (c : Dev nD) : FVec Ideal S8x1024 .f32 := m ((c : Thread nD τ).loc main_arg0)
abbrev ad (c : Dev nD) : FVec Ideal S8x3072 .f32 := m ((c : Thread nD τ).loc main_arg1)

/-- The product of three pieces each: what a piece leaves of a real number is zero, so the first pieces' product is all. -/
theorem product (A : FVec Ideal S1024x128 .f32) (B : FVec Ideal S128x384 .f32)
    (hA : ∀ i, A i - A i = 0) (hB : ∀ i, B i - B i = 0) (a : Fin 1024) (b : Fin 384) :
    k0_pay4 (F := Ideal) A B (ix2 a b) = ∑ k : Fin 128, A (ix2 a k) * B (ix2 k b) := by
  unfold k0_pay4
  pointwise
  simp only [hA, hB]
  simp

/-- What the host prepares: `silu` of the conditioning, transposed and padded to 128 columns, -/
theorem v8 (c : Dev nD) : V m c main_v8 = pad S1024x128 ![0, 0] ![0, 120] ![0, 0]
    (transpose S1024x8 [1, 0] (mulf (ac m c) (Host.divf (broadcastInDim S8x1024 ![] bcast_S_S8x1024 (constant S_ .f32 0x3F800000#32))
      (addf (broadcastInDim S8x1024 ![] bcast_S_S8x1024 (constant S_ .f32 0x3F800000#32)) (Host.exp (Host.negf (ac m c)))))) transposes_S8x1024_S1024x8_1_0)
    (sitofp .f32 (constantI S_ 32 0#32)) pads_S1024x8_S1024x128_000_01200 h_S_ := rfl

/-- and the modulation's gradient, padded to 128 rows. -/
theorem v9 (c : Dev nD) : V m c main_v9 = pad S128x3072 ![0, 0] ![120, 0] ![0, 0] (ad m c)
    (sitofp .f32 (constantI S_ 32 0#32)) pads_S8x3072_S128x3072_01200_000 h_S_ := by
  unfold V
  simp only [hostOps0, hostOps0_1, hostOps0_2, hostOps0_3, hostOps0_4, List.flatten_cons, List.flatten_nil, List.append_nil, List.cons_append, List.nil_append, StableHlo.TRef.unary, StableHlo.TRef.binary, StableHlo.TRef.nullary, StableHlo.TRef.toBuf, StableHlo.TRef.ofBuf, cast_eq]
  after_results_simp <;> rfl

abbrev aw (c : Dev nD) : FVec Ideal S1x1024x384 .f32 := m ((c : Thread nD τ).loc main_arg2)
abbrev am (c : Dev nD) : FVec Ideal S1x1024x384 .f32 := m ((c : Thread nD τ).loc main_arg3)
abbrev av (c : Dev nD) : FVec Ideal S1x1024x384 .f32 := m ((c : Thread nD τ).loc main_arg4)

/-- The blocks the body is given. -/
theorem dm_blk (c : Dev nD) (t : Fin (cfgM m (ok m)).N) (k : Fin 128) (b : Fin 384) :
    (show FVec Ideal S128x384 .f32 from iblk m (ok m) c 1 t) (ix2 k b)
      = if hk : k.val < 8 then ad m c (ix2 ⟨k.val, hk⟩ ⟨1920 + b.val, by omega⟩) else 0 := by
  have h : ((cfgM m (ok m)).win 1).index t = ![0, 5] := index1 m (grid0.coords t)
  have e : (((cfgM m (ok m)).win 1).blk t).view.emb (ix2 k b) = ix2 k (⟨1920 + b.val, by omega⟩ : Fin 3072) := by blk_ext [h]
  show V m c main_v9 ((((cfgM m (ok m)).win 1).blk t).view.emb (ix2 k b)) = _
  rw [e, v9]
  pointwise
  by_cases hk : k.val < 8
  · rw [dif_pos ⟨hk, by omega⟩, dif_pos hk]
  · rw [dif_neg (fun h => hk h.1), dif_neg hk]
    simp [FloatOps.sitofp]

theorem sc_blk (c : Dev nD) (t : Fin (cfgM m (ok m)).N) (a : Fin 1024) (k : Fin 128) :
    (show FVec Ideal S1024x128 .f32 from iblk m (ok m) c 0 t) (ix2 a k) = if hk : k.val < 8 then Cert.Hand.silu (ac m c) ⟨k.val, hk⟩ a else 0 := by
  have h : ((cfgM m (ok m)).win 0).index t = ![0, 0] := rfl
  have e : (((cfgM m (ok m)).win 0).blk t).view.emb (ix2 a k) = ix2 a k := by blk_ext [h]
  show V m c main_v8 ((((cfgM m (ok m)).win 0).blk t).view.emb (ix2 a k)) = _
  rw [e, v8]
  pointwise
  by_cases hk : k.val < 8
  · rw [dif_pos hk, dif_pos hk]
    rfl
  · rw [dif_neg hk, dif_neg hk]
    simp [FloatOps.sitofp]

theorem w_blk (c : Dev nD) (t : Fin (cfgM m (ok m)).N) (a : Fin 1024) (b : Fin 384) :
    (show FVec Ideal S1024x384 .f32 from iblk m (ok m) c 2 t) (ix2 a b) = aw m c (ix3 0 a b) := by
  have h : ((cfgM m (ok m)).win 2).index t = ![0, 0] := rfl
  have e : (((cfgM m (ok m)).win 2).blk t).view.emb (ix2 a b) = ix2 a b := by blk_ext [h]
  show V m c main_v11 ((((cfgM m (ok m)).win 2).blk t).view.emb (ix2 a b)) = _
  rw [e, show V m c main_v11 = shapeCast S1024x384 (aw m c) shapeCasts_S1x1024x384_S1024x384 from rfl]
  pointwise

theorem m_blk (c : Dev nD) (t : Fin (cfgM m (ok m)).N) (a : Fin 1024) (b : Fin 384) :
    (show FVec Ideal S1024x384 .f32 from iblk m (ok m) c 3 t) (ix2 a b) = am m c (ix3 0 a b) := by
  have h : ((cfgM m (ok m)).win 3).index t = ![0, 0] := rfl
  have e : (((cfgM m (ok m)).win 3).blk t).view.emb (ix2 a b) = ix2 a b := by blk_ext [h]
  show V m c main_v12 ((((cfgM m (ok m)).win 3).blk t).view.emb (ix2 a b)) = _
  rw [e, show V m c main_v12 = shapeCast S1024x384 (am m c) shapeCasts_S1x1024x384_S1024x384 from rfl]
  pointwise

theorem v_blk (c : Dev nD) (t : Fin (cfgM m (ok m)).N) (a : Fin 1024) (b : Fin 384) :
    (show FVec Ideal S1024x384 .f32 from iblk m (ok m) c 4 t) (ix2 a b) = av m c (ix3 0 a b) := by
  have h : ((cfgM m (ok m)).win 4).index t = ![0, 0] := rfl
  have e : (((cfgM m (ok m)).win 4).blk t).view.emb (ix2 a b) = ix2 a b := by blk_ext [h]
  show V m c main_v13 ((((cfgM m (ok m)).win 4).blk t).view.emb (ix2 a b)) = _
  rw [e, show V m c main_v13 = shapeCast S1024x384 (av m c) shapeCasts_S1x1024x384_S1024x384 from rfl]
  pointwise

/-- The conditioning and its gradient are real numbers. -/
def Finite : Prop := ∀ c, (∀ i, ∃ r : ℝ, ac m c i = (r : EReal)) ∧ ∀ i, ∃ r : ℝ, ad m c i = (r : EReal)

/-- The kernel's product of three pieces each is the sum over the devices. -/
theorem g_at (H : Finite m) (c : Dev nD) (t : Fin (cfgM m (ok m)).N) (a : Fin 1024) (b : Fin 384) :
    k0_pay4 (F := Ideal) (iblk m (ok m) c 0 t) (iblk m (ok m) c 1 t) (ix2 a b) = Cert.Hand.gAda (ac m c) (ad m c) a b := by
  refine (product _ _ (fun i => ?_) (fun i => ?_) a b).trans ?_
  · obtain ⟨p, q, rfl⟩ : ∃ (p : Fin 1024) (q : Fin 128), i = ix2 p q := ⟨i 0, i 1, by funext k; match k with | ⟨0, _⟩ => rfl | ⟨1, _⟩ => rfl⟩
    have e := sc_blk m c t p q
    refine Cert.Hand.sub_self_real _ ?_
    rw [show (iblk m (ok m) c 0 t (ix2 p q) : EReal) = _ from e]
    by_cases hq : q.val < 8
    · rw [dif_pos hq]; exact Cert.Hand.silu_real _ (H c).1 _ _
    · rw [dif_neg hq]; exact ⟨0, rfl⟩
  · obtain ⟨p, q, rfl⟩ : ∃ (p : Fin 128) (q : Fin 384), i = ix2 p q := ⟨i 0, i 1, by funext k; match k with | ⟨0, _⟩ => rfl | ⟨1, _⟩ => rfl⟩
    have e := dm_blk m c t p q
    refine Cert.Hand.sub_self_real _ ?_
    rw [show (iblk m (ok m) c 1 t (ix2 p q) : EReal) = _ from e]
    by_cases hp : p.val < 8
    · rw [dif_pos hp]; exact (H c).2 _
    · rw [dif_neg hp]; exact ⟨0, rfl⟩
  · refine Eq.trans ?_ (Cert.Hand.sum_pad fun e => ad m c (ix2 e ⟨1920 + b.val, by omega⟩) * Cert.Hand.silu (ac m c) e a)
    refine Finset.sum_congr rfl fun k _ => ?_
    rw [show (iblk m (ok m) c 0 t (ix2 a k) : EReal) = _ from sc_blk m c t a k, show (iblk m (ok m) c 1 t (ix2 k b) : EReal) = _ from dm_blk m c t k b]
    by_cases hk : k.val < 8
    · rw [dif_pos hk, dif_pos hk, dif_pos hk, mul_comm]
    · rw [dif_neg hk, dif_neg hk, dif_neg hk, mul_zero]

/-- What the body stores, entry by entry. -/
theorem pays (A : FVec Ideal S1024x128 .f32) (B : FVec Ideal S128x384 .f32) (w mo vo : FVec Ideal S1024x384 .f32) (a : Fin 1024) (b : Fin 384) :
    k0_pay3 (F := Ideal) (k0_pay4 A B) (k0_pay5 w) (k0_pay6 vo) (k0_pay7 mo) (Scalar.ofBits .f32 0x3DCCCCCD#32) (ix2 a b)
        = Cert.Hand.delta (w (ix2 a b)) (k0_pay4 (F := Ideal) A B (ix2 a b)) (mo (ix2 a b)) (vo (ix2 a b))
    ∧ k0_pay1 (F := Ideal) (k0_pay4 A B) (k0_pay7 mo) (Scalar.ofBits .f32 0x3DCCCCCD#32) (ix2 a b)
        = Cert.Hand.newM (mo (ix2 a b)) (k0_pay4 (F := Ideal) A B (ix2 a b))
    ∧ k0_pay2 (F := Ideal) (k0_pay4 A B) (k0_pay6 vo) (ix2 a b) = Cert.Hand.newV (vo (ix2 a b)) (k0_pay4 (F := Ideal) A B (ix2 a b)) := by
  unfold k0_pay3 k0_pay1 k0_pay2 k0_pay5 k0_pay6 k0_pay7
  refine ⟨?_, ?_, ?_⟩ <;> pointwise <;> rfl

/-- The four results: the gradient, the step, the two moments. -/
abbrev gW (c : Dev nD) : FVec Ideal S1024x384 .f32 := fun i => Cert.Hand.gAda (ac m c) (ad m c) (i 0) (i 1)
abbrev dW (c : Dev nD) : FVec Ideal S1024x384 .f32 := fun i =>
  Cert.Hand.delta (aw m c (ix3 0 (i 0) (i 1))) (gW m c i) (am m c (ix3 0 (i 0) (i 1))) (av m c (ix3 0 (i 0) (i 1)))
abbrev mW (c : Dev nD) : FVec Ideal S1024x384 .f32 := fun i => Cert.Hand.newM (am m c (ix3 0 (i 0) (i 1))) (gW m c i)
abbrev vW (c : Dev nD) : FVec Ideal S1024x384 .f32 := fun i => Cert.Hand.newV (av m c (ix3 0 (i 0) (i 1))) (gW m c i)

/-- What a point stores, entry by entry. -/
theorem stored (H : Finite m) (c : Dev nD) (t : Fin (cfgM m (ok m)).N) (a : Fin 1024) (b : Fin 384) :
    k0_pay3 (F := Ideal) (k0_pay4 (iblk m (ok m) c 0 t) (iblk m (ok m) c 1 t)) (k0_pay5 (iblk m (ok m) c 2 t)) (k0_pay6 (iblk m (ok m) c 4 t))
        (k0_pay7 (iblk m (ok m) c 3 t)) (Scalar.ofBits .f32 0x3DCCCCCD#32) (ix2 a b) = dW m c (ix2 a b)
    ∧ k0_pay1 (F := Ideal) (k0_pay4 (iblk m (ok m) c 0 t) (iblk m (ok m) c 1 t)) (k0_pay7 (iblk m (ok m) c 3 t)) (Scalar.ofBits .f32 0x3DCCCCCD#32) (ix2 a b)
        = mW m c (ix2 a b)
    ∧ k0_pay2 (F := Ideal) (k0_pay4 (iblk m (ok m) c 0 t) (iblk m (ok m) c 1 t)) (k0_pay6 (iblk m (ok m) c 4 t)) (ix2 a b) = vW m c (ix2 a b) := by
  obtain ⟨h3, h1, h2⟩ := pays (iblk m (ok m) c 0 t) (iblk m (ok m) c 1 t) (iblk m (ok m) c 2 t) (iblk m (ok m) c 3 t) (iblk m (ok m) c 4 t) a b
  have eg := g_at m H c t a b
  have ew := w_blk m c t a b
  have em := m_blk m c t a b
  have ev := v_blk m c t a b
  exact ⟨h3.trans (congr (congr (congr (congrArg Cert.Hand.delta ew) eg) em) ev), h1.trans (congr (congrArg Cert.Hand.newM em) eg),
    h2.trans (congr (congrArg Cert.Hand.newV ev) eg)⟩

/-- The four blocks a run of the body leaves are its four stores. -/
theorem outs (c : Dev nD) (i : grid0.Coords) (a2 : Memref sig .tc .vmem S1024x128 .f32) (h2 : a2.IsWhole) (a3 : Memref sig .tc .vmem S128x384 .f32) (h3 : a3.IsWhole) (a4 : Memref sig .tc .vmem S1024x384 .f32) (h4 : a4.IsWhole) (a5 : Memref sig .tc .vmem S1024x384 .f32) (h5 : a5.IsWhole) (a6 : Memref sig .tc .vmem S1024x384 .f32) (h6 : a6.IsWhole) (a7 : Memref sig .tc .vmem S1024x384 .f32) (h7 : a7.IsWhole) (a8 : Memref sig .tc .vmem S1024x384 .f32) (h8 : a8.IsWhole) (a9 : Memref sig .tc .vmem S1024x384 .f32) (h9 : a9.IsWhole) (a10 : Memref sig .tc .vmem S1024x384 .f32) (h10 : a10.IsWhole)
    (A : Vec Ideal S1024x128 .f32) (B : Vec Ideal S128x384 .f32) (w mo vo : Vec Ideal S1024x384 .f32) (x : TbBuf0 (F := Ideal) c tbM0_0) :
    out0_A_5 c i a2 h2 a3 h3 a4 h4 a5 h5 a6 h6 a7 h7 a8 h8 a9 h9 a10 h10 A B w mo vo x = k0_pay4 A B
    ∧ out0_A_6 c i a2 h2 a3 h3 a4 h4 a5 h5 a6 h6 a7 h7 a8 h8 a9 h9 a10 h10 A B w mo vo x = k0_pay3 (k0_pay4 A B) (k0_pay5 w) (k0_pay6 vo) (k0_pay7 mo) (Scalar.ofBits .f32 0x3DCCCCCD#32)
    ∧ out0_A_7 c i a2 h2 a3 h3 a4 h4 a5 h5 a6 h6 a7 h7 a8 h8 a9 h9 a10 h10 A B w mo vo x = k0_pay1 (k0_pay4 A B) (k0_pay7 mo) (Scalar.ofBits .f32 0x3DCCCCCD#32)
    ∧ out0_A_8 c i a2 h2 a3 h3 a4 h4 a5 h5 a6 h6 a7 h7 a8 h8 a9 h9 a10 h10 A B w mo vo x = k0_pay2 (k0_pay4 A B) (k0_pay6 vo) := by
  refine ⟨funext fun y => ?_, funext fun y => ?_, funext fun y => ?_, funext fun y => ?_⟩ <;> frame_out <;> simp only [Memref.IsWhole.read_unread] <;> try rfl

/-- What the outputs hold after a point. -/
theorem outsAt_eq (c : Dev nD) (t : Fin (cfgM m (ok m)).N) :
    outsAt0 m (ok m) c t = (k0_pay4 (iblk m (ok m) c 0 t) (iblk m (ok m) c 1 t),
      k0_pay3 (k0_pay4 (iblk m (ok m) c 0 t) (iblk m (ok m) c 1 t)) (k0_pay5 (iblk m (ok m) c 2 t)) (k0_pay6 (iblk m (ok m) c 4 t))
        (k0_pay7 (iblk m (ok m) c 3 t)) (Scalar.ofBits .f32 0x3DCCCCCD#32),
      k0_pay1 (k0_pay4 (iblk m (ok m) c 0 t) (iblk m (ok m) c 1 t)) (k0_pay7 (iblk m (ok m) c 3 t)) (Scalar.ofBits .f32 0x3DCCCCCD#32),
      k0_pay2 (k0_pay4 (iblk m (ok m) c 0 t) (iblk m (ok m) c 1 t)) (k0_pay6 (iblk m (ok m) c 4 t))) := by
  unfold outsAt0
  have h := outs c (grid0.coords t) (ms0_0 m (ok m) t) (hs0_0 m (ok m) t) (ms0_1 m (ok m) t) (hs0_1 m (ok m) t) (ms0_2 m (ok m) t) (hs0_2 m (ok m) t)
    (ms0_3 m (ok m) t) (hs0_3 m (ok m) t) (ms0_4 m (ok m) t) (hs0_4 m (ok m) t) (ms0_5 m (ok m) t) (hs0_5 m (ok m) t) (ms0_6 m (ok m) t) (hs0_6 m (ok m) t)
    (ms0_7 m (ok m) t) (hs0_7 m (ok m) t) (ms0_8 m (ok m) t) (hs0_8 m (ok m) t)
    (iblk m (ok m) c 0 t) (iblk m (ok m) c 1 t) (iblk m (ok m) c 2 t) (iblk m (ok m) c 3 t) (iblk m (ok m) c 4 t) (tbl m 0)
  exact congr (congrArg Prod.mk h.1) (congr (congrArg Prod.mk h.2.1) (congr (congrArg Prod.mk h.2.2.1) h.2.2.2))

/-- The four arrays the call leaves. -/
theorem g_array (H : Finite m) (c : Dev nD) : (dats m (ok m) 0 c).arrAt 5 (cfgM m (ok m)).N = gW m c := by
  refine (dats m (ok m) 0 c).arrAt_eq_of_covers 5 _ (of_decide_eq_true (by sl_kernel_rfl)) fun t hf (y : S1024x384.Idx) => ?_
  obtain ⟨a, b, rfl⟩ : ∃ (a : Fin 1024) (b : Fin 384), y = ix2 a b := ⟨y 0, y 1, by funext k; match k with | ⟨0, _⟩ => rfl | ⟨1, _⟩ => rfl⟩
  blk_simp
  rw [after0_5, outsAt_eq]
  have h : ((cfgM m (ok m)).win 5).index t = ![0, 0] := rfl
  have e : (((cfgM m (ok m)).win 5).blk t).view.emb (ix2 a b) = ix2 a b := by blk_ext [h]
  rw [e]
  exact g_at m H c t a b

theorem d_array (H : Finite m) (c : Dev nD) : (dats m (ok m) 0 c).arrAt 6 (cfgM m (ok m)).N = dW m c := by
  refine (dats m (ok m) 0 c).arrAt_eq_of_covers 6 _ (of_decide_eq_true (by sl_kernel_rfl)) fun t hf (y : S1024x384.Idx) => ?_
  obtain ⟨a, b, rfl⟩ : ∃ (a : Fin 1024) (b : Fin 384), y = ix2 a b := ⟨y 0, y 1, by funext k; match k with | ⟨0, _⟩ => rfl | ⟨1, _⟩ => rfl⟩
  blk_simp
  rw [after0_6, outsAt_eq]
  have h : ((cfgM m (ok m)).win 6).index t = ![0, 0] := rfl
  have e : (((cfgM m (ok m)).win 6).blk t).view.emb (ix2 a b) = ix2 a b := by blk_ext [h]
  rw [e]
  exact (stored m H c t a b).1

theorem m_array (H : Finite m) (c : Dev nD) : (dats m (ok m) 0 c).arrAt 7 (cfgM m (ok m)).N = mW m c := by
  refine (dats m (ok m) 0 c).arrAt_eq_of_covers 7 _ (of_decide_eq_true (by sl_kernel_rfl)) fun t hf (y : S1024x384.Idx) => ?_
  obtain ⟨a, b, rfl⟩ : ∃ (a : Fin 1024) (b : Fin 384), y = ix2 a b := ⟨y 0, y 1, by funext k; match k with | ⟨0, _⟩ => rfl | ⟨1, _⟩ => rfl⟩
  blk_simp
  rw [after0_7, outsAt_eq]
  have h : ((cfgM m (ok m)).win 7).index t = ![0, 0] := rfl
  have e : (((cfgM m (ok m)).win 7).blk t).view.emb (ix2 a b) = ix2 a b := by blk_ext [h]
  rw [e]
  exact (stored m H c t a b).2.1

theorem v_array (H : Finite m) (c : Dev nD) : (dats m (ok m) 0 c).arrAt 8 (cfgM m (ok m)).N = vW m c := by
  refine (dats m (ok m) 0 c).arrAt_eq_of_covers 8 _ (of_decide_eq_true (by sl_kernel_rfl)) fun t hf (y : S1024x384.Idx) => ?_
  obtain ⟨a, b, rfl⟩ : ∃ (a : Fin 1024) (b : Fin 384), y = ix2 a b := ⟨y 0, y 1, by funext k; match k with | ⟨0, _⟩ => rfl | ⟨1, _⟩ => rfl⟩
  blk_simp
  rw [after0_8, outsAt_eq]
  have h : ((cfgM m (ok m)).win 8).index t = ![0, 0] := rfl
  have e : (((cfgM m (ok m)).win 8).blk t).view.emb (ix2 a b) = ix2 a b := by blk_ext [h]
  rw [e]
  exact (stored m H c t a b).2.2

/-- The run with its four results. -/
theorem run (H : Finite m) (ρ : Dev nD → PrngReg) :
    θ_run defs (onTc (τ := τ) (main (F := Ideal))) ⟨m, fun _ => 0, ρ⟩ fun r => ∀ c : Dev nD,
      r.2.mem ((c.tc : Thread nD τ).loc main_v14_0) = gW m c
      ∧ r.2.mem ((c.tc : Thread nD τ).loc main_v14_1) = dW m c
      ∧ r.2.mem ((c.tc : Thread nD τ).loc main_v14_2) = mW m c
      ∧ r.2.mem ((c.tc : Thread nD τ).loc main_v14_3) = vW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (g_array m H c), ((h.1 c).1 6).trans (d_array m H c),
      ((h.1 c).1 7).trans (m_array m H c), ((h.1 c).1 8).trans (v_array m H c), h.2 c⟩)
    (θ_run_and (run_main m ρ (ok m)) (unchanged m ρ (ok m)))

end Ideal

end Cert.WadIdeal.Value

namespace Cert.WadRefIdeal.Value

open Cert.WadRefIdeal Cert.WadRefIdeal.Gen Idealize.ShloMosaic Idealize.ShloMosaic.TcCoe Idealize.SL.Sem

variable (m : (ℓ : Loc nD τ sig) → Buf (Elt Ideal) ℓ)

abbrev ac (c : Dev nD) : FVec Ideal S8x1024 .f32 := m ((c : Thread nD τ).loc main_arg0)
abbrev ad (c : Dev nD) : FVec Ideal S8x3072 .f32 := m ((c : Thread nD τ).loc main_arg1)
abbrev aw (c : Dev nD) : FVec Ideal S1x1024x384 .f32 := m ((c : Thread nD τ).loc main_arg2)
abbrev am (c : Dev nD) : FVec Ideal S1x1024x384 .f32 := m ((c : Thread nD τ).loc main_arg3)
abbrev av (c : Dev nD) : FVec Ideal S1x1024x384 .f32 := m ((c : Thread nD τ).loc main_arg4)

/-- The four results: the gradient, the step, the two moments. -/
abbrev gW (c : Dev nD) : FVec Ideal S1024x384 .f32 := fun i => Cert.Hand.gAda (ac m c) (ad m c) (i 0) (i 1)
abbrev dW (c : Dev nD) : FVec Ideal S1024x384 .f32 := fun i =>
  Cert.Hand.delta (aw m c (ix3 0 (i 0) (i 1))) (gW m c i) (am m c (ix3 0 (i 0) (i 1))) (av m c (ix3 0 (i 0) (i 1)))
abbrev mW (c : Dev nD) : FVec Ideal S1024x384 .f32 := fun i => Cert.Hand.newM (am m c (ix3 0 (i 0) (i 1))) (gW m c i)
abbrev vW (c : Dev nD) : FVec Ideal S1024x384 .f32 := fun i => Cert.Hand.newV (av m c (ix3 0 (i 0) (i 1))) (gW m c i)

set_option maxHeartbeats 2000000 in
/-- The reference's run with its four results given entry by entry. -/
theorem run_entries (ρ : Dev nD → PrngReg) :
    θ_run defs (onTc (τ := τ) (main (F := Ideal))) ⟨m, fun _ => 0, ρ⟩ fun r => ∀ c : Dev nD,
      r.2.mem ((c.tc : Thread nD τ).loc main_v5) = gW m c
      ∧ r.2.mem ((c.tc : Thread nD τ).loc main_v32) = dW m c
      ∧ r.2.mem ((c.tc : Thread nD τ).loc main_v13) = mW m c
      ∧ r.2.mem ((c.tc : Thread nD τ).loc main_v19) = vW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2.1.trans (funext fun i => ?_),
    (h c).2.2.1.trans (funext fun i => ?_), (h c).2.2.2.1.trans (funext fun i => ?_), (h c).2.2.2.2⟩) (run m ρ) <;>
  · obtain ⟨a, b, rfl⟩ : ∃ (a : Fin 1024) (b : Fin 384), i = ix2 a b := ⟨i 0, i 1, by funext k; match k with | ⟨0, _⟩ => rfl | ⟨1, _⟩ => rfl⟩
    clean_types
    pointwise
    rfl

end Cert.WadRefIdeal.Value

namespace Cert.WadPair

open Idealize.ShloMosaic Idealize.SL.Sem

/-- The precondition's side conditions. -/
theorem preFacts : Cert.Pre_reals.Facts := by
  constructor <;> decide

attribute [local instance] preFacts

/-- Under the precondition the conditioning and its gradient are real numbers. -/
theorem finite (m : (ℓ : Loc Cert.WadIdeal.nD Cert.WadIdeal.τ Cert.WadIdeal.sig) → Buf (Elt Ideal) ℓ) (h : Cert.Pre_WadIdeal_reals m) :
    Cert.WadIdeal.Value.Finite m := by
  intro c
  obtain ⟨h0, h1⟩ := h c
  have top : Ideal.ofBits .f32 0x7F800000#32 = ⊤ := by simp [Ideal.ofBits, Ideal.ieee]
  refine ⟨fun i => ?_, fun i => ?_⟩
  · have h2 : Ideal.cmp .olt (max (Cert.WadIdeal.Value.ac m c i) (-(Cert.WadIdeal.Value.ac m c i))) (Ideal.ofBits .f32 0x7F800000#32) = 1#1 := congrFun h0 i
    rw [top] at h2
    exact Cert.HgPair.real_of_lt _ h2
  · have h2 : Ideal.cmp .olt (max (Cert.WadIdeal.Value.ad m c i) (-(Cert.WadIdeal.Value.ad m c i))) (Ideal.ofBits .f32 0x7F800000#32) = 1#1 := congrFun h1 i
    rw [top] at h2
    exact Cert.HgPair.real_of_lt _ h2

/-- The reference's frame: no operation writes an argument, and the program declares no semaphore. -/
theorem frame_ref : Cert.quiescent_WadRefIdeal := by
  intro m ρ _
  exact (θ_run Cert.WadRefIdeal.defs _ _).mono
    (fun r h => ⟨fun c => (h c).2.2.2.2, sem_eq_zero_of_no_sems (by decide) r.2⟩) (Cert.WadRefIdeal.Value.run m ρ)

/-- The gradient, the step and the two moments are the reference's. -/
theorem update : Cert.algebraic_WadIdeal_WadRefIdeal_pre_reals := by
  intro m g m' g' hpre hagree
  refine ⟨fun c => Cert.WadIdeal.Value.gW m c, fun c => Cert.WadIdeal.Value.dW m c, fun c => Cert.WadIdeal.Value.mW m c, fun c => Cert.WadIdeal.Value.vW m c,
    Cert.WadIdeal.Value.run m (finite m hpre) g, ?_⟩
  refine (θ_run _ _ _).mono (fun r h c => ?_) (Cert.WadRefIdeal.Value.run_entries m' g')
  obtain ⟨e0, e1, e2, e3, e4⟩ := hagree c
  have hg := congr (congrArg (fun (x : FVec Ideal ⟨2, ![8, 1024]⟩ .f32) (y : FVec Ideal ⟨2, ![8, 3072]⟩ .f32)
    (i : Shape.Idx ⟨2, ![1024, 384]⟩) => Cert.Hand.gAda x y (i 0) (i 1)) e0) e1
  have eg : Cert.WadRefIdeal.Value.gW m' c = Cert.WadIdeal.Value.gW m c := hg
  refine ⟨(h c).1.trans eg, (h c).2.1.trans (funext fun i => ?_), (h c).2.2.1.trans (funext fun i => ?_),
    (h c).2.2.2.1.trans (funext fun i => ?_), (h c).2.2.2.2⟩
  · have hd := congr (congr (congr (congrArg Cert.Hand.delta (congrFun e2 (ix3 0 (i 0) (i 1)))) (congrFun eg i)) (congrFun e3 (ix3 0 (i 0) (i 1)))) (congrFun e4 (ix3 0 (i 0) (i 1)))
    exact hd
  · have hm := congr (congrArg Cert.Hand.newM (congrFun e3 (ix3 0 (i 0) (i 1)))) (congrFun eg i)
    exact hm
  · have hv := congr (congrArg Cert.Hand.newV (congrFun e4 (ix3 0 (i 0) (i 1)))) (congrFun eg i)
    exact hv

end Cert.WadPair
end
-- ==== Proof.ShdPair.lean ====
module

public import proofs.«01_k».proof.Proof.InpMath
public import proofs.«01_k».proof.Proof.Adam
public import proofs.«01_k».proof.Proof.Gen.ShdIdeal.Frame
public import proofs.«01_k».proof.Proof.Gen.Shd.Frame
public import proofs.«01_k».proof.Proof.Gen.ShdRefIdeal.Run
public import Idealize.ShloMosaic.Lib.Pipeline.ValueKit
public import Idealize.ShloMosaic.Lib.Tactic.CleanTypes
public import proofs.«01_k».proof.Defs

@[expose] public section

set_option maxRecDepth 16384
noncomputable section

/-! The update of a sharded weight: the chip's partial sum and the three received ones, against the sum over the devices. -/

namespace Cert.Hand

open Idealize.ShloMosaic

/-- The sum of the gradients of a chip's two devices. -/
def chip (d : FVec Ideal ⟨3, ![8, 1024, 1152]⟩ .f32) (q : Fin 4) (a : Fin 1024) (b : Fin 1152) : EReal :=
  d (ix3 ⟨2 * q.val, by omega⟩ a b) + d (ix3 ⟨1 + 2 * q.val, by omega⟩ a b)

/-- The gradient: the sum over the devices. -/
def gShd (d : FVec Ideal ⟨3, ![8, 1024, 1152]⟩ .f32) (a : Fin 1024) (b : Fin 1152) : EReal := ∑ e : Fin 8, d (ix3 e a b)

/-- The chips' sums in the order in which the kernel adds them. -/
theorem chips (d : FVec Ideal ⟨3, ![8, 1024, 1152]⟩ .f32) (a : Fin 1024) (b : Fin 1152) :
    chip d 2 a b + chip d 0 a b + chip d 3 a b + chip d 1 a b = gShd d a b := by
  unfold gShd chip
  rw [Fin.sum_univ_eight]
  show (d (ix3 4 a b) + d (ix3 5 a b)) + (d (ix3 0 a b) + d (ix3 1 a b)) + (d (ix3 6 a b) + d (ix3 7 a b)) + (d (ix3 2 a b) + d (ix3 3 a b)) = _
  ac_rfl

end Cert.Hand

namespace Cert.Shd.Value

open Cert.Shd Cert.Shd.Gen Idealize.ShloMosaic Idealize.ShloMosaic.TcCoe Idealize.SL.Sem

variable {F : FTy → Type} [FloatOps F]
variable (m : (ℓ : Loc nD τ sig) → Buf (Elt F) ℓ)

/-- The prefetched word is the chip's number. -/
theorem word (c : Dev nD) : V m c main_v14 = fun _ => (2 : BitVec 32) := by
  funext i
  entry_read
  rfl

/-- So the first window's blocks are the rows of the chip's sum. -/
theorem index0 (i : grid0.Coords) : cc0_transform_0 inb_S1_S1_0 numel1_S1 (tbl m) i = ![2, (cc0_transform_4 i) 0, 0] := by
  have h : (tbl m).at 0 (Rect.unit (s := S1) ![0] S1.size inb_S1_S1_0) numel1_S1 = (2 : BitVec 32) := congrFun (word m 0) _
  unfold cc0_transform_0
  dsimp only
  rw [h]
  rfl

/-- Every window's index at a point. -/
theorem idx : ∀ t : Fin grid0.N, cc0_transform_1 (grid0.coords t) = ![0, t.val, 0] ∧ cc0_transform_2 (grid0.coords t) = ![1, t.val, 0]
    ∧ cc0_transform_3 (grid0.coords t) = ![2, t.val, 0] ∧ cc0_transform_4 (grid0.coords t) = ![t.val, 0] := by decide +kernel

/-- The first window's blocks lie inside the array, and end at whole words. -/
theorem fixed : ∀ i : grid0.Coords, ∃ h : (∀ a, ((![2, (cc0_transform_4 i) 0, 0] : Fin 3 → Nat) a + 1) * S1x256x1152.size a ≤ S4x1024x1152.size a),
    EltTy.bits .bf16 = 32 ∨ (Rect.block (s := S4x1024x1152) S1x256x1152.size ![2, (cc0_transform_4 i) 0, 0] h).WholeWords (EltTy.packing .bf16) := by
  decide +kernel

/-- The launch's side condition. -/
theorem ok : Ok m := by
  intro i
  have h := fixed i
  rw [← index0 m i] at h
  exact h

end Cert.Shd.Value

namespace Cert.ShdIdeal.Value

open Cert.ShdIdeal Cert.ShdIdeal.Gen Idealize.ShloMosaic Idealize.ShloMosaic.TcCoe Idealize.SL.Sem

variable {F : FTy → Type} [FloatOps F]
variable (m : (ℓ : Loc nD τ sig) → Buf (Elt F) ℓ)

/-- The prefetched word is the chip's number. -/
theorem word (c : Dev nD) : V m c main_v14 = fun _ => (2 : BitVec 32) := by
  funext i
  entry_read
  rfl

/-- So the first window's blocks are the rows of the chip's sum. -/
theorem index0 (i : grid0.Coords) : cc0_transform_0 inb_S1_S1_0 numel1_S1 (tbl m) i = ![2, (cc0_transform_4 i) 0, 0] := by
  have h : (tbl m).at 0 (Rect.unit (s := S1) ![0] S1.size inb_S1_S1_0) numel1_S1 = (2 : BitVec 32) := congrFun (word m 0) _
  unfold cc0_transform_0
  dsimp only
  rw [h]
  rfl

/-- Every window's index at a point. -/
theorem idx : ∀ t : Fin grid0.N, cc0_transform_1 (grid0.coords t) = ![0, t.val, 0] ∧ cc0_transform_2 (grid0.coords t) = ![1, t.val, 0]
    ∧ cc0_transform_3 (grid0.coords t) = ![2, t.val, 0] ∧ cc0_transform_4 (grid0.coords t) = ![t.val, 0] := by decide +kernel

/-- The first window's blocks lie inside the array, and end at whole words. -/
theorem fixed : ∀ i : grid0.Coords, ∃ h : (∀ a, ((![2, (cc0_transform_4 i) 0, 0] : Fin 3 → Nat) a + 1) * S1x256x1152.size a ≤ S4x1024x1152.size a),
    EltTy.bits .bf16 = 32 ∨ (Rect.block (s := S4x1024x1152) S1x256x1152.size ![2, (cc0_transform_4 i) 0, 0] h).WholeWords (EltTy.packing .bf16) := by
  decide +kernel

/-- The launch's side condition. -/
theorem ok : Ok m := by
  intro i
  have h := fixed i
  rw [← index0 m i] at h
  exact h

section Ideal

variable (m : (ℓ : Loc nD τ sig) → Buf (Elt Ideal) ℓ)

/-- The arguments. -/
abbrev ad (c : Dev nD) : FVec Ideal S8x1024x1152 .f32 := m ((c : Thread nD τ).loc main_arg0)
abbrev aw (c : Dev nD) : FVec Ideal S1x1024x1152 .f32 := m ((c : Thread nD τ).loc main_arg1)
abbrev am (c : Dev nD) : FVec Ideal S1x1024x1152 .f32 := m ((c : Thread nD τ).loc main_arg2)
abbrev av (c : Dev nD) : FVec Ideal S1x1024x1152 .f32 := m ((c : Thread nD τ).loc main_arg3)

/-- The chips' sums, as the host forms them. -/
abbrev sums (c : Dev nD) : FVec Ideal S4x1024x1152 .bf16 := truncf .bf16 (addf
    (Host.slice S4x1024x1152 ![0, 0, 0] ![2, 1, 1] (ad m c) slicesBy_S8x1024x1152_S4x1024x1152_0s2_0s1_0s1)
    (Host.slice S4x1024x1152 ![1, 0, 0] ![2, 1, 1] (ad m c) slicesBy_S8x1024x1152_S4x1024x1152_1s2_0s1_0s1)) bitsLt_bf16_f32

/-- They are, entry by entry: a change of precision is the identity on the extended reals. -/
theorem sums_at (c : Dev nD) (q : Fin 4) (a : Fin 1024) (b : Fin 1152) : sums m c (ix3 q a b) = Cert.Hand.chip (ad m c) q a b := by
  unfold sums Cert.Hand.chip
  pointwise

/-- The call's first array, and the stack of the three sums that the other chips send. -/
theorem v3 (c : Dev nD) : V m c main_v3 = sums m c := rfl

theorem v13 (c : Dev nD) : V m c main_v13 = concatenate S3x1024x1152 0
    [⟨S1x1024x1152, broadcastInDim S1x1024x1152 ![1, 2] bcast_S1024x1152_S1x1024x1152_1_2 (shapeCast S1024x1152 (extractStridedSlice S1x1024x1152 ![0, 0, 0] (sums m c) slices_S4x1024x1152_S1x1024x1152_0_0_0) shapeCasts_S1x1024x1152_S1024x1152)⟩,
     ⟨S1x1024x1152, broadcastInDim S1x1024x1152 ![1, 2] bcast_S1024x1152_S1x1024x1152_1_2 (shapeCast S1024x1152 (extractStridedSlice S1x1024x1152 ![3, 0, 0] (sums m c) slices_S4x1024x1152_S1x1024x1152_3_0_0) shapeCasts_S1x1024x1152_S1024x1152)⟩,
     ⟨S1x1024x1152, broadcastInDim S1x1024x1152 ![1, 2] bcast_S1024x1152_S1x1024x1152_1_2 (shapeCast S1024x1152 (extractStridedSlice S1x1024x1152 ![1, 0, 0] (sums m c) slices_S4x1024x1152_S1x1024x1152_1_0_0) shapeCasts_S1x1024x1152_S1024x1152)⟩]
    concatenates_S1x1024x1152_S1x1024x1152_S1x1024x1152_S3x1024x1152_d0 := rfl

/-- A point's rows are rows of the shard. -/
theorem row_lt (t : Fin (cfgM m (ok m)).N) (p : Fin 256) : t.val * 256 + p.val < 1024 := by
  have h : t.val < 4 := t.isLt
  omega

/-- The stack's entries. -/
theorem received_at (c : Dev nD) (a : Fin 1024) (b : Fin 1152) :
    (show FVec Ideal S3x1024x1152 .bf16 from V m c main_v13) (ix3 0 a b) = Cert.Hand.chip (ad m c) 0 a b
    ∧ (show FVec Ideal S3x1024x1152 .bf16 from V m c main_v13) (ix3 1 a b) = Cert.Hand.chip (ad m c) 3 a b
    ∧ (show FVec Ideal S3x1024x1152 .bf16 from V m c main_v13) (ix3 2 a b) = Cert.Hand.chip (ad m c) 1 a b := by
  rw [v13, ← sums_at, ← sums_at, ← sums_at]
  refine ⟨?_, ?_, ?_⟩ <;> pointwise <;> rfl

/-- The blocks the body is given: the chip's own sum, -/
theorem own_blk (c : Dev nD) (t : Fin (cfgM m (ok m)).N) (p : Fin 256) (b : Fin 1152) :
    (show FVec Ideal S1x256x1152 .bf16 from iblk m (ok m) c 0 t) (ix3 0 p b) = Cert.Hand.chip (ad m c) 2 ⟨t.val * 256 + p.val, row_lt m t p⟩ b := by
  have h : ((cfgM m (ok m)).win 0).index t = ![2, t.val, 0] := (index0 m (grid0.coords t)).trans (by rw [(idx t).2.2.2]; rfl)
  have e : (((cfgM m (ok m)).win 0).blk t).view.emb (ix3 0 p b) = ix3 (2 : Fin 4) (⟨t.val * 256 + p.val, row_lt m t p⟩ : Fin 1024) b := by blk_ext [h]
  show V m c main_v3 ((((cfgM m (ok m)).win 0).blk t).view.emb (ix3 0 p b)) = _
  rw [e, v3]
  exact sums_at m c 2 _ b

/-- the three received ones, -/
theorem rec_blk0 (c : Dev nD) (t : Fin (cfgM m (ok m)).N) (p : Fin 256) (b : Fin 1152) :
    (show FVec Ideal S1x256x1152 .bf16 from iblk m (ok m) c 1 t) (ix3 0 p b) = Cert.Hand.chip (ad m c) 0 ⟨t.val * 256 + p.val, row_lt m t p⟩ b := by
  have h : ((cfgM m (ok m)).win 1).index t = ![0, t.val, 0] := (idx t).1
  have e : (((cfgM m (ok m)).win 1).blk t).view.emb (ix3 0 p b) = ix3 (0 : Fin 3) (⟨t.val * 256 + p.val, row_lt m t p⟩ : Fin 1024) b := by blk_ext [h]
  show V m c main_v13 ((((cfgM m (ok m)).win 1).blk t).view.emb (ix3 0 p b)) = _
  rw [e]
  exact (received_at m c _ b).1

theorem rec_blk1 (c : Dev nD) (t : Fin (cfgM m (ok m)).N) (p : Fin 256) (b : Fin 1152) :
    (show FVec Ideal S1x256x1152 .bf16 from iblk m (ok m) c 2 t) (ix3 0 p b) = Cert.Hand.chip (ad m c) 3 ⟨t.val * 256 + p.val, row_lt m t p⟩ b := by
  have h : ((cfgM m (ok m)).win 2).index t = ![1, t.val, 0] := (idx t).2.1
  have e : (((cfgM m (ok m)).win 2).blk t).view.emb (ix3 0 p b) = ix3 (1 : Fin 3) (⟨t.val * 256 + p.val, row_lt m t p⟩ : Fin 1024) b := by blk_ext [h]
  show V m c main_v13 ((((cfgM m (ok m)).win 2).blk t).view.emb (ix3 0 p b)) = _
  rw [e]
  exact (received_at m c _ b).2.1

theorem rec_blk2 (c : Dev nD) (t : Fin (cfgM m (ok m)).N) (p : Fin 256) (b : Fin 1152) :
    (show FVec Ideal S1x256x1152 .bf16 from iblk m (ok m) c 3 t) (ix3 0 p b) = Cert.Hand.chip (ad m c) 1 ⟨t.val * 256 + p.val, row_lt m t p⟩ b := by
  have h : ((cfgM m (ok m)).win 3).index t = ![2, t.val, 0] := (idx t).2.2.1
  have e : (((cfgM m (ok m)).win 3).blk t).view.emb (ix3 0 p b) = ix3 (2 : Fin 3) (⟨t.val * 256 + p.val, row_lt m t p⟩ : Fin 1024) b := by blk_ext [h]
  show V m c main_v13 ((((cfgM m (ok m)).win 3).blk t).view.emb (ix3 0 p b)) = _
  rw [e]
  exact (received_at m c _ b).2.2

/-- the weight and its moments. -/
theorem w_blk (c : Dev nD) (t : Fin (cfgM m (ok m)).N) (p : Fin 256) (b : Fin 1152) :
    (show FVec Ideal S256x1152 .f32 from iblk m (ok m) c 4 t) (ix2 p b) = aw m c (ix3 0 ⟨t.val * 256 + p.val, row_lt m t p⟩ b) := by
  have h : ((cfgM m (ok m)).win 4).index t = ![t.val, 0] := (idx t).2.2.2
  have e : (((cfgM m (ok m)).win 4).blk t).view.emb (ix2 p b) = ix2 (⟨t.val * 256 + p.val, row_lt m t p⟩ : Fin 1024) b := by blk_ext [h]
  show V m c main_v15 ((((cfgM m (ok m)).win 4).blk t).view.emb (ix2 p b)) = _
  rw [e, show V m c main_v15 = shapeCast S1024x1152 (aw m c) shapeCasts_S1x1024x1152_S1024x1152 from rfl]
  pointwise

theorem m_blk (c : Dev nD) (t : Fin (cfgM m (ok m)).N) (p : Fin 256) (b : Fin 1152) :
    (show FVec Ideal S256x1152 .f32 from iblk m (ok m) c 5 t) (ix2 p b) = am m c (ix3 0 ⟨t.val * 256 + p.val, row_lt m t p⟩ b) := by
  have h : ((cfgM m (ok m)).win 5).index t = ![t.val, 0] := (idx t).2.2.2
  have e : (((cfgM m (ok m)).win 5).blk t).view.emb (ix2 p b) = ix2 (⟨t.val * 256 + p.val, row_lt m t p⟩ : Fin 1024) b := by blk_ext [h]
  show V m c main_v16 ((((cfgM m (ok m)).win 5).blk t).view.emb (ix2 p b)) = _
  rw [e, show V m c main_v16 = shapeCast S1024x1152 (am m c) shapeCasts_S1x1024x1152_S1024x1152 from rfl]
  pointwise

theorem v_blk (c : Dev nD) (t : Fin (cfgM m (ok m)).N) (p : Fin 256) (b : Fin 1152) :
    (show FVec Ideal S256x1152 .f32 from iblk m (ok m) c 6 t) (ix2 p b) = av m c (ix3 0 ⟨t.val * 256 + p.val, row_lt m t p⟩ b) := by
  have h : ((cfgM m (ok m)).win 6).index t = ![t.val, 0] := (idx t).2.2.2
  have e : (((cfgM m (ok m)).win 6).blk t).view.emb (ix2 p b) = ix2 (⟨t.val * 256 + p.val, row_lt m t p⟩ : Fin 1024) b := by blk_ext [h]
  show V m c main_v17 ((((cfgM m (ok m)).win 6).blk t).view.emb (ix2 p b)) = _
  rw [e, show V m c main_v17 = shapeCast S1024x1152 (av m c) shapeCasts_S1x1024x1152_S1024x1152 from rfl]
  pointwise

/-- What the body stores, entry by entry. -/
theorem pays (x0 x1 x2 x3 : FVec Ideal S1x256x1152 .bf16) (w mo vo : FVec Ideal S256x1152 .f32) (p : Fin 256) (b : Fin 1152) :
    k0_pay2 (F := Ideal) x0 x1 x2 x3 (ix2 p b) = ((x0 (ix3 0 p b) + x1 (ix3 0 p b)) + x2 (ix3 0 p b)) + x3 (ix3 0 p b)
    ∧ k0_pay1 (F := Ideal) (k0_pay3 w) (k0_pay4 x0 x1 x2 x3 mo) (k0_pay5 x0 x1 x2 x3 vo) (Scalar.ofBits .f32 0x3F26BD02#32) (ix2 p b)
        = Cert.Hand.delta (w (ix2 p b)) (k0_pay2 (F := Ideal) x0 x1 x2 x3 (ix2 p b)) (mo (ix2 p b)) (vo (ix2 p b))
    ∧ k0_pay4 (F := Ideal) x0 x1 x2 x3 mo (ix2 p b) = Cert.Hand.newM (mo (ix2 p b)) (k0_pay2 (F := Ideal) x0 x1 x2 x3 (ix2 p b))
    ∧ k0_pay5 (F := Ideal) x0 x1 x2 x3 vo (ix2 p b) = Cert.Hand.newV (vo (ix2 p b)) (k0_pay2 (F := Ideal) x0 x1 x2 x3 (ix2 p b)) := by
  refine ⟨?_, ?_, ?_, ?_⟩
  · unfold k0_pay2
    pointwise
  · unfold k0_pay1 k0_pay3 k0_pay4 k0_pay5
    pointwise
    rfl
  · unfold k0_pay4
    pointwise
    rfl
  · unfold k0_pay5
    pointwise
    rfl

/-- The four results: the gradient, the step, the two moments. -/
abbrev gW (c : Dev nD) : FVec Ideal S1024x1152 .f32 := fun i => Cert.Hand.gShd (ad m c) (i 0) (i 1)
abbrev dW (c : Dev nD) : FVec Ideal S1024x1152 .f32 := fun i =>
  Cert.Hand.delta (aw m c (ix3 0 (i 0) (i 1))) (gW m c i) (am m c (ix3 0 (i 0) (i 1))) (av m c (ix3 0 (i 0) (i 1)))
abbrev mW (c : Dev nD) : FVec Ideal S1024x1152 .f32 := fun i => Cert.Hand.newM (am m c (ix3 0 (i 0) (i 1))) (gW m c i)
abbrev vW (c : Dev nD) : FVec Ideal S1024x1152 .f32 := fun i => Cert.Hand.newV (av m c (ix3 0 (i 0) (i 1))) (gW m c i)

/-- What a point stores, entry by entry. -/
theorem stored (c : Dev nD) (t : Fin (cfgM m (ok m)).N) (p : Fin 256) (b : Fin 1152) :
    k0_pay2 (F := Ideal) (iblk m (ok m) c 0 t) (iblk m (ok m) c 1 t) (iblk m (ok m) c 2 t) (iblk m (ok m) c 3 t) (ix2 p b)
        = gW m c (ix2 ⟨t.val * 256 + p.val, row_lt m t p⟩ b)
    ∧ k0_pay1 (F := Ideal) (k0_pay3 (iblk m (ok m) c 4 t))
          (k0_pay4 (iblk m (ok m) c 0 t) (iblk m (ok m) c 1 t) (iblk m (ok m) c 2 t) (iblk m (ok m) c 3 t) (iblk m (ok m) c 5 t))
          (k0_pay5 (iblk m (ok m) c 0 t) (iblk m (ok m) c 1 t) (iblk m (ok m) c 2 t) (iblk m (ok m) c 3 t) (iblk m (ok m) c 6 t))
          (Scalar.ofBits .f32 0x3F26BD02#32) (ix2 p b)
        = dW m c (ix2 ⟨t.val * 256 + p.val, row_lt m t p⟩ b)
    ∧ k0_pay4 (F := Ideal) (iblk m (ok m) c 0 t) (iblk m (ok m) c 1 t) (iblk m (ok m) c 2 t) (iblk m (ok m) c 3 t) (iblk m (ok m) c 5 t) (ix2 p b)
        = mW m c (ix2 ⟨t.val * 256 + p.val, row_lt m t p⟩ b)
    ∧ k0_pay5 (F := Ideal) (iblk m (ok m) c 0 t) (iblk m (ok m) c 1 t) (iblk m (ok m) c 2 t) (iblk m (ok m) c 3 t) (iblk m (ok m) c 6 t) (ix2 p b)
        = vW m c (ix2 ⟨t.val * 256 + p.val, row_lt m t p⟩ b) := by
  obtain ⟨h2, h1, h4, h5⟩ := pays (iblk m (ok m) c 0 t) (iblk m (ok m) c 1 t) (iblk m (ok m) c 2 t) (iblk m (ok m) c 3 t) (iblk m (ok m) c 4 t) (iblk m (ok m) c 5 t) (iblk m (ok m) c 6 t) p b
  have e := congr (congrArg HAdd.hAdd (congr (congrArg HAdd.hAdd (congr (congrArg HAdd.hAdd (own_blk m c t p b)) (rec_blk0 m c t p b))) (rec_blk1 m c t p b))) (rec_blk2 m c t p b)
  have eg := (h2.trans e).trans (Cert.Hand.chips (ad m c) ⟨t.val * 256 + p.val, row_lt m t p⟩ b)
  have ew := w_blk m c t p b
  have em := m_blk m c t p b
  have ev := v_blk m c t p b
  exact ⟨eg, h1.trans (congr (congr (congr (congrArg Cert.Hand.delta ew) eg) em) ev), h4.trans (congr (congrArg Cert.Hand.newM em) eg),
    h5.trans (congr (congrArg Cert.Hand.newV ev) eg)⟩

/-- The four blocks a run of the body leaves are its four stores. -/
theorem outs (c : Dev nD) (i : grid0.Coords) (a2 : Memref sig .tc .vmem S1x256x1152 .bf16) (h2 : a2.IsWhole) (a3 : Memref sig .tc .vmem S1x256x1152 .bf16) (h3 : a3.IsWhole) (a4 : Memref sig .tc .vmem S1x256x1152 .bf16) (h4 : a4.IsWhole) (a5 : Memref sig .tc .vmem S1x256x1152 .bf16) (h5 : a5.IsWhole) (a6 : Memref sig .tc .vmem S256x1152 .f32) (h6 : a6.IsWhole) (a7 : Memref sig .tc .vmem S256x1152 .f32) (h7 : a7.IsWhole) (a8 : Memref sig .tc .vmem S256x1152 .f32) (h8 : a8.IsWhole) (a9 : Memref sig .tc .vmem S256x1152 .f32) (h9 : a9.IsWhole) (a10 : Memref sig .tc .vmem S256x1152 .f32) (h10 : a10.IsWhole) (a11 : Memref sig .tc .vmem S256x1152 .f32) (h11 : a11.IsWhole) (a12 : Memref sig .tc .vmem S256x1152 .f32) (h12 : a12.IsWhole)
    (x0 x1 x2 x3 : Vec Ideal S1x256x1152 .bf16) (w mo vo : Vec Ideal S256x1152 .f32) (x : TbBuf0 (F := Ideal) c tbM0_0) :
    out0_A_7 c i a2 h2 a3 h3 a4 h4 a5 h5 a6 h6 a7 h7 a8 h8 a9 h9 a10 h10 a11 h11 a12 h12 x0 x1 x2 x3 w mo vo x = k0_pay2 x0 x1 x2 x3
    ∧ out0_A_8 c i a2 h2 a3 h3 a4 h4 a5 h5 a6 h6 a7 h7 a8 h8 a9 h9 a10 h10 a11 h11 a12 h12 x0 x1 x2 x3 w mo vo x = k0_pay1 (k0_pay3 w) (k0_pay4 x0 x1 x2 x3 mo) (k0_pay5 x0 x1 x2 x3 vo) (Scalar.ofBits .f32 0x3F26BD02#32)
    ∧ out0_A_9 c i a2 h2 a3 h3 a4 h4 a5 h5 a6 h6 a7 h7 a8 h8 a9 h9 a10 h10 a11 h11 a12 h12 x0 x1 x2 x3 w mo vo x = k0_pay4 x0 x1 x2 x3 mo
    ∧ out0_A_10 c i a2 h2 a3 h3 a4 h4 a5 h5 a6 h6 a7 h7 a8 h8 a9 h9 a10 h10 a11 h11 a12 h12 x0 x1 x2 x3 w mo vo x = k0_pay5 x0 x1 x2 x3 vo := by
  refine ⟨funext fun y => ?_, funext fun y => ?_, funext fun y => ?_, funext fun y => ?_⟩ <;> frame_out <;> simp only [Memref.IsWhole.read_unread] <;> try rfl

/-- What the outputs hold after a point. -/
theorem outsAt_eq (c : Dev nD) (t : Fin (cfgM m (ok m)).N) :
    outsAt0 m (ok m) c t = (k0_pay2 (iblk m (ok m) c 0 t) (iblk m (ok m) c 1 t) (iblk m (ok m) c 2 t) (iblk m (ok m) c 3 t),
      k0_pay1 (k0_pay3 (iblk m (ok m) c 4 t)) (k0_pay4 (iblk m (ok m) c 0 t) (iblk m (ok m) c 1 t) (iblk m (ok m) c 2 t) (iblk m (ok m) c 3 t) (iblk m (ok m) c 5 t)) (k0_pay5 (iblk m (ok m) c 0 t) (iblk m (ok m) c 1 t) (iblk m (ok m) c 2 t) (iblk m (ok m) c 3 t) (iblk m (ok m) c 6 t)) (Scalar.ofBits .f32 0x3F26BD02#32),
      k0_pay4 (iblk m (ok m) c 0 t) (iblk m (ok m) c 1 t) (iblk m (ok m) c 2 t) (iblk m (ok m) c 3 t) (iblk m (ok m) c 5 t),
      k0_pay5 (iblk m (ok m) c 0 t) (iblk m (ok m) c 1 t) (iblk m (ok m) c 2 t) (iblk m (ok m) c 3 t) (iblk m (ok m) c 6 t)) := by
  unfold outsAt0
  have h := outs c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) (ms0_5 m (ok m) t) (hs0_5 m (ok m) t) (ms0_6 m (ok m) t) (hs0_6 m (ok m) t) (ms0_7 m (ok m) t) (hs0_7 m (ok m) t)
    (ms0_8 m (ok m) t) (hs0_8 m (ok m) t) (ms0_9 m (ok m) t) (hs0_9 m (ok m) t) (ms0_10 m (ok m) t) (hs0_10 m (ok m) t)
    (iblk m (ok m) c 0 t) (iblk m (ok m) c 1 t) (iblk m (ok m) c 2 t) (iblk m (ok m) c 3 t) (iblk m (ok m) c 4 t) (iblk m (ok m) c 5 t) (iblk m (ok m) c 6 t) (tbl m 0)
  exact congr (congrArg Prod.mk h.1) (congr (congrArg Prod.mk h.2.1) (congr (congrArg Prod.mk h.2.2.1) h.2.2.2))

/-- The four arrays the call leaves. -/
theorem g_array (c : Dev nD) : (dats m (ok m) 0 c).arrAt 7 (cfgM m (ok m)).N = gW m c := by
  refine (dats m (ok m) 0 c).arrAt_eq_of_covers 7 _ (of_decide_eq_true (by sl_kernel_rfl)) fun t hf (y : S256x1152.Idx) => ?_
  obtain ⟨p, b, rfl⟩ : ∃ (p : Fin 256) (b : Fin 1152), y = ix2 p b := ⟨y 0, y 1, by funext k; match k with | ⟨0, _⟩ => rfl | ⟨1, _⟩ => rfl⟩
  blk_simp
  rw [after0_7, outsAt_eq]
  have h : ((cfgM m (ok m)).win 7).index t = ![t.val, 0] := (idx t).2.2.2
  have e : (((cfgM m (ok m)).win 7).blk t).view.emb (ix2 p b) = ix2 (⟨t.val * 256 + p.val, row_lt m t p⟩ : Fin 1024) b := by blk_ext [h]
  rw [e]
  exact (stored m c t p b).1

theorem d_array (c : Dev nD) : (dats m (ok m) 0 c).arrAt 8 (cfgM m (ok m)).N = dW m c := by
  refine (dats m (ok m) 0 c).arrAt_eq_of_covers 8 _ (of_decide_eq_true (by sl_kernel_rfl)) fun t hf (y : S256x1152.Idx) => ?_
  obtain ⟨p, b, rfl⟩ : ∃ (p : Fin 256) (b : Fin 1152), y = ix2 p b := ⟨y 0, y 1, by funext k; match k with | ⟨0, _⟩ => rfl | ⟨1, _⟩ => rfl⟩
  blk_simp
  rw [after0_8, outsAt_eq]
  have h : ((cfgM m (ok m)).win 8).index t = ![t.val, 0] := (idx t).2.2.2
  have e : (((cfgM m (ok m)).win 8).blk t).view.emb (ix2 p b) = ix2 (⟨t.val * 256 + p.val, row_lt m t p⟩ : Fin 1024) b := by blk_ext [h]
  rw [e]
  exact (stored m c t p b).2.1

theorem m_array (c : Dev nD) : (dats m (ok m) 0 c).arrAt 9 (cfgM m (ok m)).N = mW m c := by
  refine (dats m (ok m) 0 c).arrAt_eq_of_covers 9 _ (of_decide_eq_true (by sl_kernel_rfl)) fun t hf (y : S256x1152.Idx) => ?_
  obtain ⟨p, b, rfl⟩ : ∃ (p : Fin 256) (b : Fin 1152), y = ix2 p b := ⟨y 0, y 1, by funext k; match k with | ⟨0, _⟩ => rfl | ⟨1, _⟩ => rfl⟩
  blk_simp
  rw [after0_9, outsAt_eq]
  have h : ((cfgM m (ok m)).win 9).index t = ![t.val, 0] := (idx t).2.2.2
  have e : (((cfgM m (ok m)).win 9).blk t).view.emb (ix2 p b) = ix2 (⟨t.val * 256 + p.val, row_lt m t p⟩ : Fin 1024) b := by blk_ext [h]
  rw [e]
  exact (stored m c t p b).2.2.1

theorem v_array (c : Dev nD) : (dats m (ok m) 0 c).arrAt 10 (cfgM m (ok m)).N = vW m c := by
  refine (dats m (ok m) 0 c).arrAt_eq_of_covers 10 _ (of_decide_eq_true (by sl_kernel_rfl)) fun t hf (y : S256x1152.Idx) => ?_
  obtain ⟨p, b, rfl⟩ : ∃ (p : Fin 256) (b : Fin 1152), y = ix2 p b := ⟨y 0, y 1, by funext k; match k with | ⟨0, _⟩ => rfl | ⟨1, _⟩ => rfl⟩
  blk_simp
  rw [after0_10, outsAt_eq]
  have h : ((cfgM m (ok m)).win 10).index t = ![t.val, 0] := (idx t).2.2.2
  have e : (((cfgM m (ok m)).win 10).blk t).view.emb (ix2 p b) = ix2 (⟨t.val * 256 + p.val, row_lt m t p⟩ : Fin 1024) b := by blk_ext [h]
  rw [e]
  exact (stored m c t p b).2.2.2

/-- The run with its four results. -/
theorem run (ρ : Dev nD → PrngReg) :
    θ_run defs (onTc (τ := τ) (main (F := Ideal))) ⟨m, fun _ => 0, ρ⟩ fun r => ∀ c : Dev nD,
      r.2.mem ((c.tc : Thread nD τ).loc main_v18_0) = gW m c
      ∧ r.2.mem ((c.tc : Thread nD τ).loc main_v18_1) = dW m c
      ∧ r.2.mem ((c.tc : Thread nD τ).loc main_v18_2) = mW m c
      ∧ r.2.mem ((c.tc : Thread nD τ).loc main_v18_3) = vW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 7).trans (g_array m c), ((h.1 c).1 8).trans (d_array m c),
      ((h.1 c).1 9).trans (m_array m c), ((h.1 c).1 10).trans (v_array m c), h.2 c⟩)
    (θ_run_and (run_main m ρ (ok m)) (unchanged m ρ (ok m)))

end Ideal

end Cert.ShdIdeal.Value

namespace Cert.ShdRefIdeal.Value

open Cert.ShdRefIdeal Cert.ShdRefIdeal.Gen Idealize.ShloMosaic Idealize.ShloMosaic.TcCoe Idealize.SL.Sem

variable (m : (ℓ : Loc nD τ sig) → Buf (Elt Ideal) ℓ)

abbrev ad (c : Dev nD) : FVec Ideal S8x1024x1152 .f32 := m ((c : Thread nD τ).loc main_arg0)
abbrev aw (c : Dev nD) : FVec Ideal S1x1024x1152 .f32 := m ((c : Thread nD τ).loc main_arg1)
abbrev am (c : Dev nD) : FVec Ideal S1x1024x1152 .f32 := m ((c : Thread nD τ).loc main_arg2)
abbrev av (c : Dev nD) : FVec Ideal S1x1024x1152 .f32 := m ((c : Thread nD τ).loc main_arg3)

/-- The four results: the gradient, the step, the two moments. -/
abbrev gW (c : Dev nD) : FVec Ideal S1024x1152 .f32 := fun i => Cert.Hand.gShd (ad m c) (i 0) (i 1)
abbrev dW (c : Dev nD) : FVec Ideal S1024x1152 .f32 := fun i =>
  Cert.Hand.delta (aw m c (ix3 0 (i 0) (i 1))) (gW m c i) (am m c (ix3 0 (i 0) (i 1))) (av m c (ix3 0 (i 0) (i 1)))
abbrev mW (c : Dev nD) : FVec Ideal S1024x1152 .f32 := fun i => Cert.Hand.newM (am m c (ix3 0 (i 0) (i 1))) (gW m c i)
abbrev vW (c : Dev nD) : FVec Ideal S1024x1152 .f32 := fun i => Cert.Hand.newV (av m c (ix3 0 (i 0) (i 1))) (gW m c i)

/-- The host's sum over the devices. -/
theorem reduced (d : FVec Ideal S8x1024x1152 .f32) (a : Fin 1024) (b : Fin 1152) :
    Host.reduceAdd d (constant S_ .f32 0x00000000#32) reducesTo_S8x1024x1152_S1024x1152_d0 h_S_ (ix2 a b) = Cert.Hand.gShd d a b := by
  pointwise
  rfl

set_option maxHeartbeats 2000000 in
/-- The reference's run with its four results given entry by entry. -/
theorem run_entries (ρ : Dev nD → PrngReg) :
    θ_run defs (onTc (τ := τ) (main (F := Ideal))) ⟨m, fun _ => 0, ρ⟩ fun r => ∀ c : Dev nD,
      r.2.mem ((c.tc : Thread nD τ).loc main_v1) = gW m c
      ∧ r.2.mem ((c.tc : Thread nD τ).loc main_v27) = dW m c
      ∧ r.2.mem ((c.tc : Thread nD τ).loc main_v8) = mW m c
      ∧ r.2.mem ((c.tc : Thread nD τ).loc main_v14) = vW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2.1.trans (funext fun i => ?_),
    (h c).2.2.1.trans (funext fun i => ?_), (h c).2.2.2.1.trans (funext fun i => ?_), (h c).2.2.2.2⟩) (run m ρ) <;>
  · obtain ⟨a, b, rfl⟩ : ∃ (a : Fin 1024) (b : Fin 1152), i = ix2 a b := ⟨i 0, i 1, by funext k; match k with | ⟨0, _⟩ => rfl | ⟨1, _⟩ => rfl⟩
    clean_types
    pointwise
    rfl

end Cert.ShdRefIdeal.Value

namespace Cert.ShdPair

open Idealize.ShloMosaic Idealize.SL.Sem

/-- The reference's frame: no operation writes an argument, and the program declares no semaphore. -/
theorem frame_ref : Cert.quiescent_ShdRefIdeal := by
  intro m ρ _
  exact (θ_run Cert.ShdRefIdeal.defs _ _).mono
    (fun r h => ⟨fun c => (h c).2.2.2.2, sem_eq_zero_of_no_sems (by decide) r.2⟩) (Cert.ShdRefIdeal.Value.run m ρ)

/-- The gradient, the step and the two moments are the reference's. -/
theorem update : Cert.algebraic_ShdIdeal_ShdRefIdeal := by
  intro m g m' g' _ hagree
  refine ⟨fun c => Cert.ShdIdeal.Value.gW m c, fun c => Cert.ShdIdeal.Value.dW m c, fun c => Cert.ShdIdeal.Value.mW m c, fun c => Cert.ShdIdeal.Value.vW m c,
    Cert.ShdIdeal.Value.run m g, ?_⟩
  refine (θ_run _ _ _).mono (fun r h c => ?_) (Cert.ShdRefIdeal.Value.run_entries m' g')
  obtain ⟨e0, e1, e2, e3⟩ := hagree c
  have hg := congrArg (fun (x : FVec Ideal ⟨3, ![8, 1024, 1152]⟩ .f32) (i : Shape.Idx ⟨2, ![1024, 1152]⟩) => Cert.Hand.gShd x (i 0) (i 1)) e0
  have eg : Cert.ShdRefIdeal.Value.gW m' c = Cert.ShdIdeal.Value.gW m c := hg
  refine ⟨(h c).1.trans eg, (h c).2.1.trans (funext fun i => ?_), (h c).2.2.1.trans (funext fun i => ?_),
    (h c).2.2.2.1.trans (funext fun i => ?_), (h c).2.2.2.2⟩
  · have hd := congr (congr (congr (congrArg Cert.Hand.delta (congrFun e1 (ix3 0 (i 0) (i 1)))) (congrFun eg i)) (congrFun e2 (ix3 0 (i 0) (i 1)))) (congrFun e3 (ix3 0 (i 0) (i 1)))
    exact hd
  · have hm := congr (congrArg Cert.Hand.newM (congrFun e2 (ix3 0 (i 0) (i 1)))) (congrFun eg i)
    exact hm
  · have hv := congr (congrArg Cert.Hand.newV (congrFun e3 (ix3 0 (i 0) (i 1)))) (congrFun eg i)
    exact hv

end Cert.ShdPair
end
-- ==== Proof.RetBRing.lean ====
/- The retention's backward kernel's run, set up: the launch at the DMA algebra, the branch conditions over the eight points, and
   the ring of three tiles a point copies out behind itself — the query's, the key's and the value's cotangent — into the slabs
   of the projection's cotangent, from the last block of rows to the first. -/
module

public import proofs.«01_k».proof.Proof.Gen.RetBIdeal.Frame
public import proofs.«01_k».proof.Proof.Gen.RetBIdeal.Skeleton
public import proofs.«01_k».proof.Proof.Gen.RetBIdeal.Points
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option maxRecDepth 16384
noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region: the lines of host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The result the body's copies write. -/
def R0 : Finset (Ref sig .tc) := {main_v20}
/-- No operand left in HBM is read. -/
def H0 : Finset (Ref sig .tc) := {}
theorem H0_sub : H0 ⊆ Pipeline.restRefs sig spec0 := by decide
theorem R0_sub : R0 ⊆ Pipeline.restRefs sig spec0 \ H0 := by decide

/-! ## The branch conditions -/

/-- The copies of two points before are waited for. -/
abbrev cd1 (i : grid0.Coords) : Prop := k0_cond1 i = 1#1
theorem hcd1 : ∀ t : Fin grid0.N, cd1 (grid0.coords t) ↔ 2 ≤ t.val := by decide +kernel
/-- The state's cotangent is cleared: at a head pair's last block. -/
abbrev cd2 (i : grid0.Coords) : Prop := (Scalar.cmpi .ne (Scalar.extui (Scalar.cmpi .eq (BitVec.ofNat 32 (i 1).val) 0#32)) 0#32) = 1#1
theorem hcd2 : ∀ t : Fin grid0.N, cd2 (grid0.coords t) ↔ t.val % 2 = 0 := by decide +kernel
/-- The last copies are waited for: at the last point. -/
abbrev cd3 (i : grid0.Coords) : Prop := k0_cond3 i = 1#1
theorem hcd3 : ∀ t : Fin grid0.N, cd3 (grid0.coords t) ↔ t.val = 7 := by decide +kernel

/-- The scratch operands, whole, and the result. -/
abbrev scM0_0 : Memref sig .tc .vmem S2x2048x128 .bf16 := Memref.whole cc0_scratch0
abbrev scM0_1 : Memref sig .tc .vmem S2x2048x128 .bf16 := Memref.whole cc0_scratch1
abbrev scM0_2 : Memref sig .tc .vmem S2x2x2048x128 .bf16 := Memref.whole cc0_scratch2
abbrev scM0_3 : Memref sig .tc .vmem S2x128x128 .f32 := Memref.whole cc0_scratch3
abbrev hbM0_0 : Memref sig .tc .hbm S72x4096x128 .bf16 := Memref.whole main_v20
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f
/-- The kernel's own semaphores. -/
abbrev osem0 : Fin 6 → SemLoc sig := fun j => (![SemLoc.dma 14, SemLoc.dma 15, SemLoc.dma 16, SemLoc.dma 17, SemLoc.dma 18, SemLoc.dma 19] : Fin 6 → SemLoc sig) j
theorem ownSemFacts0 : Pipeline.OwnSemFacts spec0 osem0 := by decide
/-- The cells at zero, listed. -/
abbrev cells0 (c : Dev nD) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
theorem ownSems00_eq (c : Dev nD) :
    (Pipeline.ownSems0 (Ix := Unit) (Name := ℕ) (U := Pipeline.UD sig nD τ) (Lvl := ℕ) (Val := Elt F) (τ := τ) osem0 c : sProp 𝕄) = cells0 c := by
  rw [Pipeline.ownSems0_eq_of_list c osem0 [0, 1, 2, 3, 4, 5] (by decide) (by decide)]; rfl
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
theorem ownedPts0_eq (c : Dev nD) : (Pipeline.owned R0 c : sProp 𝕄) = iprop((∃ f, hbPt0 c hbM0_0 f)) := by
  unfold Pipeline.owned; rw [BI.bigSep_eq_bigSepL_of_eq [main_v20] (by decide) (by decide)]; rfl
/-- What the launch hands the kernel and takes back, part by part. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ cells0 c ∗ emp ∗ (∃ f, hbPt0 c hbM0_0 f)) := by
  rw [Pipeline.ΦDR_eq, scopedRest0_eq, ownSems00_eq, hbmPts0_eq, ownedPts0_eq]; simp only [scM0_0, scM0_1, scM0_2, scM0_3, owns_whole]; try rfl

/-! ## The ring: pieces, tiles, cells -/

instance : NeZero grid0.N := ⟨by rw [N_0]; decide⟩
/-- The first slab and the first row of member `m`'s piece at step `u`, and a piece's extents. -/
def poff (u : Fin 8) (m : Fin 3) : Fin 3 → ℕ := ![![32 + u.val / 2, 36 + u.val / 2, 40 + 2 * (u.val / 2)] m, 2048 * (1 - u.val % 2), 0]
def psize (m : Fin 3) : Fin 3 → ℕ := ![![1, 1, 2] m, 2048, 128]
theorem inb_p : ∀ (u : Fin 8) (m : Fin 3) (a : Fin 3), poff u m a + psize m a ≤ S72x4096x128.size a := by decide +kernel
theorem p_apart : ∀ i i' : Fin 8 × Fin 3, i ≠ i' → ∃ a : Fin 3, poff i.1 i.2 a + psize i.2 a ≤ poff i'.1 i'.2 a ∨ poff i'.1 i'.2 a + psize i'.2 a ≤ poff i.1 i.2 a := by decide +kernel
theorem inb_t3 (g : Fin 2) : ∀ a, (![g.val, 0, 0] : Fin 3 → Nat) a + S1x2048x128.size a ≤ S2x2048x128.size a := by
  have := g.isLt; intro a; fin_cases a <;> simp <;> omega
theorem inb_t4 (g : Fin 2) : ∀ a, (![g.val, 0, 0, 0] : Fin 4 → Nat) a + S1x2x2048x128.size a ≤ S2x2x2048x128.size a := by
  have := g.isLt; intro a; fin_cases a <;> simp <;> omega
theorem inb_cell (g : Fin 2) (m : Fin 3) : ∀ a, (![g.val, m.val] : Fin 2 → Nat) a + S1x1.size a ≤ S2x3.size a := by
  have := g.isLt; have := m.isLt; intro a; fin_cases a <;> simp <;> omega
/-- The tiles of group `g`, the pieces of step `u`, spelt as the copies spell their ends. -/
def wtq (g : Fin 2) : Memref sig .tc .vmem S2048x128 .bf16 :=
  (scM0_0.slice (Rect.unit (s := S2x2048x128) ![g.val, 0, 0] S1x2048x128.size (inb_t3 g)) (fun _ => rfl)).squeeze S2048x128 squeezes_S1x2048x128_S2048x128
def wtk (g : Fin 2) : Memref sig .tc .vmem S2048x128 .bf16 :=
  (scM0_1.slice (Rect.unit (s := S2x2048x128) ![g.val, 0, 0] S1x2048x128.size (inb_t3 g)) (fun _ => rfl)).squeeze S2048x128 squeezes_S1x2048x128_S2048x128
def wtv (g : Fin 2) : Memref sig .tc .vmem S2x2048x128 .bf16 :=
  (scM0_2.slice (Rect.unit (s := S2x2x2048x128) ![g.val, 0, 0, 0] S1x2x2048x128.size (inb_t4 g)) (fun _ => rfl)).squeeze S2x2048x128 squeezes_S1x2x2048x128_S2x2048x128
theorem inb_p1 (u : Fin 8) (m : Fin 3) (h : m ≠ 2) : ∀ a, poff u m a + S1x2048x128.size a ≤ S72x4096x128.size a := by
  revert u m h; decide +kernel
theorem inb_p2 (u : Fin 8) : ∀ a, poff u 2 a + S2x2048x128.size a ≤ S72x4096x128.size a := by revert u; decide +kernel
def wpq (u : Fin 8) : Memref sig .tc .hbm S2048x128 .bf16 :=
  (hbM0_0.slice (Rect.unit (s := S72x4096x128) (poff u 0) S1x2048x128.size (inb_p1 u 0 (by decide))) (fun _ => rfl)).squeeze S2048x128 squeezes_S1x2048x128_S2048x128
def wpk (u : Fin 8) : Memref sig .tc .hbm S2048x128 .bf16 :=
  (hbM0_0.slice (Rect.unit (s := S72x4096x128) (poff u 1) S1x2048x128.size (inb_p1 u 1 (by decide))) (fun _ => rfl)).squeeze S2048x128 squeezes_S1x2048x128_S2048x128
def wpv (u : Fin 8) : Memref sig .tc .hbm S2x2048x128 .bf16 :=
  hbM0_0.slice (Rect.unit (s := S72x4096x128) (poff u 2) S2x2048x128.size (inb_p2 u)) (fun _ => rfl)
def wcellA (g : Fin 2) (m : Fin 3) : DmaSems sig S_ := (cc0_scratch4.slice (Rect.unit (s := S2x3) ![g.val, m.val] S1x1.size (inb_cell g m))).squeeze S_ squeezes_S1x1_S_
abbrev wcellR (g : Fin 2) (m : Fin 3) : SemLoc sig := SemLoc.dma (wcellA g m).sem
theorem wcellR_eq : wcellR 0 0 = SemLoc.dma 14 ∧ wcellR 0 1 = SemLoc.dma 15 ∧ wcellR 0 2 = SemLoc.dma 16 ∧ wcellR 1 0 = SemLoc.dma 17 ∧ wcellR 1 1 = SemLoc.dma 18 ∧ wcellR 1 2 = SemLoc.dma 19 := by decide

section Roles
variable (c : Dev nD)
/-- A memref's elements held at `e` (a tile, a piece); a cell at zero; the flight of a tile's copy, delivering piece and tile. -/
abbrev held {sp : Space} {S : Shape} {e : EltTy} (M : Memref sig .tc sp S e) (f : HbBuf0 (F := F) c M) : sProp 𝕄 := M.view.loc (c : Thread nD τ) ↦[M.view.set]{fullShare} f
abbrev wcellP (g : Fin 2) (m : Fin 3) : sProp 𝕄 := semVal ((c : Thread nD τ), wcellR g m) 0
abbrev flies {S : Shape} (P : Memref sig .tc .hbm S .bf16) (T : Memref sig .tc .vmem S .bf16) (s : SemLoc sig) : sProp 𝕄 :=
  iprop(∃ f e, Transfers.Flight countersEmb (c : Thread nD τ) s default (P.view.amount s) iprop(held (F := F) c P f ∗ held (F := F) c T e))
/-- Group `g` free; in flight with step `u`'s copies; step `u`'s pieces home. -/
abbrev wfree (g : Fin 2) : sProp 𝕄 := iprop((wcellP c g 0 ∗ ∃ e, held c (wtq g) e) ∗ (wcellP c g 1 ∗ ∃ e, held c (wtk g) e) ∗ (wcellP c g 2 ∗ ∃ e, held c (wtv g) e))
abbrev winfl (g : Fin 2) (u : Fin 8) : sProp 𝕄 := iprop(flies c (wpq u) (wtq g) (wcellR g 0) ∗ flies c (wpk u) (wtk g) (wcellR g 1) ∗ flies c (wpv u) (wtv g) (wcellR g 2))
abbrev whome (u : Fin 8) : sProp 𝕄 := iprop((∃ f, held c (wpq u) f) ∗ (∃ f, held c (wpk u) f) ∗ (∃ f, held c (wpv u) f))
/-- The write ring before its step `k`. -/
def wringAt (k : ℕ) : sProp 𝕄 := Ring.AtBΦ 2 (wfree c) (winfl c) (whome c) (whome c) k

/-! ### The pieces and the tiles, pairwise disjoint -/

abbrev pSet (i : Fin 8 × Fin 3) : Finset S72x4096x128.Idx := (Rect.unit (s := S72x4096x128) (poff i.1 i.2) (psize i.2) (inb_p i.1 i.2)).set
theorem pSet_disjoint (i i' : Fin 8 × Fin 3) (h : i ≠ i') : Disjoint (pSet i) (pSet i') := by
  obtain ⟨a, ha⟩ := p_apart i i' h
  exact Rect.unit_disjoint a ha
abbrev t3Set (g : Fin 2) : Finset S2x2048x128.Idx := (Rect.unit (s := S2x2048x128) ![g.val, 0, 0] S1x2048x128.size (inb_t3 g)).set
theorem t3Set_disjoint (g g' : Fin 2) (h : g ≠ g') : Disjoint (t3Set g) (t3Set g') :=
  Rect.unit_disjoint (0 : Fin 3) (by revert g g' h; decide)
abbrev t4Set (g : Fin 2) : Finset S2x2x2048x128.Idx := (Rect.unit (s := S2x2x2048x128) ![g.val, 0, 0, 0] S1x2x2048x128.size (inb_t4 g)).set
theorem t4Set_disjoint (g g' : Fin 2) (h : g ≠ g') : Disjoint (t4Set g) (t4Set g') :=
  Rect.unit_disjoint (0 : Fin 4) (by revert g g' h; decide)

/-- A piece of the result at member `m` of step `u`, at some contents. -/
abbrev pieceAt (i : Fin 8 × Fin 3) (f : Buf (Elt F) ((c : Thread nD τ).loc main_v20)) : sProp 𝕄 := ((c : Thread nD τ).loc main_v20) ↦[pSet i]{fullShare} f
omit [FloatOps F] in
theorem wpq_eq (u : Fin 8) (f) : held (F := F) c (wpq u) f = pieceAt c (u, 0) f := by
  unfold held; rw [show (wpq u).view.set = pSet (u, 0) from by
    simp only [wpq, Memref.view_squeeze, View.set_reshape]; exact View.set_slice_whole _ _]; rfl
omit [FloatOps F] in
theorem wpk_eq (u : Fin 8) (f) : held (F := F) c (wpk u) f = pieceAt c (u, 1) f := by
  unfold held; rw [show (wpk u).view.set = pSet (u, 1) from by
    simp only [wpk, Memref.view_squeeze, View.set_reshape]; exact View.set_slice_whole _ _]; rfl
omit [FloatOps F] in
theorem wpv_eq (u : Fin 8) (f) : held (F := F) c (wpv u) f = pieceAt c (u, 2) f := by
  unfold held; rw [show (wpv u).view.set = pSet (u, 2) from by
    simp only [wpv, Memref.view_squeeze, View.set_reshape]; exact View.set_slice_whole _ _]; rfl
omit [FloatOps F] in
theorem wtq_eq (g : Fin 2) (e) : held (F := F) c (wtq g) e = (((c : Thread nD τ).loc cc0_scratch0) ↦[t3Set g]{fullShare} e : sProp 𝕄) := by
  unfold held; rw [show (wtq g).view.set = t3Set g from by
    simp only [wtq, Memref.view_squeeze, View.set_reshape]; exact View.set_slice_whole _ _]; rfl
omit [FloatOps F] in
theorem wtk_eq (g : Fin 2) (e) : held (F := F) c (wtk g) e = (((c : Thread nD τ).loc cc0_scratch1) ↦[t3Set g]{fullShare} e : sProp 𝕄) := by
  unfold held; rw [show (wtk g).view.set = t3Set g from by
    simp only [wtk, Memref.view_squeeze, View.set_reshape]; exact View.set_slice_whole _ _]; rfl
omit [FloatOps F] in
theorem wtv_eq (g : Fin 2) (e) : held (F := F) c (wtv g) e = (((c : Thread nD τ).loc cc0_scratch2) ↦[t4Set g]{fullShare} e : sProp 𝕄) := by
  unfold held; rw [show (wtv g).view.set = t4Set g from by
    simp only [wtv, Memref.view_squeeze, View.set_reshape]; exact View.set_slice_whole _ _]; rfl

end Roles
/-! ## What the body's slices are, in the ring's words -/

/-- Step `t`'s pieces start here; tiles and cells of its own group, and of the other. -/
theorem off_piece : ∀ t : Fin grid0.N, k0_off2 (grid0.coords t) 32#32 = poff (Ring.bk 8 t.val) 0 ∧ k0_off2 (grid0.coords t) 36#32 = poff (Ring.bk 8 t.val) 1 ∧ k0_off6 (grid0.coords t) = poff (Ring.bk 8 t.val) 2
    ∧ k0_off18 (grid0.coords t) 32#32 = poff (Ring.bk 8 t.val) 0 ∧ k0_off18 (grid0.coords t) 36#32 = poff (Ring.bk 8 t.val) 1 ∧ k0_off22 (grid0.coords t) = poff (Ring.bk 8 t.val) 2
    ∧ k0_off25 (grid0.coords t) 32#32 = poff (Ring.bk 8 t.val) 0 ∧ k0_off25 (grid0.coords t) 36#32 = poff (Ring.bk 8 t.val) 1 ∧ k0_off29 (grid0.coords t) = poff (Ring.bk 8 t.val) 2 := by decide +kernel
theorem off_tile : ∀ t : Fin grid0.N, k0_off3 (grid0.coords t) = ![(Ring.sl 2 t.val).val, 0, 0] ∧ k0_off19 (grid0.coords t) = ![(Ring.sl 2 t.val).val, 0, 0] ∧ k0_off26 (grid0.coords t) = ![(Ring.sl 2 t.val).val, 0, 0] ∧ k0_off32 (grid0.coords t) = ![(Ring.sl 2 (t.val + 1)).val, 0, 0]
    ∧ k0_off7 (grid0.coords t) = ![(Ring.sl 2 t.val).val, 0, 0, 0] ∧ k0_off23 (grid0.coords t) = ![(Ring.sl 2 t.val).val, 0, 0, 0] ∧ k0_off30 (grid0.coords t) = ![(Ring.sl 2 t.val).val, 0, 0, 0] ∧ k0_off35 (grid0.coords t) = ![(Ring.sl 2 (t.val + 1)).val, 0, 0, 0] := by decide +kernel
theorem off_cell : ∀ t : Fin grid0.N, k0_off1 (grid0.coords t) = ![(Ring.sl 2 t.val).val, 0] ∧ k0_off4 (grid0.coords t) = ![(Ring.sl 2 t.val).val, 1] ∧ k0_off5 (grid0.coords t) = ![(Ring.sl 2 t.val).val, 2] ∧ k0_off17 (grid0.coords t) = ![(Ring.sl 2 t.val).val, 0] ∧ k0_off20 (grid0.coords t) = ![(Ring.sl 2 t.val).val, 1] ∧ k0_off21 (grid0.coords t) = ![(Ring.sl 2 t.val).val, 2] ∧ k0_off24 (grid0.coords t) = ![(Ring.sl 2 t.val).val, 0] ∧ k0_off27 (grid0.coords t) = ![(Ring.sl 2 t.val).val, 1] ∧ k0_off28 (grid0.coords t) = ![(Ring.sl 2 t.val).val, 2] ∧ k0_off31 (grid0.coords t) = ![(Ring.sl 2 (t.val + 1)).val, 0] ∧ k0_off33 (grid0.coords t) = ![(Ring.sl 2 (t.val + 1)).val, 1] ∧ k0_off34 (grid0.coords t) = ![(Ring.sl 2 (t.val + 1)).val, 2] := by decide +kernel
@[sl_canon] theorem cell_1 (t : Fin grid0.N) (h : cd1 (grid0.coords t)) :
    (cc0_scratch4.slice (Rect.unit (s := S2x3) (k0_off1 (grid0.coords t)) S1x1.size (k0_off1_inb (grid0.coords t) h))).squeeze S_ squeezes_S1x1_S_ = wcellA (Ring.sl 2 t.val) 0 :=
  congrArg (fun A : DmaSems sig S1x1 => A.squeeze S_ squeezes_S1x1_S_) (SemArray.slice_unit_congr _ ((off_cell t).1) _ _)
@[sl_canon] theorem cell_1' (t : Fin grid0.N) (h : cd1 (grid0.coords t)) :
    (cc0_scratch4.slice (Rect.unit (s := S2x3) (k0_off1 (grid0.coords t)) ![1, 1] (k0_off1_inb (grid0.coords t) h))).squeeze S_ squeezes_S1x1_S_ = wcellA (Ring.sl 2 t.val) 0 :=
  cell_1 t h
@[sl_canon] theorem cell_4 (t : Fin grid0.N) (h : cd1 (grid0.coords t)) :
    (cc0_scratch4.slice (Rect.unit (s := S2x3) (k0_off4 (grid0.coords t)) S1x1.size (k0_off4_inb (grid0.coords t) h))).squeeze S_ squeezes_S1x1_S_ = wcellA (Ring.sl 2 t.val) 1 :=
  congrArg (fun A : DmaSems sig S1x1 => A.squeeze S_ squeezes_S1x1_S_) (SemArray.slice_unit_congr _ ((off_cell t).2.1) _ _)
@[sl_canon] theorem cell_4' (t : Fin grid0.N) (h : cd1 (grid0.coords t)) :
    (cc0_scratch4.slice (Rect.unit (s := S2x3) (k0_off4 (grid0.coords t)) ![1, 1] (k0_off4_inb (grid0.coords t) h))).squeeze S_ squeezes_S1x1_S_ = wcellA (Ring.sl 2 t.val) 1 :=
  cell_4 t h
@[sl_canon] theorem cell_5 (t : Fin grid0.N) (h : cd1 (grid0.coords t)) :
    (cc0_scratch4.slice (Rect.unit (s := S2x3) (k0_off5 (grid0.coords t)) S1x1.size (k0_off5_inb (grid0.coords t) h))).squeeze S_ squeezes_S1x1_S_ = wcellA (Ring.sl 2 t.val) 2 :=
  congrArg (fun A : DmaSems sig S1x1 => A.squeeze S_ squeezes_S1x1_S_) (SemArray.slice_unit_congr _ ((off_cell t).2.2.1) _ _)
@[sl_canon] theorem cell_5' (t : Fin grid0.N) (h : cd1 (grid0.coords t)) :
    (cc0_scratch4.slice (Rect.unit (s := S2x3) (k0_off5 (grid0.coords t)) ![1, 1] (k0_off5_inb (grid0.coords t) h))).squeeze S_ squeezes_S1x1_S_ = wcellA (Ring.sl 2 t.val) 2 :=
  cell_5 t h
@[sl_canon] theorem cell_17 (t : Fin grid0.N) :
    (cc0_scratch4.slice (Rect.unit (s := S2x3) (k0_off17 (grid0.coords t)) S1x1.size (k0_off17_inb (grid0.coords t)))).squeeze S_ squeezes_S1x1_S_ = wcellA (Ring.sl 2 t.val) 0 :=
  congrArg (fun A : DmaSems sig S1x1 => A.squeeze S_ squeezes_S1x1_S_) (SemArray.slice_unit_congr _ ((off_cell t).2.2.2.1) _ _)
@[sl_canon] theorem cell_17' (t : Fin grid0.N) :
    (cc0_scratch4.slice (Rect.unit (s := S2x3) (k0_off17 (grid0.coords t)) ![1, 1] (k0_off17_inb (grid0.coords t)))).squeeze S_ squeezes_S1x1_S_ = wcellA (Ring.sl 2 t.val) 0 :=
  cell_17 t
@[sl_canon] theorem cell_20 (t : Fin grid0.N) :
    (cc0_scratch4.slice (Rect.unit (s := S2x3) (k0_off20 (grid0.coords t)) S1x1.size (k0_off20_inb (grid0.coords t)))).squeeze S_ squeezes_S1x1_S_ = wcellA (Ring.sl 2 t.val) 1 :=
  congrArg (fun A : DmaSems sig S1x1 => A.squeeze S_ squeezes_S1x1_S_) (SemArray.slice_unit_congr _ ((off_cell t).2.2.2.2.1) _ _)
@[sl_canon] theorem cell_20' (t : Fin grid0.N) :
    (cc0_scratch4.slice (Rect.unit (s := S2x3) (k0_off20 (grid0.coords t)) ![1, 1] (k0_off20_inb (grid0.coords t)))).squeeze S_ squeezes_S1x1_S_ = wcellA (Ring.sl 2 t.val) 1 :=
  cell_20 t
@[sl_canon] theorem cell_21 (t : Fin grid0.N) :
    (cc0_scratch4.slice (Rect.unit (s := S2x3) (k0_off21 (grid0.coords t)) S1x1.size (k0_off21_inb (grid0.coords t)))).squeeze S_ squeezes_S1x1_S_ = wcellA (Ring.sl 2 t.val) 2 :=
  congrArg (fun A : DmaSems sig S1x1 => A.squeeze S_ squeezes_S1x1_S_) (SemArray.slice_unit_congr _ ((off_cell t).2.2.2.2.2.1) _ _)
@[sl_canon] theorem cell_21' (t : Fin grid0.N) :
    (cc0_scratch4.slice (Rect.unit (s := S2x3) (k0_off21 (grid0.coords t)) ![1, 1] (k0_off21_inb (grid0.coords t)))).squeeze S_ squeezes_S1x1_S_ = wcellA (Ring.sl 2 t.val) 2 :=
  cell_21 t
@[sl_canon] theorem cell_24 (t : Fin grid0.N) (h : cd3 (grid0.coords t)) :
    (cc0_scratch4.slice (Rect.unit (s := S2x3) (k0_off24 (grid0.coords t)) S1x1.size (k0_off24_inb (grid0.coords t) h))).squeeze S_ squeezes_S1x1_S_ = wcellA (Ring.sl 2 t.val) 0 :=
  congrArg (fun A : DmaSems sig S1x1 => A.squeeze S_ squeezes_S1x1_S_) (SemArray.slice_unit_congr _ ((off_cell t).2.2.2.2.2.2.1) _ _)
@[sl_canon] theorem cell_24' (t : Fin grid0.N) (h : cd3 (grid0.coords t)) :
    (cc0_scratch4.slice (Rect.unit (s := S2x3) (k0_off24 (grid0.coords t)) ![1, 1] (k0_off24_inb (grid0.coords t) h))).squeeze S_ squeezes_S1x1_S_ = wcellA (Ring.sl 2 t.val) 0 :=
  cell_24 t h
@[sl_canon] theorem cell_27 (t : Fin grid0.N) (h : cd3 (grid0.coords t)) :
    (cc0_scratch4.slice (Rect.unit (s := S2x3) (k0_off27 (grid0.coords t)) S1x1.size (k0_off27_inb (grid0.coords t) h))).squeeze S_ squeezes_S1x1_S_ = wcellA (Ring.sl 2 t.val) 1 :=
  congrArg (fun A : DmaSems sig S1x1 => A.squeeze S_ squeezes_S1x1_S_) (SemArray.slice_unit_congr _ ((off_cell t).2.2.2.2.2.2.2.1) _ _)
@[sl_canon] theorem cell_27' (t : Fin grid0.N) (h : cd3 (grid0.coords t)) :
    (cc0_scratch4.slice (Rect.unit (s := S2x3) (k0_off27 (grid0.coords t)) ![1, 1] (k0_off27_inb (grid0.coords t) h))).squeeze S_ squeezes_S1x1_S_ = wcellA (Ring.sl 2 t.val) 1 :=
  cell_27 t h
@[sl_canon] theorem cell_28 (t : Fin grid0.N) (h : cd3 (grid0.coords t)) :
    (cc0_scratch4.slice (Rect.unit (s := S2x3) (k0_off28 (grid0.coords t)) S1x1.size (k0_off28_inb (grid0.coords t) h))).squeeze S_ squeezes_S1x1_S_ = wcellA (Ring.sl 2 t.val) 2 :=
  congrArg (fun A : DmaSems sig S1x1 => A.squeeze S_ squeezes_S1x1_S_) (SemArray.slice_unit_congr _ ((off_cell t).2.2.2.2.2.2.2.2.1) _ _)
@[sl_canon] theorem cell_28' (t : Fin grid0.N) (h : cd3 (grid0.coords t)) :
    (cc0_scratch4.slice (Rect.unit (s := S2x3) (k0_off28 (grid0.coords t)) ![1, 1] (k0_off28_inb (grid0.coords t) h))).squeeze S_ squeezes_S1x1_S_ = wcellA (Ring.sl 2 t.val) 2 :=
  cell_28 t h
@[sl_canon] theorem cell_31 (t : Fin grid0.N) (h : cd3 (grid0.coords t)) :
    (cc0_scratch4.slice (Rect.unit (s := S2x3) (k0_off31 (grid0.coords t)) S1x1.size (k0_off31_inb (grid0.coords t) h))).squeeze S_ squeezes_S1x1_S_ = wcellA (Ring.sl 2 (t.val + 1)) 0 :=
  congrArg (fun A : DmaSems sig S1x1 => A.squeeze S_ squeezes_S1x1_S_) (SemArray.slice_unit_congr _ ((off_cell t).2.2.2.2.2.2.2.2.2.1) _ _)
@[sl_canon] theorem cell_31' (t : Fin grid0.N) (h : cd3 (grid0.coords t)) :
    (cc0_scratch4.slice (Rect.unit (s := S2x3) (k0_off31 (grid0.coords t)) ![1, 1] (k0_off31_inb (grid0.coords t) h))).squeeze S_ squeezes_S1x1_S_ = wcellA (Ring.sl 2 (t.val + 1)) 0 :=
  cell_31 t h
@[sl_canon] theorem cell_33 (t : Fin grid0.N) (h : cd3 (grid0.coords t)) :
    (cc0_scratch4.slice (Rect.unit (s := S2x3) (k0_off33 (grid0.coords t)) S1x1.size (k0_off33_inb (grid0.coords t) h))).squeeze S_ squeezes_S1x1_S_ = wcellA (Ring.sl 2 (t.val + 1)) 1 :=
  congrArg (fun A : DmaSems sig S1x1 => A.squeeze S_ squeezes_S1x1_S_) (SemArray.slice_unit_congr _ ((off_cell t).2.2.2.2.2.2.2.2.2.2.1) _ _)
@[sl_canon] theorem cell_33' (t : Fin grid0.N) (h : cd3 (grid0.coords t)) :
    (cc0_scratch4.slice (Rect.unit (s := S2x3) (k0_off33 (grid0.coords t)) ![1, 1] (k0_off33_inb (grid0.coords t) h))).squeeze S_ squeezes_S1x1_S_ = wcellA (Ring.sl 2 (t.val + 1)) 1 :=
  cell_33 t h
@[sl_canon] theorem cell_34 (t : Fin grid0.N) (h : cd3 (grid0.coords t)) :
    (cc0_scratch4.slice (Rect.unit (s := S2x3) (k0_off34 (grid0.coords t)) S1x1.size (k0_off34_inb (grid0.coords t) h))).squeeze S_ squeezes_S1x1_S_ = wcellA (Ring.sl 2 (t.val + 1)) 2 :=
  congrArg (fun A : DmaSems sig S1x1 => A.squeeze S_ squeezes_S1x1_S_) (SemArray.slice_unit_congr _ ((off_cell t).2.2.2.2.2.2.2.2.2.2.2) _ _)
@[sl_canon] theorem cell_34' (t : Fin grid0.N) (h : cd3 (grid0.coords t)) :
    (cc0_scratch4.slice (Rect.unit (s := S2x3) (k0_off34 (grid0.coords t)) ![1, 1] (k0_off34_inb (grid0.coords t) h))).squeeze S_ squeezes_S1x1_S_ = wcellA (Ring.sl 2 (t.val + 1)) 2 :=
  cell_34 t h
@[sl_canon] theorem piece_2q (t : Fin grid0.N) (h : cd1 (grid0.coords t)) :
    (hbM0_0.slice (Rect.unit (s := S72x4096x128) (k0_off2 (grid0.coords t) 32#32) S1x2048x128.size (k0_off2_inb (grid0.coords t) h 0)) (fun _ => rfl)).squeeze S2048x128 squeezes_S1x2048x128_S2048x128 = wpq (Ring.bk 8 t.val) :=
  congrArg (fun M : Memref sig .tc .hbm S1x2048x128 .bf16 => M.squeeze S2048x128 squeezes_S1x2048x128_S2048x128) (Memref.slice_unit_congr _ ((off_piece t).1) _ _ _ _)
@[sl_canon] theorem piece_2q' (t : Fin grid0.N) (h : cd1 (grid0.coords t)) :
    (hbM0_0.slice (Rect.unit (s := S72x4096x128) (k0_off2 (grid0.coords t) 32#32) ![1, 2048, 128] (k0_off2_inb (grid0.coords t) h 0)) (fun _ => rfl)).squeeze S2048x128 squeezes_S1x2048x128_S2048x128 = wpq (Ring.bk 8 t.val) :=
  piece_2q t h
@[sl_canon] theorem piece_2k (t : Fin grid0.N) (h : cd1 (grid0.coords t)) :
    (hbM0_0.slice (Rect.unit (s := S72x4096x128) (k0_off2 (grid0.coords t) 36#32) S1x2048x128.size (k0_off2_inb (grid0.coords t) h 1)) (fun _ => rfl)).squeeze S2048x128 squeezes_S1x2048x128_S2048x128 = wpk (Ring.bk 8 t.val) :=
  congrArg (fun M : Memref sig .tc .hbm S1x2048x128 .bf16 => M.squeeze S2048x128 squeezes_S1x2048x128_S2048x128) (Memref.slice_unit_congr _ ((off_piece t).2.1) _ _ _ _)
@[sl_canon] theorem piece_2k' (t : Fin grid0.N) (h : cd1 (grid0.coords t)) :
    (hbM0_0.slice (Rect.unit (s := S72x4096x128) (k0_off2 (grid0.coords t) 36#32) ![1, 2048, 128] (k0_off2_inb (grid0.coords t) h 1)) (fun _ => rfl)).squeeze S2048x128 squeezes_S1x2048x128_S2048x128 = wpk (Ring.bk 8 t.val) :=
  piece_2k t h
@[sl_canon] theorem piece_6v (t : Fin grid0.N) (h : cd1 (grid0.coords t)) :
    hbM0_0.slice (Rect.unit (s := S72x4096x128) (k0_off6 (grid0.coords t)) S2x2048x128.size (k0_off6_inb (grid0.coords t) h)) (fun _ => rfl) = wpv (Ring.bk 8 t.val) :=
  Memref.slice_unit_congr _ ((off_piece t).2.2.1) _ _ _ (fun _ => rfl)
@[sl_canon] theorem piece_6v' (t : Fin grid0.N) (h : cd1 (grid0.coords t)) :
    hbM0_0.slice (Rect.unit (s := S72x4096x128) (k0_off6 (grid0.coords t)) ![2, 2048, 128] (k0_off6_inb (grid0.coords t) h)) (fun _ => rfl) = wpv (Ring.bk 8 t.val) :=
  piece_6v t h
@[sl_canon] theorem piece_18q (t : Fin grid0.N) :
    (hbM0_0.slice (Rect.unit (s := S72x4096x128) (k0_off18 (grid0.coords t) 32#32) S1x2048x128.size (k0_off18_inb (grid0.coords t) 0)) (fun _ => rfl)).squeeze S2048x128 squeezes_S1x2048x128_S2048x128 = wpq (Ring.bk 8 t.val) :=
  congrArg (fun M : Memref sig .tc .hbm S1x2048x128 .bf16 => M.squeeze S2048x128 squeezes_S1x2048x128_S2048x128) (Memref.slice_unit_congr _ ((off_piece t).2.2.2.1) _ _ _ _)
@[sl_canon] theorem piece_18q' (t : Fin grid0.N) :
    (hbM0_0.slice (Rect.unit (s := S72x4096x128) (k0_off18 (grid0.coords t) 32#32) ![1, 2048, 128] (k0_off18_inb (grid0.coords t) 0)) (fun _ => rfl)).squeeze S2048x128 squeezes_S1x2048x128_S2048x128 = wpq (Ring.bk 8 t.val) :=
  piece_18q t
@[sl_canon] theorem piece_18k (t : Fin grid0.N) :
    (hbM0_0.slice (Rect.unit (s := S72x4096x128) (k0_off18 (grid0.coords t) 36#32) S1x2048x128.size (k0_off18_inb (grid0.coords t) 1)) (fun _ => rfl)).squeeze S2048x128 squeezes_S1x2048x128_S2048x128 = wpk (Ring.bk 8 t.val) :=
  congrArg (fun M : Memref sig .tc .hbm S1x2048x128 .bf16 => M.squeeze S2048x128 squeezes_S1x2048x128_S2048x128) (Memref.slice_unit_congr _ ((off_piece t).2.2.2.2.1) _ _ _ _)
@[sl_canon] theorem piece_18k' (t : Fin grid0.N) :
    (hbM0_0.slice (Rect.unit (s := S72x4096x128) (k0_off18 (grid0.coords t) 36#32) ![1, 2048, 128] (k0_off18_inb (grid0.coords t) 1)) (fun _ => rfl)).squeeze S2048x128 squeezes_S1x2048x128_S2048x128 = wpk (Ring.bk 8 t.val) :=
  piece_18k t
@[sl_canon] theorem piece_22v (t : Fin grid0.N) :
    hbM0_0.slice (Rect.unit (s := S72x4096x128) (k0_off22 (grid0.coords t)) S2x2048x128.size (k0_off22_inb (grid0.coords t))) (fun _ => rfl) = wpv (Ring.bk 8 t.val) :=
  Memref.slice_unit_congr _ ((off_piece t).2.2.2.2.2.1) _ _ _ (fun _ => rfl)
@[sl_canon] theorem piece_22v' (t : Fin grid0.N) :
    hbM0_0.slice (Rect.unit (s := S72x4096x128) (k0_off22 (grid0.coords t)) ![2, 2048, 128] (k0_off22_inb (grid0.coords t))) (fun _ => rfl) = wpv (Ring.bk 8 t.val) :=
  piece_22v t
@[sl_canon] theorem piece_25q (t : Fin grid0.N) (h : cd3 (grid0.coords t)) :
    (hbM0_0.slice (Rect.unit (s := S72x4096x128) (k0_off25 (grid0.coords t) 32#32) S1x2048x128.size (k0_off25_inb (grid0.coords t) h 0)) (fun _ => rfl)).squeeze S2048x128 squeezes_S1x2048x128_S2048x128 = wpq (Ring.bk 8 t.val) :=
  congrArg (fun M : Memref sig .tc .hbm S1x2048x128 .bf16 => M.squeeze S2048x128 squeezes_S1x2048x128_S2048x128) (Memref.slice_unit_congr _ ((off_piece t).2.2.2.2.2.2.1) _ _ _ _)
@[sl_canon] theorem piece_25q' (t : Fin grid0.N) (h : cd3 (grid0.coords t)) :
    (hbM0_0.slice (Rect.unit (s := S72x4096x128) (k0_off25 (grid0.coords t) 32#32) ![1, 2048, 128] (k0_off25_inb (grid0.coords t) h 0)) (fun _ => rfl)).squeeze S2048x128 squeezes_S1x2048x128_S2048x128 = wpq (Ring.bk 8 t.val) :=
  piece_25q t h
@[sl_canon] theorem piece_25k (t : Fin grid0.N) (h : cd3 (grid0.coords t)) :
    (hbM0_0.slice (Rect.unit (s := S72x4096x128) (k0_off25 (grid0.coords t) 36#32) S1x2048x128.size (k0_off25_inb (grid0.coords t) h 1)) (fun _ => rfl)).squeeze S2048x128 squeezes_S1x2048x128_S2048x128 = wpk (Ring.bk 8 t.val) :=
  congrArg (fun M : Memref sig .tc .hbm S1x2048x128 .bf16 => M.squeeze S2048x128 squeezes_S1x2048x128_S2048x128) (Memref.slice_unit_congr _ ((off_piece t).2.2.2.2.2.2.2.1) _ _ _ _)
@[sl_canon] theorem piece_25k' (t : Fin grid0.N) (h : cd3 (grid0.coords t)) :
    (hbM0_0.slice (Rect.unit (s := S72x4096x128) (k0_off25 (grid0.coords t) 36#32) ![1, 2048, 128] (k0_off25_inb (grid0.coords t) h 1)) (fun _ => rfl)).squeeze S2048x128 squeezes_S1x2048x128_S2048x128 = wpk (Ring.bk 8 t.val) :=
  piece_25k t h
@[sl_canon] theorem piece_29v (t : Fin grid0.N) (h : cd3 (grid0.coords t)) :
    hbM0_0.slice (Rect.unit (s := S72x4096x128) (k0_off29 (grid0.coords t)) S2x2048x128.size (k0_off29_inb (grid0.coords t) h)) (fun _ => rfl) = wpv (Ring.bk 8 t.val) :=
  Memref.slice_unit_congr _ ((off_piece t).2.2.2.2.2.2.2.2) _ _ _ (fun _ => rfl)
@[sl_canon] theorem piece_29v' (t : Fin grid0.N) (h : cd3 (grid0.coords t)) :
    hbM0_0.slice (Rect.unit (s := S72x4096x128) (k0_off29 (grid0.coords t)) ![2, 2048, 128] (k0_off29_inb (grid0.coords t) h)) (fun _ => rfl) = wpv (Ring.bk 8 t.val) :=
  piece_29v t h
@[sl_canon] theorem tile_3q (t : Fin grid0.N) (h : cd1 (grid0.coords t)) :
    (scM0_0.slice (Rect.unit (s := S2x2048x128) (k0_off3 (grid0.coords t)) S1x2048x128.size (k0_off3_inb (grid0.coords t) h)) (fun _ => rfl)).squeeze S2048x128 squeezes_S1x2048x128_S2048x128 = wtq (Ring.sl 2 t.val) :=
  congrArg (fun M : Memref sig .tc .vmem S1x2048x128 .bf16 => M.squeeze S2048x128 squeezes_S1x2048x128_S2048x128) (Memref.slice_unit_congr _ ((off_tile t).1) _ _ _ _)
@[sl_canon] theorem tile_3q' (t : Fin grid0.N) (h : cd1 (grid0.coords t)) :
    (scM0_0.slice (Rect.unit (s := S2x2048x128) (k0_off3 (grid0.coords t)) ![1, 2048, 128] (k0_off3_inb (grid0.coords t) h)) (fun _ => rfl)).squeeze S2048x128 squeezes_S1x2048x128_S2048x128 = wtq (Ring.sl 2 t.val) :=
  tile_3q t h
@[sl_canon] theorem tile_3k (t : Fin grid0.N) (h : cd1 (grid0.coords t)) :
    (scM0_1.slice (Rect.unit (s := S2x2048x128) (k0_off3 (grid0.coords t)) S1x2048x128.size (k0_off3_inb (grid0.coords t) h)) (fun _ => rfl)).squeeze S2048x128 squeezes_S1x2048x128_S2048x128 = wtk (Ring.sl 2 t.val) :=
  congrArg (fun M : Memref sig .tc .vmem S1x2048x128 .bf16 => M.squeeze S2048x128 squeezes_S1x2048x128_S2048x128) (Memref.slice_unit_congr _ ((off_tile t).1) _ _ _ _)
@[sl_canon] theorem tile_3k' (t : Fin grid0.N) (h : cd1 (grid0.coords t)) :
    (scM0_1.slice (Rect.unit (s := S2x2048x128) (k0_off3 (grid0.coords t)) ![1, 2048, 128] (k0_off3_inb (grid0.coords t) h)) (fun _ => rfl)).squeeze S2048x128 squeezes_S1x2048x128_S2048x128 = wtk (Ring.sl 2 t.val) :=
  tile_3k t h
@[sl_canon] theorem tile_19q (t : Fin grid0.N) :
    (scM0_0.slice (Rect.unit (s := S2x2048x128) (k0_off19 (grid0.coords t)) S1x2048x128.size (k0_off19_inb (grid0.coords t))) (fun _ => rfl)).squeeze S2048x128 squeezes_S1x2048x128_S2048x128 = wtq (Ring.sl 2 t.val) :=
  congrArg (fun M : Memref sig .tc .vmem S1x2048x128 .bf16 => M.squeeze S2048x128 squeezes_S1x2048x128_S2048x128) (Memref.slice_unit_congr _ ((off_tile t).2.1) _ _ _ _)
@[sl_canon] theorem tile_19q' (t : Fin grid0.N) :
    (scM0_0.slice (Rect.unit (s := S2x2048x128) (k0_off19 (grid0.coords t)) ![1, 2048, 128] (k0_off19_inb (grid0.coords t))) (fun _ => rfl)).squeeze S2048x128 squeezes_S1x2048x128_S2048x128 = wtq (Ring.sl 2 t.val) :=
  tile_19q t
@[sl_canon] theorem tile_19k (t : Fin grid0.N) :
    (scM0_1.slice (Rect.unit (s := S2x2048x128) (k0_off19 (grid0.coords t)) S1x2048x128.size (k0_off19_inb (grid0.coords t))) (fun _ => rfl)).squeeze S2048x128 squeezes_S1x2048x128_S2048x128 = wtk (Ring.sl 2 t.val) :=
  congrArg (fun M : Memref sig .tc .vmem S1x2048x128 .bf16 => M.squeeze S2048x128 squeezes_S1x2048x128_S2048x128) (Memref.slice_unit_congr _ ((off_tile t).2.1) _ _ _ _)
@[sl_canon] theorem tile_19k' (t : Fin grid0.N) :
    (scM0_1.slice (Rect.unit (s := S2x2048x128) (k0_off19 (grid0.coords t)) ![1, 2048, 128] (k0_off19_inb (grid0.coords t))) (fun _ => rfl)).squeeze S2048x128 squeezes_S1x2048x128_S2048x128 = wtk (Ring.sl 2 t.val) :=
  tile_19k t
@[sl_canon] theorem tile_26q (t : Fin grid0.N) (h : cd3 (grid0.coords t)) :
    (scM0_0.slice (Rect.unit (s := S2x2048x128) (k0_off26 (grid0.coords t)) S1x2048x128.size (k0_off26_inb (grid0.coords t) h)) (fun _ => rfl)).squeeze S2048x128 squeezes_S1x2048x128_S2048x128 = wtq (Ring.sl 2 t.val) :=
  congrArg (fun M : Memref sig .tc .vmem S1x2048x128 .bf16 => M.squeeze S2048x128 squeezes_S1x2048x128_S2048x128) (Memref.slice_unit_congr _ ((off_tile t).2.2.1) _ _ _ _)
@[sl_canon] theorem tile_26q' (t : Fin grid0.N) (h : cd3 (grid0.coords t)) :
    (scM0_0.slice (Rect.unit (s := S2x2048x128) (k0_off26 (grid0.coords t)) ![1, 2048, 128] (k0_off26_inb (grid0.coords t) h)) (fun _ => rfl)).squeeze S2048x128 squeezes_S1x2048x128_S2048x128 = wtq (Ring.sl 2 t.val) :=
  tile_26q t h
@[sl_canon] theorem tile_26k (t : Fin grid0.N) (h : cd3 (grid0.coords t)) :
    (scM0_1.slice (Rect.unit (s := S2x2048x128) (k0_off26 (grid0.coords t)) S1x2048x128.size (k0_off26_inb (grid0.coords t) h)) (fun _ => rfl)).squeeze S2048x128 squeezes_S1x2048x128_S2048x128 = wtk (Ring.sl 2 t.val) :=
  congrArg (fun M : Memref sig .tc .vmem S1x2048x128 .bf16 => M.squeeze S2048x128 squeezes_S1x2048x128_S2048x128) (Memref.slice_unit_congr _ ((off_tile t).2.2.1) _ _ _ _)
@[sl_canon] theorem tile_26k' (t : Fin grid0.N) (h : cd3 (grid0.coords t)) :
    (scM0_1.slice (Rect.unit (s := S2x2048x128) (k0_off26 (grid0.coords t)) ![1, 2048, 128] (k0_off26_inb (grid0.coords t) h)) (fun _ => rfl)).squeeze S2048x128 squeezes_S1x2048x128_S2048x128 = wtk (Ring.sl 2 t.val) :=
  tile_26k t h
@[sl_canon] theorem tile_32q (t : Fin grid0.N) (h : cd3 (grid0.coords t)) :
    (scM0_0.slice (Rect.unit (s := S2x2048x128) (k0_off32 (grid0.coords t)) S1x2048x128.size (k0_off32_inb (grid0.coords t) h)) (fun _ => rfl)).squeeze S2048x128 squeezes_S1x2048x128_S2048x128 = wtq (Ring.sl 2 (t.val + 1)) :=
  congrArg (fun M : Memref sig .tc .vmem S1x2048x128 .bf16 => M.squeeze S2048x128 squeezes_S1x2048x128_S2048x128) (Memref.slice_unit_congr _ ((off_tile t).2.2.2.1) _ _ _ _)
@[sl_canon] theorem tile_32q' (t : Fin grid0.N) (h : cd3 (grid0.coords t)) :
    (scM0_0.slice (Rect.unit (s := S2x2048x128) (k0_off32 (grid0.coords t)) ![1, 2048, 128] (k0_off32_inb (grid0.coords t) h)) (fun _ => rfl)).squeeze S2048x128 squeezes_S1x2048x128_S2048x128 = wtq (Ring.sl 2 (t.val + 1)) :=
  tile_32q t h
@[sl_canon] theorem tile_32k (t : Fin grid0.N) (h : cd3 (grid0.coords t)) :
    (scM0_1.slice (Rect.unit (s := S2x2048x128) (k0_off32 (grid0.coords t)) S1x2048x128.size (k0_off32_inb (grid0.coords t) h)) (fun _ => rfl)).squeeze S2048x128 squeezes_S1x2048x128_S2048x128 = wtk (Ring.sl 2 (t.val + 1)) :=
  congrArg (fun M : Memref sig .tc .vmem S1x2048x128 .bf16 => M.squeeze S2048x128 squeezes_S1x2048x128_S2048x128) (Memref.slice_unit_congr _ ((off_tile t).2.2.2.1) _ _ _ _)
@[sl_canon] theorem tile_32k' (t : Fin grid0.N) (h : cd3 (grid0.coords t)) :
    (scM0_1.slice (Rect.unit (s := S2x2048x128) (k0_off32 (grid0.coords t)) ![1, 2048, 128] (k0_off32_inb (grid0.coords t) h)) (fun _ => rfl)).squeeze S2048x128 squeezes_S1x2048x128_S2048x128 = wtk (Ring.sl 2 (t.val + 1)) :=
  tile_32k t h
@[sl_canon] theorem tile_7v (t : Fin grid0.N) (h : cd1 (grid0.coords t)) :
    (scM0_2.slice (Rect.unit (s := S2x2x2048x128) (k0_off7 (grid0.coords t)) S1x2x2048x128.size (k0_off7_inb (grid0.coords t) h)) (fun _ => rfl)).squeeze S2x2048x128 squeezes_S1x2x2048x128_S2x2048x128 = wtv (Ring.sl 2 t.val) :=
  congrArg (fun M : Memref sig .tc .vmem S1x2x2048x128 .bf16 => M.squeeze S2x2048x128 squeezes_S1x2x2048x128_S2x2048x128) (Memref.slice_unit_congr _ ((off_tile t).2.2.2.2.1) _ _ _ _)
@[sl_canon] theorem tile_7v' (t : Fin grid0.N) (h : cd1 (grid0.coords t)) :
    (scM0_2.slice (Rect.unit (s := S2x2x2048x128) (k0_off7 (grid0.coords t)) ![1, 2, 2048, 128] (k0_off7_inb (grid0.coords t) h)) (fun _ => rfl)).squeeze S2x2048x128 squeezes_S1x2x2048x128_S2x2048x128 = wtv (Ring.sl 2 t.val) :=
  tile_7v t h
@[sl_canon] theorem tile_23v (t : Fin grid0.N) :
    (scM0_2.slice (Rect.unit (s := S2x2x2048x128) (k0_off23 (grid0.coords t)) S1x2x2048x128.size (k0_off23_inb (grid0.coords t))) (fun _ => rfl)).squeeze S2x2048x128 squeezes_S1x2x2048x128_S2x2048x128 = wtv (Ring.sl 2 t.val) :=
  congrArg (fun M : Memref sig .tc .vmem S1x2x2048x128 .bf16 => M.squeeze S2x2048x128 squeezes_S1x2x2048x128_S2x2048x128) (Memref.slice_unit_congr _ ((off_tile t).2.2.2.2.2.1) _ _ _ _)
@[sl_canon] theorem tile_23v' (t : Fin grid0.N) :
    (scM0_2.slice (Rect.unit (s := S2x2x2048x128) (k0_off23 (grid0.coords t)) ![1, 2, 2048, 128] (k0_off23_inb (grid0.coords t))) (fun _ => rfl)).squeeze S2x2048x128 squeezes_S1x2x2048x128_S2x2048x128 = wtv (Ring.sl 2 t.val) :=
  tile_23v t
@[sl_canon] theorem tile_30v (t : Fin grid0.N) (h : cd3 (grid0.coords t)) :
    (scM0_2.slice (Rect.unit (s := S2x2x2048x128) (k0_off30 (grid0.coords t)) S1x2x2048x128.size (k0_off30_inb (grid0.coords t) h)) (fun _ => rfl)).squeeze S2x2048x128 squeezes_S1x2x2048x128_S2x2048x128 = wtv (Ring.sl 2 t.val) :=
  congrArg (fun M : Memref sig .tc .vmem S1x2x2048x128 .bf16 => M.squeeze S2x2048x128 squeezes_S1x2x2048x128_S2x2048x128) (Memref.slice_unit_congr _ ((off_tile t).2.2.2.2.2.2.1) _ _ _ _)
@[sl_canon] theorem tile_30v' (t : Fin grid0.N) (h : cd3 (grid0.coords t)) :
    (scM0_2.slice (Rect.unit (s := S2x2x2048x128) (k0_off30 (grid0.coords t)) ![1, 2, 2048, 128] (k0_off30_inb (grid0.coords t) h)) (fun _ => rfl)).squeeze S2x2048x128 squeezes_S1x2x2048x128_S2x2048x128 = wtv (Ring.sl 2 t.val) :=
  tile_30v t h
@[sl_canon] theorem tile_35v (t : Fin grid0.N) (h : cd3 (grid0.coords t)) :
    (scM0_2.slice (Rect.unit (s := S2x2x2048x128) (k0_off35 (grid0.coords t)) S1x2x2048x128.size (k0_off35_inb (grid0.coords t) h)) (fun _ => rfl)).squeeze S2x2048x128 squeezes_S1x2x2048x128_S2x2048x128 = wtv (Ring.sl 2 (t.val + 1)) :=
  congrArg (fun M : Memref sig .tc .vmem S1x2x2048x128 .bf16 => M.squeeze S2x2048x128 squeezes_S1x2x2048x128_S2x2048x128) (Memref.slice_unit_congr _ ((off_tile t).2.2.2.2.2.2.2) _ _ _ _)
@[sl_canon] theorem tile_35v' (t : Fin grid0.N) (h : cd3 (grid0.coords t)) :
    (scM0_2.slice (Rect.unit (s := S2x2x2048x128) (k0_off35 (grid0.coords t)) ![1, 2, 2048, 128] (k0_off35_inb (grid0.coords t) h)) (fun _ => rfl)).squeeze S2x2048x128 squeezes_S1x2x2048x128_S2x2048x128 = wtv (Ring.sl 2 (t.val + 1)) :=
  tile_35v t h
/-! ### The stores inside a tile: sixteen blocks of rows from the last to the first -/

theorem off_rows : ∀ (t : Fin grid0.N) (r : Fin 16), k0_off12 (grid0.coords t) (BitVec.ofNat 32 r.val) = ![(Ring.sl 2 t.val).val, 0, 1920 - 128 * r.val, 0]
    ∧ k0_off15 (grid0.coords t) (BitVec.ofNat 32 r.val) = ![(Ring.sl 2 t.val).val, 1, 1920 - 128 * r.val, 0] ∧ k0_off16 (grid0.coords t) (BitVec.ofNat 32 r.val) = ![(Ring.sl 2 t.val).val, 1920 - 128 * r.val, 0] := by decide +kernel
instance (priority := high) (t : Fin grid0.N) : ClosedOff (k0_off12 (grid0.coords t) 0#32) := ⟨![(Ring.sl 2 t.val).val, 0, 1920, 0], (off_rows t 0).1⟩
instance (priority := high) (t : Fin grid0.N) : ClosedOff (k0_off15 (grid0.coords t) 0#32) := ⟨![(Ring.sl 2 t.val).val, 1, 1920, 0], (off_rows t 0).2.1⟩
instance (priority := high) (t : Fin grid0.N) : ClosedOff (k0_off16 (grid0.coords t) 0#32) := ⟨![(Ring.sl 2 t.val).val, 1920, 0], (off_rows t 0).2.2⟩
instance (priority := high) (t : Fin grid0.N) : ClosedOff (k0_off12 (grid0.coords t) 1#32) := ⟨![(Ring.sl 2 t.val).val, 0, 1792, 0], (off_rows t 1).1⟩
instance (priority := high) (t : Fin grid0.N) : ClosedOff (k0_off15 (grid0.coords t) 1#32) := ⟨![(Ring.sl 2 t.val).val, 1, 1792, 0], (off_rows t 1).2.1⟩
instance (priority := high) (t : Fin grid0.N) : ClosedOff (k0_off16 (grid0.coords t) 1#32) := ⟨![(Ring.sl 2 t.val).val, 1792, 0], (off_rows t 1).2.2⟩
instance (priority := high) (t : Fin grid0.N) : ClosedOff (k0_off12 (grid0.coords t) 2#32) := ⟨![(Ring.sl 2 t.val).val, 0, 1664, 0], (off_rows t 2).1⟩
instance (priority := high) (t : Fin grid0.N) : ClosedOff (k0_off15 (grid0.coords t) 2#32) := ⟨![(Ring.sl 2 t.val).val, 1, 1664, 0], (off_rows t 2).2.1⟩
instance (priority := high) (t : Fin grid0.N) : ClosedOff (k0_off16 (grid0.coords t) 2#32) := ⟨![(Ring.sl 2 t.val).val, 1664, 0], (off_rows t 2).2.2⟩
instance (priority := high) (t : Fin grid0.N) : ClosedOff (k0_off12 (grid0.coords t) 3#32) := ⟨![(Ring.sl 2 t.val).val, 0, 1536, 0], (off_rows t 3).1⟩
instance (priority := high) (t : Fin grid0.N) : ClosedOff (k0_off15 (grid0.coords t) 3#32) := ⟨![(Ring.sl 2 t.val).val, 1, 1536, 0], (off_rows t 3).2.1⟩
instance (priority := high) (t : Fin grid0.N) : ClosedOff (k0_off16 (grid0.coords t) 3#32) := ⟨![(Ring.sl 2 t.val).val, 1536, 0], (off_rows t 3).2.2⟩
instance (priority := high) (t : Fin grid0.N) : ClosedOff (k0_off12 (grid0.coords t) 4#32) := ⟨![(Ring.sl 2 t.val).val, 0, 1408, 0], (off_rows t 4).1⟩
instance (priority := high) (t : Fin grid0.N) : ClosedOff (k0_off15 (grid0.coords t) 4#32) := ⟨![(Ring.sl 2 t.val).val, 1, 1408, 0], (off_rows t 4).2.1⟩
instance (priority := high) (t : Fin grid0.N) : ClosedOff (k0_off16 (grid0.coords t) 4#32) := ⟨![(Ring.sl 2 t.val).val, 1408, 0], (off_rows t 4).2.2⟩
instance (priority := high) (t : Fin grid0.N) : ClosedOff (k0_off12 (grid0.coords t) 5#32) := ⟨![(Ring.sl 2 t.val).val, 0, 1280, 0], (off_rows t 5).1⟩
instance (priority := high) (t : Fin grid0.N) : ClosedOff (k0_off15 (grid0.coords t) 5#32) := ⟨![(Ring.sl 2 t.val).val, 1, 1280, 0], (off_rows t 5).2.1⟩
instance (priority := high) (t : Fin grid0.N) : ClosedOff (k0_off16 (grid0.coords t) 5#32) := ⟨![(Ring.sl 2 t.val).val, 1280, 0], (off_rows t 5).2.2⟩
instance (priority := high) (t : Fin grid0.N) : ClosedOff (k0_off12 (grid0.coords t) 6#32) := ⟨![(Ring.sl 2 t.val).val, 0, 1152, 0], (off_rows t 6).1⟩
instance (priority := high) (t : Fin grid0.N) : ClosedOff (k0_off15 (grid0.coords t) 6#32) := ⟨![(Ring.sl 2 t.val).val, 1, 1152, 0], (off_rows t 6).2.1⟩
instance (priority := high) (t : Fin grid0.N) : ClosedOff (k0_off16 (grid0.coords t) 6#32) := ⟨![(Ring.sl 2 t.val).val, 1152, 0], (off_rows t 6).2.2⟩
instance (priority := high) (t : Fin grid0.N) : ClosedOff (k0_off12 (grid0.coords t) 7#32) := ⟨![(Ring.sl 2 t.val).val, 0, 1024, 0], (off_rows t 7).1⟩
instance (priority := high) (t : Fin grid0.N) : ClosedOff (k0_off15 (grid0.coords t) 7#32) := ⟨![(Ring.sl 2 t.val).val, 1, 1024, 0], (off_rows t 7).2.1⟩
instance (priority := high) (t : Fin grid0.N) : ClosedOff (k0_off16 (grid0.coords t) 7#32) := ⟨![(Ring.sl 2 t.val).val, 1024, 0], (off_rows t 7).2.2⟩
instance (priority := high) (t : Fin grid0.N) : ClosedOff (k0_off12 (grid0.coords t) 8#32) := ⟨![(Ring.sl 2 t.val).val, 0, 896, 0], (off_rows t 8).1⟩
instance (priority := high) (t : Fin grid0.N) : ClosedOff (k0_off15 (grid0.coords t) 8#32) := ⟨![(Ring.sl 2 t.val).val, 1, 896, 0], (off_rows t 8).2.1⟩
instance (priority := high) (t : Fin grid0.N) : ClosedOff (k0_off16 (grid0.coords t) 8#32) := ⟨![(Ring.sl 2 t.val).val, 896, 0], (off_rows t 8).2.2⟩
instance (priority := high) (t : Fin grid0.N) : ClosedOff (k0_off12 (grid0.coords t) 9#32) := ⟨![(Ring.sl 2 t.val).val, 0, 768, 0], (off_rows t 9).1⟩
instance (priority := high) (t : Fin grid0.N) : ClosedOff (k0_off15 (grid0.coords t) 9#32) := ⟨![(Ring.sl 2 t.val).val, 1, 768, 0], (off_rows t 9).2.1⟩
instance (priority := high) (t : Fin grid0.N) : ClosedOff (k0_off16 (grid0.coords t) 9#32) := ⟨![(Ring.sl 2 t.val).val, 768, 0], (off_rows t 9).2.2⟩
instance (priority := high) (t : Fin grid0.N) : ClosedOff (k0_off12 (grid0.coords t) 10#32) := ⟨![(Ring.sl 2 t.val).val, 0, 640, 0], (off_rows t 10).1⟩
instance (priority := high) (t : Fin grid0.N) : ClosedOff (k0_off15 (grid0.coords t) 10#32) := ⟨![(Ring.sl 2 t.val).val, 1, 640, 0], (off_rows t 10).2.1⟩
instance (priority := high) (t : Fin grid0.N) : ClosedOff (k0_off16 (grid0.coords t) 10#32) := ⟨![(Ring.sl 2 t.val).val, 640, 0], (off_rows t 10).2.2⟩
instance (priority := high) (t : Fin grid0.N) : ClosedOff (k0_off12 (grid0.coords t) 11#32) := ⟨![(Ring.sl 2 t.val).val, 0, 512, 0], (off_rows t 11).1⟩
instance (priority := high) (t : Fin grid0.N) : ClosedOff (k0_off15 (grid0.coords t) 11#32) := ⟨![(Ring.sl 2 t.val).val, 1, 512, 0], (off_rows t 11).2.1⟩
instance (priority := high) (t : Fin grid0.N) : ClosedOff (k0_off16 (grid0.coords t) 11#32) := ⟨![(Ring.sl 2 t.val).val, 512, 0], (off_rows t 11).2.2⟩
instance (priority := high) (t : Fin grid0.N) : ClosedOff (k0_off12 (grid0.coords t) 12#32) := ⟨![(Ring.sl 2 t.val).val, 0, 384, 0], (off_rows t 12).1⟩
instance (priority := high) (t : Fin grid0.N) : ClosedOff (k0_off15 (grid0.coords t) 12#32) := ⟨![(Ring.sl 2 t.val).val, 1, 384, 0], (off_rows t 12).2.1⟩
instance (priority := high) (t : Fin grid0.N) : ClosedOff (k0_off16 (grid0.coords t) 12#32) := ⟨![(Ring.sl 2 t.val).val, 384, 0], (off_rows t 12).2.2⟩
instance (priority := high) (t : Fin grid0.N) : ClosedOff (k0_off12 (grid0.coords t) 13#32) := ⟨![(Ring.sl 2 t.val).val, 0, 256, 0], (off_rows t 13).1⟩
instance (priority := high) (t : Fin grid0.N) : ClosedOff (k0_off15 (grid0.coords t) 13#32) := ⟨![(Ring.sl 2 t.val).val, 1, 256, 0], (off_rows t 13).2.1⟩
instance (priority := high) (t : Fin grid0.N) : ClosedOff (k0_off16 (grid0.coords t) 13#32) := ⟨![(Ring.sl 2 t.val).val, 256, 0], (off_rows t 13).2.2⟩
instance (priority := high) (t : Fin grid0.N) : ClosedOff (k0_off12 (grid0.coords t) 14#32) := ⟨![(Ring.sl 2 t.val).val, 0, 128, 0], (off_rows t 14).1⟩
instance (priority := high) (t : Fin grid0.N) : ClosedOff (k0_off15 (grid0.coords t) 14#32) := ⟨![(Ring.sl 2 t.val).val, 1, 128, 0], (off_rows t 14).2.1⟩
instance (priority := high) (t : Fin grid0.N) : ClosedOff (k0_off16 (grid0.coords t) 14#32) := ⟨![(Ring.sl 2 t.val).val, 128, 0], (off_rows t 14).2.2⟩
instance (priority := high) (t : Fin grid0.N) : ClosedOff (k0_off12 (grid0.coords t) 15#32) := ⟨![(Ring.sl 2 t.val).val, 0, 0, 0], (off_rows t 15).1⟩
instance (priority := high) (t : Fin grid0.N) : ClosedOff (k0_off15 (grid0.coords t) 15#32) := ⟨![(Ring.sl 2 t.val).val, 1, 0, 0], (off_rows t 15).2.1⟩
instance (priority := high) (t : Fin grid0.N) : ClosedOff (k0_off16 (grid0.coords t) 15#32) := ⟨![(Ring.sl 2 t.val).val, 0, 0], (off_rows t 15).2.2⟩
end Cert.RetBIdeal.Hand

end
-- ==== Proof.RetBHome.lean ====
/- Into the ring and out of it: the three scratch buffers are their two tiles each and a rest, the projection's cotangent is the
   pieces the eight points write and a rest. -/
module

public import proofs.«01_k».proof.Proof.RetBRing

@[expose] public section

set_option maxRecDepth 16384
noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD)

/-- The elements outside every tile and every piece, at some contents: carried beside the ring. -/
abbrev tileRest {ℓ : Loc nD τ sig} {ι : Type} [Fintype ι] (J : ι → Finset (Idx ℓ)) : sProp 𝕄 :=
  iprop(∃ f : Buf (Elt F) ℓ, ℓ ↦[Finset.univ \ Finset.univ.biUnion J]{fullShare} f)
def rest : sProp 𝕄 :=
  iprop(tileRest (F := F) (ℓ := (c : Thread nD τ).loc cc0_scratch0) t3Set ∗ tileRest (F := F) (ℓ := (c : Thread nD τ).loc cc0_scratch1) t3Set
    ∗ tileRest (F := F) (ℓ := (c : Thread nD τ).loc cc0_scratch2) t4Set ∗ tileRest (F := F) (ℓ := (c : Thread nD τ).loc main_v20) pSet)

theorem two (Φ : Fin 2 → sProp 𝕄) : bigSep Finset.univ Φ = iprop(Φ 0 ∗ Φ 1) := by
  rw [BI.bigSep_eq_bigSepL_of_eq [0, 1] (by decide) (by decide)]; rfl
theorem some_congr {α : Type} {P Q : α → sProp 𝕄} (h : ∀ a, P a = Q a) : iprop(∃ a, P a) = iprop(∃ a, Q a) := by rw [funext h]
theorem sep_eq {P P' Q Q' : sProp 𝕄} (h : P = P') (h' : Q = Q') : iprop(P ∗ Q) = iprop(P' ∗ Q') := by rw [h, h']

theorem tiles_q_in : iprop(∃ d, owns (c : Thread nD τ) scM0_0 fullShare d) ⊢ (iprop(((∃ e, held (F := F) c (wtq 0) e) ∗ (∃ e, held (F := F) c (wtq 1) e)) ∗ tileRest (F := F) (ℓ := (c : Thread nD τ).loc cc0_scratch0) t3Set) : sProp 𝕄) := by
  simp only [scM0_0, owns_whole]
  exact (Ring.pieces_split_spare (U := Pipeline.UD sig nD τ) (ℓ := (c : Thread nD τ).loc cc0_scratch0) (q := fullShare) t3Set t3Set_disjoint
    (fun g e => held (F := F) c (wtq g) e) (fun g e => wtq_eq c g e)).trans (Entails.of_eq (sep_eq (two _) rfl))
theorem tiles_q_out : (iprop(((∃ e, held (F := F) c (wtq 0) e) ∗ (∃ e, held (F := F) c (wtq 1) e)) ∗ tileRest (F := F) (ℓ := (c : Thread nD τ).loc cc0_scratch0) t3Set) : sProp 𝕄) ⊢ iprop(∃ d, owns (c : Thread nD τ) scM0_0 fullShare d) := by
  simp only [scM0_0, owns_whole]
  exact (Entails.of_eq (sep_eq (two (fun g => iprop(∃ e, held (F := F) c (wtq g) e))).symm rfl)).trans (Ring.pieces_join_spare (U := Pipeline.UD sig nD τ) (ℓ := (c : Thread nD τ).loc cc0_scratch0) (q := fullShare) t3Set t3Set_disjoint
    (fun g e => held (F := F) c (wtq g) e) (fun g e => wtq_eq c g e))
theorem tiles_k_in : iprop(∃ d, owns (c : Thread nD τ) scM0_1 fullShare d) ⊢ (iprop(((∃ e, held (F := F) c (wtk 0) e) ∗ (∃ e, held (F := F) c (wtk 1) e)) ∗ tileRest (F := F) (ℓ := (c : Thread nD τ).loc cc0_scratch1) t3Set) : sProp 𝕄) := by
  simp only [scM0_1, owns_whole]
  exact (Ring.pieces_split_spare (U := Pipeline.UD sig nD τ) (ℓ := (c : Thread nD τ).loc cc0_scratch1) (q := fullShare) t3Set t3Set_disjoint
    (fun g e => held (F := F) c (wtk g) e) (fun g e => wtk_eq c g e)).trans (Entails.of_eq (sep_eq (two _) rfl))
theorem tiles_k_out : (iprop(((∃ e, held (F := F) c (wtk 0) e) ∗ (∃ e, held (F := F) c (wtk 1) e)) ∗ tileRest (F := F) (ℓ := (c : Thread nD τ).loc cc0_scratch1) t3Set) : sProp 𝕄) ⊢ iprop(∃ d, owns (c : Thread nD τ) scM0_1 fullShare d) := by
  simp only [scM0_1, owns_whole]
  exact (Entails.of_eq (sep_eq (two (fun g => iprop(∃ e, held (F := F) c (wtk g) e))).symm rfl)).trans (Ring.pieces_join_spare (U := Pipeline.UD sig nD τ) (ℓ := (c : Thread nD τ).loc cc0_scratch1) (q := fullShare) t3Set t3Set_disjoint
    (fun g e => held (F := F) c (wtk g) e) (fun g e => wtk_eq c g e))
theorem tiles_v_in : iprop(∃ d, owns (c : Thread nD τ) scM0_2 fullShare d) ⊢ (iprop(((∃ e, held (F := F) c (wtv 0) e) ∗ (∃ e, held (F := F) c (wtv 1) e)) ∗ tileRest (F := F) (ℓ := (c : Thread nD τ).loc cc0_scratch2) t4Set) : sProp 𝕄) := by
  simp only [scM0_2, owns_whole]
  exact (Ring.pieces_split_spare (U := Pipeline.UD sig nD τ) (ℓ := (c : Thread nD τ).loc cc0_scratch2) (q := fullShare) t4Set t4Set_disjoint
    (fun g e => held (F := F) c (wtv g) e) (fun g e => wtv_eq c g e)).trans (Entails.of_eq (sep_eq (two _) rfl))
theorem tiles_v_out : (iprop(((∃ e, held (F := F) c (wtv 0) e) ∗ (∃ e, held (F := F) c (wtv 1) e)) ∗ tileRest (F := F) (ℓ := (c : Thread nD τ).loc cc0_scratch2) t4Set) : sProp 𝕄) ⊢ iprop(∃ d, owns (c : Thread nD τ) scM0_2 fullShare d) := by
  simp only [scM0_2, owns_whole]
  exact (Entails.of_eq (sep_eq (two (fun g => iprop(∃ e, held (F := F) c (wtv g) e))).symm rfl)).trans (Ring.pieces_join_spare (U := Pipeline.UD sig nD τ) (ℓ := (c : Thread nD τ).loc cc0_scratch2) (q := fullShare) t4Set t4Set_disjoint
    (fun g e => held (F := F) c (wtv g) e) (fun g e => wtv_eq c g e))

/-- A point's three pieces are the pieces at the point. -/
theorem whome_eq (u : Fin 8) : (bigSep Finset.univ (fun j : Fin 3 => iprop(∃ f, pieceAt (F := F) c (u, j) f)) : sProp 𝕄) = whome c u := by
  rw [BI.bigSep_eq_bigSepL_of_eq [0, 1, 2] (by decide) (by decide)]
  exact sep_eq (some_congr fun f => (wpq_eq c u f).symm) (sep_eq (some_congr fun f => (wpk_eq c u f).symm) (some_congr fun f => (wpv_eq c u f).symm))
theorem whomes_eq : (bigSep Finset.univ (fun i : Fin 8 × Fin 3 => iprop(∃ f, pieceAt (F := F) c i f)) : sProp 𝕄) = bigSep Finset.univ (whome c) := by
  rw [BI.bigSep_univ_prod]; exact BI.bigSep_congr fun u _ => whome_eq c u
theorem pieces_in : iprop(∃ f, hbPt0 (F := F) c hbM0_0 f) ⊢ (iprop(bigSep Finset.univ (whome c) ∗ tileRest (F := F) (ℓ := (c : Thread nD τ).loc main_v20) pSet) : sProp 𝕄) := by
  rw [← whomes_eq]; unfold hbPt0
  exact Ring.pieces_split_spare (U := Pipeline.UD sig nD τ) (ℓ := (c : Thread nD τ).loc main_v20) (q := fullShare) pSet pSet_disjoint
    (fun i f => pieceAt c i f) (fun _ _ => rfl)
theorem pieces_out : (iprop(bigSep Finset.univ (whome c) ∗ tileRest (F := F) (ℓ := (c : Thread nD τ).loc main_v20) pSet) : sProp 𝕄) ⊢ iprop(∃ f, hbPt0 (F := F) c hbM0_0 f) := by
  rw [← whomes_eq]; unfold hbPt0
  exact Ring.pieces_join_spare (U := Pipeline.UD sig nD τ) (ℓ := (c : Thread nD τ).loc main_v20) (q := fullShare) pSet pSet_disjoint
    (fun i f => pieceAt c i f) (fun _ _ => rfl)
end

/-- The launch's parts are the ring before the first point: every piece home, both groups of tiles free; -/
theorem wring_in (c : Dev nD) : iprop((∃ d, owns (c : Thread nD τ) scM0_0 fullShare d) ∗ (∃ d, owns (c : Thread nD τ) scM0_1 fullShare d) ∗ (∃ d, owns (c : Thread nD τ) scM0_2 fullShare d) ∗ cells0 c ∗ (∃ f, hbPt0 c hbM0_0 f)) ⊢ (iprop(wringAt (F := F) c 0 ∗ rest c) : sProp 𝕄) := by
  unfold wringAt rest cells0; rw [Ring.AtBΦ_lt _ _ _ _ _ 0 (by decide), Ring.AtB_zero]; unfold Ring.AtB₀
  obtain ⟨e0, e1, e2, e3, e4, e5⟩ := wcellR_eq
  rw [two, ← e0, ← e1, ← e2, ← e3, ← e4, ← e5]
  iintro ⟨HQ, HK, HV, ⟨Hc0, Hc1, Hc2, Hc3, Hc4, Hc5⟩, HD⟩
  ihave HQ' := (tiles_q_in (F := F) c) $$ HQ
  ihave HK' := (tiles_k_in (F := F) c) $$ HK
  ihave HV' := (tiles_v_in (F := F) c) $$ HV
  ihave HD' := (pieces_in (F := F) c) $$ HD
  icases HQ' with ⟨⟨Hq0, Hq1⟩, Hqr⟩
  icases HK' with ⟨⟨Hk0, Hk1⟩, Hkr⟩
  icases HV' with ⟨⟨Hv0, Hv1⟩, Hvr⟩
  icases HD' with ⟨HP, HPr⟩
  isplitl [HP Hc0 Hc1 Hc2 Hc3 Hc4 Hc5 Hq0 Hq1 Hk0 Hk1 Hv0 Hv1]
  · isplitl [HP]; · iexact HP
    isplitl [Hc0 Hc1 Hc2 Hq0 Hk0 Hv0]
    · isplitl [Hc0 Hq0]
      · isplitl [Hc0]; · iexact Hc0
        iexact Hq0
      isplitl [Hc1 Hk0]
      · isplitl [Hc1]; · iexact Hc1
        iexact Hk0
      isplitl [Hc2]; · iexact Hc2
      iexact Hv0
    isplitl [Hc3 Hq1]
    · isplitl [Hc3]; · iexact Hc3
      iexact Hq1
    isplitl [Hc4 Hk1]
    · isplitl [Hc4]; · iexact Hc4
      iexact Hk1
    isplitl [Hc5]; · iexact Hc5
    iexact Hv1
  isplitl [Hqr]; · iexact Hqr
  isplitl [Hkr]; · iexact Hkr
  isplitl [Hvr]; · iexact Hvr
  iexact HPr

/-- and after the last point's waits the ring is those parts again. -/
theorem wring_out (c : Dev nD) : (iprop(wringAt (F := F) c 8 ∗ rest c) : sProp 𝕄) ⊢ iprop((∃ d, owns (c : Thread nD τ) scM0_0 fullShare d) ∗ (∃ d, owns (c : Thread nD τ) scM0_1 fullShare d) ∗ (∃ d, owns (c : Thread nD τ) scM0_2 fullShare d) ∗ cells0 c ∗ (∃ f, hbPt0 c hbM0_0 f)) := by
  unfold wringAt rest cells0; rw [Ring.AtBΦ_ge _ _ _ _ _ 8 (by decide), Ring.AtBEnd_frame]; unfold Ring.AtB₀
  obtain ⟨e0, e1, e2, e3, e4, e5⟩ := wcellR_eq
  rw [two, ← e0, ← e1, ← e2, ← e3, ← e4, ← e5]
  iintro ⟨⟨HP, ⟨⟨Hc0, Hq0⟩, ⟨Hc1, Hk0⟩, ⟨Hc2, Hv0⟩⟩, ⟨⟨Hc3, Hq1⟩, ⟨Hc4, Hk1⟩, ⟨Hc5, Hv1⟩⟩⟩, Hqr, Hkr, Hvr, HPr⟩
  isplitl [Hq0 Hq1 Hqr]
  · iapply (tiles_q_out (F := F) c)
    isplitl [Hq0 Hq1]
    · isplitl [Hq0]; · iexact Hq0
      iexact Hq1
    iexact Hqr
  isplitl [Hk0 Hk1 Hkr]
  · iapply (tiles_k_out (F := F) c)
    isplitl [Hk0 Hk1]
    · isplitl [Hk0]; · iexact Hk0
      iexact Hk1
    iexact Hkr
  isplitl [Hv0 Hv1 Hvr]
  · iapply (tiles_v_out (F := F) c)
    isplitl [Hv0 Hv1]
    · isplitl [Hv0]; · iexact Hv0
      iexact Hv1
    iexact Hvr
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  iapply (pieces_out (F := F) c)
  isplitl [HP]; · iexact HP
  iexact HPr

end Cert.RetBIdeal.Hand

end
-- ==== Proof.RetBRunA.lean ====
/- The body at the first two points: nothing is waited for. -/
module

public import proofs.«01_k».proof.Proof.RetBRing

@[expose] public section

set_option maxRecDepth 65536

noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
/-- The first point: the state's cotangent is cleared. -/
theorem run0 (c : Dev nD) (t : Fin cfg0.N) (arg2 : Memref sig .tc .vmem S1x2048x128 .f32) (harg2 : arg2.IsWhole) (arg3 : Memref sig .tc .vmem S1x2048x128 .f32) (harg3 : arg3.IsWhole) (arg4 : Memref sig .tc .vmem S2x2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2x2048x128 .f32) (harg7 : arg7.IsWhole) (arg8 : Memref sig .tc .vmem S2x16x128x128 .f32) (harg8 : arg8.IsWhole)
    (x0 : Vec F S1x2048x128 .f32) (x1 : Vec F S1x2048x128 .f32) (x2 : Vec F S2x2048x128 .f32) (x3 : Vec F S2048x128 .f32) (x4 : Vec F S2048x128 .f32) (x5 : Vec F S2x2048x128 .f32) (x6 : Vec F S2x16x128x128 .f32)
    (hc1 : ¬cd1 (grid0.coords t)) (hc2 : cd2 (grid0.coords t)) (hc3 : ¬cd3 (grid0.coords t)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 t.val)) f) ∗ (∃ f, held (F := F) c (wpk (Ring.bk 8 t.val)) f) ∗ (∃ f, held (F := F) c (wpv (Ring.bk 8 t.val)) f) ∗ wcellP c (Ring.sl 2 t.val) 0 ∗ (∃ e, held (F := F) c (wtq (Ring.sl 2 t.val)) e) ∗ wcellP c (Ring.sl 2 t.val) 1 ∗ (∃ e, held (F := F) c (wtk (Ring.sl 2 t.val)) e) ∗ wcellP c (Ring.sl 2 t.val) 2 ∗ (∃ e, held (F := F) c (wtv (Ring.sl 2 t.val)) e) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ flies c (wpq (Ring.bk 8 t.val)) (wtq (Ring.sl 2 t.val)) (wcellR (Ring.sl 2 t.val) 0) ∗ flies c (wpk (Ring.bk 8 t.val)) (wtk (Ring.sl 2 t.val)) (wcellR (Ring.sl 2 t.val) 1) ∗ flies c (wpv (Ring.bk 8 t.val)) (wtv (Ring.sl 2 t.val)) (wcellR (Ring.sl 2 t.val) 2) ∗ (∃ W', owes (c : Thread nD τ) 0 W')) -∗ K ⟨⟩))
      ⊢ wp frame (wpE (defs₀ (F := F)) Variants.none c none) Set.univ (cc0_ret_bwd (grid0.coords t) arg2 harg2 arg3 harg3 arg4 harg4 arg5 harg5 arg6 harg6 arg7 harg7 arg8 harg8 (Memref.whole main_v20) (Memref.isWhole_whole _) (Memref.whole main_v20) (Memref.isWhole_whole _) scM0_0 (Memref.isWhole_whole _) scM0_1 (Memref.isWhole_whole _) scM0_2 (Memref.isWhole_whole _) scM0_3 (Memref.isWhole_whole _) cc0_scratch4) K := by
  haveI : Fact (¬cd1 (grid0.coords t)) := ⟨hc1⟩
  haveI : Fact (cd2 (grid0.coords t)) := ⟨hc2⟩
  haveI : Fact (¬cd3 (grid0.coords t)) := ⟨hc3⟩
  simp only [cc0_ret_bwd_eq_skeleton]; unfold cc0_ret_bwd_skel
  simp only [k0_part12_eq_skeleton, k0_part7_eq_skeleton, k0_part21_eq_skeleton, k0_part79_eq_skeleton, k0_part32_eq_skeleton, k0_part77_eq_skeleton, k0_part11_eq_skeleton, k0_part85_eq_skeleton, k0_part5_eq_skeleton, k0_part90_eq_skeleton, k0_part19_eq_skeleton, k0_part74_eq_skeleton, k0_part86_eq_skeleton, k0_part49_eq_skeleton, k0_part36_eq_skeleton, k0_part52_eq_skeleton, k0_part99_eq_skeleton, k0_part16_eq_skeleton, k0_part25_eq_skeleton, k0_part54_eq_skeleton, k0_part14_eq_skeleton, k0_part40_eq_skeleton, k0_part26_eq_skeleton, k0_part17_eq_skeleton, k0_part60_eq_skeleton, k0_part78_eq_skeleton, k0_part93_eq_skeleton, k0_part101_eq_skeleton, k0_part20_eq_skeleton, k0_part34_eq_skeleton, k0_part103_eq_skeleton, k0_part95_eq_skeleton, k0_part91_eq_skeleton, k0_part56_eq_skeleton, k0_part64_eq_skeleton, k0_part50_eq_skeleton, k0_part67_eq_skeleton, k0_part89_eq_skeleton, k0_part38_eq_skeleton, k0_part30_eq_skeleton, k0_part47_eq_skeleton, k0_part10_eq_skeleton, k0_part98_eq_skeleton, k0_part13_eq_skeleton, k0_part2_eq_skeleton, k0_part53_eq_skeleton, k0_part80_eq_skeleton, k0_part66_eq_skeleton, k0_part29_eq_skeleton, k0_part69_eq_skeleton, k0_part42_eq_skeleton, k0_part31_eq_skeleton, k0_part4_eq_skeleton, k0_part44_eq_skeleton, k0_part46_eq_skeleton, k0_part88_eq_skeleton, k0_part65_eq_skeleton, k0_part41_eq_skeleton, k0_part82_eq_skeleton, k0_part8_eq_skeleton, k0_part92_eq_skeleton, k0_part39_eq_skeleton, k0_part61_eq_skeleton, k0_part72_eq_skeleton, k0_part9_eq_skeleton, k0_part100_eq_skeleton, k0_part70_eq_skeleton, k0_part76_eq_skeleton, k0_part81_eq_skeleton, k0_part43_eq_skeleton, k0_part58_eq_skeleton, k0_part6_eq_skeleton, k0_part18_eq_skeleton, k0_part97_eq_skeleton, k0_part94_eq_skeleton, k0_part59_eq_skeleton, k0_part37_eq_skeleton, k0_part22_eq_skeleton, k0_part75_eq_skeleton, k0_part68_eq_skeleton, k0_part1_eq_skeleton, k0_part33_eq_skeleton, k0_part28_eq_skeleton, k0_part73_eq_skeleton, k0_part27_eq_skeleton, k0_part3_eq_skeleton, k0_part102_eq_skeleton, k0_part63_eq_skeleton, k0_part62_eq_skeleton, k0_part24_eq_skeleton, k0_part96_eq_skeleton, k0_part45_eq_skeleton, k0_part35_eq_skeleton, k0_part87_eq_skeleton, k0_part51_eq_skeleton, k0_part23_eq_skeleton, k0_part55_eq_skeleton, k0_part105_eq_skeleton, k0_part84_eq_skeleton, k0_part15_eq_skeleton, k0_part83_eq_skeleton, k0_part104_eq_skeleton, k0_part57_eq_skeleton, k0_part48_eq_skeleton, k0_part71_eq_skeleton]
  unfold owns held flies
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%fpq, Hpq⟩, ⟨%fpk, Hpk⟩, ⟨%fpv, Hpv⟩, Hcq, ⟨%etq, Htq⟩, Hck, ⟨%etk, Htk⟩, Hcv, ⟨%etv, Htv⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS]
  · iexists _, _; isplitr; swap; · iexact HS
    ipureintro; rfl
  isplitl [Hcq]; · iexists _, _; iexact Hcq
  isplitl [Hck]; · iexists _, _; iexact Hck
  isplitl [Hcv]; · iexists _, _; iexact Hcv
  iexists _; iexact HW

end Cert.RetBIdeal.Hand

end
-- ==== Proof.RetBRunB.lean ====
/- The body at the second point: the state's cotangent is carried on, nothing is waited for. -/
module

public import proofs.«01_k».proof.Proof.RetBRing

@[expose] public section

set_option maxRecDepth 65536

noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
/-- The second point. -/
theorem run1 (c : Dev nD) (t : Fin cfg0.N) (arg2 : Memref sig .tc .vmem S1x2048x128 .f32) (harg2 : arg2.IsWhole) (arg3 : Memref sig .tc .vmem S1x2048x128 .f32) (harg3 : arg3.IsWhole) (arg4 : Memref sig .tc .vmem S2x2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2x2048x128 .f32) (harg7 : arg7.IsWhole) (arg8 : Memref sig .tc .vmem S2x16x128x128 .f32) (harg8 : arg8.IsWhole)
    (x0 : Vec F S1x2048x128 .f32) (x1 : Vec F S1x2048x128 .f32) (x2 : Vec F S2x2048x128 .f32) (x3 : Vec F S2048x128 .f32) (x4 : Vec F S2048x128 .f32) (x5 : Vec F S2x2048x128 .f32) (x6 : Vec F S2x16x128x128 .f32)
    (hc1 : ¬cd1 (grid0.coords t)) (hc2 : ¬cd2 (grid0.coords t)) (hc3 : ¬cd3 (grid0.coords t)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 t.val)) f) ∗ (∃ f, held (F := F) c (wpk (Ring.bk 8 t.val)) f) ∗ (∃ f, held (F := F) c (wpv (Ring.bk 8 t.val)) f) ∗ wcellP c (Ring.sl 2 t.val) 0 ∗ (∃ e, held (F := F) c (wtq (Ring.sl 2 t.val)) e) ∗ wcellP c (Ring.sl 2 t.val) 1 ∗ (∃ e, held (F := F) c (wtk (Ring.sl 2 t.val)) e) ∗ wcellP c (Ring.sl 2 t.val) 2 ∗ (∃ e, held (F := F) c (wtv (Ring.sl 2 t.val)) e) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ flies c (wpq (Ring.bk 8 t.val)) (wtq (Ring.sl 2 t.val)) (wcellR (Ring.sl 2 t.val) 0) ∗ flies c (wpk (Ring.bk 8 t.val)) (wtk (Ring.sl 2 t.val)) (wcellR (Ring.sl 2 t.val) 1) ∗ flies c (wpv (Ring.bk 8 t.val)) (wtv (Ring.sl 2 t.val)) (wcellR (Ring.sl 2 t.val) 2) ∗ (∃ W', owes (c : Thread nD τ) 0 W')) -∗ K ⟨⟩))
      ⊢ wp frame (wpE (defs₀ (F := F)) Variants.none c none) Set.univ (cc0_ret_bwd (grid0.coords t) arg2 harg2 arg3 harg3 arg4 harg4 arg5 harg5 arg6 harg6 arg7 harg7 arg8 harg8 (Memref.whole main_v20) (Memref.isWhole_whole _) (Memref.whole main_v20) (Memref.isWhole_whole _) scM0_0 (Memref.isWhole_whole _) scM0_1 (Memref.isWhole_whole _) scM0_2 (Memref.isWhole_whole _) scM0_3 (Memref.isWhole_whole _) cc0_scratch4) K := by
  haveI : Fact (¬cd1 (grid0.coords t)) := ⟨hc1⟩
  haveI : Fact (¬cd2 (grid0.coords t)) := ⟨hc2⟩
  haveI : Fact (¬cd3 (grid0.coords t)) := ⟨hc3⟩
  simp only [cc0_ret_bwd_eq_skeleton]; unfold cc0_ret_bwd_skel
  simp only [k0_part12_eq_skeleton, k0_part7_eq_skeleton, k0_part21_eq_skeleton, k0_part79_eq_skeleton, k0_part32_eq_skeleton, k0_part77_eq_skeleton, k0_part11_eq_skeleton, k0_part85_eq_skeleton, k0_part5_eq_skeleton, k0_part90_eq_skeleton, k0_part19_eq_skeleton, k0_part74_eq_skeleton, k0_part86_eq_skeleton, k0_part49_eq_skeleton, k0_part36_eq_skeleton, k0_part52_eq_skeleton, k0_part99_eq_skeleton, k0_part16_eq_skeleton, k0_part25_eq_skeleton, k0_part54_eq_skeleton, k0_part14_eq_skeleton, k0_part40_eq_skeleton, k0_part26_eq_skeleton, k0_part17_eq_skeleton, k0_part60_eq_skeleton, k0_part78_eq_skeleton, k0_part93_eq_skeleton, k0_part101_eq_skeleton, k0_part20_eq_skeleton, k0_part34_eq_skeleton, k0_part103_eq_skeleton, k0_part95_eq_skeleton, k0_part91_eq_skeleton, k0_part56_eq_skeleton, k0_part64_eq_skeleton, k0_part50_eq_skeleton, k0_part67_eq_skeleton, k0_part89_eq_skeleton, k0_part38_eq_skeleton, k0_part30_eq_skeleton, k0_part47_eq_skeleton, k0_part10_eq_skeleton, k0_part98_eq_skeleton, k0_part13_eq_skeleton, k0_part2_eq_skeleton, k0_part53_eq_skeleton, k0_part80_eq_skeleton, k0_part66_eq_skeleton, k0_part29_eq_skeleton, k0_part69_eq_skeleton, k0_part42_eq_skeleton, k0_part31_eq_skeleton, k0_part4_eq_skeleton, k0_part44_eq_skeleton, k0_part46_eq_skeleton, k0_part88_eq_skeleton, k0_part65_eq_skeleton, k0_part41_eq_skeleton, k0_part82_eq_skeleton, k0_part8_eq_skeleton, k0_part92_eq_skeleton, k0_part39_eq_skeleton, k0_part61_eq_skeleton, k0_part72_eq_skeleton, k0_part9_eq_skeleton, k0_part100_eq_skeleton, k0_part70_eq_skeleton, k0_part76_eq_skeleton, k0_part81_eq_skeleton, k0_part43_eq_skeleton, k0_part58_eq_skeleton, k0_part6_eq_skeleton, k0_part18_eq_skeleton, k0_part97_eq_skeleton, k0_part94_eq_skeleton, k0_part59_eq_skeleton, k0_part37_eq_skeleton, k0_part22_eq_skeleton, k0_part75_eq_skeleton, k0_part68_eq_skeleton, k0_part1_eq_skeleton, k0_part33_eq_skeleton, k0_part28_eq_skeleton, k0_part73_eq_skeleton, k0_part27_eq_skeleton, k0_part3_eq_skeleton, k0_part102_eq_skeleton, k0_part63_eq_skeleton, k0_part62_eq_skeleton, k0_part24_eq_skeleton, k0_part96_eq_skeleton, k0_part45_eq_skeleton, k0_part35_eq_skeleton, k0_part87_eq_skeleton, k0_part51_eq_skeleton, k0_part23_eq_skeleton, k0_part55_eq_skeleton, k0_part105_eq_skeleton, k0_part84_eq_skeleton, k0_part15_eq_skeleton, k0_part83_eq_skeleton, k0_part104_eq_skeleton, k0_part57_eq_skeleton, k0_part48_eq_skeleton, k0_part71_eq_skeleton]
  unfold owns held flies
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%fpq, Hpq⟩, ⟨%fpk, Hpk⟩, ⟨%fpv, Hpv⟩, Hcq, ⟨%etq, Htq⟩, Hck, ⟨%etk, Htk⟩, Hcv, ⟨%etv, Htv⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS]
  · iexists _, _; isplitr; swap; · iexact HS
    ipureintro; rfl
  isplitl [Hcq]; · iexists _, _; iexact Hcq
  isplitl [Hck]; · iexists _, _; iexact Hck
  isplitl [Hcv]; · iexists _, _; iexact Hcv
  iexists _; iexact HW

end Cert.RetBIdeal.Hand

end
-- ==== Proof.RetBRunC.lean ====
/- The body at a head pair's last block of rows, from the third point on. -/
module

public import proofs.«01_k».proof.Proof.RetBRing

@[expose] public section

set_option maxRecDepth 65536

noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
/-- The copies of two points before are waited for, the state's cotangent is cleared. -/
theorem run2 (c : Dev nD) (t : Fin cfg0.N) (arg2 : Memref sig .tc .vmem S1x2048x128 .f32) (harg2 : arg2.IsWhole) (arg3 : Memref sig .tc .vmem S1x2048x128 .f32) (harg3 : arg3.IsWhole) (arg4 : Memref sig .tc .vmem S2x2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2x2048x128 .f32) (harg7 : arg7.IsWhole) (arg8 : Memref sig .tc .vmem S2x16x128x128 .f32) (harg8 : arg8.IsWhole)
    (x0 : Vec F S1x2048x128 .f32) (x1 : Vec F S1x2048x128 .f32) (x2 : Vec F S2x2048x128 .f32) (x3 : Vec F S2048x128 .f32) (x4 : Vec F S2048x128 .f32) (x5 : Vec F S2x2048x128 .f32) (x6 : Vec F S2x16x128x128 .f32)
    (hc1 : cd1 (grid0.coords t)) (hc2 : cd2 (grid0.coords t)) (hc3 : ¬cd3 (grid0.coords t)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 t.val)) f) ∗ (∃ f, held (F := F) c (wpk (Ring.bk 8 t.val)) f) ∗ (∃ f, held (F := F) c (wpv (Ring.bk 8 t.val)) f) ∗ flies c (wpq (Ring.bk 8 (t.val - 2))) (wtq (Ring.sl 2 t.val)) (wcellR (Ring.sl 2 t.val) 0) ∗ flies c (wpk (Ring.bk 8 (t.val - 2))) (wtk (Ring.sl 2 t.val)) (wcellR (Ring.sl 2 t.val) 1) ∗ flies c (wpv (Ring.bk 8 (t.val - 2))) (wtv (Ring.sl 2 t.val)) (wcellR (Ring.sl 2 t.val) 2) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 (t.val - 2))) f) ∗ (∃ f, held (F := F) c (wpk (Ring.bk 8 (t.val - 2))) f) ∗ (∃ f, held (F := F) c (wpv (Ring.bk 8 (t.val - 2))) f) ∗ flies c (wpq (Ring.bk 8 t.val)) (wtq (Ring.sl 2 t.val)) (wcellR (Ring.sl 2 t.val) 0) ∗ flies c (wpk (Ring.bk 8 t.val)) (wtk (Ring.sl 2 t.val)) (wcellR (Ring.sl 2 t.val) 1) ∗ flies c (wpv (Ring.bk 8 t.val)) (wtv (Ring.sl 2 t.val)) (wcellR (Ring.sl 2 t.val) 2) ∗ (∃ W', owes (c : Thread nD τ) 0 W')) -∗ K ⟨⟩))
      ⊢ wp frame (wpE (defs₀ (F := F)) Variants.none c none) Set.univ (cc0_ret_bwd (grid0.coords t) arg2 harg2 arg3 harg3 arg4 harg4 arg5 harg5 arg6 harg6 arg7 harg7 arg8 harg8 (Memref.whole main_v20) (Memref.isWhole_whole _) (Memref.whole main_v20) (Memref.isWhole_whole _) scM0_0 (Memref.isWhole_whole _) scM0_1 (Memref.isWhole_whole _) scM0_2 (Memref.isWhole_whole _) scM0_3 (Memref.isWhole_whole _) cc0_scratch4) K := by
  haveI : Fact (cd1 (grid0.coords t)) := ⟨hc1⟩
  haveI : Fact (cd2 (grid0.coords t)) := ⟨hc2⟩
  haveI : Fact (¬cd3 (grid0.coords t)) := ⟨hc3⟩
  simp only [cc0_ret_bwd_eq_skeleton]; unfold cc0_ret_bwd_skel
  simp only [k0_part12_eq_skeleton, k0_part7_eq_skeleton, k0_part21_eq_skeleton, k0_part79_eq_skeleton, k0_part32_eq_skeleton, k0_part77_eq_skeleton, k0_part11_eq_skeleton, k0_part85_eq_skeleton, k0_part5_eq_skeleton, k0_part90_eq_skeleton, k0_part19_eq_skeleton, k0_part74_eq_skeleton, k0_part86_eq_skeleton, k0_part49_eq_skeleton, k0_part36_eq_skeleton, k0_part52_eq_skeleton, k0_part99_eq_skeleton, k0_part16_eq_skeleton, k0_part25_eq_skeleton, k0_part54_eq_skeleton, k0_part14_eq_skeleton, k0_part40_eq_skeleton, k0_part26_eq_skeleton, k0_part17_eq_skeleton, k0_part60_eq_skeleton, k0_part78_eq_skeleton, k0_part93_eq_skeleton, k0_part101_eq_skeleton, k0_part20_eq_skeleton, k0_part34_eq_skeleton, k0_part103_eq_skeleton, k0_part95_eq_skeleton, k0_part91_eq_skeleton, k0_part56_eq_skeleton, k0_part64_eq_skeleton, k0_part50_eq_skeleton, k0_part67_eq_skeleton, k0_part89_eq_skeleton, k0_part38_eq_skeleton, k0_part30_eq_skeleton, k0_part47_eq_skeleton, k0_part10_eq_skeleton, k0_part98_eq_skeleton, k0_part13_eq_skeleton, k0_part2_eq_skeleton, k0_part53_eq_skeleton, k0_part80_eq_skeleton, k0_part66_eq_skeleton, k0_part29_eq_skeleton, k0_part69_eq_skeleton, k0_part42_eq_skeleton, k0_part31_eq_skeleton, k0_part4_eq_skeleton, k0_part44_eq_skeleton, k0_part46_eq_skeleton, k0_part88_eq_skeleton, k0_part65_eq_skeleton, k0_part41_eq_skeleton, k0_part82_eq_skeleton, k0_part8_eq_skeleton, k0_part92_eq_skeleton, k0_part39_eq_skeleton, k0_part61_eq_skeleton, k0_part72_eq_skeleton, k0_part9_eq_skeleton, k0_part100_eq_skeleton, k0_part70_eq_skeleton, k0_part76_eq_skeleton, k0_part81_eq_skeleton, k0_part43_eq_skeleton, k0_part58_eq_skeleton, k0_part6_eq_skeleton, k0_part18_eq_skeleton, k0_part97_eq_skeleton, k0_part94_eq_skeleton, k0_part59_eq_skeleton, k0_part37_eq_skeleton, k0_part22_eq_skeleton, k0_part75_eq_skeleton, k0_part68_eq_skeleton, k0_part1_eq_skeleton, k0_part33_eq_skeleton, k0_part28_eq_skeleton, k0_part73_eq_skeleton, k0_part27_eq_skeleton, k0_part3_eq_skeleton, k0_part102_eq_skeleton, k0_part63_eq_skeleton, k0_part62_eq_skeleton, k0_part24_eq_skeleton, k0_part96_eq_skeleton, k0_part45_eq_skeleton, k0_part35_eq_skeleton, k0_part87_eq_skeleton, k0_part51_eq_skeleton, k0_part23_eq_skeleton, k0_part55_eq_skeleton, k0_part105_eq_skeleton, k0_part84_eq_skeleton, k0_part15_eq_skeleton, k0_part83_eq_skeleton, k0_part104_eq_skeleton, k0_part57_eq_skeleton, k0_part48_eq_skeleton, k0_part71_eq_skeleton]
  unfold owns held flies
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%fpq, Hpq⟩, ⟨%fpk, Hpk⟩, ⟨%fpv, Hpv⟩, ⟨%ffq, %feq, HFq⟩, ⟨%ffk, %fek, HFk⟩, ⟨%ffv, %fev, HFv⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS]
  · iexists _, _; isplitr; swap; · iexact HS
    ipureintro; rfl
  isplitl [HFq_dst]; · iexists _; iexact HFq_dst
  isplitl [HFk_dst]; · iexists _; iexact HFk_dst
  isplitl [HFv_dst]; · iexists _; iexact HFv_dst
  isplitl [HFq]; · iexists _, _; iexact HFq
  isplitl [HFk]; · iexists _, _; iexact HFk
  isplitl [HFv]; · iexists _, _; iexact HFv
  iexists _; iexact HW

end Cert.RetBIdeal.Hand

end
-- ==== Proof.RetBRunD.lean ====
/- The body at a head pair's first block of rows, from the fourth point on, the last point apart. -/
module

public import proofs.«01_k».proof.Proof.RetBRing

@[expose] public section

set_option maxRecDepth 65536

noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
/-- The copies of two points before are waited for, the state's cotangent is carried on. -/
theorem run3 (c : Dev nD) (t : Fin cfg0.N) (arg2 : Memref sig .tc .vmem S1x2048x128 .f32) (harg2 : arg2.IsWhole) (arg3 : Memref sig .tc .vmem S1x2048x128 .f32) (harg3 : arg3.IsWhole) (arg4 : Memref sig .tc .vmem S2x2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2x2048x128 .f32) (harg7 : arg7.IsWhole) (arg8 : Memref sig .tc .vmem S2x16x128x128 .f32) (harg8 : arg8.IsWhole)
    (x0 : Vec F S1x2048x128 .f32) (x1 : Vec F S1x2048x128 .f32) (x2 : Vec F S2x2048x128 .f32) (x3 : Vec F S2048x128 .f32) (x4 : Vec F S2048x128 .f32) (x5 : Vec F S2x2048x128 .f32) (x6 : Vec F S2x16x128x128 .f32)
    (hc1 : cd1 (grid0.coords t)) (hc2 : ¬cd2 (grid0.coords t)) (hc3 : ¬cd3 (grid0.coords t)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 t.val)) f) ∗ (∃ f, held (F := F) c (wpk (Ring.bk 8 t.val)) f) ∗ (∃ f, held (F := F) c (wpv (Ring.bk 8 t.val)) f) ∗ flies c (wpq (Ring.bk 8 (t.val - 2))) (wtq (Ring.sl 2 t.val)) (wcellR (Ring.sl 2 t.val) 0) ∗ flies c (wpk (Ring.bk 8 (t.val - 2))) (wtk (Ring.sl 2 t.val)) (wcellR (Ring.sl 2 t.val) 1) ∗ flies c (wpv (Ring.bk 8 (t.val - 2))) (wtv (Ring.sl 2 t.val)) (wcellR (Ring.sl 2 t.val) 2) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 (t.val - 2))) f) ∗ (∃ f, held (F := F) c (wpk (Ring.bk 8 (t.val - 2))) f) ∗ (∃ f, held (F := F) c (wpv (Ring.bk 8 (t.val - 2))) f) ∗ flies c (wpq (Ring.bk 8 t.val)) (wtq (Ring.sl 2 t.val)) (wcellR (Ring.sl 2 t.val) 0) ∗ flies c (wpk (Ring.bk 8 t.val)) (wtk (Ring.sl 2 t.val)) (wcellR (Ring.sl 2 t.val) 1) ∗ flies c (wpv (Ring.bk 8 t.val)) (wtv (Ring.sl 2 t.val)) (wcellR (Ring.sl 2 t.val) 2) ∗ (∃ W', owes (c : Thread nD τ) 0 W')) -∗ K ⟨⟩))
      ⊢ wp frame (wpE (defs₀ (F := F)) Variants.none c none) Set.univ (cc0_ret_bwd (grid0.coords t) arg2 harg2 arg3 harg3 arg4 harg4 arg5 harg5 arg6 harg6 arg7 harg7 arg8 harg8 (Memref.whole main_v20) (Memref.isWhole_whole _) (Memref.whole main_v20) (Memref.isWhole_whole _) scM0_0 (Memref.isWhole_whole _) scM0_1 (Memref.isWhole_whole _) scM0_2 (Memref.isWhole_whole _) scM0_3 (Memref.isWhole_whole _) cc0_scratch4) K := by
  haveI : Fact (cd1 (grid0.coords t)) := ⟨hc1⟩
  haveI : Fact (¬cd2 (grid0.coords t)) := ⟨hc2⟩
  haveI : Fact (¬cd3 (grid0.coords t)) := ⟨hc3⟩
  simp only [cc0_ret_bwd_eq_skeleton]; unfold cc0_ret_bwd_skel
  simp only [k0_part12_eq_skeleton, k0_part7_eq_skeleton, k0_part21_eq_skeleton, k0_part79_eq_skeleton, k0_part32_eq_skeleton, k0_part77_eq_skeleton, k0_part11_eq_skeleton, k0_part85_eq_skeleton, k0_part5_eq_skeleton, k0_part90_eq_skeleton, k0_part19_eq_skeleton, k0_part74_eq_skeleton, k0_part86_eq_skeleton, k0_part49_eq_skeleton, k0_part36_eq_skeleton, k0_part52_eq_skeleton, k0_part99_eq_skeleton, k0_part16_eq_skeleton, k0_part25_eq_skeleton, k0_part54_eq_skeleton, k0_part14_eq_skeleton, k0_part40_eq_skeleton, k0_part26_eq_skeleton, k0_part17_eq_skeleton, k0_part60_eq_skeleton, k0_part78_eq_skeleton, k0_part93_eq_skeleton, k0_part101_eq_skeleton, k0_part20_eq_skeleton, k0_part34_eq_skeleton, k0_part103_eq_skeleton, k0_part95_eq_skeleton, k0_part91_eq_skeleton, k0_part56_eq_skeleton, k0_part64_eq_skeleton, k0_part50_eq_skeleton, k0_part67_eq_skeleton, k0_part89_eq_skeleton, k0_part38_eq_skeleton, k0_part30_eq_skeleton, k0_part47_eq_skeleton, k0_part10_eq_skeleton, k0_part98_eq_skeleton, k0_part13_eq_skeleton, k0_part2_eq_skeleton, k0_part53_eq_skeleton, k0_part80_eq_skeleton, k0_part66_eq_skeleton, k0_part29_eq_skeleton, k0_part69_eq_skeleton, k0_part42_eq_skeleton, k0_part31_eq_skeleton, k0_part4_eq_skeleton, k0_part44_eq_skeleton, k0_part46_eq_skeleton, k0_part88_eq_skeleton, k0_part65_eq_skeleton, k0_part41_eq_skeleton, k0_part82_eq_skeleton, k0_part8_eq_skeleton, k0_part92_eq_skeleton, k0_part39_eq_skeleton, k0_part61_eq_skeleton, k0_part72_eq_skeleton, k0_part9_eq_skeleton, k0_part100_eq_skeleton, k0_part70_eq_skeleton, k0_part76_eq_skeleton, k0_part81_eq_skeleton, k0_part43_eq_skeleton, k0_part58_eq_skeleton, k0_part6_eq_skeleton, k0_part18_eq_skeleton, k0_part97_eq_skeleton, k0_part94_eq_skeleton, k0_part59_eq_skeleton, k0_part37_eq_skeleton, k0_part22_eq_skeleton, k0_part75_eq_skeleton, k0_part68_eq_skeleton, k0_part1_eq_skeleton, k0_part33_eq_skeleton, k0_part28_eq_skeleton, k0_part73_eq_skeleton, k0_part27_eq_skeleton, k0_part3_eq_skeleton, k0_part102_eq_skeleton, k0_part63_eq_skeleton, k0_part62_eq_skeleton, k0_part24_eq_skeleton, k0_part96_eq_skeleton, k0_part45_eq_skeleton, k0_part35_eq_skeleton, k0_part87_eq_skeleton, k0_part51_eq_skeleton, k0_part23_eq_skeleton, k0_part55_eq_skeleton, k0_part105_eq_skeleton, k0_part84_eq_skeleton, k0_part15_eq_skeleton, k0_part83_eq_skeleton, k0_part104_eq_skeleton, k0_part57_eq_skeleton, k0_part48_eq_skeleton, k0_part71_eq_skeleton]
  unfold owns held flies
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%fpq, Hpq⟩, ⟨%fpk, Hpk⟩, ⟨%fpv, Hpv⟩, ⟨%ffq, %feq, HFq⟩, ⟨%ffk, %fek, HFk⟩, ⟨%ffv, %fev, HFv⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS]
  · iexists _, _; isplitr; swap; · iexact HS
    ipureintro; rfl
  isplitl [HFq_dst]; · iexists _; iexact HFq_dst
  isplitl [HFk_dst]; · iexists _; iexact HFk_dst
  isplitl [HFv_dst]; · iexists _; iexact HFv_dst
  isplitl [HFq]; · iexists _, _; iexact HFq
  isplitl [HFk]; · iexists _, _; iexact HFk
  isplitl [HFv]; · iexists _, _; iexact HFv
  iexists _; iexact HW

end Cert.RetBIdeal.Hand

end
-- ==== Proof.RetBRunE.lean ====
/- The body at the last point. -/
module

public import proofs.«01_k».proof.Proof.RetBRing

@[expose] public section

set_option maxRecDepth 65536

noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
/-- The last point: every copy still in flight is waited for. -/
theorem run4 (c : Dev nD) (t : Fin cfg0.N) (arg2 : Memref sig .tc .vmem S1x2048x128 .f32) (harg2 : arg2.IsWhole) (arg3 : Memref sig .tc .vmem S1x2048x128 .f32) (harg3 : arg3.IsWhole) (arg4 : Memref sig .tc .vmem S2x2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2x2048x128 .f32) (harg7 : arg7.IsWhole) (arg8 : Memref sig .tc .vmem S2x16x128x128 .f32) (harg8 : arg8.IsWhole)
    (x0 : Vec F S1x2048x128 .f32) (x1 : Vec F S1x2048x128 .f32) (x2 : Vec F S2x2048x128 .f32) (x3 : Vec F S2048x128 .f32) (x4 : Vec F S2048x128 .f32) (x5 : Vec F S2x2048x128 .f32) (x6 : Vec F S2x16x128x128 .f32)
    (hc1 : cd1 (grid0.coords t)) (hc2 : ¬cd2 (grid0.coords t)) (hc3 : cd3 (grid0.coords t)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 t.val)) f) ∗ (∃ f, held (F := F) c (wpk (Ring.bk 8 t.val)) f) ∗ (∃ f, held (F := F) c (wpv (Ring.bk 8 t.val)) f) ∗ flies c (wpq (Ring.bk 8 (t.val - 2))) (wtq (Ring.sl 2 t.val)) (wcellR (Ring.sl 2 t.val) 0) ∗ flies c (wpk (Ring.bk 8 (t.val - 2))) (wtk (Ring.sl 2 t.val)) (wcellR (Ring.sl 2 t.val) 1) ∗ flies c (wpv (Ring.bk 8 (t.val - 2))) (wtv (Ring.sl 2 t.val)) (wcellR (Ring.sl 2 t.val) 2) ∗ flies c (wpq (Ring.bk 8 (t.val - 1))) (wtq (Ring.sl 2 (t.val + 1))) (wcellR (Ring.sl 2 (t.val + 1)) 0) ∗ flies c (wpk (Ring.bk 8 (t.val - 1))) (wtk (Ring.sl 2 (t.val + 1))) (wcellR (Ring.sl 2 (t.val + 1)) 1) ∗ flies c (wpv (Ring.bk 8 (t.val - 1))) (wtv (Ring.sl 2 (t.val + 1))) (wcellR (Ring.sl 2 (t.val + 1)) 2) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) scM0_3 fullShare d) ∗ (∃ f, held (F := F) c (wpq (Ring.bk 8 (t.val - 2))) f) ∗ (∃ f, held (F := F) c (wpk (Ring.bk 8 (t.val - 2))) f) ∗ (∃ f, held (F := F) c (wpv (Ring.bk 8 (t.val - 2))) f) ∗ (∃ f, held (F := F) c (wpq (Ring.bk 8 (t.val - 1))) f) ∗ (∃ f, held (F := F) c (wpk (Ring.bk 8 (t.val - 1))) f) ∗ (∃ f, held (F := F) c (wpv (Ring.bk 8 (t.val - 1))) f) ∗ (∃ f, held (F := F) c (wpq (Ring.bk 8 t.val)) f) ∗ (∃ f, held (F := F) c (wpk (Ring.bk 8 t.val)) f) ∗ (∃ f, held (F := F) c (wpv (Ring.bk 8 t.val)) f) ∗ wcellP c (Ring.sl 2 t.val) 0 ∗ (∃ e, held (F := F) c (wtq (Ring.sl 2 t.val)) e) ∗ wcellP c (Ring.sl 2 t.val) 1 ∗ (∃ e, held (F := F) c (wtk (Ring.sl 2 t.val)) e) ∗ wcellP c (Ring.sl 2 t.val) 2 ∗ (∃ e, held (F := F) c (wtv (Ring.sl 2 t.val)) e) ∗ wcellP c (Ring.sl 2 (t.val + 1)) 0 ∗ (∃ e, held (F := F) c (wtq (Ring.sl 2 (t.val + 1))) e) ∗ wcellP c (Ring.sl 2 (t.val + 1)) 1 ∗ (∃ e, held (F := F) c (wtk (Ring.sl 2 (t.val + 1))) e) ∗ wcellP c (Ring.sl 2 (t.val + 1)) 2 ∗ (∃ e, held (F := F) c (wtv (Ring.sl 2 (t.val + 1))) e) ∗ (∃ W', owes (c : Thread nD τ) 0 W')) -∗ K ⟨⟩))
      ⊢ wp frame (wpE (defs₀ (F := F)) Variants.none c none) Set.univ (cc0_ret_bwd (grid0.coords t) arg2 harg2 arg3 harg3 arg4 harg4 arg5 harg5 arg6 harg6 arg7 harg7 arg8 harg8 (Memref.whole main_v20) (Memref.isWhole_whole _) (Memref.whole main_v20) (Memref.isWhole_whole _) scM0_0 (Memref.isWhole_whole _) scM0_1 (Memref.isWhole_whole _) scM0_2 (Memref.isWhole_whole _) scM0_3 (Memref.isWhole_whole _) cc0_scratch4) K := by
  haveI : Fact (cd1 (grid0.coords t)) := ⟨hc1⟩
  haveI : Fact (¬cd2 (grid0.coords t)) := ⟨hc2⟩
  haveI : Fact (cd3 (grid0.coords t)) := ⟨hc3⟩
  simp only [cc0_ret_bwd_eq_skeleton]; unfold cc0_ret_bwd_skel
  simp only [k0_part20_eq_skeleton, k0_part35_eq_skeleton, k0_part81_eq_skeleton, k0_part82_eq_skeleton, k0_part91_eq_skeleton, k0_part23_eq_skeleton, k0_part52_eq_skeleton, k0_part71_eq_skeleton, k0_part95_eq_skeleton, k0_part44_eq_skeleton, k0_part54_eq_skeleton, k0_part99_eq_skeleton, k0_part21_eq_skeleton, k0_part19_eq_skeleton, k0_part55_eq_skeleton, k0_part32_eq_skeleton, k0_part60_eq_skeleton, k0_part38_eq_skeleton, k0_part59_eq_skeleton, k0_part33_eq_skeleton, k0_part90_eq_skeleton, k0_part48_eq_skeleton, k0_part40_eq_skeleton, k0_part86_eq_skeleton, k0_part105_eq_skeleton, k0_part2_eq_skeleton, k0_part50_eq_skeleton, k0_part46_eq_skeleton, k0_part67_eq_skeleton, k0_part53_eq_skeleton, k0_part12_eq_skeleton, k0_part92_eq_skeleton, k0_part7_eq_skeleton, k0_part1_eq_skeleton, k0_part69_eq_skeleton, k0_part72_eq_skeleton, k0_part58_eq_skeleton, k0_part61_eq_skeleton, k0_part88_eq_skeleton, k0_part5_eq_skeleton, k0_part93_eq_skeleton, k0_part74_eq_skeleton, k0_part75_eq_skeleton, k0_part104_eq_skeleton, k0_part31_eq_skeleton, k0_part26_eq_skeleton, k0_part84_eq_skeleton, k0_part65_eq_skeleton, k0_part97_eq_skeleton, k0_part80_eq_skeleton, k0_part6_eq_skeleton, k0_part17_eq_skeleton, k0_part103_eq_skeleton, k0_part63_eq_skeleton, k0_part45_eq_skeleton, k0_part16_eq_skeleton, k0_part64_eq_skeleton, k0_part83_eq_skeleton, k0_part62_eq_skeleton, k0_part76_eq_skeleton, k0_part3_eq_skeleton, k0_part14_eq_skeleton, k0_part89_eq_skeleton, k0_part79_eq_skeleton, k0_part9_eq_skeleton, k0_part10_eq_skeleton, k0_part42_eq_skeleton, k0_part66_eq_skeleton, k0_part68_eq_skeleton, k0_part22_eq_skeleton, k0_part51_eq_skeleton, k0_part85_eq_skeleton, k0_part28_eq_skeleton, k0_part36_eq_skeleton, k0_part25_eq_skeleton, k0_part29_eq_skeleton, k0_part70_eq_skeleton, k0_part49_eq_skeleton, k0_part73_eq_skeleton, k0_part43_eq_skeleton, k0_part34_eq_skeleton, k0_part27_eq_skeleton, k0_part8_eq_skeleton, k0_part39_eq_skeleton, k0_part77_eq_skeleton, k0_part13_eq_skeleton, k0_part98_eq_skeleton, k0_part4_eq_skeleton, k0_part47_eq_skeleton, k0_part96_eq_skeleton, k0_part30_eq_skeleton, k0_part102_eq_skeleton, k0_part37_eq_skeleton, k0_part101_eq_skeleton, k0_part100_eq_skeleton, k0_part78_eq_skeleton, k0_part18_eq_skeleton, k0_part24_eq_skeleton, k0_part87_eq_skeleton, k0_part57_eq_skeleton, k0_part94_eq_skeleton, k0_part11_eq_skeleton, k0_part41_eq_skeleton, k0_part56_eq_skeleton, k0_part15_eq_skeleton]
  unfold owns held flies
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, ⟨%fpq, Hpq⟩, ⟨%fpk, Hpk⟩, ⟨%fpv, Hpv⟩, ⟨%ffq, %feq, HFq⟩, ⟨%ffk, %fek, HFk⟩, ⟨%ffv, %fev, HFv⟩, ⟨%ifq, %ieq, HIq⟩, ⟨%ifk, %iek, HIk⟩, ⟨%ifv, %iev, HIv⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS]
  · iexists _, _; isplitr; swap; · iexact HS
    ipureintro; rfl
  isplitl [HFq_dst]; · iexists _; iexact HFq_dst
  isplitl [HFk_dst]; · iexists _; iexact HFk_dst
  isplitl [HFv_dst]; · iexists _; iexact HFv_dst
  isplitl [HIq_dst]; · iexists _; iexact HIq_dst
  isplitl [HIk_dst]; · iexists _; iexact HIk_dst
  isplitl [HIv_dst]; · iexists _; iexact HIv_dst
  isplitl [Hpq]; · iexists _; iexact Hpq
  isplitl [Hpk]; · iexists _; iexact Hpk
  isplitl [Hpv]; · iexists _; iexact Hpv
  isplitl [HFq]; · iexact HFq
  isplitl [HFq_src]; · iexists _; iexact HFq_src
  isplitl [HFk]; · iexact HFk
  isplitl [HFk_src]; · iexists _; iexact HFk_src
  isplitl [HFv]; · iexact HFv
  isplitl [HFv_src]; · iexists _; iexact HFv_src
  isplitl [HIq]; · iexact HIq
  isplitl [HIq_src]; · iexists _; iexact HIq_src
  isplitl [HIk]; · iexact HIk
  isplitl [HIk_src]; · iexists _; iexact HIk_src
  isplitl [HIv]; · iexact HIv
  isplitl [HIv_src]; · iexists _; iexact HIv_src
  iexists _; iexact HW

end Cert.RetBIdeal.Hand

end
-- ==== Proof.RetBFrame.lean ====
/- The frame of the retention's backward call: at each of the eight points the body runs from the ring's state to the next one, so
   the call ends, its arguments end unchanged and every semaphore counter reads zero. -/
module

public import proofs.«01_k».proof.Proof.RetBHome
public import proofs.«01_k».proof.Proof.RetBRunA
public import proofs.«01_k».proof.Proof.RetBRunB
public import proofs.«01_k».proof.Proof.RetBRunC
public import proofs.«01_k».proof.Proof.RetBRunD
public import proofs.«01_k».proof.Proof.RetBRunE

@[expose] public section

set_option maxRecDepth 16384
noncomputable section

namespace Cert.RetBIdeal.Hand

open Cert.RetBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Carried from point to point: the state's scratch at some contents, the generator register, the ring. -/
def PhiR (c : Dev nD) (k : ℕ) : sProp 𝕄 := iprop((∃ d, owns (c : Thread nD τ) scM0_3 fullShare d) ∗ (∃ r, prngReg c r) ∗ wringAt (F := F) c k ∗ rest c)

/-- A window's block at a point, as its buffer holds it. -/
def blkAt (c : Dev nD) (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t

/-- The pipeline's data: seven windows read, each left as found. -/
def dats (_ : Fin 1) (c : Dev nD) : Dat τ (Elt F) Unit ℕ (Pipeline.UD sig nD τ) ℕ cfg0 c where
  A w := V m c (Pipeline.arrRef spec0 w)
  after w t := blkAt m c w t
  Φ t := PhiR c t.val
  q w := Pipeline.shareOf spec0 w
  owed _ := 0
theorem A_eq (c : Dev nD) (w : Fin cfg0.W) : (dats m 0 c).A w = V m c (Pipeline.arrRef spec0 w) := by
  dsimp only [dats]
theorem after_eq (c : Dev nD) (w : Fin cfg0.W) (t : Fin cfg0.N) : (dats m 0 c).after w t = blkAt m c w t := by dsimp only [dats]
theorem PhiR_castSucc (c : Dev nD) (t : Fin cfg0.N) : (dats m 0 c).Φ t.castSucc = PhiR c t.val := by
  dsimp only [dats]; simp only [Fin.coe_castSucc]
theorem PhiR_succ (c : Dev nD) (t : Fin cfg0.N) : (dats m 0 c).Φ t.succ = PhiR c (t.val + 1) := by
  dsimp only [dats]; simp only [Fin.val_succ]

/-- A window's buffer holds its block at every point. -/
theorem before_of (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dats m 0 c).after w t) = (dats m 0 c).blockOf w t)
    (hf : ∀ t d, (dats m 0 c).fetched w t d = blkAt m c w t) (t : Fin cfg0.N) (d) : (dats m 0 c).before w t d = blkAt m c w t :=
  ((dats m 0 c).before_in_eq_fetched w hw hlive hclip hkeep t d).trans (hf t d)
set_option maxHeartbeats 4000000 in
theorem before_eq (c : Dev nD) : ∀ (w : Fin 7) (t : Fin cfg0.N) (d), (dats m 0 c).before w t d = blkAt m c w t
  | ⟨0, _⟩ => before_of m c 0 rfl (fun _ => rfl) (fun _ _ _ => rfl) (fun t => by rw [after_eq]; unfold blkAt Dat.blockOf iblk; rw [A_eq]; try rfl) (fun t d => by unfold Dat.fetched blkAt Dat.blockOf iblk; rw [A_eq]; try rfl)
  | ⟨1, _⟩ => before_of m c 1 rfl (fun _ => rfl) (fun _ _ _ => rfl) (fun t => by rw [after_eq]; unfold blkAt Dat.blockOf iblk; rw [A_eq]; try rfl) (fun t d => by unfold Dat.fetched blkAt Dat.blockOf iblk; rw [A_eq]; try rfl)
  | ⟨2, _⟩ => before_of m c 2 rfl (fun _ => rfl) (fun _ _ _ => rfl) (fun t => by rw [after_eq]; unfold blkAt Dat.blockOf iblk; rw [A_eq]; try rfl) (fun t d => by unfold Dat.fetched blkAt Dat.blockOf iblk; rw [A_eq]; try rfl)
  | ⟨3, _⟩ => before_of m c 3 rfl (fun _ => rfl) (fun _ _ _ => rfl) (fun t => by rw [after_eq]; unfold blkAt Dat.blockOf iblk; rw [A_eq]; try rfl) (fun t d => by unfold Dat.fetched blkAt Dat.blockOf iblk; rw [A_eq]; try rfl)
  | ⟨4, _⟩ => before_of m c 4 rfl (fun _ => rfl) (fun _ _ _ => rfl) (fun t => by rw [after_eq]; unfold blkAt Dat.blockOf iblk; rw [A_eq]; try rfl) (fun t d => by unfold Dat.fetched blkAt Dat.blockOf iblk; rw [A_eq]; try rfl)
  | ⟨5, _⟩ => before_of m c 5 rfl (fun _ => rfl) (fun _ _ _ => rfl) (fun t => by rw [after_eq]; unfold blkAt Dat.blockOf iblk; rw [A_eq]; try rfl) (fun t d => by unfold Dat.fetched blkAt Dat.blockOf iblk; rw [A_eq]; try rfl)
  | ⟨6, _⟩ => before_of m c 6 rfl (fun _ => rfl) (fun _ _ _ => rfl) (fun t => by rw [after_eq]; unfold blkAt Dat.blockOf iblk; rw [A_eq]; try rfl) (fun t d => by unfold Dat.fetched blkAt Dat.blockOf iblk; rw [A_eq]; try rfl)

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t))

set_option maxHeartbeats 8000000 in
/-- At the first point. -/
theorem sound0 (c : Dev nD) (t : Fin cfg0.N) (h : t.val = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [PhiR_castSucc m c t, PhiR_succ m c t]
  simp only [before_eq m c, after_eq m c]
  unfold Dat.owesAt Pipeline.owesWithin
  rw [show (dats m 0 c).owed t.castSucc = 0 from rfl, show (dats m 0 c).owed t.succ = 0 from rfl]
  unfold PhiR wringAt
  rw [Ring.AtBΦ_lt _ _ _ _ _ t.val hN, Ring.AtB2_zero' _ _ _ _ _ t.val h, Ring.AtBΦ_lt _ _ _ _ _ (t.val + 1) (by omega), Ring.AtB22_next_zero' _ _ _ _ t.val h]
  iintro ⟨⟨HS, Hg, ⟨⟨⟨Hpq, Hpk, Hpv⟩, HA⟩, ⟨⟨Hcq, Htq⟩, ⟨Hck, Htk⟩, ⟨Hcv, Htv⟩⟩, Hcar⟩, Hr⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run0 c t _ _ _ _ _ _ _ _ _ _ _ _ _ _ _ _ _ _ _ _ _ (fun e => by have := (hcd1 t).mp e; omega) ((hcd2 t).mpr (by omega)) (fun e => by have := (hcd3 t).mp e; omega) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [Hpq]; · iexact Hpq
  isplitl [Hpk]; · iexact Hpk
  isplitl [Hpv]; · iexact Hpv
  isplitl [Hcq]; · iexact Hcq
  isplitl [Htq]; · iexact Htq
  isplitl [Hck]; · iexact Hck
  isplitl [Htk]; · iexact Htk
  isplitl [Hcv]; · iexact Hcv
  isplitl [Htv]; · iexact Htv
  isplitl [HW]; · iexact HW
  iintro ⟨H0, H1, H2, H3, H4, H5, H6, HS, HNq, HNk, HNv, ⟨%W', HW'⟩⟩
  isplitl [HS Hg HA Hcar HNq HNk HNv Hr]
  · isplitl [HS]; · iexact HS
    isplitl [Hg]; · iexact Hg
    isplitl [HA Hcar HNq HNk HNv]
    · isplitl [HA]; · iexact HA
      isplitl [Hcar]; · iexact Hcar
      isplitl [HNq]; · iexact HNq
      isplitl [HNk]; · iexact HNk
      iexact HNv
    iexact Hr
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 8000000 in
/-- At the second. -/
theorem sound1 (c : Dev nD) (t : Fin cfg0.N) (h : t.val = 1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [PhiR_castSucc m c t, PhiR_succ m c t]
  simp only [before_eq m c, after_eq m c]
  unfold Dat.owesAt Pipeline.owesWithin
  rw [show (dats m 0 c).owed t.castSucc = 0 from rfl, show (dats m 0 c).owed t.succ = 0 from rfl]
  unfold PhiR wringAt
  rw [Ring.AtBΦ_lt _ _ _ _ _ t.val hN, Ring.AtB22_one' _ _ _ _ t.val h (by decide), Ring.AtBΦ_lt _ _ _ _ _ (t.val + 1) (by omega), Ring.AtB22_next_one' _ _ _ _ t.val h]
  iintro ⟨⟨HS, Hg, ⟨⟨⟨Hpq, Hpk, Hpv⟩, HA⟩, ⟨⟨Hcq, Htq⟩, ⟨Hck, Htk⟩, ⟨Hcv, Htv⟩⟩, Hcar⟩, Hr⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run1 c t _ _ _ _ _ _ _ _ _ _ _ _ _ _ _ _ _ _ _ _ _ (fun e => by have := (hcd1 t).mp e; omega) (fun e => by have := (hcd2 t).mp e; omega) (fun e => by have := (hcd3 t).mp e; omega) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [Hpq]; · iexact Hpq
  isplitl [Hpk]; · iexact Hpk
  isplitl [Hpv]; · iexact Hpv
  isplitl [Hcq]; · iexact Hcq
  isplitl [Htq]; · iexact Htq
  isplitl [Hck]; · iexact Hck
  isplitl [Htk]; · iexact Htk
  isplitl [Hcv]; · iexact Hcv
  isplitl [Htv]; · iexact Htv
  isplitl [HW]; · iexact HW
  iintro ⟨H0, H1, H2, H3, H4, H5, H6, HS, HNq, HNk, HNv, ⟨%W', HW'⟩⟩
  isplitl [HS Hg HA Hcar HNq HNk HNv Hr]
  · isplitl [HS]; · iexact HS
    isplitl [Hg]; · iexact Hg
    isplitl [HA Hcar HNq HNk HNv]
    · isplitl [HA]; · iexact HA
      isplitl [Hcar]; · iexact Hcar
      isplitl [HNq]; · iexact HNq
      isplitl [HNk]; · iexact HNk
      iexact HNv
    iexact Hr
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 8000000 in
/-- At a later even point. -/
theorem sound2 (c : Dev nD) (t : Fin cfg0.N) (h2 : 2 ≤ t.val) (h : t.val + 1 < 8) (he : t.val % 2 = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [PhiR_castSucc m c t, PhiR_succ m c t]
  simp only [before_eq m c, after_eq m c]
  unfold Dat.owesAt Pipeline.owesWithin
  rw [show (dats m 0 c).owed t.castSucc = 0 from rfl, show (dats m 0 c).owed t.succ = 0 from rfl]
  unfold PhiR wringAt
  rw [Ring.AtBΦ_lt _ _ _ _ _ t.val hN, Ring.AtB22_here _ _ _ _ t.val h2 hN, Ring.AtBΦ_lt _ _ _ _ _ (t.val + 1) (by omega), Ring.AtB22_next _ _ _ _ t.val h2 hN]
  iintro ⟨⟨HS, Hg, ⟨⟨⟨Hpq, Hpk, Hpv⟩, HA⟩, HB, ⟨HFq, HFk, HFv⟩, Hcar⟩, Hr⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run2 c t _ _ _ _ _ _ _ _ _ _ _ _ _ _ _ _ _ _ _ _ _ ((hcd1 t).mpr (by omega)) ((hcd2 t).mpr (by omega)) (fun e => by have := (hcd3 t).mp e; omega) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [Hpq]; · iexact Hpq
  isplitl [Hpk]; · iexact Hpk
  isplitl [Hpv]; · iexact Hpv
  isplitl [HFq]; · iexact HFq
  isplitl [HFk]; · iexact HFk
  isplitl [HFv]; · iexact HFv
  isplitl [HW]; · iexact HW
  iintro ⟨H0, H1, H2, H3, H4, H5, H6, HS, HOq, HOk, HOv, HNq, HNk, HNv, ⟨%W', HW'⟩⟩
  isplitl [HS Hg HA HB Hcar HOq HOk HOv HNq HNk HNv Hr]
  · isplitl [HS]; · iexact HS
    isplitl [Hg]; · iexact Hg
    isplitl [HA HB Hcar HOq HOk HOv HNq HNk HNv]
    · isplitl [HA]; · iexact HA
      isplitl [HB HOq HOk HOv]
      · isplitl [HOq HOk HOv]
        · isplitl [HOq]; · iexact HOq
          isplitl [HOk]; · iexact HOk
          iexact HOv
        iexact HB
      isplitl [Hcar]; · iexact Hcar
      isplitl [HNq]; · iexact HNq
      isplitl [HNk]; · iexact HNk
      iexact HNv
    iexact Hr
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 8000000 in
/-- At a later odd point but the last. -/
theorem sound3 (c : Dev nD) (t : Fin cfg0.N) (h2 : 2 ≤ t.val) (h : t.val + 1 < 8) (he : t.val % 2 = 1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [PhiR_castSucc m c t, PhiR_succ m c t]
  simp only [before_eq m c, after_eq m c]
  unfold Dat.owesAt Pipeline.owesWithin
  rw [show (dats m 0 c).owed t.castSucc = 0 from rfl, show (dats m 0 c).owed t.succ = 0 from rfl]
  unfold PhiR wringAt
  rw [Ring.AtBΦ_lt _ _ _ _ _ t.val hN, Ring.AtB22_here _ _ _ _ t.val h2 hN, Ring.AtBΦ_lt _ _ _ _ _ (t.val + 1) (by omega), Ring.AtB22_next _ _ _ _ t.val h2 hN]
  iintro ⟨⟨HS, Hg, ⟨⟨⟨Hpq, Hpk, Hpv⟩, HA⟩, HB, ⟨HFq, HFk, HFv⟩, Hcar⟩, Hr⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run3 c t _ _ _ _ _ _ _ _ _ _ _ _ _ _ _ _ _ _ _ _ _ ((hcd1 t).mpr (by omega)) (fun e => by have := (hcd2 t).mp e; omega) (fun e => by have := (hcd3 t).mp e; omega) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [Hpq]; · iexact Hpq
  isplitl [Hpk]; · iexact Hpk
  isplitl [Hpv]; · iexact Hpv
  isplitl [HFq]; · iexact HFq
  isplitl [HFk]; · iexact HFk
  isplitl [HFv]; · iexact HFv
  isplitl [HW]; · iexact HW
  iintro ⟨H0, H1, H2, H3, H4, H5, H6, HS, HOq, HOk, HOv, HNq, HNk, HNv, ⟨%W', HW'⟩⟩
  isplitl [HS Hg HA HB Hcar HOq HOk HOv HNq HNk HNv Hr]
  · isplitl [HS]; · iexact HS
    isplitl [Hg]; · iexact Hg
    isplitl [HA HB Hcar HOq HOk HOv HNq HNk HNv]
    · isplitl [HA]; · iexact HA
      isplitl [HB HOq HOk HOv]
      · isplitl [HOq HOk HOv]
        · isplitl [HOq]; · iexact HOq
          isplitl [HOk]; · iexact HOk
          iexact HOv
        iexact HB
      isplitl [Hcar]; · iexact Hcar
      isplitl [HNq]; · iexact HNq
      isplitl [HNk]; · iexact HNk
      iexact HNv
    iexact Hr
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 8000000 in
/-- At the last point. -/
theorem sound4 (c : Dev nD) (t : Fin cfg0.N) (h : t.val + 1 = 8) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [PhiR_castSucc m c t, PhiR_succ m c t]
  simp only [before_eq m c, after_eq m c]
  unfold Dat.owesAt Pipeline.owesWithin
  rw [show (dats m 0 c).owed t.castSucc = 0 from rfl, show (dats m 0 c).owed t.succ = 0 from rfl]
  unfold PhiR wringAt
  rw [Ring.AtBΦ_lt _ _ _ _ _ t.val hN, Ring.AtB22_here_last _ _ _ _ t.val (by omega) h, Ring.AtBΦ_end _ _ _ _ _ (t.val + 1) h, Ring.AtB22_drained _ _ t.val (by omega) h]
  iintro ⟨⟨HS, Hg, ⟨⟨Hpq, Hpk, Hpv⟩, HB, ⟨HFq, HFk, HFv⟩, ⟨HIq, HIk, HIv⟩⟩, Hr⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run4 c t _ _ _ _ _ _ _ _ _ _ _ _ _ _ _ _ _ _ _ _ _ ((hcd1 t).mpr (by omega)) (fun e => by have := (hcd2 t).mp e; omega) ((hcd3 t).mpr (by omega)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [Hpq]; · iexact Hpq
  isplitl [Hpk]; · iexact Hpk
  isplitl [Hpv]; · iexact Hpv
  isplitl [HFq]; · iexact HFq
  isplitl [HFk]; · iexact HFk
  isplitl [HFv]; · iexact HFv
  isplitl [HIq]; · iexact HIq
  isplitl [HIk]; · iexact HIk
  isplitl [HIv]; · iexact HIv
  isplitl [HW]; · iexact HW
  iintro ⟨H0, H1, H2, H3, H4, H5, H6, HS, HOq, HOk, HOv, HQq, HQk, HQv, HNq, HNk, HNv, Haq, Hbq, Hak, Hbk, Hav, Hbv, Hcq, Hdq, Hck, Hdk, Hcv, Hdv, ⟨%W', HW'⟩⟩
  isplitl [HS Hg HB HOq HOk HOv HQq HQk HQv HNq HNk HNv Haq Hbq Hak Hbk Hav Hbv Hcq Hdq Hck Hdk Hcv Hdv Hr]
  · isplitl [HS]; · iexact HS
    isplitl [Hg]; · iexact Hg
    isplitl [HB HOq HOk HOv HQq HQk HQv HNq HNk HNv Haq Hbq Hak Hbk Hav Hbv Hcq Hdq Hck Hdk Hcv Hdv]
    · isplitl [HB HNq HNk HNv HOq HOk HOv HQq HQk HQv]
      · isplitl [HNq HNk HNv]
        · isplitl [HNq]; · iexact HNq
          isplitl [HNk]; · iexact HNk
          iexact HNv
        isplitl [HOq HOk HOv]
        · isplitl [HOq]; · iexact HOq
          isplitl [HOk]; · iexact HOk
          iexact HOv
        isplitl [HQq HQk HQv]
        · isplitl [HQq]; · iexact HQq
          isplitl [HQk]; · iexact HQk
          iexact HQv
        iexact HB
      isplitl [Haq Hbq Hak Hbk Hav Hbv]
      · isplitl [Haq Hbq]
        · isplitl [Haq]; · iexact Haq
          iexact Hbq
        isplitl [Hak Hbk]
        · isplitl [Hak]; · iexact Hak
          iexact Hbk
        isplitl [Hav]; · iexact Hav
        iexact Hbv
      isplitl [Hcq Hdq]
      · isplitl [Hcq]; · iexact Hcq
        iexact Hdq
      isplitl [Hck Hdk]
      · isplitl [Hck]; · iexact Hck
        iexact Hdk
      isplitl [Hcv]; · iexact Hcv
      iexact Hdv
    iexact Hr
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0
  · exact sound0 m c t h0
  by_cases h1 : t.val = 1
  · exact sound1 m c t h1
  by_cases h2 : t.val + 1 < 8
  · by_cases he : t.val % 2 = 0
    · exact sound2 m c t (by omega) h2 he
    exact sound3 m c t (by omega) h2 (by omega)
  exact sound4 m c t (by omega)
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the state before the first point and takes back the state after the last. -/
theorem hin (c : Dev nD) : Pipeline.ΦDR osem0 spec0 H0 R0 (V m) c ⊢ (dats m 0 c).Φ 0 := by
  rw [PhiDR0_eq, show (dats m 0 c).Φ 0 = PhiR c 0 from rfl]
  unfold PhiR
  iintro ⟨⟨HS0, HS1, HS2, HS3⟩, Hg, HQ, -, Ho⟩
  isplitl [HS3]; · iexact HS3
  isplitl [Hg]; · iexact Hg
  iapply (wring_in c)
  isplitl [HS0]; · iexact HS0
  isplitl [HS1]; · iexact HS1
  isplitl [HS2]; · iexact HS2
  isplitl [HQ]; · iexact HQ
  iexact Ho
theorem hout (c : Dev nD) : (dats m 0 c).Φ (Fin.last cfg0.N) ⊢ Pipeline.ΦDR osem0 spec0 H0 R0 (V m) c := by
  rw [PhiDR0_eq, show (dats m 0 c).Φ (Fin.last cfg0.N) = PhiR c grid0.N from rfl]
  unfold PhiR
  rw [show grid0.N = 8 by rw [N_0]]
  iintro ⟨HS3, Hg, HR⟩
  ihave HX := (wring_out c) $$ HR
  icases HX with ⟨HS0, HS1, HS2, HQ, Ho⟩
  isplitl [HS0 HS1 HS2 HS3]
  · isplitl [HS0]; · iexact HS0
    isplitl [HS1]; · iexact HS1
    isplitl [HS2]; · iexact HS2
    iexact HS3
  isplitl [Hg]; · iexact Hg
  isplitl [HQ]; · iexact HQ
  isplitr; · iempintro
  iexact Ho

set_option backward.isDefEq.respectTransparency.types false in
/-- The run: every array read ends as the launch found it, every semaphore at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m)
    (hin := hin m) (hout := hout m)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).1 5).trans (((dats m 0 c).arrAt_in 5 rfl _).trans ((A_eq m c 5).trans (V_main_arg1 m c))),
      ((h.1 c).1 6).trans (((dats m 0 c).arrAt_in 6 rfl _).trans ((A_eq m c 6).trans (V_main_arg2 m c))),
      ((h.1 c).2 main_arg3 (Finset.mem_sdiff.mpr ⟨Pipeline.mem_restRefs_of main_arg3 (by decide) (by decide), by decide⟩)).trans (V_main_arg3 m c)⟩, h.2⟩) (run_main m ρ)

end Cert.RetBIdeal.Hand

end
-- ==== Proof.lean ====
/- The claims about the calls of the training step, assembled from the modules under Proof/. -/
module

public import proofs.«01_k».proof.Defs
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.InpIdeal.Value
public import proofs.«01_k».proof.Proof.Gen.InpRefIdeal.Run
public import proofs.«01_k».proof.Proof.Gen.Mid.Skeleton
public import proofs.«01_k».proof.Proof.Gen.Mid.Launch
public import proofs.«01_k».proof.Proof.Gen.Mid.Points
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidRefIdeal.Run
public import proofs.«01_k».proof.Proof.Gen.Ret.Frame
public import proofs.«01_k».proof.Proof.Gen.RetIdeal.Frame
public import proofs.«01_k».proof.Proof.Gen.RetIdeal.Value
public import proofs.«01_k».proof.Proof.Gen.RetRefIdeal.Run
public import proofs.«01_k».proof.Proof.InpArray
public import proofs.«01_k».proof.Proof.MidFrame
public import proofs.«01_k».proof.Proof.InpRef
public import proofs.«01_k».proof.Proof.MidPair
public import proofs.«01_k».proof.Proof.Gen.HgIdeal.Value
public import proofs.«01_k».proof.Proof.Gen.Hg.Frame
public import proofs.«01_k».proof.Proof.Gen.HgRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.RetPair
public import proofs.«01_k».proof.Proof.HgPair
public import proofs.«01_k».proof.Proof.AdaPair
public import proofs.«01_k».proof.Proof.Gen.Wad.Frame
public import proofs.«01_k».proof.Proof.Gen.WadIdeal.Frame
public import proofs.«01_k».proof.Proof.Gen.WadRefIdeal.Run
public import proofs.«01_k».proof.Proof.Gen.Shd.Frame
public import proofs.«01_k».proof.Proof.Gen.ShdIdeal.Frame
public import proofs.«01_k».proof.Proof.Gen.ShdRefIdeal.Run
public import proofs.«01_k».proof.Proof.Gen.Wgt.Frame
public import proofs.«01_k».proof.Proof.Gen.WgtIdeal.Value
public import proofs.«01_k».proof.Proof.Gen.WgtRefIdeal.Run
public import proofs.«01_k».proof.Proof.WgtPair
public import proofs.«01_k».proof.Proof.WadPair
public import proofs.«01_k».proof.Proof.ShdPair
public import proofs.«01_k».proof.Proof.Gen.RetB
public import proofs.«01_k».proof.Proof.Gen.RetBIdeal.Skeleton
public import proofs.«01_k».proof.Proof.Gen.RetBIdeal.Points
public import proofs.«01_k».proof.Proof.Gen.RetBIdeal.Frame
public import proofs.«01_k».proof.Proof.RetBFrame
public import Idealize.ShloMosaic.Adequacy
public import Idealize.ShloMosaic.Init

@[expose] public section

noncomputable section

namespace Cert.Proof

open Idealize.ShloMosaic Idealize.SL.Sem

/-- The gradient of the layer's input and of the norm's three parameters, against the reference. -/
theorem inp : Cert.algebraic_InpIdeal_InpRefIdeal := by
  pair_intro
  · run_from Cert.InpIdeal.Value.run_blocks m g
  · refine (θ_run _ _ _).mono (fun r h c => ?_) (Cert.InpRefIdeal.Value.run_entries m' g')
    obtain ⟨e0, e1, e2, -, e4, e5, e6⟩ := hagree c
    refine ⟨(h c).1.trans ?_, (h c).2.1.trans ?_, (h c).2.2⟩
    · refine Eq.trans ?_ (Cert.InpIdeal.Value.gx_array m c).symm
      unfold Cert.InpRefIdeal.Value.ax Cert.InpRefIdeal.Value.ag Cert.InpRefIdeal.Value.asc Cert.InpRefIdeal.Value.aw Cert.InpRefIdeal.Value.ady Cert.InpRefIdeal.Value.adp
      rw [e0, e1, e2, e4, e5, e6]
      rfl
    · refine Eq.trans ?_ (Cert.InpIdeal.Value.vec_array m c).symm
      unfold Cert.InpRefIdeal.Value.ax Cert.InpRefIdeal.Value.ag Cert.InpRefIdeal.Value.asc Cert.InpRefIdeal.Value.aw Cert.InpRefIdeal.Value.adp
      rw [e0, e1, e2, e4, e6]
      rfl

/-- The reference's frame: no operation writes an argument, and the program declares no semaphore. -/
theorem frame_inp_ref : Cert.quiescent_InpRefIdeal := by
  intro m ρ _
  exact (θ_run Cert.InpRefIdeal.defs _ _).mono
    (fun r h => ⟨fun c => (h c).2.2, sem_eq_zero_of_no_sems (by decide) r.2⟩) (Cert.InpRefIdeal.Value.run m ρ)

/-- The middle call's frame: the arguments end unchanged and every semaphore counter at zero. -/
theorem frame_mid_ideal : Cert.quiescent_MidIdeal := fun m ρ _ => Cert.MidIdeal.Hand.frame m ρ

/-- The same run at the words: the two programs have the same text. -/
theorem frame_mid : Cert.quiescent_Mid := fun m ρ _ => by
  have h := Cert.MidIdeal.Hand.frame (F := Bits) m ρ
  refine Eq.mp ?_ h
  sl_kernel_rfl

theorem frame_mid_ref : Cert.quiescent_MidRefIdeal := by
  intro m ρ _
  exact (θ_run Cert.MidRefIdeal.defs _ _).mono
    (fun r h => ⟨fun c => (h c).2.2.2.2.2.2, sem_eq_zero_of_no_sems (by decide) r.2⟩) (Cert.MidRefIdeal.Value.run m ρ)

/-- The same frames of the states the middle call's value is claimed from. -/
theorem frame_mid_ideal_pre [Cert.Pre_finite.Facts] : Cert.quiescent_MidIdeal_pre_finite := fun m ρ _ => Cert.MidIdeal.Hand.frame m ρ
theorem frame_mid_ref_pre [Cert.Pre_finite.Facts] : Cert.quiescent_MidRefIdeal_pre_finite := by
  intro m ρ _
  exact (θ_run Cert.MidRefIdeal.defs _ _).mono
    (fun r h => ⟨fun c => (h c).2.2.2.2.2.2, sem_eq_zero_of_no_sems (by decide) r.2⟩) (Cert.MidRefIdeal.Value.run m ρ)

/-- The retention's backward call's frame, at the extended reals and, by the same run, at the words. -/
theorem frame_retb_ideal : Cert.quiescent_RetBIdeal := fun m ρ _ => Cert.RetBIdeal.Hand.frame m ρ
theorem frame_retb : Cert.quiescent_RetB := fun m ρ _ => by
  have h := Cert.RetBIdeal.Hand.frame (F := Bits) m ρ
  refine Eq.mp ?_ h
  sl_kernel_rfl

theorem claim : Cert.Claim := ⟨Cert.Inp.Gen.facts, Cert.InpIdeal.Gen.facts, Cert.InpRefIdeal.Gen.facts,
  Cert.Mid.Gen.facts, Cert.MidIdeal.Gen.facts, Cert.MidRefIdeal.Gen.facts,
  Cert.Ret.Gen.facts, Cert.RetIdeal.Gen.facts, Cert.RetRefIdeal.Gen.facts,
  Cert.Hg.Gen.facts, Cert.HgIdeal.Gen.facts, Cert.HgRefIdeal.Gen.facts,
  Cert.Ada.Gen.facts, Cert.AdaIdeal.Gen.facts, Cert.AdaRefIdeal.Gen.facts,
  Cert.Wgt.Gen.facts, Cert.WgtIdeal.Gen.facts, Cert.WgtRefIdeal.Gen.facts,
  Cert.Wad.Gen.facts, Cert.WadIdeal.Gen.facts, Cert.WadRefIdeal.Gen.facts,
  Cert.Shd.Gen.facts, Cert.ShdIdeal.Gen.facts, Cert.ShdRefIdeal.Gen.facts,
  Cert.RetB.Gen.facts, Cert.RetBIdeal.Gen.facts,
  Cert.MidPair.preFacts, Cert.HgPair.preFacts, Cert.WadPair.preFacts, Cert.MidPair.onFacts,
  fun m ρ _ => Cert.Inp.Gen.frame m ρ, fun m ρ _ => Cert.InpIdeal.Gen.frame m ρ,
  frame_inp_ref, frame_mid, frame_mid_ideal, letI := Cert.MidPair.preFacts; frame_mid_ideal_pre, frame_mid_ref,
  letI := Cert.MidPair.preFacts; frame_mid_ref_pre,
  fun m ρ _ => Cert.Ret.Gen.frame m ρ, fun m ρ _ => Cert.RetIdeal.Gen.frame m ρ, Cert.RetPair.frame_ref,
  fun m ρ _ => Cert.Hg.Gen.frame m ρ, fun m ρ _ => Cert.HgIdeal.Gen.frame m ρ, fun m ρ _ => Cert.HgIdeal.Gen.frame m ρ,
  Cert.HgPair.frame_ref, fun m ρ _ => Cert.HgPair.frame_ref m ρ trivial,
  fun m ρ _ => Cert.Ada.Gen.frame m ρ, fun m ρ _ => Cert.AdaIdeal.Gen.frame m ρ, Cert.AdaPair.frame_ref,
  fun m ρ _ => Cert.Wgt.Gen.frame m ρ, fun m ρ _ => Cert.WgtIdeal.Gen.frame m ρ, Cert.WgtPair.frame_ref,
  fun m ρ _ => Cert.Wad.Gen.frame m ρ (Cert.Wad.Value.ok m), fun m ρ _ => Cert.WadIdeal.Gen.frame m ρ (Cert.WadIdeal.Value.ok m),
  fun m ρ _ => Cert.WadIdeal.Gen.frame m ρ (Cert.WadIdeal.Value.ok m), Cert.WadPair.frame_ref, fun m ρ _ => Cert.WadPair.frame_ref m ρ trivial,
  fun m ρ _ => Cert.Shd.Gen.frame m ρ (Cert.Shd.Value.ok m), fun m ρ _ => Cert.ShdIdeal.Gen.frame m ρ (Cert.ShdIdeal.Value.ok m), Cert.ShdPair.frame_ref,
  frame_retb, frame_retb_ideal,
  trivial, inp, trivial, Cert.MidPair.middle, trivial, Cert.RetPair.retention,
  IdealRules.named_const.statement Cert.HgIdeal.κ "log2_e" .f32 0x3FB8AA3B#32 (((Real.log 2)⁻¹ : ℝ) : EReal) rfl, Cert.HgPair.hgrn,
  trivial, Cert.AdaPair.adaln, trivial, Cert.WgtPair.weight,
  trivial, Cert.WadPair.update, trivial, Cert.ShdPair.update, trivial⟩

end Cert.Proof

end
